-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_on_attention_columns_pre_finite [hKernelIdeal : Cert.KernelIdeal.Facts] [hReferenceIdeal : Cert.ReferenceIdeal.Facts] [hPre_finite : Cert.Pre_finite.Facts] [hOn_attention_columns : Cert.On_attention_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 5632]⟩ : Shape).Idx, (Cert.On_attention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 i = 1#1 → r.2.mem ((c.tc : Thread Cert.KernelIdeal.nD Cert.KernelIdeal.τ).loc Cert.KernelIdeal.main_v0_0) i = v0 c i)
          ∧ (∀ i : (⟨2, ![1, 128]⟩ : Shape).Idx, (Cert.On_attention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2 i = 1#1 → r.2.mem ((c.tc : Thread Cert.KernelIdeal.nD Cert.KernelIdeal.τ).loc Cert.KernelIdeal.main_v0_8) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 5632]⟩ : Shape).Idx, (Cert.On_attention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 i = 1#1 → r.2.mem ((c.tc : Thread Cert.ReferenceIdeal.nD Cert.ReferenceIdeal.τ).loc Cert.ReferenceIdeal.main_v170) i = v0 c i)
          ∧ (∀ i : (⟨2, ![1, 128]⟩ : Shape).Idx, (Cert.On_attention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2 i = 1#1 → r.2.mem ((c.tc : Thread Cert.ReferenceIdeal.nD Cert.ReferenceIdeal.τ).loc Cert.ReferenceIdeal.main_v165) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)) (v1 : (c : Dev Cert.Kernel6Ideal.nD) → Buf (Elt Ideal) ((c.tc : Thread Cert.Kernel6Ideal.nD Cert.Kernel6Ideal.τ).loc Cert.Kernel6Ideal.main_v5)) (v2 : (c : Dev Cert.Kernel6Ideal.nD) → Buf (Elt Ideal) ((c.tc : Thread Cert.Kernel6Ideal.nD Cert.Kernel6Ideal.τ).loc Cert.Kernel6Ideal.main_v6)) (v3 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_v5) = v1 c
          ∧ r.2.mem ((c.tc : Thread Cert.Kernel6Ideal.nD Cert.Kernel6Ideal.τ).loc Cert.Kernel6Ideal.main_v6) = v2 c
          ∧ r.2.mem ((c.tc : Thread Cert.Kernel6Ideal.nD Cert.Kernel6Ideal.τ).loc Cert.Kernel6Ideal.main_v7) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_v17) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v17) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hOn_attention_columns : Cert.On_attention_columns.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_on_attention_columns_pre_finite (hKernelIdeal := hKernelIdeal) (hReferenceIdeal := hReferenceIdeal) (hPre_finite := hPre_finite) (hOn_attention_columns := hOn_attention_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_attention_columns.lean ====
abbrev S4096x1024 : Shape := ⟨2, ![4096, 1024]⟩
abbrev S4096x5632 : Shape := ⟨2, ![4096, 5632]⟩
abbrev S32x1024x128 : Shape := ⟨3, ![32, 1024, 128]⟩
abbrev S4096x512 : Shape := ⟨2, ![4096, 512]⟩
abbrev S2048x1024 : Shape := ⟨2, ![2048, 1024]⟩
abbrev S4x1536 : Shape := ⟨2, ![4, 1536]⟩
abbrev S1x1536 : Shape := ⟨2, ![1, 1536]⟩
abbrev S1x128 : Shape := ⟨2, ![1, 128]⟩
abbrev S1x1024 : Shape := ⟨2, ![1, 1024]⟩
abbrev S31x512 : Shape := ⟨2, ![31, 512]⟩
abbrev S1x512 : Shape := ⟨2, ![1, 512]⟩
abbrev S_ : Shape := ⟨0, ![]⟩

class Facts : Prop where
  bcast_S_S4096x5632 : S_.BroadcastsInDim S4096x5632 (![] : Fin 0 → Fin S4096x5632.rank)
  bcast_S_S1x128 : S_.BroadcastsInDim S1x128 (![] : Fin 0 → Fin S1x128.rank)

variable [Facts]

def fn {F : FTy → Type} [FloatOps F] (main_arg0 : FVec F S4096x1024 .f32) (main_arg1 : FVec F S4096x5632 .f32) (main_arg2 : FVec F S32x1024x128 .f32) (main_arg3 : FVec F S4096x512 .f32) (main_arg4 : FVec F S2048x1024 .bf16) (main_arg5 : FVec F S4x1536 .f32) (main_arg6 : FVec F S1x1536 .f32) (main_arg7 : FVec F S1x128 .f32) (main_arg8 : FVec F S1x128 .f32) (main_arg9 : FVec F S1x128 .f32) (main_arg10 : FVec F S1x1024 .f32) (main_arg11 : FVec F S1x128 .f32) (main_arg12 : FVec F S31x512 .f32) (main_arg13 : FVec F S1x512 .f32) (main_arg14 : FVec F S1x512 .f32) (main_arg15 : FVec F S1x512 .f32) : IVec S4096x5632 1 × IVec S1x128 1 :=
  let main_v0 : IVec S4096x5632 32 := iotaInDim S4096x5632 32 1
  let main_c : IVec S_ 32 := constantI S_ 32 1024#32
  let main_v1 : IVec S4096x5632 32 := broadcastInDim S4096x5632 ![] bcast_S_S4096x5632 main_c
  let main_v2 : IVec S4096x5632 1 := cmpi .sge main_v0 main_v1
  let main_c_0 : IVec S_ 32 := constantI S_ 32 1536#32
  let main_v3 : IVec S4096x5632 32 := broadcastInDim S4096x5632 ![] bcast_S_S4096x5632 main_c_0
  let main_v4 : IVec S4096x5632 1 := cmpi .slt main_v0 main_v3
  let main_v5 : IVec S4096x5632 1 := andi main_v2 main_v4
  let main_c_1 : IVec S_ 32 := constantI S_ 32 4608#32
  let main_v6 : IVec S4096x5632 32 := broadcastInDim S4096x5632 ![] bcast_S_S4096x5632 main_c_1
  let main_v7 : IVec S4096x5632 1 := cmpi .sge main_v0 main_v6
  let main_c_2 : IVec S_ 32 := constantI S_ 32 5376#32
  let main_v8 : IVec S4096x5632 32 := broadcastInDim S4096x5632 ![] bcast_S_S4096x5632 main_c_2
  let main_v9 : IVec S4096x5632 1 := cmpi .slt main_v0 main_v8
  let main_v10 : IVec S4096x5632 1 := andi main_v7 main_v9
  let main_v11 : IVec S4096x5632 1 := ori main_v5 main_v10
  let main_c_3 : IVec S_ 1 := constantI S_ 1 1#1
  let main_v12 : IVec S1x128 1 := broadcastInDim S1x128 ![] bcast_S_S1x128 main_c_3
  (main_v11, main_v12)
-- ==== Pre_finite.lean ====
abbrev S4096x1024 : Shape := ⟨2, ![4096, 1024]⟩
abbrev S4096x5632 : Shape := ⟨2, ![4096, 5632]⟩
abbrev S32x1024x128 : Shape := ⟨3, ![32, 1024, 128]⟩
abbrev S4096x512 : Shape := ⟨2, ![4096, 512]⟩
abbrev S2048x1024 : Shape := ⟨2, ![2048, 1024]⟩
abbrev S4x1536 : Shape := ⟨2, ![4, 1536]⟩
abbrev S1x1536 : Shape := ⟨2, ![1, 1536]⟩
abbrev S1x128 : Shape := ⟨2, ![1, 128]⟩
abbrev S1x1024 : Shape := ⟨2, ![1, 1024]⟩
abbrev S31x512 : Shape := ⟨2, ![31, 512]⟩
abbrev S1x512 : Shape := ⟨2, ![1, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x5632 : S_.BroadcastsInDim S4096x5632 (![] : Fin 0 → Fin S4096x5632.rank)
  reducesTo_S4096x5632_S_d0_1 : S4096x5632.ReducesTo [0, 1] S_
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v14 : IVec S_ 1) (main_v15 : FVec F S1x128 .f32) (main_v16 : FVec F S1x128 .f32) : IVec S_ 1 :=
  let main_v17 : IVec S1x128 1 := cmpf .olt main_v15 main_v16
  let main_c_5 : IVec S_ 1 := constantI S_ 1 1#1
  let main_v18 : IVec S_ 1 := (fun x v => Host.reduce IntOp.andi x v reducesTo_S1x128_S_d0_1 h_S_) main_v17 main_c_5
  let main_v19 : IVec S_ 1 := andi main_v14 main_v18
  main_v19

def fn {F : FTy → Type} [FloatOps F] (main_arg0 : FVec F S4096x1024 .f32) (main_arg1 : FVec F S4096x5632 .f32) (main_arg2 : FVec F S32x1024x128 .f32) (main_arg3 : FVec F S4096x512 .f32) (main_arg4 : FVec F S2048x1024 .bf16) (main_arg5 : FVec F S4x1536 .f32) (main_arg6 : FVec F S1x1536 .f32) (main_arg7 : FVec F S1x128 .f32) (main_arg8 : FVec F S1x128 .f32) (main_arg9 : FVec F S1x128 .f32) (main_arg10 : FVec F S1x1024 .f32) (main_arg11 : FVec F S1x128 .f32) (main_arg12 : FVec F S31x512 .f32) (main_arg13 : FVec F S1x512 .f32) (main_arg14 : FVec F S1x512 .f32) (main_arg15 : FVec F S1x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x5632 .f32 := Host.absf main_arg1
  let main_cst_0 : FVec F S_ .f32 := constant S_ .f32 0x7F800000#32
  let main_v5 : FVec F S4096x5632 .f32 := broadcastInDim S4096x5632 ![] bcast_S_S4096x5632 main_cst_0
  let main_v6 : IVec S4096x5632 1 := cmpf .olt main_v4 main_v5
  let main_c_1 : IVec S_ 1 := constantI S_ 1 1#1
  let main_v7 : IVec S_ 1 := (fun x v => Host.reduce IntOp.andi x v reducesTo_S4096x5632_S_d0_1 h_S_) main_v6 main_c_1
  let main_v8 : IVec S_ 1 := andi main_v3 main_v7
  let main_v9 : FVec F S2048x1024 .f32 := (extf .f32 · bitsLt_bf16_f32) main_arg4
  let main_v10 : FVec F S2048x1024 .f32 := Host.absf main_v9
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : IVec S_ 1 := andi main_v8 main_v13
  let main_v15 : FVec F S1x128 .f32 := Host.absf main_arg11
  let main_cst_4 : FVec F S_ .f32 := constant S_ .f32 0x7F800000#32
  let main_v16 : FVec F S1x128 .f32 := broadcastInDim S1x128 ![] bcast_S_S1x128 main_cst_4
  fn_part1 (F := F) main_v14 main_v15 main_v16
-- ==== Kernel.lean ====
abbrev S4096x1024 : Shape := ⟨2, ![4096, 1024]⟩
abbrev S4096x5632 : Shape := ⟨2, ![4096, 5632]⟩
abbrev S32x1024x128 : Shape := ⟨3, ![32, 1024, 128]⟩
abbrev S4096x512 : Shape := ⟨2, ![4096, 512]⟩
abbrev S2048x1024 : Shape := ⟨2, ![2048, 1024]⟩
abbrev S4x1536 : Shape := ⟨2, ![4, 1536]⟩
abbrev S1x1536 : Shape := ⟨2, ![1, 1536]⟩
abbrev S1x128 : Shape := ⟨2, ![1, 128]⟩
abbrev S1x1024 : Shape := ⟨2, ![1, 1024]⟩
abbrev S31x512 : Shape := ⟨2, ![31, 512]⟩
abbrev S1x512 : Shape := ⟨2, ![1, 512]⟩
abbrev S4096x2048 : Shape := ⟨2, ![4096, 2048]⟩
abbrev S128x1024 : Shape := ⟨2, ![128, 1024]⟩
abbrev S128x5632 : Shape := ⟨2, ![128, 5632]⟩
abbrev S8x1536 : Shape := ⟨2, ![8, 1536]⟩
abbrev S128x256 : Shape := ⟨2, ![128, 256]⟩
abbrev S32x1024 : Shape := ⟨2, ![32, 1024]⟩
abbrev S1x1024x128 : Shape := ⟨3, ![1, 1024, 128]⟩
abbrev S128x512 : Shape := ⟨2, ![128, 512]⟩
abbrev S128x2048 : Shape := ⟨2, ![128, 2048]⟩
abbrev S1024x128 : Shape := ⟨2, ![1024, 128]⟩
abbrev S2x512x256 : Shape := ⟨3, ![2, 512, 256]⟩
abbrev S512x256 : Shape := ⟨2, ![512, 256]⟩
abbrev S1x512x256 : Shape := ⟨3, ![1, 512, 256]⟩
abbrev S128 : Shape := ⟨1, ![128]⟩
abbrev S128x1 : Shape := ⟨2, ![128, 1]⟩
abbrev S512x1024 : Shape := ⟨2, ![512, 1024]⟩
abbrev S512 : Shape := ⟨1, ![512]⟩
abbrev S32x512 : Shape := ⟨2, ![32, 512]⟩
abbrev S160x512 : Shape := ⟨2, ![160, 512]⟩
abbrev S160x128 : Shape := ⟨2, ![160, 128]⟩
abbrev S128x128 : Shape := ⟨2, ![128, 128]⟩
abbrev S192x512 : Shape := ⟨2, ![192, 512]⟩
abbrev S192x128 : Shape := ⟨2, ![192, 128]⟩
abbrev S96x1024 : Shape := ⟨2, ![96, 1024]⟩
abbrev S256x128 : Shape := ⟨2, ![256, 128]⟩
abbrev S256x64 : Shape := ⟨2, ![256, 64]⟩
abbrev S128x64 : Shape := ⟨2, ![128, 64]⟩
abbrev S512x64 : Shape := ⟨2, ![512, 64]⟩
abbrev S1x1 : Shape := ⟨2, ![1, 1]⟩
abbrev S512x1 : Shape := ⟨2, ![512, 1]⟩
abbrev S384x64 : Shape := ⟨2, ![384, 64]⟩
abbrev S64x256 : Shape := ⟨2, ![64, 256]⟩
abbrev S1x128x1 : Shape := ⟨3, ![1, 128, 1]⟩
abbrev S1 : Shape := ⟨1, ![1]⟩
abbrev S1x1x1 : Shape := ⟨3, ![1, 1, 1]⟩
abbrev S1x7 : Shape := ⟨2, ![1, 7]⟩
abbrev S1x8 : Shape := ⟨2, ![1, 8]⟩
abbrev S1x120 : Shape := ⟨2, ![1, 120]⟩
abbrev S1x6 : Shape := ⟨2, ![1, 6]⟩
abbrev S1x121 : Shape := ⟨2, ![1, 121]⟩
abbrev S1x5 : Shape := ⟨2, ![1, 5]⟩
abbrev S1x122 : Shape := ⟨2, ![1, 122]⟩
abbrev S1x4 : Shape := ⟨2, ![1, 4]⟩
abbrev S1x123 : Shape := ⟨2, ![1, 123]⟩
abbrev S1x3 : Shape := ⟨2, ![1, 3]⟩
abbrev S1x124 : Shape := ⟨2, ![1, 124]⟩
abbrev S1x2 : Shape := ⟨2, ![1, 2]⟩
abbrev S1x125 : Shape := ⟨2, ![1, 125]⟩
abbrev S1x126 : Shape := ⟨2, ![1, 126]⟩
abbrev S1x127 : Shape := ⟨2, ![1, 127]⟩
abbrev S128x448 : Shape := ⟨2, ![128, 448]⟩
abbrev S128x384 : Shape := ⟨2, ![128, 384]⟩
abbrev S128x320 : Shape := ⟨2, ![128, 320]⟩
abbrev S128x192 : Shape := ⟨2, ![128, 192]⟩
abbrev S128x1536 : Shape := ⟨2, ![128, 1536]⟩
abbrev S136x1536 : Shape := ⟨2, ![136, 1536]⟩
abbrev S136x128 : Shape := ⟨2, ![136, 128]⟩
abbrev S512x128 : Shape := ⟨2, ![512, 128]⟩
abbrev S64x128 : Shape := ⟨2, ![64, 128]⟩
abbrev S1x64 : Shape := ⟨2, ![1, 64]⟩
abbrev S1024x1024 : Shape := ⟨2, ![1024, 1024]⟩
abbrev S1024 : Shape := ⟨1, ![1024]⟩
abbrev S1x1x64 : Shape := ⟨3, ![1, 1, 64]⟩
abbrev S1x15 : Shape := ⟨2, ![1, 15]⟩
abbrev S1x16 : Shape := ⟨2, ![1, 16]⟩
abbrev S1x112 : Shape := ⟨2, ![1, 112]⟩
abbrev S1x14 : Shape := ⟨2, ![1, 14]⟩
abbrev S1x113 : Shape := ⟨2, ![1, 113]⟩
abbrev S1x13 : Shape := ⟨2, ![1, 13]⟩
abbrev S1x114 : Shape := ⟨2, ![1, 114]⟩
abbrev S1x12 : Shape := ⟨2, ![1, 12]⟩
abbrev S1x115 : Shape := ⟨2, ![1, 115]⟩
abbrev S1x11 : Shape := ⟨2, ![1, 11]⟩
abbrev S1x116 : Shape := ⟨2, ![1, 116]⟩
abbrev S1x10 : Shape := ⟨2, ![1, 10]⟩
abbrev S1x117 : Shape := ⟨2, ![1, 117]⟩
abbrev S1x9 : Shape := ⟨2, ![1, 9]⟩
abbrev S1x118 : Shape := ⟨2, ![1, 118]⟩
abbrev S1x119 : Shape := ⟨2, ![1, 119]⟩
abbrev S15x128 : Shape := ⟨2, ![15, 128]⟩
abbrev S16x128 : Shape := ⟨2, ![16, 128]⟩
abbrev S112x128 : Shape := ⟨2, ![112, 128]⟩
abbrev S14x128 : Shape := ⟨2, ![14, 128]⟩
abbrev S113x128 : Shape := ⟨2, ![113, 128]⟩
abbrev S13x128 : Shape := ⟨2, ![13, 128]⟩
abbrev S114x128 : Shape := ⟨2, ![114, 128]⟩
abbrev S12x128 : Shape := ⟨2, ![12, 128]⟩
abbrev S115x128 : Shape := ⟨2, ![115, 128]⟩
abbrev S11x128 : Shape := ⟨2, ![11, 128]⟩
abbrev S116x128 : Shape := ⟨2, ![116, 128]⟩
abbrev S10x128 : Shape := ⟨2, ![10, 128]⟩
abbrev S117x128 : Shape := ⟨2, ![117, 128]⟩
abbrev S9x128 : Shape := ⟨2, ![9, 128]⟩
abbrev S118x128 : Shape := ⟨2, ![118, 128]⟩
abbrev S8x128 : Shape := ⟨2, ![8, 128]⟩
abbrev S119x128 : Shape := ⟨2, ![119, 128]⟩
abbrev S7x128 : Shape := ⟨2, ![7, 128]⟩
abbrev S120x128 : Shape := ⟨2, ![120, 128]⟩
abbrev S6x128 : Shape := ⟨2, ![6, 128]⟩
abbrev S121x128 : Shape := ⟨2, ![121, 128]⟩
abbrev S5x128 : Shape := ⟨2, ![5, 128]⟩
abbrev S122x128 : Shape := ⟨2, ![122, 128]⟩
abbrev S4x128 : Shape := ⟨2, ![4, 128]⟩
abbrev S123x128 : Shape := ⟨2, ![123, 128]⟩
abbrev S3x128 : Shape := ⟨2, ![3, 128]⟩
abbrev S124x128 : Shape := ⟨2, ![124, 128]⟩
abbrev S2x128 : Shape := ⟨2, ![2, 128]⟩
abbrev S125x128 : Shape := ⟨2, ![125, 128]⟩
abbrev S126x128 : Shape := ⟨2, ![126, 128]⟩
abbrev S127x128 : Shape := ⟨2, ![127, 128]⟩
abbrev S128x127 : Shape := ⟨2, ![128, 127]⟩
abbrev S128x896 : Shape := ⟨2, ![128, 896]⟩
abbrev S128x15 : Shape := ⟨2, ![128, 15]⟩
abbrev S128x16 : Shape := ⟨2, ![128, 16]⟩
abbrev S128x112 : Shape := ⟨2, ![128, 112]⟩
abbrev S128x14 : Shape := ⟨2, ![128, 14]⟩
abbrev S128x113 : Shape := ⟨2, ![128, 113]⟩
abbrev S128x768 : Shape := ⟨2, ![128, 768]⟩
abbrev S128x13 : Shape := ⟨2, ![128, 13]⟩
abbrev S128x114 : Shape := ⟨2, ![128, 114]⟩
abbrev S128x12 : Shape := ⟨2, ![128, 12]⟩
abbrev S128x115 : Shape := ⟨2, ![128, 115]⟩
abbrev S128x640 : Shape := ⟨2, ![128, 640]⟩
abbrev S128x11 : Shape := ⟨2, ![128, 11]⟩
abbrev S128x116 : Shape := ⟨2, ![128, 116]⟩
abbrev S128x10 : Shape := ⟨2, ![128, 10]⟩
abbrev S128x117 : Shape := ⟨2, ![128, 117]⟩
abbrev S128x9 : Shape := ⟨2, ![128, 9]⟩
abbrev S128x118 : Shape := ⟨2, ![128, 118]⟩
abbrev S128x8 : Shape := ⟨2, ![128, 8]⟩
abbrev S128x119 : Shape := ⟨2, ![128, 119]⟩
abbrev S128x7 : Shape := ⟨2, ![128, 7]⟩
abbrev S128x120 : Shape := ⟨2, ![128, 120]⟩
abbrev S128x6 : Shape := ⟨2, ![128, 6]⟩
abbrev S128x121 : Shape := ⟨2, ![128, 121]⟩
abbrev S128x5 : Shape := ⟨2, ![128, 5]⟩
abbrev S128x122 : Shape := ⟨2, ![128, 122]⟩
abbrev S128x4 : Shape := ⟨2, ![128, 4]⟩
abbrev S128x123 : Shape := ⟨2, ![128, 123]⟩
abbrev S128x3 : Shape := ⟨2, ![128, 3]⟩
abbrev S128x124 : Shape := ⟨2, ![128, 124]⟩
abbrev S128x2 : Shape := ⟨2, ![128, 2]⟩
abbrev S128x125 : Shape := ⟨2, ![128, 125]⟩
abbrev S128x126 : Shape := ⟨2, ![128, 126]⟩
abbrev S128x1408 : Shape := ⟨2, ![128, 1408]⟩
abbrev S128x1280 : Shape := ⟨2, ![128, 1280]⟩
abbrev S128x1152 : Shape := ⟨2, ![128, 1152]⟩
abbrev S144x1536 : Shape := ⟨2, ![144, 1536]⟩
abbrev S144x128 : Shape := ⟨2, ![144, 128]⟩
abbrev S1536 : Shape := ⟨1, ![1536]⟩
abbrev S120x1536 : Shape := ⟨2, ![120, 1536]⟩

abbrev nBuf : Space → Nat
  | .hbm => 29
  | .vmem => 46
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S32x1024x128, .f32⟩
  | .hbm, ⟨3, _⟩ => ⟨S4096x512, .f32⟩
  | .hbm, ⟨4, _⟩ => ⟨S2048x1024, .bf16⟩
  | .hbm, ⟨5, _⟩ => ⟨S4x1536, .f32⟩
  | .hbm, ⟨6, _⟩ => ⟨S1x1536, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x1024, .f32⟩
  | .hbm, ⟨11, _⟩ => ⟨S1x128, .f32⟩
  | .hbm, ⟨12, _⟩ => ⟨S31x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S4096x5632, .bf16⟩
  | .hbm, ⟨17, _⟩ => ⟨S4096x2048, .bf16⟩
  | .hbm, ⟨18, _⟩ => ⟨S4x1536, .f32⟩
  | .hbm, ⟨19, _⟩ => ⟨S1x1536, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x1024, .f32⟩
  | .hbm, ⟨24, _⟩ => ⟨S1x128, .f32⟩
  | .hbm, ⟨25, _⟩ => ⟨S31x512, .f32⟩
  | .hbm, ⟨26, _⟩ => ⟨S1x512, .f32⟩
  | .hbm, ⟨27, _⟩ => ⟨S1x512, .f32⟩
  | .hbm, ⟨28, _⟩ => ⟨S1x512, .f32⟩
  | .local _ .vmem, ⟨0, _⟩ => ⟨S128x1024, .f32⟩
  | .local _ .vmem, ⟨1, _⟩ => ⟨S128x1024, .f32⟩
  | .local _ .vmem, ⟨2, _⟩ => ⟨S128x5632, .f32⟩
  | .local _ .vmem, ⟨3, _⟩ => ⟨S128x5632, .f32⟩
  | .local _ .vmem, ⟨4, _⟩ => ⟨S8x1536, .f32⟩
  | .local _ .vmem, ⟨5, _⟩ => ⟨S8x1536, .f32⟩
  | .local _ .vmem, ⟨6, _⟩ => ⟨S128x256, .f32⟩
  | .local _ .vmem, ⟨7, _⟩ => ⟨S128x256, .f32⟩
  | .local _ .vmem, ⟨8, _⟩ => ⟨S32x1024, .f32⟩
  | .local _ .vmem, ⟨9, _⟩ => ⟨S32x1024, .f32⟩
  | .local _ .vmem, ⟨10, _⟩ => ⟨S1x1024x128, .f32⟩
  | .local _ .vmem, ⟨11, _⟩ => ⟨S1x1024x128, .f32⟩
  | .local _ .vmem, ⟨12, _⟩ => ⟨S128x512, .f32⟩
  | .local _ .vmem, ⟨13, _⟩ => ⟨S128x512, .f32⟩
  | .local _ .vmem, ⟨14, _⟩ => ⟨S2048x1024, .bf16⟩
  | .local _ .vmem, ⟨15, _⟩ => ⟨S4x1536, .f32⟩
  | .local _ .vmem, ⟨16, _⟩ => ⟨S1x1536, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x1024, .f32⟩
  | .local _ .vmem, ⟨21, _⟩ => ⟨S1x128, .f32⟩
  | .local _ .vmem, ⟨22, _⟩ => ⟨S31x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S128x5632, .bf16⟩
  | .local _ .vmem, ⟨27, _⟩ => ⟨S128x5632, .bf16⟩
  | .local _ .vmem, ⟨28, _⟩ => ⟨S128x2048, .bf16⟩
  | .local _ .vmem, ⟨29, _⟩ => ⟨S128x2048, .bf16⟩
  | .local _ .vmem, ⟨30, _⟩ => ⟨S4x1536, .f32⟩
  | .local _ .vmem, ⟨31, _⟩ => ⟨S1x1536, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x1024, .f32⟩
  | .local _ .vmem, ⟨36, _⟩ => ⟨S1x128, .f32⟩
  | .local _ .vmem, ⟨37, _⟩ => ⟨S31x512, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1024x128, .f32⟩
  | .local _ .vmem, ⟨42, _⟩ => ⟨S8x1536, .f32⟩
  | .local _ .vmem, ⟨43, _⟩ => ⟨S128x256, .f32⟩
  | .local _ .vmem, ⟨44, _⟩ => ⟨S32x1024, .f32⟩
  | .local _ .vmem, ⟨45, _⟩ => ⟨S2x512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev main_v0_12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg26_0 : Ref sig .tc := ⟨.vmem, 35, rfl⟩
abbrev cc0_stg27_0 : Ref sig .tc := ⟨.vmem, 36, rfl⟩
abbrev cc0_stg28_0 : Ref sig .tc := ⟨.vmem, 37, rfl⟩
abbrev cc0_stg29_0 : Ref sig .tc := ⟨.vmem, 38, rfl⟩
abbrev cc0_stg30_0 : Ref sig .tc := ⟨.vmem, 39, rfl⟩
abbrev cc0_stg31_0 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem25_0 : DmaSem sig := 34
abbrev cc0_sem26_0 : DmaSem sig := 35
abbrev cc0_sem27_0 : DmaSem sig := 36
abbrev cc0_sem28_0 : DmaSem sig := 37
abbrev cc0_sem29_0 : DmaSem sig := 38
abbrev cc0_sem30_0 : DmaSem sig := 39
abbrev cc0_sem31_0 : DmaSem sig := 40

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c15_i32 : BitVec 32 := 15#32
  let arg1 : BitVec 32 := BitVec.ofNat 32 (i 1).val
  let v10 : BitVec 32 := Scalar.subi c15_i32 arg1
  let c0_i32 : BitVec 32 := 0#32
  let v11 : BitVec 1 := Scalar.cmpi .sgt v10 c0_i32
  let v19 : BitVec 32 := Scalar.extui v11
  let v20 : Index := Scalar.indexCast v19
  let c0_22 : Index := 0#32
  let c0_23 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c1_i32 : BitVec 32 := 1#32
  let v3 : BitVec 32 := Scalar.subi v2 c1_i32
  let c0_i32 : BitVec 32 := 0#32
  let v4 : BitVec 32 := Scalar.maxsi v3 c0_i32
  let c16_i32_0 : BitVec 32 := 16#32
  let v5 : BitVec 32 := Scalar.muli v4 c16_i32_0
  let c16_i32_1 : BitVec 32 := 16#32
  let v6 : BitVec 32 := Scalar.addi v5 c16_i32_1
  let c1_i32_2 : BitVec 32 := 1#32
  let v7 : BitVec 32 := Scalar.subi v6 c1_i32_2
  let c2_i32 : BitVec 32 := 2#32
  let c0_i32_3 : BitVec 32 := 0#32
  ![v7.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c1_i32 : BitVec 32 := 1#32
  let v3 : BitVec 32 := Scalar.subi v2 c1_i32
  let c0_i32 : BitVec 32 := 0#32
  let v4 : BitVec 32 := Scalar.maxsi v3 c0_i32
  let c20_i32 : BitVec 32 := 20#32
  let c0_i32_0 : BitVec 32 := 0#32
  ![v4.toNat, c20_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c1_i32 : BitVec 32 := 1#32
  let v3 : BitVec 32 := Scalar.subi v2 c1_i32
  let c0_i32 : BitVec 32 := 0#32
  let v4 : BitVec 32 := Scalar.maxsi v3 c0_i32
  let c4_i32 : BitVec 32 := 4#32
  let v5 : BitVec 32 := Scalar.muli v4 c4_i32
  let c4_i32_0 : BitVec 32 := 4#32
  let v6 : BitVec 32 := Scalar.addi v5 c4_i32_0
  let c1_i32_1 : BitVec 32 := 1#32
  let v7 : BitVec 32 := Scalar.subi v6 c1_i32_1
  let c2_i32 : BitVec 32 := 2#32
  let c0_i32_2 : BitVec 32 := 0#32
  ![v7.toNat, c2_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  ![v3.toNat, c0_i32.toNat, c0_i32_1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S31x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S128x5632 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S128x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 1 → Memref sig .tc .vmem S4x1536 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x1536 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S31x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S1x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 1 → Memref sig .tc .vmem S1x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false, false]
-- ==== ReferenceIdeal.lean ====
abbrev S4096x1024 : Shape := ⟨2, ![4096, 1024]⟩
abbrev S4096x5632 : Shape := ⟨2, ![4096, 5632]⟩
abbrev S32x1024x128 : Shape := ⟨3, ![32, 1024, 128]⟩
abbrev S4096x512 : Shape := ⟨2, ![4096, 512]⟩
abbrev S2048x1024 : Shape := ⟨2, ![2048, 1024]⟩
abbrev S4x1536 : Shape := ⟨2, ![4, 1536]⟩
abbrev S1x1536 : Shape := ⟨2, ![1, 1536]⟩
abbrev S1x128 : Shape := ⟨2, ![1, 128]⟩
abbrev S1x1024 : Shape := ⟨2, ![1, 1024]⟩
abbrev S31x512 : Shape := ⟨2, ![31, 512]⟩
abbrev S1x512 : Shape := ⟨2, ![1, 512]⟩
abbrev S512x1024 : Shape := ⟨2, ![512, 1024]⟩
abbrev S4096x128 : Shape := ⟨2, ![4096, 128]⟩
abbrev S1x8 : Shape := ⟨2, ![1, 8]⟩
abbrev S8 : Shape := ⟨1, ![8]⟩
abbrev S2x16x128x2x4x64 : Shape := ⟨6, ![2, 16, 128, 2, 4, 64]⟩
abbrev S2x16x128x2x64 : Shape := ⟨5, ![2, 16, 128, 2, 64]⟩
abbrev S_ : Shape := ⟨0, ![]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x2048x512 : Shape := ⟨3, ![2, 2048, 512]⟩
abbrev S2x16x2x64x256 : Shape := ⟨5, ![2, 16, 2, 64, 256]⟩
abbrev S2x4x1 : Shape := ⟨3, ![2, 4, 1]⟩
abbrev S2x16x2x128x4x64 : Shape := ⟨6, ![2, 16, 2, 128, 4, 64]⟩
abbrev S2x16x2x256x64 : Shape := ⟨5, ![2, 16, 2, 256, 64]⟩
abbrev S4096x3072 : Shape := ⟨2, ![4096, 3072]⟩
abbrev S4096x256 : Shape := ⟨2, ![4096, 256]⟩

abbrev nBuf : Space → Nat
  | .hbm => 241
  | .vmem => 0
  | .smem => 0
  | _ => 0

abbrev hbmTy0_0 (i : Nat) : BufTy := match i % 128 with
  | 0 => ⟨S4096x1024, .f32⟩
  | 1 => ⟨S4096x5632, .f32⟩
  | 2 => ⟨S32x1024x128, .f32⟩
  | 3 => ⟨S4096x512, .f32⟩
  | 4 => ⟨S2048x1024, .bf16⟩
  | 5 => ⟨S4x1536, .f32⟩
  | 6 => ⟨S1x1536, .f32⟩
  | 7 => ⟨S1x128, .f32⟩
  | 8 => ⟨S1x128, .f32⟩
  | 9 => ⟨S1x128, .f32⟩
  | 10 => ⟨S1x1024, .f32⟩
  | 11 => ⟨S1x128, .f32⟩
  | 12 => ⟨S31x512, .f32⟩
  | 13 => ⟨S1x512, .f32⟩
  | 14 => ⟨S1x512, .f32⟩
  | 15 => ⟨S1x512, .f32⟩
  | 16 => ⟨S512x1024, .bf16⟩
  | 17 => ⟨S512x1024, .f32⟩
  | 18 => ⟨S4096x512, .f32⟩
  | 19 => ⟨S4096x512, .f32⟩
  | 20 => ⟨S4096x128, .f32⟩
  | 21 => ⟨S4096x128, .f32⟩
  | 22 => ⟨S1x8, .f32⟩
  | 23 => ⟨S8, .f32⟩
  | 24 => ⟨S2x16x128x2x4x64, .f32⟩
  | 25 => ⟨S2x16x128x2x64, .f32⟩
  | 26 => ⟨S2x16x128x2x64, .f32⟩
  | 27 => ⟨S_, .f32⟩
  | 28 => ⟨S2x1x128x2x64, .f32⟩
  | 29 => ⟨S2x15x128x2x64, .f32⟩
  | 30 => ⟨S2x16x128x2x64, .f32⟩
  | 31 => ⟨S_, .f32⟩
  | 32 => ⟨S2x1x128x2x64, .f32⟩
  | 33 => ⟨S2x16x256x2x64, .f32⟩
  | 34 => ⟨S2x15x128x2x64, .f32⟩
  | 35 => ⟨S2x16x128x2x64, .f32⟩
  | 36 => ⟨S_, .f32⟩
  | 37 => ⟨S2x1x128x2x64, .f32⟩
  | 38 => ⟨S2x16x256x2x64, .f32⟩
  | 39 => ⟨S2x16x2x256x128x4, .f32⟩
  | 40 => ⟨S2x16x2x4x128x256, .f32⟩
  | 41 => ⟨S_, .f32⟩
  | 42 => ⟨S2x16x2x4x128x256, .f32⟩
  | 43 => ⟨S2x16x2x4x128x256, .f32⟩
  | 44 => ⟨S128, .i32⟩
  | 45 => ⟨S128x1, .i32⟩
  | 46 => ⟨S256, .i32⟩
  | 47 => ⟨S1x256, .i32⟩
  | 48 => ⟨S_, .i32⟩
  | 49 => ⟨S1x256, .i32⟩
  | 50 => ⟨S1x256, .i32⟩
  | 51 => ⟨S128x256, .i32⟩
  | 52 => ⟨S128x256, .i32⟩
  | 53 => ⟨S128x256, .i32⟩
  | 54 => ⟨S_, .i32⟩
  | 55 => ⟨S128x256, .i32⟩
  | 56 => ⟨S128x256, .i1⟩
  | 57 => ⟨S_, .i32⟩
  | 58 => ⟨S128x256, .i32⟩
  | 59 => ⟨S128x256, .i1⟩
  | 60 => ⟨S128x256, .i1⟩
  | 61 => ⟨S1x128x256, .i1⟩
  | 62 => ⟨S16, .i32⟩
  | 63 => ⟨S16x1x1, .i32⟩
  | 64 => ⟨S_, .i32⟩
  | 65 => ⟨S16x1x1, .i32⟩
  | 66 => ⟨S16x1x1, .i1⟩
  | 67 => ⟨S1x1x256, .i32⟩
  | 68 => ⟨S_, .i32⟩
  | 69 => ⟨S1x1x256, .i32⟩
  | 70 => ⟨S1x1x256, .i1⟩
  | 71 => ⟨S16x1x256, .i1⟩
  | 72 => ⟨S16x1x256, .i1⟩
  | 73 => ⟨S16x1x256, .i1⟩
  | 74 => ⟨S16x128x256, .i1⟩
  | 75 => ⟨S16x128x256, .i1⟩
  | 76 => ⟨S16x128x256, .i1⟩
  | 77 => ⟨S1x16x1x1x128x256, .i1⟩
  | 78 => ⟨S_, .f32⟩
  | 79 => ⟨S_, .f32⟩
  | 80 => ⟨S2x16x2x4x128x256, .i1⟩
  | 81 => ⟨S2x16x2x4x128x256, .f32⟩
  | 82 => ⟨S2x16x2x4x128x256, .f32⟩
  | 83 => ⟨S_, .f32⟩
  | 84 => ⟨S2x16x2x4x128x256, .f32⟩
  | 85 => ⟨S2x4, .f32⟩
  | 86 => ⟨S1x1x2x4x1x1, .f32⟩
  | 87 => ⟨S_, .f32⟩
  | 88 => ⟨S2x16x2x4x128, .f32⟩
  | 89 => ⟨S2x16x2x4x128x1, .f32⟩
  | 90 => ⟨S2x16x2x4x128x256, .f32⟩
  | 91 => ⟨S2x16x2x4x128x256, .i1⟩
  | 92 => ⟨S2x16x2x4x128x256, .f32⟩
  | 93 => ⟨S_, .f32⟩
  | 94 => ⟨S2x16x2x4x128, .f32⟩
  | 95 => ⟨S2x16x2x4x128x1, .f32⟩
  | 96 => ⟨S2x16x2x4x128x256, .f32⟩
  | 97 => ⟨S2x16x2x4x128x256, .f32⟩
  | 98 => ⟨S2x16x2x4x128x256, .f32⟩
  | 99 => ⟨S_, .f32⟩
  | 100 => ⟨S2x16x2x4x128, .f32⟩
  | 101 => ⟨S2x16x2x4x128x1, .f32⟩
  | 102 => ⟨S2x16x2x4x128x1, .f32⟩
  | 103 => ⟨S2x16x2x4x128x1, .f32⟩
  | 104 => ⟨S2x16x2x4x128x1, .f32⟩
  | 105 => ⟨S2x16x2x4x128x1, .f32⟩
  | 106 => ⟨S2x16x2x4x128x1, .f32⟩
  | 107 => ⟨S2x16x2x4x128x1, .f32⟩
  | 108 => ⟨S2x16x2x4x128x1, .i1⟩
  | 109 => ⟨S2x16x2x4x128x1, .f32⟩
  | 110 => ⟨S2x16x2x4x128x1, .f32⟩
  | 111 => ⟨S2x16x2x4x128x1, .f32⟩
  | 112 => ⟨S2x16x2x4x128x1, .f32⟩
  | 113 => ⟨S2x16x2x4x128x1, .f32⟩
  | 114 => ⟨S2x16x2x4x128x1, .f32⟩
  | 115 => ⟨S2x16x2x4x128x1, .f32⟩
  | 116 => ⟨S2x16x2x4x128x1, .f32⟩
  | 117 => ⟨S_, .f32⟩
  | 118 => ⟨S2x16x2x4x128x1, .f32⟩
  | 119 => ⟨S2x16x2x4x128x1, .i1⟩
  | 120 => ⟨S_, .f32⟩
  | 121 => ⟨S2x16x2x4x128x1, .f32⟩
  | 122 => ⟨S2x16x2x4x128x1, .f32⟩
  | 123 => ⟨S_, .f32⟩
  | 124 => ⟨S2x16x2x4x128x1, .f32⟩
  | 125 => ⟨S2x16x2x4x128x1, .i1⟩
  | 126 => ⟨S_, .f32⟩
  | 127 => ⟨S2x16x2x4x128x1, .f32⟩
  | _ => ⟨S4096x1024, .f32⟩

abbrev hbmTy0_1 (i : Nat) : BufTy := match i % 128 with
  | 0 => ⟨S2x16x2x4x128x1, .f32⟩
  | 1 => ⟨S2x16x2x4x128x1, .f32⟩
  | 2 => ⟨S2x16x2x4x128x1, .f32⟩
  | 3 => ⟨S_, .f32⟩
  | 4 => ⟨S1x1x2x4x1x1, .f32⟩
  | 5 => ⟨S1x1x2x4x1x1, .i1⟩
  | 6 => ⟨S_, .f32⟩
  | 7 => ⟨S1x1x2x4x1x1, .f32⟩
  | 8 => ⟨S1x1x2x4x1x1, .f32⟩
  | 9 => ⟨S_, .f32⟩
  | 10 => ⟨S2x16x2x4x128x1, .f32⟩
  | 11 => ⟨S2x16x2x4x128x1, .i1⟩
  | 12 => ⟨S_, .f32⟩
  | 13 => ⟨S2x16x2x4x128x1, .f32⟩
  | 14 => ⟨S2x16x2x4x128x1, .f32⟩
  | 15 => ⟨S2x16x2x4x128x1, .f32⟩
  | 16 => ⟨S2x16x2x4x128x1, .f32⟩
  | 17 => ⟨S2x16x2x4x128x1, .f32⟩
  | 18 => ⟨S2x16x2x4x128x256, .f32⟩
  | 19 => ⟨S2x16x2x4x128x256, .f32⟩
  | 20 => ⟨S2x16x2x4x128x256, .f32⟩
  | 21 => ⟨S2x16x2x64x4x128, .f32⟩
  | 22 => ⟨S2x16x128x2x4x64, .f32⟩
  | 23 => ⟨S2x2048x512, .f32⟩
  | 24 => ⟨S2x2048x512, .f32⟩
  | 25 => ⟨S2x2048x512, .f32⟩
  | 26 => ⟨S2x2048x512, .f32⟩
  | 27 => ⟨S_, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S_, .f32⟩
  | 34 => ⟨S2x2048x512, .f32⟩
  | 35 => ⟨S2x2048x512, .f32⟩
  | 36 => ⟨S2x2048x512, .f32⟩
  | 37 => ⟨S2x2048x512, .f32⟩
  | 38 => ⟨S2x2048x512, .f32⟩
  | 39 => ⟨S4096x512, .f32⟩
  | 40 => ⟨S4096x1024, .f32⟩
  | 41 => ⟨S4096x512, .f32⟩
  | 42 => ⟨S2x2048x512, .f32⟩
  | 43 => ⟨S2x2048x512, .f32⟩
  | 44 => ⟨S2x2048x512, .f32⟩
  | 45 => ⟨S2x2048x512, .f32⟩
  | 46 => ⟨S2x2048x512, .f32⟩
  | 47 => ⟨S2x2048x512, .f32⟩
  | 48 => ⟨S2x2048x512, .f32⟩
  | 49 => ⟨S4096x512, .f32⟩
  | 50 => ⟨S2x16x128x2x4x64, .f32⟩
  | 51 => ⟨S2x16x2x64x4x128, .f32⟩
  | 52 => ⟨S2x16x2x4x128x256, .f32⟩
  | 53 => ⟨S2x16x2x64x256, .f32⟩
  | 54 => ⟨S2x16x256x2x64, .f32⟩
  | 55 => ⟨S2x16x2x4x128x256, .f32⟩
  | 56 => ⟨S2x16x2x4x128x256, .f32⟩
  | 57 => ⟨S_, .f32⟩
  | 58 => ⟨S2x16x2x4x128, .f32⟩
  | 59 => ⟨S2x16x2x4x128x1, .f32⟩
  | 60 => ⟨S2x16x2x4x128x1, .f32⟩
  | 61 => ⟨S_, .f32⟩
  | 62 => ⟨S2x4x1, .f32⟩
  | 63 => ⟨S1x1x2x4x1x1, .f32⟩
  | 64 => ⟨S2x16x2x4x128x1, .f32⟩
  | 65 => ⟨S2x16x2x4x128x1, .f32⟩
  | 66 => ⟨S_, .f32⟩
  | 67 => ⟨S2x16x2x4x128, .f32⟩
  | 68 => ⟨S2x16x2x4x128x256, .f32⟩
  | 69 => ⟨S2x16x2x4x128x256, .f32⟩
  | 70 => ⟨S2x16x2x4x128x256, .f32⟩
  | 71 => ⟨S_, .f32⟩
  | 72 => ⟨S2x4, .f32⟩
  | 73 => ⟨S8, .f32⟩
  | 74 => ⟨S_, .f32⟩
  | 75 => ⟨S2x16x2x4x128x256, .f32⟩
  | 76 => ⟨S2x16x2x4x128x256, .f32⟩
  | 77 => ⟨S_, .f32⟩
  | 78 => ⟨S2x16x2x4x128x256, .f32⟩
  | 79 => ⟨S2x16x2x4x128x256, .f32⟩
  | 80 => ⟨S2x16x2x256x128x4, .f32⟩
  | 81 => ⟨S2x16x2x128x4x64, .f32⟩
  | 82 => ⟨S2x16x128x2x4x64, .f32⟩
  | 83 => ⟨S2x16x2x256x64, .f32⟩
  | 84 => ⟨S2x16x256x2x64, .f32⟩
  | 85 => ⟨S2x16x128x2x64, .f32⟩
  | 86 => ⟨S2x16x128x2x64, .f32⟩
  | 87 => ⟨S2x1x128x2x64, .f32⟩
  | 88 => ⟨S2x15x128x2x64, .f32⟩
  | 89 => ⟨S_, .f32⟩
  | 90 => ⟨S2x16x128x2x64, .f32⟩
  | 91 => ⟨S2x16x128x2x64, .f32⟩
  | 92 => ⟨S2x16x128x2x64, .f32⟩
  | 93 => ⟨S2x16x128x2x64, .f32⟩
  | 94 => ⟨S2x1x128x2x64, .f32⟩
  | 95 => ⟨S2x15x128x2x64, .f32⟩
  | 96 => ⟨S_, .f32⟩
  | 97 => ⟨S2x16x128x2x64, .f32⟩
  | 98 => ⟨S2x16x128x2x64, .f32⟩
  | 99 => ⟨S4096x128, .f32⟩
  | 100 => ⟨S4096x128, .f32⟩
  | 101 => ⟨S4096x512, .f32⟩
  | 102 => ⟨S1x8, .f32⟩
  | 103 => ⟨S_, .f32⟩
  | 104 => ⟨S1x128, .f32⟩
  | 105 => ⟨S_, .f32⟩
  | 106 => ⟨S4096x1024, .f32⟩
  | 107 => ⟨S_, .f32⟩
  | 108 => ⟨S4096x3072, .f32⟩
  | 109 => ⟨S_, .f32⟩
  | 110 => ⟨S4096x256, .f32⟩
  | 111 => ⟨S4096x5632, .f32⟩
  | 112 => ⟨S4096x5632, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_3 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_call0_v0 : Ref sig .tc := ⟨.hbm, 79, rfl⟩
abbrev main_v53_1 : Ref sig .tc := ⟨.hbm, 80, rfl⟩
abbrev main_call0_v2 : Ref sig .tc := ⟨.hbm, 81, rfl⟩
abbrev main_v53_0 : Ref sig .tc := ⟨.hbm, 82, rfl⟩
abbrev main_call0_cst : Ref sig .tc := ⟨.hbm, 83, rfl⟩
abbrev main_v53_2 : Ref sig .tc := ⟨.hbm, 84, rfl⟩
abbrev main_v54 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_9 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_10 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_11 : Ref sig .tc := ⟨.hbm, 117, rfl⟩
abbrev main_v83 : Ref sig .tc := ⟨.hbm, 118, rfl⟩
abbrev main_v84 : Ref sig .tc := ⟨.hbm, 119, rfl⟩
abbrev main_cst_12 : Ref sig .tc := ⟨.hbm, 120, rfl⟩
abbrev main_v85 : Ref sig .tc := ⟨.hbm, 121, rfl⟩
abbrev main_v86 : Ref sig .tc := ⟨.hbm, 122, rfl⟩
abbrev main_cst_13 : Ref sig .tc := ⟨.hbm, 123, rfl⟩
abbrev main_v87 : Ref sig .tc := ⟨.hbm, 124, rfl⟩
abbrev main_v88 : Ref sig .tc := ⟨.hbm, 125, rfl⟩
abbrev main_cst_14 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_15 : Ref sig .tc := ⟨.hbm, 131, rfl⟩
abbrev main_v93 : Ref sig .tc := ⟨.hbm, 132, rfl⟩
abbrev main_v94 : Ref sig .tc := ⟨.hbm, 133, rfl⟩
abbrev main_cst_16 : Ref sig .tc := ⟨.hbm, 134, rfl⟩
abbrev main_v95 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_cst_18 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_call1_v0 : Ref sig .tc := ⟨.hbm, 153, rfl⟩
abbrev main_call1_v1 : Ref sig .tc := ⟨.hbm, 154, rfl⟩
abbrev main_call1_cst : Ref sig .tc := ⟨.hbm, 155, rfl⟩
abbrev main_call1_v2 : Ref sig .tc := ⟨.hbm, 156, rfl⟩
abbrev main_call1_v3 : Ref sig .tc := ⟨.hbm, 157, rfl⟩
abbrev main_call1_cst_0 : Ref sig .tc := ⟨.hbm, 158, rfl⟩
abbrev main_call1_v4 : Ref sig .tc := ⟨.hbm, 159, rfl⟩
abbrev main_v111_2 : Ref sig .tc := ⟨.hbm, 160, rfl⟩
abbrev main_call1_cst_1 : Ref sig .tc := ⟨.hbm, 161, rfl⟩
abbrev main_call1_v6 : Ref sig .tc := ⟨.hbm, 162, rfl⟩
abbrev main_call1_v7 : Ref sig .tc := ⟨.hbm, 163, rfl⟩
abbrev main_v111_1 : Ref sig .tc := ⟨.hbm, 164, rfl⟩
abbrev main_v111_0 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_call2_v0 : Ref sig .tc := ⟨.hbm, 173, rfl⟩
abbrev main_call2_v1 : Ref sig .tc := ⟨.hbm, 174, rfl⟩
abbrev main_call2_v2 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_19 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_20 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_21 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_cst_22 : Ref sig .tc := ⟨.hbm, 199, rfl⟩
abbrev main_v139 : Ref sig .tc := ⟨.hbm, 200, rfl⟩
abbrev main_v140 : Ref sig .tc := ⟨.hbm, 201, rfl⟩
abbrev main_call3_cst : Ref sig .tc := ⟨.hbm, 202, rfl⟩
abbrev main_call3_v0 : Ref sig .tc := ⟨.hbm, 203, rfl⟩
abbrev main_v141 : Ref sig .tc := ⟨.hbm, 204, rfl⟩
abbrev main_cst_23 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_24 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_cst_25 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_cst_26 : Ref sig .tc := ⟨.hbm, 231, rfl⟩
abbrev main_v165 : Ref sig .tc := ⟨.hbm, 232, rfl⟩
abbrev main_cst_27 : Ref sig .tc := ⟨.hbm, 233, rfl⟩
abbrev main_v166 : Ref sig .tc := ⟨.hbm, 234, rfl⟩
abbrev main_cst_28 : Ref sig .tc := ⟨.hbm, 235, rfl⟩
abbrev main_v167 : Ref sig .tc := ⟨.hbm, 236, rfl⟩
abbrev main_cst_29 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩

abbrev nD : Nat := 1
abbrev τ : Topo := Topo.v7x

variable {F : FTy → Type} [FloatOps F]
-- ==== Kernel2.lean ====
abbrev S4096x2048 : Shape := ⟨2, ![4096, 2048]⟩
abbrev S4096x1024 : Shape := ⟨2, ![4096, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x5632, .f32⟩
  | .hbm, ⟨4, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S256x5632, .f32⟩
  | .local _ .vmem, ⟨5, _⟩ => ⟨S256x5632, .f32⟩
  | .local _ .vmem, ⟨6, _⟩ => ⟨S256x1024, .bf16⟩
  | .local _ .vmem, ⟨7, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4096x1024 : Shape := ⟨2, ![4096, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x5632, .f32⟩
  | .hbm, ⟨21, _⟩ => ⟨S4096x5632, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S256x5632 : Shape := ⟨2, ![256, 5632]⟩
abbrev S256x1024 : Shape := ⟨2, ![256, 1024]⟩
abbrev S256x1408 : Shape := ⟨2, ![256, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x5632, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel6.lean ====
abbrev S4x1024x674 : Shape := ⟨3, ![4, 1024, 674]⟩
abbrev S2x1024x674 : Shape := ⟨3, ![2, 1024, 674]⟩
abbrev S674x2x1024 : Shape := ⟨3, ![674, 2, 1024]⟩
abbrev S4x512x674 : Shape := ⟨3, ![4, 512, 674]⟩
abbrev S674x2x512 : Shape := ⟨3, ![674, 2, 512]⟩
abbrev S1x512x674 : Shape := ⟨3, ![1, 512, 674]⟩
abbrev S512x674 : Shape := ⟨2, ![512, 674]⟩
abbrev S674x512 : Shape := ⟨2, ![674, 512]⟩
abbrev S674x1x512 : Shape := ⟨3, ![674, 1, 512]⟩

abbrev nBuf : Space → Nat
  | .hbm => 16
  | .vmem => 18
  | .smem => 0
  | _ => 0

abbrev bufTy : (tb : Table) → Fin (tcTables nBuf tb) → BufTy
  | .hbm, ⟨0, _⟩ => ⟨S4x1024x674, .bf16⟩
  | .hbm, ⟨1, _⟩ => ⟨S4x1024x674, .bf16⟩
  | .hbm, ⟨2, _⟩ => ⟨S2x1024x674, .f32⟩
  | .hbm, ⟨3, _⟩ => ⟨S2x1024x674, .f32⟩
  | .hbm, ⟨4, _⟩ => ⟨S2x1024x674, .f32⟩
  | .hbm, ⟨5, _⟩ => ⟨S674x2x1024, .f32⟩
  | .hbm, ⟨6, _⟩ => ⟨S674x2x1024, .f32⟩
  | .hbm, ⟨7, _⟩ => ⟨S674x2x1024, .f32⟩
  | .hbm, ⟨8, _⟩ => ⟨S674x2x1024, .f32⟩
  | .hbm, ⟨9, _⟩ => ⟨S674x2x1024, .f32⟩
  | .hbm, ⟨10, _⟩ => ⟨S674x2x1024, .f32⟩
  | .hbm, ⟨11, _⟩ => ⟨S674x2x1024, .f32⟩
  | .hbm, ⟨12, _⟩ => ⟨S2x1024x674, .f32⟩
  | .hbm, ⟨13, _⟩ => ⟨S2x1024x674, .f32⟩
  | .hbm, ⟨14, _⟩ => ⟨S2x1024x674, .f32⟩
  | .hbm, ⟨15, _⟩ => ⟨S2x1024x674, .f32⟩
  | .local _ .vmem, ⟨0, _⟩ => ⟨S4x512x674, .bf16⟩
  | .local _ .vmem, ⟨1, _⟩ => ⟨S4x512x674, .bf16⟩
  | .local _ .vmem, ⟨2, _⟩ => ⟨S4x512x674, .bf16⟩
  | .local _ .vmem, ⟨3, _⟩ => ⟨S4x512x674, .bf16⟩
  | .local _ .vmem, ⟨4, _⟩ => ⟨S674x2x512, .f32⟩
  | .local _ .vmem, ⟨5, _⟩ => ⟨S674x2x512, .f32⟩
  | .local _ .vmem, ⟨6, _⟩ => ⟨S674x2x512, .f32⟩
  | .local _ .vmem, ⟨7, _⟩ => ⟨S674x2x512, .f32⟩
  | .local _ .vmem, ⟨8, _⟩ => ⟨S674x2x512, .f32⟩
  | .local _ .vmem, ⟨9, _⟩ => ⟨S674x2x512, .f32⟩
  | .local _ .vmem, ⟨10, _⟩ => ⟨S674x2x512, .f32⟩
  | .local _ .vmem, ⟨11, _⟩ => ⟨S674x2x512, .f32⟩
  | .local _ .vmem, ⟨12, _⟩ => ⟨S674x2x512, .f32⟩
  | .local _ .vmem, ⟨13, _⟩ => ⟨S674x2x512, .f32⟩
  | .local _ .vmem, ⟨14, _⟩ => ⟨S674x2x512, .f32⟩
  | .local _ .vmem, ⟨15, _⟩ => ⟨S674x2x512, .f32⟩
  | .local _ .vmem, ⟨16, _⟩ => ⟨S674x2x512, .f32⟩
  | .local _ .vmem, ⟨17, _⟩ => ⟨S674x2x512, .f32⟩
  | _, _ => ⟨S4x1024x674, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x512x674 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x674 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S674x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S674x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S674x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S674x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S674x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S674x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S674x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S4x1024x674 : Shape := ⟨3, ![4, 1024, 674]⟩
abbrev S2x1024x674 : Shape := ⟨3, ![2, 1024, 674]⟩
abbrev S_ : Shape := ⟨0, ![]⟩
abbrev S1024x674 : Shape := ⟨2, ![1024, 674]⟩
abbrev S1x1024x674 : Shape := ⟨3, ![1, 1024, 674]⟩

abbrev nBuf : Space → Nat
  | .hbm => 47
  | .vmem => 0
  | .smem => 0
  | _ => 0

abbrev bufTy : (tb : Table) → Fin (tcTables nBuf tb) → BufTy
  | .hbm, ⟨0, _⟩ => ⟨S4x1024x674, .bf16⟩
  | .hbm, ⟨1, _⟩ => ⟨S4x1024x674, .bf16⟩
  | .hbm, ⟨2, _⟩ => ⟨S2x1024x674, .f32⟩
  | .hbm, ⟨3, _⟩ => ⟨S2x1024x674, .f32⟩
  | .hbm, ⟨4, _⟩ => ⟨S2x1024x674, .f32⟩
  | .hbm, ⟨5, _⟩ => ⟨S4x1024x674, .f32⟩
  | .hbm, ⟨6, _⟩ => ⟨S_, .f32⟩
  | .hbm, ⟨7, _⟩ => ⟨S1024x674, .f32⟩
  | .hbm, ⟨8, _⟩ => ⟨S4x1024x674, .f32⟩
  | .hbm, ⟨9, _⟩ => ⟨S_, .f32⟩
  | .hbm, ⟨10, _⟩ => ⟨S1024x674, .f32⟩
  | .hbm, ⟨11, _⟩ => ⟨S1x1024x674, .f32⟩
  | .hbm, ⟨12, _⟩ => ⟨S1x1024x674, .f32⟩
  | .hbm, ⟨13, _⟩ => ⟨S2x1024x674, .f32⟩
  | .hbm, ⟨14, _⟩ => ⟨S_, .f32⟩
  | .hbm, ⟨15, _⟩ => ⟨S2x1024x674, .f32⟩
  | .hbm, ⟨16, _⟩ => ⟨S2x1024x674, .f32⟩
  | .hbm, ⟨17, _⟩ => ⟨S_, .f32⟩
  | .hbm, ⟨18, _⟩ => ⟨S2x1024x674, .f32⟩
  | .hbm, ⟨19, _⟩ => ⟨S2x1024x674, .f32⟩
  | .hbm, ⟨20, _⟩ => ⟨S2x1024x674, .f32⟩
  | .hbm, ⟨21, _⟩ => ⟨S_, .f32⟩
  | .hbm, ⟨22, _⟩ => ⟨S2x1024x674, .f32⟩
  | .hbm, ⟨23, _⟩ => ⟨S2x1024x674, .f32⟩
  | .hbm, ⟨24, _⟩ => ⟨S2x1024x674, .f32⟩
  | .hbm, ⟨25, _⟩ => ⟨S_, .f32⟩
  | .hbm, ⟨26, _⟩ => ⟨S2x1024x674, .f32⟩
  | .hbm, ⟨27, _⟩ => ⟨S2x1024x674, .f32⟩
  | .hbm, ⟨28, _⟩ => ⟨S2x1024x674, .f32⟩
  | .hbm, ⟨29, _⟩ => ⟨S_, .f32⟩
  | .hbm, ⟨30, _⟩ => ⟨S2x1024x674, .f32⟩
  | .hbm, ⟨31, _⟩ => ⟨S2x1024x674, .f32⟩
  | .hbm, ⟨32, _⟩ => ⟨S_, .f32⟩
  | .hbm, ⟨33, _⟩ => ⟨S2x1024x674, .f32⟩
  | .hbm, ⟨34, _⟩ => ⟨S2x1024x674, .f32⟩
  | .hbm, ⟨35, _⟩ => ⟨S2x1024x674, .f32⟩
  | .hbm, ⟨36, _⟩ => ⟨S_, .f32⟩
  | .hbm, ⟨37, _⟩ => ⟨S2x1024x674, .f32⟩
  | .hbm, ⟨38, _⟩ => ⟨S2x1024x674, .f32⟩
  | .hbm, ⟨39, _⟩ => ⟨S2x1024x674, .f32⟩
  | .hbm, ⟨40, _⟩ => ⟨S_, .f32⟩
  | .hbm, ⟨41, _⟩ => ⟨S2x1024x674, .f32⟩
  | .hbm, ⟨42, _⟩ => ⟨S2x1024x674, .f32⟩
  | .hbm, ⟨43, _⟩ => ⟨S2x1024x674, .f32⟩
  | .hbm, ⟨44, _⟩ => ⟨S_, .f32⟩
  | .hbm, ⟨45, _⟩ => ⟨S2x1024x674, .f32⟩
  | .hbm, ⟨46, _⟩ => ⟨S2x1024x674, .f32⟩
  | _, _ => ⟨S4x1024x674, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel7.lean ====
abbrev S8x256x1024 : Shape := ⟨3, ![8, 256, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c1_i32 : BitVec 32 := 1#32
  let v1 : BitVec 32 := Scalar.muli v0 c1_i32
  let v2 : BitVec 32 := Scalar.addi arg1 v1
  let c0_i32_0 : BitVec 32 := 0#32
  let c0_i32_1 : BitVec 32 := 0#32
  let v3 : BitVec 32 := Scalar.maxsi c0_i32_0 v2
  let v4 : BitVec 32 := Scalar.minsi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c1_i32_0 : BitVec 32 := 1#32
  let v1 : BitVec 32 := Scalar.muli v0 c1_i32_0
  let v2 : BitVec 32 := Scalar.addi arg1 v1
  let c0_i32 : BitVec 32 := 0#32
  let c0_i32_1 : BitVec 32 := 0#32
  let v3 : BitVec 32 := Scalar.maxsi c0_i32 v2
  let v4 : BitVec 32 := Scalar.minsi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S8x256x1024 : Shape := ⟨3, ![8, 256, 1024]⟩
abbrev S2x256x1024 : Shape := ⟨3, ![2, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Chain.lean ====
/-
  The attention part of the kernel's body as functions of what it loads.  Each function here is one of the body's own stretches applied to
  earlier ones, in the body's order; nothing is simplified.  The suffixes 0 and 1 are the two groups of four heads.
-/
module

public import proofs.«01_k».proof.Proof.Gen.KernelIdeal.Frame.Runs
public import Idealize.ShloMosaic.Lib.WritesUnit
public import Idealize.ShloMosaic.Lib.Pipeline.Value
public import Idealize.ShloMosaic.Lib.Pointwise

@[expose] public section

noncomputable section

open Idealize.ShloMosaic Idealize.ShloMosaic.TcCoe

namespace Cert.Attn

open Cert.KernelIdeal Cert.KernelIdeal.Gen

/-- What the attention part of the body loads at one grid point: the sinks, the factor of the chunk before (zero in the first chunk), the
    additive mask, the gradient at the block's output, the gate's input, the queries, the keys and values of this chunk and of the one before,
    and the rows of the output weight that belong to attention. -/
structure In (F : FTy → Type) [FloatOps F] where
  sk : Vec F S1x128 .f32
  nf : F .f32
  bias : FVec F S512x256 .f32
  ct : Vec F S128x1024 .f32
  z : Vec F S128x512 .f32
  q : Vec F S128x512 .f32
  cur : Vec F S128x256 .f32
  prev : Vec F S128x256 .f32
  w : Vec F S512x1024 .bf16

namespace In

variable {F : FTy → Type} [FloatOps F] (a : In F)

/-! The operands: keys, values, stacked queries, stacked sinks. -/
def k0 := k0_pay281 a.nf a.cur a.prev
def k1 := k0_pay282 a.nf a.cur a.prev
def v0 := k0_pay283 a.nf a.cur a.prev
def v1 := k0_pay284 a.nf a.cur a.prev
def q0 := k0_pay285 a.q
def q1 := k0_pay286 a.q
def s0 := k0_pay287 a.sk
def s1a := k0_pay288 a.sk
def s1b := k0_pay289 a.sk
def s1c := k0_pay290 a.sk

/-! The forward pass recomputed: exponentials, reciprocals, unnormalised outputs. -/
def e0 := k0_pay300 a.bias a.k0 a.q0 a.s0
def e1 := k0_pay301 a.sk a.bias a.k1 a.q1 a.s1a a.s1b a.s1c
def es0 := k0_pay302 a.bias a.k0 a.q0 a.s0
def r0 := k0_pay304 a.bias a.k0 a.q0 a.s0
def rr0 := k0_pay305 a.bias a.k0 a.q0 a.s0
def es1 := k0_pay306 a.sk a.bias a.k1 a.q1 a.s1a a.s1b a.s1c
def r1 := k0_pay308 a.sk a.bias a.k1 a.q1 a.s1a a.s1b a.s1c
def rr1 := k0_pay310 (k0_pay309 a.sk a.bias a.k1 a.q1 a.s1a a.s1b a.s1c) (Scalar.ofBits .f32 0x3F800000#32)
def o0 := k0_pay313 a.v0 a.e0
def o1 := k0_pay316 a.v1 a.e1

/-! The gradient behind the gate, cut into heads. -/
def f0 := k0_pay324 a.ct a.z a.w
def f1 := k0_pay325 a.ct a.z a.w
def f2 := k0_pay326 a.ct a.z a.w
def f3 := k0_pay327 a.ct a.z a.w
def f4 := k0_pay328 a.ct a.z a.w
def f5 := k0_pay329 a.ct a.z a.w
def f6 := k0_pay330 a.ct a.z a.w
def f7 := k0_pay331 a.ct a.z a.w

/-- A zero that the body names. -/
def zero : F .f32 := Scalar.ofBits .f32 0x00000000#32
/-- A block of zeros that the body names. -/
def zeros : FVec F S256x64 .f32 := k0_pay332

/-! The gradients of the probabilities, the scores and the operands. -/
def g1 := k0_pay335 a.o1 a.f4 a.f5 a.f6 a.f7 zero zeros
def dv1 := k0_pay337 a.r1 (k0_pay314 a.e1) a.f4 a.f5 a.f6 a.f7 zero zeros
def p1 := k0_pay338 a.r1 (k0_pay315 a.v1) a.f4 a.f5 a.f6 a.f7 zero zeros
def g0 := k0_pay339 a.o0 a.f0 a.f1 a.f2 a.f3
def p0 := k0_pay342 a.r0 (k0_pay312 a.v0) a.f0 a.f1 a.f2 a.f3
def dv0 := k0_pay343 (k0_pay341 a.r0 (k0_pay311 a.e0) a.f0 a.f1 a.f2 a.f3)
def sk0 := k0_pay347 a.es0 a.rr0 a.g0
def dk1 := k0_pay349 (k0_pay295 a.q1) a.e1 a.rr1 a.g1 a.p1
def dq1 := k0_pay350 (k0_pay296 a.k1) a.e1 a.rr1 a.g1 a.p1
def dk0 := k0_pay352 (k0_pay292 a.q0) a.e0 a.rr0 a.g0 a.p0
def dq0 := k0_pay353 (k0_pay293 a.k0) a.e0 a.rr0 a.g0 a.p0
def sk1a := k0_pay354 a.es1 a.rr1 a.g1
def sk1b := k0_pay355 a.es1 a.rr1 a.g1
def sk1c := k0_pay356 a.es1 a.rr1 a.g1
def sk1d := k0_pay357 a.es1 a.rr1 a.g1

/-! What the body stores. -/
/-- The gradient of the gate's input. -/
def dz : Vec F S128x512 .bf16 := k0_pay370 (k0_pay323 a.ct a.z a.v0 a.v1 a.e0 a.e1 a.r0 a.r1 a.w)
/-- The gradient of the queries. -/
def dq : Vec F S128x512 .bf16 := k0_pay371 (k0_pay365 a.dq0 (k0_pay363 a.dq1) (k0_pay364 a.dq0))
/-- The gradient of this chunk's keys and values from this chunk's queries. -/
def dcur : FVec F S128x256 .f32 := k0_pay368 a.dv1 a.dv0 a.dk1 a.dk0
/-- The gradient of this chunk's keys and values, `p` what the queries of the next chunk gave. -/
def dkv (p : Vec F S128x256 .f32) : Vec F S128x256 .bf16 := k0_pay372 a.dcur p
/-- What is kept for the chunk before. -/
def pend : Vec F S128x256 .f32 := k0_pay373 (k0_pay369 a.dv1 a.dv0 a.dk1 a.dk0)
/-- The tile's part of the gradient of the sinks. -/
def dsk : FVec F S1x128 .f32 :=
  k0_pay362 (k0_pay358 a.sk0) (k0_pay359 a.sk0) (k0_pay360 a.sk0) (k0_pay361 a.sk0 a.sk1a a.sk1b a.sk1c a.sk1d)
/-- The running sum with the tile's part added. -/
def acc (s : Vec F S1x128 .f32) : Vec F S1x128 .f32 := k0_pay374 a.dsk s

end In

/-- What the attention part loads at the grid point `i`, from the blocks of the gradient, the projected inputs, the chunk before's keys and
    values, the output weight and the sinks, and from the two masks. -/
def tileIn {F : FTy → Type} [FloatOps F] (i : grid0.Coords) (x0 : Vec F S128x1024 .f32) (x1 : Vec F S128x5632 .f32) (x3 : Vec F S128x256 .f32)
    (x7 : Vec F S2048x1024 .bf16) (x14 : Vec F S1x128 .f32) (bias : Vec F S2x512x256 .f32) : In F where
  sk := View.ld x14 (Rect.unit ![0, 0] S1x128.size inb_S1x128_S1x128_0_0)
  nf := k0_pay12 i
  bias := k0_pay16 (View.ld bias (Rect.unit (s := S2x512x256) (k0_off1 i) S1x512x256.size (k0_off1_inb i)))
  ct := View.ld x0 (Rect.unit ![0, 0] S128x1024.size inb_S128x1024_S128x1024_0_0)
  z := View.ld x1 (Rect.unit ![0, 1024] S128x512.size inb_S128x5632_S128x512_0_1024)
  q := View.ld x1 (Rect.unit ![0, 4608] S128x512.size inb_S128x5632_S128x512_0_4608)
  cur := View.ld x1 (Rect.unit ![0, 5120] S128x256.size inb_S128x5632_S128x256_0_5120)
  prev := View.ld x3 (Rect.unit ![0, 0] S128x256.size inb_S128x256_S128x256_0_0)
  w := View.ld x7 (Rect.unit ![1024, 0] S512x1024.size inb_S2048x1024_S512x1024_1024_0)

/-- The two masks, as the first grid point stores them. -/
def masks (F : FTy → Type) [FloatOps F] : Vec F S2x512x256 .f32 :=
  View.canon (Val := Elt F) [⟨Rect.unit ![1, 0, 0] S1x512x256.size inb_S2x512x256_S1x512x256_1_0_0, k0_pay15⟩,
    ⟨Rect.unit ![0, 0, 0] S1x512x256.size inb_S2x512x256_S1x512x256_0_0_0, k0_pay14⟩]

/-- What the attention part leaves of a block of the gradient of the projected inputs. -/
structure Cols {F : FTy → Type} [FloatOps F] (a : In F) (p : Vec F S128x256 .f32) (d : Vec F S128x5632 .bf16) : Prop where
  dz : ∀ (r : Fin 128) (c : Fin 512), d (ix2 r ⟨1024 + c.val, by omega⟩) = a.dz (ix2 r c)
  dq : ∀ (r : Fin 128) (c : Fin 512), d (ix2 r ⟨4608 + c.val, by omega⟩) = a.dq (ix2 r c)
  dkv : ∀ (r : Fin 128) (c : Fin 256), d (ix2 r ⟨5120 + c.val, by omega⟩) = a.dkv p (ix2 r c)

/-! ## Reading a block written piece by piece -/

section reads

variable {F : FTy → Type} [FloatOps F] {sp : Space} {s : Shape} {e : EltTy}

/-- A piece that covers the whole block decides what is read of it. -/
theorem read_full (v : View sig .tc sp s e) (f : v.ty.Contents (Elt F)) {off : Fin s.rank → ℕ} (h0 : ∀ a, off a = 0)
    (inb : ∀ a, off a + s.size a ≤ s.size a) (w : (Rect.unit off s.size inb).shape.Idx → Elt F e) (L : List (View.Piece (Elt F) s e)) :
    v.read (Elt F) (v.writes (Elt F) f (⟨Rect.unit off s.size inb, w⟩ :: L)) = w :=
  funext fun y => View.read_writes_cons_unit_of_mem v f inb w L y y rfl fun a => by rw [h0, Nat.zero_add]

/-- Off a piece's columns the earlier pieces decide. -/
theorem read_skip (v : View sig .tc sp S128x5632 e) (f : v.ty.Contents (Elt F)) {off size : Fin 2 → ℕ}
    (inb : ∀ a, off a + size a ≤ S128x5632.size a) (w : (Rect.unit (s := S128x5632) off size inb).shape.Idx → Elt F e)
    (L : List (View.Piece (Elt F) S128x5632 e)) (r : Fin 128) (k : Fin 5632) (h : k.val < off 1 ∨ off 1 + size 1 ≤ k.val) :
    v.read (Elt F) (v.writes (Elt F) f (⟨Rect.unit (s := S128x5632) off size inb, w⟩ :: L)) (ix2 r k)
      = v.read (Elt F) (v.writes (Elt F) f L) (ix2 r k) :=
  View.read_writes_cons_unit_of_not_mem v f inb w L _ rfl (1 : Fin 2) h

/-- The offsets of a whole block are zero. -/
theorem off_zero : ∀ a : Fin 2, (![0, 0] : Fin 2 → ℕ) a = 0 :=
  Fin.forall_fin_two.2 ⟨rfl, rfl⟩

/-- On a piece's columns the piece decides. -/
theorem read_hit (v : View sig .tc sp S128x5632 e) (f : v.ty.Contents (Elt F)) {o n : ℕ}
    (inb : ∀ a, (![0, o] : Fin 2 → ℕ) a + (⟨2, ![128, n]⟩ : Shape).size a ≤ S128x5632.size a)
    (w : (⟨2, ![128, n]⟩ : Shape).Idx → Elt F e)
    (L : List (View.Piece (Elt F) S128x5632 e)) (r : Fin 128) (k : Fin 5632) (c : Fin n) (h : k.val = o + c.val) :
    v.read (Elt F) (v.writes (Elt F) f (⟨Rect.unit (s := S128x5632) ![0, o] (⟨2, ![128, n]⟩ : Shape).size inb, w⟩ :: L)) (ix2 r k)
      = w (ix2 r c) :=
  View.read_writes_cons_unit_of_mem v f inb w L (ix2 r k) (ix2 r c) rfl
    (Fin.forall_fin_two.2 ⟨(Nat.zero_add _).symm, h⟩)

/-- The two masks fill their buffer. -/
theorem masks_cover (w1 w0 : Vec F S1x512x256 .f32) (y : S2x512x256.Idx) :
    ∃ p ∈ ([⟨Rect.unit ![1, 0, 0] S1x512x256.size inb_S2x512x256_S1x512x256_1_0_0, w1⟩,
      ⟨Rect.unit ![0, 0, 0] S1x512x256.size inb_S2x512x256_S1x512x256_0_0_0, w0⟩] : List (View.Piece (Elt F) S2x512x256 .f32)),
      y ∈ p.1.set := by
  have h0 : (y 0).val < 2 := (y 0).isLt
  have h1 : (y 1).val < 512 := (y 1).isLt
  have h2 : (y 2).val < 256 := (y 2).isLt
  by_cases h : (y 0).val = 1
  · refine ⟨_, List.mem_cons_self, (Rect.mem_set_unit (inb := inb_S2x512x256_S1x512x256_1_0_0)).2 fun a => ?_⟩
    match a with
    | ⟨0, _⟩ => exact ⟨h.ge, by show (y 0).val < 1 + 1; omega⟩
    | ⟨1, _⟩ => exact ⟨Nat.zero_le _, by show (y 1).val < 0 + 512; omega⟩
    | ⟨2, _⟩ => exact ⟨Nat.zero_le _, by show (y 2).val < 0 + 256; omega⟩
  · refine ⟨_, List.mem_cons_of_mem _ List.mem_cons_self,
      (Rect.mem_set_unit (inb := inb_S2x512x256_S1x512x256_0_0_0)).2 fun a => ?_⟩
    match a with
    | ⟨0, _⟩ => exact ⟨Nat.zero_le _, by show (y 0).val < 0 + 1; omega⟩
    | ⟨1, _⟩ => exact ⟨Nat.zero_le _, by show (y 1).val < 0 + 512; omega⟩
    | ⟨2, _⟩ => exact ⟨Nat.zero_le _, by show (y 2).val < 0 + 256; omega⟩

end reads

end Cert.Attn

end
-- ==== Proof.Data.lean ====
module

public import proofs.«01_k».proof.Proof.Chain

@[expose] public section

set_option maxRecDepth 16384

noncomputable section

/-! # What every point leaves behind

The grid walks each sequence from its last chunk to its first.  Here it is said what the attention part of a point reads, what it leaves for the point
after it, and what it leaves in the results; the launch is then an induction over the points. -/

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the attention part of point `t` reads. -/
def tileAt (c : Dev nD) (t : Fin cfg0.N) : In F :=
  tileIn (grid0.coords t) (iblk m c 0 t) (iblk m c 1 t) (iblk m c 3 t) (iblk m c 7 t) (iblk m c 14 t) (masks F)

/-- What point `t` finds of the key and value gradients of its chunk: nothing at the last chunk of a sequence, else what the point before left. -/
def pendAt (c : Dev nD) (t : Fin cfg0.N) : Vec F S128x256 .f32 :=
  if t.val % 16 = 0 then k0_pay20 else (tileAt m c ⟨t.val - 1, Nat.lt_of_le_of_lt (Nat.sub_le _ _) t.isLt⟩).pend

/-- The gradient of the sinks summed over the points up to `n`. -/
def accAt (c : Dev nD) : (n : ℕ) → n < cfg0.N → Vec F S1x128 .f32
  | 0, h => (tileAt m c ⟨0, h⟩).acc k0_pay8
  | n + 1, h => (tileAt m c ⟨n + 1, h⟩).acc (accAt c n (Nat.lt_of_succ_lt h))

/-- Away from the first point the sum goes on from the point before. -/
theorem accAt_pos (c : Dev nD) (t : Fin cfg0.N) (h : t.val ≠ 0) :
    accAt m c t.val t.isLt
      = (tileAt m c t).acc (accAt m c (t.val - 1) (Nat.lt_of_le_of_lt (Nat.sub_le _ _) t.isLt)) := by
  obtain ⟨n, hn⟩ := t
  cases n with
  | zero => exact absurd rfl h
  | succ n => rfl

/-- At the first point it starts from zero. -/
theorem accAt_zero (c : Dev nD) (t : Fin cfg0.N) (h : t.val = 0) : accAt m c t.val t.isLt = (tileAt m c t).acc k0_pay8 := by
  obtain ⟨n, hn⟩ := t
  cases n with
  | zero => rfl
  | succ n => exact absurd h (Nat.succ_ne_zero n)

/-- Away from the last chunk of a sequence the point before left the key and value gradients. -/
theorem pendAt_pos (c : Dev nD) (t : Fin cfg0.N) (h : t.val % 16 ≠ 0) :
    pendAt m c t = (tileAt m c ⟨t.val - 1, Nat.lt_of_le_of_lt (Nat.sub_le _ _) t.isLt⟩).pend := if_neg h

/-- At the last chunk nothing is left over. -/
theorem pendAt_zero (c : Dev nD) (t : Fin cfg0.N) (h : t.val % 16 = 0) : pendAt m c t = k0_pay20 := if_pos h

/-- What holds between the points: the key and value gradients that the last point left over, and the two masks. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d)
      ∗ owns (c : Thread nD τ) scM0_2 fullShare (tileAt m c ⟨n, hn⟩).pend ∗ (∃ d, owns (c : Thread nD τ) scM0_3 fullShare d)
      ∗ owns (c : Thread nD τ) scM0_4 fullShare (masks F)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d)
      ∗ owns (c : Thread nD τ) scM0_2 fullShare (tileAt m c ⟨n, hn⟩).pend ∗ (∃ d, owns (c : Thread nD τ) scM0_3 fullShare d)
      ∗ owns (c : Thread nD τ) scM0_4 fullShare (masks F)) ∗ (∃ r, prngReg c r)) := rfl

/-- Before a point that is not the first. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d)
      ∗ owns (c : Thread nD τ) scM0_2 fullShare (tileAt m c ⟨n - 1, by omega⟩).pend ∗ (∃ d, owns (c : Thread nD τ) scM0_3 fullShare d)
      ∗ owns (c : Thread nD τ) scM0_4 fullShare (masks F)) ∗ (∃ r, prngReg c r)) := by
  cases n with
  | zero => exact absurd rfl hz
  | succ n => rfl

/-- What the body may leave in each window's buffer: an input as it was; of the first result the attention columns, of the gradient of the sinks the
sum so far; of every other result nothing is said. -/
def leave (c : Dev nD) (w : Fin cfg0.W) : Fin cfg0.N → (Y X : (cfg0.win w).block.Idx → Elt F (cfg0.win w).elt) → Prop :=
  match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun _ Y X => X = Y
    | ⟨8, _⟩ => fun _ Y X => X = Y
    | ⟨9, _⟩ => fun _ Y X => X = Y
    | ⟨10, _⟩ => fun _ Y X => X = Y
    | ⟨11, _⟩ => fun _ Y X => X = Y
    | ⟨12, _⟩ => fun _ Y X => X = Y
    | ⟨13, _⟩ => fun _ Y X => X = Y
    | ⟨14, _⟩ => fun _ Y X => X = Y
    | ⟨15, _⟩ => fun _ Y X => X = Y
    | ⟨16, _⟩ => fun _ Y X => X = Y
    | ⟨17, _⟩ => fun _ Y X => X = Y
    | ⟨18, _⟩ => fun _ Y X => X = Y
    | ⟨19, _⟩ => fun t _ X => Cols (tileAt m c t) (pendAt m c t) X
    | ⟨20, _⟩ => fun _ _ _ => True
    | ⟨21, _⟩ => fun _ _ _ => True
    | ⟨22, _⟩ => fun _ _ _ => True
    | ⟨23, _⟩ => fun _ _ _ => True
    | ⟨24, _⟩ => fun _ _ _ => True
    | ⟨25, _⟩ => fun _ _ _ => True
    | ⟨26, _⟩ => fun _ _ _ => True
    | ⟨27, _⟩ => fun t _ X => X = accAt m c t.val t.isLt
    | ⟨28, _⟩ => fun _ _ _ => True
    | ⟨29, _⟩ => fun _ _ _ => True
    | ⟨30, _⟩ => fun _ _ _ => True
    | ⟨31, _⟩ => fun _ _ _ => True
    | ⟨_ + 32, h⟩ => absurd h (Nat.not_lt.2 (Nat.le_add_left _ _))

/-- The launch's data. -/
def rdat (c : Dev nD) : Pipeline.RDat τ (Elt F) Unit ℕ (UR sig nD τ) ℕ cfg0 c where
  A w := V m c (Pipeline.arrRef spec0 w)
  after w t Y X := leave m c w t Y X
  Φ t := PhiS m c t.val (Nat.le_of_lt_succ t.isLt)
  q w := Pipeline.shareOf spec0 w
  owed _ := 0

/-- The arrays the launch starts from. -/
theorem A_eq (c : Dev nD) (w : Fin cfg0.W) : (rdat m c).A w = V m c (Pipeline.arrRef spec0 w) := by
  dsimp only [rdat]

/-- The invariant before a point. -/
theorem Phi_at (c : Dev nD) (t : Fin cfg0.N) : (rdat m c).Φ t.castSucc = PhiS m c t.val (Nat.le_of_lt t.isLt) := by
  dsimp only [rdat]; rfl

/-- An input that is never cut holds its block at every point. -/
theorem found (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, leave m c w t Y X → X = Y) (t : Fin cfg0.N) (Y) (h : (rdat m c).Finds w t Y) :
    ∃ d, Y = (rdat m c).fetched w t d :=
  (rdat m c).finds_in_eq_fetched w hw hclip hkeep t Y h

/-- Input 0 holds its block at every point. -/
theorem found0 (c : Dev nD) (t : Fin cfg0.N) (Y) (h : (rdat m c).Finds 0 t Y) : Y = iblk m c 0 t := by
  obtain ⟨d, rfl⟩ := found m c 0 rfl (fun _ _ _ => rfl) (fun _ _ _ h => h) t Y h
  unfold Pipeline.RDat.fetched Pipeline.RDat.blockOf iblk
  rw [A_eq]; rfl

/-- Input 1 holds its block at every point. -/
theorem found1 (c : Dev nD) (t : Fin cfg0.N) (Y) (h : (rdat m c).Finds 1 t Y) : Y = iblk m c 1 t := by
  obtain ⟨d, rfl⟩ := found m c 1 rfl (fun _ _ _ => rfl) (fun _ _ _ h => h) t Y h
  unfold Pipeline.RDat.fetched Pipeline.RDat.blockOf iblk
  rw [A_eq]; rfl

/-- Input 3 holds its block at every point. -/
theorem found3 (c : Dev nD) (t : Fin cfg0.N) (Y) (h : (rdat m c).Finds 3 t Y) : Y = iblk m c 3 t := by
  obtain ⟨d, rfl⟩ := found m c 3 rfl (fun _ _ _ => rfl) (fun _ _ _ h => h) t Y h
  unfold Pipeline.RDat.fetched Pipeline.RDat.blockOf iblk
  rw [A_eq]; rfl

/-- Input 7 holds its block at every point. -/
theorem found7 (c : Dev nD) (t : Fin cfg0.N) (Y) (h : (rdat m c).Finds 7 t Y) : Y = iblk m c 7 t := by
  obtain ⟨d, rfl⟩ := found m c 7 rfl (fun _ _ _ => rfl) (fun _ _ _ h => h) t Y h
  unfold Pipeline.RDat.fetched Pipeline.RDat.blockOf iblk
  rw [A_eq]; rfl

/-- Input 14 holds its block at every point. -/
theorem found14 (c : Dev nD) (t : Fin cfg0.N) (Y) (h : (rdat m c).Finds 14 t Y) : Y = iblk m c 14 t := by
  obtain ⟨d, rfl⟩ := found m c 14 rfl (fun _ _ _ => rfl) (fun _ _ _ h => h) t Y h
  unfold Pipeline.RDat.fetched Pipeline.RDat.blockOf iblk
  rw [A_eq]; rfl

/-- Away from the first point the gradient of the sinks holds the sum so far. -/
theorem found27 (c : Dev nD) (t : Fin cfg0.N) (ht : t.val ≠ 0) (Y) (h : (rdat m c).Finds 27 t Y) :
    Y = accAt m c (t.val - 1) (Nat.lt_of_le_of_lt (Nat.sub_le _ _) t.isLt) := by
  have hN : t.val < 32 := lt_of_lt_of_eq t.isLt (show cfg0.N = 32 from N_0)
  rcases ((rdat m c).finds_of_pos (w := 27) rfl ht Y).1 h with hf | ⟨Y', -, hl⟩
  · have := (flush0_27 _).1 hf
    dsimp only at this
    omega
  · exact hl

end Cert.Attn

end
-- ==== Proof.RunA.lean ====
module

public import proofs.«01_k».proof.Proof.Chain

@[expose] public section

set_option maxRecDepth 16384

noncomputable section

/-! # The body at the first grid point

One run of the whole body, from the staging buffers at known contents, to what the attention part of the backward pass leaves: the columns of `dproj`
that belong to it, the running sum for the gradient of the sinks, and the two buffers that later points read.  Of everything else that the body
stores it is only said that it is stored. -/

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 8000000 in
/-- The body at the first grid point: the run. -/
theorem run_A (c : Dev nD) (i : grid0.Coords)
    (arg2 : Memref sig .tc .vmem S128x1024 .f32) (harg2 : arg2.IsWhole) (arg3 : Memref sig .tc .vmem S128x5632 .f32) (harg3 : arg3.IsWhole)
    (arg4 : Memref sig .tc .vmem S8x1536 .f32) (harg4 : arg4.IsWhole) (arg5 : Memref sig .tc .vmem S128x256 .f32) (harg5 : arg5.IsWhole)
    (arg6 : Memref sig .tc .vmem S32x1024 .f32) (harg6 : arg6.IsWhole) (arg7 : Memref sig .tc .vmem S1x1024x128 .f32) (harg7 : arg7.IsWhole)
    (arg8 : Memref sig .tc .vmem S128x512 .f32) (harg8 : arg8.IsWhole) (arg9 : Memref sig .tc .vmem S2048x1024 .bf16) (harg9 : arg9.IsWhole)
    (arg10 : Memref sig .tc .vmem S4x1536 .f32) (harg10 : arg10.IsWhole) (arg11 : Memref sig .tc .vmem S1x1536 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x128 .f32) (harg14 : arg14.IsWhole) (arg15 : Memref sig .tc .vmem S1x1024 .f32) (harg15 : arg15.IsWhole)
    (arg16 : Memref sig .tc .vmem S1x128 .f32) (harg16 : arg16.IsWhole) (arg17 : Memref sig .tc .vmem S31x512 .f32) (harg17 : arg17.IsWhole)
    (arg18 : Memref sig .tc .vmem S1x512 .f32) (harg18 : arg18.IsWhole) (arg19 : Memref sig .tc .vmem S1x512 .f32) (harg19 : arg19.IsWhole)
    (arg20 : Memref sig .tc .vmem S1x512 .f32) (harg20 : arg20.IsWhole) (arg21 : Memref sig .tc .vmem S128x5632 .bf16) (harg21 : arg21.IsWhole)
    (arg22 : Memref sig .tc .vmem S128x2048 .bf16) (harg22 : arg22.IsWhole) (arg23 : Memref sig .tc .vmem S4x1536 .f32) (harg23 : arg23.IsWhole)
    (arg24 : Memref sig .tc .vmem S1x1536 .f32) (harg24 : arg24.IsWhole) (arg25 : Memref sig .tc .vmem S1x128 .f32) (harg25 : arg25.IsWhole)
    (arg26 : Memref sig .tc .vmem S1x128 .f32) (harg26 : arg26.IsWhole) (arg27 : Memref sig .tc .vmem S1x128 .f32) (harg27 : arg27.IsWhole)
    (arg28 : Memref sig .tc .vmem S1x1024 .f32) (harg28 : arg28.IsWhole) (arg29 : Memref sig .tc .vmem S1x128 .f32) (harg29 : arg29.IsWhole)
    (arg30 : Memref sig .tc .vmem S31x512 .f32) (harg30 : arg30.IsWhole) (arg31 : Memref sig .tc .vmem S1x512 .f32) (harg31 : arg31.IsWhole)
    (arg32 : Memref sig .tc .vmem S1x512 .f32) (harg32 : arg32.IsWhole) (arg33 : Memref sig .tc .vmem S1x512 .f32) (harg33 : arg33.IsWhole)
    (arg34 : Memref sig .tc .vmem S1024x128 .f32) (harg34 : arg34.IsWhole) (arg35 : Memref sig .tc .vmem S8x1536 .f32) (harg35 : arg35.IsWhole)
    (arg36 : Memref sig .tc .vmem S128x256 .f32) (harg36 : arg36.IsWhole) (arg37 : Memref sig .tc .vmem S32x1024 .f32) (harg37 : arg37.IsWhole)
    (arg38 : Memref sig .tc .vmem S2x512x256 .f32) (harg38 : arg38.IsWhole)
    (hc0 : cond0_0 i) (hc1 : cond0_1 i) (hc2 : cond0_2 i)
    (x0 : Vec F S128x1024 .f32) (x1 : Vec F S128x5632 .f32) (x2 : Vec F S8x1536 .f32) (x3 : Vec F S128x256 .f32) (x4 : Vec F S32x1024 .f32)
    (x5 : Vec F S1x1024x128 .f32) (x6 : Vec F S128x512 .f32) (x7 : Vec F S2048x1024 .bf16) (x8 : Vec F S4x1536 .f32) (x9 : Vec F S1x1536 .f32)
    (x10 : Vec F S1x128 .f32) (x11 : Vec F S1x128 .f32) (x12 : Vec F S1x128 .f32) (x13 : Vec F S1x1024 .f32) (x14 : Vec F S1x128 .f32)
    (x15 : Vec F S31x512 .f32) (x16 : Vec F S1x512 .f32) (x17 : Vec F S1x512 .f32) (x18 : Vec F S1x512 .f32)

    (E : Set ℕ) (K : PUnit → sProp 𝕄) :
    iprop(
        owns (c : Thread nD τ) arg2 fullShare x0 ∗ owns (c : Thread nD τ) arg3 fullShare x1 ∗ owns (c : Thread nD τ) arg4 fullShare x2 ∗
        owns (c : Thread nD τ) arg5 fullShare x3 ∗ owns (c : Thread nD τ) arg6 fullShare x4 ∗ owns (c : Thread nD τ) arg7 fullShare x5 ∗
        owns (c : Thread nD τ) arg8 fullShare x6 ∗ owns (c : Thread nD τ) arg9 fullShare x7 ∗ owns (c : Thread nD τ) arg10 fullShare x8 ∗
        owns (c : Thread nD τ) arg11 fullShare x9 ∗ owns (c : Thread nD τ) arg12 fullShare x10 ∗ owns (c : Thread nD τ) arg13 fullShare x11 ∗
        owns (c : Thread nD τ) arg14 fullShare x12 ∗ owns (c : Thread nD τ) arg15 fullShare x13 ∗ owns (c : Thread nD τ) arg16 fullShare x14 ∗
        owns (c : Thread nD τ) arg17 fullShare x15 ∗ owns (c : Thread nD τ) arg18 fullShare x16 ∗ owns (c : Thread nD τ) arg19 fullShare x17 ∗
        owns (c : Thread nD τ) arg20 fullShare x18 ∗ (∃ d, owns (c : Thread nD τ) arg21 fullShare d) ∗
        (∃ d, owns (c : Thread nD τ) arg22 fullShare d) ∗ (∃ d, owns (c : Thread nD τ) arg23 fullShare d) ∗
        (∃ d, owns (c : Thread nD τ) arg24 fullShare d) ∗ (∃ d, owns (c : Thread nD τ) arg25 fullShare d) ∗
        (∃ d, owns (c : Thread nD τ) arg26 fullShare d) ∗ (∃ d, owns (c : Thread nD τ) arg27 fullShare d) ∗
        (∃ d, owns (c : Thread nD τ) arg28 fullShare d) ∗ (∃ d, owns (c : Thread nD τ) arg29 fullShare d) ∗
        (∃ d, owns (c : Thread nD τ) arg30 fullShare d) ∗ (∃ d, owns (c : Thread nD τ) arg31 fullShare d) ∗
        (∃ d, owns (c : Thread nD τ) arg32 fullShare d) ∗ (∃ d, owns (c : Thread nD τ) arg33 fullShare d) ∗
        (∃ d, owns (c : Thread nD τ) arg34 fullShare d) ∗ (∃ d, owns (c : Thread nD τ) arg35 fullShare d) ∗
        (∃ d, owns (c : Thread nD τ) arg36 fullShare d) ∗ (∃ d, owns (c : Thread nD τ) arg37 fullShare d) ∗
        (∃ d, owns (c : Thread nD τ) arg38 fullShare d)
        ∗ (iprop(
          owns (c : Thread nD τ) arg2 fullShare x0 ∗ owns (c : Thread nD τ) arg3 fullShare x1 ∗ owns (c : Thread nD τ) arg4 fullShare x2 ∗
          owns (c : Thread nD τ) arg5 fullShare x3 ∗ owns (c : Thread nD τ) arg6 fullShare x4 ∗ owns (c : Thread nD τ) arg7 fullShare x5 ∗
          owns (c : Thread nD τ) arg8 fullShare x6 ∗ owns (c : Thread nD τ) arg9 fullShare x7 ∗ owns (c : Thread nD τ) arg10 fullShare x8 ∗
          owns (c : Thread nD τ) arg11 fullShare x9 ∗ owns (c : Thread nD τ) arg12 fullShare x10 ∗ owns (c : Thread nD τ) arg13 fullShare x11 ∗
          owns (c : Thread nD τ) arg14 fullShare x12 ∗ owns (c : Thread nD τ) arg15 fullShare x13 ∗ owns (c : Thread nD τ) arg16 fullShare x14 ∗
          owns (c : Thread nD τ) arg17 fullShare x15 ∗ owns (c : Thread nD τ) arg18 fullShare x16 ∗ owns (c : Thread nD τ) arg19 fullShare x17 ∗
          owns (c : Thread nD τ) arg20 fullShare x18 ∗
          (∃ d, ⌜Cols (tileIn i x0 x1 x3 x7 x14 (masks F)) k0_pay20 d⌝ ∗ owns (c : Thread nD τ) arg21 fullShare d) ∗
          (∃ d, owns (c : Thread nD τ) arg22 fullShare d) ∗ (∃ d, owns (c : Thread nD τ) arg23 fullShare d) ∗
          (∃ d, owns (c : Thread nD τ) arg24 fullShare d) ∗ (∃ d, owns (c : Thread nD τ) arg25 fullShare d) ∗
          (∃ d, owns (c : Thread nD τ) arg26 fullShare d) ∗ (∃ d, owns (c : Thread nD τ) arg27 fullShare d) ∗
          (∃ d, owns (c : Thread nD τ) arg28 fullShare d) ∗
          (∃ d, ⌜d = (tileIn i x0 x1 x3 x7 x14 (masks F)).acc k0_pay8⌝ ∗ owns (c : Thread nD τ) arg29 fullShare d) ∗
          (∃ d, owns (c : Thread nD τ) arg30 fullShare d) ∗ (∃ d, owns (c : Thread nD τ) arg31 fullShare d) ∗
          (∃ d, owns (c : Thread nD τ) arg32 fullShare d) ∗ (∃ d, owns (c : Thread nD τ) arg33 fullShare d) ∗
          (∃ d, owns (c : Thread nD τ) arg34 fullShare d) ∗ (∃ d, owns (c : Thread nD τ) arg35 fullShare d) ∗
          (∃ d, ⌜d = (tileIn i x0 x1 x3 x7 x14 (masks F)).pend⌝ ∗ owns (c : Thread nD τ) arg36 fullShare d) ∗
          (∃ d, owns (c : Thread nD τ) arg37 fullShare d) ∗ (∃ d, ⌜d = masks F⌝ ∗ owns (c : Thread nD τ) arg38 fullShare d)) -∗ K ⟨⟩))
      ⊢ wp frame (wpE (defs₀ (F := F)) Variants.none c none) E
        (cc0_mixer_bwd_0 i
          arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg21 harg21 arg22 harg22 arg23 harg23 arg24
          harg24 arg25 harg25 arg26 harg26 arg27 harg27 arg28 harg28 arg29 harg29 arg30 harg30 arg31 harg31 arg32 harg32 arg33 harg33 arg34 harg34
          arg35 harg35 arg36 harg36 arg37 harg37 arg38 harg38) K := by
  simp only [cc0_mixer_bwd_0_eq_skeleton]; unfold cc0_mixer_bwd_0_skel
  simp only [
    k0_part98_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton, k0_part66_eq_skeleton,
    k0_part67_eq_skeleton, k0_part68_eq_skeleton, k0_part69_eq_skeleton, k0_part70_eq_skeleton, k0_part71_eq_skeleton, k0_part72_eq_skeleton,
    k0_part73_eq_skeleton, k0_part74_eq_skeleton, k0_part75_eq_skeleton, k0_part76_eq_skeleton, k0_part77_eq_skeleton, k0_part78_eq_skeleton,
    k0_part79_eq_skeleton, k0_part80_eq_skeleton, k0_part81_eq_skeleton, k0_part82_eq_skeleton, k0_part83_eq_skeleton, k0_part84_eq_skeleton,
    k0_part85_eq_skeleton, k0_part86_eq_skeleton, k0_part87_eq_skeleton, k0_part88_eq_skeleton, k0_part89_eq_skeleton, k0_part90_eq_skeleton,
    k0_part91_eq_skeleton, k0_part92_eq_skeleton, k0_part93_eq_skeleton, k0_part94_eq_skeleton, k0_part95_eq_skeleton, k0_part96_eq_skeleton,
    k0_part97_eq_skeleton]
  unfold owns
  iintro ⟨
    ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩,
    ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩,
    ⟨%d22, %f22, -, H22⟩, ⟨%d23, %f23, -, H23⟩, ⟨%d24, %f24, -, H24⟩, ⟨%d25, %f25, -, H25⟩, ⟨%d26, %f26, -, H26⟩, ⟨%d27, %f27, -, H27⟩,
    ⟨%d28, %f28, -, H28⟩, ⟨%d29, %f29, -, H29⟩, ⟨%d30, %f30, -, H30⟩, ⟨%d31, %f31, -, H31⟩, ⟨%ds0, %fs0, -, HS0⟩, ⟨%ds1, %fs1, -, HS1⟩,
    ⟨%ds2, %fs2, -, HS2⟩, ⟨%ds3, %fs3, -, HS3⟩, ⟨%ds4, %fs4, -, HS4⟩, Hk⟩
  subst hf0; subst hf1; subst hf2; subst hf3; subst hf4; subst hf5; subst hf6; subst hf7; subst hf8; subst hf9; subst hf10; subst hf11; subst hf12;
  subst hf13; subst hf14; subst hf15; subst hf16; subst hf17; subst hf18
  sl_exec (disch := first | sl_exact hc0 | sl_exact hc1 | sl_exact hc2)
  sl_step
  let a : In F := tileIn i (arg2.view.read (Elt F) f0) (arg3.view.read (Elt F) f1) (arg5.view.read (Elt F) f3) (arg9.view.read (Elt F) f7) (arg16.view.read (Elt F) f14) (masks F)
  have hm : View.read (Elt F) arg38.view (arg38.view.writes (Elt F) arg38.view.junk run_A.sl.HS4_2) = masks F :=
    View.read_writes_eq_canon _ _ _ (masks_cover _ _)
  have hr_236 : run_A.sl.r_236 c i arg3 arg5 f1 f3 = a.k0 := by rfl
  have hr_247 : run_A.sl.r_247 c i arg3 arg5 f1 f3 = k0_pay293 a.k0 := by unfold run_A.sl.r_247; rw [hr_236]; try rfl
  have hr_10 : run_A.sl.r_10 c i arg38 = a.bias := by unfold run_A.sl.r_10; rw [View.readAt_eq_ld, hm]; try rfl
  have hr_240 : run_A.sl.r_240 c arg3 f1 = a.q0 := by rfl
  have hr_6 : run_A.sl.r_6 c arg16 f14 = a.sk := by rfl
  have hr_242 : run_A.sl.r_242 c arg16 f14 = a.s0 := by unfold run_A.sl.r_242; rw [hr_6]; try rfl
  have hr_250 : run_A.sl.r_250 c i arg3 arg5 arg16 arg38 f1 f3 f14 = a.e0 := by unfold run_A.sl.r_250; rw [hr_10, hr_236, hr_240, hr_242]; try rfl
  have hr_254 : run_A.sl.r_254 c i arg3 arg5 arg16 arg38 f1 f3 f14 = a.rr0 := by unfold run_A.sl.r_254; rw [hr_10, hr_236, hr_240, hr_242]; try rfl
  have hr_238 : run_A.sl.r_238 c i arg3 arg5 f1 f3 = a.v0 := by rfl
  have hr_261 : run_A.sl.r_261 c i arg3 arg5 arg16 arg38 f1 f3 f14 = a.o0 := by unfold run_A.sl.r_261; rw [hr_238, hr_250]; try rfl
  have hr_11 : run_A.sl.r_11 c arg2 f0 = a.ct := by rfl
  have hr_235 : run_A.sl.r_235 c arg3 f1 = a.z := by rfl
  have hr_266 : run_A.sl.r_266 c arg2 arg3 arg9 f0 f1 f7 = a.f0 := by unfold run_A.sl.r_266; rw [hr_11, hr_235]; try rfl
  have hr_267 : run_A.sl.r_267 c arg2 arg3 arg9 f0 f1 f7 = a.f1 := by unfold run_A.sl.r_267; rw [hr_11, hr_235]; try rfl
  have hr_268 : run_A.sl.r_268 c arg2 arg3 arg9 f0 f1 f7 = a.f2 := by unfold run_A.sl.r_268; rw [hr_11, hr_235]; try rfl
  have hr_269 : run_A.sl.r_269 c arg2 arg3 arg9 f0 f1 f7 = a.f3 := by unfold run_A.sl.r_269; rw [hr_11, hr_235]; try rfl
  have hr_277 : run_A.sl.r_277 c i arg2 arg3 arg5 arg9 arg16 arg38 f0 f1 f3 f7 f14 = a.g0 := by unfold run_A.sl.r_277; rw [hr_261, hr_266, hr_267, hr_268, hr_269]; try rfl
  have hr_253 : run_A.sl.r_253 c i arg3 arg5 arg16 arg38 f1 f3 f14 = a.r0 := by unfold run_A.sl.r_253; rw [hr_10, hr_236, hr_240, hr_242]; try rfl
  have hr_260 : run_A.sl.r_260 c i arg3 arg5 f1 f3 = k0_pay312 a.v0 := by unfold run_A.sl.r_260; rw [hr_238]; try rfl
  have hr_279 : run_A.sl.r_279 c i arg2 arg3 arg5 arg9 arg16 arg38 f0 f1 f3 f7 f14 = a.p0 := by unfold run_A.sl.r_279; rw [hr_253, hr_260, hr_266, hr_267, hr_268, hr_269]; try rfl
  have hr_285 : run_A.sl.r_285 c i arg2 arg3 arg5 arg9 arg16 arg38 f0 f1 f3 f7 f14 = a.dq0 := by unfold run_A.sl.r_285; rw [hr_247, hr_250, hr_254, hr_277, hr_279]; try rfl
  have hr_237 : run_A.sl.r_237 c i arg3 arg5 f1 f3 = a.k1 := by rfl
  have hr_241 : run_A.sl.r_241 c arg3 f1 = a.q1 := by rfl
  have hr_243 : run_A.sl.r_243 c arg16 f14 = a.s1a := by unfold run_A.sl.r_243; rw [hr_6]; try rfl
  have hr_244 : run_A.sl.r_244 c arg16 f14 = a.s1b := by unfold run_A.sl.r_244; rw [hr_6]; try rfl
  have hr_245 : run_A.sl.r_245 c arg16 f14 = a.s1c := by unfold run_A.sl.r_245; rw [hr_6]; try rfl
  have hr_255 : run_A.sl.r_255 c i arg3 arg5 arg16 arg38 f1 f3 f14 = a.es1 := by unfold run_A.sl.r_255; rw [hr_6, hr_10, hr_237, hr_241, hr_243, hr_244, hr_245]; try rfl
  have hr_257 : run_A.sl.r_257 c i arg3 arg5 arg16 arg38 f1 f3 f14 = k0_pay309 a.sk a.bias a.k1 a.q1 a.s1a a.s1b a.s1c := by unfold run_A.sl.r_257; rw [hr_6, hr_10, hr_237, hr_241, hr_243, hr_244, hr_245]; try rfl
  have hr_258 : run_A.sl.r_258 c i arg3 arg5 arg16 arg38 f1 f3 f14 = a.rr1 := by unfold run_A.sl.r_258; rw [hr_257]; try rfl
  have hr_239 : run_A.sl.r_239 c i arg3 arg5 f1 f3 = a.v1 := by rfl
  have hr_251 : run_A.sl.r_251 c i arg3 arg5 arg16 arg38 f1 f3 f14 = a.e1 := by unfold run_A.sl.r_251; rw [hr_6, hr_10, hr_237, hr_241, hr_243, hr_244, hr_245]; try rfl
  have hr_264 : run_A.sl.r_264 c i arg3 arg5 arg16 arg38 f1 f3 f14 = a.o1 := by unfold run_A.sl.r_264; rw [hr_239, hr_251]; try rfl
  have hr_270 : run_A.sl.r_270 c arg2 arg3 arg9 f0 f1 f7 = a.f4 := by unfold run_A.sl.r_270; rw [hr_11, hr_235]; try rfl
  have hr_271 : run_A.sl.r_271 c arg2 arg3 arg9 f0 f1 f7 = a.f5 := by unfold run_A.sl.r_271; rw [hr_11, hr_235]; try rfl
  have hr_272 : run_A.sl.r_272 c arg2 arg3 arg9 f0 f1 f7 = a.f6 := by unfold run_A.sl.r_272; rw [hr_11, hr_235]; try rfl
  have hr_273 : run_A.sl.r_273 c arg2 arg3 arg9 f0 f1 f7 = a.f7 := by unfold run_A.sl.r_273; rw [hr_11, hr_235]; try rfl
  have hr_274 : run_A.sl.r_274 c i arg2 arg3 arg5 arg9 arg16 arg38 f0 f1 f3 f7 f14 = a.g1 := by unfold run_A.sl.r_274; rw [hr_264, hr_270, hr_271, hr_272, hr_273]; try rfl
  have hr_286 : run_A.sl.r_286 c i arg2 arg3 arg5 arg9 arg16 arg38 f0 f1 f3 f7 f14 = a.sk1a := by unfold run_A.sl.r_286; rw [hr_255, hr_258, hr_274]; try rfl
  have hr_287 : run_A.sl.r_287 c i arg2 arg3 arg5 arg9 arg16 arg38 f0 f1 f3 f7 f14 = a.sk1b := by unfold run_A.sl.r_287; rw [hr_255, hr_258, hr_274]; try rfl
  have hr_288 : run_A.sl.r_288 c i arg2 arg3 arg5 arg9 arg16 arg38 f0 f1 f3 f7 f14 = a.sk1c := by unfold run_A.sl.r_288; rw [hr_255, hr_258, hr_274]; try rfl
  have hr_289 : run_A.sl.r_289 c i arg2 arg3 arg5 arg9 arg16 arg38 f0 f1 f3 f7 f14 = a.sk1d := by unfold run_A.sl.r_289; rw [hr_255, hr_258, hr_274]; try rfl
  have hr_252 : run_A.sl.r_252 c i arg3 arg5 arg16 arg38 f1 f3 f14 = a.es0 := by unfold run_A.sl.r_252; rw [hr_10, hr_236, hr_240, hr_242]; try rfl
  have hr_281 : run_A.sl.r_281 c i arg2 arg3 arg5 arg9 arg16 arg38 f0 f1 f3 f7 f14 = a.sk0 := by unfold run_A.sl.r_281; rw [hr_252, hr_254, hr_277]; try rfl
  have hr_290 : run_A.sl.r_290 c i arg2 arg3 arg5 arg9 arg16 arg38 f0 f1 f3 f7 f14 = k0_pay358 a.sk0 := by unfold run_A.sl.r_290; rw [hr_281]; try rfl
  have hr_291 : run_A.sl.r_291 c i arg2 arg3 arg5 arg9 arg16 arg38 f0 f1 f3 f7 f14 = k0_pay359 a.sk0 := by unfold run_A.sl.r_291; rw [hr_281]; try rfl
  have hr_292 : run_A.sl.r_292 c i arg2 arg3 arg5 arg9 arg16 arg38 f0 f1 f3 f7 f14 = k0_pay360 a.sk0 := by unfold run_A.sl.r_292; rw [hr_281]; try rfl
  have hr_293 : run_A.sl.r_293 c i arg2 arg3 arg5 arg9 arg16 arg38 f0 f1 f3 f7 f14 = k0_pay361 a.sk0 a.sk1a a.sk1b a.sk1c a.sk1d := by unfold run_A.sl.r_293; rw [hr_281, hr_286, hr_287, hr_288, hr_289]; try rfl
  have hr_294 : run_A.sl.r_294 c i arg2 arg3 arg5 arg9 arg16 arg38 f0 f1 f3 f7 f14 = a.dsk := by unfold run_A.sl.r_294; rw [hr_290, hr_291, hr_292, hr_293]; try rfl
  have hr_249 : run_A.sl.r_249 c i arg3 arg5 f1 f3 = k0_pay296 a.k1 := by unfold run_A.sl.r_249; rw [hr_237]; try rfl
  have hr_256 : run_A.sl.r_256 c i arg3 arg5 arg16 arg38 f1 f3 f14 = a.r1 := by unfold run_A.sl.r_256; rw [hr_6, hr_10, hr_237, hr_241, hr_243, hr_244, hr_245]; try rfl
  have hr_263 : run_A.sl.r_263 c i arg3 arg5 f1 f3 = k0_pay315 a.v1 := by unfold run_A.sl.r_263; rw [hr_239]; try rfl
  have hr_276 : run_A.sl.r_276 c i arg2 arg3 arg5 arg9 arg16 arg38 f0 f1 f3 f7 f14 = a.p1 := by unfold run_A.sl.r_276; rw [hr_256, hr_263, hr_270, hr_271, hr_272, hr_273]; try rfl
  have hr_283 : run_A.sl.r_283 c i arg2 arg3 arg5 arg9 arg16 arg38 f0 f1 f3 f7 f14 = a.dq1 := by unfold run_A.sl.r_283; rw [hr_249, hr_251, hr_258, hr_274, hr_276]; try rfl
  have hr_295 : run_A.sl.r_295 c i arg2 arg3 arg5 arg9 arg16 arg38 f0 f1 f3 f7 f14 = k0_pay363 a.dq1 := by unfold run_A.sl.r_295; rw [hr_283]; try rfl
  have hr_296 : run_A.sl.r_296 c i arg2 arg3 arg5 arg9 arg16 arg38 f0 f1 f3 f7 f14 = k0_pay364 a.dq0 := by unfold run_A.sl.r_296; rw [hr_285]; try rfl
  have hr_297 : run_A.sl.r_297 c i arg2 arg3 arg5 arg9 arg16 arg38 f0 f1 f3 f7 f14 = k0_pay365 a.dq0 (k0_pay363 a.dq1) (k0_pay364 a.dq0) := by unfold run_A.sl.r_297; rw [hr_285, hr_295, hr_296]; try rfl
  have hr_262 : run_A.sl.r_262 c i arg3 arg5 arg16 arg38 f1 f3 f14 = k0_pay314 a.e1 := by unfold run_A.sl.r_262; rw [hr_251]; try rfl
  have hr_275 : run_A.sl.r_275 c i arg2 arg3 arg5 arg9 arg16 arg38 f0 f1 f3 f7 f14 = a.dv1 := by unfold run_A.sl.r_275; rw [hr_256, hr_262, hr_270, hr_271, hr_272, hr_273]; try rfl
  have hr_259 : run_A.sl.r_259 c i arg3 arg5 arg16 arg38 f1 f3 f14 = k0_pay311 a.e0 := by unfold run_A.sl.r_259; rw [hr_250]; try rfl
  have hr_278 : run_A.sl.r_278 c i arg2 arg3 arg5 arg9 arg16 arg38 f0 f1 f3 f7 f14 = k0_pay341 a.r0 (k0_pay311 a.e0) a.f0 a.f1 a.f2 a.f3 := by unfold run_A.sl.r_278; rw [hr_253, hr_259, hr_266, hr_267, hr_268, hr_269]; try rfl
  have hr_280 : run_A.sl.r_280 c i arg2 arg3 arg5 arg9 arg16 arg38 f0 f1 f3 f7 f14 = a.dv0 := by unfold run_A.sl.r_280; rw [hr_278]; try rfl
  have hr_248 : run_A.sl.r_248 c arg3 f1 = k0_pay295 a.q1 := by unfold run_A.sl.r_248; rw [hr_241]; try rfl
  have hr_282 : run_A.sl.r_282 c i arg2 arg3 arg5 arg9 arg16 arg38 f0 f1 f3 f7 f14 = a.dk1 := by unfold run_A.sl.r_282; rw [hr_248, hr_251, hr_258, hr_274, hr_276]; try rfl
  have hr_246 : run_A.sl.r_246 c arg3 f1 = k0_pay292 a.q0 := by unfold run_A.sl.r_246; rw [hr_240]; try rfl
  have hr_284 : run_A.sl.r_284 c i arg2 arg3 arg5 arg9 arg16 arg38 f0 f1 f3 f7 f14 = a.dk0 := by unfold run_A.sl.r_284; rw [hr_246, hr_250, hr_254, hr_277, hr_279]; try rfl
  have hr_298 : run_A.sl.r_298 c i arg2 arg3 arg5 arg9 arg16 arg38 f0 f1 f3 f7 f14 = a.dcur := by unfold run_A.sl.r_298; rw [hr_275, hr_280, hr_282, hr_284]; try rfl
  have hr_299 : run_A.sl.r_299 c i arg2 arg3 arg5 arg9 arg16 arg38 f0 f1 f3 f7 f14 = k0_pay369 a.dv1 a.dv0 a.dk1 a.dk0 := by unfold run_A.sl.r_299; rw [hr_275, hr_280, hr_282, hr_284]; try rfl
  have hr_265 : run_A.sl.r_265 c i arg2 arg3 arg5 arg9 arg16 arg38 f0 f1 f3 f7 f14 = k0_pay323 a.ct a.z a.v0 a.v1 a.e0 a.e1 a.r0 a.r1 a.w := by unfold run_A.sl.r_265; rw [hr_11, hr_235, hr_238, hr_239, hr_250, hr_251, hr_253, hr_256]; try rfl
  have hr_300 : run_A.sl.r_300 c i arg2 arg3 arg5 arg9 arg16 arg38 f0 f1 f3 f7 f14 = a.dz := by unfold run_A.sl.r_300; rw [hr_265]; try rfl
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _
    isplitr
    swap
    · iexists _
      isplitr
      swap
      · iexact H19
      ipureintro; rfl
    ipureintro
    refine ⟨?_, ?_, ?_⟩
    · intro r c
      refine (read_skip _ _ _ _ _ _ _ (Or.inl (by show 1024 + c.val < 5504; omega))).trans ?_
      refine (read_skip _ _ _ _ _ _ _ (Or.inl (by show 1024 + c.val < 5376; omega))).trans ?_
      refine (read_skip _ _ _ _ _ _ _ (Or.inl (by show 1024 + c.val < 3072; omega))).trans ?_
      refine (read_skip _ _ _ _ _ _ _ (Or.inr (by show 0 + 1024 ≤ 1024 + c.val; omega))).trans ?_
      refine (read_skip _ _ _ _ _ _ _ (Or.inl (by show 1024 + c.val < 5120; omega))).trans ?_
      refine (read_skip _ _ _ _ _ _ _ (Or.inl (by show 1024 + c.val < 4608; omega))).trans ?_
      refine (read_hit _ _ _ _ _ _ _ c rfl).trans ?_
      exact congrFun hr_300 _
    · intro r c
      refine (read_skip _ _ _ _ _ _ _ (Or.inl (by show 4608 + c.val < 5504; omega))).trans ?_
      refine (read_skip _ _ _ _ _ _ _ (Or.inl (by show 4608 + c.val < 5376; omega))).trans ?_
      refine (read_skip _ _ _ _ _ _ _ (Or.inr (by show 3072 + 1536 ≤ 4608 + c.val; omega))).trans ?_
      refine (read_skip _ _ _ _ _ _ _ (Or.inr (by show 0 + 1024 ≤ 4608 + c.val; omega))).trans ?_
      refine (read_skip _ _ _ _ _ _ _ (Or.inl (by show 4608 + c.val < 5120; omega))).trans ?_
      refine (read_hit _ _ _ _ _ _ _ c rfl).trans ?_
      exact congrFun (congrArg k0_pay371 hr_297) _
    · intro r c
      refine (read_skip _ _ _ _ _ _ _ (Or.inl (by show 5120 + c.val < 5504; omega))).trans ?_
      refine (read_skip _ _ _ _ _ _ _ (Or.inl (by show 5120 + c.val < 5376; omega))).trans ?_
      refine (read_skip _ _ _ _ _ _ _ (Or.inr (by show 3072 + 1536 ≤ 5120 + c.val; omega))).trans ?_
      refine (read_skip _ _ _ _ _ _ _ (Or.inr (by show 0 + 1024 ≤ 5120 + c.val; omega))).trans ?_
      refine (read_hit _ _ _ _ _ _ _ c rfl).trans ?_
      exact congrFun (congr (congrArg k0_pay372 hr_298) (View.readCov_cons_toLoadRect _ _ _ _)) _
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _
    isplitr
    swap
    · iexists _
      isplitr
      swap
      · iexact H27
      ipureintro; rfl
    ipureintro
    refine (read_full _ _ off_zero _ _ _).trans ?_
    exact congr (congrArg k0_pay374 hr_294) (View.readCov_cons_toLoadRect _ _ _ _)
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [HS0]
  · iexists _, _; isplitr; swap; · iexact HS0
    ipureintro; rfl
  isplitl [HS1]
  · iexists _, _; isplitr; swap; · iexact HS1
    ipureintro; rfl
  isplitl [HS2]
  · iexists _
    isplitr
    swap
    · iexists _
      isplitr
      swap
      · iexact HS2
      ipureintro; rfl
    ipureintro
    refine (read_full _ _ off_zero _ _ _).trans ?_
    exact congrArg k0_pay373 hr_299
  isplitl [HS3]
  · iexists _, _; isplitr; swap; · iexact HS3
    ipureintro; rfl
  iexists _
  isplitr
  swap
  · iexists _
    isplitr
    swap
    · iexact HS4
    ipureintro; rfl
  ipureintro
  exact hm

end Cert.Attn

end
-- ==== Proof.RunB.lean ====
module

public import proofs.«01_k».proof.Proof.Chain

@[expose] public section

set_option maxRecDepth 16384

noncomputable section

/-! # The body at a point inside a sequence

One run of the whole body, from the staging buffers at known contents, to what the attention part of the backward pass leaves: the columns of `dproj`
that belong to it, the running sum for the gradient of the sinks, and the two buffers that later points read.  Of everything else that the body
stores it is only said that it is stored. -/

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 8000000 in
/-- The body at a point inside a sequence: the run. -/
theorem run_B (c : Dev nD) (i : grid0.Coords)
    (arg2 : Memref sig .tc .vmem S128x1024 .f32) (harg2 : arg2.IsWhole) (arg3 : Memref sig .tc .vmem S128x5632 .f32) (harg3 : arg3.IsWhole)
    (arg4 : Memref sig .tc .vmem S8x1536 .f32) (harg4 : arg4.IsWhole) (arg5 : Memref sig .tc .vmem S128x256 .f32) (harg5 : arg5.IsWhole)
    (arg6 : Memref sig .tc .vmem S32x1024 .f32) (harg6 : arg6.IsWhole) (arg7 : Memref sig .tc .vmem S1x1024x128 .f32) (harg7 : arg7.IsWhole)
    (arg8 : Memref sig .tc .vmem S128x512 .f32) (harg8 : arg8.IsWhole) (arg9 : Memref sig .tc .vmem S2048x1024 .bf16) (harg9 : arg9.IsWhole)
    (arg10 : Memref sig .tc .vmem S4x1536 .f32) (harg10 : arg10.IsWhole) (arg11 : Memref sig .tc .vmem S1x1536 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x128 .f32) (harg14 : arg14.IsWhole) (arg15 : Memref sig .tc .vmem S1x1024 .f32) (harg15 : arg15.IsWhole)
    (arg16 : Memref sig .tc .vmem S1x128 .f32) (harg16 : arg16.IsWhole) (arg17 : Memref sig .tc .vmem S31x512 .f32) (harg17 : arg17.IsWhole)
    (arg18 : Memref sig .tc .vmem S1x512 .f32) (harg18 : arg18.IsWhole) (arg19 : Memref sig .tc .vmem S1x512 .f32) (harg19 : arg19.IsWhole)
    (arg20 : Memref sig .tc .vmem S1x512 .f32) (harg20 : arg20.IsWhole) (arg21 : Memref sig .tc .vmem S128x5632 .bf16) (harg21 : arg21.IsWhole)
    (arg22 : Memref sig .tc .vmem S128x2048 .bf16) (harg22 : arg22.IsWhole) (arg23 : Memref sig .tc .vmem S4x1536 .f32) (harg23 : arg23.IsWhole)
    (arg24 : Memref sig .tc .vmem S1x1536 .f32) (harg24 : arg24.IsWhole) (arg25 : Memref sig .tc .vmem S1x128 .f32) (harg25 : arg25.IsWhole)
    (arg26 : Memref sig .tc .vmem S1x128 .f32) (harg26 : arg26.IsWhole) (arg27 : Memref sig .tc .vmem S1x128 .f32) (harg27 : arg27.IsWhole)
    (arg28 : Memref sig .tc .vmem S1x1024 .f32) (harg28 : arg28.IsWhole) (arg29 : Memref sig .tc .vmem S1x128 .f32) (harg29 : arg29.IsWhole)
    (arg30 : Memref sig .tc .vmem S31x512 .f32) (harg30 : arg30.IsWhole) (arg31 : Memref sig .tc .vmem S1x512 .f32) (harg31 : arg31.IsWhole)
    (arg32 : Memref sig .tc .vmem S1x512 .f32) (harg32 : arg32.IsWhole) (arg33 : Memref sig .tc .vmem S1x512 .f32) (harg33 : arg33.IsWhole)
    (arg34 : Memref sig .tc .vmem S1024x128 .f32) (harg34 : arg34.IsWhole) (arg35 : Memref sig .tc .vmem S8x1536 .f32) (harg35 : arg35.IsWhole)
    (arg36 : Memref sig .tc .vmem S128x256 .f32) (harg36 : arg36.IsWhole) (arg37 : Memref sig .tc .vmem S32x1024 .f32) (harg37 : arg37.IsWhole)
    (arg38 : Memref sig .tc .vmem S2x512x256 .f32) (harg38 : arg38.IsWhole)
    (hc0 : ¬cond0_0 i) (hc1 : ¬cond0_1 i) (hc2 : ¬cond0_2 i)
    (x0 : Vec F S128x1024 .f32) (x1 : Vec F S128x5632 .f32) (x2 : Vec F S8x1536 .f32) (x3 : Vec F S128x256 .f32) (x4 : Vec F S32x1024 .f32)
    (x5 : Vec F S1x1024x128 .f32) (x6 : Vec F S128x512 .f32) (x7 : Vec F S2048x1024 .bf16) (x8 : Vec F S4x1536 .f32) (x9 : Vec F S1x1536 .f32)
    (x10 : Vec F S1x128 .f32) (x11 : Vec F S1x128 .f32) (x12 : Vec F S1x128 .f32) (x13 : Vec F S1x1024 .f32) (x14 : Vec F S1x128 .f32)
    (x15 : Vec F S31x512 .f32) (x16 : Vec F S1x512 .f32) (x17 : Vec F S1x512 .f32) (x18 : Vec F S1x512 .f32)
    (p : Vec F S128x256 .f32) (bias : Vec F S2x512x256 .f32) (acc : Vec F S1x128 .f32)
    (E : Set ℕ) (K : PUnit → sProp 𝕄) :
    iprop(
        owns (c : Thread nD τ) arg2 fullShare x0 ∗ owns (c : Thread nD τ) arg3 fullShare x1 ∗ owns (c : Thread nD τ) arg4 fullShare x2 ∗
        owns (c : Thread nD τ) arg5 fullShare x3 ∗ owns (c : Thread nD τ) arg6 fullShare x4 ∗ owns (c : Thread nD τ) arg7 fullShare x5 ∗
        owns (c : Thread nD τ) arg8 fullShare x6 ∗ owns (c : Thread nD τ) arg9 fullShare x7 ∗ owns (c : Thread nD τ) arg10 fullShare x8 ∗
        owns (c : Thread nD τ) arg11 fullShare x9 ∗ owns (c : Thread nD τ) arg12 fullShare x10 ∗ owns (c : Thread nD τ) arg13 fullShare x11 ∗
        owns (c : Thread nD τ) arg14 fullShare x12 ∗ owns (c : Thread nD τ) arg15 fullShare x13 ∗ owns (c : Thread nD τ) arg16 fullShare x14 ∗
        owns (c : Thread nD τ) arg17 fullShare x15 ∗ owns (c : Thread nD τ) arg18 fullShare x16 ∗ owns (c : Thread nD τ) arg19 fullShare x17 ∗
        owns (c : Thread nD τ) arg20 fullShare x18 ∗ (∃ d, owns (c : Thread nD τ) arg21 fullShare d) ∗
        (∃ d, owns (c : Thread nD τ) arg22 fullShare d) ∗ (∃ d, owns (c : Thread nD τ) arg23 fullShare d) ∗
        (∃ d, owns (c : Thread nD τ) arg24 fullShare d) ∗ (∃ d, owns (c : Thread nD τ) arg25 fullShare d) ∗
        (∃ d, owns (c : Thread nD τ) arg26 fullShare d) ∗ (∃ d, owns (c : Thread nD τ) arg27 fullShare d) ∗
        (∃ d, owns (c : Thread nD τ) arg28 fullShare d) ∗ owns (c : Thread nD τ) arg29 fullShare acc ∗
        (∃ d, owns (c : Thread nD τ) arg30 fullShare d) ∗ (∃ d, owns (c : Thread nD τ) arg31 fullShare d) ∗
        (∃ d, owns (c : Thread nD τ) arg32 fullShare d) ∗ (∃ d, owns (c : Thread nD τ) arg33 fullShare d) ∗
        (∃ d, owns (c : Thread nD τ) arg34 fullShare d) ∗ (∃ d, owns (c : Thread nD τ) arg35 fullShare d) ∗
        owns (c : Thread nD τ) arg36 fullShare p ∗ (∃ d, owns (c : Thread nD τ) arg37 fullShare d) ∗ owns (c : Thread nD τ) arg38 fullShare bias
        ∗ (iprop(
          owns (c : Thread nD τ) arg2 fullShare x0 ∗ owns (c : Thread nD τ) arg3 fullShare x1 ∗ owns (c : Thread nD τ) arg4 fullShare x2 ∗
          owns (c : Thread nD τ) arg5 fullShare x3 ∗ owns (c : Thread nD τ) arg6 fullShare x4 ∗ owns (c : Thread nD τ) arg7 fullShare x5 ∗
          owns (c : Thread nD τ) arg8 fullShare x6 ∗ owns (c : Thread nD τ) arg9 fullShare x7 ∗ owns (c : Thread nD τ) arg10 fullShare x8 ∗
          owns (c : Thread nD τ) arg11 fullShare x9 ∗ owns (c : Thread nD τ) arg12 fullShare x10 ∗ owns (c : Thread nD τ) arg13 fullShare x11 ∗
          owns (c : Thread nD τ) arg14 fullShare x12 ∗ owns (c : Thread nD τ) arg15 fullShare x13 ∗ owns (c : Thread nD τ) arg16 fullShare x14 ∗
          owns (c : Thread nD τ) arg17 fullShare x15 ∗ owns (c : Thread nD τ) arg18 fullShare x16 ∗ owns (c : Thread nD τ) arg19 fullShare x17 ∗
          owns (c : Thread nD τ) arg20 fullShare x18 ∗ (∃ d, ⌜Cols (tileIn i x0 x1 x3 x7 x14 bias) p d⌝ ∗ owns (c : Thread nD τ) arg21 fullShare d) ∗
          (∃ d, owns (c : Thread nD τ) arg22 fullShare d) ∗ (∃ d, owns (c : Thread nD τ) arg23 fullShare d) ∗
          (∃ d, owns (c : Thread nD τ) arg24 fullShare d) ∗ (∃ d, owns (c : Thread nD τ) arg25 fullShare d) ∗
          (∃ d, owns (c : Thread nD τ) arg26 fullShare d) ∗ (∃ d, owns (c : Thread nD τ) arg27 fullShare d) ∗
          (∃ d, owns (c : Thread nD τ) arg28 fullShare d) ∗
          (∃ d, ⌜d = (tileIn i x0 x1 x3 x7 x14 bias).acc acc⌝ ∗ owns (c : Thread nD τ) arg29 fullShare d) ∗
          (∃ d, owns (c : Thread nD τ) arg30 fullShare d) ∗ (∃ d, owns (c : Thread nD τ) arg31 fullShare d) ∗
          (∃ d, owns (c : Thread nD τ) arg32 fullShare d) ∗ (∃ d, owns (c : Thread nD τ) arg33 fullShare d) ∗
          (∃ d, owns (c : Thread nD τ) arg34 fullShare d) ∗ (∃ d, owns (c : Thread nD τ) arg35 fullShare d) ∗
          (∃ d, ⌜d = (tileIn i x0 x1 x3 x7 x14 bias).pend⌝ ∗ owns (c : Thread nD τ) arg36 fullShare d) ∗
          (∃ d, owns (c : Thread nD τ) arg37 fullShare d) ∗ owns (c : Thread nD τ) arg38 fullShare bias) -∗ K ⟨⟩))
      ⊢ wp frame (wpE (defs₀ (F := F)) Variants.none c none) E
        (cc0_mixer_bwd_0 i
          arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg21 harg21 arg22 harg22 arg23 harg23 arg24
          harg24 arg25 harg25 arg26 harg26 arg27 harg27 arg28 harg28 arg29 harg29 arg30 harg30 arg31 harg31 arg32 harg32 arg33 harg33 arg34 harg34
          arg35 harg35 arg36 harg36 arg37 harg37 arg38 harg38) K := by
  simp only [cc0_mixer_bwd_0_eq_skeleton]; unfold cc0_mixer_bwd_0_skel
  simp only [
    k0_part98_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton, k0_part66_eq_skeleton,
    k0_part67_eq_skeleton, k0_part68_eq_skeleton, k0_part69_eq_skeleton, k0_part70_eq_skeleton, k0_part71_eq_skeleton, k0_part72_eq_skeleton,
    k0_part73_eq_skeleton, k0_part74_eq_skeleton, k0_part75_eq_skeleton, k0_part76_eq_skeleton, k0_part77_eq_skeleton, k0_part78_eq_skeleton,
    k0_part79_eq_skeleton, k0_part80_eq_skeleton, k0_part81_eq_skeleton, k0_part82_eq_skeleton, k0_part83_eq_skeleton, k0_part84_eq_skeleton,
    k0_part85_eq_skeleton, k0_part86_eq_skeleton, k0_part87_eq_skeleton, k0_part88_eq_skeleton, k0_part89_eq_skeleton, k0_part90_eq_skeleton,
    k0_part91_eq_skeleton, k0_part92_eq_skeleton, k0_part93_eq_skeleton, k0_part94_eq_skeleton, k0_part95_eq_skeleton, k0_part96_eq_skeleton,
    k0_part97_eq_skeleton]
  unfold owns
  iintro ⟨
    ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩,
    ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩,
    ⟨%d22, %f22, -, H22⟩, ⟨%d23, %f23, -, H23⟩, ⟨%d24, %f24, -, H24⟩, ⟨%d25, %f25, -, H25⟩, ⟨%d26, %f26, -, H26⟩, ⟨%f27, %hf27, H27⟩,
    ⟨%d28, %f28, -, H28⟩, ⟨%d29, %f29, -, H29⟩, ⟨%d30, %f30, -, H30⟩, ⟨%d31, %f31, -, H31⟩, ⟨%ds0, %fs0, -, HS0⟩, ⟨%ds1, %fs1, -, HS1⟩,
    ⟨%fs2, %hfs2, HS2⟩, ⟨%ds3, %fs3, -, HS3⟩, ⟨%fs4, %hfs4, HS4⟩, Hk⟩
  subst hf0; subst hf1; subst hf2; subst hf3; subst hf4; subst hf5; subst hf6; subst hf7; subst hf8; subst hf9; subst hf10; subst hf11; subst hf12;
  subst hf13; subst hf14; subst hf15; subst hf16; subst hf17; subst hf18; subst hf27; subst hfs2; subst hfs4
  sl_exec (disch := first | sl_exact hc0 | sl_exact hc1 | sl_exact hc2)
  sl_step
  let a : In F := tileIn i (arg2.view.read (Elt F) f0) (arg3.view.read (Elt F) f1) (arg5.view.read (Elt F) f3) (arg9.view.read (Elt F) f7) (arg16.view.read (Elt F) f14) (arg38.view.read (Elt F) fs4)
  have hr_241 : run_B.sl.r_241 c arg3 f1 = a.q0 := by rfl
  have hr_247 : run_B.sl.r_247 c arg3 f1 = k0_pay292 a.q0 := by unfold run_B.sl.r_247; rw [hr_241]; try rfl
  have hr_10 : run_B.sl.r_10 c i arg38 fs4 = a.bias := by rfl
  have hr_237 : run_B.sl.r_237 c i arg3 arg5 f1 f3 = a.k0 := by rfl
  have hr_6 : run_B.sl.r_6 c arg16 f14 = a.sk := by rfl
  have hr_243 : run_B.sl.r_243 c arg16 f14 = a.s0 := by unfold run_B.sl.r_243; rw [hr_6]; try rfl
  have hr_251 : run_B.sl.r_251 c i arg3 arg5 arg16 arg38 f1 f3 f14 fs4 = a.e0 := by unfold run_B.sl.r_251; rw [hr_10, hr_237, hr_241, hr_243]; try rfl
  have hr_255 : run_B.sl.r_255 c i arg3 arg5 arg16 arg38 f1 f3 f14 fs4 = a.rr0 := by unfold run_B.sl.r_255; rw [hr_10, hr_237, hr_241, hr_243]; try rfl
  have hr_239 : run_B.sl.r_239 c i arg3 arg5 f1 f3 = a.v0 := by rfl
  have hr_262 : run_B.sl.r_262 c i arg3 arg5 arg16 arg38 f1 f3 f14 fs4 = a.o0 := by unfold run_B.sl.r_262; rw [hr_239, hr_251]; try rfl
  have hr_11 : run_B.sl.r_11 c arg2 f0 = a.ct := by rfl
  have hr_236 : run_B.sl.r_236 c arg3 f1 = a.z := by rfl
  have hr_267 : run_B.sl.r_267 c arg2 arg3 arg9 f0 f1 f7 = a.f0 := by unfold run_B.sl.r_267; rw [hr_11, hr_236]; try rfl
  have hr_268 : run_B.sl.r_268 c arg2 arg3 arg9 f0 f1 f7 = a.f1 := by unfold run_B.sl.r_268; rw [hr_11, hr_236]; try rfl
  have hr_269 : run_B.sl.r_269 c arg2 arg3 arg9 f0 f1 f7 = a.f2 := by unfold run_B.sl.r_269; rw [hr_11, hr_236]; try rfl
  have hr_270 : run_B.sl.r_270 c arg2 arg3 arg9 f0 f1 f7 = a.f3 := by unfold run_B.sl.r_270; rw [hr_11, hr_236]; try rfl
  have hr_278 : run_B.sl.r_278 c i arg2 arg3 arg5 arg9 arg16 arg38 f0 f1 f3 f7 f14 fs4 = a.g0 := by unfold run_B.sl.r_278; rw [hr_262, hr_267, hr_268, hr_269, hr_270]; try rfl
  have hr_254 : run_B.sl.r_254 c i arg3 arg5 arg16 arg38 f1 f3 f14 fs4 = a.r0 := by unfold run_B.sl.r_254; rw [hr_10, hr_237, hr_241, hr_243]; try rfl
  have hr_261 : run_B.sl.r_261 c i arg3 arg5 f1 f3 = k0_pay312 a.v0 := by unfold run_B.sl.r_261; rw [hr_239]; try rfl
  have hr_280 : run_B.sl.r_280 c i arg2 arg3 arg5 arg9 arg16 arg38 f0 f1 f3 f7 f14 fs4 = a.p0 := by unfold run_B.sl.r_280; rw [hr_254, hr_261, hr_267, hr_268, hr_269, hr_270]; try rfl
  have hr_285 : run_B.sl.r_285 c i arg2 arg3 arg5 arg9 arg16 arg38 f0 f1 f3 f7 f14 fs4 = a.dk0 := by unfold run_B.sl.r_285; rw [hr_247, hr_251, hr_255, hr_278, hr_280]; try rfl
  have hr_248 : run_B.sl.r_248 c i arg3 arg5 f1 f3 = k0_pay293 a.k0 := by unfold run_B.sl.r_248; rw [hr_237]; try rfl
  have hr_286 : run_B.sl.r_286 c i arg2 arg3 arg5 arg9 arg16 arg38 f0 f1 f3 f7 f14 fs4 = a.dq0 := by unfold run_B.sl.r_286; rw [hr_248, hr_251, hr_255, hr_278, hr_280]; try rfl
  have hr_238 : run_B.sl.r_238 c i arg3 arg5 f1 f3 = a.k1 := by rfl
  have hr_242 : run_B.sl.r_242 c arg3 f1 = a.q1 := by rfl
  have hr_244 : run_B.sl.r_244 c arg16 f14 = a.s1a := by unfold run_B.sl.r_244; rw [hr_6]; try rfl
  have hr_245 : run_B.sl.r_245 c arg16 f14 = a.s1b := by unfold run_B.sl.r_245; rw [hr_6]; try rfl
  have hr_246 : run_B.sl.r_246 c arg16 f14 = a.s1c := by unfold run_B.sl.r_246; rw [hr_6]; try rfl
  have hr_256 : run_B.sl.r_256 c i arg3 arg5 arg16 arg38 f1 f3 f14 fs4 = a.es1 := by unfold run_B.sl.r_256; rw [hr_6, hr_10, hr_238, hr_242, hr_244, hr_245, hr_246]; try rfl
  have hr_258 : run_B.sl.r_258 c i arg3 arg5 arg16 arg38 f1 f3 f14 fs4 = k0_pay309 a.sk a.bias a.k1 a.q1 a.s1a a.s1b a.s1c := by unfold run_B.sl.r_258; rw [hr_6, hr_10, hr_238, hr_242, hr_244, hr_245, hr_246]; try rfl
  have hr_259 : run_B.sl.r_259 c i arg3 arg5 arg16 arg38 f1 f3 f14 fs4 = a.rr1 := by unfold run_B.sl.r_259; rw [hr_258]; try rfl
  have hr_240 : run_B.sl.r_240 c i arg3 arg5 f1 f3 = a.v1 := by rfl
  have hr_252 : run_B.sl.r_252 c i arg3 arg5 arg16 arg38 f1 f3 f14 fs4 = a.e1 := by unfold run_B.sl.r_252; rw [hr_6, hr_10, hr_238, hr_242, hr_244, hr_245, hr_246]; try rfl
  have hr_265 : run_B.sl.r_265 c i arg3 arg5 arg16 arg38 f1 f3 f14 fs4 = a.o1 := by unfold run_B.sl.r_265; rw [hr_240, hr_252]; try rfl
  have hr_271 : run_B.sl.r_271 c arg2 arg3 arg9 f0 f1 f7 = a.f4 := by unfold run_B.sl.r_271; rw [hr_11, hr_236]; try rfl
  have hr_272 : run_B.sl.r_272 c arg2 arg3 arg9 f0 f1 f7 = a.f5 := by unfold run_B.sl.r_272; rw [hr_11, hr_236]; try rfl
  have hr_273 : run_B.sl.r_273 c arg2 arg3 arg9 f0 f1 f7 = a.f6 := by unfold run_B.sl.r_273; rw [hr_11, hr_236]; try rfl
  have hr_274 : run_B.sl.r_274 c arg2 arg3 arg9 f0 f1 f7 = a.f7 := by unfold run_B.sl.r_274; rw [hr_11, hr_236]; try rfl
  have hr_275 : run_B.sl.r_275 c i arg2 arg3 arg5 arg9 arg16 arg38 f0 f1 f3 f7 f14 fs4 = a.g1 := by unfold run_B.sl.r_275; rw [hr_265, hr_271, hr_272, hr_273, hr_274]; try rfl
  have hr_287 : run_B.sl.r_287 c i arg2 arg3 arg5 arg9 arg16 arg38 f0 f1 f3 f7 f14 fs4 = a.sk1a := by unfold run_B.sl.r_287; rw [hr_256, hr_259, hr_275]; try rfl
  have hr_288 : run_B.sl.r_288 c i arg2 arg3 arg5 arg9 arg16 arg38 f0 f1 f3 f7 f14 fs4 = a.sk1b := by unfold run_B.sl.r_288; rw [hr_256, hr_259, hr_275]; try rfl
  have hr_289 : run_B.sl.r_289 c i arg2 arg3 arg5 arg9 arg16 arg38 f0 f1 f3 f7 f14 fs4 = a.sk1c := by unfold run_B.sl.r_289; rw [hr_256, hr_259, hr_275]; try rfl
  have hr_290 : run_B.sl.r_290 c i arg2 arg3 arg5 arg9 arg16 arg38 f0 f1 f3 f7 f14 fs4 = a.sk1d := by unfold run_B.sl.r_290; rw [hr_256, hr_259, hr_275]; try rfl
  have hr_253 : run_B.sl.r_253 c i arg3 arg5 arg16 arg38 f1 f3 f14 fs4 = a.es0 := by unfold run_B.sl.r_253; rw [hr_10, hr_237, hr_241, hr_243]; try rfl
  have hr_282 : run_B.sl.r_282 c i arg2 arg3 arg5 arg9 arg16 arg38 f0 f1 f3 f7 f14 fs4 = a.sk0 := by unfold run_B.sl.r_282; rw [hr_253, hr_255, hr_278]; try rfl
  have hr_291 : run_B.sl.r_291 c i arg2 arg3 arg5 arg9 arg16 arg38 f0 f1 f3 f7 f14 fs4 = k0_pay358 a.sk0 := by unfold run_B.sl.r_291; rw [hr_282]; try rfl
  have hr_292 : run_B.sl.r_292 c i arg2 arg3 arg5 arg9 arg16 arg38 f0 f1 f3 f7 f14 fs4 = k0_pay359 a.sk0 := by unfold run_B.sl.r_292; rw [hr_282]; try rfl
  have hr_293 : run_B.sl.r_293 c i arg2 arg3 arg5 arg9 arg16 arg38 f0 f1 f3 f7 f14 fs4 = k0_pay360 a.sk0 := by unfold run_B.sl.r_293; rw [hr_282]; try rfl
  have hr_294 : run_B.sl.r_294 c i arg2 arg3 arg5 arg9 arg16 arg38 f0 f1 f3 f7 f14 fs4 = k0_pay361 a.sk0 a.sk1a a.sk1b a.sk1c a.sk1d := by unfold run_B.sl.r_294; rw [hr_282, hr_287, hr_288, hr_289, hr_290]; try rfl
  have hr_295 : run_B.sl.r_295 c i arg2 arg3 arg5 arg9 arg16 arg38 f0 f1 f3 f7 f14 fs4 = a.dsk := by unfold run_B.sl.r_295; rw [hr_291, hr_292, hr_293, hr_294]; try rfl
  have hr_250 : run_B.sl.r_250 c i arg3 arg5 f1 f3 = k0_pay296 a.k1 := by unfold run_B.sl.r_250; rw [hr_238]; try rfl
  have hr_257 : run_B.sl.r_257 c i arg3 arg5 arg16 arg38 f1 f3 f14 fs4 = a.r1 := by unfold run_B.sl.r_257; rw [hr_6, hr_10, hr_238, hr_242, hr_244, hr_245, hr_246]; try rfl
  have hr_264 : run_B.sl.r_264 c i arg3 arg5 f1 f3 = k0_pay315 a.v1 := by unfold run_B.sl.r_264; rw [hr_240]; try rfl
  have hr_277 : run_B.sl.r_277 c i arg2 arg3 arg5 arg9 arg16 arg38 f0 f1 f3 f7 f14 fs4 = a.p1 := by unfold run_B.sl.r_277; rw [hr_257, hr_264, hr_271, hr_272, hr_273, hr_274]; try rfl
  have hr_284 : run_B.sl.r_284 c i arg2 arg3 arg5 arg9 arg16 arg38 f0 f1 f3 f7 f14 fs4 = a.dq1 := by unfold run_B.sl.r_284; rw [hr_250, hr_252, hr_259, hr_275, hr_277]; try rfl
  have hr_296 : run_B.sl.r_296 c i arg2 arg3 arg5 arg9 arg16 arg38 f0 f1 f3 f7 f14 fs4 = k0_pay363 a.dq1 := by unfold run_B.sl.r_296; rw [hr_284]; try rfl
  have hr_297 : run_B.sl.r_297 c i arg2 arg3 arg5 arg9 arg16 arg38 f0 f1 f3 f7 f14 fs4 = k0_pay364 a.dq0 := by unfold run_B.sl.r_297; rw [hr_286]; try rfl
  have hr_298 : run_B.sl.r_298 c i arg2 arg3 arg5 arg9 arg16 arg38 f0 f1 f3 f7 f14 fs4 = k0_pay365 a.dq0 (k0_pay363 a.dq1) (k0_pay364 a.dq0) := by unfold run_B.sl.r_298; rw [hr_286, hr_296, hr_297]; try rfl
  have hr_263 : run_B.sl.r_263 c i arg3 arg5 arg16 arg38 f1 f3 f14 fs4 = k0_pay314 a.e1 := by unfold run_B.sl.r_263; rw [hr_252]; try rfl
  have hr_276 : run_B.sl.r_276 c i arg2 arg3 arg5 arg9 arg16 arg38 f0 f1 f3 f7 f14 fs4 = a.dv1 := by unfold run_B.sl.r_276; rw [hr_257, hr_263, hr_271, hr_272, hr_273, hr_274]; try rfl
  have hr_260 : run_B.sl.r_260 c i arg3 arg5 arg16 arg38 f1 f3 f14 fs4 = k0_pay311 a.e0 := by unfold run_B.sl.r_260; rw [hr_251]; try rfl
  have hr_279 : run_B.sl.r_279 c i arg2 arg3 arg5 arg9 arg16 arg38 f0 f1 f3 f7 f14 fs4 = k0_pay341 a.r0 (k0_pay311 a.e0) a.f0 a.f1 a.f2 a.f3 := by unfold run_B.sl.r_279; rw [hr_254, hr_260, hr_267, hr_268, hr_269, hr_270]; try rfl
  have hr_281 : run_B.sl.r_281 c i arg2 arg3 arg5 arg9 arg16 arg38 f0 f1 f3 f7 f14 fs4 = a.dv0 := by unfold run_B.sl.r_281; rw [hr_279]; try rfl
  have hr_249 : run_B.sl.r_249 c arg3 f1 = k0_pay295 a.q1 := by unfold run_B.sl.r_249; rw [hr_242]; try rfl
  have hr_283 : run_B.sl.r_283 c i arg2 arg3 arg5 arg9 arg16 arg38 f0 f1 f3 f7 f14 fs4 = a.dk1 := by unfold run_B.sl.r_283; rw [hr_249, hr_252, hr_259, hr_275, hr_277]; try rfl
  have hr_299 : run_B.sl.r_299 c i arg2 arg3 arg5 arg9 arg16 arg38 f0 f1 f3 f7 f14 fs4 = a.dcur := by unfold run_B.sl.r_299; rw [hr_276, hr_281, hr_283, hr_285]; try rfl
  have hr_300 : run_B.sl.r_300 c i arg2 arg3 arg5 arg9 arg16 arg38 f0 f1 f3 f7 f14 fs4 = k0_pay369 a.dv1 a.dv0 a.dk1 a.dk0 := by unfold run_B.sl.r_300; rw [hr_276, hr_281, hr_283, hr_285]; try rfl
  have hr_266 : run_B.sl.r_266 c i arg2 arg3 arg5 arg9 arg16 arg38 f0 f1 f3 f7 f14 fs4 = k0_pay323 a.ct a.z a.v0 a.v1 a.e0 a.e1 a.r0 a.r1 a.w := by unfold run_B.sl.r_266; rw [hr_11, hr_236, hr_239, hr_240, hr_251, hr_252, hr_254, hr_257]; try rfl
  have hr_301 : run_B.sl.r_301 c i arg2 arg3 arg5 arg9 arg16 arg38 f0 f1 f3 f7 f14 fs4 = a.dz := by unfold run_B.sl.r_301; rw [hr_266]; try rfl
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _
    isplitr
    swap
    · iexists _
      isplitr
      swap
      · iexact H19
      ipureintro; rfl
    ipureintro
    refine ⟨?_, ?_, ?_⟩
    · intro r c
      refine (read_skip _ _ _ _ _ _ _ (Or.inl (by show 1024 + c.val < 5504; omega))).trans ?_
      refine (read_skip _ _ _ _ _ _ _ (Or.inl (by show 1024 + c.val < 5376; omega))).trans ?_
      refine (read_skip _ _ _ _ _ _ _ (Or.inl (by show 1024 + c.val < 3072; omega))).trans ?_
      refine (read_skip _ _ _ _ _ _ _ (Or.inr (by show 0 + 1024 ≤ 1024 + c.val; omega))).trans ?_
      refine (read_skip _ _ _ _ _ _ _ (Or.inl (by show 1024 + c.val < 5120; omega))).trans ?_
      refine (read_skip _ _ _ _ _ _ _ (Or.inl (by show 1024 + c.val < 4608; omega))).trans ?_
      refine (read_hit _ _ _ _ _ _ _ c rfl).trans ?_
      exact congrFun hr_301 _
    · intro r c
      refine (read_skip _ _ _ _ _ _ _ (Or.inl (by show 4608 + c.val < 5504; omega))).trans ?_
      refine (read_skip _ _ _ _ _ _ _ (Or.inl (by show 4608 + c.val < 5376; omega))).trans ?_
      refine (read_skip _ _ _ _ _ _ _ (Or.inr (by show 3072 + 1536 ≤ 4608 + c.val; omega))).trans ?_
      refine (read_skip _ _ _ _ _ _ _ (Or.inr (by show 0 + 1024 ≤ 4608 + c.val; omega))).trans ?_
      refine (read_skip _ _ _ _ _ _ _ (Or.inl (by show 4608 + c.val < 5120; omega))).trans ?_
      refine (read_hit _ _ _ _ _ _ _ c rfl).trans ?_
      exact congrFun (congrArg k0_pay371 hr_298) _
    · intro r c
      refine (read_skip _ _ _ _ _ _ _ (Or.inl (by show 5120 + c.val < 5504; omega))).trans ?_
      refine (read_skip _ _ _ _ _ _ _ (Or.inl (by show 5120 + c.val < 5376; omega))).trans ?_
      refine (read_skip _ _ _ _ _ _ _ (Or.inr (by show 3072 + 1536 ≤ 5120 + c.val; omega))).trans ?_
      refine (read_skip _ _ _ _ _ _ _ (Or.inr (by show 0 + 1024 ≤ 5120 + c.val; omega))).trans ?_
      refine (read_hit _ _ _ _ _ _ _ c rfl).trans ?_
      exact congrFun (congr (congrArg k0_pay372 hr_299) (View.ld_unit_zero (funext off_zero) _ _)) _
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _
    isplitr
    swap
    · iexists _
      isplitr
      swap
      · iexact H27
      ipureintro; rfl
    ipureintro
    refine (read_full _ _ off_zero _ _ _).trans ?_
    exact congr (congrArg k0_pay374 hr_295) (View.ld_unit_zero (funext off_zero) _ _)
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [HS0]
  · iexists _, _; isplitr; swap; · iexact HS0
    ipureintro; rfl
  isplitl [HS1]
  · iexists _, _; isplitr; swap; · iexact HS1
    ipureintro; rfl
  isplitl [HS2]
  · iexists _
    isplitr
    swap
    · iexists _
      isplitr
      swap
      · iexact HS2
      ipureintro; rfl
    ipureintro
    refine (read_full _ _ off_zero _ _ _).trans ?_
    exact congrArg k0_pay373 hr_300
  isplitl [HS3]
  · iexists _, _; isplitr; swap; · iexact HS3
    ipureintro; rfl
  iexists _; isplitr; swap; · iexact HS4
  ipureintro; rfl

end Cert.Attn

end
-- ==== Proof.RunC.lean ====
module

public import proofs.«01_k».proof.Proof.Chain

@[expose] public section

set_option maxRecDepth 16384

noncomputable section

/-! # The body at the first point of the second sequence

One run of the whole body, from the staging buffers at known contents, to what the attention part of the backward pass leaves: the columns of `dproj`
that belong to it, the running sum for the gradient of the sinks, and the two buffers that later points read.  Of everything else that the body
stores it is only said that it is stored. -/

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 8000000 in
/-- The body at the first point of the second sequence: the run. -/
theorem run_C (c : Dev nD) (i : grid0.Coords)
    (arg2 : Memref sig .tc .vmem S128x1024 .f32) (harg2 : arg2.IsWhole) (arg3 : Memref sig .tc .vmem S128x5632 .f32) (harg3 : arg3.IsWhole)
    (arg4 : Memref sig .tc .vmem S8x1536 .f32) (harg4 : arg4.IsWhole) (arg5 : Memref sig .tc .vmem S128x256 .f32) (harg5 : arg5.IsWhole)
    (arg6 : Memref sig .tc .vmem S32x1024 .f32) (harg6 : arg6.IsWhole) (arg7 : Memref sig .tc .vmem S1x1024x128 .f32) (harg7 : arg7.IsWhole)
    (arg8 : Memref sig .tc .vmem S128x512 .f32) (harg8 : arg8.IsWhole) (arg9 : Memref sig .tc .vmem S2048x1024 .bf16) (harg9 : arg9.IsWhole)
    (arg10 : Memref sig .tc .vmem S4x1536 .f32) (harg10 : arg10.IsWhole) (arg11 : Memref sig .tc .vmem S1x1536 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x128 .f32) (harg14 : arg14.IsWhole) (arg15 : Memref sig .tc .vmem S1x1024 .f32) (harg15 : arg15.IsWhole)
    (arg16 : Memref sig .tc .vmem S1x128 .f32) (harg16 : arg16.IsWhole) (arg17 : Memref sig .tc .vmem S31x512 .f32) (harg17 : arg17.IsWhole)
    (arg18 : Memref sig .tc .vmem S1x512 .f32) (harg18 : arg18.IsWhole) (arg19 : Memref sig .tc .vmem S1x512 .f32) (harg19 : arg19.IsWhole)
    (arg20 : Memref sig .tc .vmem S1x512 .f32) (harg20 : arg20.IsWhole) (arg21 : Memref sig .tc .vmem S128x5632 .bf16) (harg21 : arg21.IsWhole)
    (arg22 : Memref sig .tc .vmem S128x2048 .bf16) (harg22 : arg22.IsWhole) (arg23 : Memref sig .tc .vmem S4x1536 .f32) (harg23 : arg23.IsWhole)
    (arg24 : Memref sig .tc .vmem S1x1536 .f32) (harg24 : arg24.IsWhole) (arg25 : Memref sig .tc .vmem S1x128 .f32) (harg25 : arg25.IsWhole)
    (arg26 : Memref sig .tc .vmem S1x128 .f32) (harg26 : arg26.IsWhole) (arg27 : Memref sig .tc .vmem S1x128 .f32) (harg27 : arg27.IsWhole)
    (arg28 : Memref sig .tc .vmem S1x1024 .f32) (harg28 : arg28.IsWhole) (arg29 : Memref sig .tc .vmem S1x128 .f32) (harg29 : arg29.IsWhole)
    (arg30 : Memref sig .tc .vmem S31x512 .f32) (harg30 : arg30.IsWhole) (arg31 : Memref sig .tc .vmem S1x512 .f32) (harg31 : arg31.IsWhole)
    (arg32 : Memref sig .tc .vmem S1x512 .f32) (harg32 : arg32.IsWhole) (arg33 : Memref sig .tc .vmem S1x512 .f32) (harg33 : arg33.IsWhole)
    (arg34 : Memref sig .tc .vmem S1024x128 .f32) (harg34 : arg34.IsWhole) (arg35 : Memref sig .tc .vmem S8x1536 .f32) (harg35 : arg35.IsWhole)
    (arg36 : Memref sig .tc .vmem S128x256 .f32) (harg36 : arg36.IsWhole) (arg37 : Memref sig .tc .vmem S32x1024 .f32) (harg37 : arg37.IsWhole)
    (arg38 : Memref sig .tc .vmem S2x512x256 .f32) (harg38 : arg38.IsWhole)
    (hc0 : ¬cond0_0 i) (hc1 : ¬cond0_1 i) (hc2 : cond0_2 i)
    (x0 : Vec F S128x1024 .f32) (x1 : Vec F S128x5632 .f32) (x2 : Vec F S8x1536 .f32) (x3 : Vec F S128x256 .f32) (x4 : Vec F S32x1024 .f32)
    (x5 : Vec F S1x1024x128 .f32) (x6 : Vec F S128x512 .f32) (x7 : Vec F S2048x1024 .bf16) (x8 : Vec F S4x1536 .f32) (x9 : Vec F S1x1536 .f32)
    (x10 : Vec F S1x128 .f32) (x11 : Vec F S1x128 .f32) (x12 : Vec F S1x128 .f32) (x13 : Vec F S1x1024 .f32) (x14 : Vec F S1x128 .f32)
    (x15 : Vec F S31x512 .f32) (x16 : Vec F S1x512 .f32) (x17 : Vec F S1x512 .f32) (x18 : Vec F S1x512 .f32)
    (bias : Vec F S2x512x256 .f32) (acc : Vec F S1x128 .f32)
    (E : Set ℕ) (K : PUnit → sProp 𝕄) :
    iprop(
        owns (c : Thread nD τ) arg2 fullShare x0 ∗ owns (c : Thread nD τ) arg3 fullShare x1 ∗ owns (c : Thread nD τ) arg4 fullShare x2 ∗
        owns (c : Thread nD τ) arg5 fullShare x3 ∗ owns (c : Thread nD τ) arg6 fullShare x4 ∗ owns (c : Thread nD τ) arg7 fullShare x5 ∗
        owns (c : Thread nD τ) arg8 fullShare x6 ∗ owns (c : Thread nD τ) arg9 fullShare x7 ∗ owns (c : Thread nD τ) arg10 fullShare x8 ∗
        owns (c : Thread nD τ) arg11 fullShare x9 ∗ owns (c : Thread nD τ) arg12 fullShare x10 ∗ owns (c : Thread nD τ) arg13 fullShare x11 ∗
        owns (c : Thread nD τ) arg14 fullShare x12 ∗ owns (c : Thread nD τ) arg15 fullShare x13 ∗ owns (c : Thread nD τ) arg16 fullShare x14 ∗
        owns (c : Thread nD τ) arg17 fullShare x15 ∗ owns (c : Thread nD τ) arg18 fullShare x16 ∗ owns (c : Thread nD τ) arg19 fullShare x17 ∗
        owns (c : Thread nD τ) arg20 fullShare x18 ∗ (∃ d, owns (c : Thread nD τ) arg21 fullShare d) ∗
        (∃ d, owns (c : Thread nD τ) arg22 fullShare d) ∗ (∃ d, owns (c : Thread nD τ) arg23 fullShare d) ∗
        (∃ d, owns (c : Thread nD τ) arg24 fullShare d) ∗ (∃ d, owns (c : Thread nD τ) arg25 fullShare d) ∗
        (∃ d, owns (c : Thread nD τ) arg26 fullShare d) ∗ (∃ d, owns (c : Thread nD τ) arg27 fullShare d) ∗
        (∃ d, owns (c : Thread nD τ) arg28 fullShare d) ∗ owns (c : Thread nD τ) arg29 fullShare acc ∗
        (∃ d, owns (c : Thread nD τ) arg30 fullShare d) ∗ (∃ d, owns (c : Thread nD τ) arg31 fullShare d) ∗
        (∃ d, owns (c : Thread nD τ) arg32 fullShare d) ∗ (∃ d, owns (c : Thread nD τ) arg33 fullShare d) ∗
        (∃ d, owns (c : Thread nD τ) arg34 fullShare d) ∗ (∃ d, owns (c : Thread nD τ) arg35 fullShare d) ∗
        (∃ d, owns (c : Thread nD τ) arg36 fullShare d) ∗ (∃ d, owns (c : Thread nD τ) arg37 fullShare d) ∗
        owns (c : Thread nD τ) arg38 fullShare bias
        ∗ (iprop(
          owns (c : Thread nD τ) arg2 fullShare x0 ∗ owns (c : Thread nD τ) arg3 fullShare x1 ∗ owns (c : Thread nD τ) arg4 fullShare x2 ∗
          owns (c : Thread nD τ) arg5 fullShare x3 ∗ owns (c : Thread nD τ) arg6 fullShare x4 ∗ owns (c : Thread nD τ) arg7 fullShare x5 ∗
          owns (c : Thread nD τ) arg8 fullShare x6 ∗ owns (c : Thread nD τ) arg9 fullShare x7 ∗ owns (c : Thread nD τ) arg10 fullShare x8 ∗
          owns (c : Thread nD τ) arg11 fullShare x9 ∗ owns (c : Thread nD τ) arg12 fullShare x10 ∗ owns (c : Thread nD τ) arg13 fullShare x11 ∗
          owns (c : Thread nD τ) arg14 fullShare x12 ∗ owns (c : Thread nD τ) arg15 fullShare x13 ∗ owns (c : Thread nD τ) arg16 fullShare x14 ∗
          owns (c : Thread nD τ) arg17 fullShare x15 ∗ owns (c : Thread nD τ) arg18 fullShare x16 ∗ owns (c : Thread nD τ) arg19 fullShare x17 ∗
          owns (c : Thread nD τ) arg20 fullShare x18 ∗
          (∃ d, ⌜Cols (tileIn i x0 x1 x3 x7 x14 bias) k0_pay20 d⌝ ∗ owns (c : Thread nD τ) arg21 fullShare d) ∗
          (∃ d, owns (c : Thread nD τ) arg22 fullShare d) ∗ (∃ d, owns (c : Thread nD τ) arg23 fullShare d) ∗
          (∃ d, owns (c : Thread nD τ) arg24 fullShare d) ∗ (∃ d, owns (c : Thread nD τ) arg25 fullShare d) ∗
          (∃ d, owns (c : Thread nD τ) arg26 fullShare d) ∗ (∃ d, owns (c : Thread nD τ) arg27 fullShare d) ∗
          (∃ d, owns (c : Thread nD τ) arg28 fullShare d) ∗
          (∃ d, ⌜d = (tileIn i x0 x1 x3 x7 x14 bias).acc acc⌝ ∗ owns (c : Thread nD τ) arg29 fullShare d) ∗
          (∃ d, owns (c : Thread nD τ) arg30 fullShare d) ∗ (∃ d, owns (c : Thread nD τ) arg31 fullShare d) ∗
          (∃ d, owns (c : Thread nD τ) arg32 fullShare d) ∗ (∃ d, owns (c : Thread nD τ) arg33 fullShare d) ∗
          (∃ d, owns (c : Thread nD τ) arg34 fullShare d) ∗ (∃ d, owns (c : Thread nD τ) arg35 fullShare d) ∗
          (∃ d, ⌜d = (tileIn i x0 x1 x3 x7 x14 bias).pend⌝ ∗ owns (c : Thread nD τ) arg36 fullShare d) ∗
          (∃ d, owns (c : Thread nD τ) arg37 fullShare d) ∗ owns (c : Thread nD τ) arg38 fullShare bias) -∗ K ⟨⟩))
      ⊢ wp frame (wpE (defs₀ (F := F)) Variants.none c none) E
        (cc0_mixer_bwd_0 i
          arg2 harg2 arg3 harg3 arg4 harg4 arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg21 harg21 arg22 harg22 arg23 harg23 arg24
          harg24 arg25 harg25 arg26 harg26 arg27 harg27 arg28 harg28 arg29 harg29 arg30 harg30 arg31 harg31 arg32 harg32 arg33 harg33 arg34 harg34
          arg35 harg35 arg36 harg36 arg37 harg37 arg38 harg38) K := by
  simp only [cc0_mixer_bwd_0_eq_skeleton]; unfold cc0_mixer_bwd_0_skel
  simp only [
    k0_part98_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton, k0_part66_eq_skeleton,
    k0_part67_eq_skeleton, k0_part68_eq_skeleton, k0_part69_eq_skeleton, k0_part70_eq_skeleton, k0_part71_eq_skeleton, k0_part72_eq_skeleton,
    k0_part73_eq_skeleton, k0_part74_eq_skeleton, k0_part75_eq_skeleton, k0_part76_eq_skeleton, k0_part77_eq_skeleton, k0_part78_eq_skeleton,
    k0_part79_eq_skeleton, k0_part80_eq_skeleton, k0_part81_eq_skeleton, k0_part82_eq_skeleton, k0_part83_eq_skeleton, k0_part84_eq_skeleton,
    k0_part85_eq_skeleton, k0_part86_eq_skeleton, k0_part87_eq_skeleton, k0_part88_eq_skeleton, k0_part89_eq_skeleton, k0_part90_eq_skeleton,
    k0_part91_eq_skeleton, k0_part92_eq_skeleton, k0_part93_eq_skeleton, k0_part94_eq_skeleton, k0_part95_eq_skeleton, k0_part96_eq_skeleton,
    k0_part97_eq_skeleton]
  unfold owns
  iintro ⟨
    ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩,
    ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩,
    ⟨%d22, %f22, -, H22⟩, ⟨%d23, %f23, -, H23⟩, ⟨%d24, %f24, -, H24⟩, ⟨%d25, %f25, -, H25⟩, ⟨%d26, %f26, -, H26⟩, ⟨%f27, %hf27, H27⟩,
    ⟨%d28, %f28, -, H28⟩, ⟨%d29, %f29, -, H29⟩, ⟨%d30, %f30, -, H30⟩, ⟨%d31, %f31, -, H31⟩, ⟨%ds0, %fs0, -, HS0⟩, ⟨%ds1, %fs1, -, HS1⟩,
    ⟨%ds2, %fs2, -, HS2⟩, ⟨%ds3, %fs3, -, HS3⟩, ⟨%fs4, %hfs4, HS4⟩, Hk⟩
  subst hf0; subst hf1; subst hf2; subst hf3; subst hf4; subst hf5; subst hf6; subst hf7; subst hf8; subst hf9; subst hf10; subst hf11; subst hf12;
  subst hf13; subst hf14; subst hf15; subst hf16; subst hf17; subst hf18; subst hf27; subst hfs4
  sl_exec (disch := first | sl_exact hc0 | sl_exact hc1 | sl_exact hc2)
  sl_step
  let a : In F := tileIn i (arg2.view.read (Elt F) f0) (arg3.view.read (Elt F) f1) (arg5.view.read (Elt F) f3) (arg9.view.read (Elt F) f7) (arg16.view.read (Elt F) f14) (arg38.view.read (Elt F) fs4)
  have hr_241 : run_C.sl.r_241 c arg3 f1 = a.q0 := by rfl
  have hr_247 : run_C.sl.r_247 c arg3 f1 = k0_pay292 a.q0 := by unfold run_C.sl.r_247; rw [hr_241]; try rfl
  have hr_10 : run_C.sl.r_10 c i arg38 fs4 = a.bias := by rfl
  have hr_237 : run_C.sl.r_237 c i arg3 arg5 f1 f3 = a.k0 := by rfl
  have hr_6 : run_C.sl.r_6 c arg16 f14 = a.sk := by rfl
  have hr_243 : run_C.sl.r_243 c arg16 f14 = a.s0 := by unfold run_C.sl.r_243; rw [hr_6]; try rfl
  have hr_251 : run_C.sl.r_251 c i arg3 arg5 arg16 arg38 f1 f3 f14 fs4 = a.e0 := by unfold run_C.sl.r_251; rw [hr_10, hr_237, hr_241, hr_243]; try rfl
  have hr_255 : run_C.sl.r_255 c i arg3 arg5 arg16 arg38 f1 f3 f14 fs4 = a.rr0 := by unfold run_C.sl.r_255; rw [hr_10, hr_237, hr_241, hr_243]; try rfl
  have hr_239 : run_C.sl.r_239 c i arg3 arg5 f1 f3 = a.v0 := by rfl
  have hr_262 : run_C.sl.r_262 c i arg3 arg5 arg16 arg38 f1 f3 f14 fs4 = a.o0 := by unfold run_C.sl.r_262; rw [hr_239, hr_251]; try rfl
  have hr_11 : run_C.sl.r_11 c arg2 f0 = a.ct := by rfl
  have hr_236 : run_C.sl.r_236 c arg3 f1 = a.z := by rfl
  have hr_267 : run_C.sl.r_267 c arg2 arg3 arg9 f0 f1 f7 = a.f0 := by unfold run_C.sl.r_267; rw [hr_11, hr_236]; try rfl
  have hr_268 : run_C.sl.r_268 c arg2 arg3 arg9 f0 f1 f7 = a.f1 := by unfold run_C.sl.r_268; rw [hr_11, hr_236]; try rfl
  have hr_269 : run_C.sl.r_269 c arg2 arg3 arg9 f0 f1 f7 = a.f2 := by unfold run_C.sl.r_269; rw [hr_11, hr_236]; try rfl
  have hr_270 : run_C.sl.r_270 c arg2 arg3 arg9 f0 f1 f7 = a.f3 := by unfold run_C.sl.r_270; rw [hr_11, hr_236]; try rfl
  have hr_278 : run_C.sl.r_278 c i arg2 arg3 arg5 arg9 arg16 arg38 f0 f1 f3 f7 f14 fs4 = a.g0 := by unfold run_C.sl.r_278; rw [hr_262, hr_267, hr_268, hr_269, hr_270]; try rfl
  have hr_254 : run_C.sl.r_254 c i arg3 arg5 arg16 arg38 f1 f3 f14 fs4 = a.r0 := by unfold run_C.sl.r_254; rw [hr_10, hr_237, hr_241, hr_243]; try rfl
  have hr_261 : run_C.sl.r_261 c i arg3 arg5 f1 f3 = k0_pay312 a.v0 := by unfold run_C.sl.r_261; rw [hr_239]; try rfl
  have hr_280 : run_C.sl.r_280 c i arg2 arg3 arg5 arg9 arg16 arg38 f0 f1 f3 f7 f14 fs4 = a.p0 := by unfold run_C.sl.r_280; rw [hr_254, hr_261, hr_267, hr_268, hr_269, hr_270]; try rfl
  have hr_285 : run_C.sl.r_285 c i arg2 arg3 arg5 arg9 arg16 arg38 f0 f1 f3 f7 f14 fs4 = a.dk0 := by unfold run_C.sl.r_285; rw [hr_247, hr_251, hr_255, hr_278, hr_280]; try rfl
  have hr_248 : run_C.sl.r_248 c i arg3 arg5 f1 f3 = k0_pay293 a.k0 := by unfold run_C.sl.r_248; rw [hr_237]; try rfl
  have hr_286 : run_C.sl.r_286 c i arg2 arg3 arg5 arg9 arg16 arg38 f0 f1 f3 f7 f14 fs4 = a.dq0 := by unfold run_C.sl.r_286; rw [hr_248, hr_251, hr_255, hr_278, hr_280]; try rfl
  have hr_238 : run_C.sl.r_238 c i arg3 arg5 f1 f3 = a.k1 := by rfl
  have hr_242 : run_C.sl.r_242 c arg3 f1 = a.q1 := by rfl
  have hr_244 : run_C.sl.r_244 c arg16 f14 = a.s1a := by unfold run_C.sl.r_244; rw [hr_6]; try rfl
  have hr_245 : run_C.sl.r_245 c arg16 f14 = a.s1b := by unfold run_C.sl.r_245; rw [hr_6]; try rfl
  have hr_246 : run_C.sl.r_246 c arg16 f14 = a.s1c := by unfold run_C.sl.r_246; rw [hr_6]; try rfl
  have hr_256 : run_C.sl.r_256 c i arg3 arg5 arg16 arg38 f1 f3 f14 fs4 = a.es1 := by unfold run_C.sl.r_256; rw [hr_6, hr_10, hr_238, hr_242, hr_244, hr_245, hr_246]; try rfl
  have hr_258 : run_C.sl.r_258 c i arg3 arg5 arg16 arg38 f1 f3 f14 fs4 = k0_pay309 a.sk a.bias a.k1 a.q1 a.s1a a.s1b a.s1c := by unfold run_C.sl.r_258; rw [hr_6, hr_10, hr_238, hr_242, hr_244, hr_245, hr_246]; try rfl
  have hr_259 : run_C.sl.r_259 c i arg3 arg5 arg16 arg38 f1 f3 f14 fs4 = a.rr1 := by unfold run_C.sl.r_259; rw [hr_258]; try rfl
  have hr_240 : run_C.sl.r_240 c i arg3 arg5 f1 f3 = a.v1 := by rfl
  have hr_252 : run_C.sl.r_252 c i arg3 arg5 arg16 arg38 f1 f3 f14 fs4 = a.e1 := by unfold run_C.sl.r_252; rw [hr_6, hr_10, hr_238, hr_242, hr_244, hr_245, hr_246]; try rfl
  have hr_265 : run_C.sl.r_265 c i arg3 arg5 arg16 arg38 f1 f3 f14 fs4 = a.o1 := by unfold run_C.sl.r_265; rw [hr_240, hr_252]; try rfl
  have hr_271 : run_C.sl.r_271 c arg2 arg3 arg9 f0 f1 f7 = a.f4 := by unfold run_C.sl.r_271; rw [hr_11, hr_236]; try rfl
  have hr_272 : run_C.sl.r_272 c arg2 arg3 arg9 f0 f1 f7 = a.f5 := by unfold run_C.sl.r_272; rw [hr_11, hr_236]; try rfl
  have hr_273 : run_C.sl.r_273 c arg2 arg3 arg9 f0 f1 f7 = a.f6 := by unfold run_C.sl.r_273; rw [hr_11, hr_236]; try rfl
  have hr_274 : run_C.sl.r_274 c arg2 arg3 arg9 f0 f1 f7 = a.f7 := by unfold run_C.sl.r_274; rw [hr_11, hr_236]; try rfl
  have hr_275 : run_C.sl.r_275 c i arg2 arg3 arg5 arg9 arg16 arg38 f0 f1 f3 f7 f14 fs4 = a.g1 := by unfold run_C.sl.r_275; rw [hr_265, hr_271, hr_272, hr_273, hr_274]; try rfl
  have hr_287 : run_C.sl.r_287 c i arg2 arg3 arg5 arg9 arg16 arg38 f0 f1 f3 f7 f14 fs4 = a.sk1a := by unfold run_C.sl.r_287; rw [hr_256, hr_259, hr_275]; try rfl
  have hr_288 : run_C.sl.r_288 c i arg2 arg3 arg5 arg9 arg16 arg38 f0 f1 f3 f7 f14 fs4 = a.sk1b := by unfold run_C.sl.r_288; rw [hr_256, hr_259, hr_275]; try rfl
  have hr_289 : run_C.sl.r_289 c i arg2 arg3 arg5 arg9 arg16 arg38 f0 f1 f3 f7 f14 fs4 = a.sk1c := by unfold run_C.sl.r_289; rw [hr_256, hr_259, hr_275]; try rfl
  have hr_290 : run_C.sl.r_290 c i arg2 arg3 arg5 arg9 arg16 arg38 f0 f1 f3 f7 f14 fs4 = a.sk1d := by unfold run_C.sl.r_290; rw [hr_256, hr_259, hr_275]; try rfl
  have hr_253 : run_C.sl.r_253 c i arg3 arg5 arg16 arg38 f1 f3 f14 fs4 = a.es0 := by unfold run_C.sl.r_253; rw [hr_10, hr_237, hr_241, hr_243]; try rfl
  have hr_282 : run_C.sl.r_282 c i arg2 arg3 arg5 arg9 arg16 arg38 f0 f1 f3 f7 f14 fs4 = a.sk0 := by unfold run_C.sl.r_282; rw [hr_253, hr_255, hr_278]; try rfl
  have hr_291 : run_C.sl.r_291 c i arg2 arg3 arg5 arg9 arg16 arg38 f0 f1 f3 f7 f14 fs4 = k0_pay358 a.sk0 := by unfold run_C.sl.r_291; rw [hr_282]; try rfl
  have hr_292 : run_C.sl.r_292 c i arg2 arg3 arg5 arg9 arg16 arg38 f0 f1 f3 f7 f14 fs4 = k0_pay359 a.sk0 := by unfold run_C.sl.r_292; rw [hr_282]; try rfl
  have hr_293 : run_C.sl.r_293 c i arg2 arg3 arg5 arg9 arg16 arg38 f0 f1 f3 f7 f14 fs4 = k0_pay360 a.sk0 := by unfold run_C.sl.r_293; rw [hr_282]; try rfl
  have hr_294 : run_C.sl.r_294 c i arg2 arg3 arg5 arg9 arg16 arg38 f0 f1 f3 f7 f14 fs4 = k0_pay361 a.sk0 a.sk1a a.sk1b a.sk1c a.sk1d := by unfold run_C.sl.r_294; rw [hr_282, hr_287, hr_288, hr_289, hr_290]; try rfl
  have hr_295 : run_C.sl.r_295 c i arg2 arg3 arg5 arg9 arg16 arg38 f0 f1 f3 f7 f14 fs4 = a.dsk := by unfold run_C.sl.r_295; rw [hr_291, hr_292, hr_293, hr_294]; try rfl
  have hr_250 : run_C.sl.r_250 c i arg3 arg5 f1 f3 = k0_pay296 a.k1 := by unfold run_C.sl.r_250; rw [hr_238]; try rfl
  have hr_257 : run_C.sl.r_257 c i arg3 arg5 arg16 arg38 f1 f3 f14 fs4 = a.r1 := by unfold run_C.sl.r_257; rw [hr_6, hr_10, hr_238, hr_242, hr_244, hr_245, hr_246]; try rfl
  have hr_264 : run_C.sl.r_264 c i arg3 arg5 f1 f3 = k0_pay315 a.v1 := by unfold run_C.sl.r_264; rw [hr_240]; try rfl
  have hr_277 : run_C.sl.r_277 c i arg2 arg3 arg5 arg9 arg16 arg38 f0 f1 f3 f7 f14 fs4 = a.p1 := by unfold run_C.sl.r_277; rw [hr_257, hr_264, hr_271, hr_272, hr_273, hr_274]; try rfl
  have hr_284 : run_C.sl.r_284 c i arg2 arg3 arg5 arg9 arg16 arg38 f0 f1 f3 f7 f14 fs4 = a.dq1 := by unfold run_C.sl.r_284; rw [hr_250, hr_252, hr_259, hr_275, hr_277]; try rfl
  have hr_296 : run_C.sl.r_296 c i arg2 arg3 arg5 arg9 arg16 arg38 f0 f1 f3 f7 f14 fs4 = k0_pay363 a.dq1 := by unfold run_C.sl.r_296; rw [hr_284]; try rfl
  have hr_297 : run_C.sl.r_297 c i arg2 arg3 arg5 arg9 arg16 arg38 f0 f1 f3 f7 f14 fs4 = k0_pay364 a.dq0 := by unfold run_C.sl.r_297; rw [hr_286]; try rfl
  have hr_298 : run_C.sl.r_298 c i arg2 arg3 arg5 arg9 arg16 arg38 f0 f1 f3 f7 f14 fs4 = k0_pay365 a.dq0 (k0_pay363 a.dq1) (k0_pay364 a.dq0) := by unfold run_C.sl.r_298; rw [hr_286, hr_296, hr_297]; try rfl
  have hr_263 : run_C.sl.r_263 c i arg3 arg5 arg16 arg38 f1 f3 f14 fs4 = k0_pay314 a.e1 := by unfold run_C.sl.r_263; rw [hr_252]; try rfl
  have hr_276 : run_C.sl.r_276 c i arg2 arg3 arg5 arg9 arg16 arg38 f0 f1 f3 f7 f14 fs4 = a.dv1 := by unfold run_C.sl.r_276; rw [hr_257, hr_263, hr_271, hr_272, hr_273, hr_274]; try rfl
  have hr_260 : run_C.sl.r_260 c i arg3 arg5 arg16 arg38 f1 f3 f14 fs4 = k0_pay311 a.e0 := by unfold run_C.sl.r_260; rw [hr_251]; try rfl
  have hr_279 : run_C.sl.r_279 c i arg2 arg3 arg5 arg9 arg16 arg38 f0 f1 f3 f7 f14 fs4 = k0_pay341 a.r0 (k0_pay311 a.e0) a.f0 a.f1 a.f2 a.f3 := by unfold run_C.sl.r_279; rw [hr_254, hr_260, hr_267, hr_268, hr_269, hr_270]; try rfl
  have hr_281 : run_C.sl.r_281 c i arg2 arg3 arg5 arg9 arg16 arg38 f0 f1 f3 f7 f14 fs4 = a.dv0 := by unfold run_C.sl.r_281; rw [hr_279]; try rfl
  have hr_249 : run_C.sl.r_249 c arg3 f1 = k0_pay295 a.q1 := by unfold run_C.sl.r_249; rw [hr_242]; try rfl
  have hr_283 : run_C.sl.r_283 c i arg2 arg3 arg5 arg9 arg16 arg38 f0 f1 f3 f7 f14 fs4 = a.dk1 := by unfold run_C.sl.r_283; rw [hr_249, hr_252, hr_259, hr_275, hr_277]; try rfl
  have hr_299 : run_C.sl.r_299 c i arg2 arg3 arg5 arg9 arg16 arg38 f0 f1 f3 f7 f14 fs4 = a.dcur := by unfold run_C.sl.r_299; rw [hr_276, hr_281, hr_283, hr_285]; try rfl
  have hr_300 : run_C.sl.r_300 c i arg2 arg3 arg5 arg9 arg16 arg38 f0 f1 f3 f7 f14 fs4 = k0_pay369 a.dv1 a.dv0 a.dk1 a.dk0 := by unfold run_C.sl.r_300; rw [hr_276, hr_281, hr_283, hr_285]; try rfl
  have hr_266 : run_C.sl.r_266 c i arg2 arg3 arg5 arg9 arg16 arg38 f0 f1 f3 f7 f14 fs4 = k0_pay323 a.ct a.z a.v0 a.v1 a.e0 a.e1 a.r0 a.r1 a.w := by unfold run_C.sl.r_266; rw [hr_11, hr_236, hr_239, hr_240, hr_251, hr_252, hr_254, hr_257]; try rfl
  have hr_301 : run_C.sl.r_301 c i arg2 arg3 arg5 arg9 arg16 arg38 f0 f1 f3 f7 f14 fs4 = a.dz := by unfold run_C.sl.r_301; rw [hr_266]; try rfl
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _
    isplitr
    swap
    · iexists _
      isplitr
      swap
      · iexact H19
      ipureintro; rfl
    ipureintro
    refine ⟨?_, ?_, ?_⟩
    · intro r c
      refine (read_skip _ _ _ _ _ _ _ (Or.inl (by show 1024 + c.val < 5504; omega))).trans ?_
      refine (read_skip _ _ _ _ _ _ _ (Or.inl (by show 1024 + c.val < 5376; omega))).trans ?_
      refine (read_skip _ _ _ _ _ _ _ (Or.inl (by show 1024 + c.val < 3072; omega))).trans ?_
      refine (read_skip _ _ _ _ _ _ _ (Or.inr (by show 0 + 1024 ≤ 1024 + c.val; omega))).trans ?_
      refine (read_skip _ _ _ _ _ _ _ (Or.inl (by show 1024 + c.val < 5120; omega))).trans ?_
      refine (read_skip _ _ _ _ _ _ _ (Or.inl (by show 1024 + c.val < 4608; omega))).trans ?_
      refine (read_hit _ _ _ _ _ _ _ c rfl).trans ?_
      exact congrFun hr_301 _
    · intro r c
      refine (read_skip _ _ _ _ _ _ _ (Or.inl (by show 4608 + c.val < 5504; omega))).trans ?_
      refine (read_skip _ _ _ _ _ _ _ (Or.inl (by show 4608 + c.val < 5376; omega))).trans ?_
      refine (read_skip _ _ _ _ _ _ _ (Or.inr (by show 3072 + 1536 ≤ 4608 + c.val; omega))).trans ?_
      refine (read_skip _ _ _ _ _ _ _ (Or.inr (by show 0 + 1024 ≤ 4608 + c.val; omega))).trans ?_
      refine (read_skip _ _ _ _ _ _ _ (Or.inl (by show 4608 + c.val < 5120; omega))).trans ?_
      refine (read_hit _ _ _ _ _ _ _ c rfl).trans ?_
      exact congrFun (congrArg k0_pay371 hr_298) _
    · intro r c
      refine (read_skip _ _ _ _ _ _ _ (Or.inl (by show 5120 + c.val < 5504; omega))).trans ?_
      refine (read_skip _ _ _ _ _ _ _ (Or.inl (by show 5120 + c.val < 5376; omega))).trans ?_
      refine (read_skip _ _ _ _ _ _ _ (Or.inr (by show 3072 + 1536 ≤ 5120 + c.val; omega))).trans ?_
      refine (read_skip _ _ _ _ _ _ _ (Or.inr (by show 0 + 1024 ≤ 5120 + c.val; omega))).trans ?_
      refine (read_hit _ _ _ _ _ _ _ c rfl).trans ?_
      exact congrFun (congr (congrArg k0_pay372 hr_299) (View.readCov_cons_toLoadRect _ _ _ _)) _
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _
    isplitr
    swap
    · iexists _
      isplitr
      swap
      · iexact H27
      ipureintro; rfl
    ipureintro
    refine (read_full _ _ off_zero _ _ _).trans ?_
    exact congr (congrArg k0_pay374 hr_295) (View.ld_unit_zero (funext off_zero) _ _)
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [HS0]
  · iexists _, _; isplitr; swap; · iexact HS0
    ipureintro; rfl
  isplitl [HS1]
  · iexists _, _; isplitr; swap; · iexact HS1
    ipureintro; rfl
  isplitl [HS2]
  · iexists _
    isplitr
    swap
    · iexists _
      isplitr
      swap
      · iexact HS2
      ipureintro; rfl
    ipureintro
    refine (read_full _ _ off_zero _ _ _).trans ?_
    exact congrArg k0_pay373 hr_300
  isplitl [HS3]
  · iexists _, _; isplitr; swap; · iexact HS3
    ipureintro; rfl
  iexists _; isplitr; swap; · iexact HS4
  ipureintro; rfl

end Cert.Attn

end
-- ==== Proof.Body.lean ====
module

public import proofs.«01_k».proof.Proof.Data
public import proofs.«01_k».proof.Proof.RunA
public import proofs.«01_k».proof.Proof.RunB
public import proofs.«01_k».proof.Proof.RunC

@[expose] public section

set_option maxRecDepth 16384

noncomputable section

/-! # The body at every point

The three runs of the body put together: at any point, from what the windows hold and what the point before left, to what the launch's data says. -/

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows' buffers at `y0` to `y31`. -/
def bodyPre (c : Dev nD) (t : Fin cfg0.N)
    (y0 : Vec F S128x1024 .f32) (y1 : Vec F S128x5632 .f32) (y2 : Vec F S8x1536 .f32) (y3 : Vec F S128x256 .f32) (y4 : Vec F S32x1024 .f32)
    (y5 : Vec F S1x1024x128 .f32) (y6 : Vec F S128x512 .f32) (y7 : Vec F S2048x1024 .bf16) (y8 : Vec F S4x1536 .f32)
    (y9 : Vec F S1x1536 .f32) (y10 : Vec F S1x128 .f32) (y11 : Vec F S1x128 .f32) (y12 : Vec F S1x128 .f32) (y13 : Vec F S1x1024 .f32)
    (y14 : Vec F S1x128 .f32) (y15 : Vec F S31x512 .f32) (y16 : Vec F S1x512 .f32) (y17 : Vec F S1x512 .f32) (y18 : Vec F S1x512 .f32)
    (y19 : Vec F S128x5632 .bf16) (y20 : Vec F S128x2048 .bf16) (y21 : Vec F S4x1536 .f32) (y22 : Vec F S1x1536 .f32)
    (y23 : Vec F S1x128 .f32) (y24 : Vec F S1x128 .f32) (y25 : Vec F S1x128 .f32) (y26 : Vec F S1x1024 .f32) (y27 : Vec F S1x128 .f32)
    (y28 : Vec F S31x512 .f32) (y29 : Vec F S1x512 .f32) (y30 : Vec F S1x512 .f32) (y31 : Vec F S1x512 .f32) : sProp 𝕄 :=
  iprop(
    (rdat m c).Φ t.castSucc ∗ (rdat m c).owesAt () t.castSucc ∗ owns (c : Thread nD τ) (ms0_0 t) fullShare y0 ∗
    owns (c : Thread nD τ) (ms0_1 t) fullShare y1 ∗ owns (c : Thread nD τ) (ms0_2 t) fullShare y2 ∗
    owns (c : Thread nD τ) (ms0_3 t) fullShare y3 ∗ owns (c : Thread nD τ) (ms0_4 t) fullShare y4 ∗
    owns (c : Thread nD τ) (ms0_5 t) fullShare y5 ∗ owns (c : Thread nD τ) (ms0_6 t) fullShare y6 ∗
    owns (c : Thread nD τ) (ms0_7 t) fullShare y7 ∗ owns (c : Thread nD τ) (ms0_8 t) fullShare y8 ∗
    owns (c : Thread nD τ) (ms0_9 t) fullShare y9 ∗ owns (c : Thread nD τ) (ms0_10 t) fullShare y10 ∗
    owns (c : Thread nD τ) (ms0_11 t) fullShare y11 ∗ owns (c : Thread nD τ) (ms0_12 t) fullShare y12 ∗
    owns (c : Thread nD τ) (ms0_13 t) fullShare y13 ∗ owns (c : Thread nD τ) (ms0_14 t) fullShare y14 ∗
    owns (c : Thread nD τ) (ms0_15 t) fullShare y15 ∗ owns (c : Thread nD τ) (ms0_16 t) fullShare y16 ∗
    owns (c : Thread nD τ) (ms0_17 t) fullShare y17 ∗ owns (c : Thread nD τ) (ms0_18 t) fullShare y18 ∗
    owns (c : Thread nD τ) (ms0_19 t) fullShare y19 ∗ owns (c : Thread nD τ) (ms0_20 t) fullShare y20 ∗
    owns (c : Thread nD τ) (ms0_21 t) fullShare y21 ∗ owns (c : Thread nD τ) (ms0_22 t) fullShare y22 ∗
    owns (c : Thread nD τ) (ms0_23 t) fullShare y23 ∗ owns (c : Thread nD τ) (ms0_24 t) fullShare y24 ∗
    owns (c : Thread nD τ) (ms0_25 t) fullShare y25 ∗ owns (c : Thread nD τ) (ms0_26 t) fullShare y26 ∗
    owns (c : Thread nD τ) (ms0_27 t) fullShare y27 ∗ owns (c : Thread nD τ) (ms0_28 t) fullShare y28 ∗
    owns (c : Thread nD τ) (ms0_29 t) fullShare y29 ∗ owns (c : Thread nD τ) (ms0_30 t) fullShare y30 ∗
    owns (c : Thread nD τ) (ms0_31 t) fullShare y31)

/-- What it returns. -/
def bodyPost (c : Dev nD) (t : Fin cfg0.N)
    (y0 : Vec F S128x1024 .f32) (y1 : Vec F S128x5632 .f32) (y2 : Vec F S8x1536 .f32) (y3 : Vec F S128x256 .f32) (y4 : Vec F S32x1024 .f32)
    (y5 : Vec F S1x1024x128 .f32) (y6 : Vec F S128x512 .f32) (y7 : Vec F S2048x1024 .bf16) (y8 : Vec F S4x1536 .f32)
    (y9 : Vec F S1x1536 .f32) (y10 : Vec F S1x128 .f32) (y11 : Vec F S1x128 .f32) (y12 : Vec F S1x128 .f32) (y13 : Vec F S1x1024 .f32)
    (y14 : Vec F S1x128 .f32) (y15 : Vec F S31x512 .f32) (y16 : Vec F S1x512 .f32) (y17 : Vec F S1x512 .f32) (y18 : Vec F S1x512 .f32)
    (y19 : Vec F S128x5632 .bf16) (y20 : Vec F S128x2048 .bf16) (y21 : Vec F S4x1536 .f32) (y22 : Vec F S1x1536 .f32)
    (y23 : Vec F S1x128 .f32) (y24 : Vec F S1x128 .f32) (y25 : Vec F S1x128 .f32) (y26 : Vec F S1x1024 .f32) (y27 : Vec F S1x128 .f32)
    (y28 : Vec F S31x512 .f32) (y29 : Vec F S1x512 .f32) (y30 : Vec F S1x512 .f32) (y31 : Vec F S1x512 .f32) : sProp 𝕄 :=
  iprop(
    (rdat m c).Φ t.succ ∗ (rdat m c).owesAt () t.succ ∗ (∃ X, ⌜X = y0⌝ ∗ owns (c : Thread nD τ) (ms0_0 t) fullShare X) ∗
    (∃ X, ⌜X = y1⌝ ∗ owns (c : Thread nD τ) (ms0_1 t) fullShare X) ∗ (∃ X, ⌜X = y2⌝ ∗ owns (c : Thread nD τ) (ms0_2 t) fullShare X) ∗
    (∃ X, ⌜X = y3⌝ ∗ owns (c : Thread nD τ) (ms0_3 t) fullShare X) ∗ (∃ X, ⌜X = y4⌝ ∗ owns (c : Thread nD τ) (ms0_4 t) fullShare X) ∗
    (∃ X, ⌜X = y5⌝ ∗ owns (c : Thread nD τ) (ms0_5 t) fullShare X) ∗ (∃ X, ⌜X = y6⌝ ∗ owns (c : Thread nD τ) (ms0_6 t) fullShare X) ∗
    (∃ X, ⌜X = y7⌝ ∗ owns (c : Thread nD τ) (ms0_7 t) fullShare X) ∗ (∃ X, ⌜X = y8⌝ ∗ owns (c : Thread nD τ) (ms0_8 t) fullShare X) ∗
    (∃ X, ⌜X = y9⌝ ∗ owns (c : Thread nD τ) (ms0_9 t) fullShare X) ∗ (∃ X, ⌜X = y10⌝ ∗ owns (c : Thread nD τ) (ms0_10 t) fullShare X) ∗
    (∃ X, ⌜X = y11⌝ ∗ owns (c : Thread nD τ) (ms0_11 t) fullShare X) ∗ (∃ X, ⌜X = y12⌝ ∗ owns (c : Thread nD τ) (ms0_12 t) fullShare X) ∗
    (∃ X, ⌜X = y13⌝ ∗ owns (c : Thread nD τ) (ms0_13 t) fullShare X) ∗ (∃ X, ⌜X = y14⌝ ∗ owns (c : Thread nD τ) (ms0_14 t) fullShare X) ∗
    (∃ X, ⌜X = y15⌝ ∗ owns (c : Thread nD τ) (ms0_15 t) fullShare X) ∗ (∃ X, ⌜X = y16⌝ ∗ owns (c : Thread nD τ) (ms0_16 t) fullShare X) ∗
    (∃ X, ⌜X = y17⌝ ∗ owns (c : Thread nD τ) (ms0_17 t) fullShare X) ∗ (∃ X, ⌜X = y18⌝ ∗ owns (c : Thread nD τ) (ms0_18 t) fullShare X) ∗
    (∃ X, ⌜Cols (tileAt m c t) (pendAt m c t) X⌝ ∗ owns (c : Thread nD τ) (ms0_19 t) fullShare X) ∗
    (∃ X, ⌜True⌝ ∗ owns (c : Thread nD τ) (ms0_20 t) fullShare X) ∗ (∃ X, ⌜True⌝ ∗ owns (c : Thread nD τ) (ms0_21 t) fullShare X) ∗
    (∃ X, ⌜True⌝ ∗ owns (c : Thread nD τ) (ms0_22 t) fullShare X) ∗ (∃ X, ⌜True⌝ ∗ owns (c : Thread nD τ) (ms0_23 t) fullShare X) ∗
    (∃ X, ⌜True⌝ ∗ owns (c : Thread nD τ) (ms0_24 t) fullShare X) ∗ (∃ X, ⌜True⌝ ∗ owns (c : Thread nD τ) (ms0_25 t) fullShare X) ∗
    (∃ X, ⌜True⌝ ∗ owns (c : Thread nD τ) (ms0_26 t) fullShare X) ∗
    (∃ X, ⌜X = accAt m c t.val t.isLt⌝ ∗ owns (c : Thread nD τ) (ms0_27 t) fullShare X) ∗
    (∃ X, ⌜True⌝ ∗ owns (c : Thread nD τ) (ms0_28 t) fullShare X) ∗ (∃ X, ⌜True⌝ ∗ owns (c : Thread nD τ) (ms0_29 t) fullShare X) ∗
    (∃ X, ⌜True⌝ ∗ owns (c : Thread nD τ) (ms0_30 t) fullShare X) ∗ (∃ X, ⌜True⌝ ∗ owns (c : Thread nD τ) (ms0_31 t) fullShare X))

set_option maxHeartbeats 4000000 in
/-- The body at the first point. -/
theorem body_A (c : Dev nD) (t : Fin cfg0.N)
    (y0 : Vec F S128x1024 .f32) (y1 : Vec F S128x5632 .f32) (y2 : Vec F S8x1536 .f32) (y3 : Vec F S128x256 .f32) (y4 : Vec F S32x1024 .f32)
    (y5 : Vec F S1x1024x128 .f32) (y6 : Vec F S128x512 .f32) (y7 : Vec F S2048x1024 .bf16) (y8 : Vec F S4x1536 .f32)
    (y9 : Vec F S1x1536 .f32) (y10 : Vec F S1x128 .f32) (y11 : Vec F S1x128 .f32) (y12 : Vec F S1x128 .f32) (y13 : Vec F S1x1024 .f32)
    (y14 : Vec F S1x128 .f32) (y15 : Vec F S31x512 .f32) (y16 : Vec F S1x512 .f32) (y17 : Vec F S1x512 .f32) (y18 : Vec F S1x512 .f32)
    (y19 : Vec F S128x5632 .bf16) (y20 : Vec F S128x2048 .bf16) (y21 : Vec F S4x1536 .f32) (y22 : Vec F S1x1536 .f32)
    (y23 : Vec F S1x128 .f32) (y24 : Vec F S1x128 .f32) (y25 : Vec F S1x128 .f32) (y26 : Vec F S1x1024 .f32) (y27 : Vec F S1x128 .f32)
    (y28 : Vec F S31x512 .f32) (y29 : Vec F S1x512 .f32) (y30 : Vec F S1x512 .f32) (y31 : Vec F S1x512 .f32)
    (h0 : y0 = iblk m c 0 t) (h1 : y1 = iblk m c 1 t) (h3 : y3 = iblk m c 3 t) (h7 : y7 = iblk m c 7 t) (h14 : y14 = iblk m c 14 t)
    (h27 : t.val ≠ 0 → y27 = accAt m c (t.val - 1) (Nat.lt_of_le_of_lt (Nat.sub_le _ _) t.isLt))
    (hz : t.val = 0) (h16 : t.val % 16 = 0) (hc0 : cond0_0 (grid0.coords t)) (hc2 : cond0_2 (grid0.coords t)) :
    bodyPre m c t y0 y1 y2 y3 y4 y5 y6 y7 y8 y9 y10 y11 y12 y13 y14 y15 y16 y17 y18 y19 y20 y21 y22 y23 y24 y25 y26 y27 y28 y29 y30 y31
      ⊢ wp frame (wpE (defs₀ (F := F)) Variants.none c none) Set.univ (bodyAt0 t)
        (fun _ => bodyPost m c t y0 y1 y2 y3 y4 y5 y6 y7 y8 y9 y10 y11 y12 y13 y14 y15 y16 y17 y18 y19 y20 y21 y22 y23 y24 y25 y26 y27 y28 y29 y30 y31) := by
  unfold bodyPre bodyPost bodyAt0
  have hN : t.val < 32 := lt_of_lt_of_eq t.isLt (show cfg0.N = 32 from N_0)
  subst h0 h1 h3 h7 h14
  rw [Phi_at m c t, show (rdat m c).Φ t.succ = PhiS m c (t.val + 1) t.isLt from rfl, PhiS_succ,
    show (rdat m c).owesAt () t.succ = (rdat m c).owesAt () t.castSucc from rfl]
  rw [PhiS_zero m c _ _ hz, PhiA0_eq]
  iintro ⟨⟨⟨HS0, HS1, HS2, HS3, HS4⟩, Hg⟩, Ho, H0, H1, H2, H3, H4, H5, H6, H7, H8, H9, H10, H11, H12, H13, H14, H15, H16, H17, H18, H19, H20, H21, H22, H23, H24, H25, H26, H27, H28, H29, H30, H31⟩
  iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 _ scM0_1 _ scM0_2 _ scM0_3 _ scM0_4 _ hc0 hc0 hc2 (iblk m c 0 t) (iblk m c 1 t) y2 (iblk m c 3 t) y4 y5 y6 (iblk m c 7 t) y8 y9 y10 y11 y12 y13 (iblk m c 14 t) y15 y16 y17 y18 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, ⟨%d19, %hd19, H19⟩, H20, H21, H22, H23, H24, H25, H26, ⟨%d27, %hd27, H27⟩, H28, H29, H30, H31, HS0, HS1, ⟨%dp, %hdp, HS2⟩, HS3, ⟨%db, %hdb, HS4⟩⟩
  subst hdp hdb
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists d19; isplitr; swap; · iexact H19
    ipureintro; exact (pendAt_zero m c t h16).symm ▸ hd19
  isplitl [H20]
  · icases H20 with ⟨%d20, H20⟩
    iexists d20; isplitr; swap; · iexact H20
    ipureintro; trivial
  isplitl [H21]
  · icases H21 with ⟨%d21, H21⟩
    iexists d21; isplitr; swap; · iexact H21
    ipureintro; trivial
  isplitl [H22]
  · icases H22 with ⟨%d22, H22⟩
    iexists d22; isplitr; swap; · iexact H22
    ipureintro; trivial
  isplitl [H23]
  · icases H23 with ⟨%d23, H23⟩
    iexists d23; isplitr; swap; · iexact H23
    ipureintro; trivial
  isplitl [H24]
  · icases H24 with ⟨%d24, H24⟩
    iexists d24; isplitr; swap; · iexact H24
    ipureintro; trivial
  isplitl [H25]
  · icases H25 with ⟨%d25, H25⟩
    iexists d25; isplitr; swap; · iexact H25
    ipureintro; trivial
  isplitl [H26]
  · icases H26 with ⟨%d26, H26⟩
    iexists d26; isplitr; swap; · iexact H26
    ipureintro; trivial
  isplitl [H27]
  · iexists d27; isplitr; swap; · iexact H27
    ipureintro; exact hd27.trans (accAt_zero m c t hz).symm
  isplitl [H28]
  · icases H28 with ⟨%d28, H28⟩
    iexists d28; isplitr; swap; · iexact H28
    ipureintro; trivial
  isplitl [H29]
  · icases H29 with ⟨%d29, H29⟩
    iexists d29; isplitr; swap; · iexact H29
    ipureintro; trivial
  isplitl [H30]
  · icases H30 with ⟨%d30, H30⟩
    iexists d30; isplitr; swap; · iexact H30
    ipureintro; trivial
  icases H31 with ⟨%d31, H31⟩
  iexists d31; isplitr; swap; · iexact H31
  ipureintro; trivial

set_option maxHeartbeats 4000000 in
/-- The body at a point inside a sequence. -/
theorem body_B (c : Dev nD) (t : Fin cfg0.N)
    (y0 : Vec F S128x1024 .f32) (y1 : Vec F S128x5632 .f32) (y2 : Vec F S8x1536 .f32) (y3 : Vec F S128x256 .f32) (y4 : Vec F S32x1024 .f32)
    (y5 : Vec F S1x1024x128 .f32) (y6 : Vec F S128x512 .f32) (y7 : Vec F S2048x1024 .bf16) (y8 : Vec F S4x1536 .f32)
    (y9 : Vec F S1x1536 .f32) (y10 : Vec F S1x128 .f32) (y11 : Vec F S1x128 .f32) (y12 : Vec F S1x128 .f32) (y13 : Vec F S1x1024 .f32)
    (y14 : Vec F S1x128 .f32) (y15 : Vec F S31x512 .f32) (y16 : Vec F S1x512 .f32) (y17 : Vec F S1x512 .f32) (y18 : Vec F S1x512 .f32)
    (y19 : Vec F S128x5632 .bf16) (y20 : Vec F S128x2048 .bf16) (y21 : Vec F S4x1536 .f32) (y22 : Vec F S1x1536 .f32)
    (y23 : Vec F S1x128 .f32) (y24 : Vec F S1x128 .f32) (y25 : Vec F S1x128 .f32) (y26 : Vec F S1x1024 .f32) (y27 : Vec F S1x128 .f32)
    (y28 : Vec F S31x512 .f32) (y29 : Vec F S1x512 .f32) (y30 : Vec F S1x512 .f32) (y31 : Vec F S1x512 .f32)
    (h0 : y0 = iblk m c 0 t) (h1 : y1 = iblk m c 1 t) (h3 : y3 = iblk m c 3 t) (h7 : y7 = iblk m c 7 t) (h14 : y14 = iblk m c 14 t)
    (h27 : t.val ≠ 0 → y27 = accAt m c (t.val - 1) (Nat.lt_of_le_of_lt (Nat.sub_le _ _) t.isLt))
    (hz : t.val ≠ 0) (h16 : t.val % 16 ≠ 0) (hc0 : ¬cond0_0 (grid0.coords t)) (hc2 : ¬cond0_2 (grid0.coords t)) :
    bodyPre m c t y0 y1 y2 y3 y4 y5 y6 y7 y8 y9 y10 y11 y12 y13 y14 y15 y16 y17 y18 y19 y20 y21 y22 y23 y24 y25 y26 y27 y28 y29 y30 y31
      ⊢ wp frame (wpE (defs₀ (F := F)) Variants.none c none) Set.univ (bodyAt0 t)
        (fun _ => bodyPost m c t y0 y1 y2 y3 y4 y5 y6 y7 y8 y9 y10 y11 y12 y13 y14 y15 y16 y17 y18 y19 y20 y21 y22 y23 y24 y25 y26 y27 y28 y29 y30 y31) := by
  unfold bodyPre bodyPost bodyAt0
  have hN : t.val < 32 := lt_of_lt_of_eq t.isLt (show cfg0.N = 32 from N_0)
  subst h0 h1 h3 h7 h14
  obtain rfl := h27 hz
  rw [Phi_at m c t, show (rdat m c).Φ t.succ = PhiS m c (t.val + 1) t.isLt from rfl, PhiS_succ,
    show (rdat m c).owesAt () t.succ = (rdat m c).owesAt () t.castSucc from rfl]
  rw [PhiS_pos m c _ _ hz]
  iintro ⟨⟨⟨HS0, HS1, HS2, HS3, HS4⟩, Hg⟩, Ho, H0, H1, H2, H3, H4, H5, H6, H7, H8, H9, H10, H11, H12, H13, H14, H15, H16, H17, H18, H19, H20, H21, H22, H23, H24, H25, H26, H27, H28, H29, H30, H31⟩
  iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 _ scM0_1 _ scM0_2 _ scM0_3 _ scM0_4 _ hc0 hc0 hc2 (iblk m c 0 t) (iblk m c 1 t) y2 (iblk m c 3 t) y4 y5 y6 (iblk m c 7 t) y8 y9 y10 y11 y12 y13 (iblk m c 14 t) y15 y16 y17 y18 _ (masks F) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexact H27
  isplitl [H28]; · iexists _; iexact H28
  isplitl [H29]; · iexists _; iexact H29
  isplitl [H30]; · iexists _; iexact H30
  isplitl [H31]; · iexists _; iexact H31
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, ⟨%d19, %hd19, H19⟩, H20, H21, H22, H23, H24, H25, H26, ⟨%d27, %hd27, H27⟩, H28, H29, H30, H31, HS0, HS1, ⟨%dp, %hdp, HS2⟩, HS3, HS4⟩
  subst hdp
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists d19; isplitr; swap; · iexact H19
    ipureintro; exact (pendAt_pos m c t h16).symm ▸ hd19
  isplitl [H20]
  · icases H20 with ⟨%d20, H20⟩
    iexists d20; isplitr; swap; · iexact H20
    ipureintro; trivial
  isplitl [H21]
  · icases H21 with ⟨%d21, H21⟩
    iexists d21; isplitr; swap; · iexact H21
    ipureintro; trivial
  isplitl [H22]
  · icases H22 with ⟨%d22, H22⟩
    iexists d22; isplitr; swap; · iexact H22
    ipureintro; trivial
  isplitl [H23]
  · icases H23 with ⟨%d23, H23⟩
    iexists d23; isplitr; swap; · iexact H23
    ipureintro; trivial
  isplitl [H24]
  · icases H24 with ⟨%d24, H24⟩
    iexists d24; isplitr; swap; · iexact H24
    ipureintro; trivial
  isplitl [H25]
  · icases H25 with ⟨%d25, H25⟩
    iexists d25; isplitr; swap; · iexact H25
    ipureintro; trivial
  isplitl [H26]
  · icases H26 with ⟨%d26, H26⟩
    iexists d26; isplitr; swap; · iexact H26
    ipureintro; trivial
  isplitl [H27]
  · iexists d27; isplitr; swap; · iexact H27
    ipureintro; exact hd27.trans (accAt_pos m c t hz).symm
  isplitl [H28]
  · icases H28 with ⟨%d28, H28⟩
    iexists d28; isplitr; swap; · iexact H28
    ipureintro; trivial
  isplitl [H29]
  · icases H29 with ⟨%d29, H29⟩
    iexists d29; isplitr; swap; · iexact H29
    ipureintro; trivial
  isplitl [H30]
  · icases H30 with ⟨%d30, H30⟩
    iexists d30; isplitr; swap; · iexact H30
    ipureintro; trivial
  icases H31 with ⟨%d31, H31⟩
  iexists d31; isplitr; swap; · iexact H31
  ipureintro; trivial

set_option maxHeartbeats 4000000 in
/-- The body at the first point of the second sequence. -/
theorem body_C (c : Dev nD) (t : Fin cfg0.N)
    (y0 : Vec F S128x1024 .f32) (y1 : Vec F S128x5632 .f32) (y2 : Vec F S8x1536 .f32) (y3 : Vec F S128x256 .f32) (y4 : Vec F S32x1024 .f32)
    (y5 : Vec F S1x1024x128 .f32) (y6 : Vec F S128x512 .f32) (y7 : Vec F S2048x1024 .bf16) (y8 : Vec F S4x1536 .f32)
    (y9 : Vec F S1x1536 .f32) (y10 : Vec F S1x128 .f32) (y11 : Vec F S1x128 .f32) (y12 : Vec F S1x128 .f32) (y13 : Vec F S1x1024 .f32)
    (y14 : Vec F S1x128 .f32) (y15 : Vec F S31x512 .f32) (y16 : Vec F S1x512 .f32) (y17 : Vec F S1x512 .f32) (y18 : Vec F S1x512 .f32)
    (y19 : Vec F S128x5632 .bf16) (y20 : Vec F S128x2048 .bf16) (y21 : Vec F S4x1536 .f32) (y22 : Vec F S1x1536 .f32)
    (y23 : Vec F S1x128 .f32) (y24 : Vec F S1x128 .f32) (y25 : Vec F S1x128 .f32) (y26 : Vec F S1x1024 .f32) (y27 : Vec F S1x128 .f32)
    (y28 : Vec F S31x512 .f32) (y29 : Vec F S1x512 .f32) (y30 : Vec F S1x512 .f32) (y31 : Vec F S1x512 .f32)
    (h0 : y0 = iblk m c 0 t) (h1 : y1 = iblk m c 1 t) (h3 : y3 = iblk m c 3 t) (h7 : y7 = iblk m c 7 t) (h14 : y14 = iblk m c 14 t)
    (h27 : t.val ≠ 0 → y27 = accAt m c (t.val - 1) (Nat.lt_of_le_of_lt (Nat.sub_le _ _) t.isLt))
    (hz : t.val ≠ 0) (h16 : t.val % 16 = 0) (hc0 : ¬cond0_0 (grid0.coords t)) (hc2 : cond0_2 (grid0.coords t)) :
    bodyPre m c t y0 y1 y2 y3 y4 y5 y6 y7 y8 y9 y10 y11 y12 y13 y14 y15 y16 y17 y18 y19 y20 y21 y22 y23 y24 y25 y26 y27 y28 y29 y30 y31
      ⊢ wp frame (wpE (defs₀ (F := F)) Variants.none c none) Set.univ (bodyAt0 t)
        (fun _ => bodyPost m c t y0 y1 y2 y3 y4 y5 y6 y7 y8 y9 y10 y11 y12 y13 y14 y15 y16 y17 y18 y19 y20 y21 y22 y23 y24 y25 y26 y27 y28 y29 y30 y31) := by
  unfold bodyPre bodyPost bodyAt0
  have hN : t.val < 32 := lt_of_lt_of_eq t.isLt (show cfg0.N = 32 from N_0)
  subst h0 h1 h3 h7 h14
  obtain rfl := h27 hz
  rw [Phi_at m c t, show (rdat m c).Φ t.succ = PhiS m c (t.val + 1) t.isLt from rfl, PhiS_succ,
    show (rdat m c).owesAt () t.succ = (rdat m c).owesAt () t.castSucc from rfl]
  rw [PhiS_pos m c _ _ hz]
  iintro ⟨⟨⟨HS0, HS1, HS2, HS3, HS4⟩, Hg⟩, Ho, H0, H1, H2, H3, H4, H5, H6, H7, H8, H9, H10, H11, H12, H13, H14, H15, H16, H17, H18, H19, H20, H21, H22, H23, H24, H25, H26, H27, H28, H29, H30, H31⟩
  iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 _ scM0_1 _ scM0_2 _ scM0_3 _ scM0_4 _ hc0 hc0 hc2 (iblk m c 0 t) (iblk m c 1 t) y2 (iblk m c 3 t) y4 y5 y6 (iblk m c 7 t) y8 y9 y10 y11 y12 y13 (iblk m c 14 t) y15 y16 y17 y18 (masks F) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexact H27
  isplitl [H28]; · iexists _; iexact H28
  isplitl [H29]; · iexists _; iexact H29
  isplitl [H30]; · iexists _; iexact H30
  isplitl [H31]; · iexists _; iexact H31
  isplitl [HS0]; · iexact HS0
  isplitl [HS1]; · iexact HS1
  isplitl [HS2]; · iexists _; iexact HS2
  isplitl [HS3]; · iexact HS3
  isplitl [HS4]; · iexact HS4
  iintro ⟨H0, H1, H2, H3, H4, H5, H6, H7, H8, H9, H10, H11, H12, H13, H14, H15, H16, H17, H18, ⟨%d19, %hd19, H19⟩, H20, H21, H22, H23, H24, H25, H26, ⟨%d27, %hd27, H27⟩, H28, H29, H30, H31, HS0, HS1, ⟨%dp, %hdp, HS2⟩, HS3, HS4⟩
  subst hdp
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists d19; isplitr; swap; · iexact H19
    ipureintro; exact (pendAt_zero m c t h16).symm ▸ hd19
  isplitl [H20]
  · icases H20 with ⟨%d20, H20⟩
    iexists d20; isplitr; swap; · iexact H20
    ipureintro; trivial
  isplitl [H21]
  · icases H21 with ⟨%d21, H21⟩
    iexists d21; isplitr; swap; · iexact H21
    ipureintro; trivial
  isplitl [H22]
  · icases H22 with ⟨%d22, H22⟩
    iexists d22; isplitr; swap; · iexact H22
    ipureintro; trivial
  isplitl [H23]
  · icases H23 with ⟨%d23, H23⟩
    iexists d23; isplitr; swap; · iexact H23
    ipureintro; trivial
  isplitl [H24]
  · icases H24 with ⟨%d24, H24⟩
    iexists d24; isplitr; swap; · iexact H24
    ipureintro; trivial
  isplitl [H25]
  · icases H25 with ⟨%d25, H25⟩
    iexists d25; isplitr; swap; · iexact H25
    ipureintro; trivial
  isplitl [H26]
  · icases H26 with ⟨%d26, H26⟩
    iexists d26; isplitr; swap; · iexact H26
    ipureintro; trivial
  isplitl [H27]
  · iexists d27; isplitr; swap; · iexact H27
    ipureintro; exact hd27.trans (accAt_pos m c t hz).symm
  isplitl [H28]
  · icases H28 with ⟨%d28, H28⟩
    iexists d28; isplitr; swap; · iexact H28
    ipureintro; trivial
  isplitl [H29]
  · icases H29 with ⟨%d29, H29⟩
    iexists d29; isplitr; swap; · iexact H29
    ipureintro; trivial
  isplitl [H30]
  · icases H30 with ⟨%d30, H30⟩
    iexists d30; isplitr; swap; · iexact H30
    ipureintro; trivial
  icases H31 with ⟨%d31, H31⟩
  iexists d31; isplitr; swap; · iexact H31
  ipureintro; trivial

/-- The body at any point. -/
theorem body_all (c : Dev nD) (t : Fin cfg0.N)
    (y0 : Vec F S128x1024 .f32) (y1 : Vec F S128x5632 .f32) (y2 : Vec F S8x1536 .f32) (y3 : Vec F S128x256 .f32) (y4 : Vec F S32x1024 .f32)
    (y5 : Vec F S1x1024x128 .f32) (y6 : Vec F S128x512 .f32) (y7 : Vec F S2048x1024 .bf16) (y8 : Vec F S4x1536 .f32)
    (y9 : Vec F S1x1536 .f32) (y10 : Vec F S1x128 .f32) (y11 : Vec F S1x128 .f32) (y12 : Vec F S1x128 .f32) (y13 : Vec F S1x1024 .f32)
    (y14 : Vec F S1x128 .f32) (y15 : Vec F S31x512 .f32) (y16 : Vec F S1x512 .f32) (y17 : Vec F S1x512 .f32) (y18 : Vec F S1x512 .f32)
    (y19 : Vec F S128x5632 .bf16) (y20 : Vec F S128x2048 .bf16) (y21 : Vec F S4x1536 .f32) (y22 : Vec F S1x1536 .f32)
    (y23 : Vec F S1x128 .f32) (y24 : Vec F S1x128 .f32) (y25 : Vec F S1x128 .f32) (y26 : Vec F S1x1024 .f32) (y27 : Vec F S1x128 .f32)
    (y28 : Vec F S31x512 .f32) (y29 : Vec F S1x512 .f32) (y30 : Vec F S1x512 .f32) (y31 : Vec F S1x512 .f32)
    (h0 : y0 = iblk m c 0 t) (h1 : y1 = iblk m c 1 t) (h3 : y3 = iblk m c 3 t) (h7 : y7 = iblk m c 7 t) (h14 : y14 = iblk m c 14 t)
    (h27 : t.val ≠ 0 → y27 = accAt m c (t.val - 1) (Nat.lt_of_le_of_lt (Nat.sub_le _ _) t.isLt)) :
    bodyPre m c t y0 y1 y2 y3 y4 y5 y6 y7 y8 y9 y10 y11 y12 y13 y14 y15 y16 y17 y18 y19 y20 y21 y22 y23 y24 y25 y26 y27 y28 y29 y30 y31
      ⊢ wp frame (wpE (defs₀ (F := F)) Variants.none c none) Set.univ (bodyAt0 t)
        (fun _ => bodyPost m c t y0 y1 y2 y3 y4 y5 y6 y7 y8 y9 y10 y11 y12 y13 y14 y15 y16 y17 y18 y19 y20 y21 y22 y23 y24 y25 y26 y27 y28 y29 y30 y31) := by
  have hN : t.val < 32 := lt_of_lt_of_eq t.isLt (show cfg0.N = 32 from N_0)
  by_cases h16 : t.val % 16 = 0
  · by_cases hz : t.val = 0
    · exact body_A m c t y0 y1 y2 y3 y4 y5 y6 y7 y8 y9 y10 y11 y12 y13 y14 y15 y16 y17 y18 y19 y20 y21 y22 y23 y24 y25 y26 y27 y28 y29 y30 y31 h0 h1 h3 h7 h14 h27 hz h16 ((hcond0_0 t).2 (by omega)) ((hcond0_2 t).2 h16)
    · exact body_C m c t y0 y1 y2 y3 y4 y5 y6 y7 y8 y9 y10 y11 y12 y13 y14 y15 y16 y17 y18 y19 y20 y21 y22 y23 y24 y25 y26 y27 y28 y29 y30 y31 h0 h1 h3 h7 h14 h27 hz h16 (fun h => by have := (hcond0_0 t).1 h; omega) ((hcond0_2 t).2 h16)
  · exact body_B m c t y0 y1 y2 y3 y4 y5 y6 y7 y8 y9 y10 y11 y12 y13 y14 y15 y16 y17 y18 y19 y20 y21 y22 y23 y24 y25 y26 y27 y28 y29 y30 y31 h0 h1 h3 h7 h14 h27 (by omega) h16 (fun h => by have := (hcond0_0 t).1 h; omega)
      (fun h => h16 ((hcond0_2 t).1 h))

/-- The body table's row at a point is the body. -/
theorem row_body (t : Fin cfg0.N) : defs₀ (F := F) .tc cfg0.body (cfg0.bodyArgs t (cfg0.slots t)) = bodyAt0 t := by
  unfold defs₀; rw [Defs.onTc_tc]

/-- What the launch asks of the body. -/
theorem obligation (c : Dev nD) : (rdat (F := F) m c).BodyObligation (defs₀ (F := F)) Variants.none () Set.univ := fun t Y hY => by
  rw [bigSep_W0, bigSep_W0, row_body]
  exact triple_restated
    (body_all m c t (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) (Y 22) (Y 23) (Y 24) (Y 25) (Y 26) (Y 27) (Y 28) (Y 29) (Y 30) (Y 31)
      (found0 m c t _ (hY 0)) (found1 m c t _ (hY 1)) (found3 m c t _ (hY 3)) (found7 m c t _ (hY 7)) (found14 m c t _ (hY 14))
      (fun hz => found27 m c t hz _ (hY 27)))
    rfl .rfl fun _ => .rfl

end Cert.Attn

end
-- ==== Proof.Launch.lean ====
module

public import proofs.«01_k».proof.Proof.Body
public import Idealize.ShloMosaic.Lib.Claim

@[expose] public section

set_option maxRecDepth 16384

noncomputable section

/-! # The launch

Every execution of the whole program ends, the arguments unchanged, and each result array holding what the points wrote. -/

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem Phi_in (c : Dev nD) : Pipeline.ΦA spec0 c ⊢ (rdat m c).Φ 0 := by
  rw [show (rdat m c).Φ 0 = PhiS m c 0 (Nat.zero_le _) from rfl, PhiS_zero m c 0 _ rfl]

/-- After the last point the invariant gives it back. -/
theorem Phi_out (c : Dev nD) : (rdat m c).Φ (Fin.last cfg0.N) ⊢ Pipeline.ΦA spec0 c := by
  rw [show (rdat m c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA0_eq]
  iintro ⟨⟨HS0, HS1, HS2, HS3, HS4⟩, Hg⟩
  isplitl [HS0 HS1 HS2 HS3 HS4]
  · isplitl [HS0]; · iexact HS0
    isplitl [HS1]; · iexact HS1
    isplitl [HS2]; · iexists _; iexact HS2
    isplitl [HS3]; · iexact HS3
    iexists _; iexact HS4
  iexact Hg

set_option backward.isDefEq.respectTransparency.types false in
/-- The launch: the arrays at contents the data allows, and every counter at zero. -/
theorem launch : θ_run defs (onTc (τ := τ) (main (F := F))) (s₀ m ρ)
    (fun r => (Pipeline.RDat.FramePost (cfgs 0) (rdat m) (V m)) r ∧ r.2.sem = fun _ => 0) :=
  Pipeline.RDat.θ_run_frame_track_shared cfgs (0 : Fin 1) launch₀0 defs₀ Variants.none (rdat m) m ρ main
    (hbody := obligation m) (hq := fun _ _ _ => rfl) (howed := fun _ _ => rfl) (V := V m) (hmain := hmain m Variants.none) (hA := A_eq m)
    (hin := Phi_in m) (hout := Phi_out m) (Q' := _)

set_option maxHeartbeats 4000000 in
/-- The arguments end unchanged. -/
theorem unchanged (r) (h : Pipeline.RDat.FramePost (cfgs 0) (rdat m) (V m) r) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  fun c => ⟨(Pipeline.RDat.FramePost.arr_in h c 0 rfl).trans ((A_eq m c 0).trans (V_main_arg0 m c)),
      (Pipeline.RDat.FramePost.arr_in h c 4 rfl).trans ((A_eq m c 4).trans (V_main_arg1 m c)),
      (Pipeline.RDat.FramePost.arr_in h c 5 rfl).trans ((A_eq m c 5).trans (V_main_arg2 m c)),
      (Pipeline.RDat.FramePost.arr_in h c 6 rfl).trans ((A_eq m c 6).trans (V_main_arg3 m c)),
      (Pipeline.RDat.FramePost.arr_in h c 7 rfl).trans ((A_eq m c 7).trans (V_main_arg4 m c)),
      (Pipeline.RDat.FramePost.arr_in h c 8 rfl).trans ((A_eq m c 8).trans (V_main_arg5 m c)),
      (Pipeline.RDat.FramePost.arr_in h c 9 rfl).trans ((A_eq m c 9).trans (V_main_arg6 m c)),
      (Pipeline.RDat.FramePost.arr_in h c 10 rfl).trans ((A_eq m c 10).trans (V_main_arg7 m c)),
      (Pipeline.RDat.FramePost.arr_in h c 11 rfl).trans ((A_eq m c 11).trans (V_main_arg8 m c)),
      (Pipeline.RDat.FramePost.arr_in h c 12 rfl).trans ((A_eq m c 12).trans (V_main_arg9 m c)),
      (Pipeline.RDat.FramePost.arr_in h c 13 rfl).trans ((A_eq m c 13).trans (V_main_arg10 m c)),
      (Pipeline.RDat.FramePost.arr_in h c 14 rfl).trans ((A_eq m c 14).trans (V_main_arg11 m c)),
      (Pipeline.RDat.FramePost.arr_in h c 15 rfl).trans ((A_eq m c 15).trans (V_main_arg12 m c)),
      (Pipeline.RDat.FramePost.arr_in h c 16 rfl).trans ((A_eq m c 16).trans (V_main_arg13 m c)),
      (Pipeline.RDat.FramePost.arr_in h c 17 rfl).trans ((A_eq m c 17).trans (V_main_arg14 m c)),
      (Pipeline.RDat.FramePost.arr_in h c 18 rfl).trans ((A_eq m c 18).trans (V_main_arg15 m c))⟩

/-- The frame: every execution ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨unchanged m r h.1, h.2⟩) (launch m ρ)

end Cert.Attn

end
-- ==== Proof.RefLine.lean ====
/-
  The reference as one line of host operations.  Every buffer is written once, so after the line each buffer holds the
  function of its operation applied to what the line leaves in the operands: `read_unary` and its sisters, and the
  run of the line (`run`).
-/
module

public import proofs.«01_k».proof.Proof.Gen.ReferenceIdeal
public import Idealize.ShloMosaic.Lib.StableHlo.RunRead
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

section Reads

variable {τ : Topo} {sig : RefSig} {Val : EltTy → Type} {ops : List (HloOp τ sig Val)} {W : List (Ref sig .tc)}

/-- What a reference holds before operation `i`, if no operation from `i` on writes it, is what it holds at the end. -/
theorem settled (hW : ops.map HloOp.writes = W.map fun w => {Proc.devRef (τ := τ) .tc w}) {i : ℕ} {x : Ref sig .tc}
    (hx : x ∉ W.drop i) (V : Valuation τ sig Val) :
    upto ops V i (Proc.devRef .tc x) = after ops V (Proc.devRef .tc x) := by
  have h : (ops.drop i).map HloOp.writes = (W.drop i).map fun w => {Proc.devRef (τ := τ) .tc w} := by
    rw [List.map_drop, hW, List.map_drop]
  conv_rhs => rw [← List.take_append_drop i ops, after_append]
  exact (after_unwritten (W.drop i) h hx _).symm

/-- What the line leaves at the reference its operation `i` writes, if no later operation writes it. -/
theorem written (hW : ops.map HloOp.writes = W.map fun w => {Proc.devRef (τ := τ) .tc w}) {i : ℕ} {y : Ref sig .tc}
    {op : HloOp τ sig Val} (hop : ops[i]? = some op) (hy : y ∉ W.drop (i + 1)) (V : Valuation τ sig Val) :
    after ops V (Proc.devRef .tc y) = op.result (upto ops V i) (Proc.devRef .tc y) := by
  obtain ⟨hi, he⟩ := List.getElem?_eq_some_iff.1 hop
  refine after_last_write (rest := ops.drop (i + 1)) (W.drop (i + 1)) ?_ ?_ hy V
  · rw [← he]; exact List.drop_eq_getElem_cons hi
  · rw [List.map_drop, hW, List.map_drop]

variable (hW : ops.map HloOp.writes = W.map fun w => {Proc.devRef (τ := τ) .tc w}) {i : ℕ} {a b c y : Ref sig .tc}
  (V : Valuation τ sig Val)
include hW

/-- The result of a constant. -/
theorem read_nullary {v : y.ty.Contents Val} {hy} (hop : ops[i]? = some (nullary y v hy)) (hyW : y ∉ W.drop (i + 1)) :
    after ops V (Proc.devRef .tc y) = v := by
  rw [written hW hop hyW, nullary_result']

/-- The result of an operation of one operand. -/
theorem read_unary {f : a.ty.Contents Val → y.ty.Contents Val} {ha hy} (hop : ops[i]? = some (unary a y f ha hy))
    (haW : a ∉ W.drop i) (hyW : y ∉ W.drop (i + 1)) :
    after ops V (Proc.devRef .tc y) = f (after ops V (Proc.devRef .tc a)) := by
  rw [written hW hop hyW, unary_result', settled hW haW]

/-- The result of an operation of two operands. -/
theorem read_binary {f : a.ty.Contents Val → b.ty.Contents Val → y.ty.Contents Val} {ha hb hy}
    (hop : ops[i]? = some (binary a b y f ha hb hy)) (haW : a ∉ W.drop i) (hbW : b ∉ W.drop i) (hyW : y ∉ W.drop (i + 1)) :
    after ops V (Proc.devRef .tc y) = f (after ops V (Proc.devRef .tc a)) (after ops V (Proc.devRef .tc b)) := by
  rw [written hW hop hyW, binary_result', settled hW haW, settled hW hbW]

/-- The result of an operation of three operands. -/
theorem read_ternary {f : c.ty.Contents Val → a.ty.Contents Val → b.ty.Contents Val → y.ty.Contents Val} {hc ha hb hy}
    (hop : ops[i]? = some (ternary c a b y f hc ha hb hy)) (hcW : c ∉ W.drop i) (haW : a ∉ W.drop i) (hbW : b ∉ W.drop i)
    (hyW : y ∉ W.drop (i + 1)) :
    after ops V (Proc.devRef .tc y)
      = f (after ops V (Proc.devRef .tc c)) (after ops V (Proc.devRef .tc a)) (after ops V (Proc.devRef .tc b)) := by
  rw [written hW hop hyW, ternary_result', settled hW hcW, settled hW haW, settled hW hbW]

/-- The result of a reshape. -/
theorem read_reshape {he hn ha hy} (hop : ops[i]? = some (reshape a y he hn ha hy)) (haW : a ∉ W.drop i)
    (hyW : y ∉ W.drop (i + 1)) :
    after ops V (Proc.devRef .tc y) = fun j => he ▸ shapeCast y.ty.shape (after ops V (Proc.devRef .tc a)) hn j := by
  rw [written hW hop hyW, reshape_result', settled hW haW]

/-- The result of an operation of a family of operands. -/
theorem read_nary {n : ℕ} {xs : Fin n → Ref sig .tc} {f : ((k : Fin n) → (xs k).ty.Contents Val) → y.ty.Contents Val} {hx hy}
    (hop : ops[i]? = some (nary xs y f hx hy)) (hxW : ∀ k, xs k ∉ W.drop i) (hyW : y ∉ W.drop (i + 1)) :
    after ops V (Proc.devRef .tc y) = f fun k => after ops V (Proc.devRef .tc (xs k)) := by
  rw [written hW hop hyW, nary_result']
  exact congrArg f (funext fun k => settled hW (hxW k) V)

end Reads

/-- Operations of window 0 of the line. -/
def part0 : List (HloOp τ sig (Elt F)) :=
  [ unary main_arg4 main_v0 ((extractStridedSlice S512x1024 ![1024, 0] · slices_S2048x1024_S512x1024_1024_0) : (⟨S2048x1024, .bf16⟩ : BufTy).Contents (Elt F) → (⟨S512x1024, .bf16⟩ : BufTy).Contents (Elt F)),
    unary main_v0 main_v1 ((extf .f32 · bitsLt_bf16_f32) : (⟨S512x1024, .bf16⟩ : BufTy).Contents (Elt F) → (⟨S512x1024, .f32⟩ : BufTy).Contents (Elt F)),
    unary main_arg1 main_v2 ((extractStridedSlice S4096x512 ![0, 1024] · slices_S4096x5632_S4096x512_0_1024) : (⟨S4096x5632, .f32⟩ : BufTy).Contents (Elt F) → (⟨S4096x512, .f32⟩ : BufTy).Contents (Elt F)),
    unary main_arg1 main_v3 ((extractStridedSlice S4096x512 ![0, 4608] · slices_S4096x5632_S4096x512_0_4608) : (⟨S4096x5632, .f32⟩ : BufTy).Contents (Elt F) → (⟨S4096x512, .f32⟩ : BufTy).Contents (Elt F)),
    unary main_arg1 main_v4 ((extractStridedSlice S4096x128 ![0, 5120] · slices_S4096x5632_S4096x128_0_5120) : (⟨S4096x5632, .f32⟩ : BufTy).Contents (Elt F) → (⟨S4096x128, .f32⟩ : BufTy).Contents (Elt F)),
    unary main_arg1 main_v5 ((extractStridedSlice S4096x128 ![0, 5248] · slices_S4096x5632_S4096x128_0_5248) : (⟨S4096x5632, .f32⟩ : BufTy).Contents (Elt F) → (⟨S4096x128, .f32⟩ : BufTy).Contents (Elt F)),
    unary main_arg11 main_v6 ((extractStridedSlice S1x8 ![0, 0] · slices_S1x128_S1x8_0_0) : (⟨S1x128, .f32⟩ : BufTy).Contents (Elt F) → (⟨S1x8, .f32⟩ : BufTy).Contents (Elt F)),
    reshape main_v6 main_v7 (rfl : (.f32 : EltTy) = .f32) shapeCasts_S1x8_S8,
    reshape main_v3 main_v8 (rfl : (.f32 : EltTy) = .f32) shapeCasts_S4096x512_S2x16x128x2x4x64,
    reshape main_v4 main_v9 (rfl : (.f32 : EltTy) = .f32) shapeCasts_S4096x128_S2x16x128x2x64,
    reshape main_v5 main_v10 (rfl : (.f32 : EltTy) = .f32) shapeCasts_S4096x128_S2x16x128x2x64,
    nullary main_cst (constant S_ .f32 0x00000000#32),
    unary main_cst main_v11 (broadcastInDim S2x1x128x2x64 ![] bcast_S_S2x1x128x2x64 : (⟨S_, .f32⟩ : BufTy).Contents (Elt F) → (⟨S2x1x128x2x64, .f32⟩ : BufTy).Contents (Elt F)),
    unary main_v9 main_v12 ((extractStridedSlice S2x15x128x2x64 ![0, 0, 0, 0, 0] · slices_S2x16x128x2x64_S2x15x128x2x64_0_0_0_0_0) : (⟨S2x16x128x2x64, .f32⟩ : BufTy).Contents (Elt F) → (⟨S2x15x128x2x64, .f32⟩ : BufTy).Contents (Elt F)),
    binary main_v11 main_v12 main_v13 ((fun a b => concatenate S2x16x128x2x64 1 [⟨S2x1x128x2x64, a⟩, ⟨S2x15x128x2x64, b⟩] concatenates_S2x1x128x2x64_S2x15x128x2x64_S2x16x128x2x64_d1) : (⟨S2x1x128x2x64, .f32⟩ : BufTy).Contents (Elt F) → (⟨S2x15x128x2x64, .f32⟩ : BufTy).Contents (Elt F) → (⟨S2x16x128x2x64, .f32⟩ : BufTy).Contents (Elt F)),
    nullary main_cst_0 (constant S_ .f32 0x00000000#32),
    unary main_cst_0 main_v14 (broadcastInDim S2x1x128x2x64 ![] bcast_S_S2x1x128x2x64 : (⟨S_, .f32⟩ : BufTy).Contents (Elt F) → (⟨S2x1x128x2x64, .f32⟩ : BufTy).Contents (Elt F)),
    binary main_v13 main_v9 main_v15 ((fun a b => concatenate S2x16x256x2x64 2 [⟨S2x16x128x2x64, a⟩, ⟨S2x16x128x2x64, b⟩] concatenates_S2x16x128x2x64_S2x16x128x2x64_S2x16x256x2x64_d2) : (⟨S2x16x128x2x64, .f32⟩ : BufTy).Contents (Elt F) → (⟨S2x16x128x2x64, .f32⟩ : BufTy).Contents (Elt F) → (⟨S2x16x256x2x64, .f32⟩ : BufTy).Contents (Elt F)),
    unary main_v10 main_v16 ((extractStridedSlice S2x15x128x2x64 ![0, 0, 0, 0, 0] · slices_S2x16x128x2x64_S2x15x128x2x64_0_0_0_0_0) : (⟨S2x16x128x2x64, .f32⟩ : BufTy).Contents (Elt F) → (⟨S2x15x128x2x64, .f32⟩ : BufTy).Contents (Elt F)),
    binary main_v11 main_v16 main_v17 ((fun a b => concatenate S2x16x128x2x64 1 [⟨S2x1x128x2x64, a⟩, ⟨S2x15x128x2x64, b⟩] concatenates_S2x1x128x2x64_S2x15x128x2x64_S2x16x128x2x64_d1) : (⟨S2x1x128x2x64, .f32⟩ : BufTy).Contents (Elt F) → (⟨S2x15x128x2x64, .f32⟩ : BufTy).Contents (Elt F) → (⟨S2x16x128x2x64, .f32⟩ : BufTy).Contents (Elt F)),
    nullary main_cst_1 (constant S_ .f32 0x00000000#32),
    unary main_cst_1 main_v18 (broadcastInDim S2x1x128x2x64 ![] bcast_S_S2x1x128x2x64 : (⟨S_, .f32⟩ : BufTy).Contents (Elt F) → (⟨S2x1x128x2x64, .f32⟩ : BufTy).Contents (Elt F)),
    binary main_v17 main_v10 main_v19 ((fun a b => concatenate S2x16x256x2x64 2 [⟨S2x16x128x2x64, a⟩, ⟨S2x16x128x2x64, b⟩] concatenates_S2x16x128x2x64_S2x16x128x2x64_S2x16x256x2x64_d2) : (⟨S2x16x128x2x64, .f32⟩ : BufTy).Contents (Elt F) → (⟨S2x16x128x2x64, .f32⟩ : BufTy).Contents (Elt F) → (⟨S2x16x256x2x64, .f32⟩ : BufTy).Contents (Elt F)),
    binary main_v15 main_v8 main_v20 ((fun l r => Host.dotGeneral dot_S2x16x256x2x64_S2x16x128x2x4x64_S2x16x2x256x128x4_4_5_2_24_013_013 none l r) : (⟨S2x16x256x2x64, .f32⟩ : BufTy).Contents (Elt F) → (⟨S2x16x128x2x4x64, .f32⟩ : BufTy).Contents (Elt F) → (⟨S2x16x2x256x128x4, .f32⟩ : BufTy).Contents (Elt F)),
    unary main_v20 main_v21 ((transpose S2x16x2x4x128x256 [0, 1, 2, 5, 4, 3] · transposes_S2x16x2x256x128x4_S2x16x2x4x128x256_0_1_2_5_4_3) : (⟨S2x16x2x256x128x4, .f32⟩ : BufTy).Contents (Elt F) → (⟨S2x16x2x4x128x256, .f32⟩ : BufTy).Contents (Elt F)),
    nullary main_cst_2 (constant S_ .f32 0x3E000000#32),
    unary main_cst_2 main_v22 (broadcastInDim S2x16x2x4x128x256 ![] bcast_S_S2x16x2x4x128x256 : (⟨S_, .f32⟩ : BufTy).Contents (Elt F) → (⟨S2x16x2x4x128x256, .f32⟩ : BufTy).Contents (Elt F)),
    binary main_v21 main_v22 main_v23 (mulf : (⟨S2x16x2x4x128x256, .f32⟩ : BufTy).Contents (Elt F) → (⟨S2x16x2x4x128x256, .f32⟩ : BufTy).Contents (Elt F) → (⟨S2x16x2x4x128x256, .f32⟩ : BufTy).Contents (Elt F)),
    nullary main_v24 (iotaInDim S128 32 0),
    unary main_v24 main_v25 (broadcastInDim S128x1 ![0] bcast_S128_S128x1_0 : (⟨S128, .i32⟩ : BufTy).Contents (Elt F) → (⟨S128x1, .i32⟩ : BufTy).Contents (Elt F)),
    nullary main_v26 (iotaInDim S256 32 0),
    unary main_v26 main_v27 (broadcastInDim S1x256 ![1] bcast_S256_S1x256_1 : (⟨S256, .i32⟩ : BufTy).Contents (Elt F) → (⟨S1x256, .i32⟩ : BufTy).Contents (Elt F)),
    nullary main_c (constantI S_ 32 128#32),
    unary main_c main_v28 (broadcastInDim S1x256 ![] bcast_S_S1x256 : (⟨S_, .i32⟩ : BufTy).Contents (Elt F) → (⟨S1x256, .i32⟩ : BufTy).Contents (Elt F)),
    binary main_v27 main_v28 main_v29 (subi : (⟨S1x256, .i32⟩ : BufTy).Contents (Elt F) → (⟨S1x256, .i32⟩ : BufTy).Contents (Elt F) → (⟨S1x256, .i32⟩ : BufTy).Contents (Elt F)),
    unary main_v25 main_v30 (broadcastInDim S128x256 ![0, 1] bcast_S128x1_S128x256_0_1 : (⟨S128x1, .i32⟩ : BufTy).Contents (Elt F) → (⟨S128x256, .i32⟩ : BufTy).Contents (Elt F)),
    unary main_v29 main_v31 (broadcastInDim S128x256 ![0, 1] bcast_S1x256_S128x256_0_1 : (⟨S1x256, .i32⟩ : BufTy).Contents (Elt F) → (⟨S128x256, .i32⟩ : BufTy).Contents (Elt F)),
    binary main_v30 main_v31 main_v32 (subi : (⟨S128x256, .i32⟩ : BufTy).Contents (Elt F) → (⟨S128x256, .i32⟩ : BufTy).Contents (Elt F) → (⟨S128x256, .i32⟩ : BufTy).Contents (Elt F)),
    nullary main_c_3 (constantI S_ 32 0#32),
    unary main_c_3 main_v33 (broadcastInDim S128x256 ![] bcast_S_S128x256 : (⟨S_, .i32⟩ : BufTy).Contents (Elt F) → (⟨S128x256, .i32⟩ : BufTy).Contents (Elt F)),
    binary main_v32 main_v33 main_v34 (cmpi .sge : (⟨S128x256, .i32⟩ : BufTy).Contents (Elt F) → (⟨S128x256, .i32⟩ : BufTy).Contents (Elt F) → (⟨S128x256, .i1⟩ : BufTy).Contents (Elt F)),
    nullary main_c_4 (constantI S_ 32 128#32),
    unary main_c_4 main_v35 (broadcastInDim S128x256 ![] bcast_S_S128x256 : (⟨S_, .i32⟩ : BufTy).Contents (Elt F) → (⟨S128x256, .i32⟩ : BufTy).Contents (Elt F)),
    binary main_v32 main_v35 main_v36 (cmpi .slt : (⟨S128x256, .i32⟩ : BufTy).Contents (Elt F) → (⟨S128x256, .i32⟩ : BufTy).Contents (Elt F) → (⟨S128x256, .i1⟩ : BufTy).Contents (Elt F)),
    binary main_v34 main_v36 main_v37 (andi : (⟨S128x256, .i1⟩ : BufTy).Contents (Elt F) → (⟨S128x256, .i1⟩ : BufTy).Contents (Elt F) → (⟨S128x256, .i1⟩ : BufTy).Contents (Elt F)),
    unary main_v37 main_v38 (broadcastInDim S1x128x256 ![1, 2] bcast_S128x256_S1x128x256_1_2 : (⟨S128x256, .i1⟩ : BufTy).Contents (Elt F) → (⟨S1x128x256, .i1⟩ : BufTy).Contents (Elt F)),
    nullary main_v39 (iotaInDim S16 32 0),
    unary main_v39 main_v40 (broadcastInDim S16x1x1 ![0] bcast_S16_S16x1x1_0 : (⟨S16, .i32⟩ : BufTy).Contents (Elt F) → (⟨S16x1x1, .i32⟩ : BufTy).Contents (Elt F)),
    nullary main_c_5 (constantI S_ 32 0#32),
    unary main_c_5 main_v41 (broadcastInDim S16x1x1 ![] bcast_S_S16x1x1 : (⟨S_, .i32⟩ : BufTy).Contents (Elt F) → (⟨S16x1x1, .i32⟩ : BufTy).Contents (Elt F)),
    binary main_v40 main_v41 main_v42 (cmpi .sgt : (⟨S16x1x1, .i32⟩ : BufTy).Contents (Elt F) → (⟨S16x1x1, .i32⟩ : BufTy).Contents (Elt F) → (⟨S16x1x1, .i1⟩ : BufTy).Contents (Elt F)),
    unary main_v29 main_v43 (broadcastInDim S1x1x256 ![1, 2] bcast_S1x256_S1x1x256_1_2 : (⟨S1x256, .i32⟩ : BufTy).Contents (Elt F) → (⟨S1x1x256, .i32⟩ : BufTy).Contents (Elt F)),
    nullary main_c_6 (constantI S_ 32 0#32),
    unary main_c_6 main_v44 (broadcastInDim S1x1x256 ![] bcast_S_S1x1x256 : (⟨S_, .i32⟩ : BufTy).Contents (Elt F) → (⟨S1x1x256, .i32⟩ : BufTy).Contents (Elt F)),
    binary main_v43 main_v44 main_v45 (cmpi .sge : (⟨S1x1x256, .i32⟩ : BufTy).Contents (Elt F) → (⟨S1x1x256, .i32⟩ : BufTy).Contents (Elt F) → (⟨S1x1x256, .i1⟩ : BufTy).Contents (Elt F)),
    unary main_v42 main_v46 (broadcastInDim S16x1x256 ![0, 1, 2] bcast_S16x1x1_S16x1x256_0_1_2 : (⟨S16x1x1, .i1⟩ : BufTy).Contents (Elt F) → (⟨S16x1x256, .i1⟩ : BufTy).Contents (Elt F)),
    unary main_v45 main_v47 (broadcastInDim S16x1x256 ![0, 1, 2] bcast_S1x1x256_S16x1x256_0_1_2 : (⟨S1x1x256, .i1⟩ : BufTy).Contents (Elt F) → (⟨S16x1x256, .i1⟩ : BufTy).Contents (Elt F)),
    binary main_v46 main_v47 main_v48 (ori : (⟨S16x1x256, .i1⟩ : BufTy).Contents (Elt F) → (⟨S16x1x256, .i1⟩ : BufTy).Contents (Elt F) → (⟨S16x1x256, .i1⟩ : BufTy).Contents (Elt F)),
    unary main_v38 main_v49 (broadcastInDim S16x128x256 ![0, 1, 2] bcast_S1x128x256_S16x128x256_0_1_2 : (⟨S1x128x256, .i1⟩ : BufTy).Contents (Elt F) → (⟨S16x128x256, .i1⟩ : BufTy).Contents (Elt F)),
    unary main_v48 main_v50 (broadcastInDim S16x128x256 ![0, 1, 2] bcast_S16x1x256_S16x128x256_0_1_2 : (⟨S16x1x256, .i1⟩ : BufTy).Contents (Elt F) → (⟨S16x128x256, .i1⟩ : BufTy).Contents (Elt F)) ]

/-- Operations of window 1 of the line. -/
def part1 : List (HloOp τ sig (Elt F)) :=
  [ binary main_v49 main_v50 main_v51 (andi : (⟨S16x128x256, .i1⟩ : BufTy).Contents (Elt F) → (⟨S16x128x256, .i1⟩ : BufTy).Contents (Elt F) → (⟨S16x128x256, .i1⟩ : BufTy).Contents (Elt F)),
    unary main_v51 main_v52 (broadcastInDim S1x16x1x1x128x256 ![1, 4, 5] bcast_S16x128x256_S1x16x1x1x128x256_1_4_5 : (⟨S16x128x256, .i1⟩ : BufTy).Contents (Elt F) → (⟨S1x16x1x1x128x256, .i1⟩ : BufTy).Contents (Elt F)),
    nullary main_cst_7 (constant S_ .f32 0xFF800000#32),
    TRef.unary (TRef.of (T := ⟨S_, .f32⟩) main_cst_7) (TRef.of (T := ⟨S_, .f32⟩) main_call0_v0) id,
    TRef.unary (TRef.of (T := ⟨S1x16x1x1x128x256, .i1⟩) main_v52) (TRef.of (T := ⟨S2x16x2x4x128x256, .i1⟩) main_v53_1) (broadcastInDim S2x16x2x4x128x256 ![0, 1, 2, 3, 4, 5] bcast_S1x16x1x1x128x256_S2x16x2x4x128x256_0_1_2_3_4_5),
    TRef.unary (TRef.of (T := ⟨S_, .f32⟩) main_call0_v0) (TRef.of (T := ⟨S2x16x2x4x128x256, .f32⟩) main_call0_v2) (broadcastInDim S2x16x2x4x128x256 ![] bcast_S_S2x16x2x4x128x256),
    TRef.ternary (TRef.of (T := ⟨S2x16x2x4x128x256, .i1⟩) main_v53_1) (TRef.of (T := ⟨S2x16x2x4x128x256, .f32⟩) main_v23) (TRef.of (T := ⟨S2x16x2x4x128x256, .f32⟩) main_call0_v2) (TRef.of (T := ⟨S2x16x2x4x128x256, .f32⟩) main_v53_0) select,
    TRef.nullary (TRef.of (T := ⟨S_, .f32⟩) main_call0_cst) (constant S_ .f32 0x00000000#32),
    TRef.unary (TRef.of (T := ⟨S_, .f32⟩) main_call0_cst) (TRef.of (T := ⟨S2x16x2x4x128x256, .f32⟩) main_v53_2) (broadcastInDim S2x16x2x4x128x256 ![] bcast_S_S2x16x2x4x128x256),
    reshape main_v7 main_v54 (rfl : (.f32 : EltTy) = .f32) shapeCasts_S8_S2x4,
    unary main_v54 main_v55 (broadcastInDim S1x1x2x4x1x1 ![2, 3] bcast_S2x4_S1x1x2x4x1x1_2_3 : (⟨S2x4, .f32⟩ : BufTy).Contents (Elt F) → (⟨S1x1x2x4x1x1, .f32⟩ : BufTy).Contents (Elt F)),
    nullary main_cst_8 (constant S_ .f32 0xFF800000#32),
    binary main_v53_0 main_cst_8 main_v56 ((fun x v => Host.reduce FloatOps.maximumf x v reducesTo_S2x16x2x4x128x256_S2x16x2x4x128_d5 h_S_) : (⟨S2x16x2x4x128x256, .f32⟩ : BufTy).Contents (Elt F) → (⟨S_, .f32⟩ : BufTy).Contents (Elt F) → (⟨S2x16x2x4x128, .f32⟩ : BufTy).Contents (Elt F)),
    reshape main_v56 main_v57 (rfl : (.f32 : EltTy) = .f32) shapeCasts_S2x16x2x4x128_S2x16x2x4x128x1,
    unary main_v57 main_v58 (broadcastInDim S2x16x2x4x128x256 ![0, 1, 2, 3, 4, 5] bcast_S2x16x2x4x128x1_S2x16x2x4x128x256_0_1_2_3_4_5 : (⟨S2x16x2x4x128x1, .f32⟩ : BufTy).Contents (Elt F) → (⟨S2x16x2x4x128x256, .f32⟩ : BufTy).Contents (Elt F)),
    binary main_v53_0 main_v58 main_v59 (cmpf .oeq : (⟨S2x16x2x4x128x256, .f32⟩ : BufTy).Contents (Elt F) → (⟨S2x16x2x4x128x256, .f32⟩ : BufTy).Contents (Elt F) → (⟨S2x16x2x4x128x256, .i1⟩ : BufTy).Contents (Elt F)),
    unary main_v59 main_v60 (uitofp .f32 : (⟨S2x16x2x4x128x256, .i1⟩ : BufTy).Contents (Elt F) → (⟨S2x16x2x4x128x256, .f32⟩ : BufTy).Contents (Elt F)),
    nullary main_cst_9 (constant S_ .f32 0x00000000#32),
    binary main_v60 main_cst_9 main_v61 ((fun x v => Host.reduceAdd x v reducesTo_S2x16x2x4x128x256_S2x16x2x4x128_d5 h_S_) : (⟨S2x16x2x4x128x256, .f32⟩ : BufTy).Contents (Elt F) → (⟨S_, .f32⟩ : BufTy).Contents (Elt F) → (⟨S2x16x2x4x128, .f32⟩ : BufTy).Contents (Elt F)),
    unary main_v56 main_v62 (broadcastInDim S2x16x2x4x128x1 ![0, 1, 2, 3, 4] bcast_S2x16x2x4x128_S2x16x2x4x128x1_0_1_2_3_4 : (⟨S2x16x2x4x128, .f32⟩ : BufTy).Contents (Elt F) → (⟨S2x16x2x4x128x1, .f32⟩ : BufTy).Contents (Elt F)),
    unary main_v62 main_v63 (broadcastInDim S2x16x2x4x128x256 ![0, 1, 2, 3, 4, 5] bcast_S2x16x2x4x128x1_S2x16x2x4x128x256_0_1_2_3_4_5 : (⟨S2x16x2x4x128x1, .f32⟩ : BufTy).Contents (Elt F) → (⟨S2x16x2x4x128x256, .f32⟩ : BufTy).Contents (Elt F)),
    binary main_v53_0 main_v63 main_v64 (subf : (⟨S2x16x2x4x128x256, .f32⟩ : BufTy).Contents (Elt F) → (⟨S2x16x2x4x128x256, .f32⟩ : BufTy).Contents (Elt F) → (⟨S2x16x2x4x128x256, .f32⟩ : BufTy).Contents (Elt F)),
    unary main_v64 main_v65 (Host.exp : (⟨S2x16x2x4x128x256, .f32⟩ : BufTy).Contents (Elt F) → (⟨S2x16x2x4x128x256, .f32⟩ : BufTy).Contents (Elt F)),
    nullary main_cst_10 (constant S_ .f32 0x00000000#32),
    binary main_v65 main_cst_10 main_v66 ((fun x v => Host.reduceAdd x v reducesTo_S2x16x2x4x128x256_S2x16x2x4x128_d5 h_S_) : (⟨S2x16x2x4x128x256, .f32⟩ : BufTy).Contents (Elt F) → (⟨S_, .f32⟩ : BufTy).Contents (Elt F) → (⟨S2x16x2x4x128, .f32⟩ : BufTy).Contents (Elt F)),
    unary main_v66 main_v67 (broadcastInDim S2x16x2x4x128x1 ![0, 1, 2, 3, 4] bcast_S2x16x2x4x128_S2x16x2x4x128x1_0_1_2_3_4 : (⟨S2x16x2x4x128, .f32⟩ : BufTy).Contents (Elt F) → (⟨S2x16x2x4x128x1, .f32⟩ : BufTy).Contents (Elt F)),
    unary main_v67 main_v68 (Host.log : (⟨S2x16x2x4x128x1, .f32⟩ : BufTy).Contents (Elt F) → (⟨S2x16x2x4x128x1, .f32⟩ : BufTy).Contents (Elt F)),
    binary main_v68 main_v62 main_v69 (addf : (⟨S2x16x2x4x128x1, .f32⟩ : BufTy).Contents (Elt F) → (⟨S2x16x2x4x128x1, .f32⟩ : BufTy).Contents (Elt F) → (⟨S2x16x2x4x128x1, .f32⟩ : BufTy).Contents (Elt F)),
    unary main_v55 main_v70 (broadcastInDim S2x16x2x4x128x1 ![0, 1, 2, 3, 4, 5] bcast_S1x1x2x4x1x1_S2x16x2x4x128x1_0_1_2_3_4_5 : (⟨S1x1x2x4x1x1, .f32⟩ : BufTy).Contents (Elt F) → (⟨S2x16x2x4x128x1, .f32⟩ : BufTy).Contents (Elt F)),
    binary main_v69 main_v70 main_v71 (maximumf : (⟨S2x16x2x4x128x1, .f32⟩ : BufTy).Contents (Elt F) → (⟨S2x16x2x4x128x1, .f32⟩ : BufTy).Contents (Elt F) → (⟨S2x16x2x4x128x1, .f32⟩ : BufTy).Contents (Elt F)),
    unary main_v55 main_v72 (broadcastInDim S2x16x2x4x128x1 ![0, 1, 2, 3, 4, 5] bcast_S1x1x2x4x1x1_S2x16x2x4x128x1_0_1_2_3_4_5 : (⟨S1x1x2x4x1x1, .f32⟩ : BufTy).Contents (Elt F) → (⟨S2x16x2x4x128x1, .f32⟩ : BufTy).Contents (Elt F)),
    binary main_v69 main_v72 main_v73 (subf : (⟨S2x16x2x4x128x1, .f32⟩ : BufTy).Contents (Elt F) → (⟨S2x16x2x4x128x1, .f32⟩ : BufTy).Contents (Elt F) → (⟨S2x16x2x4x128x1, .f32⟩ : BufTy).Contents (Elt F)),
    binary main_v73 main_v73 main_v74 (cmpf .une : (⟨S2x16x2x4x128x1, .f32⟩ : BufTy).Contents (Elt F) → (⟨S2x16x2x4x128x1, .f32⟩ : BufTy).Contents (Elt F) → (⟨S2x16x2x4x128x1, .i1⟩ : BufTy).Contents (Elt F)),
    unary main_v55 main_v75 (broadcastInDim S2x16x2x4x128x1 ![0, 1, 2, 3, 4, 5] bcast_S1x1x2x4x1x1_S2x16x2x4x128x1_0_1_2_3_4_5 : (⟨S1x1x2x4x1x1, .f32⟩ : BufTy).Contents (Elt F) → (⟨S2x16x2x4x128x1, .f32⟩ : BufTy).Contents (Elt F)),
    binary main_v69 main_v75 main_v76 (addf : (⟨S2x16x2x4x128x1, .f32⟩ : BufTy).Contents (Elt F) → (⟨S2x16x2x4x128x1, .f32⟩ : BufTy).Contents (Elt F) → (⟨S2x16x2x4x128x1, .f32⟩ : BufTy).Contents (Elt F)),
    unary main_v73 main_v77 (Host.absf : (⟨S2x16x2x4x128x1, .f32⟩ : BufTy).Contents (Elt F) → (⟨S2x16x2x4x128x1, .f32⟩ : BufTy).Contents (Elt F)),
    unary main_v77 main_v78 (Host.negf : (⟨S2x16x2x4x128x1, .f32⟩ : BufTy).Contents (Elt F) → (⟨S2x16x2x4x128x1, .f32⟩ : BufTy).Contents (Elt F)),
    unary main_v78 main_v79 (Host.exp : (⟨S2x16x2x4x128x1, .f32⟩ : BufTy).Contents (Elt F) → (⟨S2x16x2x4x128x1, .f32⟩ : BufTy).Contents (Elt F)),
    unary main_v79 main_v80 (Host.log1p : (⟨S2x16x2x4x128x1, .f32⟩ : BufTy).Contents (Elt F) → (⟨S2x16x2x4x128x1, .f32⟩ : BufTy).Contents (Elt F)),
    binary main_v71 main_v80 main_v81 (addf : (⟨S2x16x2x4x128x1, .f32⟩ : BufTy).Contents (Elt F) → (⟨S2x16x2x4x128x1, .f32⟩ : BufTy).Contents (Elt F) → (⟨S2x16x2x4x128x1, .f32⟩ : BufTy).Contents (Elt F)),
    ternary main_v74 main_v76 main_v81 main_v82 (select : (⟨S2x16x2x4x128x1, .i1⟩ : BufTy).Contents (Elt F) → (⟨S2x16x2x4x128x1, .f32⟩ : BufTy).Contents (Elt F) → (⟨S2x16x2x4x128x1, .f32⟩ : BufTy).Contents (Elt F) → (⟨S2x16x2x4x128x1, .f32⟩ : BufTy).Contents (Elt F)),
    nullary main_cst_11 (constant S_ .f32 0x7F800000#32),
    unary main_cst_11 main_v83 (broadcastInDim S2x16x2x4x128x1 ![] bcast_S_S2x16x2x4x128x1 : (⟨S_, .f32⟩ : BufTy).Contents (Elt F) → (⟨S2x16x2x4x128x1, .f32⟩ : BufTy).Contents (Elt F)),
    binary main_v69 main_v83 main_v84 (cmpf .oeq : (⟨S2x16x2x4x128x1, .f32⟩ : BufTy).Contents (Elt F) → (⟨S2x16x2x4x128x1, .f32⟩ : BufTy).Contents (Elt F) → (⟨S2x16x2x4x128x1, .i1⟩ : BufTy).Contents (Elt F)),
    nullary main_cst_12 (constant S_ .f32 0x00000000#32),
    unary main_cst_12 main_v85 (broadcastInDim S2x16x2x4x128x1 ![] bcast_S_S2x16x2x4x128x1 : (⟨S_, .f32⟩ : BufTy).Contents (Elt F) → (⟨S2x16x2x4x128x1, .f32⟩ : BufTy).Contents (Elt F)),
    ternary main_v84 main_v85 main_v69 main_v86 (select : (⟨S2x16x2x4x128x1, .i1⟩ : BufTy).Contents (Elt F) → (⟨S2x16x2x4x128x1, .f32⟩ : BufTy).Contents (Elt F) → (⟨S2x16x2x4x128x1, .f32⟩ : BufTy).Contents (Elt F) → (⟨S2x16x2x4x128x1, .f32⟩ : BufTy).Contents (Elt F)),
    nullary main_cst_13 (constant S_ .f32 0x7F800000#32),
    unary main_cst_13 main_v87 (broadcastInDim S2x16x2x4x128x1 ![] bcast_S_S2x16x2x4x128x1 : (⟨S_, .f32⟩ : BufTy).Contents (Elt F) → (⟨S2x16x2x4x128x1, .f32⟩ : BufTy).Contents (Elt F)),
    binary main_v82 main_v87 main_v88 (cmpf .oeq : (⟨S2x16x2x4x128x1, .f32⟩ : BufTy).Contents (Elt F) → (⟨S2x16x2x4x128x1, .f32⟩ : BufTy).Contents (Elt F) → (⟨S2x16x2x4x128x1, .i1⟩ : BufTy).Contents (Elt F)),
    nullary main_cst_14 (constant S_ .f32 0x00000000#32),
    unary main_cst_14 main_v89 (broadcastInDim S2x16x2x4x128x1 ![] bcast_S_S2x16x2x4x128x1 : (⟨S_, .f32⟩ : BufTy).Contents (Elt F) → (⟨S2x16x2x4x128x1, .f32⟩ : BufTy).Contents (Elt F)),
    ternary main_v88 main_v89 main_v82 main_v90 (select : (⟨S2x16x2x4x128x1, .i1⟩ : BufTy).Contents (Elt F) → (⟨S2x16x2x4x128x1, .f32⟩ : BufTy).Contents (Elt F) → (⟨S2x16x2x4x128x1, .f32⟩ : BufTy).Contents (Elt F) → (⟨S2x16x2x4x128x1, .f32⟩ : BufTy).Contents (Elt F)),
    binary main_v86 main_v90 main_v91 (subf : (⟨S2x16x2x4x128x1, .f32⟩ : BufTy).Contents (Elt F) → (⟨S2x16x2x4x128x1, .f32⟩ : BufTy).Contents (Elt F) → (⟨S2x16x2x4x128x1, .f32⟩ : BufTy).Contents (Elt F)),
    unary main_v91 main_v92 (Host.exp : (⟨S2x16x2x4x128x1, .f32⟩ : BufTy).Contents (Elt F) → (⟨S2x16x2x4x128x1, .f32⟩ : BufTy).Contents (Elt F)),
    nullary main_cst_15 (constant S_ .f32 0x7F800000#32),
    unary main_cst_15 main_v93 (broadcastInDim S1x1x2x4x1x1 ![] bcast_S_S1x1x2x4x1x1 : (⟨S_, .f32⟩ : BufTy).Contents (Elt F) → (⟨S1x1x2x4x1x1, .f32⟩ : BufTy).Contents (Elt F)),
    binary main_v55 main_v93 main_v94 (cmpf .oeq : (⟨S1x1x2x4x1x1, .f32⟩ : BufTy).Contents (Elt F) → (⟨S1x1x2x4x1x1, .f32⟩ : BufTy).Contents (Elt F) → (⟨S1x1x2x4x1x1, .i1⟩ : BufTy).Contents (Elt F)),
    nullary main_cst_16 (constant S_ .f32 0x00000000#32),
    unary main_cst_16 main_v95 (broadcastInDim S1x1x2x4x1x1 ![] bcast_S_S1x1x2x4x1x1 : (⟨S_, .f32⟩ : BufTy).Contents (Elt F) → (⟨S1x1x2x4x1x1, .f32⟩ : BufTy).Contents (Elt F)),
    ternary main_v94 main_v95 main_v55 main_v96 (select : (⟨S1x1x2x4x1x1, .i1⟩ : BufTy).Contents (Elt F) → (⟨S1x1x2x4x1x1, .f32⟩ : BufTy).Contents (Elt F) → (⟨S1x1x2x4x1x1, .f32⟩ : BufTy).Contents (Elt F) → (⟨S1x1x2x4x1x1, .f32⟩ : BufTy).Contents (Elt F)),
    nullary main_cst_17 (constant S_ .f32 0x7F800000#32),
    unary main_cst_17 main_v97 (broadcastInDim S2x16x2x4x128x1 ![] bcast_S_S2x16x2x4x128x1 : (⟨S_, .f32⟩ : BufTy).Contents (Elt F) → (⟨S2x16x2x4x128x1, .f32⟩ : BufTy).Contents (Elt F)),
    binary main_v82 main_v97 main_v98 (cmpf .oeq : (⟨S2x16x2x4x128x1, .f32⟩ : BufTy).Contents (Elt F) → (⟨S2x16x2x4x128x1, .f32⟩ : BufTy).Contents (Elt F) → (⟨S2x16x2x4x128x1, .i1⟩ : BufTy).Contents (Elt F)),
    nullary main_cst_18 (constant S_ .f32 0x00000000#32) ]

/-- Operations of window 2 of the line. -/
def part2 : List (HloOp τ sig (Elt F)) :=
  [ unary main_cst_18 main_v99 (broadcastInDim S2x16x2x4x128x1 ![] bcast_S_S2x16x2x4x128x1 : (⟨S_, .f32⟩ : BufTy).Contents (Elt F) → (⟨S2x16x2x4x128x1, .f32⟩ : BufTy).Contents (Elt F)),
    ternary main_v98 main_v99 main_v82 main_v100 (select : (⟨S2x16x2x4x128x1, .i1⟩ : BufTy).Contents (Elt F) → (⟨S2x16x2x4x128x1, .f32⟩ : BufTy).Contents (Elt F) → (⟨S2x16x2x4x128x1, .f32⟩ : BufTy).Contents (Elt F) → (⟨S2x16x2x4x128x1, .f32⟩ : BufTy).Contents (Elt F)),
    unary main_v96 main_v101 (broadcastInDim S2x16x2x4x128x1 ![0, 1, 2, 3, 4, 5] bcast_S1x1x2x4x1x1_S2x16x2x4x128x1_0_1_2_3_4_5 : (⟨S1x1x2x4x1x1, .f32⟩ : BufTy).Contents (Elt F) → (⟨S2x16x2x4x128x1, .f32⟩ : BufTy).Contents (Elt F)),
    binary main_v101 main_v100 main_v102 (subf : (⟨S2x16x2x4x128x1, .f32⟩ : BufTy).Contents (Elt F) → (⟨S2x16x2x4x128x1, .f32⟩ : BufTy).Contents (Elt F) → (⟨S2x16x2x4x128x1, .f32⟩ : BufTy).Contents (Elt F)),
    unary main_v102 main_v103 (Host.exp : (⟨S2x16x2x4x128x1, .f32⟩ : BufTy).Contents (Elt F) → (⟨S2x16x2x4x128x1, .f32⟩ : BufTy).Contents (Elt F)),
    unary main_v82 main_v104 (broadcastInDim S2x16x2x4x128x256 ![0, 1, 2, 3, 4, 5] bcast_S2x16x2x4x128x1_S2x16x2x4x128x256_0_1_2_3_4_5 : (⟨S2x16x2x4x128x1, .f32⟩ : BufTy).Contents (Elt F) → (⟨S2x16x2x4x128x256, .f32⟩ : BufTy).Contents (Elt F)),
    binary main_v53_0 main_v104 main_v105 (subf : (⟨S2x16x2x4x128x256, .f32⟩ : BufTy).Contents (Elt F) → (⟨S2x16x2x4x128x256, .f32⟩ : BufTy).Contents (Elt F) → (⟨S2x16x2x4x128x256, .f32⟩ : BufTy).Contents (Elt F)),
    unary main_v105 main_v106 (Host.exp : (⟨S2x16x2x4x128x256, .f32⟩ : BufTy).Contents (Elt F) → (⟨S2x16x2x4x128x256, .f32⟩ : BufTy).Contents (Elt F)),
    binary main_v19 main_v106 main_v107 ((fun l r => Host.dotGeneral dot_S2x16x256x2x64_S2x16x2x4x128x256_S2x16x2x64x4x128_2_5_4_34_013_012 none l r) : (⟨S2x16x256x2x64, .f32⟩ : BufTy).Contents (Elt F) → (⟨S2x16x2x4x128x256, .f32⟩ : BufTy).Contents (Elt F) → (⟨S2x16x2x64x4x128, .f32⟩ : BufTy).Contents (Elt F)),
    unary main_v107 main_v108 ((transpose S2x16x128x2x4x64 [0, 1, 5, 2, 4, 3] · transposes_S2x16x2x64x4x128_S2x16x128x2x4x64_0_1_5_2_4_3) : (⟨S2x16x2x64x4x128, .f32⟩ : BufTy).Contents (Elt F) → (⟨S2x16x128x2x4x64, .f32⟩ : BufTy).Contents (Elt F)),
    reshape main_v108 main_v109 (rfl : (.f32 : EltTy) = .f32) shapeCasts_S2x16x128x2x4x64_S2x2048x512,
    reshape main_v2 main_v110 (rfl : (.f32 : EltTy) = .f32) shapeCasts_S4096x512_S2x2048x512,
    TRef.unary (TRef.of (T := ⟨S2x2048x512, .f32⟩) main_v110) (TRef.of (T := ⟨S2x2048x512, .f32⟩) main_call1_v0) Host.negf,
    TRef.unary (TRef.of (T := ⟨S2x2048x512, .f32⟩) main_call1_v0) (TRef.of (T := ⟨S2x2048x512, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S2x2048x512, .f32⟩) main_call1_v2) (broadcastInDim S2x2048x512 ![] bcast_S_S2x2048x512),
    TRef.binary (TRef.of (T := ⟨S2x2048x512, .f32⟩) main_call1_v2) (TRef.of (T := ⟨S2x2048x512, .f32⟩) main_call1_v1) (TRef.of (T := ⟨S2x2048x512, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S2x2048x512, .f32⟩) main_call1_v4) (broadcastInDim S2x2048x512 ![] bcast_S_S2x2048x512),
    TRef.binary (TRef.of (T := ⟨S2x2048x512, .f32⟩) main_call1_v4) (TRef.of (T := ⟨S2x2048x512, .f32⟩) main_call1_v3) (TRef.of (T := ⟨S2x2048x512, .f32⟩) main_v111_2) Host.divf,
    TRef.nullary (TRef.of (T := ⟨S_, .f32⟩) main_call1_cst_1) (constant S_ .f32 0x3F800000#32),
    TRef.unary (TRef.of (T := ⟨S_, .f32⟩) main_call1_cst_1) (TRef.of (T := ⟨S2x2048x512, .f32⟩) main_call1_v6) (broadcastInDim S2x2048x512 ![] bcast_S_S2x2048x512),
    TRef.binary (TRef.of (T := ⟨S2x2048x512, .f32⟩) main_call1_v6) (TRef.of (T := ⟨S2x2048x512, .f32⟩) main_v111_2) (TRef.of (T := ⟨S2x2048x512, .f32⟩) main_call1_v7) subf,
    TRef.binary (TRef.of (T := ⟨S2x2048x512, .f32⟩) main_v111_2) (TRef.of (T := ⟨S2x2048x512, .f32⟩) main_call1_v7) (TRef.of (T := ⟨S2x2048x512, .f32⟩) main_v111_1) mulf,
    TRef.binary (TRef.of (T := ⟨S2x2048x512, .f32⟩) main_v110) (TRef.of (T := ⟨S2x2048x512, .f32⟩) main_v111_2) (TRef.of (T := ⟨S2x2048x512, .f32⟩) main_v111_0) mulf,
    binary main_v109 main_v111_0 main_v112 (mulf : (⟨S2x2048x512, .f32⟩ : BufTy).Contents (Elt F) → (⟨S2x2048x512, .f32⟩ : BufTy).Contents (Elt F) → (⟨S2x2048x512, .f32⟩ : BufTy).Contents (Elt F)),
    reshape main_v112 main_v113 (rfl : (.f32 : EltTy) = .f32) shapeCasts_S2x2048x512_S4096x512,
    binary main_v113 main_v1 main_v114 ((fun l r => Host.dotGeneral dot_S4096x512_S512x1024_S4096x1024_1_0_0_1_n_n none l r) : (⟨S4096x512, .f32⟩ : BufTy).Contents (Elt F) → (⟨S512x1024, .f32⟩ : BufTy).Contents (Elt F) → (⟨S4096x1024, .f32⟩ : BufTy).Contents (Elt F)),
    binary main_arg0 main_v1 main_v115 ((fun l r => Host.dotGeneral dot_S4096x1024_S512x1024_S4096x512_1_1_0_0_n_n none l r) : (⟨S4096x1024, .f32⟩ : BufTy).Contents (Elt F) → (⟨S512x1024, .f32⟩ : BufTy).Contents (Elt F) → (⟨S4096x512, .f32⟩ : BufTy).Contents (Elt F)),
    reshape main_v115 main_v116 (rfl : (.f32 : EltTy) = .f32) shapeCasts_S4096x512_S2x2048x512,
    binary main_v109 main_v116 main_v117 (mulf : (⟨S2x2048x512, .f32⟩ : BufTy).Contents (Elt F) → (⟨S2x2048x512, .f32⟩ : BufTy).Contents (Elt F) → (⟨S2x2048x512, .f32⟩ : BufTy).Contents (Elt F)),
    binary main_v116 main_v111_0 main_v118 (mulf : (⟨S2x2048x512, .f32⟩ : BufTy).Contents (Elt F) → (⟨S2x2048x512, .f32⟩ : BufTy).Contents (Elt F) → (⟨S2x2048x512, .f32⟩ : BufTy).Contents (Elt F)),
    TRef.binary (TRef.of (T := ⟨S2x2048x512, .f32⟩) main_v110) (TRef.of (T := ⟨S2x2048x512, .f32⟩) main_v117) (TRef.of (T := ⟨S2x2048x512, .f32⟩) main_call2_v0) mulf,
    TRef.binary (TRef.of (T := ⟨S2x2048x512, .f32⟩) main_v117) (TRef.of (T := ⟨S2x2048x512, .f32⟩) main_v111_2) (TRef.of (T := ⟨S2x2048x512, .f32⟩) main_call2_v1) mulf,
    TRef.binary (TRef.of (T := ⟨S2x2048x512, .f32⟩) main_call2_v0) (TRef.of (T := ⟨S2x2048x512, .f32⟩) main_v111_1) (TRef.of (T := ⟨S2x2048x512, .f32⟩) main_call2_v2) mulf,
    TRef.binary (TRef.of (T := ⟨S2x2048x512, .f32⟩) main_call2_v1) (TRef.of (T := ⟨S2x2048x512, .f32⟩) main_call2_v2) (TRef.of (T := ⟨S2x2048x512, .f32⟩) main_v119) addf,
    reshape main_v119 main_v120 (rfl : (.f32 : EltTy) = .f32) shapeCasts_S2x2048x512_S4096x512,
    reshape main_v118 main_v121 (rfl : (.f32 : EltTy) = .f32) shapeCasts_S2x2048x512_S2x16x128x2x4x64,
    unary main_v121 main_v122 ((transpose S2x16x2x64x4x128 [0, 1, 3, 5, 4, 2] · transposes_S2x16x128x2x4x64_S2x16x2x64x4x128_0_1_3_5_4_2) : (⟨S2x16x128x2x4x64, .f32⟩ : BufTy).Contents (Elt F) → (⟨S2x16x2x64x4x128, .f32⟩ : BufTy).Contents (Elt F)),
    binary main_v122 main_v19 main_v123 ((fun l r => Host.dotGeneral dot_S2x16x2x64x4x128_S2x16x256x2x64_S2x16x2x4x128x256_3_4_45_2_012_013 none l r) : (⟨S2x16x2x64x4x128, .f32⟩ : BufTy).Contents (Elt F) → (⟨S2x16x256x2x64, .f32⟩ : BufTy).Contents (Elt F) → (⟨S2x16x2x4x128x256, .f32⟩ : BufTy).Contents (Elt F)),
    binary main_v122 main_v106 main_v124 ((fun l r => Host.dotGeneral dot_S2x16x2x64x4x128_S2x16x2x4x128x256_S2x16x2x64x256_45_34_3_5_012_012 none l r) : (⟨S2x16x2x64x4x128, .f32⟩ : BufTy).Contents (Elt F) → (⟨S2x16x2x4x128x256, .f32⟩ : BufTy).Contents (Elt F) → (⟨S2x16x2x64x256, .f32⟩ : BufTy).Contents (Elt F)),
    unary main_v124 main_v125 ((transpose S2x16x256x2x64 [0, 1, 4, 2, 3] · transposes_S2x16x2x64x256_S2x16x256x2x64_0_1_4_2_3) : (⟨S2x16x2x64x256, .f32⟩ : BufTy).Contents (Elt F) → (⟨S2x16x256x2x64, .f32⟩ : BufTy).Contents (Elt F)),
    binary main_v123 main_v106 main_v126 (mulf : (⟨S2x16x2x4x128x256, .f32⟩ : BufTy).Contents (Elt F) → (⟨S2x16x2x4x128x256, .f32⟩ : BufTy).Contents (Elt F) → (⟨S2x16x2x4x128x256, .f32⟩ : BufTy).Contents (Elt F)),
    unary main_v126 main_v127 (Host.negf : (⟨S2x16x2x4x128x256, .f32⟩ : BufTy).Contents (Elt F) → (⟨S2x16x2x4x128x256, .f32⟩ : BufTy).Contents (Elt F)),
    nullary main_cst_19 (constant S_ .f32 0x00000000#32),
    binary main_v127 main_cst_19 main_v128 ((fun x v => Host.reduceAdd x v reducesTo_S2x16x2x4x128x256_S2x16x2x4x128_d5 h_S_) : (⟨S2x16x2x4x128x256, .f32⟩ : BufTy).Contents (Elt F) → (⟨S_, .f32⟩ : BufTy).Contents (Elt F) → (⟨S2x16x2x4x128, .f32⟩ : BufTy).Contents (Elt F)),
    reshape main_v128 main_v129 (rfl : (.f32 : EltTy) = .f32) shapeCasts_S2x16x2x4x128_S2x16x2x4x128x1,
    binary main_v129 main_v103 main_v130 (mulf : (⟨S2x16x2x4x128x1, .f32⟩ : BufTy).Contents (Elt F) → (⟨S2x16x2x4x128x1, .f32⟩ : BufTy).Contents (Elt F) → (⟨S2x16x2x4x128x1, .f32⟩ : BufTy).Contents (Elt F)),
    nullary main_cst_20 (constant S_ .f32 0x00000000#32),
    binary main_v130 main_cst_20 main_v131 ((fun x v => Host.reduceAdd x v reducesTo_S2x16x2x4x128x1_S2x4x1_d0_1_4 h_S_) : (⟨S2x16x2x4x128x1, .f32⟩ : BufTy).Contents (Elt F) → (⟨S_, .f32⟩ : BufTy).Contents (Elt F) → (⟨S2x4x1, .f32⟩ : BufTy).Contents (Elt F)),
    reshape main_v131 main_v132 (rfl : (.f32 : EltTy) = .f32) shapeCasts_S2x4x1_S1x1x2x4x1x1,
    binary main_v129 main_v92 main_v133 (mulf : (⟨S2x16x2x4x128x1, .f32⟩ : BufTy).Contents (Elt F) → (⟨S2x16x2x4x128x1, .f32⟩ : BufTy).Contents (Elt F) → (⟨S2x16x2x4x128x1, .f32⟩ : BufTy).Contents (Elt F)),
    binary main_v133 main_v67 main_v134 (Host.divf : (⟨S2x16x2x4x128x1, .f32⟩ : BufTy).Contents (Elt F) → (⟨S2x16x2x4x128x1, .f32⟩ : BufTy).Contents (Elt F) → (⟨S2x16x2x4x128x1, .f32⟩ : BufTy).Contents (Elt F)),
    nullary main_cst_21 (constant S_ .f32 0x00000000#32),
    binary main_v134 main_cst_21 main_v135 ((fun x v => Host.reduceAdd x v reducesTo_S2x16x2x4x128x1_S2x16x2x4x128_d5 h_S_) : (⟨S2x16x2x4x128x1, .f32⟩ : BufTy).Contents (Elt F) → (⟨S_, .f32⟩ : BufTy).Contents (Elt F) → (⟨S2x16x2x4x128, .f32⟩ : BufTy).Contents (Elt F)),
    unary main_v135 main_v136 (broadcastInDim S2x16x2x4x128x256 ![0, 1, 2, 3, 4] bcast_S2x16x2x4x128_S2x16x2x4x128x256_0_1_2_3_4 : (⟨S2x16x2x4x128, .f32⟩ : BufTy).Contents (Elt F) → (⟨S2x16x2x4x128x256, .f32⟩ : BufTy).Contents (Elt F)),
    binary main_v136 main_v65 main_v137 (mulf : (⟨S2x16x2x4x128x256, .f32⟩ : BufTy).Contents (Elt F) → (⟨S2x16x2x4x128x256, .f32⟩ : BufTy).Contents (Elt F) → (⟨S2x16x2x4x128x256, .f32⟩ : BufTy).Contents (Elt F)),
    binary main_v126 main_v137 main_v138 (addf : (⟨S2x16x2x4x128x256, .f32⟩ : BufTy).Contents (Elt F) → (⟨S2x16x2x4x128x256, .f32⟩ : BufTy).Contents (Elt F) → (⟨S2x16x2x4x128x256, .f32⟩ : BufTy).Contents (Elt F)),
    nullary main_cst_22 (constant S_ .f32 0x00000000#32),
    binary main_v132 main_cst_22 main_v139 ((fun x v => Host.reduceAdd x v reducesTo_S1x1x2x4x1x1_S2x4_d0_1_4_5 h_S_) : (⟨S1x1x2x4x1x1, .f32⟩ : BufTy).Contents (Elt F) → (⟨S_, .f32⟩ : BufTy).Contents (Elt F) → (⟨S2x4, .f32⟩ : BufTy).Contents (Elt F)),
    reshape main_v139 main_v140 (rfl : (.f32 : EltTy) = .f32) shapeCasts_S2x4_S8,
    TRef.nullary (TRef.of (T := ⟨S_, .f32⟩) main_call3_cst) (constant S_ .f32 0x00000000#32),
    TRef.unary (TRef.of (T := ⟨S_, .f32⟩) main_call3_cst) (TRef.of (T := ⟨S2x16x2x4x128x256, .f32⟩) main_call3_v0) (broadcastInDim S2x16x2x4x128x256 ![] bcast_S_S2x16x2x4x128x256),
    TRef.ternary (TRef.of (T := ⟨S2x16x2x4x128x256, .i1⟩) main_v53_1) (TRef.of (T := ⟨S2x16x2x4x128x256, .f32⟩) main_v138) (TRef.of (T := ⟨S2x16x2x4x128x256, .f32⟩) main_call3_v0) (TRef.of (T := ⟨S2x16x2x4x128x256, .f32⟩) main_v141) select,
    nullary main_cst_23 (constant S_ .f32 0x3E000000#32),
    unary main_cst_23 main_v142 (broadcastInDim S2x16x2x4x128x256 ![] bcast_S_S2x16x2x4x128x256 : (⟨S_, .f32⟩ : BufTy).Contents (Elt F) → (⟨S2x16x2x4x128x256, .f32⟩ : BufTy).Contents (Elt F)),
    binary main_v141 main_v142 main_v143 (mulf : (⟨S2x16x2x4x128x256, .f32⟩ : BufTy).Contents (Elt F) → (⟨S2x16x2x4x128x256, .f32⟩ : BufTy).Contents (Elt F) → (⟨S2x16x2x4x128x256, .f32⟩ : BufTy).Contents (Elt F)),
    unary main_v143 main_v144 ((transpose S2x16x2x256x128x4 [0, 1, 2, 5, 4, 3] · transposes_S2x16x2x4x128x256_S2x16x2x256x128x4_0_1_2_5_4_3) : (⟨S2x16x2x4x128x256, .f32⟩ : BufTy).Contents (Elt F) → (⟨S2x16x2x256x128x4, .f32⟩ : BufTy).Contents (Elt F)),
    binary main_v144 main_v15 main_v145 ((fun l r => Host.dotGeneral dot_S2x16x2x256x128x4_S2x16x256x2x64_S2x16x2x128x4x64_3_2_45_4_012_013 none l r) : (⟨S2x16x2x256x128x4, .f32⟩ : BufTy).Contents (Elt F) → (⟨S2x16x256x2x64, .f32⟩ : BufTy).Contents (Elt F) → (⟨S2x16x2x128x4x64, .f32⟩ : BufTy).Contents (Elt F)),
    unary main_v145 main_v146 ((transpose S2x16x128x2x4x64 [0, 1, 3, 2, 4, 5] · transposes_S2x16x2x128x4x64_S2x16x128x2x4x64_0_1_3_2_4_5) : (⟨S2x16x2x128x4x64, .f32⟩ : BufTy).Contents (Elt F) → (⟨S2x16x128x2x4x64, .f32⟩ : BufTy).Contents (Elt F)),
    binary main_v144 main_v8 main_v147 ((fun l r => Host.dotGeneral dot_S2x16x2x256x128x4_S2x16x128x2x4x64_S2x16x2x256x64_45_24_3_5_012_013 none l r) : (⟨S2x16x2x256x128x4, .f32⟩ : BufTy).Contents (Elt F) → (⟨S2x16x128x2x4x64, .f32⟩ : BufTy).Contents (Elt F) → (⟨S2x16x2x256x64, .f32⟩ : BufTy).Contents (Elt F)),
    unary main_v147 main_v148 ((transpose S2x16x256x2x64 [0, 1, 3, 2, 4] · transposes_S2x16x2x256x64_S2x16x256x2x64_0_1_3_2_4) : (⟨S2x16x2x256x64, .f32⟩ : BufTy).Contents (Elt F) → (⟨S2x16x256x2x64, .f32⟩ : BufTy).Contents (Elt F)),
    unary main_v125 main_v149 ((extractStridedSlice S2x16x128x2x64 ![0, 0, 0, 0, 0] · slices_S2x16x256x2x64_S2x16x128x2x64_0_0_0_0_0) : (⟨S2x16x256x2x64, .f32⟩ : BufTy).Contents (Elt F) → (⟨S2x16x128x2x64, .f32⟩ : BufTy).Contents (Elt F)),
    unary main_v125 main_v150 ((extractStridedSlice S2x16x128x2x64 ![0, 0, 128, 0, 0] · slices_S2x16x256x2x64_S2x16x128x2x64_0_0_128_0_0) : (⟨S2x16x256x2x64, .f32⟩ : BufTy).Contents (Elt F) → (⟨S2x16x128x2x64, .f32⟩ : BufTy).Contents (Elt F)),
    unary main_v149 main_v151 ((extractStridedSlice S2x1x128x2x64 ![0, 0, 0, 0, 0] · slices_S2x16x128x2x64_S2x1x128x2x64_0_0_0_0_0) : (⟨S2x16x128x2x64, .f32⟩ : BufTy).Contents (Elt F) → (⟨S2x1x128x2x64, .f32⟩ : BufTy).Contents (Elt F)),
    unary main_v149 main_v152 ((extractStridedSlice S2x15x128x2x64 ![0, 1, 0, 0, 0] · slices_S2x16x128x2x64_S2x15x128x2x64_0_1_0_0_0) : (⟨S2x16x128x2x64, .f32⟩ : BufTy).Contents (Elt F) → (⟨S2x15x128x2x64, .f32⟩ : BufTy).Contents (Elt F)),
    nullary main_cst_24 (constant S_ .f32 0x00000000#32) ]

/-- Operations of window 3 of the line. -/
def part3 : List (HloOp τ sig (Elt F)) :=
  [ binary main_v152 main_cst_24 main_v153 ((fun x v => pad S2x16x128x2x64 ![0, 0, 0, 0, 0] ![0, 1, 0, 0, 0] ![0, 0, 0, 0, 0] x v pads_S2x15x128x2x64_S2x16x128x2x64_000_010_000_000_000 h_S_) : (⟨S2x15x128x2x64, .f32⟩ : BufTy).Contents (Elt F) → (⟨S_, .f32⟩ : BufTy).Contents (Elt F) → (⟨S2x16x128x2x64, .f32⟩ : BufTy).Contents (Elt F)),
    binary main_v150 main_v153 main_v154 (addf : (⟨S2x16x128x2x64, .f32⟩ : BufTy).Contents (Elt F) → (⟨S2x16x128x2x64, .f32⟩ : BufTy).Contents (Elt F) → (⟨S2x16x128x2x64, .f32⟩ : BufTy).Contents (Elt F)),
    unary main_v148 main_v155 ((extractStridedSlice S2x16x128x2x64 ![0, 0, 0, 0, 0] · slices_S2x16x256x2x64_S2x16x128x2x64_0_0_0_0_0) : (⟨S2x16x256x2x64, .f32⟩ : BufTy).Contents (Elt F) → (⟨S2x16x128x2x64, .f32⟩ : BufTy).Contents (Elt F)),
    unary main_v148 main_v156 ((extractStridedSlice S2x16x128x2x64 ![0, 0, 128, 0, 0] · slices_S2x16x256x2x64_S2x16x128x2x64_0_0_128_0_0) : (⟨S2x16x256x2x64, .f32⟩ : BufTy).Contents (Elt F) → (⟨S2x16x128x2x64, .f32⟩ : BufTy).Contents (Elt F)),
    unary main_v155 main_v157 ((extractStridedSlice S2x1x128x2x64 ![0, 0, 0, 0, 0] · slices_S2x16x128x2x64_S2x1x128x2x64_0_0_0_0_0) : (⟨S2x16x128x2x64, .f32⟩ : BufTy).Contents (Elt F) → (⟨S2x1x128x2x64, .f32⟩ : BufTy).Contents (Elt F)),
    unary main_v155 main_v158 ((extractStridedSlice S2x15x128x2x64 ![0, 1, 0, 0, 0] · slices_S2x16x128x2x64_S2x15x128x2x64_0_1_0_0_0) : (⟨S2x16x128x2x64, .f32⟩ : BufTy).Contents (Elt F) → (⟨S2x15x128x2x64, .f32⟩ : BufTy).Contents (Elt F)),
    nullary main_cst_25 (constant S_ .f32 0x00000000#32),
    binary main_v158 main_cst_25 main_v159 ((fun x v => pad S2x16x128x2x64 ![0, 0, 0, 0, 0] ![0, 1, 0, 0, 0] ![0, 0, 0, 0, 0] x v pads_S2x15x128x2x64_S2x16x128x2x64_000_010_000_000_000 h_S_) : (⟨S2x15x128x2x64, .f32⟩ : BufTy).Contents (Elt F) → (⟨S_, .f32⟩ : BufTy).Contents (Elt F) → (⟨S2x16x128x2x64, .f32⟩ : BufTy).Contents (Elt F)),
    binary main_v156 main_v159 main_v160 (addf : (⟨S2x16x128x2x64, .f32⟩ : BufTy).Contents (Elt F) → (⟨S2x16x128x2x64, .f32⟩ : BufTy).Contents (Elt F) → (⟨S2x16x128x2x64, .f32⟩ : BufTy).Contents (Elt F)),
    reshape main_v154 main_v161 (rfl : (.f32 : EltTy) = .f32) shapeCasts_S2x16x128x2x64_S4096x128,
    reshape main_v160 main_v162 (rfl : (.f32 : EltTy) = .f32) shapeCasts_S2x16x128x2x64_S4096x128,
    reshape main_v146 main_v163 (rfl : (.f32 : EltTy) = .f32) shapeCasts_S2x16x128x2x4x64_S4096x512,
    unary main_v140 main_v164 (broadcastInDim S1x8 ![1] bcast_S8_S1x8_1 : (⟨S8, .f32⟩ : BufTy).Contents (Elt F) → (⟨S1x8, .f32⟩ : BufTy).Contents (Elt F)),
    nullary main_cst_26 (constant S_ .f32 0x00000000#32),
    binary main_v164 main_cst_26 main_v165 ((fun x v => pad S1x128 ![0, 0] ![0, 120] ![0, 0] x v pads_S1x8_S1x128_000_01200 h_S_) : (⟨S1x8, .f32⟩ : BufTy).Contents (Elt F) → (⟨S_, .f32⟩ : BufTy).Contents (Elt F) → (⟨S1x128, .f32⟩ : BufTy).Contents (Elt F)),
    nullary main_cst_27 (constant S_ .f32 0x00000000#32),
    unary main_cst_27 main_v166 (broadcastInDim S4096x1024 ![] bcast_S_S4096x1024 : (⟨S_, .f32⟩ : BufTy).Contents (Elt F) → (⟨S4096x1024, .f32⟩ : BufTy).Contents (Elt F)),
    nullary main_cst_28 (constant S_ .f32 0x00000000#32),
    unary main_cst_28 main_v167 (broadcastInDim S4096x3072 ![] bcast_S_S4096x3072 : (⟨S_, .f32⟩ : BufTy).Contents (Elt F) → (⟨S4096x3072, .f32⟩ : BufTy).Contents (Elt F)),
    nullary main_cst_29 (constant S_ .f32 0x00000000#32),
    unary main_cst_29 main_v168 (broadcastInDim S4096x256 ![] bcast_S_S4096x256 : (⟨S_, .f32⟩ : BufTy).Contents (Elt F) → (⟨S4096x256, .f32⟩ : BufTy).Contents (Elt F)),
    nary ![main_v166, main_v120, main_v167, main_v163, main_v162, main_v161, main_v168] main_v169 (fun u => (concatenate S4096x5632 1 [⟨S4096x1024, ((u 0) : (⟨S4096x1024, .f32⟩ : BufTy).Contents (Elt F))⟩, ⟨S4096x512, ((u 1) : (⟨S4096x512, .f32⟩ : BufTy).Contents (Elt F))⟩, ⟨S4096x3072, ((u 2) : (⟨S4096x3072, .f32⟩ : BufTy).Contents (Elt F))⟩, ⟨S4096x512, ((u 3) : (⟨S4096x512, .f32⟩ : BufTy).Contents (Elt F))⟩, ⟨S4096x128, ((u 4) : (⟨S4096x128, .f32⟩ : BufTy).Contents (Elt F))⟩, ⟨S4096x128, ((u 5) : (⟨S4096x128, .f32⟩ : BufTy).Contents (Elt F))⟩, ⟨S4096x256, ((u 6) : (⟨S4096x256, .f32⟩ : BufTy).Contents (Elt F))⟩] concatenates_S4096x1024_S4096x512_S4096x3072_S4096x512_S4096x128_S4096x128_S4096x256_S4096x5632_d1 : (⟨S4096x5632, .f32⟩ : BufTy).Contents (Elt F))),
    unary main_v169 main_v170 ((truncf .bf16 · bitsLt_bf16_f32) : (⟨S4096x5632, .f32⟩ : BufTy).Contents (Elt F) → (⟨S4096x5632, .bf16⟩ : BufTy).Contents (Elt F)) ]

/-- The line: the 225 operations in order. -/
def ops : List (HloOp τ sig (Elt F)) := part0 ++ (part1 ++ (part2 ++ part3))

set_option maxRecDepth 16384 in
set_option maxHeartbeats 4000000 in
/-- Window 0 of the program is its part of the line. -/
theorem main_part0_eq (c : Dev nD) : main_part0 (F := F) c = seq part0 := rfl

set_option maxRecDepth 16384 in
set_option maxHeartbeats 4000000 in
/-- Window 1 of the program is its part of the line. -/
theorem main_part1_eq (c : Dev nD) : main_part1 (F := F) c = seq part1 := rfl

set_option maxRecDepth 16384 in
set_option maxHeartbeats 4000000 in
/-- Window 2 of the program is its part of the line. -/
theorem main_part2_eq (c : Dev nD) : main_part2 (F := F) c = seq part2 := rfl

set_option maxRecDepth 16384 in
set_option maxHeartbeats 4000000 in
/-- Window 3 of the program is its part of the line. -/
theorem main_part3_eq (c : Dev nD) : main_part3 (F := F) c = seq part3 := rfl

set_option maxRecDepth 16384 in
/-- The program is the line. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem part0_sub : (part0 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., reshape_bufs_sub .., reshape_bufs_sub .., reshape_bufs_sub .., reshape_bufs_sub .., nullary_bufs_sub .., unary_bufs_sub .., unary_bufs_sub .., binary_bufs_sub .., nullary_bufs_sub .., unary_bufs_sub .., binary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., nullary_bufs_sub .., unary_bufs_sub .., binary_bufs_sub .., unary_bufs_sub .., nullary_bufs_sub .., unary_bufs_sub .., binary_bufs_sub .., unary_bufs_sub .., unary_bufs_sub .., binary_bufs_sub .., unary_bufs_sub .., unary_bufs_sub ..⟩
set_option maxRecDepth 16384 in
theorem part0_fresh : (part0 : List (HloOp τ sig (Elt F))).Forall fun op => op.fresh = ∅ :=
  forall_fresh_of_map rfl

set_option maxRecDepth 16384 in
theorem part1_sub : (part1 : List (HloOp τ sig (Elt F))).Forall fun op => op.bufs ⊆ tcRefs τ sig :=
  ⟨binary_bufs_sub .., unary_bufs_sub .., nullary_bufs_sub .., unary_bufs_sub .., unary_bufs_sub .., unary_bufs_sub .., ternary_bufs_sub .., nullary_bufs_sub .., unary_bufs_sub .., reshape_bufs_sub .., unary_bufs_sub .., nullary_bufs_sub .., binary_bufs_sub .., reshape_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., unary_bufs_sub .., nullary_bufs_sub .., unary_bufs_sub .., binary_bufs_sub .., nullary_bufs_sub .., unary_bufs_sub .., ternary_bufs_sub .., nullary_bufs_sub .., unary_bufs_sub .., binary_bufs_sub .., nullary_bufs_sub ..⟩
set_option maxRecDepth 16384 in
theorem part1_fresh : (part1 : List (HloOp τ sig (Elt F))).Forall fun op => op.fresh = ∅ :=
  forall_fresh_of_map rfl

set_option maxRecDepth 16384 in
theorem part2_sub : (part2 : List (HloOp τ sig (Elt F))).Forall fun op => op.bufs ⊆ tcRefs τ sig :=
  ⟨unary_bufs_sub .., ternary_bufs_sub .., unary_bufs_sub .., binary_bufs_sub .., unary_bufs_sub .., unary_bufs_sub .., binary_bufs_sub .., unary_bufs_sub .., binary_bufs_sub .., unary_bufs_sub .., reshape_bufs_sub .., reshape_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., reshape_bufs_sub .., binary_bufs_sub .., binary_bufs_sub .., reshape_bufs_sub .., binary_bufs_sub .., binary_bufs_sub .., binary_bufs_sub .., binary_bufs_sub .., binary_bufs_sub .., binary_bufs_sub .., reshape_bufs_sub .., reshape_bufs_sub .., unary_bufs_sub .., binary_bufs_sub .., binary_bufs_sub .., unary_bufs_sub .., binary_bufs_sub .., unary_bufs_sub .., nullary_bufs_sub .., binary_bufs_sub .., reshape_bufs_sub .., binary_bufs_sub .., nullary_bufs_sub .., binary_bufs_sub .., reshape_bufs_sub .., binary_bufs_sub .., binary_bufs_sub .., nullary_bufs_sub .., binary_bufs_sub .., unary_bufs_sub .., binary_bufs_sub .., binary_bufs_sub .., nullary_bufs_sub .., binary_bufs_sub .., reshape_bufs_sub .., nullary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., nullary_bufs_sub ..⟩
set_option maxRecDepth 16384 in
theorem part2_fresh : (part2 : List (HloOp τ sig (Elt F))).Forall fun op => op.fresh = ∅ :=
  forall_fresh_of_map rfl

set_option maxRecDepth 16384 in
theorem part3_sub : (part3 : List (HloOp τ sig (Elt F))).Forall fun op => op.bufs ⊆ tcRefs τ sig :=
  ⟨binary_bufs_sub .., binary_bufs_sub .., unary_bufs_sub .., unary_bufs_sub .., unary_bufs_sub .., unary_bufs_sub .., nullary_bufs_sub .., binary_bufs_sub .., binary_bufs_sub .., reshape_bufs_sub .., reshape_bufs_sub .., reshape_bufs_sub .., unary_bufs_sub .., nullary_bufs_sub .., binary_bufs_sub .., nullary_bufs_sub .., unary_bufs_sub .., nullary_bufs_sub .., unary_bufs_sub .., nullary_bufs_sub .., unary_bufs_sub .., nary_bufs_sub .., unary_bufs_sub ..⟩
set_option maxRecDepth 16384 in
theorem part3_fresh : (part3 : List (HloOp τ sig (Elt F))).Forall fun op => op.fresh = ∅ :=
  forall_fresh_of_map rfl

theorem ops_sub : (ops : List (HloOp τ sig (Elt F))).Forall fun op => op.bufs ⊆ tcRefs τ sig := by
  simp only [ops, List.forall_append]
  exact ⟨part0_sub, part1_sub, part2_sub, part3_sub⟩

theorem ops_fresh : ∀ op ∈ (ops : List (HloOp τ sig (Elt F))), op.fresh = ∅ := by
  refine List.forall_iff_forall_mem.1 ?_
  simp only [ops, List.forall_append]
  exact ⟨part0_fresh, part1_fresh, part2_fresh, part3_fresh⟩

/-- What the operations write, in order. -/
def W : List (Ref sig .tc) :=
  [main_v0, main_v1, main_v2, main_v3, main_v4, main_v5, main_v6, main_v7, main_v8, main_v9, main_v10, main_cst, main_v11, main_v12, main_v13, main_cst_0, main_v14, main_v15, main_v16, main_v17, main_cst_1, main_v18, main_v19, main_v20, main_v21, main_cst_2, main_v22, main_v23, main_v24, main_v25, main_v26, main_v27, main_c, main_v28, main_v29, main_v30, main_v31, main_v32, main_c_3, main_v33, main_v34, main_c_4, main_v35, main_v36, main_v37, main_v38, main_v39, main_v40, main_c_5, main_v41, main_v42, main_v43, main_c_6, main_v44, main_v45, main_v46, main_v47, main_v48, main_v49, main_v50, main_v51, main_v52, main_cst_7, main_call0_v0, main_v53_1, main_call0_v2, main_v53_0, main_call0_cst, main_v53_2, main_v54, main_v55, main_cst_8, main_v56, main_v57, main_v58, main_v59, main_v60, main_cst_9, main_v61, main_v62, main_v63, main_v64, main_v65, main_cst_10, main_v66, main_v67, main_v68, main_v69, main_v70, main_v71, main_v72, main_v73, main_v74, main_v75, main_v76, main_v77, main_v78, main_v79, main_v80, main_v81, main_v82, main_cst_11, main_v83, main_v84, main_cst_12, main_v85, main_v86, main_cst_13, main_v87, main_v88, main_cst_14, main_v89, main_v90, main_v91, main_v92, main_cst_15, main_v93, main_v94, main_cst_16, main_v95, main_v96, main_cst_17, main_v97, main_v98, main_cst_18, main_v99, main_v100, main_v101, main_v102, main_v103, main_v104, main_v105, main_v106, main_v107, main_v108, main_v109, main_v110, main_call1_v0, main_call1_v1, main_call1_cst, main_call1_v2, main_call1_v3, main_call1_cst_0, main_call1_v4, main_v111_2, main_call1_cst_1, main_call1_v6, main_call1_v7, main_v111_1, main_v111_0, main_v112, main_v113, main_v114, main_v115, main_v116, main_v117, main_v118, main_call2_v0, main_call2_v1, main_call2_v2, main_v119, main_v120, main_v121, main_v122, main_v123, main_v124, main_v125, main_v126, main_v127, main_cst_19, main_v128, main_v129, main_v130, main_cst_20, main_v131, main_v132, main_v133, main_v134, main_cst_21, main_v135, main_v136, main_v137, main_v138, main_cst_22, main_v139, main_v140, main_call3_cst, main_call3_v0, main_v141, main_cst_23, main_v142, main_v143, main_v144, main_v145, main_v146, main_v147, main_v148, main_v149, main_v150, main_v151, main_v152, main_cst_24, main_v153, main_v154, main_v155, main_v156, main_v157, main_v158, main_cst_25, main_v159, main_v160, main_v161, main_v162, main_v163, main_v164, main_cst_26, main_v165, main_cst_27, main_v166, main_cst_28, main_v167, main_cst_29, main_v168, main_v169, main_v170]

set_option maxRecDepth 16384 in
theorem writes_eq : (ops : List (HloOp τ sig (Elt F))).map HloOp.writes = W.map fun w => {Proc.devRef (τ := τ) .tc w} := rfl

/-- What buffer `r` holds after the line, from contents `V`. -/
def res (V : Valuation τ sig (Elt F)) (r : Ref sig .tc) : r.ty.Contents (Elt F) := after ops V (Proc.devRef .tc r)

/-- The line runs to its end, and leaves every buffer at `res`. -/
theorem run (m : (ℓ : Loc nD τ sig) → Buf (Elt F) ℓ) (ρ : Dev nD → PrngReg) :
    θ_run defs (onTc (τ := τ) (main (F := F))) ⟨m, fun _ => 0, ρ⟩ fun r => ∀ c : Dev nD, ∀ x : Ref sig .tc,
      r.2.mem ((c.tc : Thread nD τ).loc x) = res (launchContents m c) x :=
  run_seq scopedRefs_eq scopedSems_eq defs main (fun _ => ops) main_eq (fun _ => ops_sub) m ρ fun _ => ops_fresh

end Cert.ReferenceIdeal.Line

end
-- ==== Proof.Frames.lean ====
/-
  Every execution of the kernel and of the reference ends, the arguments unchanged and every counter at zero.
-/
module

public import proofs.«01_k».proof.Proof.Launch
public import proofs.«01_k».proof.Proof.RefLine
public import proofs.«01_k».proof.Defs
public import Idealize.ShloMosaic.Lib.Pipeline.Regions
public import proofs.«01_k».proof.Proof.Gen.Kernel

@[expose] public section

set_option maxRecDepth 16384
set_option Elab.async false

noncomputable section

namespace Cert.Attn

open Idealize.ShloMosaic Idealize.ShloMosaic.TcCoe Idealize.SL.Sem Idealize.ShloMosaic.StableHlo

/-- The frame of the kernel over the real numbers. -/
theorem frame_ideal : @Cert.quiescent_KernelIdeal Cert.KernelIdeal.Gen.facts := fun m g _ => run_frame (F := Ideal) m g

/-- The kernel over machine floats is the same program as the kernel over the real numbers, read at other values. -/
theorem same_frame : @Cert.quiescent_Kernel Cert.Kernel.Gen.facts
    = ∀ (m : (ℓ : Loc Cert.KernelIdeal.nD Cert.KernelIdeal.τ Cert.KernelIdeal.sig) → Buf (Elt Bits) ℓ)
        (g : Dev Cert.KernelIdeal.nD → PrngReg), True → type_of% (run_frame (F := Bits) m g) := by chain_rfl

/-- The frame of the kernel over machine floats. -/
theorem frame_kernel : @Cert.quiescent_Kernel Cert.Kernel.Gen.facts := same_frame.mpr fun m g _ => run_frame (F := Bits) m g

section

open Cert.ReferenceIdeal Cert.ReferenceIdeal.Gen

/-- A buffer of the reference that no operation writes ends with what it held. -/
theorem kept {m : (ℓ : Loc nD τ sig) → Buf (Elt Ideal) ℓ} {mem : (ℓ : Loc nD τ sig) → Buf (Elt Ideal) ℓ}
    (h : ∀ c : Dev nD, ∀ x : Ref sig .tc, mem ((c.tc : Thread nD τ).loc x) = Line.res (launchContents m c) x)
    (c : Dev nD) {x : Ref sig .tc} (hx : x ∉ Line.W) : mem ((c.tc : Thread nD τ).loc x) = m ((c.tc : Thread nD τ).loc x) :=
  (h c x).trans (after_unwritten Line.W Line.writes_eq hx _)

/-- The frame of the reference. -/
theorem frame_reference : @Cert.quiescent_ReferenceIdeal Cert.ReferenceIdeal.Gen.facts := fun m g _ =>
  (θ_run (Cert.ReferenceIdeal.defs (F := Ideal)) _ _).mono
    (fun r h => ⟨fun c => ⟨kept h c (by decide),
      kept h c (by decide),
      kept h c (by decide),
      kept h c (by decide),
      kept h c (by decide),
      kept h c (by decide),
      kept h c (by decide),
      kept h c (by decide),
      kept h c (by decide),
      kept h c (by decide),
      kept h c (by decide),
      kept h c (by decide),
      kept h c (by decide),
      kept h c (by decide),
      kept h c (by decide),
      kept h c (by decide)⟩,
      sem_eq_zero_of_no_sems rfl r.2⟩)
    (Line.run (F := Ideal) m g)

end

end Cert.Attn

end
-- ==== Proof.AttnMath.lean ====
/-
  The mathematics of one query row of attention with a sink, over the real numbers, and the few facts about the
  extended reals that carry it to the programs' arrays.

  A row has 256 keys, of which the mask `M` allows some; `s` are its scaled scores, `sk` the logit of the sink.
  `prob` is the softmax over the allowed keys and the sink, `prob0` the sink's own share, and with `fb` the gradient
  that arrives at the probabilities, `ds` is the gradient of the unscaled scores and `dsk` that of the sink's logit.
-/
module

public import Idealize.ShloMosaic.Lib.Pointwise

@[expose] public section

noncomputable section

open Idealize.ShloMosaic

namespace Cert.Attn

/-! ## The row over the real numbers -/

/-- The scaled scores of a row: its query against every key, times one eighth. -/
def score (q : Fin 64 → ℝ) (k : Fin 256 → Fin 64 → ℝ) (κ : Fin 256) : ℝ := (∑ d, q d * k κ d) * (1 / 8)

/-- The exponentials of the allowed scores, zero elsewhere. -/
def ex (M : Fin 256 → Bool) (s : Fin 256 → ℝ) (κ : Fin 256) : ℝ := if M κ then Real.exp (s κ) else 0

/-- The denominator: the allowed exponentials and the sink's. -/
def den (M : Fin 256 → Bool) (s : Fin 256 → ℝ) (sk : ℝ) : ℝ := ∑ κ, ex M s κ + Real.exp sk

/-- The probability of a key. -/
def prob (M : Fin 256 → Bool) (s : Fin 256 → ℝ) (sk : ℝ) (κ : Fin 256) : ℝ := ex M s κ / den M s sk

/-- The probability that the sink takes. -/
def prob0 (M : Fin 256 → Bool) (s : Fin 256 → ℝ) (sk : ℝ) : ℝ := Real.exp sk / den M s sk

/-- The gradient at the probability of a key: the output gradient against that key's value. -/
def fb (fx : Fin 64 → ℝ) (v : Fin 256 → Fin 64 → ℝ) (κ : Fin 256) : ℝ := ∑ d, fx d * v κ d

/-- The mean of those gradients under the probabilities. -/
def mean (M : Fin 256 → Bool) (s : Fin 256 → ℝ) (sk : ℝ) (f : Fin 256 → ℝ) : ℝ := ∑ κ, f κ * prob M s sk κ

/-- The gradient of the unscaled score of a key. -/
def ds (M : Fin 256 → Bool) (s : Fin 256 → ℝ) (sk : ℝ) (f : Fin 256 → ℝ) (κ : Fin 256) : ℝ :=
  (f κ - mean M s sk f) * prob M s sk κ * (1 / 8)

/-- The gradient of the sink's logit. -/
def dsk (M : Fin 256 → Bool) (s : Fin 256 → ℝ) (sk : ℝ) (f : Fin 256 → ℝ) : ℝ := -mean M s sk f * prob0 M s sk

/-- The output of the row. -/
def outp (M : Fin 256 → Bool) (s : Fin 256 → ℝ) (sk : ℝ) (v : Fin 256 → Fin 64 → ℝ) (d : Fin 64) : ℝ :=
  ∑ κ, prob M s sk κ * v κ d

/-- The logistic function. -/
def sig (z : ℝ) : ℝ := (1 + Real.exp (-z))⁻¹

/-- The gradient of the gate's input: `o` the output of the row, `c` the gradient that arrives at the gated output. -/
def dgate (z o c : ℝ) : ℝ := o * c * sig z + z * (o * c) * (sig z * (1 - sig z))

/-- The gradient behind the gate. -/
def gated (z c : ℝ) : ℝ := c * (z * sig z)

theorem ex_nonneg (M : Fin 256 → Bool) (s : Fin 256 → ℝ) (κ : Fin 256) : 0 ≤ ex M s κ := by
  unfold ex; split
  · exact (Real.exp_pos _).le
  · exact le_rfl

theorem den_pos (M : Fin 256 → Bool) (s : Fin 256 → ℝ) (sk : ℝ) : 0 < den M s sk :=
  add_pos_of_nonneg_of_pos (Finset.sum_nonneg fun κ _ => ex_nonneg M s κ) (Real.exp_pos _)

/-- Subtracting one number from every logit divides every exponential by its exponential. -/
theorem ex_shift (M : Fin 256 → Bool) (s : Fin 256 → ℝ) (m : ℝ) (κ : Fin 256) :
    ex M (fun κ => s κ - m) κ = ex M s κ * Real.exp (-m) := by
  unfold ex; split
  · show Real.exp (s κ - m) = _
    rw [sub_eq_add_neg, Real.exp_add]
  · rw [zero_mul]

theorem den_shift (M : Fin 256 → Bool) (s : Fin 256 → ℝ) (sk m : ℝ) :
    den M (fun κ => s κ - m) (sk - m) = den M s sk * Real.exp (-m) := by
  unfold den
  rw [add_mul, Finset.sum_mul, sub_eq_add_neg, Real.exp_add]
  congr 1
  exact Finset.sum_congr rfl fun κ _ => ex_shift M s m κ

/-- … so the probabilities do not change. -/
theorem prob_shift (M : Fin 256 → Bool) (s : Fin 256 → ℝ) (sk m : ℝ) (κ : Fin 256) :
    ex M (fun κ => s κ - m) κ / den M (fun κ => s κ - m) (sk - m) = prob M s sk κ := by
  rw [ex_shift, den_shift, prob, mul_div_mul_right _ _ (Real.exp_pos _).ne']

theorem prob0_shift (M : Fin 256 → Bool) (s : Fin 256 → ℝ) (sk m : ℝ) :
    Real.exp (sk - m) / den M (fun κ => s κ - m) (sk - m) = prob0 M s sk := by
  rw [den_shift, prob0, sub_eq_add_neg, Real.exp_add, mul_div_mul_right _ _ (Real.exp_pos _).ne']

theorem prob_of_not {M : Fin 256 → Bool} {κ : Fin 256} (h : M κ = false) (s : Fin 256 → ℝ) (sk : ℝ) : prob M s sk κ = 0 := by
  simp [prob, ex, h]

/-- The gradient at the probabilities, paired with the unnormalised output: a sum over the head's lanes is the sum over the
    keys. -/
theorem pair_out (E : Fin 256 → ℝ) (fx : Fin 64 → ℝ) (v : Fin 256 → Fin 64 → ℝ) :
    ∑ d, (∑ κ, E κ * v κ d) * fx d = ∑ κ, fb fx v κ * E κ := by
  unfold fb
  simp only [Finset.sum_mul]
  rw [Finset.sum_comm]
  refine Finset.sum_congr rfl fun κ _ => Finset.sum_congr rfl fun d _ => by ring

/-! ## The extended reals -/

/-- A finite sum of real numbers, read in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A quotient of real numbers whose divisor is not zero. -/
theorem div_coe_coe (x : ℝ) {y : ℝ} (h : y ≠ 0) : Ideal.div (x : EReal) (y : EReal) = ((x / y : ℝ) : EReal) := by
  rw [Ideal.div_coe h, ← EReal.coe_mul, mul_one_div]

theorem max_coe (x y : ℝ) : max (x : EReal) (y : EReal) = ((max x y : ℝ) : EReal) :=
  (EReal.coe_strictMono.monotone.map_max (a := x) (b := y)).symm

/-- The greatest of a family of values, each real or `⊥` and one of them real, is a real number. -/
theorem fold_max_real {ι : Type*} [Fintype ι] (f : ι → EReal) (ht : ∀ i, f i ≠ ⊤) (i₀ : ι) (h₀ : f i₀ ≠ ⊥) :
    ∃ r : ℝ, Finset.univ.fold max ⊥ f = (r : EReal) := by
  have h1 : Finset.univ.fold max ⊥ f < ⊤ := (Finset.fold_max_lt _).mpr ⟨bot_lt_top, fun i _ => lt_top_iff_ne_top.mpr (ht i)⟩
  have h2 : ⊥ < Finset.univ.fold max ⊥ f := (Finset.lt_fold_max _).mpr (.inr ⟨i₀, Finset.mem_univ _, bot_lt_iff_ne_bot.mpr h₀⟩)
  exact ⟨_, (EReal.coe_toReal h1.ne h2.ne').symm⟩

/-- The sum of exponentials, read in the extended reals. -/
theorem exp_masked (b : Bool) (x m : ℝ) :
    Ideal.exp ((if b then (x : EReal) else ⊥) - (m : EReal)) = ((if b then Real.exp (x - m) else 0 : ℝ) : EReal) := by
  cases b
  · simp only [Bool.false_eq_true, if_false]
    rw [show (⊥ : EReal) - (m : EReal) = ⊥ from EReal.bot_sub _]
    simp
  · simp only [if_true]
    rw [← EReal.coe_sub, Ideal.exp_coe]

end Cert.Attn

end
-- ==== Proof.AttnTile.lean ====
/-
  One tile of the attention gradient over the real numbers: 128 queries of eight heads (two groups of four that share keys and
  values) against the 128 keys of the chunk before and the 128 of their own chunk.
-/
module

public import proofs.«01_k».proof.Proof.AttnMath

@[expose] public section

noncomputable section

open Idealize.ShloMosaic

namespace Cert.Attn

/-- The column, among the 512 of the queries, of lane `d` of head `a` of group `g`. -/
def qcol (g : Fin 2) (a : Fin 4) (d : Fin 64) : Fin 512 := ⟨256 * g.val + 64 * a.val + d.val, by omega⟩
/-- The column of lane `d` of group `g` among the 256 that hold keys and then values: the key's … -/
def kcol (g : Fin 2) (d : Fin 64) : Fin 256 := ⟨64 * g.val + d.val, by omega⟩
/-- … and the value's. -/
def vcol (g : Fin 2) (d : Fin 64) : Fin 256 := ⟨128 + 64 * g.val + d.val, by omega⟩
/-- The lane of a head's sink. -/
def lane (g : Fin 2) (a : Fin 4) : Fin 128 := ⟨4 * g.val + a.val, by omega⟩

/-- The head that a row of a group's stack belongs to … -/
def hd (R : Fin 512) : Fin 4 := ⟨R.val / 128, by omega⟩
/-- … its query … -/
def pos (R : Fin 512) : Fin 128 := ⟨R.val % 128, by omega⟩
/-- … and the row of a head's query. -/
def srow (a : Fin 4) (i : Fin 128) : Fin 512 := ⟨128 * a.val + i.val, by omega⟩

theorem hd_srow (a : Fin 4) (i : Fin 128) : hd (srow a i) = a := by ext; simp only [hd, srow]; omega
theorem pos_srow (a : Fin 4) (i : Fin 128) : pos (srow a i) = i := by ext; simp only [pos, srow]; omega

/-- A sum over the rows of a stack is one over heads and queries. -/
theorem sum_rows (f : Fin 4 → Fin 128 → ℝ) : ∑ R, f (hd R) (pos R) = ∑ a, ∑ i, f a i := by
  rw [← Fintype.sum_prod_type']
  refine Fintype.sum_equiv (Equiv.mk (fun R => (hd R, pos R)) (fun p => srow p.1 p.2) (fun R => ?_) (fun p => ?_)) _ _ fun R => rfl
  · ext; simp only [hd, pos, srow]; omega
  · exact Prod.ext (hd_srow _ _) (pos_srow _ _)

/-- The keys that query `i` of a chunk sees: the 128 that end with itself, and in the first chunk of a sequence none of those
    before it. -/
def band (first : Bool) (i : Fin 128) (κ : Fin 256) : Bool :=
  decide (i.val + 1 ≤ κ.val ∧ κ.val ≤ i.val + 128 ∧ (first = true → 128 ≤ κ.val))

theorem band_self (first : Bool) (i : Fin 128) : ∃ κ, band first i κ = true :=
  ⟨⟨i.val + 128, by omega⟩, by simp [band]⟩

/-- What a tile reads: the mask, the factor of the chunk before (zero in the first chunk), both chunks' keys and values, the
    queries, the gate's input, the gradient at the gated output, and the sinks. -/
structure Tile where
  M : Fin 128 → Fin 256 → Bool
  nf : ℝ
  cur : Fin 128 → Fin 256 → ℝ
  prev : Fin 128 → Fin 256 → ℝ
  q : Fin 128 → Fin 512 → ℝ
  z : Fin 128 → Fin 512 → ℝ
  ct : Fin 128 → Fin 512 → ℝ
  sk : Fin 128 → ℝ

namespace Tile

variable (T : Tile)

/-- Both chunks' rows of the columns of keys and values. -/
def kv (κ : Fin 256) (c : Fin 256) : ℝ := if h : κ.val < 128 then T.prev ⟨κ.val, h⟩ c * T.nf else T.cur ⟨κ.val - 128, by omega⟩ c
def key (g : Fin 2) (κ : Fin 256) (d : Fin 64) : ℝ := T.kv κ (kcol g d)
def val (g : Fin 2) (κ : Fin 256) (d : Fin 64) : ℝ := T.kv κ (vcol g d)
def qrow (g : Fin 2) (a : Fin 4) (i : Fin 128) (d : Fin 64) : ℝ := T.q i (qcol g a d)
def sc (g : Fin 2) (a : Fin 4) (i : Fin 128) : Fin 256 → ℝ := score (T.qrow g a i) (T.key g)
def skl (g : Fin 2) (a : Fin 4) : ℝ := T.sk (lane g a)
/-- The output of a query. -/
def out (g : Fin 2) (a : Fin 4) (i : Fin 128) (d : Fin 64) : ℝ := outp (T.M i) (T.sc g a i) (T.skl g a) (T.val g) d
/-- The gradient at that output. -/
def fx (g : Fin 2) (a : Fin 4) (i : Fin 128) (d : Fin 64) : ℝ := gated (T.z i (qcol g a d)) (T.ct i (qcol g a d))
/-- The gradient of the unscaled scores. -/
def dsr (g : Fin 2) (a : Fin 4) (i : Fin 128) (κ : Fin 256) : ℝ :=
  ds (T.M i) (T.sc g a i) (T.skl g a) (fb (T.fx g a i) (T.val g)) κ
def dz (g : Fin 2) (a : Fin 4) (i : Fin 128) (d : Fin 64) : ℝ := dgate (T.z i (qcol g a d)) (T.out g a i d) (T.ct i (qcol g a d))
def dq (g : Fin 2) (a : Fin 4) (i : Fin 128) (d : Fin 64) : ℝ := ∑ κ, T.dsr g a i κ * T.key g κ d
def dk (g : Fin 2) (κ : Fin 256) (d : Fin 64) : ℝ := ∑ a, ∑ i, T.dsr g a i κ * T.qrow g a i d
def dv (g : Fin 2) (κ : Fin 256) (d : Fin 64) : ℝ := ∑ a, ∑ i, T.fx g a i d * prob (T.M i) (T.sc g a i) (T.skl g a) κ
def dsink (g : Fin 2) (a : Fin 4) : ℝ := ∑ i, dsk (T.M i) (T.sc g a i) (T.skl g a) (fb (T.fx g a i) (T.val g))

end Tile

end Cert.Attn

end
-- ==== Proof.AttnSeq.lean ====
/-
  The attention gradient of a whole device over the real numbers: two sequences of sixteen chunks, each chunk one tile of `AttnTile`.
-/
module

public import proofs.«01_k».proof.Proof.AttnTile

@[expose] public section

noncomputable section

open Idealize.ShloMosaic

namespace Cert.Attn

/-- The arrays that the attention part reads: the gradient at the layer's output, the projected inputs, the output weight and the sinks. -/
structure Layer where
  D : Fin 4096 → Fin 1024 → ℝ
  P : Fin 4096 → Fin 5632 → ℝ
  W : Fin 2048 → Fin 1024 → ℝ
  S : Fin 128 → ℝ

/-- Row `i` of chunk `n` of sequence `b`. -/
def row (b : Fin 2) (n : Fin 16) (i : Fin 128) : Fin 4096 := ⟨2048 * b.val + 128 * n.val + i.val, by omega⟩
/-- Row `i` of the chunk before it (where there is none, some row: it is multiplied by zero). -/
def prow (b : Fin 2) (n : Fin 16) (i : Fin 128) : Fin 4096 := ⟨128 * (16 * b.val + n.val - 1) + i.val, by omega⟩

namespace Layer

variable (L : Layer)

/-- The tile of chunk `n` of sequence `b`. -/
def tile (b : Fin 2) (n : Fin 16) : Tile where
  M := band (decide (n.val = 0))
  nf := if n.val = 0 then 0 else 1
  cur κ c := L.P (row b n κ) ⟨5120 + c.val, by omega⟩
  prev κ c := L.P (prow b n κ) ⟨5120 + c.val, by omega⟩
  q i c := L.P (row b n i) ⟨4608 + c.val, by omega⟩
  z i c := L.P (row b n i) ⟨1024 + c.val, by omega⟩
  ct i c := ∑ x, L.D (row b n i) x * L.W ⟨1024 + c.val, by omega⟩ x
  sk := L.S

/-- A key's own place among the keys that its chunk's queries see … -/
def own (i : Fin 128) : Fin 256 := ⟨128 + i.val, by omega⟩
/-- … and among those that the next chunk's queries see. -/
def before (i : Fin 128) : Fin 256 := ⟨i.val, by omega⟩

/-- The gradient of a chunk's keys: from its own queries and from the next chunk's. -/
def dk (b : Fin 2) (n : Fin 16) (i : Fin 128) (g : Fin 2) (d : Fin 64) : ℝ :=
  (L.tile b n).dk g (own i) d + if h : n.val + 1 < 16 then (L.tile b ⟨n.val + 1, h⟩).dk g (before i) d else 0
/-- The gradient of a chunk's values: from its own queries and from the next chunk's. -/
def dv (b : Fin 2) (n : Fin 16) (i : Fin 128) (g : Fin 2) (d : Fin 64) : ℝ :=
  (L.tile b n).dv g (own i) d + if h : n.val + 1 < 16 then (L.tile b ⟨n.val + 1, h⟩).dv g (before i) d else 0
/-- The gradient of the sinks. -/
def dsink (g : Fin 2) (a : Fin 4) : ℝ := ∑ b, ∑ n, (L.tile b n).dsink g a

end Layer

/-- What the attention part of the gradient of the projected inputs and the gradient of the sinks have to be. -/
structure Grads (L : Layer) (X : Fin 4096 → Fin 5632 → EReal) (Y : Fin 128 → EReal) : Prop where
  dz : ∀ b n i g a d, X (row b n i) ⟨1024 + (qcol g a d).val, by omega⟩ = ((L.tile b n).dz g a i d : ℝ)
  dq : ∀ b n i g a d, X (row b n i) ⟨4608 + (qcol g a d).val, by omega⟩ = ((L.tile b n).dq g a i d : ℝ)
  dk : ∀ b n i g d, X (row b n i) ⟨5120 + (kcol g d).val, by omega⟩ = (L.dk b n i g d : ℝ)
  dv : ∀ b n i g d, X (row b n i) ⟨5120 + (vcol g d).val, by omega⟩ = (L.dv b n i g d : ℝ)
  dsink : ∀ g a, Y (lane g a) = (L.dsink g a : ℝ)
  rest : ∀ l : Fin 128, 8 ≤ l.val → Y l = 0

end Cert.Attn

end
-- ==== Proof.KernUnit.lean ====
/-
  One group of four heads in the kernel's attention backward, read at an index: 512 rows (four heads of 128 queries) against
  256 keys. Every array of the chain is the image of a real array, and the three gradients and the sink's row are those of
  `AttnMath`.
-/
module

public import proofs.«01_k».proof.Proof.AttnMath
public import proofs.«01_k».proof.Proof.Gen.KernelIdeal.Skeleton
public import proofs.«01_k».proof.Proof.Gen.KernelIdeal

@[expose] public section

set_option maxRecDepth 16384

noncomputable section

open Idealize.ShloMosaic Idealize.ShloMosaic.TcCoe

namespace Cert.KernelIdeal.Unit

open Cert.KernelIdeal Cert.KernelIdeal.Gen Cert.Attn

/-- The word of one eighth. -/
theorem eighth : Ideal.ofBits .f32 0x3E000000#32 = ((1 / 8 : ℝ) : EReal) := by
  simp [Ideal.ofBits, Ideal.ieee, -EReal.coe_mul]; norm_num

/-- The word of minus infinity. -/
theorem neg_inf : Ideal.ofBits .f32 0xFF800000#32 = ⊥ := by simp [Ideal.ofBits, Ideal.ieee]

variable {b : FVec Ideal S512x256 .f32} {k v : FVec Ideal S256x64 .f32} {q : FVec Ideal S512x64 .f32} {sk : FVec Ideal S512x1 .f32}
  {f0 f1 f2 f3 : FVec Ideal S128x64 .f32}
  {B : Fin 512 → Fin 256 → Bool} {K V : Fin 256 → Fin 64 → ℝ} {Q FX : Fin 512 → Fin 64 → ℝ} {SK : Fin 512 → ℝ}

/-- The scaled and masked scores: real at the allowed keys, `⊥` elsewhere. -/
theorem score_apply (hb : ∀ R κ, b (ix2 R κ) = if B R κ then 0 else ⊥) (hk : ∀ κ d, k (ix2 κ d) = (K κ d : EReal))
    (hq : ∀ R d, q (ix2 R d) = (Q R d : EReal)) (R : Fin 512) (κ : Fin 256) :
    k0_pay294 b k q (ix2 R κ) = if B R κ then ((score (Q R) K κ : ℝ) : EReal) else ⊥ := by
  pointwise [k0_pay294, k0_pay292, k0_pay293]
  simp only [hb, hk, hq, eighth, ← EReal.coe_mul, coe_sum]
  unfold score
  cases B R κ
  · simp
  · simp

/-- The row's shift is a real number. -/
theorem shift_real (hb : ∀ R κ, b (ix2 R κ) = if B R κ then 0 else ⊥) (hk : ∀ κ d, k (ix2 κ d) = (K κ d : EReal))
    (hq : ∀ R d, q (ix2 R d) = (Q R d : EReal)) (hsk : ∀ R, sk (ix2 R 0) = (SK R : EReal)) (R : Fin 512)
    (h : ∃ κ, B R κ = true) : ∃ r : ℝ, k0_pay298 b k q sk (ix2 R 0) = (r : EReal) := by
  obtain ⟨κ₀, h₀⟩ := h
  pointwise [k0_pay298]
  simp only [score_apply hb hk hq, hsk, neg_inf]
  obtain ⟨r, hr⟩ := fold_max_real (fun κ : Fin 256 => if B R κ then ((score (Q R) K κ : ℝ) : EReal) else ⊥)
    (fun κ => by cases B R κ <;> simp) κ₀ (by simp [h₀])
  rw [hr, max_coe]
  exact ⟨_, rfl⟩

variable {m : Fin 512 → ℝ}

/-- The shifted exponentials. -/
theorem exp_apply (hb : ∀ R κ, b (ix2 R κ) = if B R κ then 0 else ⊥) (hk : ∀ κ d, k (ix2 κ d) = (K κ d : EReal))
    (hq : ∀ R d, q (ix2 R d) = (Q R d : EReal)) (hm : ∀ R, k0_pay298 b k q sk (ix2 R 0) = (m R : EReal)) (R : Fin 512) (κ : Fin 256) :
    k0_pay300 b k q sk (ix2 R κ) = ((ex (B R) (fun κ => score (Q R) K κ - m R) κ : ℝ) : EReal) := by
  pointwise [k0_pay300]
  simp only [score_apply hb hk hq, hm, exp_masked]
  rfl

/-- The sink's shifted exponential. -/
theorem expSink_apply (hsk : ∀ R, sk (ix2 R 0) = (SK R : EReal)) (hm : ∀ R, k0_pay298 b k q sk (ix2 R 0) = (m R : EReal)) (R : Fin 512) :
    k0_pay302 b k q sk (ix2 R 0) = ((Real.exp (SK R - m R) : ℝ) : EReal) := by
  pointwise [k0_pay302]
  rw [hsk, hm, ← EReal.coe_sub, Ideal.exp_coe]

/-- The denominator. -/
theorem den_apply (hb : ∀ R κ, b (ix2 R κ) = if B R κ then 0 else ⊥) (hk : ∀ κ d, k (ix2 κ d) = (K κ d : EReal))
    (hq : ∀ R d, q (ix2 R d) = (Q R d : EReal)) (hsk : ∀ R, sk (ix2 R 0) = (SK R : EReal))
    (hm : ∀ R, k0_pay298 b k q sk (ix2 R 0) = (m R : EReal)) (R : Fin 512) :
    k0_pay303 b k q sk (ix2 R 0) = ((den (B R) (fun κ => score (Q R) K κ - m R) (SK R - m R) : ℝ) : EReal) := by
  pointwise [k0_pay303]
  simp only [exp_apply hb hk hq hm, expSink_apply hsk hm, coe_sum, ← EReal.coe_add]
  rfl

/-- Its reciprocal. -/
theorem recip_apply (hb : ∀ R κ, b (ix2 R κ) = if B R κ then 0 else ⊥) (hk : ∀ κ d, k (ix2 κ d) = (K κ d : EReal))
    (hq : ∀ R d, q (ix2 R d) = (Q R d : EReal)) (hsk : ∀ R, sk (ix2 R 0) = (SK R : EReal))
    (hm : ∀ R, k0_pay298 b k q sk (ix2 R 0) = (m R : EReal)) (R : Fin 512) :
    k0_pay304 b k q sk (ix2 R 0) = ((1 / den (B R) (fun κ => score (Q R) K κ - m R) (SK R - m R) : ℝ) : EReal) := by
  pointwise [k0_pay304]
  rw [den_apply hb hk hq hsk hm, ← div_coe_coe 1 (den_pos _ _ _).ne', EReal.coe_one]

/-- The square of the reciprocal. -/
theorem recip2_apply (hb : ∀ R κ, b (ix2 R κ) = if B R κ then 0 else ⊥) (hk : ∀ κ d, k (ix2 κ d) = (K κ d : EReal))
    (hq : ∀ R d, q (ix2 R d) = (Q R d : EReal)) (hsk : ∀ R, sk (ix2 R 0) = (SK R : EReal))
    (hm : ∀ R, k0_pay298 b k q sk (ix2 R 0) = (m R : EReal)) (R : Fin 512) :
    k0_pay305 b k q sk (ix2 R 0) = ((1 / (den (B R) (fun κ => score (Q R) K κ - m R) (SK R - m R)
      * den (B R) (fun κ => score (Q R) K κ - m R) (SK R - m R)) : ℝ) : EReal) := by
  pointwise [k0_pay305]
  rw [den_apply hb hk hq hsk hm, ← EReal.coe_mul, ← div_coe_coe 1 (mul_pos (den_pos _ _ _) (den_pos _ _ _)).ne', EReal.coe_one]

/-- The unnormalised output. -/
theorem raw_apply {e : FVec Ideal S512x256 .f32} {E : Fin 512 → Fin 256 → ℝ} (he : ∀ R κ, e (ix2 R κ) = (E R κ : EReal))
    (hv : ∀ κ d, v (ix2 κ d) = (V κ d : EReal)) (R : Fin 512) (d : Fin 64) :
    k0_pay313 v e (ix2 R d) = ((∑ κ, E R κ * V κ d : ℝ) : EReal) := by
  pointwise [k0_pay313, k0_pay311, k0_pay312]
  simp only [he, hv, ← EReal.coe_mul, coe_sum]

variable {e : FVec Ideal S512x256 .f32} {r r2 es : FVec Ideal S512x1 .f32} {E : Fin 512 → Fin 256 → ℝ} {D X : Fin 512 → ℝ}

/-- The row's pairing of the unnormalised output with the gradient. -/
theorem pair_apply (he : ∀ R κ, e (ix2 R κ) = (E R κ : EReal)) (hv : ∀ κ d, v (ix2 κ d) = (V κ d : EReal))
    (hf : ∀ R d, k0_pay334 f0 f1 f2 f3 (ix2 R d) = (FX R d : EReal)) (R : Fin 512) :
    k0_pay339 (k0_pay313 v e) f0 f1 f2 f3 (ix2 R 0) = ((∑ κ, fb (FX R) V κ * E R κ : ℝ) : EReal) := by
  pointwise [k0_pay339]
  simp only [raw_apply he hv, hf, ← EReal.coe_mul, coe_sum, pair_out]

/-- The gradient of the values. -/
theorem dv_apply (he : ∀ R κ, e (ix2 R κ) = (E R κ : EReal)) (hr : ∀ R, r (ix2 R 0) = ((1 / D R : ℝ) : EReal))
    (hf : ∀ R d, k0_pay334 f0 f1 f2 f3 (ix2 R d) = (FX R d : EReal)) (κ : Fin 256) (d : Fin 64) :
    k0_pay343 (k0_pay341 r (k0_pay311 e) f0 f1 f2 f3) (ix2 κ d) = ((∑ R, FX R d * (E R κ / D R) : ℝ) : EReal) := by
  pointwise [k0_pay343, k0_pay341, k0_pay340, k0_pay311]
  simp only [he, hr, hf, ← EReal.coe_mul, coe_sum]
  congr 1
  exact Finset.sum_congr rfl fun R _ => by ring

/-- The gradient at the probabilities, divided by the denominator. -/
theorem gm_apply (hr : ∀ R, r (ix2 R 0) = ((1 / D R : ℝ) : EReal)) (hv : ∀ κ d, v (ix2 κ d) = (V κ d : EReal))
    (hf : ∀ R d, k0_pay334 f0 f1 f2 f3 (ix2 R d) = (FX R d : EReal)) (R : Fin 512) (κ : Fin 256) :
    k0_pay342 r (k0_pay312 v) f0 f1 f2 f3 (ix2 R κ) = ((fb (FX R) V κ / D R : ℝ) : EReal) := by
  pointwise [k0_pay342, k0_pay340, k0_pay312]
  simp only [hr, hv, hf, ← EReal.coe_mul, coe_sum]
  congr 1
  rw [fb, Finset.sum_div]
  exact Finset.sum_congr rfl fun R _ => by ring

/-- The scaled gradient of the scores. -/
theorem ds_apply {gg : FVec Ideal S512x1 .f32} {gm : FVec Ideal S512x256 .f32} {FB : Fin 512 → Fin 256 → ℝ}
    (he : ∀ R κ, e (ix2 R κ) = (E R κ : EReal)) (hr : ∀ R, r2 (ix2 R 0) = ((1 / (D R * D R) : ℝ) : EReal)) (hD : ∀ R, D R ≠ 0)
    (hg : ∀ R, gg (ix2 R 0) = ((∑ κ, FB R κ * E R κ : ℝ) : EReal)) (hgm : ∀ R κ, gm (ix2 R κ) = ((FB R κ / D R : ℝ) : EReal))
    (R : Fin 512) (κ : Fin 256) :
    k0_pay351 e r2 gg gm (ix2 R κ) = (((FB R κ - ∑ κ, FB R κ * (E R κ / D R)) * (E R κ / D R) * (1 / 8) : ℝ) : EReal) := by
  pointwise [k0_pay351, k0_pay346]
  simp only [Fin.sum_univ_one, he, hr, hg, hgm, eighth, ← EReal.coe_mul, ← EReal.coe_zero, ← EReal.coe_sub, ← EReal.coe_add, Fin.isValue]
  congr 1
  have : ∑ κ, FB R κ * (E R κ / D R) = (∑ κ, FB R κ * E R κ) / D R := by
    rw [Finset.sum_div]; exact Finset.sum_congr rfl fun κ _ => by ring
  rw [this]
  have := hD R
  field_simp
  ring

/-- The gradient of the keys from the scores'. -/
theorem dk_apply {qb : FVec Ideal S512x64 .f32} {gg : FVec Ideal S512x1 .f32} {gm : FVec Ideal S512x256 .f32} {DS : Fin 512 → Fin 256 → ℝ}
    (hds : ∀ R κ, k0_pay351 e r2 gg gm (ix2 R κ) = (DS R κ : EReal)) (hq : ∀ R d, q (ix2 R d) = (Q R d : EReal)) (κ : Fin 256) (d : Fin 64) :
    k0_pay352 (k0_pay292 q) e r2 gg gm (ix2 κ d) = ((∑ R, DS R κ * Q R d : ℝ) : EReal) := by
  pointwise [k0_pay352, k0_pay292]
  simp only [hds, hq, ← EReal.coe_mul, coe_sum]

/-- The gradient of the queries from the scores'. -/
theorem dq_apply {gg : FVec Ideal S512x1 .f32} {gm : FVec Ideal S512x256 .f32} {DS : Fin 512 → Fin 256 → ℝ}
    (hds : ∀ R κ, k0_pay351 e r2 gg gm (ix2 R κ) = (DS R κ : EReal)) (hk : ∀ κ d, k (ix2 κ d) = (K κ d : EReal)) (R : Fin 512) (d : Fin 64) :
    k0_pay353 (k0_pay293 k) e r2 gg gm (ix2 R d) = ((∑ κ, DS R κ * K κ d : ℝ) : EReal) := by
  pointwise [k0_pay353, k0_pay293]
  simp only [hds, hk, ← EReal.coe_mul, coe_sum]

/-- The row of the sink's gradient. -/
theorem dsink_apply {gg : FVec Ideal S512x1 .f32} {FB : Fin 512 → Fin 256 → ℝ}
    (hr : ∀ R, r2 (ix2 R 0) = ((1 / (D R * D R) : ℝ) : EReal)) (hD : ∀ R, D R ≠ 0)
    (hg : ∀ R, gg (ix2 R 0) = ((∑ κ, FB R κ * E R κ : ℝ) : EReal)) (hes : ∀ R, es (ix2 R 0) = (X R : EReal)) (R : Fin 512) :
    k0_pay347 es r2 gg (ix2 R 0) = ((-(∑ κ, FB R κ * (E R κ / D R)) * (X R / D R) : ℝ) : EReal) := by
  pointwise [k0_pay347, k0_pay346]
  simp only [hr, hg, hes, ← EReal.coe_mul, ← EReal.coe_zero, ← EReal.coe_sub]
  congr 1
  have : ∑ κ, FB R κ * (E R κ / D R) = (∑ κ, FB R κ * E R κ) / D R := by
    rw [Finset.sum_div]; exact Finset.sum_congr rfl fun κ _ => by ring
  rw [this]
  have := hD R
  field_simp
  ring

/-! ## The group's results from its operands -/

/-- The five results of a group as functions of what it reads: keys, values, stacked queries, bias, stacked sinks and the four
    heads' gradients. -/
def out (b : FVec Ideal S512x256 .f32) (k v : FVec Ideal S256x64 .f32) (q : FVec Ideal S512x64 .f32) (sk : FVec Ideal S512x1 .f32) :
    FVec Ideal S512x64 .f32 :=
  mulf (k0_pay313 v (k0_pay300 b k q sk)) (broadcastTo S512x64 (k0_pay304 b k q sk) broadcasts_S512x1_S512x64)

variable (hb : ∀ R κ, b (ix2 R κ) = if B R κ then 0 else ⊥) (hk : ∀ κ d, k (ix2 κ d) = (K κ d : EReal))
  (hv : ∀ κ d, v (ix2 κ d) = (V κ d : EReal)) (hq : ∀ R d, q (ix2 R d) = (Q R d : EReal)) (hsk : ∀ R, sk (ix2 R 0) = (SK R : EReal))
  (hf : ∀ R d, k0_pay334 f0 f1 f2 f3 (ix2 R d) = (FX R d : EReal)) (hB : ∀ R, ∃ κ, B R κ = true)

include hb hk hv hq hsk hB

theorem out_apply (R : Fin 512) (d : Fin 64) :
    out b k v q sk (ix2 R d) = ((outp (B R) (score (Q R) K) (SK R) V d : ℝ) : EReal) := by
  choose m hm using fun R => shift_real hb hk hq hsk R (hB R)
  unfold out
  pointwise
  simp only [raw_apply (exp_apply hb hk hq hm) hv, recip_apply hb hk hq hsk hm, ← EReal.coe_mul]
  congr 1
  simp only [outp, ← prob_shift _ _ _ (m R), Finset.sum_mul]
  exact Finset.sum_congr rfl fun κ _ => by ring

include hf

theorem group_dv (κ : Fin 256) (d : Fin 64) :
    k0_pay343 (k0_pay341 (k0_pay304 b k q sk) (k0_pay311 (k0_pay300 b k q sk)) f0 f1 f2 f3) (ix2 κ d)
      = ((∑ R, FX R d * prob (B R) (score (Q R) K) (SK R) κ : ℝ) : EReal) := by
  choose m hm using fun R => shift_real hb hk hq hsk R (hB R)
  rw [dv_apply (exp_apply hb hk hq hm) (recip_apply hb hk hq hsk hm) hf]
  simp only [prob_shift]

/-- The scaled gradient of the scores, from the operands. -/
theorem group_ds (R : Fin 512) (κ : Fin 256) :
    k0_pay351 (k0_pay300 b k q sk) (k0_pay305 b k q sk) (k0_pay339 (k0_pay313 v (k0_pay300 b k q sk)) f0 f1 f2 f3)
        (k0_pay342 (k0_pay304 b k q sk) (k0_pay312 v) f0 f1 f2 f3) (ix2 R κ)
      = ((ds (B R) (score (Q R) K) (SK R) (fb (FX R) V) κ : ℝ) : EReal) := by
  choose m hm using fun R => shift_real hb hk hq hsk R (hB R)
  rw [ds_apply (FB := fun R => fb (FX R) V) (exp_apply hb hk hq hm) (recip2_apply hb hk hq hsk hm) (fun R => (den_pos _ _ _).ne')
    (pair_apply (exp_apply hb hk hq hm) hv hf) (gm_apply (recip_apply hb hk hq hsk hm) hv hf)]
  simp only [prob_shift, ds, mean]

theorem group_dk (κ : Fin 256) (d : Fin 64) :
    k0_pay352 (k0_pay292 q) (k0_pay300 b k q sk) (k0_pay305 b k q sk) (k0_pay339 (k0_pay313 v (k0_pay300 b k q sk)) f0 f1 f2 f3)
        (k0_pay342 (k0_pay304 b k q sk) (k0_pay312 v) f0 f1 f2 f3) (ix2 κ d)
      = ((∑ R, ds (B R) (score (Q R) K) (SK R) (fb (FX R) V) κ * Q R d : ℝ) : EReal) :=
  dk_apply (qb := q) (group_ds hb hk hv hq hsk hf hB) hq κ d

theorem group_dq (R : Fin 512) (d : Fin 64) :
    k0_pay353 (k0_pay293 k) (k0_pay300 b k q sk) (k0_pay305 b k q sk) (k0_pay339 (k0_pay313 v (k0_pay300 b k q sk)) f0 f1 f2 f3)
        (k0_pay342 (k0_pay304 b k q sk) (k0_pay312 v) f0 f1 f2 f3) (ix2 R d)
      = ((∑ κ, ds (B R) (score (Q R) K) (SK R) (fb (FX R) V) κ * K κ d : ℝ) : EReal) :=
  dq_apply (group_ds hb hk hv hq hsk hf hB) hk R d

theorem group_dsink (R : Fin 512) :
    k0_pay347 (k0_pay302 b k q sk) (k0_pay305 b k q sk) (k0_pay339 (k0_pay313 v (k0_pay300 b k q sk)) f0 f1 f2 f3) (ix2 R 0)
      = ((dsk (B R) (score (Q R) K) (SK R) (fb (FX R) V) : ℝ) : EReal) := by
  choose m hm using fun R => shift_real hb hk hq hsk R (hB R)
  rw [dsink_apply (FB := fun R => fb (FX R) V) (recip2_apply hb hk hq hsk hm) (fun R => (den_pos _ _ _).ne')
    (pair_apply (exp_apply hb hk hq hm) hv hf) (expSink_apply hsk hm)]
  simp only [prob_shift, prob0_shift, dsk, mean]

end Cert.KernelIdeal.Unit

end
-- ==== Proof.KernMask.lean ====
/-
  The two masks and the factor of the chunk before: what a grid point reads of them is the band of the keys that its queries see.
-/
module

public import proofs.«01_k».proof.Proof.KernUnit
public import proofs.«01_k».proof.Proof.AttnTile
public import proofs.«01_k».proof.Proof.Chain

@[expose] public section

set_option maxRecDepth 16384

noncomputable section

open Idealize.ShloMosaic Idealize.ShloMosaic.TcCoe

namespace Cert.KernelIdeal.Unit

open Cert.KernelIdeal Cert.KernelIdeal.Gen Cert.Attn

/-- A stack's row, cut to its low seven bits, is the query. -/
theorem row_word : ∀ R : Fin 512, IntOp.andi (BitVec.ofNat 32 R.val) 127#32 = BitVec.ofNat 32 (pos R).val := by decide +kernel

/-- The band as words. -/
theorem band_word : ∀ (i : Fin 128) (κ : Fin 256), IntOp.andi
    (IntOp.cmpi CmpIPredicate.sge (IntOp.subi (BitVec.ofNat 32 κ.val) (BitVec.ofNat 32 i.val)) 1#32)
    (IntOp.cmpi CmpIPredicate.sle (IntOp.subi (BitVec.ofNat 32 κ.val) (BitVec.ofNat 32 i.val)) 128#32)
      = if band false i κ = true then 1#1 else 0#1 := by decide +kernel

/-- The band of a first chunk as words. -/
theorem band_word_first : ∀ (i : Fin 128) (κ : Fin 256), IntOp.andi
    (if band false i κ = true then 1#1 else 0#1) (IntOp.cmpi CmpIPredicate.sge (BitVec.ofNat 32 κ.val) 128#32)
      = if band true i κ = true then 1#1 else 0#1 := by decide +kernel

/-- The mask of a chunk with one before it. -/
theorem pay15_apply (R : Fin 512) (κ : Fin 256) :
    k0_pay15 (F := Ideal) (ix3 0 R κ) = if band false (pos R) κ = true then 0 else ⊥ := by
  pointwise [k0_pay15, k0_pay13]
  rw [row_word, band_word, neg_inf]
  cases band false (pos R) κ <;> rfl

/-- The mask of a sequence's first chunk. -/
theorem pay14_apply (R : Fin 512) (κ : Fin 256) :
    k0_pay14 (F := Ideal) (ix3 0 R κ) = if band true (pos R) κ = true then 0 else ⊥ := by
  pointwise [k0_pay14, k0_pay13]
  rw [row_word, band_word, band_word_first, neg_inf]
  cases band true (pos R) κ <;> rfl

theorem masks_one (R : Fin 512) (κ : Fin 256) : masks Ideal (ix3 1 R κ) = k0_pay15 (F := Ideal) (ix3 0 R κ) := by
  unfold masks
  have : (ix3 1 R κ : S2x512x256.Idx) = (Rect.unit (s := S2x512x256) ![1, 0, 0] S1x512x256.size inb_S2x512x256_S1x512x256_1_0_0).emb (ix3 0 R κ) := by
    funext a
    match a with
    | ⟨0, _⟩ => rfl
    | ⟨1, _⟩ => exact Fin.ext (by show R.val = 0 + 1 * R.val; omega)
    | ⟨2, _⟩ => exact Fin.ext (by show κ.val = 0 + 1 * κ.val; omega)
  rw [this]
  exact View.canon_cons_emb _ _ _ _

theorem masks_zero (R : Fin 512) (κ : Fin 256) : masks Ideal (ix3 0 R κ) = k0_pay14 (F := Ideal) (ix3 0 R κ) := by
  unfold masks
  rw [View.canon_cons_of_not_mem]
  · have : (ix3 0 R κ : S2x512x256.Idx) = (Rect.unit (s := S2x512x256) ![0, 0, 0] S1x512x256.size inb_S2x512x256_S1x512x256_0_0_0).emb (ix3 0 R κ) := by
      funext a
      match a with
      | ⟨0, _⟩ => rfl
      | ⟨1, _⟩ => exact Fin.ext (by show R.val = 0 + 1 * R.val; omega)
      | ⟨2, _⟩ => exact Fin.ext (by show κ.val = 0 + 1 * κ.val; omega)
    rw [this]
    exact View.canon_cons_emb _ _ _ _
  · intro hm
    have h1 : 1 ≤ 0 := ((Rect.mem_set_unit (inb := inb_S2x512x256_S1x512x256_1_0_0)).1 hm (0 : Fin 3)).1
    omega

/-- A grid point's chunk is the sequence's first one at the last point of a sequence. -/
def isFirst (i : grid0.Coords) : Bool := decide ((i 1).val = 15)

/-- What a grid point reads of the masks. -/
theorem bias_apply (i : grid0.Coords) (R : Fin 512) (κ : Fin 256) :
    k0_pay16 (View.ld (masks Ideal) (Rect.unit (s := S2x512x256) (k0_off1 i) S1x512x256.size (k0_off1_inb i))) (ix2 R κ)
      = if band (isFirst i) (pos R) κ = true then 0 else ⊥ := by
  have hl : ∀ j : Fin 2, k0_off1 i 0 = j.val → (View.ld (masks Ideal) (Rect.unit (s := S2x512x256) (k0_off1 i) S1x512x256.size (k0_off1_inb i))) (ix3 0 R κ)
      = masks Ideal (ix3 j R κ) := by
    intro j hj
    refine congrArg (masks Ideal) (funext fun a => ?_)
    match a with
    | ⟨0, _⟩ => exact Fin.ext (by show k0_off1 i 0 + 1 * 0 = j.val; omega)
    | ⟨1, _⟩ => exact Fin.ext (by show k0_off1 i 1 + 1 * R.val = R.val; rw [k0_off1_eq]; show 0 + 1 * R.val = _; omega)
    | ⟨2, _⟩ => exact Fin.ext (by show k0_off1 i 2 + 1 * κ.val = κ.val; rw [k0_off1_eq]; show 0 + 1 * κ.val = _; omega)
  have hp : k0_pay16 (View.ld (masks Ideal) (Rect.unit (s := S2x512x256) (k0_off1 i) S1x512x256.size (k0_off1_inb i))) (ix2 R κ)
      = (View.ld (masks Ideal) (Rect.unit (s := S2x512x256) (k0_off1 i) S1x512x256.size (k0_off1_inb i))) (ix3 0 R κ) := by
    generalize (View.ld (masks Ideal) (Rect.unit (s := S2x512x256) (k0_off1 i) S1x512x256.size (k0_off1_inb i))) = v
    pointwise [k0_pay16]
  have hi : (i 1).val < 16 := (i 1).isLt
  rw [hp]
  unfold isFirst
  by_cases h : (i 1).val = 15
  · rw [hl 0 (by rw [k0_off1_eq]; show (if 15 - (i 1).val > 0 then 1 else 0) = 0; rw [if_neg (by omega)]), masks_zero, pay14_apply, decide_eq_true h]
  · rw [hl 1 (by rw [k0_off1_eq]; show (if 15 - (i 1).val > 0 then 1 else 0) = 1; rw [if_pos (by omega)]), masks_one, pay15_apply, decide_eq_false h]

/-- The factor of the chunk before. -/
theorem nf_apply (i : grid0.Coords) : k0_pay12 (F := Ideal) i = ((if isFirst i then 0 else 1 : ℝ) : EReal) := by
  have hi : (i 1).val < 16 := (i 1).isLt
  have hw : ∀ n : Fin 16, (Scalar.extui (Scalar.cmpi .sgt (Scalar.subi 15#32 (BitVec.ofNat 32 n.val)) 0#32)).toInt
      = if decide (n.val = 15) = true then 0 else 1 := by decide +kernel
  unfold isFirst
  refine (show k0_pay12 (F := Ideal) i = (((Scalar.extui (Scalar.cmpi .sgt (Scalar.subi 15#32 (BitVec.ofNat 32 (i 1).val)) 0#32)).toInt : ℝ) : EReal)
    from rfl).trans ?_
  rw [hw ⟨(i 1).val, hi⟩]
  split <;> simp_all

end Cert.KernelIdeal.Unit

end
-- ==== Proof.KernTile.lean ====
/-
  The kernel's tile: the chain from what one grid point reads to the gradients it stores is, entry by entry, the tile of
  `AttnTile`.
-/
module

public import proofs.«01_k».proof.Proof.KernUnit
public import proofs.«01_k».proof.Proof.AttnTile

@[expose] public section

set_option maxRecDepth 16384

noncomputable section

open Idealize.ShloMosaic Idealize.ShloMosaic.TcCoe

namespace Cert.KernelIdeal.Unit

open Cert.KernelIdeal Cert.KernelIdeal.Gen Cert.Attn

/-! ## Stacks and slices at an index -/

section shapes

variable {F : FTy → Type} [FloatOps F]

theorem q0_apply (v : Vec Ideal S128x512 .f32) (R : Fin 512) (d : Fin 64) : k0_pay285 v (ix2 R d) = v (ix2 (pos R) (qcol 0 (hd R) d)) := by
  pointwise [k0_pay285]
  split_ifs <;> (refine congrArg v (congrArg₂ ix2 (Fin.ext ?_) (Fin.ext ?_)) <;> simp only [pos, qcol, hd, Fin.val_zero, Fin.val_one] <;> omega)

theorem q1_apply (v : Vec Ideal S128x512 .f32) (R : Fin 512) (d : Fin 64) : k0_pay286 v (ix2 R d) = v (ix2 (pos R) (qcol 1 (hd R) d)) := by
  pointwise [k0_pay286]
  split_ifs <;> (refine congrArg v (congrArg₂ ix2 (Fin.ext ?_) (Fin.ext ?_)) <;> simp only [pos, qcol, hd, Fin.val_zero, Fin.val_one] <;> omega)

theorem s0_apply (v : Vec Ideal S1x128 .f32) (R : Fin 512) : k0_pay287 v (ix2 R 0) = v (ix2 0 (lane 0 (hd R))) := by
  pointwise [k0_pay287]
  split_ifs <;> (refine congrArg v (congrArg₂ ix2 (Fin.ext ?_) (Fin.ext ?_)) <;> simp only [lane, hd, Fin.val_zero, Fin.val_one] <;> omega)

theorem s1_apply (v : Vec Ideal S1x128 .f32) (R : Fin 512) :
    k0_pay291 v (k0_pay288 v) (k0_pay289 v) (k0_pay290 v) (ix2 R 0) = v (ix2 0 (lane 1 (hd R))) := by
  pointwise [k0_pay291, k0_pay288, k0_pay289, k0_pay290]
  split_ifs <;> (refine congrArg v (congrArg₂ ix2 (Fin.ext ?_) (Fin.ext ?_)) <;> simp only [lane, hd, Fin.val_zero, Fin.val_one] <;> omega)

end shapes

variable (v6 : Vec Ideal S1x128 .f32) (v13 : Ideal .f32) (v22 : FVec Ideal S512x256 .f32) (v31 : Vec Ideal S128x1024 .f32)
  (v1516 v1517 : Vec Ideal S128x512 .f32) (v1518 v1519 : Vec Ideal S128x256 .f32) (v1639 : Vec Ideal S512x1024 .bf16)

theorem k0_apply (κ : Fin 256) (d : Fin 64) : k0_pay281 v13 v1518 v1519 (ix2 κ d)
    = if h : κ.val < 128 then v1519 (ix2 ⟨κ.val, h⟩ (kcol 0 d)) * v13 else v1518 (ix2 ⟨κ.val - 128, by omega⟩ (kcol 0 d)) := by
  pointwise [k0_pay281, k0_pay279, k0_pay278]
  split_ifs
  all_goals first
    | exact absurd rfl ‹¬_›
    | (exfalso; revert ‹¬_›; decide)
    | exact congrArg (· * v13) (congrArg v1519 (congrArg₂ ix2 rfl (Fin.ext (by simp [kcol] <;> omega))))
    | exact congrArg v1518 (congrArg₂ ix2 rfl (Fin.ext (by simp [kcol] <;> omega)))

theorem k1_apply (κ : Fin 256) (d : Fin 64) : k0_pay282 v13 v1518 v1519 (ix2 κ d)
    = if h : κ.val < 128 then v1519 (ix2 ⟨κ.val, h⟩ (kcol 1 d)) * v13 else v1518 (ix2 ⟨κ.val - 128, by omega⟩ (kcol 1 d)) := by
  pointwise [k0_pay282, k0_pay279, k0_pay278]
  split_ifs
  all_goals first
    | exact absurd rfl ‹¬_›
    | (exfalso; revert ‹¬_›; decide)
    | exact congrArg (· * v13) (congrArg v1519 (congrArg₂ ix2 rfl (Fin.ext (by simp [kcol] <;> omega))))
    | exact congrArg v1518 (congrArg₂ ix2 rfl (Fin.ext (by simp [kcol] <;> omega)))

theorem v0_apply (κ : Fin 256) (d : Fin 64) : k0_pay283 v13 v1518 v1519 (ix2 κ d)
    = if h : κ.val < 128 then v1519 (ix2 ⟨κ.val, h⟩ (vcol 0 d)) * v13 else v1518 (ix2 ⟨κ.val - 128, by omega⟩ (vcol 0 d)) := by
  pointwise [k0_pay283, k0_pay280, k0_pay278]
  split_ifs
  all_goals first
    | exact absurd rfl ‹¬_›
    | (exfalso; revert ‹¬_›; decide)
    | exact congrArg (· * v13) (congrArg v1519 (congrArg₂ ix2 rfl (Fin.ext (by simp [vcol] <;> omega))))
    | exact congrArg v1518 (congrArg₂ ix2 rfl (Fin.ext (by simp [vcol] <;> omega)))

theorem v1_apply (κ : Fin 256) (d : Fin 64) : k0_pay284 v13 v1518 v1519 (ix2 κ d)
    = if h : κ.val < 128 then v1519 (ix2 ⟨κ.val, h⟩ (vcol 1 d)) * v13 else v1518 (ix2 ⟨κ.val - 128, by omega⟩ (vcol 1 d)) := by
  pointwise [k0_pay284, k0_pay280, k0_pay278]
  split_ifs
  all_goals first
    | exact absurd rfl ‹¬_›
    | (exfalso; revert ‹¬_›; decide)
    | exact congrArg (· * v13) (congrArg v1519 (congrArg₂ ix2 rfl (Fin.ext (by simp [vcol] <;> omega))))
    | exact congrArg v1518 (congrArg₂ ix2 rfl (Fin.ext (by simp [vcol] <;> omega)))

/-! ## The second group's chain is the first's -/

theorem exp1_eq : k0_pay301 v6 v22 (k0_pay282 v13 v1518 v1519) (k0_pay286 v1517) (k0_pay288 v6) (k0_pay289 v6) (k0_pay290 v6)
    = k0_pay300 v22 (k0_pay282 v13 v1518 v1519) (k0_pay286 v1517) (k0_pay291 v6 (k0_pay288 v6) (k0_pay289 v6) (k0_pay290 v6)) := rfl

end Cert.KernelIdeal.Unit

end
-- ==== Proof.KernLadder.lean ====
/-
  The kernel's stacks and column ladders at an index: which head's row an entry of a stack comes from, and which head's result lies in
  which columns of what is stored.
-/
module

public import proofs.«01_k».proof.Proof.KernUnit
public import proofs.«01_k».proof.Proof.AttnTile
public import proofs.«01_k».proof.Proof.Chain

@[expose] public section

set_option maxRecDepth 16384

noncomputable section

open Idealize.ShloMosaic Idealize.ShloMosaic.TcCoe

namespace Cert.KernelIdeal.Unit

open Cert.KernelIdeal Cert.KernelIdeal.Gen Cert.Attn

theorem row_congr (e : FVec Ideal S512x256 .f32) (v : FVec Ideal S256x64 .f32) (r : FVec Ideal S512x1 .f32) {R R' : Fin 512} {d d' : Fin 64}
    (hR : R.val = R'.val) (hd : d.val = d'.val) :
    (∑ x, k0_pay311 e (ix2 R x) * k0_pay312 v (ix2 x d)) * r (ix2 R 0) = k0_pay313 v e (ix2 R' d') * r (ix2 R' 0) := by
  obtain rfl := Fin.ext hR; obtain rfl := Fin.ext hd
  pointwise [k0_pay313]

/-- The normalised outputs: group 0's heads in the first 256 columns … -/
theorem o_apply0 (v0 v1 : FVec Ideal S256x64 .f32) (e0 e1 : FVec Ideal S512x256 .f32) (r0 r1 : FVec Ideal S512x1 .f32)
    (i : Fin 128) (a : Fin 4) (d : Fin 64) (c : Fin 512) (hc : c.val = 64 * a.val + d.val) :
    k0_pay317 v0 v1 e0 e1 r0 r1 (ix2 i c) = k0_pay313 v0 e0 (ix2 (srow a i) d) * r0 (ix2 (srow a i) 0) := by
  pointwise [k0_pay317, k0_pay313, k0_pay316]
  split_ifs
  all_goals first
    | (exfalso; omega)
    | (rw [row_congr _ _ _ (R' := srow a i) (d' := d) (by simp only [srow]; omega) (by simp only []; omega)]; pointwise [k0_pay313])

/-- … and group 1's in the last 256. -/
theorem o_apply1 (v0 v1 : FVec Ideal S256x64 .f32) (e0 e1 : FVec Ideal S512x256 .f32) (r0 r1 : FVec Ideal S512x1 .f32)
    (i : Fin 128) (a : Fin 4) (d : Fin 64) (c : Fin 512) (hc : c.val = 256 + 64 * a.val + d.val) :
    k0_pay317 v0 v1 e0 e1 r0 r1 (ix2 i c) = k0_pay313 v1 e1 (ix2 (srow a i) d) * r1 (ix2 (srow a i) 0) := by
  pointwise [k0_pay317, k0_pay313, k0_pay316]
  split_ifs
  all_goals first
    | (exfalso; omega)
    | (refine (row_congr e1 v1 r1 (R' := srow a i) (d' := d) (by simp only [srow]; omega) (by simp only []; omega)).trans ?_; pointwise [k0_pay313])

/-- A stack of four heads' gradients. -/
theorem stack_apply (fx : FVec Ideal S128x512 .f32) (g : Fin 2) (f0 f1 f2 f3 : FVec Ideal S128x64 .f32)
    (h0 : ∀ i d, f0 (ix2 i d) = fx (ix2 i (qcol g 0 d))) (h1 : ∀ i d, f1 (ix2 i d) = fx (ix2 i (qcol g 1 d)))
    (h2 : ∀ i d, f2 (ix2 i d) = fx (ix2 i (qcol g 2 d))) (h3 : ∀ i d, f3 (ix2 i d) = fx (ix2 i (qcol g 3 d))) (R : Fin 512) (d : Fin 64) :
    k0_pay334 f0 f1 f2 f3 (ix2 R d) = fx (ix2 (pos R) (qcol g (hd R) d)) := by
  pointwise [k0_pay334]
  have hR : R.val < 128 ∨ (128 ≤ R.val ∧ R.val < 256) ∨ (256 ≤ R.val ∧ R.val < 384) ∨ 384 ≤ R.val := by omega
  rcases hR with h | ⟨h, h'⟩ | ⟨h, h'⟩ | h
  all_goals
    simp (disch := omega) only [dif_pos, dif_neg, zero_add, add_zero, h0, h1, h2, h3]
    refine congrArg fx (congrArg₂ ix2 (Fin.ext ?_) (Fin.ext ?_)) <;> simp only [pos, qcol, hd, Fin.val_zero, Fin.val_one, Fin.val_two] <;>
      first | omega | (have : (3 : Fin 4).val = 3 := rfl; omega)

theorem entry_congr (a : FVec Ideal S512x64 .f32) {R R' : Fin 512} {d d' : Fin 64} (hR : R.val = R'.val) (hd : d.val = d'.val) :
    a (ix2 R d) = a (ix2 R' d') := by
  obtain rfl := Fin.ext hR; obtain rfl := Fin.ext hd; rfl

/-- The gradient of the queries, laid out by columns: group 0 … -/
theorem dq_apply0 (x0 x1 : FVec Ideal S512x64 .f32) (i : Fin 128) (a : Fin 4) (d : Fin 64) (e : Fin 512) (he : e.val = 64 * a.val + d.val) :
    k0_pay371 (k0_pay365 x0 (k0_pay363 x1) (k0_pay364 x0)) (ix2 i e) = x0 (ix2 (srow a i) d) := by
  pointwise [k0_pay371, k0_pay365, k0_pay363, k0_pay364]
  have ha : a = 0 ∨ a = 1 ∨ a = 2 ∨ a = 3 := by omega
  rcases ha with rfl | rfl | rfl | rfl <;>
    simp only [Fin.val_zero, Fin.val_one, Fin.val_two, show (3 : Fin 4).val = 3 from rfl] at he <;>
    simp (disch := omega) only [dif_pos, dif_neg, zero_add, add_zero] <;>
    exact entry_congr x0 (by simp only [srow, Fin.val_zero, Fin.val_one, Fin.val_two, show (3 : Fin 4).val = 3 from rfl] <;> omega) (by simp only [] <;> omega)

/-- … and group 1. -/
theorem dq_apply1 (x0 x1 : FVec Ideal S512x64 .f32) (i : Fin 128) (a : Fin 4) (d : Fin 64) (e : Fin 512)
    (he : e.val = 256 + 64 * a.val + d.val) :
    k0_pay371 (k0_pay365 x0 (k0_pay363 x1) (k0_pay364 x0)) (ix2 i e) = x1 (ix2 (srow a i) d) := by
  pointwise [k0_pay371, k0_pay365, k0_pay363, k0_pay364]
  have ha : a = 0 ∨ a = 1 ∨ a = 2 ∨ a = 3 := by omega
  rcases ha with rfl | rfl | rfl | rfl <;>
    simp only [Fin.val_zero, Fin.val_one, Fin.val_two, show (3 : Fin 4).val = 3 from rfl] at he <;>
    simp (disch := omega) only [dif_pos, dif_neg, zero_add, add_zero] <;>
    exact entry_congr x1 (by simp only [srow, Fin.val_zero, Fin.val_one, Fin.val_two, show (3 : Fin 4).val = 3 from rfl] <;> omega) (by simp only [] <;> omega)

theorem key_congr (a : FVec Ideal S256x64 .f32) {R R' : Fin 256} {d d' : Fin 64} (hR : R.val = R'.val) (hd : d.val = d'.val) :
    a (ix2 R d) = a (ix2 R' d') := by
  obtain rfl := Fin.ext hR; obtain rfl := Fin.ext hd; rfl

/-- The row of a chunk's key among the 256 of a tile: the chunk's own half … -/
def own (i : Fin 128) : Fin 256 := ⟨128 + i.val, by omega⟩
/-- … and the half of the chunk before. -/
def before (i : Fin 128) : Fin 256 := ⟨i.val, by omega⟩

section kv

variable (v1 v0 k1 k0 : FVec Ideal S256x64 .f32) (i : Fin 128) (d : Fin 64)

theorem cur_k0 : k0_pay368 v1 v0 k1 k0 (ix2 i (kcol 0 d)) = k0 (ix2 (own i) d) := by
  generalize hc : kcol 0 d = c
  have hc' : c.val = d.val := by rw [← hc]; simp [kcol]
  pointwise [k0_pay368, k0_pay366, k0_pay367]
  simp (disch := omega) only [dif_pos, dif_neg, zero_add, add_zero]
  exact key_congr _ (by simp only [own] <;> omega) (by simp only [] <;> omega)
theorem cur_k1 : k0_pay368 v1 v0 k1 k0 (ix2 i (kcol 1 d)) = k1 (ix2 (own i) d) := by
  generalize hc : kcol 1 d = c
  have hc' : c.val = 64 + d.val := by rw [← hc]; simp [kcol]
  pointwise [k0_pay368, k0_pay366, k0_pay367]
  simp (disch := omega) only [dif_pos, dif_neg, zero_add, add_zero]
  exact key_congr _ (by simp only [own] <;> omega) (by simp only [] <;> omega)
theorem cur_v0 : k0_pay368 v1 v0 k1 k0 (ix2 i (vcol 0 d)) = v0 (ix2 (own i) d) := by
  generalize hc : vcol 0 d = c
  have hc' : c.val = 128 + d.val := by rw [← hc]; simp [vcol]
  pointwise [k0_pay368, k0_pay366, k0_pay367]
  simp (disch := omega) only [dif_pos, dif_neg, zero_add, add_zero]
  exact key_congr _ (by simp only [own] <;> omega) (by simp only [] <;> omega)
theorem cur_v1 : k0_pay368 v1 v0 k1 k0 (ix2 i (vcol 1 d)) = v1 (ix2 (own i) d) := by
  generalize hc : vcol 1 d = c
  have hc' : c.val = 192 + d.val := by rw [← hc]; simp [vcol]
  pointwise [k0_pay368, k0_pay366, k0_pay367]
  simp (disch := omega) only [dif_pos, dif_neg, zero_add, add_zero]
  exact key_congr _ (by simp only [own] <;> omega) (by simp only [] <;> omega)

theorem pend_k0 : k0_pay373 (k0_pay369 v1 v0 k1 k0) (ix2 i (kcol 0 d)) = k0 (ix2 (before i) d) := by
  generalize hc : kcol 0 d = c
  have hc' : c.val = d.val := by rw [← hc]; simp [kcol]
  pointwise [k0_pay373, k0_pay369, k0_pay366, k0_pay367]
  simp (disch := omega) only [dif_pos, dif_neg, zero_add, add_zero]
  exact key_congr _ (by simp only [before] <;> omega) (by simp only [] <;> omega)
theorem pend_k1 : k0_pay373 (k0_pay369 v1 v0 k1 k0) (ix2 i (kcol 1 d)) = k1 (ix2 (before i) d) := by
  generalize hc : kcol 1 d = c
  have hc' : c.val = 64 + d.val := by rw [← hc]; simp [kcol]
  pointwise [k0_pay373, k0_pay369, k0_pay366, k0_pay367]
  simp (disch := omega) only [dif_pos, dif_neg, zero_add, add_zero]
  exact key_congr _ (by simp only [before] <;> omega) (by simp only [] <;> omega)
theorem pend_v0 : k0_pay373 (k0_pay369 v1 v0 k1 k0) (ix2 i (vcol 0 d)) = v0 (ix2 (before i) d) := by
  generalize hc : vcol 0 d = c
  have hc' : c.val = 128 + d.val := by rw [← hc]; simp [vcol]
  pointwise [k0_pay373, k0_pay369, k0_pay366, k0_pay367]
  simp (disch := omega) only [dif_pos, dif_neg, zero_add, add_zero]
  exact key_congr _ (by simp only [before] <;> omega) (by simp only [] <;> omega)
theorem pend_v1 : k0_pay373 (k0_pay369 v1 v0 k1 k0) (ix2 i (vcol 1 d)) = v1 (ix2 (before i) d) := by
  generalize hc : vcol 1 d = c
  have hc' : c.val = 192 + d.val := by rw [← hc]; simp [vcol]
  pointwise [k0_pay373, k0_pay369, k0_pay366, k0_pay367]
  simp (disch := omega) only [dif_pos, dif_neg, zero_add, add_zero]
  exact key_congr _ (by simp only [before] <;> omega) (by simp only [] <;> omega)

end kv

theorem col_congr (s : FVec Ideal S512x1 .f32) (a : Fin 4) (R : Fin 128 → Fin 512) (h : ∀ i, (R i).val = 128 * a.val + i.val) :
    (∑ x : Fin 128, ∑ _y : Fin 1, s (ix2 (R x) 0)) = ∑ i, s (ix2 (srow a i) 0) := by
  refine Finset.sum_congr rfl fun i _ => ?_
  rw [Fin.sum_univ_one]
  exact congrArg s (congrArg₂ ix2 (Fin.ext (h i)) rfl)

/-- The tile's part of the sinks' gradient, by lanes: group 0 in lanes 0 to 3 … -/
theorem sk_apply0 (s0 : FVec Ideal S512x1 .f32) (x y z : FVec Ideal S512x1 .f32) (a : Fin 4) (l : Fin 128) (hl : l.val = a.val) :
    k0_pay362 (k0_pay358 s0) (k0_pay359 s0) (k0_pay360 s0)
        (k0_pay361 s0 (k0_pay354 x y z) (k0_pay355 x y z) (k0_pay356 x y z) (k0_pay357 x y z)) (ix2 0 l)
      = ∑ i, s0 (ix2 (srow a i) 0) := by
  pointwise [k0_pay362, k0_pay361, k0_pay358, k0_pay359, k0_pay360, k0_pay354, k0_pay355, k0_pay356, k0_pay357]
  have ha : a = 0 ∨ a = 1 ∨ a = 2 ∨ a = 3 := by omega
  rcases ha with rfl | rfl | rfl | rfl <;>
    simp only [Fin.val_zero, Fin.val_one, Fin.val_two, show (3 : Fin 4).val = 3 from rfl] at hl <;>
    simp (disch := omega) only [dif_pos, dif_neg, zero_add, add_zero] <;>
    exact col_congr s0 _ _ (fun i => by simp only [Fin.val_zero, Fin.val_one, Fin.val_two, show (3 : Fin 4).val = 3 from rfl] <;> omega)

/-- … group 1 in lanes 4 to 7 … -/
theorem sk_apply1 (s0 : FVec Ideal S512x1 .f32) (x y z : FVec Ideal S512x1 .f32) (a : Fin 4) (l : Fin 128) (hl : l.val = 4 + a.val) :
    k0_pay362 (k0_pay358 s0) (k0_pay359 s0) (k0_pay360 s0)
        (k0_pay361 s0 (k0_pay354 x y z) (k0_pay355 x y z) (k0_pay356 x y z) (k0_pay357 x y z)) (ix2 0 l)
      = ∑ i, k0_pay345 x y z (ix2 (srow a i) 0) := by
  pointwise [k0_pay362, k0_pay361, k0_pay358, k0_pay359, k0_pay360, k0_pay354, k0_pay355, k0_pay356, k0_pay357]
  have ha : a = 0 ∨ a = 1 ∨ a = 2 ∨ a = 3 := by omega
  rcases ha with rfl | rfl | rfl | rfl <;>
    simp only [Fin.val_zero, Fin.val_one, Fin.val_two, show (3 : Fin 4).val = 3 from rfl] at hl <;>
    simp (disch := omega) only [dif_pos, dif_neg, zero_add, add_zero] <;>
    exact col_congr (k0_pay345 x y z) _ _ (fun i => by simp only [Fin.val_zero, Fin.val_one, Fin.val_two, show (3 : Fin 4).val = 3 from rfl] <;> omega)

/-- … and zero in the others. -/
theorem sk_apply2 (s0 : FVec Ideal S512x1 .f32) (x y z : FVec Ideal S512x1 .f32) (l : Fin 128) (hl : 8 ≤ l.val) :
    k0_pay362 (k0_pay358 s0) (k0_pay359 s0) (k0_pay360 s0)
        (k0_pay361 s0 (k0_pay354 x y z) (k0_pay355 x y z) (k0_pay356 x y z) (k0_pay357 x y z)) (ix2 0 l) = 0 := by
  pointwise [k0_pay362, k0_pay361, k0_pay358, k0_pay359, k0_pay360, k0_pay354, k0_pay355, k0_pay356, k0_pay357]
  simp (disch := omega) only [dif_pos, dif_neg, zero_add, add_zero]

/-- The gradient behind the gate. -/
theorem fx_apply (ct : Vec Ideal S128x1024 .f32) (z : Vec Ideal S128x512 .f32) (w : Vec Ideal S512x1024 .bf16) (i : Fin 128) (c : Fin 512) :
    k0_pay322 ct z w (ix2 i c) = (∑ x, ct (ix2 i x) * w (ix2 c x)) * (z (ix2 i c) * Ideal.logistic (z (ix2 i c))) := by
  pointwise [k0_pay322, k0_pay321, k0_pay319, k0_pay318]

/-- The gradient of the gate's input. -/
theorem dz_apply (ct : Vec Ideal S128x1024 .f32) (z : Vec Ideal S128x512 .f32) (w : Vec Ideal S512x1024 .bf16) (v0 v1 e0 e1 r0 r1)
    (i : Fin 128) (c : Fin 512) : k0_pay370 (k0_pay323 ct z v0 v1 e0 e1 r0 r1 w) (ix2 i c)
      = (k0_pay317 v0 v1 e0 e1 r0 r1 (ix2 i c) * ∑ x, ct (ix2 i x) * w (ix2 c x)) * Ideal.logistic (z (ix2 i c)) +
      z (ix2 i c) * (k0_pay317 v0 v1 e0 e1 r0 r1 (ix2 i c) * ∑ x, ct (ix2 i x) * w (ix2 c x)) *
        (Ideal.logistic (z (ix2 i c)) * (1 - Ideal.logistic (z (ix2 i c)))) := by
  pointwise [k0_pay370, k0_pay323, k0_pay318, k0_pay321]

end Cert.KernelIdeal.Unit

end
-- ==== Proof.KernAsm.lean ====
/-
  The kernel's tile is the tile of `AttnTile`: when everything that a grid point loads is real, what its attention part stores is, entry by
  entry, the gradient of the tile over the real numbers.
-/
module

public import proofs.«01_k».proof.Proof.KernTile
public import proofs.«01_k».proof.Proof.KernLadder

@[expose] public section

set_option maxRecDepth 16384

noncomputable section

open Idealize.ShloMosaic Idealize.ShloMosaic.TcCoe

namespace Cert.KernelIdeal.Unit

open Cert.KernelIdeal Cert.KernelIdeal.Gen Cert.Attn

/-- The loads `a` are the real tile `T`; the gradient at the gated output is the product of the block's gradient with the weight's rows. -/
structure Loads (a : In Ideal) (T : Tile) : Prop where
  sk : ∀ l, a.sk (ix2 0 l) = (T.sk l : EReal)
  nf : a.nf = (T.nf : EReal)
  bias : ∀ R κ, a.bias (ix2 R κ) = if T.M (pos R) κ then 0 else ⊥
  ct : ∀ i c, ∑ x, a.ct (ix2 i x) * a.w (ix2 c x) = (T.ct i c : EReal)
  z : ∀ i c, a.z (ix2 i c) = (T.z i c : EReal)
  q : ∀ i c, a.q (ix2 i c) = (T.q i c : EReal)
  cur : ∀ i c, a.cur (ix2 i c) = (T.cur i c : EReal)
  prev : ∀ i c, a.prev (ix2 i c) = (T.prev i c : EReal)
  M : ∀ i, ∃ κ, T.M i κ = true

/-! ## Group 1's stretches are group 0's -/

section same

variable (a : In Ideal)

/-- The stacked sinks of group 1. -/
def st1 : FVec Ideal S512x1 .f32 := k0_pay291 a.sk a.s1a a.s1b a.s1c

/-- The last head's gradient, cut out. -/
def cut7 : FVec Ideal S128x64 .f32 :=
  extractStridedSlice S128x64 ![0, 448] (k0_pay322 a.ct a.z a.w) slices_S128x512_o0_448_S128x64

theorem e1_eq : a.e1 = k0_pay300 a.bias a.k1 a.q1 (st1 a) := rfl
theorem es1_eq : a.es1 = k0_pay302 a.bias a.k1 a.q1 (st1 a) := rfl
theorem r1_eq : a.r1 = k0_pay304 a.bias a.k1 a.q1 (st1 a) := rfl
theorem rr1_eq : a.rr1 = k0_pay305 a.bias a.k1 a.q1 (st1 a) := rfl
theorem o1_eq : a.o1 = k0_pay313 a.v1 a.e1 := rfl
theorem g1_eq : a.g1 = k0_pay339 a.o1 a.f4 a.f5 a.f6 (cut7 a) := rfl
theorem dv1_eq : a.dv1 = k0_pay343 (k0_pay341 a.r1 (k0_pay311 a.e1) a.f4 a.f5 a.f6 (cut7 a)) := rfl
theorem p1_eq : a.p1 = k0_pay342 a.r1 (k0_pay312 a.v1) a.f4 a.f5 a.f6 (cut7 a) := rfl
theorem dk1_eq : a.dk1 = k0_pay352 (k0_pay292 a.q1) a.e1 a.rr1 a.g1 a.p1 := rfl
theorem dq1_eq : a.dq1 = k0_pay353 (k0_pay293 a.k1) a.e1 a.rr1 a.g1 a.p1 := rfl
theorem sk1_eq : k0_pay345 a.es1 a.rr1 a.g1 = k0_pay347 a.es1 a.rr1 a.g1 := rfl

end same

variable {a : In Ideal} {T : Tile} (h : Loads a T)

include h

theorem kv_coe (κ : Fin 256) (c : Fin 256) :
    (if h : κ.val < 128 then a.prev (ix2 ⟨κ.val, h⟩ c) * a.nf else a.cur (ix2 ⟨κ.val - 128, by omega⟩ c)) = (T.kv κ c : EReal) := by
  unfold Tile.kv
  split
  · rw [h.prev, h.nf, ← EReal.coe_mul]
  · rw [h.cur]

theorem k0_coe (κ : Fin 256) (d : Fin 64) : a.k0 (ix2 κ d) = (T.key 0 κ d : EReal) :=
  (k0_apply _ _ _ κ d).trans (kv_coe h κ _)
theorem k1_coe (κ : Fin 256) (d : Fin 64) : a.k1 (ix2 κ d) = (T.key 1 κ d : EReal) :=
  (k1_apply _ _ _ κ d).trans (kv_coe h κ _)
theorem v0_coe (κ : Fin 256) (d : Fin 64) : a.v0 (ix2 κ d) = (T.val 0 κ d : EReal) :=
  (v0_apply _ _ _ κ d).trans (kv_coe h κ _)
theorem v1_coe (κ : Fin 256) (d : Fin 64) : a.v1 (ix2 κ d) = (T.val 1 κ d : EReal) :=
  (v1_apply _ _ _ κ d).trans (kv_coe h κ _)
theorem q0_coe (R : Fin 512) (d : Fin 64) : a.q0 (ix2 R d) = (T.qrow 0 (hd R) (pos R) d : EReal) :=
  (q0_apply _ R d).trans (h.q _ _)
theorem q1_coe (R : Fin 512) (d : Fin 64) : a.q1 (ix2 R d) = (T.qrow 1 (hd R) (pos R) d : EReal) :=
  (q1_apply _ R d).trans (h.q _ _)
theorem s0_coe (R : Fin 512) : a.s0 (ix2 R 0) = (T.skl 0 (hd R) : EReal) := (s0_apply _ R).trans (h.sk _)
theorem s1_coe (R : Fin 512) : st1 a (ix2 R 0) = (T.skl 1 (hd R) : EReal) := (s1_apply _ R).trans (h.sk _)

/-- The gradient behind the gate. -/
theorem fx_coe (i : Fin 128) (c : Fin 512) : k0_pay322 a.ct a.z a.w (ix2 i c) = (gated (T.z i c) (T.ct i c) : EReal) := by
  rw [fx_apply, h.ct, h.z, Ideal.logistic_coe, ← EReal.coe_mul, ← EReal.coe_mul]
  rfl

theorem f0_coe (R : Fin 512) (d : Fin 64) :
    k0_pay334 a.f0 a.f1 a.f2 a.f3 (ix2 R d) = (T.fx 0 (hd R) (pos R) d : EReal) := by
  refine (stack_apply (k0_pay322 a.ct a.z a.w) 0 _ _ _ _ ?_ ?_ ?_ ?_ R d).trans (fx_coe h _ _) <;> intro i d
  · unfold In.f0; pointwise [k0_pay324]; exact congrArg _ (congrArg₂ ix2 rfl (Fin.ext (by simp [qcol])))
  · unfold In.f1; pointwise [k0_pay325]; exact congrArg _ (congrArg₂ ix2 rfl (Fin.ext (by simp [qcol])))
  · unfold In.f2; pointwise [k0_pay326]; exact congrArg _ (congrArg₂ ix2 rfl (Fin.ext (by simp [qcol])))
  · unfold In.f3; pointwise [k0_pay327]; exact congrArg _ (congrArg₂ ix2 rfl (Fin.ext (by simp [qcol])))

theorem f1_coe (R : Fin 512) (d : Fin 64) :
    k0_pay334 a.f4 a.f5 a.f6 (cut7 a) (ix2 R d) = (T.fx 1 (hd R) (pos R) d : EReal) := by
  refine (stack_apply (k0_pay322 a.ct a.z a.w) 1 _ _ _ _ ?_ ?_ ?_ ?_ R d).trans (fx_coe h _ _) <;> intro i d
  · unfold In.f4; pointwise [k0_pay328]; exact congrArg _ (congrArg₂ ix2 rfl (Fin.ext (by simp [qcol])))
  · unfold In.f5; pointwise [k0_pay329]; exact congrArg _ (congrArg₂ ix2 rfl (Fin.ext (by simp [qcol])))
  · unfold In.f6; pointwise [k0_pay330]; exact congrArg _ (congrArg₂ ix2 rfl (Fin.ext (by simp [qcol])))
  · unfold cut7; pointwise; exact congrArg _ (congrArg₂ ix2 rfl (Fin.ext (by simp [qcol])))

/-! ## The two groups -/

theorem out0 (i : Fin 128) (b : Fin 4) (d : Fin 64) :
    k0_pay313 a.v0 a.e0 (ix2 (srow b i) d) * a.r0 (ix2 (srow b i) 0) = (T.out 0 b i d : EReal) := by
  have := out_apply (B := fun R => T.M (pos R)) h.bias (k0_coe h) (v0_coe h) (q0_coe h) (s0_coe h) (fun R => h.M (pos R)) (srow b i) d
  unfold Unit.out at this
  pointwise at this
  rw [hd_srow, pos_srow] at this
  exact this

theorem out1 (i : Fin 128) (b : Fin 4) (d : Fin 64) :
    k0_pay313 a.v1 a.e1 (ix2 (srow b i) d) * a.r1 (ix2 (srow b i) 0) = (T.out 1 b i d : EReal) := by
  have := out_apply (B := fun R => T.M (pos R)) h.bias (k1_coe h) (v1_coe h) (q1_coe h) (s1_coe h) (fun R => h.M (pos R)) (srow b i) d
  unfold Unit.out at this
  pointwise at this
  rw [hd_srow, pos_srow] at this
  exact this

/-- The gradient of the gate's input. -/
theorem dz_coe (g : Fin 2) (b : Fin 4) (i : Fin 128) (d : Fin 64) : a.dz (ix2 i (qcol g b d)) = (T.dz g b i d : EReal) := by
  have ho : k0_pay317 a.v0 a.v1 a.e0 a.e1 a.r0 a.r1 (ix2 i (qcol g b d)) = (T.out g b i d : EReal) := by
    have hg : g = 0 ∨ g = 1 := by omega
    rcases hg with rfl | rfl
    · exact (o_apply0 _ _ _ _ _ _ i b d _ (by simp [qcol])).trans (out0 h i b d)
    · exact (o_apply1 _ _ _ _ _ _ i b d _ (by simp [qcol])).trans (out1 h i b d)
  unfold In.dz
  rw [dz_apply, ho, h.ct, h.z, Ideal.logistic_coe, ← EReal.coe_one]
  simp only [← EReal.coe_mul, ← EReal.coe_sub, ← EReal.coe_add]
  rfl

/-- The gradient of the queries. -/
theorem dq_coe (g : Fin 2) (b : Fin 4) (i : Fin 128) (d : Fin 64) : a.dq (ix2 i (qcol g b d)) = (T.dq g b i d : EReal) := by
  have hg : g = 0 ∨ g = 1 := by omega
  unfold In.dq
  rcases hg with rfl | rfl
  · refine (dq_apply0 _ _ i b d _ (by simp [qcol])).trans ?_
    refine (group_dq (B := fun R => T.M (pos R)) h.bias (k0_coe h) (v0_coe h) (q0_coe h) (s0_coe h) (f0_coe h)
      (fun R => h.M (pos R)) (srow b i) d).trans ?_
    rw [hd_srow, pos_srow]; rfl
  · refine (dq_apply1 _ _ i b d _ (by simp [qcol])).trans ?_
    rw [dq1_eq, p1_eq, g1_eq, o1_eq, rr1_eq, r1_eq, e1_eq]
    refine (group_dq (B := fun R => T.M (pos R)) h.bias (k1_coe h) (v1_coe h) (q1_coe h) (s1_coe h) (f1_coe h)
      (fun R => h.M (pos R)) (srow b i) d).trans ?_
    rw [hd_srow, pos_srow]; rfl

theorem dk0_coe (κ : Fin 256) (d : Fin 64) : a.dk0 (ix2 κ d) = (T.dk 0 κ d : EReal) := by
  refine (group_dk (B := fun R => T.M (pos R)) h.bias (k0_coe h) (v0_coe h) (q0_coe h) (s0_coe h) (f0_coe h)
    (fun R => h.M (pos R)) κ d).trans ?_
  exact congrArg _ (sum_rows fun b i => T.dsr 0 b i κ * T.qrow 0 b i d)

theorem dk1_coe (κ : Fin 256) (d : Fin 64) : a.dk1 (ix2 κ d) = (T.dk 1 κ d : EReal) := by
  rw [dk1_eq, p1_eq, g1_eq, o1_eq, rr1_eq, r1_eq, e1_eq]
  refine (group_dk (B := fun R => T.M (pos R)) h.bias (k1_coe h) (v1_coe h) (q1_coe h) (s1_coe h) (f1_coe h)
    (fun R => h.M (pos R)) κ d).trans ?_
  exact congrArg _ (sum_rows fun b i => T.dsr 1 b i κ * T.qrow 1 b i d)

theorem dv0_coe (κ : Fin 256) (d : Fin 64) : a.dv0 (ix2 κ d) = (T.dv 0 κ d : EReal) := by
  refine (group_dv (B := fun R => T.M (pos R)) h.bias (k0_coe h) (v0_coe h) (q0_coe h) (s0_coe h) (f0_coe h)
    (fun R => h.M (pos R)) κ d).trans ?_
  exact congrArg _ (sum_rows fun b i => T.fx 0 b i d * prob (T.M i) (T.sc 0 b i) (T.skl 0 b) κ)

theorem dv1_coe (κ : Fin 256) (d : Fin 64) : a.dv1 (ix2 κ d) = (T.dv 1 κ d : EReal) := by
  rw [dv1_eq, r1_eq, e1_eq]
  refine (group_dv (B := fun R => T.M (pos R)) h.bias (k1_coe h) (v1_coe h) (q1_coe h) (s1_coe h) (f1_coe h)
    (fun R => h.M (pos R)) κ d).trans ?_
  exact congrArg _ (sum_rows fun b i => T.fx 1 b i d * prob (T.M i) (T.sc 1 b i) (T.skl 1 b) κ)

/-- The gradient of this chunk's keys … -/
theorem dcur_key (g : Fin 2) (i : Fin 128) (d : Fin 64) : a.dcur (ix2 i (kcol g d)) = (T.dk g (own i) d : EReal) := by
  have hg : g = 0 ∨ g = 1 := by omega
  rcases hg with rfl | rfl
  · exact (cur_k0 _ _ _ _ i d).trans (dk0_coe h _ d)
  · exact (cur_k1 _ _ _ _ i d).trans (dk1_coe h _ d)
/-- … and values, from this chunk's queries; -/
theorem dcur_val (g : Fin 2) (i : Fin 128) (d : Fin 64) : a.dcur (ix2 i (vcol g d)) = (T.dv g (own i) d : EReal) := by
  have hg : g = 0 ∨ g = 1 := by omega
  rcases hg with rfl | rfl
  · exact (cur_v0 _ _ _ _ i d).trans (dv0_coe h _ d)
  · exact (cur_v1 _ _ _ _ i d).trans (dv1_coe h _ d)
/-- of the chunk before's keys … -/
theorem pend_key (g : Fin 2) (i : Fin 128) (d : Fin 64) : a.pend (ix2 i (kcol g d)) = (T.dk g (before i) d : EReal) := by
  have hg : g = 0 ∨ g = 1 := by omega
  rcases hg with rfl | rfl
  · exact (pend_k0 _ _ _ _ i d).trans (dk0_coe h _ d)
  · exact (pend_k1 _ _ _ _ i d).trans (dk1_coe h _ d)
/-- … and values. -/
theorem pend_val (g : Fin 2) (i : Fin 128) (d : Fin 64) : a.pend (ix2 i (vcol g d)) = (T.dv g (before i) d : EReal) := by
  have hg : g = 0 ∨ g = 1 := by omega
  rcases hg with rfl | rfl
  · exact (pend_v0 _ _ _ _ i d).trans (dv0_coe h _ d)
  · exact (pend_v1 _ _ _ _ i d).trans (dv1_coe h _ d)

/-- The tile's part of the sinks' gradient: a head's in its lane … -/
theorem dsk_coe (g : Fin 2) (b : Fin 4) : a.dsk (ix2 0 (lane g b)) = (T.dsink g b : EReal) := by
  have hg : g = 0 ∨ g = 1 := by omega
  unfold In.dsk Tile.dsink
  rw [← coe_sum]
  rcases hg with rfl | rfl
  · refine (sk_apply0 a.sk0 a.es1 a.rr1 a.g1 b _ (by simp [lane])).trans (Finset.sum_congr rfl fun i _ => ?_)
    refine (group_dsink (B := fun R => T.M (pos R)) h.bias (k0_coe h) (v0_coe h) (q0_coe h) (s0_coe h) (f0_coe h)
      (fun R => h.M (pos R)) (srow b i)).trans ?_
    rw [hd_srow, pos_srow]; rfl
  · refine (sk_apply1 a.sk0 a.es1 a.rr1 a.g1 b _ (by simp [lane])).trans (Finset.sum_congr rfl fun i _ => ?_)
    rw [sk1_eq, g1_eq, o1_eq, es1_eq, rr1_eq, e1_eq]
    refine (group_dsink (B := fun R => T.M (pos R)) h.bias (k1_coe h) (v1_coe h) (q1_coe h) (s1_coe h) (f1_coe h)
      (fun R => h.M (pos R)) (srow b i)).trans ?_
    rw [hd_srow, pos_srow]; rfl

omit h in
/-- … and zero in the lanes that no head has. -/
theorem dsk_zero (a : In Ideal) (l : Fin 128) (hl : 8 ≤ l.val) : a.dsk (ix2 0 l) = 0 := by
  unfold In.dsk
  exact sk_apply2 a.sk0 a.es1 a.rr1 a.g1 l hl

end Cert.KernelIdeal.Unit

end
-- ==== Proof.KernRead.lean ====
/-
  What a grid point loads, as entries of the arrays: point `t` works on chunk `15 - t % 16` of sequence `t / 16`.
-/
module

public import proofs.«01_k».proof.Proof.Data
public import proofs.«01_k».proof.Proof.AttnSeq
public import proofs.«01_k».proof.Proof.KernMask
public import proofs.«01_k».proof.Proof.KernAsm

@[expose] public section

set_option maxRecDepth 16384

noncomputable section

namespace Cert.Attn

open Idealize.ShloMosaic Idealize.ShloMosaic.TcCoe
open Cert.KernelIdeal Cert.KernelIdeal.Gen

/-- A point's sequence … -/
def seqOf (t : Fin cfg0.N) : Fin 2 := ⟨t.val / 16, by have := lt_of_lt_of_eq t.isLt (show cfg0.N = 32 from N_0); omega⟩
/-- … and its chunk. -/
def chunkOf (t : Fin cfg0.N) : Fin 16 := ⟨15 - t.val % 16, by omega⟩

theorem index0 : ∀ t : Fin cfg0.N, win0_0.index t = ![16 * (seqOf t).val + (chunkOf t).val, 0] :=
  (by decide +kernel : ∀ t : Fin grid0.N, win0_0.index t = ![16 * (t.val / 16) + (15 - t.val % 16), 0])
theorem index1 : ∀ t : Fin cfg0.N, win0_1.index t = ![16 * (seqOf t).val + (chunkOf t).val, 0] :=
  (by decide +kernel : ∀ t : Fin grid0.N, win0_1.index t = ![16 * (t.val / 16) + (15 - t.val % 16), 0])
theorem index3 : ∀ t : Fin cfg0.N, win0_3.index t = ![16 * (seqOf t).val + (chunkOf t).val - 1, 20] :=
  (by decide +kernel : ∀ t : Fin grid0.N, win0_3.index t = ![16 * (t.val / 16) + (15 - t.val % 16) - 1, 20])
theorem index7 : ∀ t : Fin cfg0.N, win0_7.index t = ![0, 0] :=
  (by decide +kernel : ∀ t : Fin grid0.N, win0_7.index t = ![0, 0])
theorem index14 : ∀ t : Fin cfg0.N, win0_14.index t = ![0, 0] :=
  (by decide +kernel : ∀ t : Fin grid0.N, win0_14.index t = ![0, 0])
theorem index19 : ∀ t : Fin cfg0.N, win0_19.index t = ![16 * (seqOf t).val + (chunkOf t).val, 0] :=
  (by decide +kernel : ∀ t : Fin grid0.N, win0_19.index t = ![16 * (t.val / 16) + (15 - t.val % 16), 0])

variable {F : FTy → Type} [FloatOps F] (m : (ℓ : Loc nD τ Cert.KernelIdeal.sig) → Buf (Elt F) ℓ)

/-- A block of the gradient at the layer's output. -/
theorem read0 (c : Dev nD) (t : Fin cfg0.N) (i : Fin 128) (k : Fin 1024) :
    iblk m c 0 t (ix2 i k) = m ((c : Thread nD τ).loc main_arg0) (ix2 (row (seqOf t) (chunkOf t) i) k) := by
  refine congrArg (m ((c : Thread nD τ).loc main_arg0)) ?_
  show (win0_0.rect t).emb (ix2 i k) = _
  refine funext fun a => Fin.ext ?_
  rw [Pipeline.Window.rect_emb_val win0_0 t _ a rfl, index0]
  fin_cases a
  · show (16 * (seqOf t).val + (chunkOf t).val) * 128 + i.val = 2048 * (seqOf t).val + 128 * (chunkOf t).val + i.val
    omega
  · show 0 * 1024 + k.val = k.val
    omega

/-- A block of the projected inputs. -/
theorem read1 (c : Dev nD) (t : Fin cfg0.N) (i : Fin 128) (k : Fin 5632) :
    iblk m c 1 t (ix2 i k) = m ((c : Thread nD τ).loc main_arg1) (ix2 (row (seqOf t) (chunkOf t) i) k) := by
  refine congrArg (m ((c : Thread nD τ).loc main_arg1)) ?_
  show (win0_1.rect t).emb (ix2 i k) = _
  refine funext fun a => Fin.ext ?_
  rw [Pipeline.Window.rect_emb_val win0_1 t _ a rfl, index1]
  fin_cases a
  · show (16 * (seqOf t).val + (chunkOf t).val) * 128 + i.val = 2048 * (seqOf t).val + 128 * (chunkOf t).val + i.val
    omega
  · show 0 * 5632 + k.val = k.val
    omega

/-- The block of the chunk before's keys and values. -/
theorem read3 (c : Dev nD) (t : Fin cfg0.N) (i : Fin 128) (k : Fin 256) :
    iblk m c 3 t (ix2 i k) = m ((c : Thread nD τ).loc main_arg1) (ix2 (prow (seqOf t) (chunkOf t) i) ⟨5120 + k.val, by omega⟩) := by
  refine congrArg (m ((c : Thread nD τ).loc main_arg1)) ?_
  show (win0_3.rect t).emb (ix2 i k) = _
  refine funext fun a => Fin.ext ?_
  rw [Pipeline.Window.rect_emb_val win0_3 t _ a rfl, index3]
  fin_cases a
  · show (16 * (seqOf t).val + (chunkOf t).val - 1) * 128 + i.val = 128 * (16 * (seqOf t).val + (chunkOf t).val - 1) + i.val
    omega
  · show 20 * 256 + k.val = 5120 + k.val
    omega

/-- The output weight, whole. -/
theorem read7 (c : Dev nD) (t : Fin cfg0.N) (i : Fin 2048) (k : Fin 1024) :
    iblk m c 7 t (ix2 i k) = m ((c : Thread nD τ).loc main_arg4) (ix2 i k) := by
  refine congrArg (m ((c : Thread nD τ).loc main_arg4)) ?_
  show (win0_7.rect t).emb (ix2 i k) = _
  refine funext fun a => Fin.ext ?_
  rw [Pipeline.Window.rect_emb_val win0_7 t _ a rfl, index7]
  fin_cases a
  · show 0 * 2048 + i.val = i.val
    omega
  · show 0 * 1024 + k.val = k.val
    omega

/-- The sinks, whole. -/
theorem read14 (c : Dev nD) (t : Fin cfg0.N) (i : Fin 1) (k : Fin 128) :
    iblk m c 14 t (ix2 i k) = m ((c : Thread nD τ).loc main_arg11) (ix2 i k) := by
  refine congrArg (m ((c : Thread nD τ).loc main_arg11)) ?_
  show (win0_14.rect t).emb (ix2 i k) = _
  refine funext fun a => Fin.ext ?_
  rw [Pipeline.Window.rect_emb_val win0_14 t _ a rfl, index14]
  fin_cases a
  · show 0 * 1 + i.val = i.val
    omega
  · show 0 * 128 + k.val = k.val
    omega

/-- A box of a block, read entry by entry. -/
theorem ld_apply {a b p q o o' : ℕ} {e : EltTy} (X : (⟨2, ![a, b]⟩ : Shape).Idx → Elt F e)
    (inb : ∀ d, (![o, o'] : Fin 2 → ℕ) d + (⟨2, ![p, q]⟩ : Shape).size d ≤ (⟨2, ![a, b]⟩ : Shape).size d) (i : Fin p) (k : Fin q) :
    View.ld X (Rect.unit (s := ⟨2, ![a, b]⟩) ![o, o'] (⟨2, ![p, q]⟩ : Shape).size inb) (ix2 i k)
      = X (ix2 ⟨o + i.val, Nat.lt_of_lt_of_le (Nat.add_lt_add_left i.isLt o) (inb 0)⟩
          ⟨o' + k.val, Nat.lt_of_lt_of_le (Nat.add_lt_add_left k.isLt o') (inb 1)⟩) := by
  refine congrArg X (funext fun d => Fin.ext ?_)
  fin_cases d
  · show o + 1 * i.val = o + i.val
    omega
  · show o' + 1 * k.val = o' + k.val
    omega

/-- Everything that the attention part reads of the memory is real, and is the layer `L`. -/
structure Holds (m : (ℓ : Loc nD τ Cert.KernelIdeal.sig) → Buf (Elt Ideal) ℓ) (c : Dev nD) (L : Layer) : Prop where
  D : ∀ r k, m ((c : Thread nD τ).loc main_arg0) (ix2 r k) = (L.D r k : EReal)
  P : ∀ r k, m ((c : Thread nD τ).loc main_arg1) (ix2 r k) = (L.P r k : EReal)
  W : ∀ r k, m ((c : Thread nD τ).loc main_arg4) (ix2 r k) = (L.W r k : EReal)
  S : ∀ k, m ((c : Thread nD τ).loc main_arg11) (ix2 0 k) = (L.S k : EReal)

/-- The first chunk of a sequence is the one that the kernel takes for it. -/
theorem isFirst_chunk : ∀ t : Fin cfg0.N, Cert.KernelIdeal.Unit.isFirst (grid0.coords t) = decide ((chunkOf t).val = 0) :=
  (by decide +kernel : ∀ t : Fin grid0.N, decide ((grid0.coords t 1).val = 15) = decide (15 - t.val % 16 = 0))

/-- So what a point loads is its chunk's tile. -/
theorem loads {m : (ℓ : Loc nD τ Cert.KernelIdeal.sig) → Buf (Elt Ideal) ℓ} {c : Dev nD} {L : Layer} (h : Holds m c L) (t : Fin cfg0.N) :
    Cert.KernelIdeal.Unit.Loads (tileAt m c t) (L.tile (seqOf t) (chunkOf t)) where
  sk l := by
    refine (ld_apply (F := Ideal) (e := .f32) (iblk m c 14 t) inb_S1x128_S1x128_0_0 0 l).trans ((read14 m c t _ _).trans ?_)
    exact (congrArg _ (congrArg₂ ix2 (Fin.ext (Nat.zero_add _)) (Fin.ext (Nat.zero_add _)))).trans (h.S l)
  nf := by
    refine (Cert.KernelIdeal.Unit.nf_apply (grid0.coords t)).trans ?_
    rw [isFirst_chunk]
    by_cases h0 : (chunkOf t).val = 0 <;> simp [Layer.tile, h0]
  bias R κ := by
    refine (Cert.KernelIdeal.Unit.bias_apply (grid0.coords t) R κ).trans ?_
    rw [isFirst_chunk]
    rfl
  ct i c' := by
    refine (Finset.sum_congr rfl fun x _ => (congrArg₂ (fun u v : EReal => u * v)
      ((ld_apply (F := Ideal) (e := .f32) (iblk m c 0 t) inb_S128x1024_S128x1024_0_0 i x).trans ((read0 m c t _ _).trans (h.D _ _)))
      ((ld_apply (F := Ideal) (e := .bf16) (iblk m c 7 t) inb_S2048x1024_S512x1024_1024_0 c' x).trans ((read7 m c t _ _).trans (h.W _ _)))).trans ?_).trans
      (coe_sum _ (fun x => L.D (row (seqOf t) (chunkOf t) i) x * L.W ⟨1024 + c'.val, by omega⟩ x))
    refine (EReal.coe_mul _ _).symm.trans (congrArg _ (congrArg₂ _ ?_ ?_))
    · exact congrArg₂ _ (congrArg _ (Fin.ext (Nat.zero_add _))) (Fin.ext (Nat.zero_add _))
    · exact congrArg₂ _ rfl (Fin.ext (Nat.zero_add _))
  z i c' := by
    refine (ld_apply (F := Ideal) (e := .f32) (iblk m c 1 t) inb_S128x5632_S128x512_0_1024 i c').trans ((read1 m c t _ _).trans ((h.P _ _).trans ?_))
    exact congrArg _ (congrArg₂ _ (congrArg _ (Fin.ext (Nat.zero_add _))) rfl)
  q i c' := by
    refine (ld_apply (F := Ideal) (e := .f32) (iblk m c 1 t) inb_S128x5632_S128x512_0_4608 i c').trans ((read1 m c t _ _).trans ((h.P _ _).trans ?_))
    exact congrArg _ (congrArg₂ _ (congrArg _ (Fin.ext (Nat.zero_add _))) rfl)
  cur i c' := by
    refine (ld_apply (F := Ideal) (e := .f32) (iblk m c 1 t) inb_S128x5632_S128x256_0_5120 i c').trans ((read1 m c t _ _).trans ((h.P _ _).trans ?_))
    exact congrArg _ (congrArg₂ _ (congrArg _ (Fin.ext (Nat.zero_add _))) rfl)
  prev i c' := by
    refine (ld_apply (F := Ideal) (e := .f32) (iblk m c 3 t) inb_S128x256_S128x256_0_0 i c').trans ((read3 m c t _ _).trans ((h.P _ _).trans ?_))
    exact congrArg _ (congrArg₂ _ (congrArg _ (Fin.ext (Nat.zero_add _))) (Fin.ext (congrArg (5120 + ·) (Nat.zero_add _))))
  M i := band_self _ i

end Cert.Attn

end
-- ==== Proof.KernOut.lean ====
/-
  What the kernel's launch leaves in its two claimed results, over the real numbers: the attention columns of the gradient of the projected
  inputs and the gradient of the sinks.
-/
module

public import proofs.«01_k».proof.Proof.KernRead
public import proofs.«01_k».proof.Proof.Launch
public import Idealize.ShloMosaic.Lib.Pipeline.ArrRel
public import Idealize.ShloMosaic.Lib.Pipeline.ValueKit.Geometry

@[expose] public section

set_option maxRecDepth 16384

noncomputable section

namespace Cert.Attn

open Idealize.ShloMosaic Idealize.ShloMosaic.TcCoe
open Cert.KernelIdeal Cert.KernelIdeal.Gen

section arrays

variable {F : FTy → Type} [FloatOps F] {m : (ℓ : Loc nD τ Cert.KernelIdeal.sig) → Buf (Elt F) ℓ}

theorem flush19 : ∀ t : Fin cfg0.N, (cfg0.win 19).flush t = true :=
  (by decide +kernel : ∀ t : Fin grid0.N, win0_19.flush t = true)

theorem inj19 : ∀ t t' : Fin cfg0.N, win0_19.index t = win0_19.index t' → t = t' :=
  (by decide +kernel : ∀ t t' : Fin grid0.N, win0_19.index t = win0_19.index t' → t = t')

/-- The last point. -/
def lastPt : Fin cfg0.N := ⟨31, lt_of_lt_of_eq (by decide) (show cfg0.N = 32 from N_0).symm⟩

theorem whole27 : (cfg0.win 27).WholeAt lastPt := by decide +kernel

/-- Every block of the first result is what its point left. -/
theorem block19 {r : PUnit × MemSt nD τ Cert.KernelIdeal.sig (Elt F)} (h : Pipeline.RDat.FramePost (cfgs 0) (rdat m) (V m) r) (c : Dev nD) (t : Fin cfg0.N) :
    ∃ X : Vec F S128x5632 .bf16, Cols (tileAt m c t) (pendAt m c t) X
      ∧ ∀ (i : Fin 128) (k : Fin 5632), r.2.mem ((c : Thread nD τ).loc main_v0_0) (ix2 (row (seqOf t) (chunkOf t) i) k) = X (ix2 i k) := by
  obtain ⟨after, hL, hA⟩ := Pipeline.RDat.FramePost.exists_exact h c
  obtain ⟨Y, -, hY⟩ := hL (19 : Fin 32) t (flush19 t)
  refine ⟨after (19 : Fin 32) t, hY, fun i k => ?_⟩
  have e := ((rdat m c).withAfter after).arrAt_emb_eq_flushed (19 : Fin 32)
    (fun t t' _ _ hne => (cfg0.win 19).disjoint_blk fun h => hne (inj19 t t' h)) t (flush19 t) (ix2 i k)
  have hemb : ((cfg0.win 19).blk t).view.emb (ix2 i k) = ix2 (row (seqOf t) (chunkOf t) i) k := by
    show (win0_19.rect t).emb (ix2 i k) = _
    refine funext fun a => Fin.ext ?_
    rw [Pipeline.Window.rect_emb_val win0_19 t _ a rfl, index19]
    fin_cases a
    · show (16 * (seqOf t).val + (chunkOf t).val) * 128 + i.val = 2048 * (seqOf t).val + 128 * (chunkOf t).val + i.val
      omega
    · show 0 * 5632 + k.val = k.val
      omega
  have hm := hA (19 : Fin 32)
  rw [hemb] at e
  exact (congrFun hm _).trans e

/-- The gradient of the sinks is the sum that the last point left. -/
theorem block27 {r : PUnit × MemSt nD τ Cert.KernelIdeal.sig (Elt F)} (h : Pipeline.RDat.FramePost (cfgs 0) (rdat m) (V m) r) (c : Dev nD) (l : Fin 128) :
    r.2.mem ((c : Thread nD τ).loc main_v0_8) (ix2 0 l) = accAt m c lastPt.val lastPt.isLt (ix2 0 l) := by
  obtain ⟨X, ⟨Y, -, hX⟩, hG⟩ := Pipeline.RDat.ArrAt.emb_eq_of_wholeAt ((h c).1 (27 : Fin 32)) whole27
  have hX' : X = accAt m c lastPt.val lastPt.isLt := hX
  rw [← hX']
  exact hG (ix2 0 l)

end arrays

/-- The point of a sequence's chunk. -/
def pt (b : Fin 2) (n : Fin 16) : Fin cfg0.N :=
  ⟨16 * b.val + (15 - n.val), lt_of_lt_of_eq (show 16 * b.val + (15 - n.val) < 32 by omega) (show cfg0.N = 32 from N_0).symm⟩

theorem seqOf_pt (b : Fin 2) (n : Fin 16) : seqOf (pt b n) = b := by ext; simp only [seqOf, pt]; omega
theorem chunkOf_pt (b : Fin 2) (n : Fin 16) : chunkOf (pt b n) = n := by ext; simp only [chunkOf, pt]; omega

/-- Sums over sequences and chunks are sums over the points. -/
theorem sum_pts (f : Fin cfg0.N → ℝ) : ∑ b, ∑ n, f (pt b n) = ∑ t, f t := by
  rw [← Fintype.sum_prod_type' (fun b n => f (pt b n))]
  refine Fintype.sum_equiv (Equiv.mk (fun p => pt p.1 p.2) (fun t => (seqOf t, chunkOf t)) (fun p => ?_) (fun t => ?_)) _ _ fun p => rfl
  · exact Prod.ext (seqOf_pt _ _) (chunkOf_pt _ _)
  · have := lt_of_lt_of_eq t.isLt (show cfg0.N = 32 from N_0)
    ext; simp only [seqOf, chunkOf, pt]; omega

variable {m : (ℓ : Loc nD τ Cert.KernelIdeal.sig) → Buf (Elt Ideal) ℓ} {c : Dev nD} {L : Layer}

theorem pay372_apply (u p : Vec Ideal S128x256 .f32) (i : Fin 128) (k : Fin 256) : k0_pay372 u p (ix2 i k) = u (ix2 i k) + p (ix2 i k) := by
  unfold k0_pay372; pointwise []
theorem pay374_apply (u p : Vec Ideal S1x128 .f32) (l : Fin 128) : k0_pay374 u p (ix2 0 l) = p (ix2 0 l) + u (ix2 0 l) := by
  unfold k0_pay374; pointwise []
theorem pay20_apply (i : Fin 128) (k : Fin 256) : k0_pay20 (F := Ideal) (ix2 i k) = 0 := by
  unfold k0_pay20; pointwise []
theorem pay8_apply (l : Fin 128) : k0_pay8 (F := Ideal) (ix2 0 l) = 0 := by
  unfold k0_pay8; pointwise []

/-- What the point of chunk `n` finds left over: nothing in the last chunk, else what chunk `n + 1` gave. -/
theorem pend_apply (b : Fin 2) (n : Fin 16) (i : Fin 128) (k : Fin 256) :
    pendAt m c (pt b n) (ix2 i k) = if h : n.val + 1 < 16 then (tileAt m c (pt b ⟨n.val + 1, h⟩)).pend (ix2 i k) else 0 := by
  by_cases h : n.val + 1 < 16
  · rw [dif_pos h, pendAt_pos m c (pt b n) (by simp only [pt]; omega)]
    refine congrArg (fun t => (tileAt m c t).pend (ix2 i k)) (Fin.ext ?_)
    simp only [pt]; omega
  · rw [dif_neg h, pendAt_zero m c (pt b n) (by simp only [pt]; omega), pay20_apply]

/-- The tile of a chunk's point. -/
theorem loads_pt (h : Holds m c L) (b : Fin 2) (n : Fin 16) : Cert.KernelIdeal.Unit.Loads (tileAt m c (pt b n)) (L.tile b n) := by
  have := loads h (pt b n)
  rwa [seqOf_pt, chunkOf_pt] at this

/-- The sum of the sinks' gradient over the points up to `n`, at a head's lane … -/
theorem acc_lane (h : Holds m c L) (g : Fin 2) (a : Fin 4) : ∀ (n : ℕ) (hn : n < cfg0.N),
    accAt m c n hn (ix2 0 (lane g a))
      = ((∑ t : Fin (n + 1), (L.tile (seqOf ⟨t.val, by omega⟩) (chunkOf ⟨t.val, by omega⟩)).dsink g a : ℝ) : EReal)
  | 0, hn => by
    show k0_pay374 _ _ _ = _
    rw [pay374_apply, pay8_apply, Cert.KernelIdeal.Unit.dsk_coe (loads h ⟨0, hn⟩), zero_add, Fin.sum_univ_one]
    rfl
  | n + 1, hn => by
    show k0_pay374 _ _ _ = _
    rw [pay374_apply, acc_lane h g a n, Cert.KernelIdeal.Unit.dsk_coe (loads h ⟨n + 1, hn⟩), ← EReal.coe_add, Fin.sum_univ_castSucc (n := n + 1)]
    rfl

/-- … and at every other lane. -/
theorem acc_rest (h : Holds m c L) (l : Fin 128) (hl : 8 ≤ l.val) : ∀ (n : ℕ) (hn : n < cfg0.N), accAt m c n hn (ix2 0 l) = 0
  | 0, hn => by
    show k0_pay374 _ _ _ = _
    rw [pay374_apply, pay8_apply, Cert.KernelIdeal.Unit.dsk_zero _ l hl, zero_add]
  | n + 1, hn => by
    show k0_pay374 _ _ _ = _
    rw [pay374_apply, acc_rest h l hl n, Cert.KernelIdeal.Unit.dsk_zero _ l hl, zero_add]

/-- After the launch the two results are the layer's gradients. -/
theorem grads {r : PUnit × MemSt nD τ Cert.KernelIdeal.sig (Elt Ideal)} (hp : Pipeline.RDat.FramePost (cfgs 0) (rdat m) (V m) r) (h : Holds m c L) :
    Grads L (fun R k => r.2.mem ((c : Thread nD τ).loc main_v0_0) (ix2 R k)) (fun l => r.2.mem ((c : Thread nD τ).loc main_v0_8) (ix2 0 l)) where
  dz b n i g a d := by
    obtain ⟨X, hX, hr⟩ := block19 hp c (pt b n)
    rw [seqOf_pt, chunkOf_pt] at hr
    exact (hr i _).trans ((hX.dz i _).trans (Cert.KernelIdeal.Unit.dz_coe (loads_pt h b n) g a i d))
  dq b n i g a d := by
    obtain ⟨X, hX, hr⟩ := block19 hp c (pt b n)
    rw [seqOf_pt, chunkOf_pt] at hr
    exact (hr i _).trans ((hX.dq i _).trans (Cert.KernelIdeal.Unit.dq_coe (loads_pt h b n) g a i d))
  dk b n i g d := by
    obtain ⟨X, hX, hr⟩ := block19 hp c (pt b n)
    rw [seqOf_pt, chunkOf_pt] at hr
    refine (hr i _).trans ((hX.dkv i _).trans ((pay372_apply _ _ i (kcol g d)).trans ?_))
    rw [pend_apply, Cert.KernelIdeal.Unit.dcur_key (loads_pt h b n)]
    unfold Layer.dk
    by_cases hn : n.val + 1 < 16
    · rw [dif_pos hn, dif_pos hn, Cert.KernelIdeal.Unit.pend_key (loads_pt h b ⟨n.val + 1, hn⟩), EReal.coe_add]; rfl
    · rw [dif_neg hn, dif_neg hn, add_zero, add_zero]; rfl
  dv b n i g d := by
    obtain ⟨X, hX, hr⟩ := block19 hp c (pt b n)
    rw [seqOf_pt, chunkOf_pt] at hr
    refine (hr i _).trans ((hX.dkv i _).trans ((pay372_apply _ _ i (vcol g d)).trans ?_))
    rw [pend_apply, Cert.KernelIdeal.Unit.dcur_val (loads_pt h b n)]
    unfold Layer.dv
    by_cases hn : n.val + 1 < 16
    · rw [dif_pos hn, dif_pos hn, Cert.KernelIdeal.Unit.pend_val (loads_pt h b ⟨n.val + 1, hn⟩), EReal.coe_add]; rfl
    · rw [dif_neg hn, dif_neg hn, add_zero, add_zero]; rfl
  dsink g a := by
    refine (block27 hp c _).trans ((acc_lane h g a _ _).trans (congrArg _ ?_))
    unfold Layer.dsink
    have e : ∀ b n, (L.tile b n).dsink g a = (fun t => (L.tile (seqOf t) (chunkOf t)).dsink g a) (pt b n) := fun b n => by
      show _ = (L.tile (seqOf (pt b n)) (chunkOf (pt b n))).dsink g a
      rw [seqOf_pt, chunkOf_pt]
    rw [Finset.sum_congr rfl fun b _ => Finset.sum_congr rfl fun n _ => e b n, sum_pts (fun t => (L.tile (seqOf t) (chunkOf t)).dsink g a)]
    exact Fintype.sum_equiv (finCongr (show lastPt.val + 1 = cfg0.N from (show cfg0.N = 32 from N_0).symm)) _ _ fun t => rfl
  rest l hl := (block27 hp c l).trans (acc_rest h l hl _ _)

end Cert.Attn

end
-- ==== Proof.RefDefs.lean ====
/-
  What the line of the reference leaves in each buffer that its results depend on, by name.
-/
module

public import proofs.«01_k».proof.Proof.RefLine
public import Idealize.ShloMosaic.Lib.StableHlo.RunRead
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- A buffer's number. -/
def key (r : Ref sig .tc) : ℕ := r.idx.val

set_option maxRecDepth 16384 in
/-- The line writes the buffers in the order of their numbers. -/
theorem keys : W.map key = List.range' 16 225 := rfl

/-- So a buffer whose number is below 16 + i is not written from operation i on. -/
theorem fresh {x : Ref sig .tc} {i : ℕ} (h : key x < 16 + i) : x ∉ W.drop i := fun hx => by
  have := List.mem_map_of_mem (f := key) hx
  rw [List.map_drop, keys, List.drop_range', List.mem_range'_1] at this
  omega

variable (V : Valuation τ sig (Elt F))

/-- What the line leaves in `main_arg0`. -/
def arg0 : (⟨S4096x1024, .f32⟩ : BufTy).Contents (Elt F) := res V main_arg0

/-- What the line leaves in `main_arg1`. -/
def arg1 : (⟨S4096x5632, .f32⟩ : BufTy).Contents (Elt F) := res V main_arg1

/-- What the line leaves in `main_arg4`. -/
def arg4 : (⟨S2048x1024, .bf16⟩ : BufTy).Contents (Elt F) := res V main_arg4

/-- What the line leaves in `main_arg11`. -/
def arg11 : (⟨S1x128, .f32⟩ : BufTy).Contents (Elt F) := res V main_arg11

/-- What the line leaves in `main_v0`. -/
def v0 : (⟨S512x1024, .bf16⟩ : BufTy).Contents (Elt F) := res V main_v0

/-- What the line leaves in `main_v1`. -/
def v1 : (⟨S512x1024, .f32⟩ : BufTy).Contents (Elt F) := res V main_v1

/-- What the line leaves in `main_v2`. -/
def v2 : (⟨S4096x512, .f32⟩ : BufTy).Contents (Elt F) := res V main_v2

/-- What the line leaves in `main_v3`. -/
def v3 : (⟨S4096x512, .f32⟩ : BufTy).Contents (Elt F) := res V main_v3

/-- What the line leaves in `main_v4`. -/
def v4 : (⟨S4096x128, .f32⟩ : BufTy).Contents (Elt F) := res V main_v4

/-- What the line leaves in `main_v5`. -/
def v5 : (⟨S4096x128, .f32⟩ : BufTy).Contents (Elt F) := res V main_v5

/-- What the line leaves in `main_v6`. -/
def v6 : (⟨S1x8, .f32⟩ : BufTy).Contents (Elt F) := res V main_v6

/-- What the line leaves in `main_v7`. -/
def v7 : (⟨S8, .f32⟩ : BufTy).Contents (Elt F) := res V main_v7

/-- What the line leaves in `main_v8`. -/
def v8 : (⟨S2x16x128x2x4x64, .f32⟩ : BufTy).Contents (Elt F) := res V main_v8

/-- What the line leaves in `main_v9`. -/
def v9 : (⟨S2x16x128x2x64, .f32⟩ : BufTy).Contents (Elt F) := res V main_v9

/-- What the line leaves in `main_v10`. -/
def v10 : (⟨S2x16x128x2x64, .f32⟩ : BufTy).Contents (Elt F) := res V main_v10

/-- What the line leaves in `main_cst`. -/
def cst : (⟨S_, .f32⟩ : BufTy).Contents (Elt F) := res V main_cst

/-- What the line leaves in `main_v11`. -/
def v11 : (⟨S2x1x128x2x64, .f32⟩ : BufTy).Contents (Elt F) := res V main_v11

/-- What the line leaves in `main_v12`. -/
def v12 : (⟨S2x15x128x2x64, .f32⟩ : BufTy).Contents (Elt F) := res V main_v12

/-- What the line leaves in `main_v13`. -/
def v13 : (⟨S2x16x128x2x64, .f32⟩ : BufTy).Contents (Elt F) := res V main_v13

/-- What the line leaves in `main_v15`. -/
def v15 : (⟨S2x16x256x2x64, .f32⟩ : BufTy).Contents (Elt F) := res V main_v15

/-- What the line leaves in `main_v16`. -/
def v16 : (⟨S2x15x128x2x64, .f32⟩ : BufTy).Contents (Elt F) := res V main_v16

/-- What the line leaves in `main_v17`. -/
def v17 : (⟨S2x16x128x2x64, .f32⟩ : BufTy).Contents (Elt F) := res V main_v17

/-- What the line leaves in `main_v19`. -/
def v19 : (⟨S2x16x256x2x64, .f32⟩ : BufTy).Contents (Elt F) := res V main_v19

/-- What the line leaves in `main_v20`. -/
def v20 : (⟨S2x16x2x256x128x4, .f32⟩ : BufTy).Contents (Elt F) := res V main_v20

/-- What the line leaves in `main_v21`. -/
def v21 : (⟨S2x16x2x4x128x256, .f32⟩ : BufTy).Contents (Elt F) := res V main_v21

/-- What the line leaves in `main_cst_2`. -/
def cst_2 : (⟨S_, .f32⟩ : BufTy).Contents (Elt F) := res V main_cst_2

/-- What the line leaves in `main_v22`. -/
def v22 : (⟨S2x16x2x4x128x256, .f32⟩ : BufTy).Contents (Elt F) := res V main_v22

/-- What the line leaves in `main_v23`. -/
def v23 : (⟨S2x16x2x4x128x256, .f32⟩ : BufTy).Contents (Elt F) := res V main_v23

/-- What the line leaves in `main_v24`. -/
def v24 : (⟨S128, .i32⟩ : BufTy).Contents (Elt F) := res V main_v24

/-- What the line leaves in `main_v25`. -/
def v25 : (⟨S128x1, .i32⟩ : BufTy).Contents (Elt F) := res V main_v25

/-- What the line leaves in `main_v26`. -/
def v26 : (⟨S256, .i32⟩ : BufTy).Contents (Elt F) := res V main_v26

/-- What the line leaves in `main_v27`. -/
def v27 : (⟨S1x256, .i32⟩ : BufTy).Contents (Elt F) := res V main_v27

/-- What the line leaves in `main_c`. -/
def c : (⟨S_, .i32⟩ : BufTy).Contents (Elt F) := res V main_c

/-- What the line leaves in `main_v28`. -/
def v28 : (⟨S1x256, .i32⟩ : BufTy).Contents (Elt F) := res V main_v28

/-- What the line leaves in `main_v29`. -/
def v29 : (⟨S1x256, .i32⟩ : BufTy).Contents (Elt F) := res V main_v29

/-- What the line leaves in `main_v30`. -/
def v30 : (⟨S128x256, .i32⟩ : BufTy).Contents (Elt F) := res V main_v30

/-- What the line leaves in `main_v31`. -/
def v31 : (⟨S128x256, .i32⟩ : BufTy).Contents (Elt F) := res V main_v31

/-- What the line leaves in `main_v32`. -/
def v32 : (⟨S128x256, .i32⟩ : BufTy).Contents (Elt F) := res V main_v32

/-- What the line leaves in `main_c_3`. -/
def c_3 : (⟨S_, .i32⟩ : BufTy).Contents (Elt F) := res V main_c_3

/-- What the line leaves in `main_v33`. -/
def v33 : (⟨S128x256, .i32⟩ : BufTy).Contents (Elt F) := res V main_v33

/-- What the line leaves in `main_v34`. -/
def v34 : (⟨S128x256, .i1⟩ : BufTy).Contents (Elt F) := res V main_v34

/-- What the line leaves in `main_c_4`. -/
def c_4 : (⟨S_, .i32⟩ : BufTy).Contents (Elt F) := res V main_c_4

/-- What the line leaves in `main_v35`. -/
def v35 : (⟨S128x256, .i32⟩ : BufTy).Contents (Elt F) := res V main_v35

/-- What the line leaves in `main_v36`. -/
def v36 : (⟨S128x256, .i1⟩ : BufTy).Contents (Elt F) := res V main_v36

/-- What the line leaves in `main_v37`. -/
def v37 : (⟨S128x256, .i1⟩ : BufTy).Contents (Elt F) := res V main_v37

/-- What the line leaves in `main_v38`. -/
def v38 : (⟨S1x128x256, .i1⟩ : BufTy).Contents (Elt F) := res V main_v38

/-- What the line leaves in `main_v39`. -/
def v39 : (⟨S16, .i32⟩ : BufTy).Contents (Elt F) := res V main_v39

/-- What the line leaves in `main_v40`. -/
def v40 : (⟨S16x1x1, .i32⟩ : BufTy).Contents (Elt F) := res V main_v40

/-- What the line leaves in `main_c_5`. -/
def c_5 : (⟨S_, .i32⟩ : BufTy).Contents (Elt F) := res V main_c_5

/-- What the line leaves in `main_v41`. -/
def v41 : (⟨S16x1x1, .i32⟩ : BufTy).Contents (Elt F) := res V main_v41

/-- What the line leaves in `main_v42`. -/
def v42 : (⟨S16x1x1, .i1⟩ : BufTy).Contents (Elt F) := res V main_v42

/-- What the line leaves in `main_v43`. -/
def v43 : (⟨S1x1x256, .i32⟩ : BufTy).Contents (Elt F) := res V main_v43

/-- What the line leaves in `main_c_6`. -/
def c_6 : (⟨S_, .i32⟩ : BufTy).Contents (Elt F) := res V main_c_6

/-- What the line leaves in `main_v44`. -/
def v44 : (⟨S1x1x256, .i32⟩ : BufTy).Contents (Elt F) := res V main_v44

/-- What the line leaves in `main_v45`. -/
def v45 : (⟨S1x1x256, .i1⟩ : BufTy).Contents (Elt F) := res V main_v45

/-- What the line leaves in `main_v46`. -/
def v46 : (⟨S16x1x256, .i1⟩ : BufTy).Contents (Elt F) := res V main_v46

/-- What the line leaves in `main_v47`. -/
def v47 : (⟨S16x1x256, .i1⟩ : BufTy).Contents (Elt F) := res V main_v47

/-- What the line leaves in `main_v48`. -/
def v48 : (⟨S16x1x256, .i1⟩ : BufTy).Contents (Elt F) := res V main_v48

/-- What the line leaves in `main_v49`. -/
def v49 : (⟨S16x128x256, .i1⟩ : BufTy).Contents (Elt F) := res V main_v49

/-- What the line leaves in `main_v50`. -/
def v50 : (⟨S16x128x256, .i1⟩ : BufTy).Contents (Elt F) := res V main_v50

/-- What the line leaves in `main_v51`. -/
def v51 : (⟨S16x128x256, .i1⟩ : BufTy).Contents (Elt F) := res V main_v51

/-- What the line leaves in `main_v52`. -/
def v52 : (⟨S1x16x1x1x128x256, .i1⟩ : BufTy).Contents (Elt F) := res V main_v52

/-- What the line leaves in `main_cst_7`. -/
def cst_7 : (⟨S_, .f32⟩ : BufTy).Contents (Elt F) := res V main_cst_7

/-- What the line leaves in `main_call0_v0`. -/
def call0_v0 : (⟨S_, .f32⟩ : BufTy).Contents (Elt F) := res V main_call0_v0

/-- What the line leaves in `main_v53_1`. -/
def v53_1 : (⟨S2x16x2x4x128x256, .i1⟩ : BufTy).Contents (Elt F) := res V main_v53_1

/-- What the line leaves in `main_call0_v2`. -/
def call0_v2 : (⟨S2x16x2x4x128x256, .f32⟩ : BufTy).Contents (Elt F) := res V main_call0_v2

/-- What the line leaves in `main_v53_0`. -/
def v53_0 : (⟨S2x16x2x4x128x256, .f32⟩ : BufTy).Contents (Elt F) := res V main_v53_0

/-- What the line leaves in `main_v54`. -/
def v54 : (⟨S2x4, .f32⟩ : BufTy).Contents (Elt F) := res V main_v54

/-- What the line leaves in `main_v55`. -/
def v55 : (⟨S1x1x2x4x1x1, .f32⟩ : BufTy).Contents (Elt F) := res V main_v55

/-- What the line leaves in `main_cst_8`. -/
def cst_8 : (⟨S_, .f32⟩ : BufTy).Contents (Elt F) := res V main_cst_8

/-- What the line leaves in `main_v56`. -/
def v56 : (⟨S2x16x2x4x128, .f32⟩ : BufTy).Contents (Elt F) := res V main_v56

/-- What the line leaves in `main_v62`. -/
def v62 : (⟨S2x16x2x4x128x1, .f32⟩ : BufTy).Contents (Elt F) := res V main_v62

/-- What the line leaves in `main_v63`. -/
def v63 : (⟨S2x16x2x4x128x256, .f32⟩ : BufTy).Contents (Elt F) := res V main_v63

/-- What the line leaves in `main_v64`. -/
def v64 : (⟨S2x16x2x4x128x256, .f32⟩ : BufTy).Contents (Elt F) := res V main_v64

/-- What the line leaves in `main_v65`. -/
def v65 : (⟨S2x16x2x4x128x256, .f32⟩ : BufTy).Contents (Elt F) := res V main_v65

/-- What the line leaves in `main_cst_10`. -/
def cst_10 : (⟨S_, .f32⟩ : BufTy).Contents (Elt F) := res V main_cst_10

/-- What the line leaves in `main_v66`. -/
def v66 : (⟨S2x16x2x4x128, .f32⟩ : BufTy).Contents (Elt F) := res V main_v66

/-- What the line leaves in `main_v67`. -/
def v67 : (⟨S2x16x2x4x128x1, .f32⟩ : BufTy).Contents (Elt F) := res V main_v67

/-- What the line leaves in `main_v68`. -/
def v68 : (⟨S2x16x2x4x128x1, .f32⟩ : BufTy).Contents (Elt F) := res V main_v68

/-- What the line leaves in `main_v69`. -/
def v69 : (⟨S2x16x2x4x128x1, .f32⟩ : BufTy).Contents (Elt F) := res V main_v69

/-- What the line leaves in `main_v70`. -/
def v70 : (⟨S2x16x2x4x128x1, .f32⟩ : BufTy).Contents (Elt F) := res V main_v70

/-- What the line leaves in `main_v71`. -/
def v71 : (⟨S2x16x2x4x128x1, .f32⟩ : BufTy).Contents (Elt F) := res V main_v71

/-- What the line leaves in `main_v72`. -/
def v72 : (⟨S2x16x2x4x128x1, .f32⟩ : BufTy).Contents (Elt F) := res V main_v72

/-- What the line leaves in `main_v73`. -/
def v73 : (⟨S2x16x2x4x128x1, .f32⟩ : BufTy).Contents (Elt F) := res V main_v73

/-- What the line leaves in `main_v74`. -/
def v74 : (⟨S2x16x2x4x128x1, .i1⟩ : BufTy).Contents (Elt F) := res V main_v74

/-- What the line leaves in `main_v75`. -/
def v75 : (⟨S2x16x2x4x128x1, .f32⟩ : BufTy).Contents (Elt F) := res V main_v75

/-- What the line leaves in `main_v76`. -/
def v76 : (⟨S2x16x2x4x128x1, .f32⟩ : BufTy).Contents (Elt F) := res V main_v76

/-- What the line leaves in `main_v77`. -/
def v77 : (⟨S2x16x2x4x128x1, .f32⟩ : BufTy).Contents (Elt F) := res V main_v77

/-- What the line leaves in `main_v78`. -/
def v78 : (⟨S2x16x2x4x128x1, .f32⟩ : BufTy).Contents (Elt F) := res V main_v78

/-- What the line leaves in `main_v79`. -/
def v79 : (⟨S2x16x2x4x128x1, .f32⟩ : BufTy).Contents (Elt F) := res V main_v79

/-- What the line leaves in `main_v80`. -/
def v80 : (⟨S2x16x2x4x128x1, .f32⟩ : BufTy).Contents (Elt F) := res V main_v80

/-- What the line leaves in `main_v81`. -/
def v81 : (⟨S2x16x2x4x128x1, .f32⟩ : BufTy).Contents (Elt F) := res V main_v81

/-- What the line leaves in `main_v82`. -/
def v82 : (⟨S2x16x2x4x128x1, .f32⟩ : BufTy).Contents (Elt F) := res V main_v82

/-- What the line leaves in `main_cst_11`. -/
def cst_11 : (⟨S_, .f32⟩ : BufTy).Contents (Elt F) := res V main_cst_11

/-- What the line leaves in `main_v83`. -/
def v83 : (⟨S2x16x2x4x128x1, .f32⟩ : BufTy).Contents (Elt F) := res V main_v83

/-- What the line leaves in `main_v84`. -/
def v84 : (⟨S2x16x2x4x128x1, .i1⟩ : BufTy).Contents (Elt F) := res V main_v84

/-- What the line leaves in `main_cst_12`. -/
def cst_12 : (⟨S_, .f32⟩ : BufTy).Contents (Elt F) := res V main_cst_12

/-- What the line leaves in `main_v85`. -/
def v85 : (⟨S2x16x2x4x128x1, .f32⟩ : BufTy).Contents (Elt F) := res V main_v85

/-- What the line leaves in `main_v86`. -/
def v86 : (⟨S2x16x2x4x128x1, .f32⟩ : BufTy).Contents (Elt F) := res V main_v86

/-- What the line leaves in `main_cst_13`. -/
def cst_13 : (⟨S_, .f32⟩ : BufTy).Contents (Elt F) := res V main_cst_13

/-- What the line leaves in `main_v87`. -/
def v87 : (⟨S2x16x2x4x128x1, .f32⟩ : BufTy).Contents (Elt F) := res V main_v87

/-- What the line leaves in `main_v88`. -/
def v88 : (⟨S2x16x2x4x128x1, .i1⟩ : BufTy).Contents (Elt F) := res V main_v88

/-- What the line leaves in `main_cst_14`. -/
def cst_14 : (⟨S_, .f32⟩ : BufTy).Contents (Elt F) := res V main_cst_14

/-- What the line leaves in `main_v89`. -/
def v89 : (⟨S2x16x2x4x128x1, .f32⟩ : BufTy).Contents (Elt F) := res V main_v89

/-- What the line leaves in `main_v90`. -/
def v90 : (⟨S2x16x2x4x128x1, .f32⟩ : BufTy).Contents (Elt F) := res V main_v90

/-- What the line leaves in `main_v91`. -/
def v91 : (⟨S2x16x2x4x128x1, .f32⟩ : BufTy).Contents (Elt F) := res V main_v91

/-- What the line leaves in `main_v92`. -/
def v92 : (⟨S2x16x2x4x128x1, .f32⟩ : BufTy).Contents (Elt F) := res V main_v92

/-- What the line leaves in `main_cst_15`. -/
def cst_15 : (⟨S_, .f32⟩ : BufTy).Contents (Elt F) := res V main_cst_15

/-- What the line leaves in `main_v93`. -/
def v93 : (⟨S1x1x2x4x1x1, .f32⟩ : BufTy).Contents (Elt F) := res V main_v93

/-- What the line leaves in `main_v94`. -/
def v94 : (⟨S1x1x2x4x1x1, .i1⟩ : BufTy).Contents (Elt F) := res V main_v94

/-- What the line leaves in `main_cst_16`. -/
def cst_16 : (⟨S_, .f32⟩ : BufTy).Contents (Elt F) := res V main_cst_16

/-- What the line leaves in `main_v95`. -/
def v95 : (⟨S1x1x2x4x1x1, .f32⟩ : BufTy).Contents (Elt F) := res V main_v95

/-- What the line leaves in `main_v96`. -/
def v96 : (⟨S1x1x2x4x1x1, .f32⟩ : BufTy).Contents (Elt F) := res V main_v96

/-- What the line leaves in `main_cst_17`. -/
def cst_17 : (⟨S_, .f32⟩ : BufTy).Contents (Elt F) := res V main_cst_17

/-- What the line leaves in `main_v97`. -/
def v97 : (⟨S2x16x2x4x128x1, .f32⟩ : BufTy).Contents (Elt F) := res V main_v97

/-- What the line leaves in `main_v98`. -/
def v98 : (⟨S2x16x2x4x128x1, .i1⟩ : BufTy).Contents (Elt F) := res V main_v98

/-- What the line leaves in `main_cst_18`. -/
def cst_18 : (⟨S_, .f32⟩ : BufTy).Contents (Elt F) := res V main_cst_18

/-- What the line leaves in `main_v99`. -/
def v99 : (⟨S2x16x2x4x128x1, .f32⟩ : BufTy).Contents (Elt F) := res V main_v99

/-- What the line leaves in `main_v100`. -/
def v100 : (⟨S2x16x2x4x128x1, .f32⟩ : BufTy).Contents (Elt F) := res V main_v100

/-- What the line leaves in `main_v101`. -/
def v101 : (⟨S2x16x2x4x128x1, .f32⟩ : BufTy).Contents (Elt F) := res V main_v101

/-- What the line leaves in `main_v102`. -/
def v102 : (⟨S2x16x2x4x128x1, .f32⟩ : BufTy).Contents (Elt F) := res V main_v102

/-- What the line leaves in `main_v103`. -/
def v103 : (⟨S2x16x2x4x128x1, .f32⟩ : BufTy).Contents (Elt F) := res V main_v103

/-- What the line leaves in `main_v104`. -/
def v104 : (⟨S2x16x2x4x128x256, .f32⟩ : BufTy).Contents (Elt F) := res V main_v104

/-- What the line leaves in `main_v105`. -/
def v105 : (⟨S2x16x2x4x128x256, .f32⟩ : BufTy).Contents (Elt F) := res V main_v105

/-- What the line leaves in `main_v106`. -/
def v106 : (⟨S2x16x2x4x128x256, .f32⟩ : BufTy).Contents (Elt F) := res V main_v106

/-- What the line leaves in `main_v107`. -/
def v107 : (⟨S2x16x2x64x4x128, .f32⟩ : BufTy).Contents (Elt F) := res V main_v107

/-- What the line leaves in `main_v108`. -/
def v108 : (⟨S2x16x128x2x4x64, .f32⟩ : BufTy).Contents (Elt F) := res V main_v108

/-- What the line leaves in `main_v109`. -/
def v109 : (⟨S2x2048x512, .f32⟩ : BufTy).Contents (Elt F) := res V main_v109

/-- What the line leaves in `main_v110`. -/
def v110 : (⟨S2x2048x512, .f32⟩ : BufTy).Contents (Elt F) := res V main_v110

/-- What the line leaves in `main_call1_v0`. -/
def call1_v0 : (⟨S2x2048x512, .f32⟩ : BufTy).Contents (Elt F) := res V main_call1_v0

/-- What the line leaves in `main_call1_v1`. -/
def call1_v1 : (⟨S2x2048x512, .f32⟩ : BufTy).Contents (Elt F) := res V main_call1_v1

/-- What the line leaves in `main_call1_cst`. -/
def call1_cst : (⟨S_, .f32⟩ : BufTy).Contents (Elt F) := res V main_call1_cst

/-- What the line leaves in `main_call1_v2`. -/
def call1_v2 : (⟨S2x2048x512, .f32⟩ : BufTy).Contents (Elt F) := res V main_call1_v2

/-- What the line leaves in `main_call1_v3`. -/
def call1_v3 : (⟨S2x2048x512, .f32⟩ : BufTy).Contents (Elt F) := res V main_call1_v3

/-- What the line leaves in `main_call1_cst_0`. -/
def call1_cst_0 : (⟨S_, .f32⟩ : BufTy).Contents (Elt F) := res V main_call1_cst_0

/-- What the line leaves in `main_call1_v4`. -/
def call1_v4 : (⟨S2x2048x512, .f32⟩ : BufTy).Contents (Elt F) := res V main_call1_v4

/-- What the line leaves in `main_v111_2`. -/
def v111_2 : (⟨S2x2048x512, .f32⟩ : BufTy).Contents (Elt F) := res V main_v111_2

/-- What the line leaves in `main_call1_cst_1`. -/
def call1_cst_1 : (⟨S_, .f32⟩ : BufTy).Contents (Elt F) := res V main_call1_cst_1

/-- What the line leaves in `main_call1_v6`. -/
def call1_v6 : (⟨S2x2048x512, .f32⟩ : BufTy).Contents (Elt F) := res V main_call1_v6

/-- What the line leaves in `main_call1_v7`. -/
def call1_v7 : (⟨S2x2048x512, .f32⟩ : BufTy).Contents (Elt F) := res V main_call1_v7

/-- What the line leaves in `main_v111_1`. -/
def v111_1 : (⟨S2x2048x512, .f32⟩ : BufTy).Contents (Elt F) := res V main_v111_1

/-- What the line leaves in `main_v111_0`. -/
def v111_0 : (⟨S2x2048x512, .f32⟩ : BufTy).Contents (Elt F) := res V main_v111_0

/-- What the line leaves in `main_v115`. -/
def v115 : (⟨S4096x512, .f32⟩ : BufTy).Contents (Elt F) := res V main_v115

/-- What the line leaves in `main_v116`. -/
def v116 : (⟨S2x2048x512, .f32⟩ : BufTy).Contents (Elt F) := res V main_v116

/-- What the line leaves in `main_v117`. -/
def v117 : (⟨S2x2048x512, .f32⟩ : BufTy).Contents (Elt F) := res V main_v117

/-- What the line leaves in `main_v118`. -/
def v118 : (⟨S2x2048x512, .f32⟩ : BufTy).Contents (Elt F) := res V main_v118

/-- What the line leaves in `main_call2_v0`. -/
def call2_v0 : (⟨S2x2048x512, .f32⟩ : BufTy).Contents (Elt F) := res V main_call2_v0

/-- What the line leaves in `main_call2_v1`. -/
def call2_v1 : (⟨S2x2048x512, .f32⟩ : BufTy).Contents (Elt F) := res V main_call2_v1

/-- What the line leaves in `main_call2_v2`. -/
def call2_v2 : (⟨S2x2048x512, .f32⟩ : BufTy).Contents (Elt F) := res V main_call2_v2

/-- What the line leaves in `main_v119`. -/
def v119 : (⟨S2x2048x512, .f32⟩ : BufTy).Contents (Elt F) := res V main_v119

/-- What the line leaves in `main_v120`. -/
def v120 : (⟨S4096x512, .f32⟩ : BufTy).Contents (Elt F) := res V main_v120

/-- What the line leaves in `main_v121`. -/
def v121 : (⟨S2x16x128x2x4x64, .f32⟩ : BufTy).Contents (Elt F) := res V main_v121

/-- What the line leaves in `main_v122`. -/
def v122 : (⟨S2x16x2x64x4x128, .f32⟩ : BufTy).Contents (Elt F) := res V main_v122

/-- What the line leaves in `main_v123`. -/
def v123 : (⟨S2x16x2x4x128x256, .f32⟩ : BufTy).Contents (Elt F) := res V main_v123

/-- What the line leaves in `main_v124`. -/
def v124 : (⟨S2x16x2x64x256, .f32⟩ : BufTy).Contents (Elt F) := res V main_v124

/-- What the line leaves in `main_v125`. -/
def v125 : (⟨S2x16x256x2x64, .f32⟩ : BufTy).Contents (Elt F) := res V main_v125

/-- What the line leaves in `main_v126`. -/
def v126 : (⟨S2x16x2x4x128x256, .f32⟩ : BufTy).Contents (Elt F) := res V main_v126

/-- What the line leaves in `main_v127`. -/
def v127 : (⟨S2x16x2x4x128x256, .f32⟩ : BufTy).Contents (Elt F) := res V main_v127

/-- What the line leaves in `main_cst_19`. -/
def cst_19 : (⟨S_, .f32⟩ : BufTy).Contents (Elt F) := res V main_cst_19

/-- What the line leaves in `main_v128`. -/
def v128 : (⟨S2x16x2x4x128, .f32⟩ : BufTy).Contents (Elt F) := res V main_v128

/-- What the line leaves in `main_v129`. -/
def v129 : (⟨S2x16x2x4x128x1, .f32⟩ : BufTy).Contents (Elt F) := res V main_v129

/-- What the line leaves in `main_v130`. -/
def v130 : (⟨S2x16x2x4x128x1, .f32⟩ : BufTy).Contents (Elt F) := res V main_v130

/-- What the line leaves in `main_cst_20`. -/
def cst_20 : (⟨S_, .f32⟩ : BufTy).Contents (Elt F) := res V main_cst_20

/-- What the line leaves in `main_v131`. -/
def v131 : (⟨S2x4x1, .f32⟩ : BufTy).Contents (Elt F) := res V main_v131

/-- What the line leaves in `main_v132`. -/
def v132 : (⟨S1x1x2x4x1x1, .f32⟩ : BufTy).Contents (Elt F) := res V main_v132

/-- What the line leaves in `main_v133`. -/
def v133 : (⟨S2x16x2x4x128x1, .f32⟩ : BufTy).Contents (Elt F) := res V main_v133

/-- What the line leaves in `main_v134`. -/
def v134 : (⟨S2x16x2x4x128x1, .f32⟩ : BufTy).Contents (Elt F) := res V main_v134

/-- What the line leaves in `main_cst_21`. -/
def cst_21 : (⟨S_, .f32⟩ : BufTy).Contents (Elt F) := res V main_cst_21

/-- What the line leaves in `main_v135`. -/
def v135 : (⟨S2x16x2x4x128, .f32⟩ : BufTy).Contents (Elt F) := res V main_v135

/-- What the line leaves in `main_v136`. -/
def v136 : (⟨S2x16x2x4x128x256, .f32⟩ : BufTy).Contents (Elt F) := res V main_v136

/-- What the line leaves in `main_v137`. -/
def v137 : (⟨S2x16x2x4x128x256, .f32⟩ : BufTy).Contents (Elt F) := res V main_v137

/-- What the line leaves in `main_v138`. -/
def v138 : (⟨S2x16x2x4x128x256, .f32⟩ : BufTy).Contents (Elt F) := res V main_v138

/-- What the line leaves in `main_cst_22`. -/
def cst_22 : (⟨S_, .f32⟩ : BufTy).Contents (Elt F) := res V main_cst_22

/-- What the line leaves in `main_v139`. -/
def v139 : (⟨S2x4, .f32⟩ : BufTy).Contents (Elt F) := res V main_v139

/-- What the line leaves in `main_v140`. -/
def v140 : (⟨S8, .f32⟩ : BufTy).Contents (Elt F) := res V main_v140

/-- What the line leaves in `main_call3_cst`. -/
def call3_cst : (⟨S_, .f32⟩ : BufTy).Contents (Elt F) := res V main_call3_cst

/-- What the line leaves in `main_call3_v0`. -/
def call3_v0 : (⟨S2x16x2x4x128x256, .f32⟩ : BufTy).Contents (Elt F) := res V main_call3_v0

/-- What the line leaves in `main_v141`. -/
def v141 : (⟨S2x16x2x4x128x256, .f32⟩ : BufTy).Contents (Elt F) := res V main_v141

/-- What the line leaves in `main_cst_23`. -/
def cst_23 : (⟨S_, .f32⟩ : BufTy).Contents (Elt F) := res V main_cst_23

/-- What the line leaves in `main_v142`. -/
def v142 : (⟨S2x16x2x4x128x256, .f32⟩ : BufTy).Contents (Elt F) := res V main_v142

/-- What the line leaves in `main_v143`. -/
def v143 : (⟨S2x16x2x4x128x256, .f32⟩ : BufTy).Contents (Elt F) := res V main_v143

/-- What the line leaves in `main_v144`. -/
def v144 : (⟨S2x16x2x256x128x4, .f32⟩ : BufTy).Contents (Elt F) := res V main_v144

/-- What the line leaves in `main_v145`. -/
def v145 : (⟨S2x16x2x128x4x64, .f32⟩ : BufTy).Contents (Elt F) := res V main_v145

/-- What the line leaves in `main_v146`. -/
def v146 : (⟨S2x16x128x2x4x64, .f32⟩ : BufTy).Contents (Elt F) := res V main_v146

/-- What the line leaves in `main_v147`. -/
def v147 : (⟨S2x16x2x256x64, .f32⟩ : BufTy).Contents (Elt F) := res V main_v147

/-- What the line leaves in `main_v148`. -/
def v148 : (⟨S2x16x256x2x64, .f32⟩ : BufTy).Contents (Elt F) := res V main_v148

/-- What the line leaves in `main_v149`. -/
def v149 : (⟨S2x16x128x2x64, .f32⟩ : BufTy).Contents (Elt F) := res V main_v149

/-- What the line leaves in `main_v150`. -/
def v150 : (⟨S2x16x128x2x64, .f32⟩ : BufTy).Contents (Elt F) := res V main_v150

/-- What the line leaves in `main_v152`. -/
def v152 : (⟨S2x15x128x2x64, .f32⟩ : BufTy).Contents (Elt F) := res V main_v152

/-- What the line leaves in `main_cst_24`. -/
def cst_24 : (⟨S_, .f32⟩ : BufTy).Contents (Elt F) := res V main_cst_24

/-- What the line leaves in `main_v153`. -/
def v153 : (⟨S2x16x128x2x64, .f32⟩ : BufTy).Contents (Elt F) := res V main_v153

/-- What the line leaves in `main_v154`. -/
def v154 : (⟨S2x16x128x2x64, .f32⟩ : BufTy).Contents (Elt F) := res V main_v154

/-- What the line leaves in `main_v155`. -/
def v155 : (⟨S2x16x128x2x64, .f32⟩ : BufTy).Contents (Elt F) := res V main_v155

/-- What the line leaves in `main_v156`. -/
def v156 : (⟨S2x16x128x2x64, .f32⟩ : BufTy).Contents (Elt F) := res V main_v156

/-- What the line leaves in `main_v158`. -/
def v158 : (⟨S2x15x128x2x64, .f32⟩ : BufTy).Contents (Elt F) := res V main_v158

/-- What the line leaves in `main_cst_25`. -/
def cst_25 : (⟨S_, .f32⟩ : BufTy).Contents (Elt F) := res V main_cst_25

/-- What the line leaves in `main_v159`. -/
def v159 : (⟨S2x16x128x2x64, .f32⟩ : BufTy).Contents (Elt F) := res V main_v159

/-- What the line leaves in `main_v160`. -/
def v160 : (⟨S2x16x128x2x64, .f32⟩ : BufTy).Contents (Elt F) := res V main_v160

/-- What the line leaves in `main_v161`. -/
def v161 : (⟨S4096x128, .f32⟩ : BufTy).Contents (Elt F) := res V main_v161

/-- What the line leaves in `main_v162`. -/
def v162 : (⟨S4096x128, .f32⟩ : BufTy).Contents (Elt F) := res V main_v162

/-- What the line leaves in `main_v163`. -/
def v163 : (⟨S4096x512, .f32⟩ : BufTy).Contents (Elt F) := res V main_v163

/-- What the line leaves in `main_v164`. -/
def v164 : (⟨S1x8, .f32⟩ : BufTy).Contents (Elt F) := res V main_v164

/-- What the line leaves in `main_cst_26`. -/
def cst_26 : (⟨S_, .f32⟩ : BufTy).Contents (Elt F) := res V main_cst_26

/-- What the line leaves in `main_v165`. -/
def v165 : (⟨S1x128, .f32⟩ : BufTy).Contents (Elt F) := res V main_v165

/-- What the line leaves in `main_cst_27`. -/
def cst_27 : (⟨S_, .f32⟩ : BufTy).Contents (Elt F) := res V main_cst_27

/-- What the line leaves in `main_v166`. -/
def v166 : (⟨S4096x1024, .f32⟩ : BufTy).Contents (Elt F) := res V main_v166

/-- What the line leaves in `main_cst_28`. -/
def cst_28 : (⟨S_, .f32⟩ : BufTy).Contents (Elt F) := res V main_cst_28

/-- What the line leaves in `main_v167`. -/
def v167 : (⟨S4096x3072, .f32⟩ : BufTy).Contents (Elt F) := res V main_v167

/-- What the line leaves in `main_cst_29`. -/
def cst_29 : (⟨S_, .f32⟩ : BufTy).Contents (Elt F) := res V main_cst_29

/-- What the line leaves in `main_v168`. -/
def v168 : (⟨S4096x256, .f32⟩ : BufTy).Contents (Elt F) := res V main_v168

/-- What the line leaves in `main_v169`. -/
def v169 : (⟨S4096x5632, .f32⟩ : BufTy).Contents (Elt F) := res V main_v169

/-- What the line leaves in `main_v170`. -/
def v170 : (⟨S4096x5632, .bf16⟩ : BufTy).Contents (Elt F) := res V main_v170

end Cert.ReferenceIdeal.Line

end
-- ==== Proof.RefEqs0.lean ====
/-
  What the line of the reference leaves in each buffer, one equation for each operation: part 1.
-/
module

public import proofs.«01_k».proof.Proof.RefDefs
public import Idealize.ShloMosaic.Lib.StableHlo.RunRead
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 16384 in
/-- Operation arg0. -/
theorem arg0_eq : arg0 V = V (Proc.devRef .tc main_arg0) := after_unwritten W writes_eq (fresh (i := 0) (by decide)) V

set_option maxRecDepth 16384 in
/-- Operation arg1. -/
theorem arg1_eq : arg1 V = V (Proc.devRef .tc main_arg1) := after_unwritten W writes_eq (fresh (i := 0) (by decide)) V

set_option maxRecDepth 16384 in
/-- Operation arg4. -/
theorem arg4_eq : arg4 V = V (Proc.devRef .tc main_arg4) := after_unwritten W writes_eq (fresh (i := 0) (by decide)) V

set_option maxRecDepth 16384 in
/-- Operation arg11. -/
theorem arg11_eq : arg11 V = V (Proc.devRef .tc main_arg11) := after_unwritten W writes_eq (fresh (i := 0) (by decide)) V

set_option maxRecDepth 16384 in
/-- Operation v0. -/
theorem v0_eq : v0 V = extractStridedSlice S512x1024 ![1024, 0] (arg4 V) slices_S2048x1024_S512x1024_1024_0 :=
  read_unary writes_eq (i := 0) V rfl (fresh (by decide)) (fresh (by decide))

set_option maxRecDepth 16384 in
/-- Operation v1. -/
theorem v1_eq : v1 V = extf .f32 (v0 V) bitsLt_bf16_f32 :=
  read_unary writes_eq (i := 1) V rfl (fresh (by decide)) (fresh (by decide))

set_option maxRecDepth 16384 in
/-- Operation v2. -/
theorem v2_eq : v2 V = extractStridedSlice S4096x512 ![0, 1024] (arg1 V) slices_S4096x5632_S4096x512_0_1024 :=
  read_unary writes_eq (i := 2) V rfl (fresh (by decide)) (fresh (by decide))

set_option maxRecDepth 16384 in
/-- Operation v3. -/
theorem v3_eq : v3 V = extractStridedSlice S4096x512 ![0, 4608] (arg1 V) slices_S4096x5632_S4096x512_0_4608 :=
  read_unary writes_eq (i := 3) V rfl (fresh (by decide)) (fresh (by decide))

set_option maxRecDepth 16384 in
/-- Operation v4. -/
theorem v4_eq : v4 V = extractStridedSlice S4096x128 ![0, 5120] (arg1 V) slices_S4096x5632_S4096x128_0_5120 :=
  read_unary writes_eq (i := 4) V rfl (fresh (by decide)) (fresh (by decide))

set_option maxRecDepth 16384 in
/-- Operation v5. -/
theorem v5_eq : v5 V = extractStridedSlice S4096x128 ![0, 5248] (arg1 V) slices_S4096x5632_S4096x128_0_5248 :=
  read_unary writes_eq (i := 5) V rfl (fresh (by decide)) (fresh (by decide))

set_option maxRecDepth 16384 in
/-- Operation v6. -/
theorem v6_eq : v6 V = extractStridedSlice S1x8 ![0, 0] (arg11 V) slices_S1x128_S1x8_0_0 :=
  read_unary writes_eq (i := 6) V rfl (fresh (by decide)) (fresh (by decide))

set_option maxRecDepth 16384 in
/-- Operation v7. -/
theorem v7_eq : v7 V = shapeCast S8 (v6 V) shapeCasts_S1x8_S8 :=
  read_reshape writes_eq (i := 7) V rfl (fresh (by decide)) (fresh (by decide))

set_option maxRecDepth 16384 in
/-- Operation v8. -/
theorem v8_eq : v8 V = shapeCast S2x16x128x2x4x64 (v3 V) shapeCasts_S4096x512_S2x16x128x2x4x64 :=
  read_reshape writes_eq (i := 8) V rfl (fresh (by decide)) (fresh (by decide))

set_option maxRecDepth 16384 in
/-- Operation v9. -/
theorem v9_eq : v9 V = shapeCast S2x16x128x2x64 (v4 V) shapeCasts_S4096x128_S2x16x128x2x64 :=
  read_reshape writes_eq (i := 9) V rfl (fresh (by decide)) (fresh (by decide))

set_option maxRecDepth 16384 in
/-- Operation v10. -/
theorem v10_eq : v10 V = shapeCast S2x16x128x2x64 (v5 V) shapeCasts_S4096x128_S2x16x128x2x64 :=
  read_reshape writes_eq (i := 10) V rfl (fresh (by decide)) (fresh (by decide))

set_option maxRecDepth 16384 in
/-- Operation cst. -/
theorem cst_eq : cst V = constant S_ .f32 0x00000000#32 :=
  read_nullary writes_eq (i := 11) V rfl (fresh (by decide))

set_option maxRecDepth 16384 in
/-- Operation v11. -/
theorem v11_eq : v11 V = broadcastInDim S2x1x128x2x64 ![] bcast_S_S2x1x128x2x64 (cst V) :=
  read_unary writes_eq (i := 12) V rfl (fresh (by decide)) (fresh (by decide))

set_option maxRecDepth 16384 in
/-- Operation v12. -/
theorem v12_eq : v12 V = extractStridedSlice S2x15x128x2x64 ![0, 0, 0, 0, 0] (v9 V) slices_S2x16x128x2x64_S2x15x128x2x64_0_0_0_0_0 :=
  read_unary writes_eq (i := 13) V rfl (fresh (by decide)) (fresh (by decide))

set_option maxRecDepth 16384 in
/-- Operation v13. -/
theorem v13_eq : v13 V = concatenate S2x16x128x2x64 1 [⟨S2x1x128x2x64, (v11 V)⟩, ⟨S2x15x128x2x64, (v12 V)⟩] concatenates_S2x1x128x2x64_S2x15x128x2x64_S2x16x128x2x64_d1 :=
  read_binary writes_eq (i := 14) V rfl (fresh (by decide)) (fresh (by decide)) (fresh (by decide))

set_option maxRecDepth 16384 in
/-- Operation v15. -/
theorem v15_eq : v15 V = concatenate S2x16x256x2x64 2 [⟨S2x16x128x2x64, (v13 V)⟩, ⟨S2x16x128x2x64, (v9 V)⟩] concatenates_S2x16x128x2x64_S2x16x128x2x64_S2x16x256x2x64_d2 :=
  read_binary writes_eq (i := 17) V rfl (fresh (by decide)) (fresh (by decide)) (fresh (by decide))

set_option maxRecDepth 16384 in
/-- Operation v16. -/
theorem v16_eq : v16 V = extractStridedSlice S2x15x128x2x64 ![0, 0, 0, 0, 0] (v10 V) slices_S2x16x128x2x64_S2x15x128x2x64_0_0_0_0_0 :=
  read_unary writes_eq (i := 18) V rfl (fresh (by decide)) (fresh (by decide))

set_option maxRecDepth 16384 in
/-- Operation v17. -/
theorem v17_eq : v17 V = concatenate S2x16x128x2x64 1 [⟨S2x1x128x2x64, (v11 V)⟩, ⟨S2x15x128x2x64, (v16 V)⟩] concatenates_S2x1x128x2x64_S2x15x128x2x64_S2x16x128x2x64_d1 :=
  read_binary writes_eq (i := 19) V rfl (fresh (by decide)) (fresh (by decide)) (fresh (by decide))

set_option maxRecDepth 16384 in
/-- Operation v19. -/
theorem v19_eq : v19 V = concatenate S2x16x256x2x64 2 [⟨S2x16x128x2x64, (v17 V)⟩, ⟨S2x16x128x2x64, (v10 V)⟩] concatenates_S2x16x128x2x64_S2x16x128x2x64_S2x16x256x2x64_d2 :=
  read_binary writes_eq (i := 22) V rfl (fresh (by decide)) (fresh (by decide)) (fresh (by decide))

set_option maxRecDepth 16384 in
/-- Operation v20. -/
theorem v20_eq : v20 V = Host.dotGeneral dot_S2x16x256x2x64_S2x16x128x2x4x64_S2x16x2x256x128x4_4_5_2_24_013_013 none (v15 V) (v8 V) :=
  read_binary writes_eq (i := 23) V rfl (fresh (by decide)) (fresh (by decide)) (fresh (by decide))

set_option maxRecDepth 16384 in
/-- Operation v21. -/
theorem v21_eq : v21 V = transpose S2x16x2x4x128x256 [0, 1, 2, 5, 4, 3] (v20 V) transposes_S2x16x2x256x128x4_S2x16x2x4x128x256_0_1_2_5_4_3 :=
  read_unary writes_eq (i := 24) V rfl (fresh (by decide)) (fresh (by decide))

set_option maxRecDepth 16384 in
/-- Operation cst_2. -/
theorem cst_2_eq : cst_2 V = constant S_ .f32 0x3E000000#32 :=
  read_nullary writes_eq (i := 25) V rfl (fresh (by decide))

set_option maxRecDepth 16384 in
/-- Operation v22. -/
theorem v22_eq : v22 V = broadcastInDim S2x16x2x4x128x256 ![] bcast_S_S2x16x2x4x128x256 (cst_2 V) :=
  read_unary writes_eq (i := 26) V rfl (fresh (by decide)) (fresh (by decide))

end Cert.ReferenceIdeal.Line

end
-- ==== Proof.RefEqs1.lean ====
/-
  What the line of the reference leaves in each buffer, one equation for each operation: part 2.
-/
module

public import proofs.«01_k».proof.Proof.RefDefs
public import Idealize.ShloMosaic.Lib.StableHlo.RunRead
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 16384 in
/-- Operation v23. -/
theorem v23_eq : v23 V = mulf (v21 V) (v22 V) :=
  read_binary writes_eq (i := 27) V rfl (fresh (by decide)) (fresh (by decide)) (fresh (by decide))

set_option maxRecDepth 16384 in
/-- Operation v24. -/
theorem v24_eq : v24 V = iotaInDim S128 32 0 :=
  read_nullary writes_eq (i := 28) V rfl (fresh (by decide))

set_option maxRecDepth 16384 in
/-- Operation v25. -/
theorem v25_eq : v25 V = broadcastInDim S128x1 ![0] bcast_S128_S128x1_0 (v24 V) :=
  read_unary writes_eq (i := 29) V rfl (fresh (by decide)) (fresh (by decide))

set_option maxRecDepth 16384 in
/-- Operation v26. -/
theorem v26_eq : v26 V = iotaInDim S256 32 0 :=
  read_nullary writes_eq (i := 30) V rfl (fresh (by decide))

set_option maxRecDepth 16384 in
/-- Operation v27. -/
theorem v27_eq : v27 V = broadcastInDim S1x256 ![1] bcast_S256_S1x256_1 (v26 V) :=
  read_unary writes_eq (i := 31) V rfl (fresh (by decide)) (fresh (by decide))

set_option maxRecDepth 16384 in
/-- Operation c. -/
theorem c_eq : c V = constantI S_ 32 128#32 :=
  read_nullary writes_eq (i := 32) V rfl (fresh (by decide))

set_option maxRecDepth 16384 in
/-- Operation v28. -/
theorem v28_eq : v28 V = broadcastInDim S1x256 ![] bcast_S_S1x256 (c V) :=
  read_unary writes_eq (i := 33) V rfl (fresh (by decide)) (fresh (by decide))

set_option maxRecDepth 16384 in
/-- Operation v29. -/
theorem v29_eq : v29 V = subi (v27 V) (v28 V) :=
  read_binary writes_eq (i := 34) V rfl (fresh (by decide)) (fresh (by decide)) (fresh (by decide))

set_option maxRecDepth 16384 in
/-- Operation v30. -/
theorem v30_eq : v30 V = broadcastInDim S128x256 ![0, 1] bcast_S128x1_S128x256_0_1 (v25 V) :=
  read_unary writes_eq (i := 35) V rfl (fresh (by decide)) (fresh (by decide))

set_option maxRecDepth 16384 in
/-- Operation v31. -/
theorem v31_eq : v31 V = broadcastInDim S128x256 ![0, 1] bcast_S1x256_S128x256_0_1 (v29 V) :=
  read_unary writes_eq (i := 36) V rfl (fresh (by decide)) (fresh (by decide))

set_option maxRecDepth 16384 in
/-- Operation v32. -/
theorem v32_eq : v32 V = subi (v30 V) (v31 V) :=
  read_binary writes_eq (i := 37) V rfl (fresh (by decide)) (fresh (by decide)) (fresh (by decide))

set_option maxRecDepth 16384 in
/-- Operation c_3. -/
theorem c_3_eq : c_3 V = constantI S_ 32 0#32 :=
  read_nullary writes_eq (i := 38) V rfl (fresh (by decide))

set_option maxRecDepth 16384 in
/-- Operation v33. -/
theorem v33_eq : v33 V = broadcastInDim S128x256 ![] bcast_S_S128x256 (c_3 V) :=
  read_unary writes_eq (i := 39) V rfl (fresh (by decide)) (fresh (by decide))

set_option maxRecDepth 16384 in
/-- Operation v34. -/
theorem v34_eq : v34 V = cmpi .sge (v32 V) (v33 V) :=
  read_binary writes_eq (i := 40) V rfl (fresh (by decide)) (fresh (by decide)) (fresh (by decide))

set_option maxRecDepth 16384 in
/-- Operation c_4. -/
theorem c_4_eq : c_4 V = constantI S_ 32 128#32 :=
  read_nullary writes_eq (i := 41) V rfl (fresh (by decide))

set_option maxRecDepth 16384 in
/-- Operation v35. -/
theorem v35_eq : v35 V = broadcastInDim S128x256 ![] bcast_S_S128x256 (c_4 V) :=
  read_unary writes_eq (i := 42) V rfl (fresh (by decide)) (fresh (by decide))

set_option maxRecDepth 16384 in
/-- Operation v36. -/
theorem v36_eq : v36 V = cmpi .slt (v32 V) (v35 V) :=
  read_binary writes_eq (i := 43) V rfl (fresh (by decide)) (fresh (by decide)) (fresh (by decide))

set_option maxRecDepth 16384 in
/-- Operation v37. -/
theorem v37_eq : v37 V = andi (v34 V) (v36 V) :=
  read_binary writes_eq (i := 44) V rfl (fresh (by decide)) (fresh (by decide)) (fresh (by decide))

set_option maxRecDepth 16384 in
/-- Operation v38. -/
theorem v38_eq : v38 V = broadcastInDim S1x128x256 ![1, 2] bcast_S128x256_S1x128x256_1_2 (v37 V) :=
  read_unary writes_eq (i := 45) V rfl (fresh (by decide)) (fresh (by decide))

set_option maxRecDepth 16384 in
/-- Operation v39. -/
theorem v39_eq : v39 V = iotaInDim S16 32 0 :=
  read_nullary writes_eq (i := 46) V rfl (fresh (by decide))

set_option maxRecDepth 16384 in
/-- Operation v40. -/
theorem v40_eq : v40 V = broadcastInDim S16x1x1 ![0] bcast_S16_S16x1x1_0 (v39 V) :=
  read_unary writes_eq (i := 47) V rfl (fresh (by decide)) (fresh (by decide))

set_option maxRecDepth 16384 in
/-- Operation c_5. -/
theorem c_5_eq : c_5 V = constantI S_ 32 0#32 :=
  read_nullary writes_eq (i := 48) V rfl (fresh (by decide))

set_option maxRecDepth 16384 in
/-- Operation v41. -/
theorem v41_eq : v41 V = broadcastInDim S16x1x1 ![] bcast_S_S16x1x1 (c_5 V) :=
  read_unary writes_eq (i := 49) V rfl (fresh (by decide)) (fresh (by decide))

set_option maxRecDepth 16384 in
/-- Operation v42. -/
theorem v42_eq : v42 V = cmpi .sgt (v40 V) (v41 V) :=
  read_binary writes_eq (i := 50) V rfl (fresh (by decide)) (fresh (by decide)) (fresh (by decide))

set_option maxRecDepth 16384 in
/-- Operation v43. -/
theorem v43_eq : v43 V = broadcastInDim S1x1x256 ![1, 2] bcast_S1x256_S1x1x256_1_2 (v29 V) :=
  read_unary writes_eq (i := 51) V rfl (fresh (by decide)) (fresh (by decide))

set_option maxRecDepth 16384 in
/-- Operation c_6. -/
theorem c_6_eq : c_6 V = constantI S_ 32 0#32 :=
  read_nullary writes_eq (i := 52) V rfl (fresh (by decide))

set_option maxRecDepth 16384 in
/-- Operation v44. -/
theorem v44_eq : v44 V = broadcastInDim S1x1x256 ![] bcast_S_S1x1x256 (c_6 V) :=
  read_unary writes_eq (i := 53) V rfl (fresh (by decide)) (fresh (by decide))

end Cert.ReferenceIdeal.Line

end
-- ==== Proof.RefEqs2.lean ====
/-
  What the line of the reference leaves in each buffer, one equation for each operation: part 3.
-/
module

public import proofs.«01_k».proof.Proof.RefDefs
public import Idealize.ShloMosaic.Lib.StableHlo.RunRead
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 16384 in
/-- Operation v45. -/
theorem v45_eq : v45 V = cmpi .sge (v43 V) (v44 V) :=
  read_binary writes_eq (i := 54) V rfl (fresh (by decide)) (fresh (by decide)) (fresh (by decide))

set_option maxRecDepth 16384 in
/-- Operation v46. -/
theorem v46_eq : v46 V = broadcastInDim S16x1x256 ![0, 1, 2] bcast_S16x1x1_S16x1x256_0_1_2 (v42 V) :=
  read_unary writes_eq (i := 55) V rfl (fresh (by decide)) (fresh (by decide))

set_option maxRecDepth 16384 in
/-- Operation v47. -/
theorem v47_eq : v47 V = broadcastInDim S16x1x256 ![0, 1, 2] bcast_S1x1x256_S16x1x256_0_1_2 (v45 V) :=
  read_unary writes_eq (i := 56) V rfl (fresh (by decide)) (fresh (by decide))

set_option maxRecDepth 16384 in
/-- Operation v48. -/
theorem v48_eq : v48 V = ori (v46 V) (v47 V) :=
  read_binary writes_eq (i := 57) V rfl (fresh (by decide)) (fresh (by decide)) (fresh (by decide))

set_option maxRecDepth 16384 in
/-- Operation v49. -/
theorem v49_eq : v49 V = broadcastInDim S16x128x256 ![0, 1, 2] bcast_S1x128x256_S16x128x256_0_1_2 (v38 V) :=
  read_unary writes_eq (i := 58) V rfl (fresh (by decide)) (fresh (by decide))

set_option maxRecDepth 16384 in
/-- Operation v50. -/
theorem v50_eq : v50 V = broadcastInDim S16x128x256 ![0, 1, 2] bcast_S16x1x256_S16x128x256_0_1_2 (v48 V) :=
  read_unary writes_eq (i := 59) V rfl (fresh (by decide)) (fresh (by decide))

set_option maxRecDepth 16384 in
/-- Operation v51. -/
theorem v51_eq : v51 V = andi (v49 V) (v50 V) :=
  read_binary writes_eq (i := 60) V rfl (fresh (by decide)) (fresh (by decide)) (fresh (by decide))

set_option maxRecDepth 16384 in
/-- Operation v52. -/
theorem v52_eq : v52 V = broadcastInDim S1x16x1x1x128x256 ![1, 4, 5] bcast_S16x128x256_S1x16x1x1x128x256_1_4_5 (v51 V) :=
  read_unary writes_eq (i := 61) V rfl (fresh (by decide)) (fresh (by decide))

set_option maxRecDepth 16384 in
/-- Operation cst_7. -/
theorem cst_7_eq : cst_7 V = constant S_ .f32 0xFF800000#32 :=
  read_nullary writes_eq (i := 62) V rfl (fresh (by decide))

set_option maxRecDepth 16384 in
/-- Operation call0_v0. -/
theorem call0_v0_eq : call0_v0 V = id (cst_7 V) :=
  read_unary writes_eq (i := 63) V rfl (fresh (by decide)) (fresh (by decide))

set_option maxRecDepth 16384 in
/-- Operation v53_1. -/
theorem v53_1_eq : v53_1 V = (broadcastInDim S2x16x2x4x128x256 ![0, 1, 2, 3, 4, 5] bcast_S1x16x1x1x128x256_S2x16x2x4x128x256_0_1_2_3_4_5) (v52 V) :=
  read_unary writes_eq (i := 64) V rfl (fresh (by decide)) (fresh (by decide))

set_option maxRecDepth 16384 in
/-- Operation call0_v2. -/
theorem call0_v2_eq : call0_v2 V = (broadcastInDim S2x16x2x4x128x256 ![] bcast_S_S2x16x2x4x128x256) (call0_v0 V) :=
  read_unary writes_eq (i := 65) V rfl (fresh (by decide)) (fresh (by decide))

set_option maxRecDepth 16384 in
/-- Operation v53_0. -/
theorem v53_0_eq : v53_0 V = select (v53_1 V) (v23 V) (call0_v2 V) :=
  read_ternary writes_eq (i := 66) V rfl (fresh (by decide)) (fresh (by decide)) (fresh (by decide)) (fresh (by decide))

set_option maxRecDepth 16384 in
/-- Operation v54. -/
theorem v54_eq : v54 V = shapeCast S2x4 (v7 V) shapeCasts_S8_S2x4 :=
  read_reshape writes_eq (i := 69) V rfl (fresh (by decide)) (fresh (by decide))

set_option maxRecDepth 16384 in
/-- Operation v55. -/
theorem v55_eq : v55 V = broadcastInDim S1x1x2x4x1x1 ![2, 3] bcast_S2x4_S1x1x2x4x1x1_2_3 (v54 V) :=
  read_unary writes_eq (i := 70) V rfl (fresh (by decide)) (fresh (by decide))

set_option maxRecDepth 16384 in
/-- Operation cst_8. -/
theorem cst_8_eq : cst_8 V = constant S_ .f32 0xFF800000#32 :=
  read_nullary writes_eq (i := 71) V rfl (fresh (by decide))

set_option maxRecDepth 16384 in
/-- Operation v56. -/
theorem v56_eq : v56 V = Host.reduce FloatOps.maximumf (v53_0 V) (cst_8 V) reducesTo_S2x16x2x4x128x256_S2x16x2x4x128_d5 h_S_ :=
  read_binary writes_eq (i := 72) V rfl (fresh (by decide)) (fresh (by decide)) (fresh (by decide))

set_option maxRecDepth 16384 in
/-- Operation v62. -/
theorem v62_eq : v62 V = broadcastInDim S2x16x2x4x128x1 ![0, 1, 2, 3, 4] bcast_S2x16x2x4x128_S2x16x2x4x128x1_0_1_2_3_4 (v56 V) :=
  read_unary writes_eq (i := 79) V rfl (fresh (by decide)) (fresh (by decide))

set_option maxRecDepth 16384 in
/-- Operation v63. -/
theorem v63_eq : v63 V = broadcastInDim S2x16x2x4x128x256 ![0, 1, 2, 3, 4, 5] bcast_S2x16x2x4x128x1_S2x16x2x4x128x256_0_1_2_3_4_5 (v62 V) :=
  read_unary writes_eq (i := 80) V rfl (fresh (by decide)) (fresh (by decide))

set_option maxRecDepth 16384 in
/-- Operation v64. -/
theorem v64_eq : v64 V = subf (v53_0 V) (v63 V) :=
  read_binary writes_eq (i := 81) V rfl (fresh (by decide)) (fresh (by decide)) (fresh (by decide))

set_option maxRecDepth 16384 in
/-- Operation v65. -/
theorem v65_eq : v65 V = Host.exp (v64 V) :=
  read_unary writes_eq (i := 82) V rfl (fresh (by decide)) (fresh (by decide))

set_option maxRecDepth 16384 in
/-- Operation cst_10. -/
theorem cst_10_eq : cst_10 V = constant S_ .f32 0x00000000#32 :=
  read_nullary writes_eq (i := 83) V rfl (fresh (by decide))

set_option maxRecDepth 16384 in
/-- Operation v66. -/
theorem v66_eq : v66 V = Host.reduceAdd (v65 V) (cst_10 V) reducesTo_S2x16x2x4x128x256_S2x16x2x4x128_d5 h_S_ :=
  read_binary writes_eq (i := 84) V rfl (fresh (by decide)) (fresh (by decide)) (fresh (by decide))

set_option maxRecDepth 16384 in
/-- Operation v67. -/
theorem v67_eq : v67 V = broadcastInDim S2x16x2x4x128x1 ![0, 1, 2, 3, 4] bcast_S2x16x2x4x128_S2x16x2x4x128x1_0_1_2_3_4 (v66 V) :=
  read_unary writes_eq (i := 85) V rfl (fresh (by decide)) (fresh (by decide))

set_option maxRecDepth 16384 in
/-- Operation v68. -/
theorem v68_eq : v68 V = Host.log (v67 V) :=
  read_unary writes_eq (i := 86) V rfl (fresh (by decide)) (fresh (by decide))

set_option maxRecDepth 16384 in
/-- Operation v69. -/
theorem v69_eq : v69 V = addf (v68 V) (v62 V) :=
  read_binary writes_eq (i := 87) V rfl (fresh (by decide)) (fresh (by decide)) (fresh (by decide))

set_option maxRecDepth 16384 in
/-- Operation v70. -/
theorem v70_eq : v70 V = broadcastInDim S2x16x2x4x128x1 ![0, 1, 2, 3, 4, 5] bcast_S1x1x2x4x1x1_S2x16x2x4x128x1_0_1_2_3_4_5 (v55 V) :=
  read_unary writes_eq (i := 88) V rfl (fresh (by decide)) (fresh (by decide))

end Cert.ReferenceIdeal.Line

end
-- ==== Proof.RefEqs4.lean ====
/-
  What the line of the reference leaves in each buffer, one equation for each operation: part 5.
-/
module

public import proofs.«01_k».proof.Proof.RefDefs
public import Idealize.ShloMosaic.Lib.StableHlo.RunRead
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 16384 in
/-- Operation v93. -/
theorem v93_eq : v93 V = broadcastInDim S1x1x2x4x1x1 ![] bcast_S_S1x1x2x4x1x1 (cst_15 V) :=
  read_unary writes_eq (i := 116) V rfl (fresh (by decide)) (fresh (by decide))

set_option maxRecDepth 16384 in
/-- Operation v94. -/
theorem v94_eq : v94 V = cmpf .oeq (v55 V) (v93 V) :=
  read_binary writes_eq (i := 117) V rfl (fresh (by decide)) (fresh (by decide)) (fresh (by decide))

set_option maxRecDepth 16384 in
/-- Operation cst_16. -/
theorem cst_16_eq : cst_16 V = constant S_ .f32 0x00000000#32 :=
  read_nullary writes_eq (i := 118) V rfl (fresh (by decide))

set_option maxRecDepth 16384 in
/-- Operation v95. -/
theorem v95_eq : v95 V = broadcastInDim S1x1x2x4x1x1 ![] bcast_S_S1x1x2x4x1x1 (cst_16 V) :=
  read_unary writes_eq (i := 119) V rfl (fresh (by decide)) (fresh (by decide))

set_option maxRecDepth 16384 in
/-- Operation v96. -/
theorem v96_eq : v96 V = select (v94 V) (v95 V) (v55 V) :=
  read_ternary writes_eq (i := 120) V rfl (fresh (by decide)) (fresh (by decide)) (fresh (by decide)) (fresh (by decide))

set_option maxRecDepth 16384 in
/-- Operation cst_17. -/
theorem cst_17_eq : cst_17 V = constant S_ .f32 0x7F800000#32 :=
  read_nullary writes_eq (i := 121) V rfl (fresh (by decide))

set_option maxRecDepth 16384 in
/-- Operation v97. -/
theorem v97_eq : v97 V = broadcastInDim S2x16x2x4x128x1 ![] bcast_S_S2x16x2x4x128x1 (cst_17 V) :=
  read_unary writes_eq (i := 122) V rfl (fresh (by decide)) (fresh (by decide))

set_option maxRecDepth 16384 in
/-- Operation v98. -/
theorem v98_eq : v98 V = cmpf .oeq (v82 V) (v97 V) :=
  read_binary writes_eq (i := 123) V rfl (fresh (by decide)) (fresh (by decide)) (fresh (by decide))

set_option maxRecDepth 16384 in
/-- Operation cst_18. -/
theorem cst_18_eq : cst_18 V = constant S_ .f32 0x00000000#32 :=
  read_nullary writes_eq (i := 124) V rfl (fresh (by decide))

set_option maxRecDepth 16384 in
/-- Operation v99. -/
theorem v99_eq : v99 V = broadcastInDim S2x16x2x4x128x1 ![] bcast_S_S2x16x2x4x128x1 (cst_18 V) :=
  read_unary writes_eq (i := 125) V rfl (fresh (by decide)) (fresh (by decide))

set_option maxRecDepth 16384 in
/-- Operation v100. -/
theorem v100_eq : v100 V = select (v98 V) (v99 V) (v82 V) :=
  read_ternary writes_eq (i := 126) V rfl (fresh (by decide)) (fresh (by decide)) (fresh (by decide)) (fresh (by decide))

set_option maxRecDepth 16384 in
/-- Operation v101. -/
theorem v101_eq : v101 V = broadcastInDim S2x16x2x4x128x1 ![0, 1, 2, 3, 4, 5] bcast_S1x1x2x4x1x1_S2x16x2x4x128x1_0_1_2_3_4_5 (v96 V) :=
  read_unary writes_eq (i := 127) V rfl (fresh (by decide)) (fresh (by decide))

set_option maxRecDepth 16384 in
/-- Operation v102. -/
theorem v102_eq : v102 V = subf (v101 V) (v100 V) :=
  read_binary writes_eq (i := 128) V rfl (fresh (by decide)) (fresh (by decide)) (fresh (by decide))

set_option maxRecDepth 16384 in
/-- Operation v103. -/
theorem v103_eq : v103 V = Host.exp (v102 V) :=
  read_unary writes_eq (i := 129) V rfl (fresh (by decide)) (fresh (by decide))

set_option maxRecDepth 16384 in
/-- Operation v104. -/
theorem v104_eq : v104 V = broadcastInDim S2x16x2x4x128x256 ![0, 1, 2, 3, 4, 5] bcast_S2x16x2x4x128x1_S2x16x2x4x128x256_0_1_2_3_4_5 (v82 V) :=
  read_unary writes_eq (i := 130) V rfl (fresh (by decide)) (fresh (by decide))

set_option maxRecDepth 16384 in
/-- Operation v105. -/
theorem v105_eq : v105 V = subf (v53_0 V) (v104 V) :=
  read_binary writes_eq (i := 131) V rfl (fresh (by decide)) (fresh (by decide)) (fresh (by decide))

set_option maxRecDepth 16384 in
/-- Operation v106. -/
theorem v106_eq : v106 V = Host.exp (v105 V) :=
  read_unary writes_eq (i := 132) V rfl (fresh (by decide)) (fresh (by decide))

set_option maxRecDepth 16384 in
/-- Operation v107. -/
theorem v107_eq : v107 V = Host.dotGeneral dot_S2x16x256x2x64_S2x16x2x4x128x256_S2x16x2x64x4x128_2_5_4_34_013_012 none (v19 V) (v106 V) :=
  read_binary writes_eq (i := 133) V rfl (fresh (by decide)) (fresh (by decide)) (fresh (by decide))

set_option maxRecDepth 16384 in
/-- Operation v108. -/
theorem v108_eq : v108 V = transpose S2x16x128x2x4x64 [0, 1, 5, 2, 4, 3] (v107 V) transposes_S2x16x2x64x4x128_S2x16x128x2x4x64_0_1_5_2_4_3 :=
  read_unary writes_eq (i := 134) V rfl (fresh (by decide)) (fresh (by decide))

set_option maxRecDepth 16384 in
/-- Operation v109. -/
theorem v109_eq : v109 V = shapeCast S2x2048x512 (v108 V) shapeCasts_S2x16x128x2x4x64_S2x2048x512 :=
  read_reshape writes_eq (i := 135) V rfl (fresh (by decide)) (fresh (by decide))

set_option maxRecDepth 16384 in
/-- Operation v110. -/
theorem v110_eq : v110 V = shapeCast S2x2048x512 (v2 V) shapeCasts_S4096x512_S2x2048x512 :=
  read_reshape writes_eq (i := 136) V rfl (fresh (by decide)) (fresh (by decide))

set_option maxRecDepth 16384 in
/-- Operation call1_v0. -/
theorem call1_v0_eq : call1_v0 V = Host.negf (v110 V) :=
  read_unary writes_eq (i := 137) V rfl (fresh (by decide)) (fresh (by decide))

set_option maxRecDepth 16384 in
/-- Operation call1_v1. -/
theorem call1_v1_eq : call1_v1 V = Host.exp (call1_v0 V) :=
  read_unary writes_eq (i := 138) V rfl (fresh (by decide)) (fresh (by decide))

set_option maxRecDepth 16384 in
/-- Operation call1_cst. -/
theorem call1_cst_eq : call1_cst V = (constant S_ .f32 0x3F800000#32) :=
  read_nullary writes_eq (i := 139) V rfl (fresh (by decide))

set_option maxRecDepth 16384 in
/-- Operation call1_v2. -/
theorem call1_v2_eq : call1_v2 V = (broadcastInDim S2x2048x512 ![] bcast_S_S2x2048x512) (call1_cst V) :=
  read_unary writes_eq (i := 140) V rfl (fresh (by decide)) (fresh (by decide))

set_option maxRecDepth 16384 in
/-- Operation call1_v3. -/
theorem call1_v3_eq : call1_v3 V = addf (call1_v2 V) (call1_v1 V) :=
  read_binary writes_eq (i := 141) V rfl (fresh (by decide)) (fresh (by decide)) (fresh (by decide))

set_option maxRecDepth 16384 in
/-- Operation call1_cst_0. -/
theorem call1_cst_0_eq : call1_cst_0 V = (constant S_ .f32 0x3F800000#32) :=
  read_nullary writes_eq (i := 142) V rfl (fresh (by decide))

end Cert.ReferenceIdeal.Line

end
-- ==== Proof.RefEqs5.lean ====
/-
  What the line of the reference leaves in each buffer, one equation for each operation: part 6.
-/
module

public import proofs.«01_k».proof.Proof.RefDefs
public import Idealize.ShloMosaic.Lib.StableHlo.RunRead
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 16384 in
/-- Operation call1_v4. -/
theorem call1_v4_eq : call1_v4 V = (broadcastInDim S2x2048x512 ![] bcast_S_S2x2048x512) (call1_cst_0 V) :=
  read_unary writes_eq (i := 143) V rfl (fresh (by decide)) (fresh (by decide))

set_option maxRecDepth 16384 in
/-- Operation v111_2. -/
theorem v111_2_eq : v111_2 V = Host.divf (call1_v4 V) (call1_v3 V) :=
  read_binary writes_eq (i := 144) V rfl (fresh (by decide)) (fresh (by decide)) (fresh (by decide))

set_option maxRecDepth 16384 in
/-- Operation call1_cst_1. -/
theorem call1_cst_1_eq : call1_cst_1 V = (constant S_ .f32 0x3F800000#32) :=
  read_nullary writes_eq (i := 145) V rfl (fresh (by decide))

set_option maxRecDepth 16384 in
/-- Operation call1_v6. -/
theorem call1_v6_eq : call1_v6 V = (broadcastInDim S2x2048x512 ![] bcast_S_S2x2048x512) (call1_cst_1 V) :=
  read_unary writes_eq (i := 146) V rfl (fresh (by decide)) (fresh (by decide))

set_option maxRecDepth 16384 in
/-- Operation call1_v7. -/
theorem call1_v7_eq : call1_v7 V = subf (call1_v6 V) (v111_2 V) :=
  read_binary writes_eq (i := 147) V rfl (fresh (by decide)) (fresh (by decide)) (fresh (by decide))

set_option maxRecDepth 16384 in
/-- Operation v111_1. -/
theorem v111_1_eq : v111_1 V = mulf (v111_2 V) (call1_v7 V) :=
  read_binary writes_eq (i := 148) V rfl (fresh (by decide)) (fresh (by decide)) (fresh (by decide))

set_option maxRecDepth 16384 in
/-- Operation v111_0. -/
theorem v111_0_eq : v111_0 V = mulf (v110 V) (v111_2 V) :=
  read_binary writes_eq (i := 149) V rfl (fresh (by decide)) (fresh (by decide)) (fresh (by decide))

set_option maxRecDepth 16384 in
/-- Operation v115. -/
theorem v115_eq : v115 V = Host.dotGeneral dot_S4096x1024_S512x1024_S4096x512_1_1_0_0_n_n none (arg0 V) (v1 V) :=
  read_binary writes_eq (i := 153) V rfl (fresh (by decide)) (fresh (by decide)) (fresh (by decide))

set_option maxRecDepth 16384 in
/-- Operation v116. -/
theorem v116_eq : v116 V = shapeCast S2x2048x512 (v115 V) shapeCasts_S4096x512_S2x2048x512 :=
  read_reshape writes_eq (i := 154) V rfl (fresh (by decide)) (fresh (by decide))

set_option maxRecDepth 16384 in
/-- Operation v117. -/
theorem v117_eq : v117 V = mulf (v109 V) (v116 V) :=
  read_binary writes_eq (i := 155) V rfl (fresh (by decide)) (fresh (by decide)) (fresh (by decide))

set_option maxRecDepth 16384 in
/-- Operation v118. -/
theorem v118_eq : v118 V = mulf (v116 V) (v111_0 V) :=
  read_binary writes_eq (i := 156) V rfl (fresh (by decide)) (fresh (by decide)) (fresh (by decide))

set_option maxRecDepth 16384 in
/-- Operation call2_v0. -/
theorem call2_v0_eq : call2_v0 V = mulf (v110 V) (v117 V) :=
  read_binary writes_eq (i := 157) V rfl (fresh (by decide)) (fresh (by decide)) (fresh (by decide))

set_option maxRecDepth 16384 in
/-- Operation call2_v1. -/
theorem call2_v1_eq : call2_v1 V = mulf (v117 V) (v111_2 V) :=
  read_binary writes_eq (i := 158) V rfl (fresh (by decide)) (fresh (by decide)) (fresh (by decide))

set_option maxRecDepth 16384 in
/-- Operation call2_v2. -/
theorem call2_v2_eq : call2_v2 V = mulf (call2_v0 V) (v111_1 V) :=
  read_binary writes_eq (i := 159) V rfl (fresh (by decide)) (fresh (by decide)) (fresh (by decide))

set_option maxRecDepth 16384 in
/-- Operation v119. -/
theorem v119_eq : v119 V = addf (call2_v1 V) (call2_v2 V) :=
  read_binary writes_eq (i := 160) V rfl (fresh (by decide)) (fresh (by decide)) (fresh (by decide))

set_option maxRecDepth 16384 in
/-- Operation v120. -/
theorem v120_eq : v120 V = shapeCast S4096x512 (v119 V) shapeCasts_S2x2048x512_S4096x512 :=
  read_reshape writes_eq (i := 161) V rfl (fresh (by decide)) (fresh (by decide))

set_option maxRecDepth 16384 in
/-- Operation v121. -/
theorem v121_eq : v121 V = shapeCast S2x16x128x2x4x64 (v118 V) shapeCasts_S2x2048x512_S2x16x128x2x4x64 :=
  read_reshape writes_eq (i := 162) V rfl (fresh (by decide)) (fresh (by decide))

set_option maxRecDepth 16384 in
/-- Operation v122. -/
theorem v122_eq : v122 V = transpose S2x16x2x64x4x128 [0, 1, 3, 5, 4, 2] (v121 V) transposes_S2x16x128x2x4x64_S2x16x2x64x4x128_0_1_3_5_4_2 :=
  read_unary writes_eq (i := 163) V rfl (fresh (by decide)) (fresh (by decide))

set_option maxRecDepth 16384 in
/-- Operation v123. -/
theorem v123_eq : v123 V = Host.dotGeneral dot_S2x16x2x64x4x128_S2x16x256x2x64_S2x16x2x4x128x256_3_4_45_2_012_013 none (v122 V) (v19 V) :=
  read_binary writes_eq (i := 164) V rfl (fresh (by decide)) (fresh (by decide)) (fresh (by decide))

set_option maxRecDepth 16384 in
/-- Operation v124. -/
theorem v124_eq : v124 V = Host.dotGeneral dot_S2x16x2x64x4x128_S2x16x2x4x128x256_S2x16x2x64x256_45_34_3_5_012_012 none (v122 V) (v106 V) :=
  read_binary writes_eq (i := 165) V rfl (fresh (by decide)) (fresh (by decide)) (fresh (by decide))

set_option maxRecDepth 16384 in
/-- Operation v125. -/
theorem v125_eq : v125 V = transpose S2x16x256x2x64 [0, 1, 4, 2, 3] (v124 V) transposes_S2x16x2x64x256_S2x16x256x2x64_0_1_4_2_3 :=
  read_unary writes_eq (i := 166) V rfl (fresh (by decide)) (fresh (by decide))

set_option maxRecDepth 16384 in
/-- Operation v126. -/
theorem v126_eq : v126 V = mulf (v123 V) (v106 V) :=
  read_binary writes_eq (i := 167) V rfl (fresh (by decide)) (fresh (by decide)) (fresh (by decide))

set_option maxRecDepth 16384 in
/-- Operation v127. -/
theorem v127_eq : v127 V = Host.negf (v126 V) :=
  read_unary writes_eq (i := 168) V rfl (fresh (by decide)) (fresh (by decide))

set_option maxRecDepth 16384 in
/-- Operation cst_19. -/
theorem cst_19_eq : cst_19 V = constant S_ .f32 0x00000000#32 :=
  read_nullary writes_eq (i := 169) V rfl (fresh (by decide))

set_option maxRecDepth 16384 in
/-- Operation v128. -/
theorem v128_eq : v128 V = Host.reduceAdd (v127 V) (cst_19 V) reducesTo_S2x16x2x4x128x256_S2x16x2x4x128_d5 h_S_ :=
  read_binary writes_eq (i := 170) V rfl (fresh (by decide)) (fresh (by decide)) (fresh (by decide))

set_option maxRecDepth 16384 in
/-- Operation v129. -/
theorem v129_eq : v129 V = shapeCast S2x16x2x4x128x1 (v128 V) shapeCasts_S2x16x2x4x128_S2x16x2x4x128x1 :=
  read_reshape writes_eq (i := 171) V rfl (fresh (by decide)) (fresh (by decide))

set_option maxRecDepth 16384 in
/-- Operation v130. -/
theorem v130_eq : v130 V = mulf (v129 V) (v103 V) :=
  read_binary writes_eq (i := 172) V rfl (fresh (by decide)) (fresh (by decide)) (fresh (by decide))

end Cert.ReferenceIdeal.Line

end
-- ==== Proof.RefOperands.lean ====
/-
  The reference's operands over the real numbers: keys, values, queries, the gate's input and the gradient that arrives at it.
-/
module

public import proofs.«01_k».proof.Proof.RefEqs0
public import proofs.«01_k».proof.Proof.RefEqs1
public import proofs.«01_k».proof.Proof.RefEqs2
public import proofs.«01_k».proof.Proof.RefEqs4
public import proofs.«01_k».proof.Proof.RefEqs5
public import proofs.«01_k».proof.Proof.AttnSeq
public import Idealize.ShloMosaic.Lib.Pointwise

@[expose] public section

set_option maxRecDepth 16384

noncomputable section

namespace Cert.ReferenceIdeal.Line

open Cert.ReferenceIdeal Cert.ReferenceIdeal.Gen Idealize.ShloMosaic Idealize.ShloMosaic.TcCoe Idealize.ShloMosaic.StableHlo
open Cert.Attn hiding sig

/-- What the line finds in the arguments that the results depend on is the layer `L`. -/
structure Reads (V : Valuation τ sig (Elt Ideal)) (L : Layer) : Prop where
  D : ∀ r k, arg0 V (ix2 r k) = (L.D r k : EReal)
  P : ∀ r k, arg1 V (ix2 r k) = (L.P r k : EReal)
  W : ∀ r k, arg4 V (ix2 r k) = (L.W r k : EReal)
  S : ∀ k, arg11 V (ix2 0 k) = (L.S k : EReal)

/-- A chunk's row in its sequence. -/
def spos (n : Fin 16) (i : Fin 128) : Fin 2048 := ⟨128 * n.val + i.val, by omega⟩

theorem zero_word : Ideal.ofBits .f32 0x00000000#32 = 0 := by simp [Ideal.ofBits, Ideal.ieee]
theorem eighth_word : Ideal.ofBits .f32 0x3E000000#32 = ((1 / 8 : ℝ) : EReal) := by
  simp [Ideal.ofBits, Ideal.ieee, -EReal.coe_mul]; norm_num
theorem neg_inf_word : Ideal.ofBits .f32 0xFF800000#32 = ⊥ := by simp [Ideal.ofBits, Ideal.ieee]
theorem inf_word : Ideal.ofBits .f32 0x7F800000#32 = ⊤ := by simp [Ideal.ofBits, Ideal.ieee]

variable {V : Valuation τ sig (Elt Ideal)} {L : Layer} (b : Fin 2) (n : Fin 16)

variable (h : Reads V L)
include h

/-- The keys that a chunk's queries see. -/
theorem key_apply (κ : Fin 256) (g : Fin 2) (d : Fin 64) : v15 V (ix5 b n κ g d) = ((L.tile b n).key g κ d : EReal) := by
  rw [v15_eq, v13_eq, v12_eq, v11_eq, cst_eq, v9_eq, v4_eq]
  pointwise []
  unfold Tile.key Tile.kv
  by_cases hκ : κ.val < 128
  · rw [dif_pos hκ, dif_pos hκ]
    by_cases hn : n.val < 1
    · rw [dif_pos hn]
      have h0 : n.val = 0 := by omega
      simp [Layer.tile, h0]
    · rw [dif_neg hn, h.P]
      have h0 : n.val ≠ 0 := by omega
      simp only [Layer.tile, h0, if_false, mul_one]
      refine congrArg _ (congrArg₂ _ (Fin.ext ?_) (Fin.ext ?_)) <;> simp only [prow, kcol, vcol] <;> omega
  · rw [dif_neg hκ, dif_neg hκ, h.P]
    refine congrArg _ (congrArg₂ L.P (Fin.ext ?_) (Fin.ext ?_)) <;> simp only [row, kcol, vcol] <;> omega

/-- The values. -/
theorem value_apply (κ : Fin 256) (g : Fin 2) (d : Fin 64) : v19 V (ix5 b n κ g d) = ((L.tile b n).val g κ d : EReal) := by
  rw [v19_eq, v17_eq, v16_eq, v11_eq, cst_eq, v10_eq, v5_eq]
  pointwise []
  unfold Tile.val Tile.kv
  by_cases hκ : κ.val < 128
  · rw [dif_pos hκ, dif_pos hκ]
    by_cases hn : n.val < 1
    · rw [dif_pos hn]
      have h0 : n.val = 0 := by omega
      simp [Layer.tile, h0]
    · rw [dif_neg hn, h.P]
      have h0 : n.val ≠ 0 := by omega
      simp only [Layer.tile, h0, if_false, mul_one]
      refine congrArg _ (congrArg₂ _ (Fin.ext ?_) (Fin.ext ?_)) <;> simp only [prow, kcol, vcol] <;> omega
  · rw [dif_neg hκ, dif_neg hκ, h.P]
    refine congrArg _ (congrArg₂ L.P (Fin.ext ?_) (Fin.ext ?_)) <;> simp only [row, kcol, vcol] <;> omega

/-- The queries. -/
theorem query_apply (i : Fin 128) (g : Fin 2) (a : Fin 4) (d : Fin 64) : v8 V (ix6 b n i g a d) = ((L.tile b n).qrow g a i d : EReal) := by
  rw [v8_eq, v3_eq]
  pointwise []
  rw [h.P]
  refine congrArg _ (congrArg₂ L.P (Fin.ext ?_) (Fin.ext ?_)) <;> simp only [row, qcol] <;> omega

/-- The scaled scores. -/
theorem score_apply (g : Fin 2) (a : Fin 4) (i : Fin 128) (κ : Fin 256) : v23 V (ix6 b n g a i κ) = ((L.tile b n).sc g a i κ : EReal) := by
  rw [v23_eq, v22_eq, cst_2_eq, v21_eq, v20_eq]
  pointwise []
  simp only [key_apply b n h, query_apply b n h, eighth_word, ← EReal.coe_mul, coe_sum]
  refine congrArg _ ?_
  show _ = score _ _ _
  unfold score
  simp only [mul_comm]

/-- The sinks. -/
theorem sink_apply (g : Fin 2) (a : Fin 4) : v55 V (ix6 0 0 g a 0 0) = ((L.tile b n).skl g a : EReal) := by
  rw [v55_eq, v54_eq, v7_eq, v6_eq]
  pointwise []
  rw [h.S]
  refine congrArg _ (congrArg L.S (Fin.ext ?_))
  simp only [lane]; omega

/-- The gate's input. -/
theorem gate_apply (i : Fin 128) (c : Fin 512) : v110 V (ix3 b (spos n i) c) = ((L.tile b n).z i c : EReal) := by
  rw [v110_eq, v2_eq]
  pointwise []
  rw [h.P]
  refine congrArg _ (congrArg₂ L.P (Fin.ext ?_) rfl)
  simp only [row, spos]; omega

/-- The gradient that arrives. -/
theorem ct_apply (i : Fin 128) (c : Fin 512) : v116 V (ix3 b (spos n i) c) = ((L.tile b n).ct i c : EReal) := by
  rw [v116_eq, v115_eq, v1_eq, v0_eq]
  pointwise []
  simp only [h.D, h.W, ← EReal.coe_mul, coe_sum]
  refine congrArg _ (Finset.sum_congr rfl fun x _ => congrArg₂ _ (congrArg₂ L.D (Fin.ext ?_) rfl) rfl)
  simp only [row, spos]; omega

end Cert.ReferenceIdeal.Line

end
-- ==== Proof.RefMask.lean ====
/-
  The mask that the reference builds is the band.
-/
module

public import proofs.«01_k».proof.Proof.RefEqs1
public import proofs.«01_k».proof.Proof.RefEqs2
public import proofs.«01_k».proof.Proof.AttnTile
public import Idealize.ShloMosaic.Lib.Pointwise

@[expose] public section

set_option maxRecDepth 16384

noncomputable section

namespace Cert.ReferenceIdeal.Line

open Cert.ReferenceIdeal Cert.ReferenceIdeal.Gen Idealize.ShloMosaic Idealize.ShloMosaic.TcCoe Idealize.ShloMosaic.StableHlo
open Cert.Attn hiding sig

variable {V : Valuation τ sig (Elt Ideal)} (b : Fin 2) (n : Fin 16)

/-- The band that the line builds. -/
theorem mask_apply (i : Fin 128) (g : Fin 2) (a : Fin 4) (κ : Fin 256) :
    v53_1 V (ix6 b n g a i κ) = if band (decide (n.val = 0)) i κ then 1#1 else 0#1 := by
  rw [v53_1_eq, v52_eq, v51_eq, v50_eq, v49_eq, v48_eq, v47_eq, v46_eq, v45_eq, v44_eq, c_6_eq, v43_eq, v42_eq, v41_eq, c_5_eq, v40_eq, v39_eq, v38_eq, v37_eq, v36_eq, v35_eq, c_4_eq, v34_eq, v33_eq, c_3_eq, v32_eq, v31_eq, v30_eq, v29_eq, v28_eq, c_eq, v27_eq, v26_eq, v25_eq, v24_eq]
  pointwise []
  have hi : ∀ (i : Fin 128) (κ : Fin 256), IntOp.andi
      (IntOp.cmpi CmpIPredicate.sge (IntOp.subi (BitVec.ofNat 32 i.val) (IntOp.subi (BitVec.ofNat 32 κ.val) 128#32)) 0#32)
      (IntOp.cmpi CmpIPredicate.slt (IntOp.subi (BitVec.ofNat 32 i.val) (IntOp.subi (BitVec.ofNat 32 κ.val) 128#32)) 128#32)
        = if band false i κ = true then 1#1 else 0#1 := by decide +kernel
  have hn : ∀ (n : Fin 16) (κ : Fin 256), IntOp.ori (IntOp.cmpi CmpIPredicate.sgt (BitVec.ofNat 32 n.val) 0#32)
      (IntOp.cmpi CmpIPredicate.sge (IntOp.subi (BitVec.ofNat 32 κ.val) 128#32) 0#32)
        = if n.val = 0 → 128 ≤ κ.val then 1#1 else 0#1 := by decide +kernel
  rw [hi, hn]
  simp only [band, decide_eq_true_eq, Bool.false_eq_true, false_implies, and_true]
  split_ifs <;> first | rfl | (exfalso; omega) | (exfalso; tauto)

end Cert.ReferenceIdeal.Line

end
-- ==== Proof.RefSum.lean ====
/-
  The reductions of the reference that run over six axes, read as sums.
-/
module

public import proofs.«01_k».proof.Proof.RefDefs
public import proofs.«01_k».proof.Proof.AttnSeq
public import Idealize.ShloMosaic.Lib.Pointwise

@[expose] public section

set_option maxRecDepth 16384

noncomputable section

namespace Cert.ReferenceIdeal.Line

open Cert.ReferenceIdeal Cert.ReferenceIdeal.Gen Idealize.ShloMosaic Idealize.ShloMosaic.TcCoe Idealize.ShloMosaic.StableHlo
open Cert.Attn hiding sig

/-- An index of the scores drops to a row exactly when it lies in the row. -/
theorem drop_last (h : S2x16x2x4x128x256.ReducesTo [5] S2x16x2x4x128) (b : Fin 2) (n : Fin 16) (g : Fin 2) (a : Fin 4) (i : Fin 128)
    (x : S2x16x2x4x128x256.Idx) : h.drop x = ix5 b n g a i ↔ ∃ κ : Fin 256, (ix6 b n g a i κ : S2x16x2x4x128x256.Idx) = x := by
  constructor
  · intro e
    refine ⟨x 5, ?_⟩
    funext k; apply Fin.ext
    match k with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨κ, rfl⟩
    funext k; apply Fin.ext
    match k with
    | ⟨0, _⟩ => rfl
    | ⟨1, _⟩ => rfl
    | ⟨2, _⟩ => rfl
    | ⟨3, _⟩ => rfl
    | ⟨4, _⟩ => rfl

/-- The sum over the keys of a row. -/
theorem sum_last (h : S2x16x2x4x128x256.ReducesTo [5] S2x16x2x4x128) (v : S2x16x2x4x128x256.Idx → EReal) (c : EReal)
    (b : Fin 2) (n : Fin 16) (g : Fin 2) (a : Fin 4) (i : Fin 128) :
    Ideal.hostReduceAdd h v c (ix5 b n g a i) = c + ∑ κ : Fin 256, v (ix6 b n g a i κ) :=
  congrArg (c + ·) (Finset.sum_filter_eq_sum_of_fiber _ (fun κ : Fin 256 => (ix6 b n g a i κ : S2x16x2x4x128x256.Idx))
    (fun _ _ e => congrFun e 5) (drop_last h b n g a i) v)

/-- The greatest over the keys of a row. -/
theorem max_last (h : S2x16x2x4x128x256.ReducesTo [5] S2x16x2x4x128) (v : FVec Ideal S2x16x2x4x128x256 .f32)
    (c : FVec Ideal S_ .f32) (hu : 0 < S_.numel) (b : Fin 2) (n : Fin 16) (g : Fin 2) (a : Fin 4) (i : Fin 128) :
    Host.reduce FloatOps.maximumf v c h hu (ix5 b n g a i)
      = Finset.univ.fold max (c (Shape.Idx.first hu)) (fun κ : Fin 256 => v (ix6 b n g a i κ)) := by
  rw [Host.reduce_eq_fold]
  exact Finset.fold_filter_eq_fold_of_fiber _ _ (fun κ : Fin 256 => (ix6 b n g a i κ : S2x16x2x4x128x256.Idx))
    (fun _ _ e => congrFun e 5) (drop_last h b n g a i) _ v

/-- The sum over an axis of one. -/
theorem sum_unit (h : S2x16x2x4x128x1.ReducesTo [5] S2x16x2x4x128) (v : S2x16x2x4x128x1.Idx → EReal) (c : EReal)
    (b : Fin 2) (n : Fin 16) (g : Fin 2) (a : Fin 4) (i : Fin 128) :
    Ideal.hostReduceAdd h v c (ix5 b n g a i) = c + v (ix6 b n g a i 0) := by
  refine congrArg (c + ·) ((Finset.sum_filter_eq_sum_of_fiber _ (fun κ : Fin 1 => (ix6 b n g a i κ : S2x16x2x4x128x1.Idx))
    (fun _ _ e => congrFun e 5) (fun x => ?_) v).trans (Fin.sum_univ_one _))
  constructor
  · intro e
    refine ⟨x 5, ?_⟩
    funext k; apply Fin.ext
    match k with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨κ, rfl⟩
    funext k; apply Fin.ext
    match k with
    | ⟨0, _⟩ => rfl
    | ⟨1, _⟩ => rfl
    | ⟨2, _⟩ => rfl
    | ⟨3, _⟩ => rfl
    | ⟨4, _⟩ => rfl

/-- The sum over every position of every sequence. -/
theorem sum_rows (h : S2x16x2x4x128x1.ReducesTo [0, 1, 4] S2x4x1) (v : S2x16x2x4x128x1.Idx → EReal) (c : EReal)
    (g : Fin 2) (a : Fin 4) :
    Ideal.hostReduceAdd h v c (ix3 g a 0) = c + ∑ b : Fin 2, ∑ n : Fin 16, ∑ i : Fin 128, v (ix6 b n g a i 0) := by
  refine congrArg (c + ·) ((Finset.sum_filter_eq_sum_of_fiber _
    (fun y : Fin 2 × Fin 16 × Fin 128 => (ix6 y.1 y.2.1 g a y.2.2 0 : S2x16x2x4x128x1.Idx))
    (fun _ _ e => Prod.ext (congrFun e 0) (Prod.ext (congrFun e 1) (congrFun e 4))) (fun x => ?_) v).trans ?_)
  · constructor
    · intro e
      refine ⟨(x 0, x 1, x 4), ?_⟩
      funext k; apply Fin.ext
      match k with
      | ⟨0, _⟩ => rfl
      | ⟨1, _⟩ => rfl
      | ⟨2, _⟩ => exact (congrArg Fin.val (congrFun e 0)).symm
      | ⟨3, _⟩ => exact (congrArg Fin.val (congrFun e 1)).symm
      | ⟨4, _⟩ => rfl
      | ⟨5, _⟩ => exact (congrArg Fin.val (congrFun e 2)).symm
    · rintro ⟨y, rfl⟩
      funext k; apply Fin.ext
      match k with
      | ⟨0, _⟩ => rfl
      | ⟨1, _⟩ => rfl
      | ⟨2, _⟩ => rfl
  · simp only [Fintype.sum_prod_type]

/-- The sum over axes of one. -/
theorem sum_ones (h : S1x1x2x4x1x1.ReducesTo [0, 1, 4, 5] S2x4) (v : S1x1x2x4x1x1.Idx → EReal) (c : EReal)
    (g : Fin 2) (a : Fin 4) : Ideal.hostReduceAdd h v c (ix2 g a) = c + v (ix6 0 0 g a 0 0) := by
  refine congrArg (c + ·) ((Finset.sum_filter_eq_sum_of_fiber _
    (fun _ : Fin 1 => (ix6 0 0 g a 0 0 : S1x1x2x4x1x1.Idx))
    (fun _ _ _ => Subsingleton.elim _ _) (fun x => ?_) v).trans (Fin.sum_univ_one _))
  constructor
  · intro e
    refine ⟨0, ?_⟩
    funext k; apply Fin.ext
    match k with
    | ⟨0, _⟩ => have := (x 0).isLt; change (x 0).val < 1 at this; change 0 = (x 0).val; omega
    | ⟨1, _⟩ => have := (x 1).isLt; change (x 1).val < 1 at this; change 0 = (x 1).val; omega
    | ⟨2, _⟩ => exact (congrArg Fin.val (congrFun e 0)).symm
    | ⟨3, _⟩ => exact (congrArg Fin.val (congrFun e 1)).symm
    | ⟨4, _⟩ => have := (x 4).isLt; change (x 4).val < 1 at this; change 0 = (x 4).val; omega
    | ⟨5, _⟩ => have := (x 5).isLt; change (x 5).val < 1 at this; change 0 = (x 5).val; omega
  · rintro ⟨y, rfl⟩
    funext k; apply Fin.ext
    match k with
    | ⟨0, _⟩ => rfl
    | ⟨1, _⟩ => rfl

end Cert.ReferenceIdeal.Line

end
-- ==== Proof.RefEqs3.lean ====
/-
  What the line of the reference leaves in each buffer, one equation for each operation: part 4.
-/
module

public import proofs.«01_k».proof.Proof.RefDefs
public import Idealize.ShloMosaic.Lib.StableHlo.RunRead
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 16384 in
/-- Operation v71. -/
theorem v71_eq : v71 V = maximumf (v69 V) (v70 V) :=
  read_binary writes_eq (i := 89) V rfl (fresh (by decide)) (fresh (by decide)) (fresh (by decide))

set_option maxRecDepth 16384 in
/-- Operation v72. -/
theorem v72_eq : v72 V = broadcastInDim S2x16x2x4x128x1 ![0, 1, 2, 3, 4, 5] bcast_S1x1x2x4x1x1_S2x16x2x4x128x1_0_1_2_3_4_5 (v55 V) :=
  read_unary writes_eq (i := 90) V rfl (fresh (by decide)) (fresh (by decide))

set_option maxRecDepth 16384 in
/-- Operation v73. -/
theorem v73_eq : v73 V = subf (v69 V) (v72 V) :=
  read_binary writes_eq (i := 91) V rfl (fresh (by decide)) (fresh (by decide)) (fresh (by decide))

set_option maxRecDepth 16384 in
/-- Operation v74. -/
theorem v74_eq : v74 V = cmpf .une (v73 V) (v73 V) :=
  read_binary writes_eq (i := 92) V rfl (fresh (by decide)) (fresh (by decide)) (fresh (by decide))

set_option maxRecDepth 16384 in
/-- Operation v75. -/
theorem v75_eq : v75 V = broadcastInDim S2x16x2x4x128x1 ![0, 1, 2, 3, 4, 5] bcast_S1x1x2x4x1x1_S2x16x2x4x128x1_0_1_2_3_4_5 (v55 V) :=
  read_unary writes_eq (i := 93) V rfl (fresh (by decide)) (fresh (by decide))

set_option maxRecDepth 16384 in
/-- Operation v76. -/
theorem v76_eq : v76 V = addf (v69 V) (v75 V) :=
  read_binary writes_eq (i := 94) V rfl (fresh (by decide)) (fresh (by decide)) (fresh (by decide))

set_option maxRecDepth 16384 in
/-- Operation v77. -/
theorem v77_eq : v77 V = Host.absf (v73 V) :=
  read_unary writes_eq (i := 95) V rfl (fresh (by decide)) (fresh (by decide))

set_option maxRecDepth 16384 in
/-- Operation v78. -/
theorem v78_eq : v78 V = Host.negf (v77 V) :=
  read_unary writes_eq (i := 96) V rfl (fresh (by decide)) (fresh (by decide))

set_option maxRecDepth 16384 in
/-- Operation v79. -/
theorem v79_eq : v79 V = Host.exp (v78 V) :=
  read_unary writes_eq (i := 97) V rfl (fresh (by decide)) (fresh (by decide))

set_option maxRecDepth 16384 in
/-- Operation v80. -/
theorem v80_eq : v80 V = Host.log1p (v79 V) :=
  read_unary writes_eq (i := 98) V rfl (fresh (by decide)) (fresh (by decide))

set_option maxRecDepth 16384 in
/-- Operation v81. -/
theorem v81_eq : v81 V = addf (v71 V) (v80 V) :=
  read_binary writes_eq (i := 99) V rfl (fresh (by decide)) (fresh (by decide)) (fresh (by decide))

set_option maxRecDepth 16384 in
/-- Operation v82. -/
theorem v82_eq : v82 V = select (v74 V) (v76 V) (v81 V) :=
  read_ternary writes_eq (i := 100) V rfl (fresh (by decide)) (fresh (by decide)) (fresh (by decide)) (fresh (by decide))

set_option maxRecDepth 16384 in
/-- Operation cst_11. -/
theorem cst_11_eq : cst_11 V = constant S_ .f32 0x7F800000#32 :=
  read_nullary writes_eq (i := 101) V rfl (fresh (by decide))

set_option maxRecDepth 16384 in
/-- Operation v83. -/
theorem v83_eq : v83 V = broadcastInDim S2x16x2x4x128x1 ![] bcast_S_S2x16x2x4x128x1 (cst_11 V) :=
  read_unary writes_eq (i := 102) V rfl (fresh (by decide)) (fresh (by decide))

set_option maxRecDepth 16384 in
/-- Operation v84. -/
theorem v84_eq : v84 V = cmpf .oeq (v69 V) (v83 V) :=
  read_binary writes_eq (i := 103) V rfl (fresh (by decide)) (fresh (by decide)) (fresh (by decide))

set_option maxRecDepth 16384 in
/-- Operation cst_12. -/
theorem cst_12_eq : cst_12 V = constant S_ .f32 0x00000000#32 :=
  read_nullary writes_eq (i := 104) V rfl (fresh (by decide))

set_option maxRecDepth 16384 in
/-- Operation v85. -/
theorem v85_eq : v85 V = broadcastInDim S2x16x2x4x128x1 ![] bcast_S_S2x16x2x4x128x1 (cst_12 V) :=
  read_unary writes_eq (i := 105) V rfl (fresh (by decide)) (fresh (by decide))

set_option maxRecDepth 16384 in
/-- Operation v86. -/
theorem v86_eq : v86 V = select (v84 V) (v85 V) (v69 V) :=
  read_ternary writes_eq (i := 106) V rfl (fresh (by decide)) (fresh (by decide)) (fresh (by decide)) (fresh (by decide))

set_option maxRecDepth 16384 in
/-- Operation cst_13. -/
theorem cst_13_eq : cst_13 V = constant S_ .f32 0x7F800000#32 :=
  read_nullary writes_eq (i := 107) V rfl (fresh (by decide))

set_option maxRecDepth 16384 in
/-- Operation v87. -/
theorem v87_eq : v87 V = broadcastInDim S2x16x2x4x128x1 ![] bcast_S_S2x16x2x4x128x1 (cst_13 V) :=
  read_unary writes_eq (i := 108) V rfl (fresh (by decide)) (fresh (by decide))

set_option maxRecDepth 16384 in
/-- Operation v88. -/
theorem v88_eq : v88 V = cmpf .oeq (v82 V) (v87 V) :=
  read_binary writes_eq (i := 109) V rfl (fresh (by decide)) (fresh (by decide)) (fresh (by decide))

set_option maxRecDepth 16384 in
/-- Operation cst_14. -/
theorem cst_14_eq : cst_14 V = constant S_ .f32 0x00000000#32 :=
  read_nullary writes_eq (i := 110) V rfl (fresh (by decide))

set_option maxRecDepth 16384 in
/-- Operation v89. -/
theorem v89_eq : v89 V = broadcastInDim S2x16x2x4x128x1 ![] bcast_S_S2x16x2x4x128x1 (cst_14 V) :=
  read_unary writes_eq (i := 111) V rfl (fresh (by decide)) (fresh (by decide))

set_option maxRecDepth 16384 in
/-- Operation v90. -/
theorem v90_eq : v90 V = select (v88 V) (v89 V) (v82 V) :=
  read_ternary writes_eq (i := 112) V rfl (fresh (by decide)) (fresh (by decide)) (fresh (by decide)) (fresh (by decide))

set_option maxRecDepth 16384 in
/-- Operation v91. -/
theorem v91_eq : v91 V = subf (v86 V) (v90 V) :=
  read_binary writes_eq (i := 113) V rfl (fresh (by decide)) (fresh (by decide)) (fresh (by decide))

set_option maxRecDepth 16384 in
/-- Operation v92. -/
theorem v92_eq : v92 V = Host.exp (v91 V) :=
  read_unary writes_eq (i := 114) V rfl (fresh (by decide)) (fresh (by decide))

set_option maxRecDepth 16384 in
/-- Operation cst_15. -/
theorem cst_15_eq : cst_15 V = constant S_ .f32 0x7F800000#32 :=
  read_nullary writes_eq (i := 115) V rfl (fresh (by decide))

end Cert.ReferenceIdeal.Line

end
-- ==== Proof.RefSoftmax.lean ====
/-
  The reference's softmax with a sink, over the real numbers.
-/
module

public import proofs.«01_k».proof.Proof.RefOperands
public import proofs.«01_k».proof.Proof.RefMask
public import proofs.«01_k».proof.Proof.RefSum
public import proofs.«01_k».proof.Proof.RefEqs3
public import Idealize.ShloMosaic.Lib.Pointwise

@[expose] public section

set_option maxRecDepth 16384

noncomputable section

namespace Cert.ReferenceIdeal.Line

open Cert.ReferenceIdeal Cert.ReferenceIdeal.Gen Idealize.ShloMosaic Idealize.ShloMosaic.TcCoe Idealize.ShloMosaic.StableHlo
open Cert.Attn hiding sig

/-- The logarithm of a sum of two exponentials, from the greater of the two logarithms. -/
theorem _root_.Cert.Attn.log_add_exp (x y : ℝ) :
    (if ((x : EReal) - (y : EReal)) ≠ ((x : EReal) - (y : EReal)) then (x : EReal) + (y : EReal)
      else max (x : EReal) (y : EReal) + Ideal.log1p (Ideal.exp (-FloatOps.absf (F := Ideal) (φ := .f32) ((x : EReal) - (y : EReal)))))
      = ((Real.log (Real.exp x + Real.exp y) : ℝ) : EReal) := by
  rw [if_neg (not_not.mpr rfl)]
  have e1 : FloatOps.absf (F := Ideal) (φ := .f32) ((x : EReal) - (y : EReal)) = ((|x - y| : ℝ) : EReal) := by
    show max ((x : EReal) - (y : EReal)) (-((x : EReal) - (y : EReal))) = _
    rw [← EReal.coe_sub, ← EReal.coe_neg, max_coe]; rfl
  have e2 : Ideal.log1p (((Real.exp (-|x - y|)) : ℝ) : EReal) = ((Real.log (1 + Real.exp (-|x - y|)) : ℝ) : EReal) := by
    have hp : 0 < 1 + Real.exp (-|x - y|) := by positivity
    show Ideal.log (1 + _) = _
    rw [← EReal.coe_one, ← EReal.coe_add, Ideal.log_coe, if_neg (not_le.mpr hp)]
  rw [e1, ← EReal.coe_neg, Ideal.exp_coe, e2, max_coe, ← EReal.coe_add]
  refine congrArg _ ?_
  have hp : 0 < 1 + Real.exp (-|x - y|) := by positivity
  rw [← Real.log_exp (max x y), ← Real.log_mul (Real.exp_pos _).ne' hp.ne', mul_add, mul_one, ← Real.exp_add]
  refine congrArg _ ?_
  rcases le_total x y with h | h
  · rw [max_eq_right h, abs_of_nonpos (sub_nonpos.mpr h), add_comm]
    refine congrArg₂ _ (congrArg _ ?_) rfl
    ring
  · rw [max_eq_left h, abs_of_nonneg (sub_nonneg.mpr h)]
    refine congrArg₂ _ rfl (congrArg _ ?_)
    ring

/-- The sum of a row's exponentials. -/
theorem _root_.Cert.Attn.sum_ex_pos {M : Fin 256 → Bool} (s : Fin 256 → ℝ) (hM : ∃ κ, M κ = true) : 0 < ∑ κ, ex M s κ := by
  obtain ⟨κ₀, h₀⟩ := hM
  refine Finset.sum_pos' (fun κ _ => ex_nonneg M s κ) ⟨κ₀, Finset.mem_univ _, ?_⟩
  simp only [ex, h₀, if_true]
  exact Real.exp_pos _

variable {V : Valuation τ sig (Elt Ideal)} {L : Layer} (b : Fin 2) (n : Fin 16) (h : Reads V L)
include h

/-- The masked scores. -/
theorem masked_apply (g : Fin 2) (a : Fin 4) (i : Fin 128) (κ : Fin 256) :
    v53_0 V (ix6 b n g a i κ) = if (L.tile b n).M i κ then (((L.tile b n).sc g a i κ : ℝ) : EReal) else ⊥ := by
  rw [v53_0_eq, call0_v2_eq, call0_v0_eq, cst_7_eq]
  pointwise []
  rw [mask_apply, score_apply b n h, show id (constant (F := Ideal) S_ .f32 0xFF800000#32) ix0 = ⊥ from neg_inf_word]
  show _ = if band (decide (n.val = 0)) i κ = true then _ else _
  cases band (decide (n.val = 0)) i κ
  · rfl
  · rfl

/-- The greatest score of a row is a real number. -/
theorem max_real (g : Fin 2) (a : Fin 4) (i : Fin 128) : ∃ r : ℝ, v56 V (ix5 b n g a i) = (r : EReal) := by
  obtain ⟨κ₀, h₀⟩ := band_self (decide (n.val = 0)) i
  rw [v56_eq, max_last, cst_8_eq, show constant (F := Ideal) S_ .f32 0xFF800000#32 (Shape.Idx.first h_S_) = ⊥ from neg_inf_word]
  simp only [masked_apply b n h]
  obtain ⟨r, hr⟩ := fold_max_real (fun κ : Fin 256 => if (L.tile b n).M i κ then (((L.tile b n).sc g a i κ : ℝ) : EReal) else ⊥)
    (fun κ => by cases (L.tile b n).M i κ <;> simp) κ₀ (by
    rw [show (L.tile b n).M i κ₀ = true from h₀]; simp)
  exact ⟨r, hr⟩

/-- The exponentials of the scores, shifted by it. -/
theorem exps_apply {g : Fin 2} {a : Fin 4} {i : Fin 128} {m : ℝ} (hm : v56 V (ix5 b n g a i) = (m : EReal)) (κ : Fin 256) :
    v65 V (ix6 b n g a i κ) = ((ex ((L.tile b n).M i) ((L.tile b n).sc g a i) κ * Real.exp (-m) : ℝ) : EReal) := by
  rw [v65_eq, v64_eq, v63_eq, v62_eq]
  pointwise []
  rw [masked_apply b n h, hm, exp_masked, ← ex_shift]
  rfl

/-- Their sum. -/
theorem expSum_apply {g : Fin 2} {a : Fin 4} {i : Fin 128} {m : ℝ} (hm : v56 V (ix5 b n g a i) = (m : EReal)) :
    v67 V (ix6 b n g a i 0) = (((∑ κ, ex ((L.tile b n).M i) ((L.tile b n).sc g a i) κ) * Real.exp (-m) : ℝ) : EReal) := by
  rw [v67_eq, v66_eq, cst_10_eq]
  pointwise []
  simp only [sum_last, exps_apply b n h hm, coe_sum, zero_word, zero_add, Finset.sum_mul]

/-- The logarithm of the sum of a row's exponentials. -/
theorem lse_apply (g : Fin 2) (a : Fin 4) (i : Fin 128) :
    v69 V (ix6 b n g a i 0) = ((Real.log (∑ κ, ex ((L.tile b n).M i) ((L.tile b n).sc g a i) κ) : ℝ) : EReal) := by
  obtain ⟨m, hm⟩ := max_real b n h g a i
  have hp := sum_ex_pos ((L.tile b n).sc g a i) (band_self (decide (n.val = 0)) i)
  rw [v69_eq, v68_eq, v62_eq]
  pointwise []
  rw [hm, expSum_apply b n h hm]
  rw [Ideal.log_coe, if_neg (not_le.mpr (mul_pos (show 0 < ∑ κ, ex ((L.tile b n).M i) ((L.tile b n).sc g a i) κ from hp) (Real.exp_pos (-m)))), ← EReal.coe_add]
  refine congrArg _ ?_
  rw [Real.log_mul (show (∑ κ, ex ((L.tile b n).M i) ((L.tile b n).sc g a i) κ) ≠ 0 from hp.ne') (Real.exp_pos _).ne', Real.log_exp]
  exact neg_add_cancel_right _ _

/-- … with the sink's. -/
theorem lseSink_apply (g : Fin 2) (a : Fin 4) (i : Fin 128) :
    v82 V (ix6 b n g a i 0)
      = ((Real.log (den ((L.tile b n).M i) ((L.tile b n).sc g a i) ((L.tile b n).skl g a)) : ℝ) : EReal) := by
  have hp := sum_ex_pos ((L.tile b n).sc g a i) (band_self (decide (n.val = 0)) i)
  rw [v82_eq, v81_eq, v80_eq, v79_eq, v78_eq, v77_eq, v76_eq, v75_eq, v74_eq, v73_eq, v72_eq, v71_eq, v70_eq]
  pointwise []
  rw [lse_apply b n h, sink_apply b n h]
  rw [log_add_exp]
  refine congrArg _ (congrArg _ ?_)
  rw [Real.exp_log (show 0 < ∑ κ, ex ((L.tile b n).M i) ((L.tile b n).sc g a i) κ from hp)]
  rfl

end Cert.ReferenceIdeal.Line

end
-- ==== Proof.RefProb.lean ====
/-
  The reference's probabilities, over the real numbers.
-/
module

public import proofs.«01_k».proof.Proof.RefSoftmax
public import proofs.«01_k».proof.Proof.RefEqs3
public import proofs.«01_k».proof.Proof.RefEqs4
public import Idealize.ShloMosaic.Lib.Pointwise

@[expose] public section

set_option maxRecDepth 16384

noncomputable section

namespace Cert.ReferenceIdeal.Line

open Cert.ReferenceIdeal Cert.ReferenceIdeal.Gen Idealize.ShloMosaic Idealize.ShloMosaic.TcCoe Idealize.ShloMosaic.StableHlo
open Cert.Attn hiding sig

variable {V : Valuation τ sig (Elt Ideal)} {L : Layer} (b : Fin 2) (n : Fin 16) (h : Reads V L)
include h

/-- The share of the keys. -/
theorem share_apply (g : Fin 2) (a : Fin 4) (i : Fin 128) :
    v92 V (ix6 b n g a i 0) = (((∑ κ, ex ((L.tile b n).M i) ((L.tile b n).sc g a i) κ)
      / den ((L.tile b n).M i) ((L.tile b n).sc g a i) ((L.tile b n).skl g a) : ℝ) : EReal) := by
  have hp : 0 < ∑ κ, ex ((L.tile b n).M i) ((L.tile b n).sc g a i) κ :=
    sum_ex_pos ((L.tile b n).sc g a i) (band_self (decide (n.val = 0)) i)
  rw [v92_eq, v91_eq, v90_eq, v89_eq, v88_eq, v87_eq, v86_eq, v85_eq, v84_eq, v83_eq, cst_11_eq, cst_12_eq, cst_13_eq, cst_14_eq]
  pointwise []
  rw [lse_apply b n h, lseSink_apply b n h]
  simp only [zero_word, inf_word, EReal.coe_ne_top, if_false]
  rw [← EReal.coe_sub, Ideal.exp_coe, Real.exp_sub, Real.exp_log hp, Real.exp_log (den_pos _ _ _)]

/-- The share of the sink. -/
theorem prob0_apply (g : Fin 2) (a : Fin 4) (i : Fin 128) :
    v103 V (ix6 b n g a i 0)
      = ((prob0 ((L.tile b n).M i) ((L.tile b n).sc g a i) ((L.tile b n).skl g a) : ℝ) : EReal) := by
  rw [v103_eq, v102_eq, v101_eq, v100_eq, v99_eq, v98_eq, v97_eq, v96_eq, v95_eq, v94_eq, v93_eq, cst_15_eq, cst_16_eq, cst_17_eq,
    cst_18_eq]
  pointwise []
  rw [sink_apply b n h, lseSink_apply b n h]
  simp only [zero_word, inf_word, EReal.coe_ne_top, if_false]
  rw [← EReal.coe_sub, Ideal.exp_coe, Real.exp_sub, Real.exp_log (den_pos _ _ _)]
  rfl

/-- The probabilities. -/
theorem prob_apply (g : Fin 2) (a : Fin 4) (i : Fin 128) (κ : Fin 256) :
    v106 V (ix6 b n g a i κ)
      = ((prob ((L.tile b n).M i) ((L.tile b n).sc g a i) ((L.tile b n).skl g a) κ : ℝ) : EReal) := by
  rw [v106_eq, v105_eq, v104_eq]
  pointwise []
  rw [masked_apply b n h, lseSink_apply b n h, exp_masked]
  refine congrArg _ ?_
  unfold prob ex
  cases (L.tile b n).M i κ
  · simp
  · simp [Real.exp_sub, Real.exp_log (den_pos _ _ _), ex]

end Cert.ReferenceIdeal.Line

end
-- ==== Proof.RefEqs6.lean ====
/-
  What the line of the reference leaves in each buffer, one equation for each operation: part 7.
-/
module

public import proofs.«01_k».proof.Proof.RefDefs
public import Idealize.ShloMosaic.Lib.StableHlo.RunRead
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 16384 in
/-- Operation cst_20. -/
theorem cst_20_eq : cst_20 V = constant S_ .f32 0x00000000#32 :=
  read_nullary writes_eq (i := 173) V rfl (fresh (by decide))

set_option maxRecDepth 16384 in
/-- Operation v131. -/
theorem v131_eq : v131 V = Host.reduceAdd (v130 V) (cst_20 V) reducesTo_S2x16x2x4x128x1_S2x4x1_d0_1_4 h_S_ :=
  read_binary writes_eq (i := 174) V rfl (fresh (by decide)) (fresh (by decide)) (fresh (by decide))

set_option maxRecDepth 16384 in
/-- Operation v132. -/
theorem v132_eq : v132 V = shapeCast S1x1x2x4x1x1 (v131 V) shapeCasts_S2x4x1_S1x1x2x4x1x1 :=
  read_reshape writes_eq (i := 175) V rfl (fresh (by decide)) (fresh (by decide))

set_option maxRecDepth 16384 in
/-- Operation v133. -/
theorem v133_eq : v133 V = mulf (v129 V) (v92 V) :=
  read_binary writes_eq (i := 176) V rfl (fresh (by decide)) (fresh (by decide)) (fresh (by decide))

set_option maxRecDepth 16384 in
/-- Operation v134. -/
theorem v134_eq : v134 V = Host.divf (v133 V) (v67 V) :=
  read_binary writes_eq (i := 177) V rfl (fresh (by decide)) (fresh (by decide)) (fresh (by decide))

set_option maxRecDepth 16384 in
/-- Operation cst_21. -/
theorem cst_21_eq : cst_21 V = constant S_ .f32 0x00000000#32 :=
  read_nullary writes_eq (i := 178) V rfl (fresh (by decide))

set_option maxRecDepth 16384 in
/-- Operation v135. -/
theorem v135_eq : v135 V = Host.reduceAdd (v134 V) (cst_21 V) reducesTo_S2x16x2x4x128x1_S2x16x2x4x128_d5 h_S_ :=
  read_binary writes_eq (i := 179) V rfl (fresh (by decide)) (fresh (by decide)) (fresh (by decide))

set_option maxRecDepth 16384 in
/-- Operation v136. -/
theorem v136_eq : v136 V = broadcastInDim S2x16x2x4x128x256 ![0, 1, 2, 3, 4] bcast_S2x16x2x4x128_S2x16x2x4x128x256_0_1_2_3_4 (v135 V) :=
  read_unary writes_eq (i := 180) V rfl (fresh (by decide)) (fresh (by decide))

set_option maxRecDepth 16384 in
/-- Operation v137. -/
theorem v137_eq : v137 V = mulf (v136 V) (v65 V) :=
  read_binary writes_eq (i := 181) V rfl (fresh (by decide)) (fresh (by decide)) (fresh (by decide))

set_option maxRecDepth 16384 in
/-- Operation v138. -/
theorem v138_eq : v138 V = addf (v126 V) (v137 V) :=
  read_binary writes_eq (i := 182) V rfl (fresh (by decide)) (fresh (by decide)) (fresh (by decide))

set_option maxRecDepth 16384 in
/-- Operation cst_22. -/
theorem cst_22_eq : cst_22 V = constant S_ .f32 0x00000000#32 :=
  read_nullary writes_eq (i := 183) V rfl (fresh (by decide))

set_option maxRecDepth 16384 in
/-- Operation v139. -/
theorem v139_eq : v139 V = Host.reduceAdd (v132 V) (cst_22 V) reducesTo_S1x1x2x4x1x1_S2x4_d0_1_4_5 h_S_ :=
  read_binary writes_eq (i := 184) V rfl (fresh (by decide)) (fresh (by decide)) (fresh (by decide))

set_option maxRecDepth 16384 in
/-- Operation v140. -/
theorem v140_eq : v140 V = shapeCast S8 (v139 V) shapeCasts_S2x4_S8 :=
  read_reshape writes_eq (i := 185) V rfl (fresh (by decide)) (fresh (by decide))

set_option maxRecDepth 16384 in
/-- Operation call3_cst. -/
theorem call3_cst_eq : call3_cst V = (constant S_ .f32 0x00000000#32) :=
  read_nullary writes_eq (i := 186) V rfl (fresh (by decide))

set_option maxRecDepth 16384 in
/-- Operation call3_v0. -/
theorem call3_v0_eq : call3_v0 V = (broadcastInDim S2x16x2x4x128x256 ![] bcast_S_S2x16x2x4x128x256) (call3_cst V) :=
  read_unary writes_eq (i := 187) V rfl (fresh (by decide)) (fresh (by decide))

set_option maxRecDepth 16384 in
/-- Operation v141. -/
theorem v141_eq : v141 V = select (v53_1 V) (v138 V) (call3_v0 V) :=
  read_ternary writes_eq (i := 188) V rfl (fresh (by decide)) (fresh (by decide)) (fresh (by decide)) (fresh (by decide))

set_option maxRecDepth 16384 in
/-- Operation cst_23. -/
theorem cst_23_eq : cst_23 V = constant S_ .f32 0x3E000000#32 :=
  read_nullary writes_eq (i := 189) V rfl (fresh (by decide))

set_option maxRecDepth 16384 in
/-- Operation v142. -/
theorem v142_eq : v142 V = broadcastInDim S2x16x2x4x128x256 ![] bcast_S_S2x16x2x4x128x256 (cst_23 V) :=
  read_unary writes_eq (i := 190) V rfl (fresh (by decide)) (fresh (by decide))

set_option maxRecDepth 16384 in
/-- Operation v143. -/
theorem v143_eq : v143 V = mulf (v141 V) (v142 V) :=
  read_binary writes_eq (i := 191) V rfl (fresh (by decide)) (fresh (by decide)) (fresh (by decide))

set_option maxRecDepth 16384 in
/-- Operation v144. -/
theorem v144_eq : v144 V = transpose S2x16x2x256x128x4 [0, 1, 2, 5, 4, 3] (v143 V) transposes_S2x16x2x4x128x256_S2x16x2x256x128x4_0_1_2_5_4_3 :=
  read_unary writes_eq (i := 192) V rfl (fresh (by decide)) (fresh (by decide))

set_option maxRecDepth 16384 in
/-- Operation v145. -/
theorem v145_eq : v145 V = Host.dotGeneral dot_S2x16x2x256x128x4_S2x16x256x2x64_S2x16x2x128x4x64_3_2_45_4_012_013 none (v144 V) (v15 V) :=
  read_binary writes_eq (i := 193) V rfl (fresh (by decide)) (fresh (by decide)) (fresh (by decide))

set_option maxRecDepth 16384 in
/-- Operation v146. -/
theorem v146_eq : v146 V = transpose S2x16x128x2x4x64 [0, 1, 3, 2, 4, 5] (v145 V) transposes_S2x16x2x128x4x64_S2x16x128x2x4x64_0_1_3_2_4_5 :=
  read_unary writes_eq (i := 194) V rfl (fresh (by decide)) (fresh (by decide))

set_option maxRecDepth 16384 in
/-- Operation v147. -/
theorem v147_eq : v147 V = Host.dotGeneral dot_S2x16x2x256x128x4_S2x16x128x2x4x64_S2x16x2x256x64_45_24_3_5_012_013 none (v144 V) (v8 V) :=
  read_binary writes_eq (i := 195) V rfl (fresh (by decide)) (fresh (by decide)) (fresh (by decide))

set_option maxRecDepth 16384 in
/-- Operation v148. -/
theorem v148_eq : v148 V = transpose S2x16x256x2x64 [0, 1, 3, 2, 4] (v147 V) transposes_S2x16x2x256x64_S2x16x256x2x64_0_1_3_2_4 :=
  read_unary writes_eq (i := 196) V rfl (fresh (by decide)) (fresh (by decide))

set_option maxRecDepth 16384 in
/-- Operation v149. -/
theorem v149_eq : v149 V = extractStridedSlice S2x16x128x2x64 ![0, 0, 0, 0, 0] (v125 V) slices_S2x16x256x2x64_S2x16x128x2x64_0_0_0_0_0 :=
  read_unary writes_eq (i := 197) V rfl (fresh (by decide)) (fresh (by decide))

set_option maxRecDepth 16384 in
/-- Operation v150. -/
theorem v150_eq : v150 V = extractStridedSlice S2x16x128x2x64 ![0, 0, 128, 0, 0] (v125 V) slices_S2x16x256x2x64_S2x16x128x2x64_0_0_128_0_0 :=
  read_unary writes_eq (i := 198) V rfl (fresh (by decide)) (fresh (by decide))

set_option maxRecDepth 16384 in
/-- Operation v152. -/
theorem v152_eq : v152 V = extractStridedSlice S2x15x128x2x64 ![0, 1, 0, 0, 0] (v149 V) slices_S2x16x128x2x64_S2x15x128x2x64_0_1_0_0_0 :=
  read_unary writes_eq (i := 200) V rfl (fresh (by decide)) (fresh (by decide))

end Cert.ReferenceIdeal.Line

end
-- ==== Proof.RefGate.lean ====
/-
  The gate of the reference and the gradient behind it, over the real numbers.
-/
module

public import proofs.«01_k».proof.Proof.RefProb
public import proofs.«01_k».proof.Proof.RefEqs4
public import proofs.«01_k».proof.Proof.RefEqs5
public import proofs.«01_k».proof.Proof.RefEqs6
public import Idealize.ShloMosaic.Lib.Pointwise

@[expose] public section

set_option maxRecDepth 16384

noncomputable section

namespace Cert.ReferenceIdeal.Line

open Cert.ReferenceIdeal Cert.ReferenceIdeal.Gen Idealize.ShloMosaic Idealize.ShloMosaic.TcCoe Idealize.ShloMosaic.StableHlo
open Cert.Attn hiding sig

variable {V : Valuation τ sig (Elt Ideal)} {L : Layer} (b : Fin 2) (n : Fin 16) (h : Reads V L)
include h

/-- The output of the attention. -/
theorem out_apply (g : Fin 2) (a : Fin 4) (i : Fin 128) (d : Fin 64) :
    v109 V (ix3 b (spos n i) (qcol g a d)) = (((L.tile b n).out g a i d : ℝ) : EReal) := by
  rw [v109_eq, v108_eq, v107_eq]
  pointwise []
  have e1 : ∀ p, (⟨(spos n i).val / 128, p⟩ : Fin 16) = n := fun p => Fin.ext (by simp only [spos]; omega)
  have e2 : ∀ p, (⟨(spos n i).val % 128, p⟩ : Fin 128) = i := fun p => Fin.ext (by simp only [spos]; omega)
  have e3 : ∀ p, (⟨(qcol g a d).val / 256, p⟩ : Fin 2) = g := fun p => Fin.ext (by simp only [qcol]; omega)
  have e4 : ∀ p, (⟨(qcol g a d).val / 64 % 4, p⟩ : Fin 4) = a := fun p => Fin.ext (by simp only [qcol]; omega)
  have e5 : ∀ p, (⟨(qcol g a d).val % 64, p⟩ : Fin 64) = d := fun p => Fin.ext (by simp only [qcol]; omega)
  simp only [e1, e2, e3, e4, e5, value_apply b n h, prob_apply b n h, ← EReal.coe_mul, coe_sum]
  exact congrArg _ (Finset.sum_congr rfl fun κ _ => mul_comm _ _)

/-- The logistic function of the gate's input. -/
theorem sig_apply (i : Fin 128) (c : Fin 512) :
    v111_2 V (ix3 b (spos n i) c) = ((Cert.Attn.sig ((L.tile b n).z i c) : ℝ) : EReal) := by
  rw [v111_2_eq, call1_v4_eq, call1_v3_eq, call1_v2_eq, call1_v1_eq, call1_v0_eq, call1_cst_eq, call1_cst_0_eq]
  pointwise []
  rw [gate_apply b n h]
  have hp : (1 + Real.exp (-((L.tile b n).z i c))) ≠ 0 := by positivity
  rw [← EReal.coe_neg, Ideal.exp_coe, ← EReal.coe_one, ← EReal.coe_add, div_coe_coe _ hp, one_div]
  rfl

/-- Its gradient. -/
theorem dsig_apply (i : Fin 128) (c : Fin 512) : v111_1 V (ix3 b (spos n i) c)
    = ((Cert.Attn.sig ((L.tile b n).z i c) * (1 - Cert.Attn.sig ((L.tile b n).z i c)) : ℝ) : EReal) := by
  rw [v111_1_eq, call1_v7_eq, call1_v6_eq, call1_cst_1_eq]
  pointwise []
  rw [sig_apply b n h]
  rw [← EReal.coe_one, ← EReal.coe_sub, ← EReal.coe_mul]

/-- The gate. -/
theorem silu_apply (i : Fin 128) (c : Fin 512) : v111_0 V (ix3 b (spos n i) c)
    = ((((L.tile b n).z i c) * Cert.Attn.sig ((L.tile b n).z i c) : ℝ) : EReal) := by
  rw [v111_0_eq]
  pointwise []
  rw [sig_apply b n h, gate_apply b n h]
  rfl

/-- The gradient of the gate's input. -/
theorem dz_apply (g : Fin 2) (a : Fin 4) (i : Fin 128) (d : Fin 64) :
    v119 V (ix3 b (spos n i) (qcol g a d)) = (((L.tile b n).dz g a i d : ℝ) : EReal) := by
  rw [v119_eq, call2_v1_eq, call2_v2_eq, call2_v0_eq, v117_eq]
  pointwise []
  rw [gate_apply b n h, sig_apply b n h, dsig_apply b n h, ct_apply b n h, out_apply b n h]
  rfl

/-- The gradient of the gate's input, a row of the whole sequence. -/
theorem dzRow_apply (g : Fin 2) (a : Fin 4) (i : Fin 128) (d : Fin 64) :
    v120 V (ix2 (row b n i) (qcol g a d)) = (((L.tile b n).dz g a i d : ℝ) : EReal) := by
  rw [v120_eq]
  pointwise []
  rw [← dz_apply b n h]
  refine congrArg (v119 V) ?_
  have e1 : ∀ p, (⟨(row b n i).val / 2048, p⟩ : Fin 2) = b := fun p => Fin.ext (by simp only [row]; omega)
  have e2 : ∀ p, (⟨(row b n i).val % 2048, p⟩ : Fin 2048) = spos n i := fun p => Fin.ext (by simp only [row, spos]; omega)
  rw [e1, e2]

/-- The gradient behind the gate. -/
theorem fx_apply (g : Fin 2) (a : Fin 4) (i : Fin 128) (d : Fin 64) :
    v122 V (ix6 b n g d a i) = (((L.tile b n).fx g a i d : ℝ) : EReal) := by
  have e : v118 V (ix3 b (spos n i) (qcol g a d)) = (((L.tile b n).fx g a i d : ℝ) : EReal) := by
    rw [v118_eq]
    pointwise []
    rw [ct_apply b n h, silu_apply b n h]
    rfl
  rw [v122_eq, v121_eq]
  pointwise []
  rw [← e]
  refine congrArg (v118 V) ?_
  have e1 : ∀ p, (⟨n.val * 128 + i.val, p⟩ : Fin 2048) = spos n i := fun p => Fin.ext (by simp only [spos]; omega)
  have e2 : ∀ p, (⟨g.val * 256 + a.val * 64 + d.val, p⟩ : Fin 512) = qcol g a d := fun p => Fin.ext (by simp only [qcol]; omega)
  rw [e1, e2]

end Cert.ReferenceIdeal.Line

end
-- ==== Proof.RefGrad.lean ====
/-
  The gradients of the reference, chunk by chunk, over the real numbers.
-/
module

public import proofs.«01_k».proof.Proof.RefGate
public import proofs.«01_k».proof.Proof.RefEqs5
public import proofs.«01_k».proof.Proof.RefEqs6
public import Idealize.ShloMosaic.Lib.Pointwise

@[expose] public section

set_option maxRecDepth 16384

noncomputable section

namespace Cert.ReferenceIdeal.Line

open Cert.ReferenceIdeal Cert.ReferenceIdeal.Gen Idealize.ShloMosaic Idealize.ShloMosaic.TcCoe Idealize.ShloMosaic.StableHlo
open Cert.Attn hiding sig

/-- A choice, by its bit. -/
theorem select_zero (x y : EReal) : Scalar.select (if false = true then 1#1 else 0#1) x y = y := rfl
theorem select_one (x y : EReal) : Scalar.select 1#1 x y = x := rfl

variable {V : Valuation τ sig (Elt Ideal)} {L : Layer} (b : Fin 2) (n : Fin 16) (h : Reads V L)
include h

/-- The gradient at the probabilities. -/
theorem fb_apply (g : Fin 2) (a : Fin 4) (i : Fin 128) (κ : Fin 256) :
    v123 V (ix6 b n g a i κ) = ((fb ((L.tile b n).fx g a i) ((L.tile b n).val g) κ : ℝ) : EReal) := by
  rw [v123_eq]
  pointwise []
  simp only [fx_apply b n h, value_apply b n h, ← EReal.coe_mul, coe_sum]
  rfl

/-- The gradient of the values, both chunks' rows. -/
theorem dv_apply (κ : Fin 256) (g : Fin 2) (d : Fin 64) :
    v125 V (ix5 b n κ g d) = (((L.tile b n).dv g κ d : ℝ) : EReal) := by
  rw [v125_eq, v124_eq]
  pointwise []
  simp only [fx_apply b n h, prob_apply b n h, ← EReal.coe_mul, coe_sum]
  rfl

/-- That gradient, weighted by the probability. -/
theorem weighted_apply (g : Fin 2) (a : Fin 4) (i : Fin 128) (κ : Fin 256) :
    v126 V (ix6 b n g a i κ) = ((fb ((L.tile b n).fx g a i) ((L.tile b n).val g) κ
      * prob ((L.tile b n).M i) ((L.tile b n).sc g a i) ((L.tile b n).skl g a) κ : ℝ) : EReal) := by
  rw [v126_eq]
  pointwise []
  rw [fb_apply b n h, prob_apply b n h, ← EReal.coe_mul]

/-- The mean, negated. -/
theorem mean_apply (g : Fin 2) (a : Fin 4) (i : Fin 128) :
    v129 V (ix6 b n g a i 0) = ((-mean ((L.tile b n).M i) ((L.tile b n).sc g a i) ((L.tile b n).skl g a)
      (fb ((L.tile b n).fx g a i) ((L.tile b n).val g)) : ℝ) : EReal) := by
  rw [v129_eq, v128_eq, v127_eq, cst_19_eq]
  pointwise []
  simp only [sum_last, zero_word, zero_add]
  pointwise []
  simp only [weighted_apply b n h, ← EReal.coe_neg, coe_sum]
  refine congrArg _ ?_
  rw [Finset.sum_neg_distrib]
  rfl

/-- The gradient of a row's sink. -/
theorem dsk_apply (g : Fin 2) (a : Fin 4) (i : Fin 128) :
    v130 V (ix6 b n g a i 0) = ((dsk ((L.tile b n).M i) ((L.tile b n).sc g a i) ((L.tile b n).skl g a)
      (fb ((L.tile b n).fx g a i) ((L.tile b n).val g)) : ℝ) : EReal) := by
  rw [v130_eq]
  pointwise []
  rw [mean_apply b n h, prob0_apply b n h, ← EReal.coe_mul]
  rfl

/-- What reaches the scores through the sum of the exponentials. -/
theorem through_apply (g : Fin 2) (a : Fin 4) (i : Fin 128) (κ : Fin 256) :
    v137 V (ix6 b n g a i κ) = ((-mean ((L.tile b n).M i) ((L.tile b n).sc g a i) ((L.tile b n).skl g a)
      (fb ((L.tile b n).fx g a i) ((L.tile b n).val g))
      * prob ((L.tile b n).M i) ((L.tile b n).sc g a i) ((L.tile b n).skl g a) κ : ℝ) : EReal) := by
  obtain ⟨m, hm⟩ := max_real b n h g a i
  have hp : 0 < ∑ κ, ex ((L.tile b n).M i) ((L.tile b n).sc g a i) κ :=
    sum_ex_pos ((L.tile b n).sc g a i) (band_self (decide (n.val = 0)) i)
  rw [v137_eq, v136_eq, v135_eq, v134_eq, v133_eq, cst_21_eq]
  pointwise []
  simp only [sum_unit, zero_word, zero_add]
  pointwise []
  rw [mean_apply b n h, share_apply b n h, expSum_apply b n h hm, exps_apply b n h hm, ← EReal.coe_mul,
    div_coe_coe _ (mul_pos hp (Real.exp_pos (-m))).ne', ← EReal.coe_mul]
  refine congrArg _ ?_
  unfold prob
  have hd := (den_pos ((L.tile b n).M i) ((L.tile b n).sc g a i) ((L.tile b n).skl g a)).ne'
  have he := (Real.exp_pos (-m)).ne'
  have hp' := hp.ne'
  field_simp

/-- The gradient of the unscaled scores. -/
theorem dsr_apply (g : Fin 2) (a : Fin 4) (i : Fin 128) (κ : Fin 256) :
    v143 V (ix6 b n g a i κ) = (((L.tile b n).dsr g a i κ : ℝ) : EReal) := by
  rw [v143_eq, v142_eq, cst_23_eq, v141_eq, v138_eq, call3_v0_eq, call3_cst_eq]
  pointwise []
  rw [mask_apply, weighted_apply b n h, through_apply b n h, ← EReal.coe_add]
  rw [eighth_word, ← EReal.coe_mul]
  show Scalar.select (if (L.tile b n).M i κ = true then 1#1 else 0#1) _ _ = _
  unfold Tile.dsr ds
  cases hM : (L.tile b n).M i κ
  · rw [prob_of_not hM, mul_zero, mul_zero, mul_zero, zero_mul, EReal.coe_zero]
    exact select_zero _ _
  · rw [if_pos rfl, select_one]
    refine congrArg _ ?_
    ring

/-- The gradient of the queries. -/
theorem dq_apply (i : Fin 128) (g : Fin 2) (a : Fin 4) (d : Fin 64) :
    v146 V (ix6 b n i g a d) = (((L.tile b n).dq g a i d : ℝ) : EReal) := by
  rw [v146_eq, v145_eq, v144_eq]
  pointwise []
  simp only [dsr_apply b n h, key_apply b n h, ← EReal.coe_mul, coe_sum]
  rfl

/-- The gradient of the keys, both chunks' rows. -/
theorem dk_apply (κ : Fin 256) (g : Fin 2) (d : Fin 64) :
    v148 V (ix5 b n κ g d) = (((L.tile b n).dk g κ d : ℝ) : EReal) := by
  rw [v148_eq, v147_eq, v144_eq]
  pointwise []
  simp only [dsr_apply b n h, query_apply b n h, ← EReal.coe_mul, coe_sum]
  first | rfl | (exact congrArg _ Finset.sum_comm)

end Cert.ReferenceIdeal.Line

end
-- ==== Proof.RefEqs7.lean ====
/-
  What the line of the reference leaves in each buffer, one equation for each operation: part 8.
-/
module

public import proofs.«01_k».proof.Proof.RefDefs
public import Idealize.ShloMosaic.Lib.StableHlo.RunRead
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 16384 in
/-- Operation cst_24. -/
theorem cst_24_eq : cst_24 V = constant S_ .f32 0x00000000#32 :=
  read_nullary writes_eq (i := 201) V rfl (fresh (by decide))

set_option maxRecDepth 16384 in
/-- Operation v153. -/
theorem v153_eq : v153 V = pad S2x16x128x2x64 ![0, 0, 0, 0, 0] ![0, 1, 0, 0, 0] ![0, 0, 0, 0, 0] (v152 V) (cst_24 V) pads_S2x15x128x2x64_S2x16x128x2x64_000_010_000_000_000 h_S_ :=
  read_binary writes_eq (i := 202) V rfl (fresh (by decide)) (fresh (by decide)) (fresh (by decide))

set_option maxRecDepth 16384 in
/-- Operation v154. -/
theorem v154_eq : v154 V = addf (v150 V) (v153 V) :=
  read_binary writes_eq (i := 203) V rfl (fresh (by decide)) (fresh (by decide)) (fresh (by decide))

set_option maxRecDepth 16384 in
/-- Operation v155. -/
theorem v155_eq : v155 V = extractStridedSlice S2x16x128x2x64 ![0, 0, 0, 0, 0] (v148 V) slices_S2x16x256x2x64_S2x16x128x2x64_0_0_0_0_0 :=
  read_unary writes_eq (i := 204) V rfl (fresh (by decide)) (fresh (by decide))

set_option maxRecDepth 16384 in
/-- Operation v156. -/
theorem v156_eq : v156 V = extractStridedSlice S2x16x128x2x64 ![0, 0, 128, 0, 0] (v148 V) slices_S2x16x256x2x64_S2x16x128x2x64_0_0_128_0_0 :=
  read_unary writes_eq (i := 205) V rfl (fresh (by decide)) (fresh (by decide))

set_option maxRecDepth 16384 in
/-- Operation v158. -/
theorem v158_eq : v158 V = extractStridedSlice S2x15x128x2x64 ![0, 1, 0, 0, 0] (v155 V) slices_S2x16x128x2x64_S2x15x128x2x64_0_1_0_0_0 :=
  read_unary writes_eq (i := 207) V rfl (fresh (by decide)) (fresh (by decide))

set_option maxRecDepth 16384 in
/-- Operation cst_25. -/
theorem cst_25_eq : cst_25 V = constant S_ .f32 0x00000000#32 :=
  read_nullary writes_eq (i := 208) V rfl (fresh (by decide))

set_option maxRecDepth 16384 in
/-- Operation v159. -/
theorem v159_eq : v159 V = pad S2x16x128x2x64 ![0, 0, 0, 0, 0] ![0, 1, 0, 0, 0] ![0, 0, 0, 0, 0] (v158 V) (cst_25 V) pads_S2x15x128x2x64_S2x16x128x2x64_000_010_000_000_000 h_S_ :=
  read_binary writes_eq (i := 209) V rfl (fresh (by decide)) (fresh (by decide)) (fresh (by decide))

set_option maxRecDepth 16384 in
/-- Operation v160. -/
theorem v160_eq : v160 V = addf (v156 V) (v159 V) :=
  read_binary writes_eq (i := 210) V rfl (fresh (by decide)) (fresh (by decide)) (fresh (by decide))

set_option maxRecDepth 16384 in
/-- Operation v161. -/
theorem v161_eq : v161 V = shapeCast S4096x128 (v154 V) shapeCasts_S2x16x128x2x64_S4096x128 :=
  read_reshape writes_eq (i := 211) V rfl (fresh (by decide)) (fresh (by decide))

set_option maxRecDepth 16384 in
/-- Operation v162. -/
theorem v162_eq : v162 V = shapeCast S4096x128 (v160 V) shapeCasts_S2x16x128x2x64_S4096x128 :=
  read_reshape writes_eq (i := 212) V rfl (fresh (by decide)) (fresh (by decide))

set_option maxRecDepth 16384 in
/-- Operation v163. -/
theorem v163_eq : v163 V = shapeCast S4096x512 (v146 V) shapeCasts_S2x16x128x2x4x64_S4096x512 :=
  read_reshape writes_eq (i := 213) V rfl (fresh (by decide)) (fresh (by decide))

set_option maxRecDepth 16384 in
/-- Operation v164. -/
theorem v164_eq : v164 V = broadcastInDim S1x8 ![1] bcast_S8_S1x8_1 (v140 V) :=
  read_unary writes_eq (i := 214) V rfl (fresh (by decide)) (fresh (by decide))

set_option maxRecDepth 16384 in
/-- Operation cst_26. -/
theorem cst_26_eq : cst_26 V = constant S_ .f32 0x00000000#32 :=
  read_nullary writes_eq (i := 215) V rfl (fresh (by decide))

set_option maxRecDepth 16384 in
/-- Operation v165. -/
theorem v165_eq : v165 V = pad S1x128 ![0, 0] ![0, 120] ![0, 0] (v164 V) (cst_26 V) pads_S1x8_S1x128_000_01200 h_S_ :=
  read_binary writes_eq (i := 216) V rfl (fresh (by decide)) (fresh (by decide)) (fresh (by decide))

set_option maxRecDepth 16384 in
/-- Operation cst_27. -/
theorem cst_27_eq : cst_27 V = constant S_ .f32 0x00000000#32 :=
  read_nullary writes_eq (i := 217) V rfl (fresh (by decide))

set_option maxRecDepth 16384 in
/-- Operation v166. -/
theorem v166_eq : v166 V = broadcastInDim S4096x1024 ![] bcast_S_S4096x1024 (cst_27 V) :=
  read_unary writes_eq (i := 218) V rfl (fresh (by decide)) (fresh (by decide))

set_option maxRecDepth 16384 in
/-- Operation cst_28. -/
theorem cst_28_eq : cst_28 V = constant S_ .f32 0x00000000#32 :=
  read_nullary writes_eq (i := 219) V rfl (fresh (by decide))

set_option maxRecDepth 16384 in
/-- Operation v167. -/
theorem v167_eq : v167 V = broadcastInDim S4096x3072 ![] bcast_S_S4096x3072 (cst_28 V) :=
  read_unary writes_eq (i := 220) V rfl (fresh (by decide)) (fresh (by decide))

set_option maxRecDepth 16384 in
/-- Operation cst_29. -/
theorem cst_29_eq : cst_29 V = constant S_ .f32 0x00000000#32 :=
  read_nullary writes_eq (i := 221) V rfl (fresh (by decide))

set_option maxRecDepth 16384 in
/-- Operation v168. -/
theorem v168_eq : v168 V = broadcastInDim S4096x256 ![] bcast_S_S4096x256 (cst_29 V) :=
  read_unary writes_eq (i := 222) V rfl (fresh (by decide)) (fresh (by decide))

set_option maxRecDepth 16384 in
/-- Operation v169. -/
theorem v169_eq : v169 V = (concatenate S4096x5632 1 [⟨S4096x1024, ((v166 V) : (⟨S4096x1024, .f32⟩ : BufTy).Contents (Elt F))⟩, ⟨S4096x512, ((v120 V) : (⟨S4096x512, .f32⟩ : BufTy).Contents (Elt F))⟩, ⟨S4096x3072, ((v167 V) : (⟨S4096x3072, .f32⟩ : BufTy).Contents (Elt F))⟩, ⟨S4096x512, ((v163 V) : (⟨S4096x512, .f32⟩ : BufTy).Contents (Elt F))⟩, ⟨S4096x128, ((v162 V) : (⟨S4096x128, .f32⟩ : BufTy).Contents (Elt F))⟩, ⟨S4096x128, ((v161 V) : (⟨S4096x128, .f32⟩ : BufTy).Contents (Elt F))⟩, ⟨S4096x256, ((v168 V) : (⟨S4096x256, .f32⟩ : BufTy).Contents (Elt F))⟩] concatenates_S4096x1024_S4096x512_S4096x3072_S4096x512_S4096x128_S4096x128_S4096x256_S4096x5632_d1 : (⟨S4096x5632, .f32⟩ : BufTy).Contents (Elt F)) :=
  read_nary writes_eq (i := 223) V rfl (fun k => fresh (by revert k; decide)) (fresh (by decide))

set_option maxRecDepth 16384 in
/-- Operation v170. -/
theorem v170_eq : v170 V = truncf .bf16 (v169 V) bitsLt_bf16_f32 :=
  read_unary writes_eq (i := 224) V rfl (fresh (by decide)) (fresh (by decide))

end Cert.ReferenceIdeal.Line

end
-- ==== Proof.RefOut.lean ====
/-
  The results of the reference are the layer's gradients.
-/
module

public import proofs.«01_k».proof.Proof.RefGrad
public import proofs.«01_k».proof.Proof.RefEqs6
public import proofs.«01_k».proof.Proof.RefEqs7
public import Idealize.ShloMosaic.Lib.Pointwise

@[expose] public section

set_option maxRecDepth 16384

noncomputable section

namespace Cert.ReferenceIdeal.Line

open Cert.ReferenceIdeal Cert.ReferenceIdeal.Gen Idealize.ShloMosaic Idealize.ShloMosaic.TcCoe Idealize.ShloMosaic.StableHlo
open Cert.Attn hiding sig

variable {V : Valuation τ sig (Elt Ideal)} {L : Layer} (b : Fin 2) (n : Fin 16) (h : Reads V L)
include h

/-- The gradient of the values of a chunk: its own, and what the next chunk sends back. -/
theorem dvSeq_apply (i : Fin 128) (g : Fin 2) (d : Fin 64) :
    v154 V (ix5 b n i g d) = ((L.dv b n i g d : ℝ) : EReal) := by
  rw [v154_eq, v153_eq, v152_eq, v150_eq, v149_eq, cst_24_eq]
  pointwise []
  unfold Layer.dv
  by_cases hn : n.val < 15
  · have hn' : n.val + 1 < 16 := by omega
    have e : ∀ p, (⟨1 + n.val, p⟩ : Fin 16) = ⟨n.val + 1, hn'⟩ := fun p => Fin.ext (Nat.add_comm 1 n.val)
    rw [dif_pos hn, dif_pos hn', e, dv_apply b n h, dv_apply b _ h, ← EReal.coe_add]
    rfl
  · have hn' : ¬ n.val + 1 < 16 := by omega
    rw [dif_neg hn, dif_neg hn', dv_apply b n h, add_zero, add_zero]
    rfl

/-- The gradient of the keys of a chunk: its own, and what the next chunk sends back. -/
theorem dkSeq_apply (i : Fin 128) (g : Fin 2) (d : Fin 64) :
    v160 V (ix5 b n i g d) = ((L.dk b n i g d : ℝ) : EReal) := by
  rw [v160_eq, v159_eq, v158_eq, v156_eq, v155_eq, cst_25_eq]
  pointwise []
  unfold Layer.dk
  by_cases hn : n.val < 15
  · have hn' : n.val + 1 < 16 := by omega
    have e : ∀ p, (⟨1 + n.val, p⟩ : Fin 16) = ⟨n.val + 1, hn'⟩ := fun p => Fin.ext (Nat.add_comm 1 n.val)
    rw [dif_pos hn, dif_pos hn', e, dk_apply b n h, dk_apply b _ h, ← EReal.coe_add]
    rfl
  · have hn' : ¬ n.val + 1 < 16 := by omega
    rw [dif_neg hn, dif_neg hn', dk_apply b n h, add_zero, add_zero]
    rfl

/-- The gradient of the values, a row of the whole sequence. -/
theorem dvRow_apply (i : Fin 128) (g : Fin 2) (d : Fin 64) :
    v161 V (ix2 (row b n i) (⟨64 * g.val + d.val, by omega⟩ : Fin 128)) = ((L.dv b n i g d : ℝ) : EReal) := by
  rw [v161_eq]
  pointwise []
  have e1 : ∀ p, (⟨(row b n i).val / 2048, p⟩ : Fin 2) = b := fun p => Fin.ext (by simp only [row]; omega)
  have e2 : ∀ p, (⟨(row b n i).val / 128 % 16, p⟩ : Fin 16) = n := fun p => Fin.ext (by simp only [row]; omega)
  have e3 : ∀ p, (⟨(row b n i).val % 128, p⟩ : Fin 128) = i := fun p => Fin.ext (by simp only [row]; omega)
  rw [e1, e2, e3]
  exact dvSeq_apply b n h i g d

/-- The gradient of the keys, a row of the whole sequence. -/
theorem dkRow_apply (i : Fin 128) (g : Fin 2) (d : Fin 64) :
    v162 V (ix2 (row b n i) (⟨64 * g.val + d.val, by omega⟩ : Fin 128)) = ((L.dk b n i g d : ℝ) : EReal) := by
  rw [v162_eq]
  pointwise []
  have e1 : ∀ p, (⟨(row b n i).val / 2048, p⟩ : Fin 2) = b := fun p => Fin.ext (by simp only [row]; omega)
  have e2 : ∀ p, (⟨(row b n i).val / 128 % 16, p⟩ : Fin 16) = n := fun p => Fin.ext (by simp only [row]; omega)
  have e3 : ∀ p, (⟨(row b n i).val % 128, p⟩ : Fin 128) = i := fun p => Fin.ext (by simp only [row]; omega)
  rw [e1, e2, e3]
  exact dkSeq_apply b n h i g d

/-- The gradient of the queries, a row of the whole sequence. -/
theorem dqRow_apply (i : Fin 128) (g : Fin 2) (a : Fin 4) (d : Fin 64) :
    v163 V (ix2 (row b n i) (qcol g a d)) = (((L.tile b n).dq g a i d : ℝ) : EReal) := by
  rw [v163_eq]
  pointwise []
  have e1 : ∀ p, (⟨(row b n i).val / 2048, p⟩ : Fin 2) = b := fun p => Fin.ext (by simp only [row]; omega)
  have e2 : ∀ p, (⟨(row b n i).val / 128 % 16, p⟩ : Fin 16) = n := fun p => Fin.ext (by simp only [row]; omega)
  have e3 : ∀ p, (⟨(row b n i).val % 128, p⟩ : Fin 128) = i := fun p => Fin.ext (by simp only [row]; omega)
  have e4 : ∀ p, (⟨(qcol g a d).val / 256, p⟩ : Fin 2) = g := fun p => Fin.ext (by simp only [qcol]; omega)
  have e5 : ∀ p, (⟨(qcol g a d).val / 64 % 4, p⟩ : Fin 4) = a := fun p => Fin.ext (by simp only [qcol]; omega)
  have e6 : ∀ p, (⟨(qcol g a d).val % 64, p⟩ : Fin 64) = d := fun p => Fin.ext (by simp only [qcol]; omega)
  rw [e1, e2, e3, e4, e5, e6]
  exact dq_apply b n h i g a d

omit b n
/-- The gradient of a sink. -/
theorem dsink_apply (g : Fin 2) (a : Fin 4) : v140 V (ix1 (⟨4 * g.val + a.val, by omega⟩ : Fin 8)) = ((L.dsink g a : ℝ) : EReal) := by
  have e : ∀ g : Fin 2, ∀ a : Fin 4, v131 V (ix3 g a 0) = ((L.dsink g a : ℝ) : EReal) := by
    intro g a
    rw [v131_eq, cst_20_eq]
    pointwise []
    simp only [sum_rows, zero_word, zero_add, dsk_apply _ _ h, coe_sum]
    rfl
  have e' : v139 V (ix2 g a) = ((L.dsink g a : ℝ) : EReal) := by
    rw [v139_eq, cst_22_eq]
    pointwise []
    simp only [sum_ones, zero_word, zero_add]
    rw [v132_eq]
    pointwise []
    exact e g a
  rw [v140_eq]
  pointwise []
  rw [← e']

omit h in
/-- The gradient of the sinks, lane by lane. -/
theorem sinks_read (l : Fin 128) : v165 V (ix2 0 l) = if h : l.val < 8 then v140 V (ix1 ⟨l.val, h⟩) else 0 := by
  rw [v165_eq, v164_eq, cst_26_eq]
  pointwise []

omit h in
/-- The gradient of the projected inputs, column by column. -/
theorem dproj_read (R : Fin 4096) (C : Fin 5632) : v170 V (ix2 R C)
    = if h : C.val < 1024 then v166 V (ix2 R ⟨C.val, by omega⟩)
      else if h : C.val - 1024 < 512 then v120 V (ix2 R ⟨C.val - 1024, by omega⟩)
      else if h : C.val - 1024 - 512 < 3072 then v167 V (ix2 R ⟨C.val - 1024 - 512, by omega⟩)
      else if h : C.val - 1024 - 512 - 3072 < 512 then v163 V (ix2 R ⟨C.val - 1024 - 512 - 3072, by omega⟩)
      else if h : C.val - 1024 - 512 - 3072 - 512 < 128 then v162 V (ix2 R ⟨C.val - 1024 - 512 - 3072 - 512, by omega⟩)
      else if h : C.val - 1024 - 512 - 3072 - 512 - 128 < 128 then v161 V (ix2 R ⟨C.val - 1024 - 512 - 3072 - 512 - 128, by omega⟩)
      else v168 V (ix2 R ⟨C.val - 1024 - 512 - 3072 - 512 - 128 - 128, by omega⟩) := by
  rw [v170_eq, v169_eq]
  pointwise []

/-- The reference's results are the gradients. -/
theorem ref_grads : Grads L (fun R C => v170 V (ix2 R C)) (fun l => v165 V (ix2 0 l)) where
  dz b n i g a d := by
    have hq := (qcol g a d).isLt
    simp only [dproj_read]
    rw [dif_neg (by omega), dif_pos (by omega)]
    refine (congrArg (fun c => v120 V (ix2 (row b n i) c)) (Fin.ext ?_)).trans (dzRow_apply b n h g a i d)
    simp only []; omega
  dq b n i g a d := by
    have hq := (qcol g a d).isLt
    simp only [dproj_read]
    rw [dif_neg (by omega), dif_neg (by omega), dif_neg (by omega), dif_pos (by omega)]
    refine (congrArg (fun c => v163 V (ix2 (row b n i) c)) (Fin.ext ?_)).trans (dqRow_apply b n h i g a d)
    simp only []; omega
  dk b n i g d := by
    have hq : (kcol g d).val = 64 * g.val + d.val := rfl
    simp only [dproj_read]
    rw [dif_neg (by omega), dif_neg (by omega), dif_neg (by omega), dif_neg (by omega), dif_pos (by omega)]
    refine (congrArg (fun c => v162 V (ix2 (row b n i) c)) (Fin.ext ?_)).trans (dkRow_apply b n h i g d)
    simp only []; omega
  dv b n i g d := by
    have hq : (vcol g d).val = 128 + 64 * g.val + d.val := rfl
    simp only [dproj_read]
    rw [dif_neg (by omega), dif_neg (by omega), dif_neg (by omega), dif_neg (by omega), dif_neg (by omega), dif_pos (by omega)]
    refine (congrArg (fun c => v161 V (ix2 (row b n i) c)) (Fin.ext ?_)).trans (dvRow_apply b n h i g d)
    simp only []; omega
  dsink g a := by
    have hq : (lane g a).val = 4 * g.val + a.val := rfl
    simp only [sinks_read]
    rw [dif_pos (by omega)]
    exact dsink_apply h g a
  rest l hl := by
    simp only [sinks_read]
    rw [dif_neg (by omega)]

end Cert.ReferenceIdeal.Line

end
-- ==== Proof.Same.lean ====
/-
  The layer's gradients are determined: two pairs of arrays that hold them agree on their columns.
-/
module

public import proofs.«01_k».proof.Proof.AttnSeq

@[expose] public section

set_option maxRecDepth 16384

noncomputable section

namespace Cert.Attn

/-- A row of the whole sequence is a row of a chunk. -/
theorem row_surj (R : Fin 4096) : ∃ b n i, R = row b n i :=
  ⟨⟨R.val / 2048, by omega⟩, ⟨R.val / 128 % 16, by omega⟩, ⟨R.val % 128, by omega⟩, Fin.ext (by simp only [row]; omega)⟩

/-- A column of the queries is a lane of a head. -/
theorem qcol_surj (c : Nat) (h : c < 512) : ∃ g a d, c = (qcol g a d).val :=
  ⟨⟨c / 256, by omega⟩, ⟨c / 64 % 4, by omega⟩, ⟨c % 64, by omega⟩, by simp only [qcol]; omega⟩

/-- A column of the keys is a lane of a group … -/
theorem kcol_surj (c : Nat) (h : c < 128) : ∃ g d, c = (kcol g d).val :=
  ⟨⟨c / 64, by omega⟩, ⟨c % 64, by omega⟩, by simp only [kcol]; omega⟩

/-- … and so is one of the values. -/
theorem vcol_surj (c : Nat) (h : 128 ≤ c) (h' : c < 256) : ∃ g d, c = (vcol g d).val :=
  ⟨⟨(c - 128) / 64, by omega⟩, ⟨c % 64, by omega⟩, by simp only [vcol]; omega⟩

variable {L : Layer} {X X' : Fin 4096 → Fin 5632 → EReal} {Y Y' : Fin 128 → EReal}

/-- The gradients of the attention's columns are determined. -/
theorem Grads.same_columns (h : Grads L X Y) (h' : Grads L X' Y') (R : Fin 4096) (C : Fin 5632)
    (hC : (1024 ≤ C.val ∧ C.val < 1536) ∨ (4608 ≤ C.val ∧ C.val < 5376)) : X R C = X' R C := by
  obtain ⟨b, n, i, rfl⟩ := row_surj R
  obtain ⟨C, hC'⟩ := C
  simp only at hC
  rcases hC with ⟨h1, h2⟩ | ⟨h1, h2⟩
  · obtain ⟨c, rfl⟩ : ∃ c, C = 1024 + c := ⟨C - 1024, by omega⟩
    obtain ⟨g, a, d, rfl⟩ := qcol_surj c (by omega)
    exact (h.dz b n i g a d).trans (h'.dz b n i g a d).symm
  by_cases h3 : C < 5120
  · obtain ⟨c, rfl⟩ : ∃ c, C = 4608 + c := ⟨C - 4608, by omega⟩
    obtain ⟨g, a, d, rfl⟩ := qcol_surj c (by omega)
    exact (h.dq b n i g a d).trans (h'.dq b n i g a d).symm
  obtain ⟨c, rfl⟩ : ∃ c, C = 5120 + c := ⟨C - 5120, by omega⟩
  by_cases h4 : c < 128
  · obtain ⟨g, d, rfl⟩ := kcol_surj c h4
    exact (h.dk b n i g d).trans (h'.dk b n i g d).symm
  · obtain ⟨g, d, rfl⟩ := vcol_surj c (by omega) (by omega)
    exact (h.dv b n i g d).trans (h'.dv b n i g d).symm

/-- The gradients of the sinks are determined. -/
theorem Grads.same_sinks (h : Grads L X Y) (h' : Grads L X' Y') (l : Fin 128) : Y l = Y' l := by
  by_cases hl : 8 ≤ l.val
  · exact (h.rest l hl).trans (h'.rest l hl).symm
  · have e : l = lane ⟨l.val / 4, by omega⟩ ⟨l.val % 4, by omega⟩ := Fin.ext (by simp only [lane]; omega)
    rw [e]
    exact (h.dsink _ _).trans (h'.dsink _ _).symm

end Cert.Attn

end
-- ==== Proof.Finite.lean ====
/-
  What the precondition and the columns of the claim say, entry by entry.
-/
module

public import proofs.«01_k».proof.Defs
public import proofs.«01_k».proof.Proof.Gen.Pre_finite
public import proofs.«01_k».proof.Proof.Gen.On_attention_columns
public import Idealize.ShloMosaic.Lib.ReduceAll
public import Idealize.ShloMosaic.Lib.Pointwise

@[expose] public section

set_option maxRecDepth 16384

noncomputable section

namespace Cert.Attn

open Idealize.ShloMosaic Idealize.ShloMosaic.StableHlo

theorem inf_word : Ideal.ofBits .f32 0x7F800000#32 = (⊤ : EReal) := by simp [Ideal.ofBits, Ideal.ieee]

/-- A value of finite absolute value is a real number. -/
theorem real_of_abs {x : EReal} (h : FloatOps.cmpf (F := Ideal) (φ := .f32) .olt (FloatOps.absf (F := Ideal) (φ := .f32) x) (Ideal.ofBits .f32 0x7F800000#32) = 1#1) :
    x = (x.toReal : EReal) := by
  have h' : max x (-x) < ⊤ := by
    rw [inf_word] at h
    by_contra hn
    exact absurd h (by
      show ¬ BitVec.ofBool (decide (max x (-x) < ⊤)) = 1#1
      rw [decide_eq_false hn]; decide)
  have h1 : x ≠ ⊤ := fun e => by rw [e] at h'; simp at h'
  have h2 : x ≠ ⊥ := fun e => by rw [e] at h'; simp at h'
  exact (EReal.coe_toReal h1 h2).symm

section

open Cert.Pre_finite Cert.Pre_finite.Gen

variable (x0 : FVec Ideal S4096x1024 .f32) (x1 : FVec Ideal S4096x5632 .f32) (x4 : FVec Ideal S2048x1024 .bf16) (x11 : FVec Ideal S1x128 .f32)

/-- Under the precondition, every entry that the claimed gradients depend on is a real number. -/
theorem entries_real {x2 x3 x5 x6 x7 x8 x9 x10 x12 x13 x14 x15}
    (h : Cert.Pre_finite.fn (F := Ideal) x0 x1 x2 x3 x4 x5 x6 x7 x8 x9 x10 x11 x12 x13 x14 x15 = fun _ => 1#1) :
    (∀ i, x0 i = ((x0 i).toReal : EReal)) ∧ (∀ i, x1 i = ((x1 i).toReal : EReal))
      ∧ (∀ i, x4 i = ((x4 i).toReal : EReal)) ∧ (∀ i, x11 i = ((x11 i).toReal : EReal)) := by
  have h0 := congrFun h (Shape.Idx.first h_S_)
  dsimp only [Cert.Pre_finite.fn, Cert.Pre_finite.fn_part1] at h0
  obtain ⟨h1, hs⟩ := IntOp.andi_eq_one.1 h0
  obtain ⟨h2, hw⟩ := IntOp.andi_eq_one.1 h1
  obtain ⟨hd, hp⟩ := IntOp.andi_eq_one.1 h2
  exact ⟨fun i => real_of_abs (Host.reduce_andi_all _ _ _ _ _ hd i),
    fun i => real_of_abs (Host.reduce_andi_all _ _ _ _ _ hp i),
    fun i => real_of_abs (Host.reduce_andi_all _ _ _ _ _ hw i),
    fun i => real_of_abs (Host.reduce_andi_all _ _ _ _ _ hs i)⟩

end

/-- The columns of the claim, as words. -/
theorem columns_words : ∀ C : Fin 5632, IntOp.ori
    (IntOp.andi (IntOp.cmpi .sge (BitVec.ofNat 32 C.val) 1024#32) (IntOp.cmpi .slt (BitVec.ofNat 32 C.val) 1536#32))
    (IntOp.andi (IntOp.cmpi .sge (BitVec.ofNat 32 C.val) 4608#32) (IntOp.cmpi .slt (BitVec.ofNat 32 C.val) 5376#32)) = 1#1 →
    (1024 ≤ C.val ∧ C.val < 1536) ∨ (4608 ≤ C.val ∧ C.val < 5376) := by decide +kernel

section

open Cert.On_attention_columns Cert.On_attention_columns.Gen

/-- The columns of the claim are those of the attention's gate, queries, keys and values. -/
theorem columns_of {x0 x1 x2 x3 x4 x5 x6 x7 x8 x9 x10 x11 x12 x13 x14 x15} {i : (⟨2, ![4096, 5632]⟩ : Shape).Idx}
    (h : (Cert.On_attention_columns.fn (F := Ideal) x0 x1 x2 x3 x4 x5 x6 x7 x8 x9 x10 x11 x12 x13 x14 x15).1 i = 1#1) :
    (1024 ≤ (i 1).val ∧ (i 1).val < 1536) ∨ (4608 ≤ (i 1).val ∧ (i 1).val < 5376) := columns_words (i 1) h

end

end Cert.Attn

end
-- ==== Proof.Value.lean ====
/-
  The value claim: on the columns of the attention's gate, queries, keys and values, and for the sinks, the kernel and the
  reference end with the same gradients.
-/
module

public import proofs.«01_k».proof.Proof.Frames
public import proofs.«01_k».proof.Proof.KernOut
public import proofs.«01_k».proof.Proof.RefOut
public import proofs.«01_k».proof.Proof.Same
public import proofs.«01_k».proof.Proof.Finite

@[expose] public section

set_option maxRecDepth 16384

noncomputable section

namespace Cert.Attn

open Idealize.ShloMosaic Idealize.ShloMosaic.TcCoe Idealize.SL.Sem Idealize.ShloMosaic.StableHlo

set_option maxHeartbeats 4000000 in
/-- The kernel's gradients of the attention are the reference's. -/
theorem value : @Cert.algebraic_KernelIdeal_ReferenceIdeal_on_attention_columns_pre_finite Cert.KernelIdeal.Gen.facts
    Cert.ReferenceIdeal.Gen.facts Cert.Pre_finite.Gen.facts Cert.On_attention_columns.Gen.facts := by
  intro m g m' g' hpre hargs
  have hreal := fun c => entries_real _ _ _ _ (hpre c)
  let L : Dev Cert.KernelIdeal.nD → Layer := fun c =>
    { D := fun r k => (m ((c.tc : Thread Cert.KernelIdeal.nD Cert.KernelIdeal.τ).loc Cert.KernelIdeal.main_arg0) (ix2 r k)).toReal
      P := fun r k => (m ((c.tc : Thread Cert.KernelIdeal.nD Cert.KernelIdeal.τ).loc Cert.KernelIdeal.main_arg1) (ix2 r k)).toReal
      W := fun r k => (m ((c.tc : Thread Cert.KernelIdeal.nD Cert.KernelIdeal.τ).loc Cert.KernelIdeal.main_arg4) (ix2 r k)).toReal
      S := fun k => (m ((c.tc : Thread Cert.KernelIdeal.nD Cert.KernelIdeal.τ).loc Cert.KernelIdeal.main_arg11) (ix2 0 k)).toReal }
  have hk : ∀ c, Holds m c (L c) := fun c =>
    ⟨fun r k => (hreal c).1 _, fun r k => (hreal c).2.1 _, fun r k => (hreal c).2.2.1 _, fun k => (hreal c).2.2.2 _⟩
  have hr : ∀ c, Cert.ReferenceIdeal.Line.Reads (launchContents m' c) (L c) := fun c =>
    ⟨fun r k => (congrFun (hargs c).1 (ix2 r k)).trans ((hreal c).1 _),
      fun r k => (congrFun (hargs c).2.1 (ix2 r k)).trans ((hreal c).2.1 _),
      fun r k => (congrFun (hargs c).2.2.2.2.1 (ix2 r k)).trans ((hreal c).2.2.1 _),
      fun k => (congrFun (hargs c).2.2.2.2.2.2.2.2.2.2.2.1 (ix2 0 k)).trans ((hreal c).2.2.2 _)⟩
  have hg := fun c => Cert.ReferenceIdeal.Line.ref_grads (hr c)
  refine ⟨fun c => Cert.ReferenceIdeal.Line.v170 (launchContents m' c), fun c => Cert.ReferenceIdeal.Line.v165 (launchContents m' c),
    (θ_run _ _ _).mono (fun r h c => ⟨fun i hi => ?_, fun i hi => ?_, unchanged m r h.1 c⟩) (launch m g),
    (θ_run _ _ _).mono (fun r h c => ⟨fun i hi => congrFun (h c _) i, fun i hi => congrFun (h c _) i, kept h c (by decide), kept h c (by decide), kept h c (by decide), kept h c (by decide), kept h c (by decide), kept h c (by decide), kept h c (by decide), kept h c (by decide), kept h c (by decide), kept h c (by decide), kept h c (by decide), kept h c (by decide), kept h c (by decide), kept h c (by decide), kept h c (by decide), kept h c (by decide)⟩) (Cert.ReferenceIdeal.Line.run m' g')⟩
  · have e := (grads h.1 (hk c)).same_columns (hg c) (i 0) (i 1) (columns_of hi)
    have ei : (ix2 (i 0) (i 1) : (⟨2, ![4096, 5632]⟩ : Shape).Idx) = i := by funext a; fin_cases a <;> rfl
    simp only [ei] at e
    exact e
  · have e := (grads h.1 (hk c)).same_sinks (hg c) (i 1)
    have ei : (ix2 0 (i 1) : (⟨2, ![1, 128]⟩ : Shape).Idx) = i := by
      funext a; fin_cases a
      · exact Subsingleton.elim (α := Fin 1) _ _
      · rfl
    simp only [ei] at e
    exact e

end Cert.Attn

end
-- ==== Proof.OutGrad.lean ====
/-
  The gradient of the output projection's weights: each element the kernel leaves is the sum, over the four tiles of a thousand and
  twenty-four tokens, of the tile's products.
-/
module

public import proofs.«01_k».proof.Proof.Gen.Kernel2Ideal.Value
public import Idealize.ShloMosaic.Lib.Pointwise
public import Idealize.ShloMosaic.Lib.Pipeline.ValueKit
public import Idealize.ShloMosaic.Lib.Pipeline.ReadBack
public import Idealize.ShloMosaic.Lib.ValueIdx

@[expose] public section

set_option maxRecDepth 16384

noncomputable section

open Idealize.ShloMosaic Idealize.ShloMosaic.TcCoe Idealize.SL.Sem

namespace Cert.OutGrad

open Cert.Kernel2Ideal Cert.Kernel2Ideal.Gen

/-- The zeros the accumulation begins with. -/
theorem start_apply (i : Fin 2048) (j : Fin 1024) : k0_pay1 (F := Ideal) (ix2 i j) = 0 := by
  pointwise [k0_pay1]

/-- One tile's step: the running sum plus the tile's products over its tokens. -/
theorem step_apply (acc : Vec Ideal S2048x1024 .f32) (a : Vec Ideal S1024x2048 .bf16) (b : Vec Ideal S1024x1024 .f32)
    (i : Fin 2048) (j : Fin 1024) :
    k0_pay2 acc a b (ix2 i j) = acc (ix2 i j) + ∑ k : Fin 1024, a (ix2 k i) * b (ix2 k j) := by
  pointwise [k0_pay2]

/-- The last step hands the running sum on as it is. -/
theorem last_apply (acc : Vec Ideal S2048x1024 .f32) (i : Fin 2048) (j : Fin 1024) : k0_pay3 acc (ix2 i j) = acc (ix2 i j) := by
  pointwise [k0_pay3]

variable (m : (ℓ : Loc nD τ Cert.Kernel2Ideal.sig) → Buf (Elt Ideal) ℓ)

/-- The output projection's inputs … -/
abbrev A0 (c : Dev nD) : Vec Ideal S4096x2048 .bf16 := m ((c : Thread nD τ).loc main_arg0)
/-- … and the gradient at its results, as arrays. -/
abbrev A1 (c : Dev nD) : Vec Ideal S4096x1024 .f32 := m ((c : Thread nD τ).loc main_arg1)

/-- Point `t` works on token tile `t`. -/
theorem index0 : ∀ t : Fin cfg0.N, win0_0.index t = ![t.val, 0] :=
  (by decide +kernel : ∀ t : Fin grid0.N, win0_0.index t = ![t.val, 0])
/-- The same for the second operand. -/
theorem index1 : ∀ t : Fin cfg0.N, win0_1.index t = ![t.val, 0] :=
  (by decide +kernel : ∀ t : Fin grid0.N, win0_1.index t = ![t.val, 0])

/-- The block of the projection's inputs that point `t` reads. -/
theorem read0 (c : Dev nD) (t : Fin cfg0.N) (k : Fin 1024) (i : Fin 2048) (r : Fin 4096) (hr : r.val = t.val * 1024 + k.val) :
    iblk m c 0 t (ix2 k i) = A0 m c (ix2 r i) := by
  refine congrArg (A0 m c) ?_
  show (win0_0.rect t).emb (ix2 k i) = _
  refine funext fun a => Fin.ext ?_
  rw [Pipeline.Window.rect_emb_val win0_0 t _ a rfl, index0]
  fin_cases a
  · show t.val * 1024 + k.val = r.val
    omega
  · show 0 * 2048 + i.val = i.val
    omega

/-- The block of the gradient at the layer's output that point `t` reads. -/
theorem read1 (c : Dev nD) (t : Fin cfg0.N) (k j : Fin 1024) (r : Fin 4096) (hr : r.val = t.val * 1024 + k.val) :
    iblk m c 1 t (ix2 k j) = A1 m c (ix2 r j) := by
  refine congrArg (A1 m c) ?_
  show (win0_1.rect t).emb (ix2 k j) = _
  refine funext fun a => Fin.ext ?_
  rw [Pipeline.Window.rect_emb_val win0_1 t _ a rfl, index1]
  fin_cases a
  · show t.val * 1024 + k.val = r.val
    omega
  · show 0 * 1024 + j.val = j.val
    omega

/-- The products of the tokens of one tile, for an element of the weights. -/
def tile (c : Dev nD) (i : Fin 2048) (j : Fin 1024) (s : ℕ) : EReal :=
  if h : s < 4 then ∑ k : Fin 1024, A0 m c (ix2 (⟨s * 1024 + k.val, by omega⟩ : Fin 4096) i)
    * A1 m c (ix2 (⟨s * 1024 + k.val, by omega⟩ : Fin 4096) j) else 0

/-- A step at point `n` adds tile `n`'s products. -/
theorem step_tile (c : Dev nD) (t : Fin cfg0.N) (acc : Vec Ideal S2048x1024 .f32) (i : Fin 2048) (j : Fin 1024) :
    k0_pay2 acc (iblk m c 0 t) (iblk m c 1 t) (ix2 i j) = acc (ix2 i j) + tile m c i j t.val := by
  have ht : t.val < 4 := lt_of_lt_of_eq t.isLt N_0
  rw [step_apply]
  unfold tile
  rw [dif_pos ht]
  refine congrArg (acc (ix2 i j) + ·) (Finset.sum_congr rfl fun k _ => ?_)
  rw [read0 m c t k i ⟨t.val * 1024 + k.val, by omega⟩ rfl, read1 m c t k j ⟨t.val * 1024 + k.val, by omega⟩ rfl]

/-- What the running sum is after point `n`: the tiles up to `n`. -/
theorem scratch_apply (c : Dev nD) (i : Fin 2048) (j : Fin 1024) : ∀ (n : ℕ) (h : n < cfg0.N),
    ((outsAt0 m c n h).2 (ix2 i j) : EReal) = ∑ s ∈ Finset.range (n + 1), tile m c i j s := by
  intro n
  induction n with
  | zero =>
    intro h
    show (outsAt0 m c (⟨0, h⟩ : Fin cfg0.N).val (⟨0, h⟩ : Fin cfg0.N).isLt).2 (ix2 i j) = _
    rw [outsAt0_A m c ⟨0, h⟩ rfl (by show ¬ 0 % 4 = 3; omega)]
    frame_out
    rw [step_tile, start_apply, zero_add, Finset.sum_range_one]
  | succ n ih =>
    intro h
    have hN : n + 1 < 4 := lt_of_lt_of_eq h N_0
    have h0 : ¬(n + 1) % 4 = 0 := by omega
    show (outsAt0 m c (⟨n + 1, h⟩ : Fin cfg0.N).val (⟨n + 1, h⟩ : Fin cfg0.N).isLt).2 (ix2 i j) = _
    by_cases h1 : (n + 1) % 4 = 3
    · rw [outsAt0_C m c ⟨n + 1, h⟩ h0 h1]
      frame_out
      simp only [read_unread_whole]
      rw [step_tile, Finset.sum_range_succ]
      exact congrArg (· + _) (ih (Nat.lt_of_succ_lt h))
    · rw [outsAt0_B m c ⟨n + 1, h⟩ h0 h1]
      frame_out
      simp only [read_unread_whole]
      rw [step_tile, Finset.sum_range_succ]
      exact congrArg (· + _) (ih (Nat.lt_of_succ_lt h))

/-- What the last point hands on. -/
theorem last_block (c : Dev nD) (i : Fin 2048) (j : Fin 1024) (t : Fin cfg0.N) (ht : t.val = 3) :
    ((outsAt0 m c t.val t.isLt).1 (ix2 i j) : EReal) = ∑ s ∈ Finset.range 4, tile m c i j s := by
  rw [outsAt0_C m c t (by omega) (by omega)]
  frame_out
  simp only [read_unread_whole]
  rw [last_apply, step_tile, scratch_apply, ht, Finset.sum_range_succ _ 3]

/-- The tiles' sums are the sum over all tokens. -/
theorem tiles_sum (c : Dev nD) (i : Fin 2048) (j : Fin 1024) :
    ∑ s ∈ Finset.range 4, tile m c i j s = ∑ k : Fin 4096, A0 m c (ix2 k i) * A1 m c (ix2 k j) := by
  rw [Finset.sum_range]
  refine Eq.trans (α := EReal) (Finset.sum_congr (M := EReal) rfl fun s _ => ?_) (Fin.sum_mul_add_congr (M := EReal) (L := 4096) (S := 4) (n := 1024)
    (F := fun s k => A0 m c (ix2 (⟨s.val * 1024 + k.val, by omega⟩ : Fin 4096) i)
      * A1 m c (ix2 (⟨s.val * 1024 + k.val, by omega⟩ : Fin 4096) j)) (fun s k hl => rfl))
  unfold tile
  rw [dif_pos s.isLt]

/-- An element of the array after the run: the sum over all tokens. -/
theorem final_apply (c : Dev nD) (i : Fin 2048) (j : Fin 1024) :
    (Value.G2 m c (ix2 i j) : EReal) = ∑ k : Fin 4096, A0 m c (ix2 k i) * A1 m c (ix2 k j) := by
  have h3 : 3 < cfg0.N := lt_of_lt_of_eq (by decide) N_0.symm
  rw [Value.G2_last, ← Value.outsAt0_sweep m c 3 h3]
  exact (last_block m c i j ⟨3, h3⟩ rfl).trans (tiles_sum m c i j)

end Cert.OutGrad

end
-- ==== Proof.RefWeights.lean ====
/-
  The two references of the weights' gradients, element by element: sums over all tokens.
-/
module

public import proofs.«01_k».proof.Proof.Gen.Reference2Ideal.Read
public import proofs.«01_k».proof.Proof.Gen.Reference3Ideal.Read
public import Idealize.ShloMosaic.Lib.Pointwise

@[expose] public section

set_option maxRecDepth 16384

noncomputable section

open Idealize.ShloMosaic Idealize.ShloMosaic.TcCoe Idealize.SL.Sem

namespace Cert.RefWeights

/-- The gradient of the output projection's weights. -/
theorem out_apply (x0 : Vec Ideal Reference2Ideal.S4096x2048 .bf16) (x1 : Vec Ideal Reference2Ideal.S4096x1024 .f32)
    (i : Fin 2048) (j : Fin 1024) :
    (Reference2Ideal.Read.val_main_v5 (F := Ideal) x0 x1 (ix2 i j) : EReal) = ∑ k : Fin 4096, x0 (ix2 k i) * x1 (ix2 k j) := by
  rw [Reference2Ideal.Read.val_main_v5_apply, Reference2Ideal.Read.val_main_v4_apply]
  refine Eq.trans (α := EReal) (Reference2Ideal.Read.val_main_v3_apply x0 x1 _) ?_
  refine Finset.sum_congr rfl fun k _ => ?_
  refine (mul_comm _ _).trans (congrArg₂ (fun a b : EReal => a * b) (congrArg x0 ?_) (congrArg x1 ?_))
  · funext a; fin_cases a <;> rfl
  · funext a; fin_cases a <;> rfl

/-- The gradient of the input projection's weights. -/
theorem in_apply (x0 : Vec Ideal Reference3Ideal.S4096x1024 .bf16) (x1 : Vec Ideal Reference3Ideal.S4096x5632 .bf16)
    (i : Fin 1024) (q : Fin 5632) :
    (Reference3Ideal.Read.val_main_v5 (F := Ideal) x0 x1 (ix2 i q) : EReal) = ∑ k : Fin 4096, x0 (ix2 k i) * x1 (ix2 k q) := by
  rw [Reference3Ideal.Read.val_main_v5_apply, Reference3Ideal.Read.val_main_v4_apply]
  refine Finset.sum_congr rfl fun k _ => ?_
  refine (mul_comm _ _).trans (congrArg₂ (fun a b : EReal => a * b) (congrArg x0 ?_) (congrArg x1 ?_))
  · funext a; fin_cases a <;> rfl
  · funext a; fin_cases a <;> rfl

end Cert.RefWeights

end
-- ==== Proof.ClaimOut.lean ====
/-
  The gradient of the output projection's weights: the kernel and the reference leave the same array.
-/
module

public import proofs.«01_k».proof.Defs
public import proofs.«01_k».proof.Proof.OutGrad
public import proofs.«01_k».proof.Proof.RefWeights
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

open Idealize.ShloMosaic Idealize.ShloMosaic.TcCoe Idealize.SL.Sem

namespace Cert.ClaimOut

/-- The frame of the kernel over machine floats. -/
theorem frame_kernel : @Cert.quiescent_Kernel2 Cert.Kernel2.Gen.facts := fun m g _ => Cert.Kernel2.Gen.frame m g

/-- The frame of the kernel over the real numbers. -/
theorem frame_ideal : @Cert.quiescent_Kernel2Ideal Cert.Kernel2Ideal.Gen.facts := fun m g _ => Cert.Kernel2Ideal.Gen.frame m g

/-- The frame of the reference. -/
theorem frame_reference : @Cert.quiescent_Reference2Ideal Cert.Reference2Ideal.Gen.facts := fun m g _ =>
  (θ_run (Cert.Reference2Ideal.defs (F := Ideal)) _ _).mono
    (fun r h => ⟨fun c => (h c).2, sem_eq_zero_of_no_sems rfl r.2⟩)
    (Cert.Reference2Ideal.Value.run (F := Ideal) m g)

/-- The reference's sum over all tokens is the sum the kernel leaves. -/
theorem same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1))
    :
    Cert.Reference2Ideal.Read.val_main_v5 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))
      = Cert.Kernel2Ideal.Value.G2 m c := by
  rw [h0, h1]
  funext y
  rw [ValueIdx.eq_ix2 y]
  exact (Cert.RefWeights.out_apply _ _ (y 0) (y 1)).trans (Cert.OutGrad.final_apply m c (y 0) (y 1)).symm

/-- The kernel's gradient of the output projection's weights is the reference's. -/
theorem value : @Cert.algebraic_Kernel2Ideal_Reference2Ideal Cert.Kernel2Ideal.Gen.facts Cert.Reference2Ideal.Gen.facts := by
  intro m g m' g' _ hargs
  refine ⟨fun c => Cert.Kernel2Ideal.Value.G2 m c,
    Cert.Kernel2Ideal.Value.run (F := Ideal) m g,
    (θ_run (Cert.Reference2Ideal.defs (F := Ideal)) _ _).mono (fun r h c => ⟨?_, (h c).2⟩) (Cert.Reference2Ideal.Value.run (F := Ideal) m' g')⟩
  · exact (h c).1.trans (same m m' c (hargs c).1 (hargs c).2)

end Cert.ClaimOut

end
-- ==== Proof.WeightGrad.lean ====
/-
  The gradient of the input projection's weights: each element the kernel leaves is the sum, over the four tiles of a thousand and
  twenty-four tokens, of the tile's products.
-/
module

public import proofs.«01_k».proof.Proof.Gen.Kernel3Ideal.Value
public import Idealize.ShloMosaic.Lib.Pointwise
public import Idealize.ShloMosaic.Lib.Pipeline.ValueKit
public import Idealize.ShloMosaic.Lib.ValueIdx

@[expose] public section

set_option maxRecDepth 16384

noncomputable section

open Idealize.ShloMosaic Idealize.ShloMosaic.TcCoe Idealize.SL.Sem

namespace Cert.WeightGrad

open Cert.Kernel3Ideal Cert.Kernel3Ideal.Gen

/-- The zero tile the accumulation begins with. -/
theorem start_apply (i : Fin 1024) (j : Fin 1408) : k0_pay1 (F := Ideal) (ix2 i j) = 0 := by
  pointwise [k0_pay1]

/-- One tile's step: the running sum plus the tile's products over its tokens. -/
theorem step_apply (acc : Vec Ideal S1024x1408 .f32) (a : Vec Ideal S1024x1024 .bf16) (b : Vec Ideal S1024x1408 .bf16)
    (i : Fin 1024) (j : Fin 1408) :
    k0_pay2 acc a b (ix2 i j) = acc (ix2 i j) + ∑ k : Fin 1024, a (ix2 k i) * b (ix2 k j) := by
  pointwise [k0_pay2]

variable (m : (ℓ : Loc nD τ Cert.Kernel3Ideal.sig) → Buf (Elt Ideal) ℓ)

/-- The projection's inputs … -/
abbrev A0 (c : Dev nD) : Vec Ideal S4096x1024 .bf16 := m ((c : Thread nD τ).loc main_arg0)
/-- … and the gradient at its results, as arrays. -/
abbrev A1 (c : Dev nD) : Vec Ideal S4096x5632 .bf16 := m ((c : Thread nD τ).loc main_arg1)

/-- Point `t` works on token tile `t % 4` … -/
theorem index0 : ∀ t : Fin cfg0.N, win0_0.index t = ![t.val % 4, 0] :=
  (by decide +kernel : ∀ t : Fin grid0.N, win0_0.index t = ![t.val % 4, 0])
/-- … and column tile `t / 4`. -/
theorem index1 : ∀ t : Fin cfg0.N, win0_1.index t = ![t.val % 4, t.val / 4] :=
  (by decide +kernel : ∀ t : Fin grid0.N, win0_1.index t = ![t.val % 4, t.val / 4])

/-- The block of the projection's inputs that point `t` reads. -/
theorem read0 (c : Dev nD) (t : Fin cfg0.N) (k i : Fin 1024) (r : Fin 4096) (hr : r.val = t.val % 4 * 1024 + k.val) :
    iblk m c 0 t (ix2 k i) = A0 m c (ix2 r i) := by
  refine congrArg (A0 m c) ?_
  show (win0_0.rect t).emb (ix2 k i) = _
  refine funext fun a => Fin.ext ?_
  rw [Pipeline.Window.rect_emb_val win0_0 t _ a rfl, index0]
  fin_cases a
  · show t.val % 4 * 1024 + k.val = r.val
    omega
  · show 0 * 1024 + i.val = i.val
    omega

/-- The block of the gradient at the projection's results that point `t` reads. -/
theorem read1 (c : Dev nD) (t : Fin cfg0.N) (k : Fin 1024) (j : Fin 1408) (r : Fin 4096) (q : Fin 5632)
    (hr : r.val = t.val % 4 * 1024 + k.val) (hq : q.val = t.val / 4 * 1408 + j.val) :
    iblk m c 1 t (ix2 k j) = A1 m c (ix2 r q) := by
  refine congrArg (A1 m c) ?_
  show (win0_1.rect t).emb (ix2 k j) = _
  refine funext fun a => Fin.ext ?_
  rw [Pipeline.Window.rect_emb_val win0_1 t _ a rfl, index1]
  fin_cases a
  · show t.val % 4 * 1024 + k.val = r.val
    omega
  · show t.val / 4 * 1408 + j.val = q.val
    omega

/-- The products of the tokens of one tile, for an element of the weights. -/
def tile (c : Dev nD) (i : Fin 1024) (q : Fin 5632) (s : ℕ) : EReal :=
  if h : s < 4 then ∑ k : Fin 1024, A0 m c (ix2 (⟨s * 1024 + k.val, by omega⟩ : Fin 4096) i)
    * A1 m c (ix2 (⟨s * 1024 + k.val, by omega⟩ : Fin 4096) q) else 0

/-- A step at point `4 n + s` adds tile `s`'s products to columns of column tile `n`. -/
theorem step_tile (c : Dev nD) (n : ℕ) (h : n < cfg0.N) (acc : Vec Ideal S1024x1408 .f32) (i : Fin 1024) (j : Fin 1408) (q : Fin 5632)
    (hq : q.val = n / 4 * 1408 + j.val) :
    k0_pay2 acc (iblk m c 0 ⟨n, h⟩) (iblk m c 1 ⟨n, h⟩) (ix2 i j) = acc (ix2 i j) + tile m c i q (n % 4) := by
  rw [step_apply]
  unfold tile
  rw [dif_pos (Nat.mod_lt _ (by decide))]
  refine congrArg (acc (ix2 i j) + ·) (Finset.sum_congr rfl fun k _ => ?_)
  rw [read0 m c ⟨n, h⟩ k i ⟨n % 4 * 1024 + k.val, by omega⟩ rfl, read1 m c ⟨n, h⟩ k j ⟨n % 4 * 1024 + k.val, by omega⟩ q rfl hq]

/-- An element of the array after the run: the sum over all tokens. -/
theorem final_apply (c : Dev nD) (i : Fin 1024) (q : Fin 5632) :
    (Value.G2 m c (ix2 i q) : EReal) = ∑ k : Fin 4096, A0 m c (ix2 k i) * A1 m c (ix2 k q) := by
  have hN : cfg0.N = 16 := N_0
  have hi : i.val < 1024 := i.isLt
  have hq : q.val < 5632 := q.isLt
  have hrun : Value.run2Of (ix2 i q) = q.val / 1408 := by
    show 4 * (i.val / 1024 - 0) + 1 * (q.val / 1408 - 0) = _
    omega
  have hloc : Value.loc2Of (ix2 i q) = ix2 i (⟨q.val % 1408, Nat.mod_lt _ (by decide)⟩ : Fin 1408) := by
    funext a; fin_cases a
    · exact Fin.ext (Nat.mod_eq_of_lt hi)
    · rfl
  have hlt : 4 * Value.run2Of (ix2 i q) + 3 < cfg0.N := by rw [hrun, hN]; omega
  unfold Value.G2
  rw [dif_pos hlt, hloc]
  have key := Pipeline.accAt_add_apply (ι := Fin 1) (β := EReal)
    (fun n h _ => Value.reset2 m c n h (ix2 i (⟨q.val % 1408, Nat.mod_lt _ (by decide)⟩ : Fin 1408)))
    (fun n h acc _ => acc 0 + tile m c i q (n % 4)) (fun _ => 0) (fun n _ => tile m c i q (n % 4)) (4 * Value.run2Of (ix2 i q)) 3
    (fun h _ => by
      show k0_pay2 _ _ _ _ = _
      rw [step_tile m c _ h _ i _ q (by rw [hrun]; show q.val = 4 * (q.val / 1408) / 4 * 1408 + q.val % 1408; omega), start_apply])
    (fun n h acc z _ _ => by rw [Subsingleton.elim z 0]) 3 le_rfl hlt 0
  have fold : ∀ (j : ℕ) (hj : j ≤ 3) (h : 4 * Value.run2Of (ix2 i q) + j < cfg0.N),
      Pipeline.accAt (Value.reset2 m c) (Value.step2 m c) (4 * Value.run2Of (ix2 i q)) j h (ix2 i (⟨q.val % 1408, Nat.mod_lt _ (by decide)⟩ : Fin 1408))
        = Pipeline.accAt (α := Fin 1 → EReal) (fun n h _ => Value.reset2 m c n h (ix2 i (⟨q.val % 1408, Nat.mod_lt _ (by decide)⟩ : Fin 1408)))
            (fun n h acc _ => acc 0 + tile m c i q (n % 4)) (4 * Value.run2Of (ix2 i q)) j h 0 := by
    intro j
    induction j with
    | zero => intro _ h; rfl
    | succ j ih =>
      intro hj h
      rw [Pipeline.accAt_succ, Pipeline.accAt_succ, ← ih (by omega) (Nat.lt_of_succ_lt h)]
      exact step_tile m c _ h _ i _ q (by rw [hrun]; show q.val = (4 * (q.val / 1408) + (j + 1)) / 4 * 1408 + q.val % 1408; omega)
  rw [fold 3 le_rfl hlt, key, zero_add, Finset.sum_range]
  refine Eq.trans (α := EReal) (Finset.sum_congr (M := EReal) rfl fun s _ => ?_) (Fin.sum_mul_add_congr (L := 4096) (S := 4) (n := 1024)
    (F := fun s k => A0 m c (ix2 (⟨s.val * 1024 + k.val, by omega⟩ : Fin 4096) i)
      * A1 m c (ix2 (⟨s.val * 1024 + k.val, by omega⟩ : Fin 4096) q)) (fun s k hl => rfl))
  have e : (4 * Value.run2Of (ix2 i q) + s.val) % 4 = s.val := by have := s.isLt; omega
  show tile m c i q _ = _
  rw [e]
  unfold tile
  rw [dif_pos s.isLt]

end Cert.WeightGrad

end
-- ==== Proof.ClaimIn.lean ====
/-
  The gradient of the input projection's weights: the kernel and the reference leave the same array.
-/
module

public import proofs.«01_k».proof.Defs
public import proofs.«01_k».proof.Proof.WeightGrad
public import proofs.«01_k».proof.Proof.RefWeights
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

open Idealize.ShloMosaic Idealize.ShloMosaic.TcCoe Idealize.SL.Sem

namespace Cert.ClaimIn

/-- The frame of the kernel over machine floats. -/
theorem frame_kernel : @Cert.quiescent_Kernel3 Cert.Kernel3.Gen.facts := fun m g _ => Cert.Kernel3.Gen.frame m g

/-- The frame of the kernel over the real numbers. -/
theorem frame_ideal : @Cert.quiescent_Kernel3Ideal Cert.Kernel3Ideal.Gen.facts := fun m g _ => Cert.Kernel3Ideal.Gen.frame m g

/-- The frame of the reference. -/
theorem frame_reference : @Cert.quiescent_Reference3Ideal Cert.Reference3Ideal.Gen.facts := fun m g _ =>
  (θ_run (Cert.Reference3Ideal.defs (F := Ideal)) _ _).mono
    (fun r h => ⟨fun c => (h c).2, sem_eq_zero_of_no_sems rfl r.2⟩)
    (Cert.Reference3Ideal.Value.run (F := Ideal) m g)

/-- The reference's sum over all tokens is the sum the kernel leaves. -/
theorem same (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0)
      = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1)
      = m ((c.tc : Thread Cert.Kernel3Ideal.nD Cert.Kernel3Ideal.τ).loc Cert.Kernel3Ideal.main_arg1))
    :
    Cert.Reference3Ideal.Read.val_main_v5 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
      = Cert.Kernel3Ideal.Value.G2 m c := by
  rw [h0, h1]
  funext y
  rw [ValueIdx.eq_ix2 y]
  exact (Cert.RefWeights.in_apply _ _ (y 0) (y 1)).trans (Cert.WeightGrad.final_apply m c (y 0) (y 1)).symm

/-- The kernel's gradient of the input projection's weights is the reference's. -/
theorem value : @Cert.algebraic_Kernel3Ideal_Reference3Ideal Cert.Kernel3Ideal.Gen.facts Cert.Reference3Ideal.Gen.facts := by
  intro m g m' g' _ hargs
  refine ⟨fun c => Cert.Kernel3Ideal.Value.G2 m c,
    Cert.Kernel3Ideal.Value.run (F := Ideal) m g,
    (θ_run (Cert.Reference3Ideal.defs (F := Ideal)) _ _).mono (fun r h c => ⟨?_, (h c).2⟩) (Cert.Reference3Ideal.Value.run (F := Ideal) m' g')⟩
  · exact (h c).1.trans (same m m' c (hargs c).1 (hargs c).2)

end Cert.ClaimIn

end
-- ==== Proof.ForwardRow.lean ====
/-
  The input projection's forward call: each row of the normalised inputs, and each element of the products, read off what a grid point
  stores.
-/
module

public import proofs.«01_k».proof.Proof.Gen.Kernel4Ideal.Value
public import Idealize.ShloMosaic.Lib.Pointwise
public import Idealize.ShloMosaic.Lib.Pipeline.ValueKit
public import Idealize.ShloMosaic.Lib.ValueIdx

@[expose] public section

set_option maxRecDepth 16384

noncomputable section

open Idealize.ShloMosaic Idealize.ShloMosaic.TcCoe Idealize.SL.Sem

namespace Cert.Forward

open Cert.Kernel4Ideal Cert.Kernel4Ideal.Gen

/-- One element of a normalised row: the element over the root of the row's mean square (with the offset), times its weight. -/
theorem norm_apply (x : Vec Ideal S256x1024 .f32) (w : Vec Ideal S1x1024 .f32) (i : Fin 256) (k : Fin 1024) :
    k0_pay1 x w (ix2 i k) =
      x (ix2 i k) * Ideal.rsqrt (Ideal.div (∑ l : Fin 1024, x (ix2 i l) * x (ix2 i l)) (Ideal.ofBits FTy.f32 1149239296#32)
        + Ideal.ofBits FTy.f32 925353388#32) * w (ix2 0 k) := by
  pointwise [k0_pay1]

/-- One element of the first stored product: the normalised row against a column of the weights. -/
theorem prod_apply2 (x : Vec Ideal S256x1024 .f32) (w : Vec Ideal S1x1024 .f32) (v : Vec Ideal S1024x1408 .bf16) (i : Fin 256) (j : Fin 1408) :
    k0_pay2 x w v (ix2 i j) = ∑ k : Fin 1024, k0_pay1 x w (ix2 i k) * v (ix2 k j) := by
  pointwise [k0_pay2]

/-- One element of the second stored product: the normalised row against a column of the weights. -/
theorem prod_apply3 (x : Vec Ideal S256x1024 .f32) (w : Vec Ideal S1x1024 .f32) (v : Vec Ideal S1024x1408 .bf16) (i : Fin 256) (j : Fin 1408) :
    k0_pay3 x w v (ix2 i j) = ∑ k : Fin 1024, k0_pay1 x w (ix2 i k) * v (ix2 k j) := by
  pointwise [k0_pay3]

/-- One element of the third stored product: the normalised row against a column of the weights. -/
theorem prod_apply4 (x : Vec Ideal S256x1024 .f32) (w : Vec Ideal S1x1024 .f32) (v : Vec Ideal S1024x1408 .bf16) (i : Fin 256) (j : Fin 1408) :
    k0_pay4 x w v (ix2 i j) = ∑ k : Fin 1024, k0_pay1 x w (ix2 i k) * v (ix2 k j) := by
  pointwise [k0_pay4]

/-- One element of the fourth stored product: the normalised row against a column of the weights. -/
theorem prod_apply5 (x : Vec Ideal S256x1024 .f32) (w : Vec Ideal S1x1024 .f32) (v : Vec Ideal S1024x1408 .bf16) (i : Fin 256) (j : Fin 1408) :
    k0_pay5 x w v (ix2 i j) = ∑ k : Fin 1024, k0_pay1 x w (ix2 i k) * v (ix2 k j) := by
  pointwise [k0_pay5]

end Cert.Forward

end
-- ==== Proof.ForwardOut.lean ====
/-
  The input projection's forward call: its two arrays after the run.
-/
module

public import proofs.«01_k».proof.Proof.ForwardRow

@[expose] public section

set_option maxRecDepth 16384

noncomputable section

open Idealize.ShloMosaic Idealize.ShloMosaic.TcCoe Idealize.SL.Sem

namespace Cert.Forward

open Cert.Kernel4Ideal Cert.Kernel4Ideal.Gen

/-- An element of the normalised token rows: the element over the root of its row's mean square (with the offset), times its weight. -/
def normAt (x : Vec Ideal S4096x1024 .f32) (w : Vec Ideal S1x1024 .f32) (i : Fin 4096) (k : Fin 1024) : EReal :=
  x (ix2 i k) * Ideal.rsqrt (Ideal.div (∑ l : Fin 1024, x (ix2 i l) * x (ix2 i l)) (Ideal.ofBits FTy.f32 1149239296#32)
    + Ideal.ofBits FTy.f32 925353388#32) * w (ix2 0 k)

variable (m : (ℓ : Loc nD τ Cert.Kernel4Ideal.sig) → Buf (Elt Ideal) ℓ)

/-- The token rows … -/
abbrev A0 (c : Dev nD) : Vec Ideal S4096x1024 .f32 := m ((c : Thread nD τ).loc main_arg0)
/-- … the norm's weights … -/
abbrev A1 (c : Dev nD) : Vec Ideal S1x1024 .f32 := m ((c : Thread nD τ).loc main_arg1)
/-- … and the projection's, as arrays. -/
abbrev A2 (c : Dev nD) : Vec Ideal S1024x5632 .bf16 := m ((c : Thread nD τ).loc main_arg2)
/-- The rows point `t` reads … -/
abbrev B0 (c : Dev nD) (t : Fin cfg0.N) : Vec Ideal S256x1024 .f32 := iblk m c 0 t
/-- … and the two weights, as it reads them. -/
abbrev B1 (c : Dev nD) (t : Fin cfg0.N) : Vec Ideal S1x1024 .f32 := iblk m c 1 t
abbrev B2 (c : Dev nD) (t : Fin cfg0.N) : Vec Ideal S1024x5632 .bf16 := iblk m c 2 t

/-- Point `t` works on token rows `256 t …`, all columns, one copy of the weights. -/
theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])

/-- The token rows a point reads. -/
theorem read0 (c : Dev nD) (t : Fin cfg0.N) (i : Fin 256) (k : Fin 1024) (r : Fin 4096) (hr : r.val = t.val * 256 + i.val) :
    B0 m c t (ix2 i k) = A0 m c (ix2 r k) := by
  refine congrArg (A0 m c) ?_
  show (win0_0.rect t).emb (ix2 i k) = _
  refine funext fun a => Fin.ext ?_
  rw [Pipeline.Window.rect_emb_val win0_0 t _ a rfl, index0]
  fin_cases a
  · show t.val * 256 + i.val = r.val
    omega
  · show 0 * 1024 + k.val = k.val
    omega

/-- The norm's weights a point reads. -/
theorem read1 (c : Dev nD) (t : Fin cfg0.N) (k : Fin 1024) :
    B1 m c t (ix2 0 k) = A1 m c (ix2 0 k) := by
  refine congrArg (A1 m c) ?_
  show (win0_1.rect t).emb (ix2 0 k) = _
  refine funext fun a => Fin.ext ?_
  rw [Pipeline.Window.rect_emb_val win0_1 t _ a rfl, index1]
  fin_cases a
  · rfl
  · show 0 * 1024 + k.val = k.val
    omega

/-- The projection's weights a point reads. -/
theorem read2 (c : Dev nD) (t : Fin cfg0.N) (k : Fin 1024) (q : Fin 5632) :
    B2 m c t (ix2 k q) = A2 m c (ix2 k q) := by
  refine congrArg (A2 m c) ?_
  show (win0_2.rect t).emb (ix2 k q) = _
  refine funext fun a => Fin.ext ?_
  rw [Pipeline.Window.rect_emb_val win0_2 t _ a rfl, index2]
  fin_cases a
  · show 0 * 1024 + k.val = k.val
    omega
  · show 0 * 5632 + q.val = q.val
    omega

/-- A normalised element of a point's rows is the array's. -/
theorem norm_block (c : Dev nD) (t : Fin cfg0.N) (i : Fin 256) (k : Fin 1024) (r : Fin 4096) (hr : r.val = t.val * 256 + i.val) :
    k0_pay1 (B0 m c t) (B1 m c t) (ix2 i k)
      = normAt (A0 m c) (A1 m c) r k := by
  rw [norm_apply, read0 m c t i k r hr, read1]
  unfold normAt
  have e : (∑ l : Fin 1024, B0 m c t (ix2 i l) * B0 m c t (ix2 i l))
      = ∑ l : Fin 1024, A0 m c (ix2 r l) * A0 m c (ix2 r l) :=
    Finset.sum_congr rfl fun l _ => by rw [read0 m c t i l r hr]
  rw [e]

/-- The normalised token rows after the run. -/
theorem inputs (c : Dev nD) : (dats m 0 c).arrAt 4 cfg0.N = fun y => normAt (A0 m c) (A1 m c) (y 0) (y 1) := by
  refine (dats m 0 c).arrAt_eq_of_covers 4 _ (by decide +kernel) fun t hf y => ?_
  blk_simp
  rw [after0_4]
  frame_out
  have e0 : ((((View.whole main_v0_1).slice (win0_4.rect t)).emb y 0 : Fin 4096) : ℕ) = t.val * 256 + (y 0).val := by
    show (((win0_4.rect t).emb y 0 : Fin 4096) : ℕ) = _
    rw [Pipeline.Window.rect_emb_val win0_4 t _ 0 rfl, index4]
    rfl
  have e1 : ((View.whole main_v0_1).slice (win0_4.rect t)).emb y 1 = (y 1 : Fin 1024) := by
    refine Fin.ext ?_
    show (((win0_4.rect t).emb y 1 : Fin 1024) : ℕ) = _
    rw [Pipeline.Window.rect_emb_val win0_4 t _ 1 rfl, index4]
    show 0 * 1024 + (y 1).val = (y 1).val
    omega
  rw [e1]
  exact (congrArg (k0_pay1 (B0 m c t) (B1 m c t)) (ValueIdx.eq_ix2 (n0 := 256) (n1 := 1024) y)).trans
    (norm_block m c t (y 0) (y 1) _ e0)

/-- The product stored at the columns from 0, at the place of its block. -/
theorem piece2 (x : Vec Ideal S256x1024 .f32) (w : Vec Ideal S1x1024 .f32) (v : Vec Ideal S1024x5632 .bf16) (y : S256x1408.Idx) :
    k0_pay2 x w (View.ld v r0_2) y = (∑ k : Fin 1024, k0_pay1 x w (ix2 (r0_3.idx y 0) k) * v (ix2 k (r0_3.idx y 1)) : EReal) := by
  obtain ⟨i, j, rfl⟩ : ∃ (i : Fin 256) (j : Fin 1408), y = ix2 i j := ⟨y 0, y 1, ValueIdx.eq_ix2 y⟩
  rw [prod_apply2]
  refine Finset.sum_congr rfl fun k _ => ?_
  have e0 : r0_3.idx (ix2 i j) 0 = i := Fin.ext (by show 0 + 1 * i.val = i.val; omega)
  have e1 : r0_2.idx (ix2 k j) = ix2 k (r0_3.idx (ix2 i j) 1) := by
    funext a; fin_cases a
    · exact Fin.ext (by show 0 + 1 * k.val = k.val; omega)
    · rfl
  rw [e0]
  exact congrArg (k0_pay1 x w (ix2 i k) * v ·) e1

/-- The product stored at the columns from 1408, at the place of its block. -/
theorem piece3 (x : Vec Ideal S256x1024 .f32) (w : Vec Ideal S1x1024 .f32) (v : Vec Ideal S1024x5632 .bf16) (y : S256x1408.Idx) :
    k0_pay3 x w (View.ld v r0_4) y = (∑ k : Fin 1024, k0_pay1 x w (ix2 (r0_5.idx y 0) k) * v (ix2 k (r0_5.idx y 1)) : EReal) := by
  obtain ⟨i, j, rfl⟩ : ∃ (i : Fin 256) (j : Fin 1408), y = ix2 i j := ⟨y 0, y 1, ValueIdx.eq_ix2 y⟩
  rw [prod_apply3]
  refine Finset.sum_congr rfl fun k _ => ?_
  have e0 : r0_5.idx (ix2 i j) 0 = i := Fin.ext (by show 0 + 1 * i.val = i.val; omega)
  have e1 : r0_4.idx (ix2 k j) = ix2 k (r0_5.idx (ix2 i j) 1) := by
    funext a; fin_cases a
    · exact Fin.ext (by show 0 + 1 * k.val = k.val; omega)
    · rfl
  rw [e0]
  exact congrArg (k0_pay1 x w (ix2 i k) * v ·) e1

/-- The product stored at the columns from 2816, at the place of its block. -/
theorem piece4 (x : Vec Ideal S256x1024 .f32) (w : Vec Ideal S1x1024 .f32) (v : Vec Ideal S1024x5632 .bf16) (y : S256x1408.Idx) :
    k0_pay4 x w (View.ld v r0_6) y = (∑ k : Fin 1024, k0_pay1 x w (ix2 (r0_7.idx y 0) k) * v (ix2 k (r0_7.idx y 1)) : EReal) := by
  obtain ⟨i, j, rfl⟩ : ∃ (i : Fin 256) (j : Fin 1408), y = ix2 i j := ⟨y 0, y 1, ValueIdx.eq_ix2 y⟩
  rw [prod_apply4]
  refine Finset.sum_congr rfl fun k _ => ?_
  have e0 : r0_7.idx (ix2 i j) 0 = i := Fin.ext (by show 0 + 1 * i.val = i.val; omega)
  have e1 : r0_6.idx (ix2 k j) = ix2 k (r0_7.idx (ix2 i j) 1) := by
    funext a; fin_cases a
    · exact Fin.ext (by show 0 + 1 * k.val = k.val; omega)
    · rfl
  rw [e0]
  exact congrArg (k0_pay1 x w (ix2 i k) * v ·) e1

/-- The product stored at the columns from 4224, at the place of its block. -/
theorem piece5 (x : Vec Ideal S256x1024 .f32) (w : Vec Ideal S1x1024 .f32) (v : Vec Ideal S1024x5632 .bf16) (y : S256x1408.Idx) :
    k0_pay5 x w (View.ld v r0_8) y = (∑ k : Fin 1024, k0_pay1 x w (ix2 (r0_9.idx y 0) k) * v (ix2 k (r0_9.idx y 1)) : EReal) := by
  obtain ⟨i, j, rfl⟩ : ∃ (i : Fin 256) (j : Fin 1408), y = ix2 i j := ⟨y 0, y 1, ValueIdx.eq_ix2 y⟩
  rw [prod_apply5]
  refine Finset.sum_congr rfl fun k _ => ?_
  have e0 : r0_9.idx (ix2 i j) 0 = i := Fin.ext (by show 0 + 1 * i.val = i.val; omega)
  have e1 : r0_8.idx (ix2 k j) = ix2 k (r0_9.idx (ix2 i j) 1) := by
    funext a; fin_cases a
    · exact Fin.ext (by show 0 + 1 * k.val = k.val; omega)
    · rfl
  rw [e0]
  exact congrArg (k0_pay1 x w (ix2 i k) * v ·) e1

/-- The products stored at the four column tiles, as one function of the row and the column. -/
theorem canon_apply (x : Vec Ideal S256x1024 .f32) (w : Vec Ideal S1x1024 .f32) (v : Vec Ideal S1024x5632 .bf16) (y : S256x5632.Idx) :
    (View.canon (Val := Elt Ideal) (s := S256x5632) (e := .f32)
      [⟨r0_9, k0_pay5 x w (View.ld v r0_8)⟩, ⟨r0_7, k0_pay4 x w (View.ld v r0_6)⟩, ⟨r0_5, k0_pay3 x w (View.ld v r0_4)⟩,
        ⟨r0_3, k0_pay2 x w (View.ld v r0_2)⟩] y : EReal)
      = (∑ k : Fin 1024, k0_pay1 x w (ix2 (y 0) k) * v (ix2 k (y 1)) : EReal) := by
  refine View.canon_apply_of_pieces (Val := Elt Ideal) (fun y : S256x5632.Idx => (∑ k : Fin 1024, k0_pay1 x w (ix2 (y 0) k) * v (ix2 k (y 1)) : EReal)) _ ?_ y (cover0_3 _ _ _ _ y)
  intro pc hpc
  rcases List.mem_cons.mp hpc with rfl | hpc
  · exact fun z => piece5 x w v z
  rcases List.mem_cons.mp hpc with rfl | hpc
  · exact fun z => piece4 x w v z
  rcases List.mem_cons.mp hpc with rfl | hpc
  · exact fun z => piece3 x w v z
  rcases List.mem_cons.mp hpc with rfl | hpc
  · exact fun z => piece2 x w v z
  nomatch hpc

/-- The projected token rows after the run. -/
theorem products (c : Dev nD) : (dats m 0 c).arrAt 3 cfg0.N
    = fun y => ∑ k : Fin 1024, normAt (A0 m c) (A1 m c) (y 0) k * A2 m c (ix2 k (y 1)) := by
  refine (dats m 0 c).arrAt_eq_of_covers 3 _ (by decide +kernel) fun t hf y => ?_
  blk_simp
  rw [after0_3]
  frame_out
  refine (canon_apply (B0 m c t) (B1 m c t) (B2 m c t) y).trans ?_
  refine Finset.sum_congr rfl fun k _ => ?_
  have e0 : ((((View.whole main_v0_0).slice (win0_3.rect t)).emb y 0 : Fin 4096) : ℕ) = t.val * 256 + (y 0).val := by
    show (((win0_3.rect t).emb y 0 : Fin 4096) : ℕ) = _
    rw [Pipeline.Window.rect_emb_val win0_3 t _ 0 rfl, index3]
    rfl
  have e1 : ((View.whole main_v0_0).slice (win0_3.rect t)).emb y 1 = (y 1 : Fin 5632) := by
    refine Fin.ext ?_
    show (((win0_3.rect t).emb y 1 : Fin 5632) : ℕ) = _
    rw [Pipeline.Window.rect_emb_val win0_3 t _ 1 rfl, index3]
    show 0 * 5632 + (y 1).val = (y 1).val
    omega
  rw [e1, norm_block m c t (y 0) k _ e0]
  exact congrArg (normAt (A0 m c) (A1 m c) _ k * ·) (read2 m c t k (y 1))

end Cert.Forward

end
-- ==== Proof.RefForward.lean ====
/-
  The reference of the input projection's forward call, element by element.
-/
module

public import proofs.«01_k».proof.Proof.Gen.Reference4Ideal.Read
public import proofs.«01_k».proof.Proof.ForwardOut

@[expose] public section

set_option maxRecDepth 16384

noncomputable section

open Idealize.ShloMosaic Idealize.ShloMosaic.TcCoe Idealize.SL.Sem

namespace Cert.RefForward

open Cert.Reference4Ideal Cert.Reference4Ideal.Read

/-- The root of a row's mean square, inverted. -/
theorem root_apply (x : Vec Ideal S4096x1024 .f32) (i : Fin 4096) (z : Fin 1) :
    (val_main_v8 (F := Ideal) x (ix2 i z) : EReal)
      = Ideal.rsqrt (Ideal.div (∑ l : Fin 1024, x (ix2 i l) * x (ix2 i l)) (Ideal.ofBits FTy.f32 1149239296#32)
        + Ideal.ofBits FTy.f32 925353388#32) := by
  rw [val_main_v8_apply, val_main_v7_apply, val_main_v5_apply, val_main_v3_apply, val_main_v2_apply, val_main_v4_apply, val_main_v6_apply]
  refine congrArg Ideal.rsqrt (congrArg₂ (fun a b : EReal => a + b) (congrArg₂ Ideal.div ?_ rfl) rfl)
  refine (congrArg₂ (fun a b : EReal => a + b) Ideal.ofBits_zero_f32 (Finset.sum_congr rfl fun l _ => ?_)).trans (zero_add _)
  have e : idx_main_v2 (idx_main_v3 (ix2 i z)) l = ix2 i l := by funext a; fin_cases a <;> rfl
  rw [e]
  rfl

/-- A normalised element. -/
theorem norm_apply (x : Vec Ideal S4096x1024 .f32) (w : Vec Ideal S1x1024 .f32) (i : Fin 4096) (k : Fin 1024) :
    (val_main_v13 (F := Ideal) x w (ix2 i k) : EReal) = Forward.normAt x w i k := by
  rw [val_main_v13_apply, val_main_v10_apply, val_main_v9_apply, val_main_v12_apply, val_main_v11_apply, val_main_v0_apply]
  have e9 : idx_main_v9 (ix2 i k) = ix2 i 0 := by funext a; fin_cases a <;> rfl
  have e0 : idx_main_v0 (idx_main_v11 (idx_main_v12 (ix2 i k))) = ix2 0 k := by
    funext a; fin_cases a
    · rfl
    · exact Fin.ext (by show k.val % 1024 = k.val; omega)
  rw [e9, e0, root_apply]
  rfl

/-- The normalised rows as the reference hands them on. -/
theorem inputs_apply (x : Vec Ideal S4096x1024 .f32) (w : Vec Ideal S1x1024 .f32) (i : Fin 4096) (k : Fin 1024) :
    (val_main_v16 (F := Ideal) x w (ix2 i k) : EReal) = Forward.normAt x w i k := by
  rw [val_main_v16_apply]
  exact norm_apply x w i k

/-- A product. -/
theorem products_apply (x : Vec Ideal S4096x1024 .f32) (w : Vec Ideal S1x1024 .f32) (v : Vec Ideal S1024x5632 .bf16) (i : Fin 4096) (q : Fin 5632) :
    (val_main_v15 (F := Ideal) x w v (ix2 i q) : EReal) = ∑ k : Fin 1024, Forward.normAt x w i k * v (ix2 k q) := by
  rw [val_main_v15_apply]
  refine Finset.sum_congr rfl fun k _ => ?_
  have el : lidx_main_v15 (ix2 i q) k = ix2 i k := by funext a; fin_cases a <;> rfl
  have er : ridx_main_v15 (ix2 i q) k = ix2 k q := by funext a; fin_cases a <;> rfl
  rw [el, er, norm_apply]
  rfl

end Cert.RefForward

end
-- ==== Proof.ClaimForward.lean ====
/-
  The norm and the input projection: the kernel and the reference leave the same two arrays.
-/
module

public import proofs.«01_k».proof.Defs
public import proofs.«01_k».proof.Proof.ForwardOut
public import proofs.«01_k».proof.Proof.RefForward
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

open Idealize.ShloMosaic Idealize.ShloMosaic.TcCoe Idealize.SL.Sem

namespace Cert.ClaimForward

/-- The frame of the kernel over machine floats. -/
theorem frame_kernel : @Cert.quiescent_Kernel4 Cert.Kernel4.Gen.facts := fun m g _ => Cert.Kernel4.Gen.frame m g

/-- The frame of the kernel over the real numbers. -/
theorem frame_ideal : @Cert.quiescent_Kernel4Ideal Cert.Kernel4Ideal.Gen.facts := fun m g _ => Cert.Kernel4Ideal.Gen.frame m g

/-- The frame of the reference. -/
theorem frame_reference : @Cert.quiescent_Reference4Ideal Cert.Reference4Ideal.Gen.facts := fun m g _ =>
  (θ_run (Cert.Reference4Ideal.defs (F := Ideal)) _ _).mono
    (fun r h => ⟨fun c => (h c).2.2, sem_eq_zero_of_no_sems rfl r.2⟩)
    (Cert.Reference4Ideal.Value.run (F := Ideal) m g)

/-- The products are the same. -/
theorem same_products (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0)
      = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1)
      = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2)
      = m ((c.tc : Thread Cert.Kernel4Ideal.nD Cert.Kernel4Ideal.τ).loc Cert.Kernel4Ideal.main_arg2))
    :
    Cert.Reference4Ideal.Read.val_main_v15 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
      = (Cert.Kernel4Ideal.Gen.dats m 0 c).arrAt 3 Cert.Kernel4Ideal.cfg0.N := by
  rw [h0, h1, h2, Cert.Forward.products]
  funext y
  conv_lhs => rw [ValueIdx.eq_ix2 y]
  exact Cert.RefForward.products_apply _ _ _ (y 0) (y 1)

/-- The normalised rows are the same. -/
theorem same_inputs (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0)
      = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1)
      = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2)
      = m ((c.tc : Thread Cert.Kernel4Ideal.nD Cert.Kernel4Ideal.τ).loc Cert.Kernel4Ideal.main_arg2))
    :
    Cert.Reference4Ideal.Read.val_main_v16 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
      = (Cert.Kernel4Ideal.Gen.dats m 0 c).arrAt 4 Cert.Kernel4Ideal.cfg0.N := by
  rw [h0, h1, Cert.Forward.inputs]
  funext y
  conv_lhs => rw [ValueIdx.eq_ix2 y]
  exact Cert.RefForward.inputs_apply _ _ (y 0) (y 1)

/-- The kernel's normalised rows and their products with the weights are the reference's. -/
theorem value : @Cert.algebraic_Kernel4Ideal_Reference4Ideal Cert.Kernel4Ideal.Gen.facts Cert.Reference4Ideal.Gen.facts := by
  intro m g m' g' _ hargs
  refine ⟨fun c => (Cert.Kernel4Ideal.Gen.dats m 0 c).arrAt 3 Cert.Kernel4Ideal.cfg0.N, fun c => (Cert.Kernel4Ideal.Gen.dats m 0 c).arrAt 4 Cert.Kernel4Ideal.cfg0.N,
    Cert.Kernel4Ideal.Value.run_blocks (F := Ideal) m g,
    (θ_run (Cert.Reference4Ideal.defs (F := Ideal)) _ _).mono (fun r h c => ⟨?_, ?_, (h c).2.2⟩) (Cert.Reference4Ideal.Value.run (F := Ideal) m' g')⟩
  · exact (h c).1.trans (same_products m m' c (hargs c).1 (hargs c).2.1 (hargs c).2.2)
  · exact (h c).2.1.trans (same_inputs m m' c (hargs c).1 (hargs c).2.1 (hargs c).2.2)

end Cert.ClaimForward

end
-- ==== Proof.InputGradRow.lean ====
/-
  The input projection's backward call for its inputs: one row of the gradient, as a function of the row, and what a grid point's
  payloads compute of it.
-/
module

public import proofs.«01_k».proof.Proof.Gen.Kernel5Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.InputGrad

open Cert.Kernel5Ideal Cert.Kernel5Ideal.Gen

/-- A row's mean square with the offset. -/
def ms (x : Fin 1024 → EReal) : EReal :=
  Ideal.div (∑ l : Fin 1024, x l * x l) (Ideal.ofBits FTy.f32 1149239296#32) + Ideal.ofBits FTy.f32 925353388#32

/-- Half of what comes back through the row's mean square, per element of the row: the row's product with the incoming gradient
    times the derivative of the root, over the row's length. -/
def back (x w g : Fin 1024 → EReal) : EReal :=
  Ideal.div ((∑ l : Fin 1024, x l * (g l * w l)) * (Ideal.ofBits FTy.f32 3204448256#32 * Ideal.div (Ideal.rsqrt (ms x)) (ms x)))
    (Ideal.ofBits FTy.f32 1149239296#32)

/-- The gradient at one element of the row. -/
def rowGrad (x w g : Fin 1024 → EReal) (k : Fin 1024) : EReal :=
  g k * w k * Ideal.rsqrt (ms x) + x k * back x w g + back x w g * x k

/-- One row's part of the gradient of the norm's weights. -/
def weightPart (x g : Fin 1024 → EReal) (k : Fin 1024) : EReal := x k * Ideal.rsqrt (ms x) * g k

/-- What the point stores of the gradient of the token rows. -/
theorem row_apply (g x : Vec Ideal S256x1024 .f32) (w : Vec Ideal S1x1024 .f32) (d : Vec Ideal S256x1024 .f32) (i : Fin 256) (k : Fin 1024) :
    k0_pay3 g x w (k0_pay7 x) k0_pay8 d (ix2 i k)
      = d (ix2 i k) + rowGrad (fun l => x (ix2 i l)) (fun l => w (ix2 0 l)) (fun l => g (ix2 i l)) k := by
  pointwise [k0_pay3, k0_pay2, k0_pay1, k0_pay7, k0_pay8]
  simp only [Fin.sum_univ_one]
  unfold rowGrad back ms
  rfl

/-- What the point adds to the gradient of the norm's weights. -/
theorem part_apply (g x : Vec Ideal S256x1024 .f32) (acc : Vec Ideal S1x1024 .f32) (k : Fin 1024) :
    k0_pay4 g x (k0_pay7 x) k0_pay8 acc (ix2 0 k)
      = acc (ix2 0 k) + ∑ i : Fin 256, weightPart (fun l => x (ix2 i l)) (fun l => g (ix2 i l)) k := by
  pointwise [k0_pay4, k0_pay2, k0_pay1, k0_pay7, k0_pay8]
  unfold weightPart ms
  rfl

/-- The zeros the gradient of the norm's weights begins with. -/
theorem zero_apply (k : Fin 1024) : k0_pay5 (F := Ideal) (ix2 0 k) = 0 := by
  pointwise [k0_pay5]

/-- The gradient at the projection's inputs, from the four column tiles. -/
theorem tiles_apply (a0 a1 a2 a3 : Vec Ideal S256x1408 .bf16) (b0 b1 b2 b3 : Vec Ideal S1024x1408 .bf16) (i : Fin 256) (k : Fin 1024) :
    k0_pay6 a0 b0 a1 b1 a2 b2 a3 b3 (ix2 i k)
      = (∑ l : Fin 1408, a0 (ix2 i l) * b0 (ix2 k l)) + (∑ l : Fin 1408, a1 (ix2 i l) * b1 (ix2 k l))
        + (∑ l : Fin 1408, a2 (ix2 i l) * b2 (ix2 k l)) + ∑ l : Fin 1408, a3 (ix2 i l) * b3 (ix2 k l) := by
  pointwise [k0_pay6]

/-- … which are the columns' sum: the gradient at an element of the inputs is the row of the incoming gradient against the row of weights. -/
theorem grad_apply (p : Vec Ideal S256x5632 .bf16) (v : Vec Ideal S1024x5632 .bf16) (i : Fin 256) (k : Fin 1024) :
    k0_pay6 (View.ld p (Rect.unit ![0, 0] ![256, 1408] inb_S256x5632_S256x1408_0_0))
        (View.ld v (Rect.unit ![0, 0] ![1024, 1408] inb_S1024x5632_S1024x1408_0_0))
        (View.ld p (Rect.unit ![0, 1408] ![256, 1408] inb_S256x5632_S256x1408_0_1408))
        (View.ld v (Rect.unit ![0, 1408] ![1024, 1408] inb_S1024x5632_S1024x1408_0_1408))
        (View.ld p (Rect.unit ![0, 2816] ![256, 1408] inb_S256x5632_S256x1408_0_2816))
        (View.ld v (Rect.unit ![0, 2816] ![1024, 1408] inb_S1024x5632_S1024x1408_0_2816))
        (View.ld p (Rect.unit ![0, 4224] ![256, 1408] inb_S256x5632_S256x1408_0_4224))
        (View.ld v (Rect.unit ![0, 4224] ![1024, 1408] inb_S1024x5632_S1024x1408_0_4224)) (ix2 i k)
      = ∑ l : Fin 5632, p (ix2 i l) * v (ix2 k l) := by
  rw [tiles_apply]
  refine Eq.trans (α := EReal) ?_ (Fin.sum_mul_add_congr (M := EReal) (L := 5632) (S := 4) (n := 1408)
    (F := fun s l => p (ix2 i (⟨s.val * 1408 + l.val, by omega⟩ : Fin 5632)) * v (ix2 k (⟨s.val * 1408 + l.val, by omega⟩ : Fin 5632)))
    (fun s l hl => rfl))
  rw [Fin.sum_univ_four]
  have e : ∀ (o : ℕ) (s : ℕ) (ho : o = s * 1408) (hs : s < 4) (hp : ∀ a, (![0, o] : Fin 2 → ℕ) a + (![256, 1408] : Fin 2 → ℕ) a ≤ S256x5632.size a)
      (hv : ∀ a, (![0, o] : Fin 2 → ℕ) a + (![1024, 1408] : Fin 2 → ℕ) a ≤ S1024x5632.size a) (l : Fin 1408),
      View.ld p (Rect.unit ![0, o] ![256, 1408] hp) (ix2 i l) * View.ld v (Rect.unit ![0, o] ![1024, 1408] hv) (ix2 k l)
        = p (ix2 i (⟨s * 1408 + l.val, by omega⟩ : Fin 5632)) * v (ix2 k (⟨s * 1408 + l.val, by omega⟩ : Fin 5632)) := by
    intro o s ho hs hp hv l
    refine congrArg₂ (· * ·) (congrArg p ?_) (congrArg v ?_)
    · funext a; fin_cases a
      · exact Fin.ext (by show 0 + 1 * i.val = i.val; omega)
      · exact Fin.ext (by show o + 1 * l.val = s * 1408 + l.val; omega)
    · funext a; fin_cases a
      · exact Fin.ext (by show 0 + 1 * k.val = k.val; omega)
      · exact Fin.ext (by show o + 1 * l.val = s * 1408 + l.val; omega)
  refine congrArg₂ (· + ·) (congrArg₂ (· + ·) (congrArg₂ (· + ·) ?_ ?_) ?_) ?_
  · exact Finset.sum_congr rfl fun l _ => e 0 0 rfl (by decide) _ _ l
  · exact Finset.sum_congr rfl fun l _ => e 1408 1 rfl (by decide) _ _ l
  · exact Finset.sum_congr rfl fun l _ => e 2816 2 rfl (by decide) _ _ l
  · exact Finset.sum_congr rfl fun l _ => e 4224 3 rfl (by decide) _ _ l

end Cert.InputGrad

end
-- ==== Proof.InputGrad.lean ====
/-
  The input projection's backward call for its inputs: its two arrays after the run.
-/
module

public import proofs.«01_k».proof.Proof.InputGradRow

@[expose] public section

set_option maxRecDepth 16384

noncomputable section

open Idealize.ShloMosaic Idealize.ShloMosaic.TcCoe Idealize.SL.Sem

namespace Cert.InputGrad

open Cert.Kernel5Ideal Cert.Kernel5Ideal.Gen

variable (m : (ℓ : Loc nD τ Cert.Kernel5Ideal.sig) → Buf (Elt Ideal) ℓ)

/-- The array of the gradient at the projection's results … -/
abbrev A0 (c : Dev nD) : Vec Ideal S4096x5632 .bf16 := m ((c : Thread nD τ).loc main_arg0)
/-- … and what point `t` reads of it. -/
abbrev B0 (c : Dev nD) (t : Fin cfg0.N) : Vec Ideal S256x5632 .bf16 := iblk m c 0 t
/-- The array of the projection's weights … -/
abbrev A1 (c : Dev nD) : Vec Ideal S1024x5632 .bf16 := m ((c : Thread nD τ).loc main_arg1)
/-- … and what point `t` reads of it. -/
abbrev B1 (c : Dev nD) (t : Fin cfg0.N) : Vec Ideal S1024x5632 .bf16 := iblk m c 1 t
/-- The array of the token rows … -/
abbrev A2 (c : Dev nD) : Vec Ideal S4096x1024 .f32 := m ((c : Thread nD τ).loc main_arg2)
/-- … and what point `t` reads of it. -/
abbrev B2 (c : Dev nD) (t : Fin cfg0.N) : Vec Ideal S256x1024 .f32 := iblk m c 2 t
/-- The array of the norm's weights … -/
abbrev A3 (c : Dev nD) : Vec Ideal S1x1024 .f32 := m ((c : Thread nD τ).loc main_arg3)
/-- … and what point `t` reads of it. -/
abbrev B3 (c : Dev nD) (t : Fin cfg0.N) : Vec Ideal S1x1024 .f32 := iblk m c 3 t
/-- The array of the gradient already at the token rows … -/
abbrev A4 (c : Dev nD) : Vec Ideal S4096x1024 .f32 := m ((c : Thread nD τ).loc main_arg4)
/-- … and what point `t` reads of it. -/
abbrev B4 (c : Dev nD) (t : Fin cfg0.N) : Vec Ideal S256x1024 .f32 := iblk m c 4 t

/-- The blocks of window 0: token rows `256 t …`, all columns. -/
theorem index0 : ∀ t : Fin cfg0.N, win0_0.index t = ![t.val, 0] :=
  (by decide +kernel : ∀ t : Fin grid0.N, win0_0.index t = ![t.val, 0])
/-- The blocks of window 1: the whole array at every point. -/
theorem index1 : ∀ t : Fin cfg0.N, win0_1.index t = ![0, 0] :=
  (by decide +kernel : ∀ t : Fin grid0.N, win0_1.index t = ![0, 0])
/-- The blocks of window 2: token rows `256 t …`, all columns. -/
theorem index2 : ∀ t : Fin cfg0.N, win0_2.index t = ![t.val, 0] :=
  (by decide +kernel : ∀ t : Fin grid0.N, win0_2.index t = ![t.val, 0])
/-- The blocks of window 3: the whole array at every point. -/
theorem index3 : ∀ t : Fin cfg0.N, win0_3.index t = ![0, 0] :=
  (by decide +kernel : ∀ t : Fin grid0.N, win0_3.index t = ![0, 0])
/-- The blocks of window 4: token rows `256 t …`, all columns. -/
theorem index4 : ∀ t : Fin cfg0.N, win0_4.index t = ![t.val, 0] :=
  (by decide +kernel : ∀ t : Fin grid0.N, win0_4.index t = ![t.val, 0])
/-- The blocks of window 5: token rows `256 t …`, all columns. -/
theorem index5 : ∀ t : Fin cfg0.N, win0_5.index t = ![t.val, 0] :=
  (by decide +kernel : ∀ t : Fin grid0.N, win0_5.index t = ![t.val, 0])
/-- The blocks of window 6: the whole array at every point. -/
theorem index6 : ∀ t : Fin cfg0.N, win0_6.index t = ![0, 0] :=
  (by decide +kernel : ∀ t : Fin grid0.N, win0_6.index t = ![0, 0])

/-- Reading the gradient at the projection's results at a point. -/
theorem read0 (c : Dev nD) (t : Fin cfg0.N) (i : Fin 256) (k : Fin 5632) (r : Fin 4096) (hr : r.val = t.val * 256 + i.val) :
    B0 m c t (ix2 i k) = A0 m c (ix2 r k) := by
  refine congrArg (A0 m c) ?_
  show (win0_0.rect t).emb (ix2 i k) = _
  refine funext fun a => Fin.ext ?_
  rw [Pipeline.Window.rect_emb_val win0_0 t _ a rfl, index0]
  fin_cases a
  · show t.val * 256 + i.val = r.val
    omega
  · show 0 * 5632 + k.val = k.val
    omega

/-- Reading the projection's weights at a point. -/
theorem read1 (c : Dev nD) (t : Fin cfg0.N) (i : Fin 1024) (k : Fin 5632) : B1 m c t (ix2 i k) = A1 m c (ix2 i k) := by
  refine congrArg (A1 m c) ?_
  show (win0_1.rect t).emb (ix2 i k) = _
  refine funext fun a => Fin.ext ?_
  rw [Pipeline.Window.rect_emb_val win0_1 t _ a rfl, index1]
  fin_cases a
  · show 0 * 1024 + i.val = i.val
    omega
  · show 0 * 5632 + k.val = k.val
    omega

/-- Reading the token rows at a point. -/
theorem read2 (c : Dev nD) (t : Fin cfg0.N) (i : Fin 256) (k : Fin 1024) (r : Fin 4096) (hr : r.val = t.val * 256 + i.val) :
    B2 m c t (ix2 i k) = A2 m c (ix2 r k) := by
  refine congrArg (A2 m c) ?_
  show (win0_2.rect t).emb (ix2 i k) = _
  refine funext fun a => Fin.ext ?_
  rw [Pipeline.Window.rect_emb_val win0_2 t _ a rfl, index2]
  fin_cases a
  · show t.val * 256 + i.val = r.val
    omega
  · show 0 * 1024 + k.val = k.val
    omega

/-- Reading the norm's weights at a point. -/
theorem read3 (c : Dev nD) (t : Fin cfg0.N) (i : Fin 1) (k : Fin 1024) : B3 m c t (ix2 i k) = A3 m c (ix2 i k) := by
  refine congrArg (A3 m c) ?_
  show (win0_3.rect t).emb (ix2 i k) = _
  refine funext fun a => Fin.ext ?_
  rw [Pipeline.Window.rect_emb_val win0_3 t _ a rfl, index3]
  fin_cases a
  · show 0 * 1 + i.val = i.val
    omega
  · show 0 * 1024 + k.val = k.val
    omega

/-- Reading the gradient already at the token rows at a point. -/
theorem read4 (c : Dev nD) (t : Fin cfg0.N) (i : Fin 256) (k : Fin 1024) (r : Fin 4096) (hr : r.val = t.val * 256 + i.val) :
    B4 m c t (ix2 i k) = A4 m c (ix2 r k) := by
  refine congrArg (A4 m c) ?_
  show (win0_4.rect t).emb (ix2 i k) = _
  refine funext fun a => Fin.ext ?_
  rw [Pipeline.Window.rect_emb_val win0_4 t _ a rfl, index4]
  fin_cases a
  · show t.val * 256 + i.val = r.val
    omega
  · show 0 * 1024 + k.val = k.val
    omega

/-- A token row. -/
def rowX (c : Dev nD) (r : Fin 4096) : Fin 1024 → EReal := fun l => A2 m c (ix2 r l)
/-- The norm's weights as a row. -/
def rowW (c : Dev nD) : Fin 1024 → EReal := fun l => A3 m c (ix2 0 l)
/-- The gradient at a row of the projection's inputs. -/
def rowG (c : Dev nD) (r : Fin 4096) : Fin 1024 → EReal := fun l => ∑ q : Fin 5632, A0 m c (ix2 r q) * A1 m c (ix2 l q)

/-- What a point computes of the gradient at the projection's inputs. -/
abbrev gradBlock (c : Dev nD) (t : Fin cfg0.N) : Vec Ideal S256x1024 .f32 :=
  k0_pay6 (View.ld (B0 m c t) (Rect.unit ![0, 0] ![256, 1408] inb_S256x5632_S256x1408_0_0))
    (View.ld (B1 m c t) (Rect.unit ![0, 0] ![1024, 1408] inb_S1024x5632_S1024x1408_0_0))
    (View.ld (B0 m c t) (Rect.unit ![0, 1408] ![256, 1408] inb_S256x5632_S256x1408_0_1408))
    (View.ld (B1 m c t) (Rect.unit ![0, 1408] ![1024, 1408] inb_S1024x5632_S1024x1408_0_1408))
    (View.ld (B0 m c t) (Rect.unit ![0, 2816] ![256, 1408] inb_S256x5632_S256x1408_0_2816))
    (View.ld (B1 m c t) (Rect.unit ![0, 2816] ![1024, 1408] inb_S1024x5632_S1024x1408_0_2816))
    (View.ld (B0 m c t) (Rect.unit ![0, 4224] ![256, 1408] inb_S256x5632_S256x1408_0_4224))
    (View.ld (B1 m c t) (Rect.unit ![0, 4224] ![1024, 1408] inb_S1024x5632_S1024x1408_0_4224))

/-- A row of it is the array's row. -/
theorem gradBlock_row (c : Dev nD) (t : Fin cfg0.N) (i : Fin 256) (r : Fin 4096) (hr : r.val = t.val * 256 + i.val) :
    (fun l : Fin 1024 => gradBlock m c t (ix2 i l)) = rowG m c r := by
  funext l
  refine (grad_apply _ _ i l).trans ?_
  exact Finset.sum_congr rfl fun q _ => congrArg₂ (· * ·) (read0 m c t i q r hr) (read1 m c t l q)

/-- What a point leaves of the gradient of the token rows. -/
theorem rows_block (c : Dev nD) (t : Fin cfg0.N) :
    (outsAt0 m c t.val t.isLt).1
      = k0_pay3 (gradBlock m c t) (B2 m c t) (B3 m c t) (k0_pay7 (B2 m c t)) k0_pay8 (B4 m c t) := by
  by_cases h0 : t.val % 16 = 0
  · rw [outsAt0_A m c t h0]
    frame_out
  · rw [outsAt0_B m c t h0]
    frame_out

/-- An element of it. -/
theorem rows_block_apply (c : Dev nD) (t : Fin cfg0.N) (i : Fin 256) (k : Fin 1024) (r : Fin 4096) (hr : r.val = t.val * 256 + i.val) :
    ((outsAt0 m c t.val t.isLt).1 (ix2 i k) : EReal) = A4 m c (ix2 r k) + rowGrad (rowX m c r) (rowW m c) (rowG m c r) k := by
  rw [rows_block, row_apply, gradBlock_row m c t i r hr]
  have ex : (fun l : Fin 1024 => B2 m c t (ix2 i l)) = rowX m c r := funext fun l => read2 m c t i l r hr
  have ew : (fun l : Fin 1024 => B3 m c t (ix2 0 l)) = rowW m c := funext fun l => read3 m c t 0 l
  rw [ex, ew, read4 m c t i k r hr]

/-- The gradient of the token rows after the run. -/
theorem rows (c : Dev nD) : (dats m 0 c).arrAt 5 cfg0.N
    = fun y => (A4 m c y + rowGrad (rowX m c (y 0)) (rowW m c) (rowG m c (y 0)) (y 1) : EReal) := by
  refine (dats m 0 c).arrAt_eq_of_covers 5 _ (by decide +kernel) fun t hf y => ?_
  blk_simp
  rw [after0_5]
  have e0 : ((((View.whole main_v0_0).slice (win0_5.rect t)).emb y 0 : Fin 4096) : ℕ) = t.val * 256 + (y 0).val := by
    show (((win0_5.rect t).emb y 0 : Fin 4096) : ℕ) = _
    rw [Pipeline.Window.rect_emb_val win0_5 t _ 0 rfl, index5]
    rfl
  have e1 : ((View.whole main_v0_0).slice (win0_5.rect t)).emb y 1 = (y 1 : Fin 1024) := by
    refine Fin.ext ?_
    show (((win0_5.rect t).emb y 1 : Fin 1024) : ℕ) = _
    rw [Pipeline.Window.rect_emb_val win0_5 t _ 1 rfl, index5]
    show 0 * 1024 + (y 1).val = (y 1).val
    omega
  have e : ((View.whole main_v0_0).slice (win0_5.rect t)).emb y
      = ix2 (((View.whole main_v0_0).slice (win0_5.rect t)).emb y 0 : Fin 4096) (y 1 : Fin 1024) :=
    (ValueIdx.eq_ix2 (n0 := 4096) (n1 := 1024) _).trans (congrArg _ e1)
  rw [e]
  exact (congrArg (outsAt0 m c t.val t.isLt).1 (ValueIdx.eq_ix2 (n0 := 256) (n1 := 1024) y)).trans
    (rows_block_apply m c t (y 0) (y 1) _ e0)

/-- The part of the gradient of the norm's weights from one tile of token rows. -/
def tile (c : Dev nD) (k : Fin 1024) (s : ℕ) : EReal :=
  if h : s < 16 then ∑ i : Fin 256, weightPart (rowX m c (⟨s * 256 + i.val, by omega⟩ : Fin 4096)) (rowG m c (⟨s * 256 + i.val, by omega⟩ : Fin 4096)) k
  else 0

/-- A point adds its tile's part. -/
theorem step_tile (c : Dev nD) (t : Fin cfg0.N) (acc : Vec Ideal S1x1024 .f32) (k : Fin 1024) :
    k0_pay4 (gradBlock m c t) (B2 m c t) (k0_pay7 (B2 m c t)) k0_pay8 acc (ix2 0 k) = acc (ix2 0 k) + tile m c k t.val := by
  have ht : t.val < 16 := lt_of_lt_of_eq t.isLt N_0
  rw [part_apply]
  unfold tile
  rw [dif_pos ht]
  refine congrArg (acc (ix2 0 k) + ·) (Finset.sum_congr rfl fun i _ => ?_)
  have ex : (fun l : Fin 1024 => B2 m c t (ix2 i l)) = rowX m c (⟨t.val * 256 + i.val, by omega⟩ : Fin 4096) :=
    funext fun l => read2 m c t i l _ rfl
  rw [gradBlock_row m c t i ⟨t.val * 256 + i.val, by omega⟩ rfl, ex]

/-- What the running sum is after point `n`: the tiles up to `n`. -/
theorem sum_apply (c : Dev nD) (k : Fin 1024) : ∀ (n : ℕ) (h : n < cfg0.N),
    ((outsAt0 m c n h).2 (ix2 0 k) : EReal) = ∑ s ∈ Finset.range (n + 1), tile m c k s := by
  intro n
  induction n with
  | zero =>
    intro h
    show (outsAt0 m c (⟨0, h⟩ : Fin cfg0.N).val (⟨0, h⟩ : Fin cfg0.N).isLt).2 (ix2 0 k) = _
    rw [outsAt0_A m c ⟨0, h⟩ rfl]
    frame_out
    refine (step_tile m c ⟨0, h⟩ _ k).trans ?_
    rw [zero_apply, zero_add, Finset.sum_range_one]
  | succ n ih =>
    intro h
    have hN : n + 1 < 16 := lt_of_lt_of_eq h N_0
    show (outsAt0 m c (⟨n + 1, h⟩ : Fin cfg0.N).val (⟨n + 1, h⟩ : Fin cfg0.N).isLt).2 (ix2 0 k) = _
    rw [outsAt0_B m c ⟨n + 1, h⟩ (by show ¬ (n + 1) % 16 = 0; omega)]
    frame_out
    refine (step_tile m c ⟨n + 1, h⟩ _ k).trans ?_
    rw [Finset.sum_range_succ]
    exact congrArg (· + _) (ih (Nat.lt_of_succ_lt h))

/-- After the last point: the sum over all token rows. -/
theorem sum_last (c : Dev nD) (k : Fin 1024) (t : Fin cfg0.N) (ht : t.val = 15) :
    ((outsAt0 m c t.val t.isLt).2 (ix2 0 k) : EReal) = ∑ r : Fin 4096, weightPart (rowX m c r) (rowG m c r) k := by
  rw [sum_apply, ht, Finset.sum_range]
  refine Eq.trans (α := EReal) (Finset.sum_congr (M := EReal) rfl fun s _ => ?_) (Fin.sum_mul_add_congr (M := EReal) (L := 4096) (S := 16) (n := 256)
    (F := fun s i => weightPart (rowX m c (⟨s.val * 256 + i.val, by omega⟩ : Fin 4096)) (rowG m c (⟨s.val * 256 + i.val, by omega⟩ : Fin 4096)) k)
    (fun s i hl => rfl))
  unfold tile
  rw [dif_pos s.isLt]

/-- The gradient of the norm's weights after the run. -/
theorem weights (c : Dev nD) : (dats m 0 c).arrAt 6 cfg0.N
    = fun y => (∑ r : Fin 4096, weightPart (rowX m c r) (rowG m c r) (y 1) : EReal) := by
  refine (dats m 0 c).arrAt_eq_of_covers 6 _ (by decide +kernel) fun t hf y => ?_
  have ht : t.val = 15 := by
    have h1 := (flush0_6 t).mp hf
    have h2 : t.val < 16 := lt_of_lt_of_eq t.isLt N_0
    omega
  blk_simp
  rw [after0_6]
  have e1 : ((View.whole main_v0_1).slice (win0_6.rect t)).emb y 1 = (y 1 : Fin 1024) := by
    refine Fin.ext ?_
    show (((win0_6.rect t).emb y 1 : Fin 1024) : ℕ) = _
    rw [Pipeline.Window.rect_emb_val win0_6 t _ 1 rfl, index6]
    show 0 * 1024 + (y 1).val = (y 1).val
    omega
  rw [e1]
  refine (congrArg (outsAt0 m c t.val t.isLt).2 ((ValueIdx.eq_ix2 (n0 := 1) (n1 := 1024) y).trans ?_)).trans (sum_last m c (y 1) t ht)
  exact congrArg (fun z : Fin 1 => ix2 z (y 1)) (Subsingleton.elim _ _)

end Cert.InputGrad

end
-- ==== Proof.RefInputGrad.lean ====
/-
  The reference of the input projection's backward call for its inputs, element by element.
-/
module

public import proofs.«01_k».proof.Proof.Gen.Reference5Ideal.Read
public import proofs.«01_k».proof.Proof.InputGradRow

@[expose] public section

set_option maxRecDepth 16384

noncomputable section

open Idealize.ShloMosaic Idealize.ShloMosaic.TcCoe Idealize.SL.Sem

namespace Cert.RefInputGrad

open Cert.Reference5Ideal Cert.Reference5Ideal.Read Cert.InputGrad

variable (p : Vec Ideal S4096x5632 .bf16) (v : Vec Ideal S1024x5632 .bf16) (x : Vec Ideal S4096x1024 .f32) (w : Vec Ideal S1x1024 .f32)
  (d : Vec Ideal S4096x1024 .f32)

/-- A token row. -/
abbrev rx (i : Fin 4096) : Fin 1024 → EReal := fun l => x (ix2 i l)
/-- The norm's weights as a row. -/
abbrev rw0 : Fin 1024 → EReal := fun l => w (ix2 0 l)
/-- The gradient at a row of the projection's inputs. -/
abbrev rg (i : Fin 4096) : Fin 1024 → EReal := fun l => ∑ q : Fin 5632, p (ix2 i q) * v (ix2 l q)

/-- The mean square with the offset. -/
theorem ms_apply (i : Fin 4096) (z : Fin 1) : (val_main_v8 (F := Ideal) x (ix2 i z) : EReal) = ms (rx x i) := by
  rw [val_main_v8_apply, val_main_v6_apply, val_main_v4_apply, val_main_v3_apply, val_main_v5_apply, val_main_v7_apply]
  refine congrArg₂ (fun a b : EReal => a + b) (congrArg₂ Ideal.div ?_ rfl) rfl
  refine (congrArg₂ (fun a b : EReal => a + b) Ideal.ofBits_zero_f32 (Finset.sum_congr rfl fun l _ => ?_)).trans (zero_add _)
  have e : idx_main_v3 (idx_main_v4 (ix2 i z)) l = ix2 i l := by funext a; fin_cases a <;> rfl
  rw [e]
  rfl

/-- Its root, inverted. -/
theorem root_apply (i : Fin 4096) (z : Fin 1) : (val_main_v9 (F := Ideal) x (ix2 i z) : EReal) = Ideal.rsqrt (ms (rx x i)) := by
  rw [val_main_v9_apply, ms_apply]
  rfl

/-- The derivative of the root. -/
theorem slope_apply (i : Fin 4096) (z : Fin 1) : (val_main_v12 (F := Ideal) x (ix2 i z) : EReal)
    = Ideal.ofBits FTy.f32 3204448256#32 * Ideal.div (Ideal.rsqrt (ms (rx x i))) (ms (rx x i)) := by
  rw [val_main_v12_apply, val_main_v11_apply, val_main_v10_apply, root_apply, ms_apply]
  rfl

/-- The gradient at the projection's inputs. -/
theorem grad_apply (i : Fin 4096) (k : Fin 1024) : (val_main_v20 (F := Ideal) p v (ix2 i k) : EReal) = rg p v i k := by
  rw [val_main_v20_apply]
  refine Finset.sum_congr rfl fun q _ => ?_
  have el : lidx_main_v20 (ix2 i k) q = ix2 i q := by funext a; fin_cases a <;> rfl
  have er : ridx_main_v20 (ix2 i k) q = ix2 k q := by funext a; fin_cases a <;> rfl
  rw [el, er]
  rfl

/-- … times the norm's weights. -/
theorem scaled_apply (i : Fin 4096) (k : Fin 1024) : (val_main_v25 (F := Ideal) p v w (ix2 i k) : EReal) = rg p v i k * rw0 w k := by
  rw [val_main_v25_apply, grad_apply, val_main_v24_apply, val_main_v15_apply, val_main_v1_apply]
  have e : idx_main_v1 (idx_main_v15 (idx_main_v24 (ix2 i k))) = ix2 0 k := by
    funext a; fin_cases a
    · rfl
    · exact Fin.ext (by show k.val % 1024 = k.val; omega)
  rw [e]
  rfl

/-- The row's product with it. -/
theorem product_apply (i : Fin 4096) (z : Fin 1) : (val_main_v29 (F := Ideal) p v x w (ix2 i z) : EReal)
    = ∑ l : Fin 1024, rx x i l * (rg p v i l * rw0 w l) := by
  rw [val_main_v29_apply, val_main_v28_apply]
  refine (congrArg₂ (fun a b : EReal => a + b) Ideal.ofBits_zero_f32 (Finset.sum_congr rfl fun l _ => ?_)).trans (zero_add _)
  have e : idx_main_v28 (idx_main_v29 (ix2 i z)) l = ix2 i l := by
    funext a; fin_cases a
    · exact Fin.ext (by have := z.isLt; show i.val * 1 + z.val = i.val; omega)
    · rfl
  rw [e, val_main_v27_apply, scaled_apply]
  rfl

/-- What comes back through the mean square, per element (half of it). -/
theorem back_apply (i : Fin 4096) (k : Fin 1024) : (val_main_v37 (F := Ideal) p v x w (ix2 i k) : EReal) = back (rx x i) (rw0 w) (rg p v i) := by
  rw [val_main_v37_apply, val_main_v36_apply]
  refine (congrArg₂ (fun a b : EReal => a + b) Ideal.ofBits_zero_f32 rfl).trans (zero_add _) |>.trans ?_
  rw [Fin.sum_univ_one]
  have e : idx_main_v36 (idx_main_v37 (ix2 i k)) 0 = ix2 i 0 := by funext a; fin_cases a <;> rfl
  rw [e, val_main_v35_apply, val_main_v33_apply, product_apply, slope_apply, val_main_v34_apply]
  rfl

/-- The gradient of the token rows. -/
theorem rows_apply (i : Fin 4096) (k : Fin 1024) : (val_main_v41 (F := Ideal) p v x w d (ix2 i k) : EReal)
    = d (ix2 i k) + rowGrad (rx x i) (rw0 w) (rg p v i) k := by
  rw [val_main_v41_apply, val_main_v39_apply, val_main_v32_apply, val_main_v31_apply, val_main_v38_apply, val_main_v40_apply, scaled_apply,
    back_apply, val_main_v30_apply]
  have e : idx_main_v30 (ix2 i k) = ix2 i 0 := by funext a; fin_cases a <;> rfl
  rw [e, root_apply]
  unfold rowGrad
  show (d (ix2 i k) + _ + _ + _ : EReal) = _
  rw [add_assoc, add_assoc]
  exact congrArg (d (ix2 i k) + ·) (add_assoc _ _ _).symm

/-- The gradient of the norm's weights. -/
theorem weights_apply (z : Fin 1) (k : Fin 1024) : (val_main_v42 (F := Ideal) p v x (ix2 z k) : EReal)
    = ∑ i : Fin 4096, weightPart (rx x i) (rg p v i) k := by
  rw [val_main_v42_apply, val_main_v26_apply]
  refine (congrArg₂ (fun a b : EReal => a + b) Ideal.ofBits_zero_f32 rfl).trans (zero_add _) |>.trans ?_
  rw [Fin.sum_univ_one, val_main_v23_apply, val_main_v22_apply]
  refine (congrArg₂ (fun a b : EReal => a + b) Ideal.ofBits_zero_f32 (Finset.sum_congr rfl fun i _ => ?_)).trans (zero_add _)
  have e : idx_main_v22 (idx_main_v23 (idx_main_v26 (idx_main_v42 (ix2 z k)) 0)) i = ix2 i k := by
    funext a; fin_cases a
    · rfl
    · exact Fin.ext (by show 0 * 1024 + k.val = k.val; omega)
  rw [e, val_main_v21_apply, val_main_v14_apply, val_main_v13_apply, grad_apply]
  have e13 : idx_main_v13 (ix2 i k) = ix2 i 0 := by funext a; fin_cases a <;> rfl
  rw [e13, root_apply]
  rfl

end Cert.RefInputGrad

end
-- ==== Proof.ClaimInputGrad.lean ====
/-
  The input projection backwards, for its inputs and for the norm's weights: the kernel and the reference leave the same two arrays.
-/
module

public import proofs.«01_k».proof.Defs
public import proofs.«01_k».proof.Proof.InputGrad
public import proofs.«01_k».proof.Proof.RefInputGrad
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

open Idealize.ShloMosaic Idealize.ShloMosaic.TcCoe Idealize.SL.Sem

namespace Cert.ClaimInputGrad

/-- The frame of the kernel over machine floats. -/
theorem frame_kernel : @Cert.quiescent_Kernel5 Cert.Kernel5.Gen.facts := fun m g _ => Cert.Kernel5.Gen.frame m g

/-- The frame of the kernel over the real numbers. -/
theorem frame_ideal : @Cert.quiescent_Kernel5Ideal Cert.Kernel5Ideal.Gen.facts := fun m g _ => Cert.Kernel5Ideal.Gen.frame m g

/-- The frame of the reference. -/
theorem frame_reference : @Cert.quiescent_Reference5Ideal Cert.Reference5Ideal.Gen.facts := fun m g _ =>
  (θ_run (Cert.Reference5Ideal.defs (F := Ideal)) _ _).mono
    (fun r h => ⟨fun c => (h c).2.2, sem_eq_zero_of_no_sems rfl r.2⟩)
    (Cert.Reference5Ideal.Value.run (F := Ideal) m g)

/-- The gradients of the block's inputs are the same. -/
theorem same_rows (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0)
      = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1)
      = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2)
      = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3)
      = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4)
      = m ((c.tc : Thread Cert.Kernel5Ideal.nD Cert.Kernel5Ideal.τ).loc Cert.Kernel5Ideal.main_arg4))
    :
    Cert.Reference5Ideal.Value.res_main_v41 (F := Ideal) m' c
      = (Cert.Kernel5Ideal.Gen.dats m 0 c).arrAt 5 Cert.Kernel5Ideal.cfg0.N := by
  rw [Cert.Reference5Ideal.Read.val_main_v41_eq, h0, h1, h2, h3, h4, Cert.InputGrad.rows]
  funext y
  conv_lhs => rw [ValueIdx.eq_ix2 y]
  refine (Cert.RefInputGrad.rows_apply _ _ _ _ _ (y 0) (y 1)).trans ?_
  exact congrArg₂ (fun a b : EReal => a + b) (congrArg (Cert.InputGrad.A4 m c) (ValueIdx.eq_ix2 y).symm) rfl

/-- The gradients of the norm's weights are the same. -/
theorem same_weights (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0)
      = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1)
      = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2)
      = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3)
      = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4)
      = m ((c.tc : Thread Cert.Kernel5Ideal.nD Cert.Kernel5Ideal.τ).loc Cert.Kernel5Ideal.main_arg4))
    :
    Cert.Reference5Ideal.Read.val_main_v42 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))
      = (Cert.Kernel5Ideal.Gen.dats m 0 c).arrAt 6 Cert.Kernel5Ideal.cfg0.N := by
  rw [h0, h1, h2, Cert.InputGrad.weights]
  funext y
  conv_lhs => rw [ValueIdx.eq_ix2 y]
  exact Cert.RefInputGrad.weights_apply _ _ _ (y 0) (y 1)

/-- The kernel's gradients of the block's inputs and of the norm's weights are the reference's. -/
theorem value : @Cert.algebraic_Kernel5Ideal_Reference5Ideal Cert.Kernel5Ideal.Gen.facts Cert.Reference5Ideal.Gen.facts := by
  intro m g m' g' _ hargs
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N,
    Cert.Kernel5Ideal.Value.run_blocks (F := Ideal) m g,
    (θ_run (Cert.Reference5Ideal.defs (F := Ideal)) _ _).mono (fun r h c => ⟨?_, ?_, (h c).2.2⟩) (Cert.Reference5Ideal.Value.run (F := Ideal) m' g')⟩
  · exact (h c).1.trans (same_rows m m' c (hargs c).1 (hargs c).2.1 (hargs c).2.2.1 (hargs c).2.2.2.1 (hargs c).2.2.2.2)
  · exact (h c).2.1.trans (same_weights m m' c (hargs c).1 (hargs c).2.1 (hargs c).2.2.1 (hargs c).2.2.2.1 (hargs c).2.2.2.2)

end Cert.ClaimInputGrad

end
-- ==== Proof.OptimizerRow.lean ====
/-
  The optimiser's call for the input projection's weights: the vectors one point computes, an element at a time.
-/
module

public import Idealize.ShloMosaic.Lib.Pipeline.Value
public import Idealize.ShloMosaic.PureOps.Ideal.Laws
public import Idealize.ShloMosaic.Lib.Pointwise
public import Idealize.ShloMosaic.Lib.Pipeline.ValueKit
public import Idealize.ShloMosaic.Lib.ValueIdx
public import proofs.«01_k».proof.Proof.Gen.Kernel6Ideal.Frame

@[expose] public section

set_option maxRecDepth 16384

noncomputable section

open Idealize.ShloMosaic Idealize.ShloMosaic.TcCoe Idealize.SL.Sem

namespace Cert.Optimizer

open Cert.Kernel6Ideal Cert.Kernel6Ideal.Gen

/-- The first moment after a step: nine tenths of the old one and a tenth of the gradient. -/
def moment (g m : EReal) : EReal := Ideal.ofBits FTy.f32 0x3F666666#32 * m + Ideal.ofBits FTy.f32 0x3DCCCCCD#32 * g

/-- The second moment after a step, from the gradient's square. -/
def second (g v : EReal) : EReal := Ideal.ofBits FTy.f32 0x3F7FBE77#32 * v + Ideal.ofBits FTy.f32 0x3A83126F#32 * (g * g)

/-- What is added to a weight: the corrected first moment over the root of the corrected second, and the weight's decay, times minus the rate. -/
def change (w m v : EReal) : EReal :=
  Ideal.ofBits FTy.f32 0xBA83126F#32 * (Ideal.div (Ideal.div m (Ideal.ofBits FTy.f32 0x3F26BD02#32))
    (Ideal.sqrt (Ideal.div v (Ideal.ofBits FTy.f32 0x3C231ACC#32)) + Ideal.ofBits FTy.f32 0x322BCC77#32)
    + Ideal.ofBits FTy.f32 0x3C23D70A#32 * w)

/-- One of two layers' values. -/
def layer {α : Type} (l : Fin 2) (a b : α) : α := if l = 0 then a else b

/-- The four parts of a gradient, added. -/
def total (p : Vec Ideal S4x512x674 .bf16) (k : Fin 512) (j : Fin 674) : EReal :=
  p (ix3 0 k j) + p (ix3 1 k j) + p (ix3 2 k j) + p (ix3 3 k j)

variable (x0 x1 : Vec Ideal S4x512x674 .bf16) (x2 x3 x4 : Vec Ideal S674x2x512 .f32)

/-- An element of the first layer's summed gradient. -/
theorem gradient_first (j : Fin 674) (k : Fin 512) :
    (k0_pay5 (View.ld x0 r0_0) (View.ld x0 r0_1) (View.ld x0 r0_2) (View.ld x0 r0_3) (ix3 j 0 k) : EReal)
      = total x0 k j := by
  pointwise [k0_pay5, k0_pay4]
  rfl

/-- An element of the second layer's summed gradient. -/
theorem gradient_last (j : Fin 674) (k : Fin 512) :
    (k0_pay16 (k0_pay26 x0 x1 x2 x3 x4) (View.ld x1 r0_2) (View.ld x1 r0_3) (ix3 j 0 k) : EReal)
      = total x1 k j := by
  pointwise [k0_pay16, k0_pay15, k0_pay26, k0_pay14]
  rfl

/-- An element of the first layer's new first moment. -/
theorem moment_first (j : Fin 674) (k : Fin 512) :
    (k0_pay12 (k0_pay24 x0 x1 x2 x3 x4) (ix3 j 0 k) : EReal)
      = moment (total x0 k j) (x3 (ix3 j 0 k)) := by
  pointwise [k0_pay12, k0_pay24, k0_pay8, k0_pay4]
  rfl

/-- An element of the second layer's new first moment. -/
theorem moment_last (j : Fin 674) (k : Fin 512) :
    (k0_pay2 (k0_pay18 (k0_pay26 x0 x1 x2 x3 x4) (View.ld x1 r0_2) (View.ld x1 r0_3) (View.ld x3 r0_5)) (ix3 j 0 k) : EReal)
      = moment (total x1 k j) (x3 (ix3 j 1 k)) := by
  pointwise [k0_pay2, k0_pay18, k0_pay15, k0_pay26, k0_pay14]
  rfl

/-- An element of the first layer's new second moment. -/
theorem second_first (j : Fin 674) (k : Fin 512) :
    (k0_pay13 (k0_pay22 x0 x1 x2 x3 x4) (k0_pay23 x0 x1 x2 x3 x4) (k0_pay25 x0 x1 x2 x3 x4) (ix3 j 0 k) : EReal)
      = second (total x0 k j) (x4 (ix3 j 0 k)) := by
  pointwise [k0_pay13, k0_pay10, k0_pay22, k0_pay23, k0_pay25, k0_pay4, k0_pay7, k0_pay9]
  rfl

/-- An element of the second layer's new second moment. -/
theorem second_last (j : Fin 674) (k : Fin 512) :
    (k0_pay3 (k0_pay19 (k0_pay26 x0 x1 x2 x3 x4) (View.ld x1 r0_2) (View.ld x1 r0_3) (View.ld x4 r0_5)) (ix3 j 0 k) : EReal)
      = second (total x1 k j) (x4 (ix3 j 1 k)) := by
  pointwise [k0_pay3, k0_pay19, k0_pay15, k0_pay26, k0_pay14]
  rfl

/-- An element of the first layer's change of the weight. -/
theorem change_first (j : Fin 674) (k : Fin 512) :
    (k0_pay11 (k0_pay22 x0 x1 x2 x3 x4) (k0_pay6 (View.ld x2 r0_4)) (k0_pay23 x0 x1 x2 x3 x4) (k0_pay24 x0 x1 x2 x3 x4) (k0_pay25 x0 x1 x2 x3 x4) (ix3 j 0 k) : EReal)
      = change (x2 (ix3 j 0 k)) (moment (total x0 k j) (x3 (ix3 j 0 k))) (second (total x0 k j) (x4 (ix3 j 0 k))) := by
  pointwise [k0_pay11, k0_pay10, k0_pay6, k0_pay22, k0_pay23, k0_pay24, k0_pay25, k0_pay8, k0_pay4, k0_pay7, k0_pay9]
  rfl

/-- An element of the second layer's change of the weight. -/
theorem change_last (j : Fin 674) (k : Fin 512) :
    (k0_pay1 (k0_pay17 (View.ld x2 r0_5)) (k0_pay20 (k0_pay26 x0 x1 x2 x3 x4) (View.ld x1 r0_2) (View.ld x1 r0_3) (View.ld x3 r0_5)) (k0_pay21 (k0_pay26 x0 x1 x2 x3 x4) (View.ld x1 r0_2) (View.ld x1 r0_3) (View.ld x4 r0_5)) (ix3 j 0 k) : EReal)
      = change (x2 (ix3 j 1 k)) (moment (total x1 k j) (x3 (ix3 j 1 k))) (second (total x1 k j) (x4 (ix3 j 1 k))) := by
  pointwise [k0_pay1, k0_pay17, k0_pay20, k0_pay21, k0_pay18, k0_pay19, k0_pay15, k0_pay26, k0_pay14]
  rfl

/-- The place of an element of the first layer's store … -/
theorem place_first (j : Fin 674) (k : Fin 512) : r0_4.idx (ix3 j 0 k) = ix3 j 0 k := by
  funext a; fin_cases a
  · exact Fin.ext (by show 0 + 1 * j.val = j.val; omega)
  · rfl
  · exact Fin.ext (by show 0 + 1 * k.val = k.val; omega)

/-- … and of the second's. -/
theorem place_last (j : Fin 674) (k : Fin 512) : r0_5.idx (ix3 j 0 k) = ix3 j 1 k := by
  funext a; fin_cases a
  · exact Fin.ext (by show 0 + 1 * j.val = j.val; omega)
  · rfl
  · exact Fin.ext (by show 0 + 1 * k.val = k.val; omega)

/-- An index of a stored piece. -/
theorem piece_index (z : S674x1x512.Idx) : ∃ (j : Fin 674) (k : Fin 512), z = ix3 j 0 k :=
  ⟨z 0, z 2, by
    funext a; fin_cases a
    · rfl
    · exact Subsingleton.elim (α := Fin 1) _ _
    · rfl⟩

/-- A buffer filled by one store for each layer holds both, as one function of the place. -/
theorem two_pieces (a b : Vec Ideal S674x1x512 .f32) (G : S674x2x512.Idx → EReal) (ha : ∀ j k, a (ix3 j 0 k) = G (ix3 j 1 k))
    (hb : ∀ j k, b (ix3 j 0 k) = G (ix3 j 0 k)) (L : List (View.Piece (Elt Ideal) S674x2x512 .f32)) (hL : L = [⟨r0_5, a⟩, ⟨r0_4, b⟩])
    (hc : ∀ y, ∃ pc ∈ L, y ∈ pc.1.set) (y : S674x2x512.Idx) : View.canon (Val := Elt Ideal) L y = G y := by
  subst hL
  refine View.canon_apply_of_pieces (Val := Elt Ideal) G _ ?_ y (hc y)
  intro pc hpc
  rcases List.mem_cons.mp hpc with rfl | hpc
  · intro z
    obtain ⟨j, k, rfl⟩ := piece_index z
    exact (ha j k).trans (congrArg G (place_last j k).symm)
  rcases List.mem_cons.mp hpc with rfl | hpc
  · intro z
    obtain ⟨j, k, rfl⟩ := piece_index z
    exact (hb j k).trans (congrArg G (place_first j k).symm)
  nomatch hpc

/-- The summed gradient of both layers, as one function of the place. -/
theorem gradient_stored (y : S674x2x512.Idx) : (out0_5 x0 x1 x2 x3 x4 y : EReal)
    = total (layer (y 1) x0 x1) (y 2) (y 0) :=
  two_pieces _ _ (fun y => total (layer (y 1) x0 x1) (y 2) (y 0))
    (fun j k => gradient_last x0 x1 x2 x3 x4 j k) (fun j k => gradient_first x0 j k) _ rfl (cover0_5 _ _) y

/-- The change of the weight of both layers, as one function of the place. -/
theorem change_stored (y : S674x2x512.Idx) : (out0_6 x0 x1 x2 x3 x4 y : EReal)
    = change (x2 y) (moment (total (layer (y 1) x0 x1) (y 2) (y 0)) (x3 y)) (second (total (layer (y 1) x0 x1) (y 2) (y 0)) (x4 y)) :=
  two_pieces _ _ (fun y => change (x2 y) (moment (total (layer (y 1) x0 x1) (y 2) (y 0)) (x3 y)) (second (total (layer (y 1) x0 x1) (y 2) (y 0)) (x4 y)))
    (fun j k => change_last x0 x1 x2 x3 x4 j k) (fun j k => change_first x0 x1 x2 x3 x4 j k) _ rfl (cover0_6 _ _) y

/-- The new first moment of both layers, as one function of the place. -/
theorem moment_stored (y : S674x2x512.Idx) : (out0_7 x0 x1 x2 x3 x4 y : EReal)
    = moment (total (layer (y 1) x0 x1) (y 2) (y 0)) (x3 y) :=
  two_pieces _ _ (fun y => moment (total (layer (y 1) x0 x1) (y 2) (y 0)) (x3 y))
    (fun j k => moment_last x0 x1 x2 x3 x4 j k) (fun j k => moment_first x0 x1 x2 x3 x4 j k) _ rfl (cover0_7 _ _) y

/-- The new second moment of both layers, as one function of the place. -/
theorem second_stored (y : S674x2x512.Idx) : (out0_8 x0 x1 x2 x3 x4 y : EReal)
    = second (total (layer (y 1) x0 x1) (y 2) (y 0)) (x4 y) :=
  two_pieces _ _ (fun y => second (total (layer (y 1) x0 x1) (y 2) (y 0)) (x4 y))
    (fun j k => second_last x0 x1 x2 x3 x4 j k) (fun j k => second_first x0 x1 x2 x3 x4 j k) _ rfl (cover0_8 _ _) y

end Cert.Optimizer

end
-- ==== Proof.OptimizerOut.lean ====
/-
  The optimiser's call for the input projection's weights: its four arrays after the run, and the run.
-/
module

public import proofs.«01_k».proof.Proof.OptimizerRow

@[expose] public section

set_option maxRecDepth 16384

noncomputable section

open Idealize.ShloMosaic Idealize.ShloMosaic.TcCoe Idealize.SL.Sem

namespace Cert.Optimizer

open Cert.Kernel6Ideal Cert.Kernel6Ideal.Gen

/-- An element of the gradient's sum over its four parts, of either layer. -/
def summed (p q : Vec Ideal S4x1024x674 .bf16) (l : Fin 2) (r : Fin 1024) (j : Fin 674) : EReal :=
  layer l p q (ix3 0 r j) + layer l p q (ix3 1 r j) + layer l p q (ix3 2 r j) + layer l p q (ix3 3 r j)

variable (m : (ℓ : Loc nD τ Cert.Kernel6Ideal.sig) → Buf (Elt Ideal) ℓ)

/-- The parts of the two layers' gradients, the weights and the two moments, as arrays. -/
abbrev A0 (c : Dev nD) : Vec Ideal S4x1024x674 .bf16 := m ((c : Thread nD τ).loc main_arg0)
abbrev A1 (c : Dev nD) : Vec Ideal S4x1024x674 .bf16 := m ((c : Thread nD τ).loc main_arg1)
abbrev A2 (c : Dev nD) : Vec Ideal S2x1024x674 .f32 := m ((c : Thread nD τ).loc main_arg2)
abbrev A3 (c : Dev nD) : Vec Ideal S2x1024x674 .f32 := m ((c : Thread nD τ).loc main_arg3)
abbrev A4 (c : Dev nD) : Vec Ideal S2x1024x674 .f32 := m ((c : Thread nD τ).loc main_arg4)
/-- What point `t` reads of each. -/
abbrev B0 (c : Dev nD) (t : Fin cfg0.N) : Vec Ideal S4x512x674 .bf16 := iblk m c 0 t
abbrev B1 (c : Dev nD) (t : Fin cfg0.N) : Vec Ideal S4x512x674 .bf16 := iblk m c 1 t
abbrev B2 (c : Dev nD) (t : Fin cfg0.N) : Vec Ideal S674x2x512 .f32 := iblk m c 2 t
abbrev B3 (c : Dev nD) (t : Fin cfg0.N) : Vec Ideal S674x2x512 .f32 := iblk m c 3 t
abbrev B4 (c : Dev nD) (t : Fin cfg0.N) : Vec Ideal S674x2x512 .f32 := iblk m c 4 t

/-- Point `t` works on the weights' rows `512 t …`, all columns and both layers. -/
theorem index0 : ∀ t : Fin cfg0.N, win0_0.index t = ![0, t.val, 0] :=
  (by decide +kernel : ∀ t : Fin grid0.N, win0_0.index t = ![0, t.val, 0])
theorem index1 : ∀ t : Fin cfg0.N, win0_1.index t = ![0, t.val, 0] :=
  (by decide +kernel : ∀ t : Fin grid0.N, win0_1.index t = ![0, t.val, 0])
theorem index2 : ∀ t : Fin cfg0.N, win0_2.index t = ![0, 0, t.val] :=
  (by decide +kernel : ∀ t : Fin grid0.N, win0_2.index t = ![0, 0, t.val])
theorem index3 : ∀ t : Fin cfg0.N, win0_3.index t = ![0, 0, t.val] :=
  (by decide +kernel : ∀ t : Fin grid0.N, win0_3.index t = ![0, 0, t.val])
theorem index4 : ∀ t : Fin cfg0.N, win0_4.index t = ![0, 0, t.val] :=
  (by decide +kernel : ∀ t : Fin grid0.N, win0_4.index t = ![0, 0, t.val])
theorem index5 : ∀ t : Fin cfg0.N, win0_5.index t = ![0, 0, t.val] :=
  (by decide +kernel : ∀ t : Fin grid0.N, win0_5.index t = ![0, 0, t.val])
theorem index6 : ∀ t : Fin cfg0.N, win0_6.index t = ![0, 0, t.val] :=
  (by decide +kernel : ∀ t : Fin grid0.N, win0_6.index t = ![0, 0, t.val])
theorem index7 : ∀ t : Fin cfg0.N, win0_7.index t = ![0, 0, t.val] :=
  (by decide +kernel : ∀ t : Fin grid0.N, win0_7.index t = ![0, 0, t.val])
theorem index8 : ∀ t : Fin cfg0.N, win0_8.index t = ![0, 0, t.val] :=
  (by decide +kernel : ∀ t : Fin grid0.N, win0_8.index t = ![0, 0, t.val])

/-- The parts a point reads of layer 0's gradient. -/
theorem read0 (c : Dev nD) (t : Fin cfg0.N) (i : Fin 4) (k : Fin 512) (j : Fin 674) (r : Fin 1024) (hr : r.val = t.val * 512 + k.val) :
    B0 m c t (ix3 i k j) = A0 m c (ix3 i r j) := by
  refine (congrArg (V m c main_arg0) (?_ : (win0_0.rect t).emb (ix3 i k j) = ix3 i r j)).trans (congrFun (V_main_arg0 m c) _)
  refine funext fun a => Fin.ext ?_
  rw [Pipeline.Window.rect_emb_val win0_0 t _ a rfl, index0]
  fin_cases a
  · show 0 * 4 + i.val = i.val
    omega
  · show t.val * 512 + k.val = r.val
    omega
  · show 0 * 674 + j.val = j.val
    omega

/-- The parts a point reads of layer 1's gradient. -/
theorem read1 (c : Dev nD) (t : Fin cfg0.N) (i : Fin 4) (k : Fin 512) (j : Fin 674) (r : Fin 1024) (hr : r.val = t.val * 512 + k.val) :
    B1 m c t (ix3 i k j) = A1 m c (ix3 i r j) := by
  refine (congrArg (V m c main_arg1) (?_ : (win0_1.rect t).emb (ix3 i k j) = ix3 i r j)).trans (congrFun (V_main_arg1 m c) _)
  refine funext fun a => Fin.ext ?_
  rw [Pipeline.Window.rect_emb_val win0_1 t _ a rfl, index1]
  fin_cases a
  · show 0 * 4 + i.val = i.val
    omega
  · show t.val * 512 + k.val = r.val
    omega
  · show 0 * 674 + j.val = j.val
    omega

/-- The weights as the call finds them, the columns first. -/
theorem turned2 (c : Dev nD) : V m c main_v0
    = transpose S674x2x1024 [2, 0, 1] (A2 m c) transposes_S2x1024x674_S674x2x1024_2_0_1 := by
  show StableHlo.after hostOps0 (fun b => m (c, b)) (Proc.devRef .tc main_v0) = _
  unfold hostOps0
  after_results_simp

/-- The weights a point reads. -/
theorem read2 (c : Dev nD) (t : Fin cfg0.N) (j : Fin 674) (l : Fin 2) (k : Fin 512) (r : Fin 1024) (hr : r.val = t.val * 512 + k.val) :
    B2 m c t (ix3 j l k) = A2 m c (ix3 l r j) := by
  refine ((congrArg (V m c main_v0) (?_ : (win0_2.rect t).emb (ix3 j l k) = ix3 j l r)).trans (congrFun (turned2 m c) _)).trans ?_
  · refine funext fun a => Fin.ext ?_
    rw [Pipeline.Window.rect_emb_val win0_2 t _ a rfl, index2]
    fin_cases a
    · show 0 * 674 + j.val = j.val
      omega
    · show 0 * 2 + l.val = l.val
      omega
    · show t.val * 512 + k.val = r.val
      omega
  · refine transpose_apply _ _ _ _ _ fun b => ?_
    fin_cases b <;> rfl

/-- The first moments as the call finds them, the columns first. -/
theorem turned3 (c : Dev nD) : V m c main_v1
    = transpose S674x2x1024 [2, 0, 1] (A3 m c) transposes_S2x1024x674_S674x2x1024_2_0_1 := by
  show StableHlo.after hostOps0 (fun b => m (c, b)) (Proc.devRef .tc main_v1) = _
  unfold hostOps0
  after_results_simp

/-- The first moments a point reads. -/
theorem read3 (c : Dev nD) (t : Fin cfg0.N) (j : Fin 674) (l : Fin 2) (k : Fin 512) (r : Fin 1024) (hr : r.val = t.val * 512 + k.val) :
    B3 m c t (ix3 j l k) = A3 m c (ix3 l r j) := by
  refine ((congrArg (V m c main_v1) (?_ : (win0_3.rect t).emb (ix3 j l k) = ix3 j l r)).trans (congrFun (turned3 m c) _)).trans ?_
  · refine funext fun a => Fin.ext ?_
    rw [Pipeline.Window.rect_emb_val win0_3 t _ a rfl, index3]
    fin_cases a
    · show 0 * 674 + j.val = j.val
      omega
    · show 0 * 2 + l.val = l.val
      omega
    · show t.val * 512 + k.val = r.val
      omega
  · refine transpose_apply _ _ _ _ _ fun b => ?_
    fin_cases b <;> rfl

/-- The second moments as the call finds them, the columns first. -/
theorem turned4 (c : Dev nD) : V m c main_v2
    = transpose S674x2x1024 [2, 0, 1] (A4 m c) transposes_S2x1024x674_S674x2x1024_2_0_1 := by
  show StableHlo.after hostOps0 (fun b => m (c, b)) (Proc.devRef .tc main_v2) = _
  unfold hostOps0
  after_results_simp

/-- The second moments a point reads. -/
theorem read4 (c : Dev nD) (t : Fin cfg0.N) (j : Fin 674) (l : Fin 2) (k : Fin 512) (r : Fin 1024) (hr : r.val = t.val * 512 + k.val) :
    B4 m c t (ix3 j l k) = A4 m c (ix3 l r j) := by
  refine ((congrArg (V m c main_v2) (?_ : (win0_4.rect t).emb (ix3 j l k) = ix3 j l r)).trans (congrFun (turned4 m c) _)).trans ?_
  · refine funext fun a => Fin.ext ?_
    rw [Pipeline.Window.rect_emb_val win0_4 t _ a rfl, index4]
    fin_cases a
    · show 0 * 674 + j.val = j.val
      omega
    · show 0 * 2 + l.val = l.val
      omega
    · show t.val * 512 + k.val = r.val
      omega
  · refine transpose_apply _ _ _ _ _ fun b => ?_
    fin_cases b <;> rfl

/-- The sum of a gradient's parts, at the place of its block. -/
theorem total_block (c : Dev nD) (t : Fin cfg0.N) (l : Fin 2) (k : Fin 512) (j : Fin 674) (r : Fin 1024) (hr : r.val = t.val * 512 + k.val) :
    total (layer l (B0 m c t) (B1 m c t)) k j = summed (A0 m c) (A1 m c) l r j := by
  unfold total summed layer
  split
  · rw [read0 m c t 0 k j r hr, read0 m c t 1 k j r hr, read0 m c t 2 k j r hr, read0 m c t 3 k j r hr]
  · rw [read1 m c t 0 k j r hr, read1 m c t 1 k j r hr, read1 m c t 2 k j r hr, read1 m c t 3 k j r hr]

/-- The new moments and the change at an element, from the arrays. -/
def momentAt (c : Dev nD) (l : Fin 2) (r : Fin 1024) (j : Fin 674) : EReal :=
  moment (summed (A0 m c) (A1 m c) l r j) (A3 m c (ix3 l r j))
def secondAt (c : Dev nD) (l : Fin 2) (r : Fin 1024) (j : Fin 674) : EReal :=
  second (summed (A0 m c) (A1 m c) l r j) (A4 m c (ix3 l r j))
def changeAt (c : Dev nD) (l : Fin 2) (r : Fin 1024) (j : Fin 674) : EReal :=
  change (A2 m c (ix3 l r j)) (momentAt m c l r j) (secondAt m c l r j)

/-- The summed gradient of a block's element. -/
theorem gradient_block (c : Dev nD) (t : Fin cfg0.N) (y : S674x2x512.Idx) (r : Fin 1024) (hr : r.val = t.val * 512 + (y 2).val) :
    (out0_5 (B0 m c t) (B1 m c t) (B2 m c t) (B3 m c t) (B4 m c t) y : EReal) = summed (A0 m c) (A1 m c) (y 1) r (y 0) := by
  rw [gradient_stored]
  rw [total_block m c t (y 1) (y 2) (y 0) r hr]

/-- The summed gradient after the run, its columns first. -/
theorem gradients (c : Dev nD) : (dats m 0 c).arrAt 5 cfg0.N = fun y => summed (A0 m c) (A1 m c) (y 1) (y 2) (y 0) := by
  refine (dats m 0 c).arrAt_eq_of_covers 5 _ (by decide +kernel) fun t hf y => ?_
  blk_simp
  rw [after0_5]
  frame_out
  have e0 : ((View.whole main_v3_0).slice (win0_5.rect t)).emb y 0 = (y 0 : Fin 674) := by
    refine Fin.ext ?_
    show (((win0_5.rect t).emb y 0 : Fin 674) : ℕ) = _
    rw [Pipeline.Window.rect_emb_val win0_5 t _ 0 rfl, index5]
    show 0 * 674 + (y 0).val = (y 0).val
    omega
  have e1 : ((View.whole main_v3_0).slice (win0_5.rect t)).emb y 1 = (y 1 : Fin 2) := by
    refine Fin.ext ?_
    show (((win0_5.rect t).emb y 1 : Fin 2) : ℕ) = _
    rw [Pipeline.Window.rect_emb_val win0_5 t _ 1 rfl, index5]
    show 0 * 2 + (y 1).val = (y 1).val
    omega
  have e2 : ((((View.whole main_v3_0).slice (win0_5.rect t)).emb y 2 : Fin 1024) : ℕ) = t.val * 512 + (y 2).val := by
    show (((win0_5.rect t).emb y 2 : Fin 1024) : ℕ) = _
    rw [Pipeline.Window.rect_emb_val win0_5 t _ 2 rfl, index5]
    rfl
  rw [e0, e1]
  exact gradient_block m c t y _ e2

/-- The change of a block's element. -/
theorem change_block (c : Dev nD) (t : Fin cfg0.N) (y : S674x2x512.Idx) (r : Fin 1024) (hr : r.val = t.val * 512 + (y 2).val) :
    (out0_6 (B0 m c t) (B1 m c t) (B2 m c t) (B3 m c t) (B4 m c t) y : EReal) = changeAt m c (y 1) r (y 0) := by
  have e2 : B2 m c t y = A2 m c (ix3 (y 1) r (y 0)) :=
    (congrArg (B2 m c t) (ValueIdx.eq_ix3 (n0 := 674) (n1 := 2) (n2 := 512) y)).trans (read2 m c t (y 0) (y 1) (y 2) r hr)
  have e3 : B3 m c t y = A3 m c (ix3 (y 1) r (y 0)) :=
    (congrArg (B3 m c t) (ValueIdx.eq_ix3 (n0 := 674) (n1 := 2) (n2 := 512) y)).trans (read3 m c t (y 0) (y 1) (y 2) r hr)
  have e4 : B4 m c t y = A4 m c (ix3 (y 1) r (y 0)) :=
    (congrArg (B4 m c t) (ValueIdx.eq_ix3 (n0 := 674) (n1 := 2) (n2 := 512) y)).trans (read4 m c t (y 0) (y 1) (y 2) r hr)
  rw [change_stored]
  rw [total_block m c t (y 1) (y 2) (y 0) r hr, e2, e3, e4]
  rfl

/-- The change after the run, its columns first. -/
theorem changes (c : Dev nD) : (dats m 0 c).arrAt 6 cfg0.N = fun y => changeAt m c (y 1) (y 2) (y 0) := by
  refine (dats m 0 c).arrAt_eq_of_covers 6 _ (by decide +kernel) fun t hf y => ?_
  blk_simp
  rw [after0_6]
  frame_out
  have e0 : ((View.whole main_v3_1).slice (win0_6.rect t)).emb y 0 = (y 0 : Fin 674) := by
    refine Fin.ext ?_
    show (((win0_6.rect t).emb y 0 : Fin 674) : ℕ) = _
    rw [Pipeline.Window.rect_emb_val win0_6 t _ 0 rfl, index6]
    show 0 * 674 + (y 0).val = (y 0).val
    omega
  have e1 : ((View.whole main_v3_1).slice (win0_6.rect t)).emb y 1 = (y 1 : Fin 2) := by
    refine Fin.ext ?_
    show (((win0_6.rect t).emb y 1 : Fin 2) : ℕ) = _
    rw [Pipeline.Window.rect_emb_val win0_6 t _ 1 rfl, index6]
    show 0 * 2 + (y 1).val = (y 1).val
    omega
  have e2 : ((((View.whole main_v3_1).slice (win0_6.rect t)).emb y 2 : Fin 1024) : ℕ) = t.val * 512 + (y 2).val := by
    show (((win0_6.rect t).emb y 2 : Fin 1024) : ℕ) = _
    rw [Pipeline.Window.rect_emb_val win0_6 t _ 2 rfl, index6]
    rfl
  rw [e0, e1]
  exact change_block m c t y _ e2

/-- The new first moment of a block's element. -/
theorem moment_block (c : Dev nD) (t : Fin cfg0.N) (y : S674x2x512.Idx) (r : Fin 1024) (hr : r.val = t.val * 512 + (y 2).val) :
    (out0_7 (B0 m c t) (B1 m c t) (B2 m c t) (B3 m c t) (B4 m c t) y : EReal) = momentAt m c (y 1) r (y 0) := by
  have e3 : B3 m c t y = A3 m c (ix3 (y 1) r (y 0)) :=
    (congrArg (B3 m c t) (ValueIdx.eq_ix3 (n0 := 674) (n1 := 2) (n2 := 512) y)).trans (read3 m c t (y 0) (y 1) (y 2) r hr)
  rw [moment_stored]
  rw [total_block m c t (y 1) (y 2) (y 0) r hr, e3]
  rfl

/-- The new first moment after the run, its columns first. -/
theorem moments (c : Dev nD) : (dats m 0 c).arrAt 7 cfg0.N = fun y => momentAt m c (y 1) (y 2) (y 0) := by
  refine (dats m 0 c).arrAt_eq_of_covers 7 _ (by decide +kernel) fun t hf y => ?_
  blk_simp
  rw [after0_7]
  frame_out
  have e0 : ((View.whole main_v3_2).slice (win0_7.rect t)).emb y 0 = (y 0 : Fin 674) := by
    refine Fin.ext ?_
    show (((win0_7.rect t).emb y 0 : Fin 674) : ℕ) = _
    rw [Pipeline.Window.rect_emb_val win0_7 t _ 0 rfl, index7]
    show 0 * 674 + (y 0).val = (y 0).val
    omega
  have e1 : ((View.whole main_v3_2).slice (win0_7.rect t)).emb y 1 = (y 1 : Fin 2) := by
    refine Fin.ext ?_
    show (((win0_7.rect t).emb y 1 : Fin 2) : ℕ) = _
    rw [Pipeline.Window.rect_emb_val win0_7 t _ 1 rfl, index7]
    show 0 * 2 + (y 1).val = (y 1).val
    omega
  have e2 : ((((View.whole main_v3_2).slice (win0_7.rect t)).emb y 2 : Fin 1024) : ℕ) = t.val * 512 + (y 2).val := by
    show (((win0_7.rect t).emb y 2 : Fin 1024) : ℕ) = _
    rw [Pipeline.Window.rect_emb_val win0_7 t _ 2 rfl, index7]
    rfl
  rw [e0, e1]
  exact moment_block m c t y _ e2

/-- The new second moment of a block's element. -/
theorem second_block (c : Dev nD) (t : Fin cfg0.N) (y : S674x2x512.Idx) (r : Fin 1024) (hr : r.val = t.val * 512 + (y 2).val) :
    (out0_8 (B0 m c t) (B1 m c t) (B2 m c t) (B3 m c t) (B4 m c t) y : EReal) = secondAt m c (y 1) r (y 0) := by
  have e4 : B4 m c t y = A4 m c (ix3 (y 1) r (y 0)) :=
    (congrArg (B4 m c t) (ValueIdx.eq_ix3 (n0 := 674) (n1 := 2) (n2 := 512) y)).trans (read4 m c t (y 0) (y 1) (y 2) r hr)
  rw [second_stored]
  rw [total_block m c t (y 1) (y 2) (y 0) r hr, e4]
  rfl

/-- The new second moment after the run, its columns first. -/
theorem seconds (c : Dev nD) : (dats m 0 c).arrAt 8 cfg0.N = fun y => secondAt m c (y 1) (y 2) (y 0) := by
  refine (dats m 0 c).arrAt_eq_of_covers 8 _ (by decide +kernel) fun t hf y => ?_
  blk_simp
  rw [after0_8]
  frame_out
  have e0 : ((View.whole main_v3_3).slice (win0_8.rect t)).emb y 0 = (y 0 : Fin 674) := by
    refine Fin.ext ?_
    show (((win0_8.rect t).emb y 0 : Fin 674) : ℕ) = _
    rw [Pipeline.Window.rect_emb_val win0_8 t _ 0 rfl, index8]
    show 0 * 674 + (y 0).val = (y 0).val
    omega
  have e1 : ((View.whole main_v3_3).slice (win0_8.rect t)).emb y 1 = (y 1 : Fin 2) := by
    refine Fin.ext ?_
    show (((win0_8.rect t).emb y 1 : Fin 2) : ℕ) = _
    rw [Pipeline.Window.rect_emb_val win0_8 t _ 1 rfl, index8]
    show 0 * 2 + (y 1).val = (y 1).val
    omega
  have e2 : ((((View.whole main_v3_3).slice (win0_8.rect t)).emb y 2 : Fin 1024) : ℕ) = t.val * 512 + (y 2).val := by
    show (((win0_8.rect t).emb y 2 : Fin 1024) : ℕ) = _
    rw [Pipeline.Window.rect_emb_val win0_8 t _ 2 rfl, index8]
    rfl
  rw [e0, e1]
  exact second_block m c t y _ e2

/-- The summed gradient as returned, the layers first. -/
theorem gradient_returned (c : Dev nD) : Pipeline.afterTail₀ cfgs (dats m) 0 (V0 m) [hostOps1] c main_v4
    = fun y : S2x1024x674.Idx => summed (A0 m c) (A1 m c) (y 0) (y 1) (y 2) := by
  show StableHlo.after hostOps1 (Pipeline.withArrays spec0 c (V0 m c) fun w => (dats m 0 c).arrAt w cfg0.N) (Proc.devRef .tc main_v4) = _
  unfold hostOps1
  after_results_simp
  refine (congrArg (transpose S2x1024x674 [1, 2, 0] · transposes_S674x2x1024_S2x1024x674_1_2_0)
    ((Pipeline.withArrays_arr spec0 launch0.win.arr_inj c (V0 m c) (fun w => (dats m 0 c).arrAt w cfg0.N) 5).trans (gradients m c))).trans ?_
  funext y
  refine (transpose_apply _ _ _ _ (ix3 (y 2) (y 0) (y 1)) fun b => ?_).trans rfl
  fin_cases b <;> rfl

/-- The change as returned, the layers first. -/
theorem change_returned (c : Dev nD) : Pipeline.afterTail₀ cfgs (dats m) 0 (V0 m) [hostOps1] c main_v5
    = fun y : S2x1024x674.Idx => changeAt m c (y 0) (y 1) (y 2) := by
  show StableHlo.after hostOps1 (Pipeline.withArrays spec0 c (V0 m c) fun w => (dats m 0 c).arrAt w cfg0.N) (Proc.devRef .tc main_v5) = _
  unfold hostOps1
  after_results_simp
  refine (congrArg (transpose S2x1024x674 [1, 2, 0] · transposes_S674x2x1024_S2x1024x674_1_2_0)
    ((Pipeline.withArrays_arr spec0 launch0.win.arr_inj c (V0 m c) (fun w => (dats m 0 c).arrAt w cfg0.N) 6).trans (changes m c))).trans ?_
  funext y
  refine (transpose_apply _ _ _ _ (ix3 (y 2) (y 0) (y 1)) fun b => ?_).trans rfl
  fin_cases b <;> rfl

/-- The new first moment as returned, the layers first. -/
theorem moment_returned (c : Dev nD) : Pipeline.afterTail₀ cfgs (dats m) 0 (V0 m) [hostOps1] c main_v6
    = fun y : S2x1024x674.Idx => momentAt m c (y 0) (y 1) (y 2) := by
  show StableHlo.after hostOps1 (Pipeline.withArrays spec0 c (V0 m c) fun w => (dats m 0 c).arrAt w cfg0.N) (Proc.devRef .tc main_v6) = _
  unfold hostOps1
  after_results_simp
  refine (congrArg (transpose S2x1024x674 [1, 2, 0] · transposes_S674x2x1024_S2x1024x674_1_2_0)
    ((Pipeline.withArrays_arr spec0 launch0.win.arr_inj c (V0 m c) (fun w => (dats m 0 c).arrAt w cfg0.N) 7).trans (moments m c))).trans ?_
  funext y
  refine (transpose_apply _ _ _ _ (ix3 (y 2) (y 0) (y 1)) fun b => ?_).trans rfl
  fin_cases b <;> rfl

/-- The new second moment as returned, the layers first. -/
theorem second_returned (c : Dev nD) : Pipeline.afterTail₀ cfgs (dats m) 0 (V0 m) [hostOps1] c main_v7
    = fun y : S2x1024x674.Idx => secondAt m c (y 0) (y 1) (y 2) := by
  show StableHlo.after hostOps1 (Pipeline.withArrays spec0 c (V0 m c) fun w => (dats m 0 c).arrAt w cfg0.N) (Proc.devRef .tc main_v7) = _
  unfold hostOps1
  after_results_simp
  refine (congrArg (transpose S2x1024x674 [1, 2, 0] · transposes_S674x2x1024_S2x1024x674_1_2_0)
    ((Pipeline.withArrays_arr spec0 launch0.win.arr_inj c (V0 m c) (fun w => (dats m 0 c).arrAt w cfg0.N) 8).trans (seconds m c))).trans ?_
  funext y
  refine (transpose_apply _ _ _ _ (ix3 (y 2) (y 0) (y 1)) fun b => ?_).trans rfl
  fin_cases b <;> rfl

/-- The run: the four arrays end as stated, and the arguments as they were. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v4) = (fun y : S2x1024x674.Idx => summed (A0 m c) (A1 m c) (y 0) (y 1) (y 2))
      ∧ r.2.mem ((c.tc : Thread nD τ).loc main_v5) = (fun y : S2x1024x674.Idx => changeAt m c (y 0) (y 1) (y 2))
      ∧ r.2.mem ((c.tc : Thread nD τ).loc main_v6) = (fun y : S2x1024x674.Idx => momentAt m c (y 0) (y 1) (y 2))
      ∧ r.2.mem ((c.tc : Thread nD τ).loc main_v7) = (fun y : S2x1024x674.Idx => secondAt m c (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => ⟨
      ((h c).2 main_v4 (Pipeline.mem_restRefs_of main_v4 (by decide) (by decide))).trans (gradient_returned m c),
      ((h c).2 main_v5 (Pipeline.mem_restRefs_of main_v5 (by decide) (by decide))).trans (change_returned m c),
      ((h c).2 main_v6 (Pipeline.mem_restRefs_of main_v6 (by decide) (by decide))).trans (moment_returned m c),
      ((h c).2 main_v7 (Pipeline.mem_restRefs_of main_v7 (by decide) (by decide))).trans (second_returned m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m g)

end Cert.Optimizer

end
-- ==== Proof.RefOptimizer.lean ====
/-
  The optimiser's reference, an element at a time: the step of the weights of the input projection.
-/
module

public import proofs.«01_k».proof.Proof.OptimizerOut
public import proofs.«01_k».proof.Proof.Gen.Reference6Ideal.Read

@[expose] public section

set_option maxRecDepth 16384

noncomputable section

open Idealize.ShloMosaic Idealize.ShloMosaic.TcCoe Idealize.SL.Sem

namespace Cert.RefOptimizer

open Cert.Reference6Ideal Cert.Reference6Ideal.Gen Cert.Reference6Ideal.Read Cert.Optimizer

variable (x0 x1 : Vec Ideal S4x1024x674 .bf16) (x2 x3 x4 : Vec Ideal S2x1024x674 .f32)

/-- Where a part of the first layer's sum is read. -/
theorem first_place (i : Fin 4) (r : Fin 1024) (j : Fin 674) : idx_main_v1 (idx_main_v4 (ix3 0 r j)) i = ix3 i r j := by
  funext a; fin_cases a <;> rfl

/-- The first layer's parts, added. -/
theorem first_apply (r : Fin 1024) (j : Fin 674) : (val_main_v4 (F := Ideal) x0 (ix3 0 r j) : EReal)
    = x0 (ix3 0 r j) + x0 (ix3 1 r j) + x0 (ix3 2 r j) + x0 (ix3 3 r j) := by
  rw [val_main_v4_apply, val_main_v1_apply, Fin.sum_univ_four]
  simp only [val_main_v0_apply, val_main_cst_apply, first_place]
  refine (congrArg (· + _) (Ideal.ofBits_zero_f32 : (FloatOps.ofBits (F := Ideal) .f32 0x00000000#32 : EReal) = 0)).trans ?_
  rw [zero_add]
  rfl

/-- Where a part of the second layer's sum is read. -/
theorem last_place (i : Fin 4) (r : Fin 1024) (j : Fin 674) : idx_main_v3 (idx_main_v5 (ix3 0 r j)) i = ix3 i r j := by
  funext a; fin_cases a <;> rfl

/-- The second layer's parts, added. -/
theorem last_apply (r : Fin 1024) (j : Fin 674) : (val_main_v5 (F := Ideal) x1 (ix3 0 r j) : EReal)
    = x1 (ix3 0 r j) + x1 (ix3 1 r j) + x1 (ix3 2 r j) + x1 (ix3 3 r j) := by
  rw [val_main_v5_apply, val_main_v3_apply, Fin.sum_univ_four]
  simp only [val_main_v2_apply, val_main_cst_0_apply, last_place]
  refine (congrArg (· + _) (Ideal.ofBits_zero_f32 : (FloatOps.ofBits (F := Ideal) .f32 0x00000000#32 : EReal) = 0)).trans ?_
  rw [zero_add]
  rfl

/-- The two layers' summed gradients. -/
theorem gradient_apply (l : Fin 2) (r : Fin 1024) (j : Fin 674) :
    (val_main_v6 (F := Ideal) x0 x1 (ix3 l r j) : EReal) = summed x0 x1 l r j := by
  unfold val_main_v6
  obtain rfl | rfl : l = 0 ∨ l = 1 := by omega
  · refine (concatenate_pair_apply_left (t := S2x1024x674) (s₁ := S1x1024x674) (s₂ := S1x1024x674) 0 _ _ _ (ix3 0 r j) rfl (ix3 0 r j) fun b => ?_).trans (first_apply x0 r j)
    fin_cases b <;> rfl
  · refine (concatenate_pair_apply_right (t := S2x1024x674) (s₁ := S1x1024x674) (s₂ := S1x1024x674) 0 _ _ _ (ix3 1 r j) rfl rfl (ix3 0 r j) (fun b hb => ?_) rfl).trans (last_apply x1 r j)
    fin_cases b
    · exact absurd rfl hb
    · rfl
    · rfl

/-- The new first moment. -/
theorem moment_apply (l : Fin 2) (r : Fin 1024) (j : Fin 674) :
    (val_main_v11 (F := Ideal) x0 x1 x3 (ix3 l r j) : EReal) = moment (summed x0 x1 l r j) (x3 (ix3 l r j)) := by
  simp only [val_main_v11_apply, val_main_v10_apply, val_main_v9_apply, val_main_v8_apply, val_main_v7_apply, val_main_cst_1_apply,
    val_main_cst_2_apply, gradient_apply]
  rfl

/-- The new second moment. -/
theorem second_apply (l : Fin 2) (r : Fin 1024) (j : Fin 674) :
    (val_main_v17 (F := Ideal) x0 x1 x4 (ix3 l r j) : EReal) = second (summed x0 x1 l r j) (x4 (ix3 l r j)) := by
  simp only [val_main_v17_apply, val_main_v16_apply, val_main_v15_apply, val_main_v14_apply, val_main_v13_apply, val_main_v12_apply,
    val_main_cst_3_apply, val_main_cst_4_apply, gradient_apply]
  rfl

/-- What is added to the weights. -/
theorem change_apply (l : Fin 2) (r : Fin 1024) (j : Fin 674) :
    (val_main_v30 (F := Ideal) x0 x1 x2 x3 x4 (ix3 l r j) : EReal)
      = change (x2 (ix3 l r j)) (moment (summed x0 x1 l r j) (x3 (ix3 l r j))) (second (summed x0 x1 l r j) (x4 (ix3 l r j))) := by
  simp only [val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_v18_apply, val_main_cst_5_apply, val_main_cst_6_apply, val_main_cst_7_apply, val_main_cst_8_apply, val_main_cst_9_apply,
    moment_apply, second_apply]
  rfl

end Cert.RefOptimizer

end
-- ==== Proof.ClaimOptimizer.lean ====
/-
  The optimiser's step for the weights of the input projection: the kernel and the reference leave the same four arrays.
-/
module

public import proofs.«01_k».proof.Defs
public import proofs.«01_k».proof.Proof.RefOptimizer
public import proofs.«01_k».proof.Proof.Gen.Kernel6.Frame
public import proofs.«01_k».proof.Proof.Gen.Reference6Ideal.Run

@[expose] public section

set_option maxRecDepth 16384

noncomputable section

open Idealize.ShloMosaic Idealize.ShloMosaic.TcCoe Idealize.SL.Sem

namespace Cert.ClaimOptimizer

/-- The frame of the kernel over machine floats. -/
theorem frame_kernel : @Cert.quiescent_Kernel6 Cert.Kernel6.Gen.facts := fun m g _ => Cert.Kernel6.Gen.frame m g

/-- The frame of the kernel over the real numbers. -/
theorem frame_ideal : @Cert.quiescent_Kernel6Ideal Cert.Kernel6Ideal.Gen.facts := fun m g _ => Cert.Kernel6Ideal.Gen.frame m g

/-- The frame of the reference. -/
theorem frame_reference : @Cert.quiescent_Reference6Ideal Cert.Reference6Ideal.Gen.facts := fun m g _ =>
  (θ_run (Cert.Reference6Ideal.defs (F := Ideal)) _ _).mono
    (fun r h => ⟨fun c => (h c).2.2.2.2, sem_eq_zero_of_no_sems rfl r.2⟩)
    (Cert.Reference6Ideal.Value.run (F := Ideal) m g)

/-- The kernel's summed gradient, change and moments are the reference's. -/
theorem value : @Cert.algebraic_Kernel6Ideal_Reference6Ideal Cert.Kernel6Ideal.Gen.facts Cert.Reference6Ideal.Gen.facts := by
  intro m g m' g' _ hargs
  refine ⟨fun c => (fun y : Cert.Kernel6Ideal.S2x1024x674.Idx => Cert.Optimizer.summed (Cert.Optimizer.A0 m c) (Cert.Optimizer.A1 m c) (y 0) (y 1) (y 2)),
    fun c => (fun y : Cert.Kernel6Ideal.S2x1024x674.Idx => Cert.Optimizer.changeAt m c (y 0) (y 1) (y 2)),
    fun c => (fun y : Cert.Kernel6Ideal.S2x1024x674.Idx => Cert.Optimizer.momentAt m c (y 0) (y 1) (y 2)),
    fun c => (fun y : Cert.Kernel6Ideal.S2x1024x674.Idx => Cert.Optimizer.secondAt m c (y 0) (y 1) (y 2)),
    Cert.Optimizer.run m g,
    (θ_run (Cert.Reference6Ideal.defs (F := Ideal)) _ _).mono (fun r h c => ⟨?_, ?_, ?_, ?_, (h c).2.2.2.2⟩) (Cert.Reference6Ideal.Value.run (F := Ideal) m' g')⟩
  · refine ((h c).1).trans ((Cert.Reference6Ideal.Read.val_main_v6_eq (F := Ideal) _ _).trans ?_)
    rw [(hargs c).1, (hargs c).2.1]
    funext y
    conv_lhs => rw [ValueIdx.eq_ix3 y]
    exact Cert.RefOptimizer.gradient_apply _ _ (y 0) (y 1) (y 2)
  · refine ((h c).2.1).trans ((Cert.Reference6Ideal.Read.val_main_v30_eq (F := Ideal) _ _ _ _ _).trans ?_)
    rw [(hargs c).1, (hargs c).2.1, (hargs c).2.2.1, (hargs c).2.2.2.1, (hargs c).2.2.2.2]
    funext y
    conv_lhs => rw [ValueIdx.eq_ix3 y]
    exact Cert.RefOptimizer.change_apply _ _ _ _ _ (y 0) (y 1) (y 2)
  · refine ((h c).2.2.1).trans ((Cert.Reference6Ideal.Read.val_main_v11_eq (F := Ideal) _ _ _).trans ?_)
    rw [(hargs c).1, (hargs c).2.1, (hargs c).2.2.2.1]
    funext y
    conv_lhs => rw [ValueIdx.eq_ix3 y]
    exact Cert.RefOptimizer.moment_apply _ _ _ (y 0) (y 1) (y 2)
  · refine ((h c).2.2.2.1).trans ((Cert.Reference6Ideal.Read.val_main_v17_eq (F := Ideal) _ _ _).trans ?_)
    rw [(hargs c).1, (hargs c).2.1, (hargs c).2.2.2.2]
    funext y
    conv_lhs => rw [ValueIdx.eq_ix3 y]
    exact Cert.RefOptimizer.second_apply _ _ _ (y 0) (y 1) (y 2)

end Cert.ClaimOptimizer

end
-- ==== Proof.OutStep.lean ====
/-
  The optimiser's call for the output projection's weights: its two points, one for each layer, and the run.  The first point takes the
  first branch of the body and the second the second; each branch fills all four results' buffers.
-/
module

public import proofs.«01_k».proof.Proof.Gen.Kernel7Ideal.Frame.RunA
public import proofs.«01_k».proof.Proof.Gen.Kernel7Ideal.Frame.RunB
public import Idealize.ShloMosaic.Lib.Claim

@[expose] public section

set_option maxRecDepth 16384
set_option maxHeartbeats 2000000

noncomputable section

namespace Cert.OutStep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch, run at the first point on the blocks it finds. -/
abbrev first (c : Dev nD) (t : Fin cfg0.N) (h : t.val % 2 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    ((hcond0_0 t).mpr h) (fun h' => by have := (hcond0_1 t).mp h'; omega) (iblk m c 0 t) (iblk m c 1 t) (iblk m c 2 t) (iblk m c 3 t) (iblk m c 4 t)

/-- The second branch, run at the second point. -/
abbrev last (c : Dev nD) (t : Fin cfg0.N) (h : t.val % 2 = 1) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (fun h' => by have := (hcond0_0 t).mp h'; omega) ((hcond0_1 t).mpr h) (iblk m c 0 t) (iblk m c 1 t) (iblk m c 2 t) (iblk m c 3 t) (iblk m c 4 t)

/-- A point is one of the two. -/
theorem odd_of {n : ℕ} (h : ¬n % 2 = 0) : n % 2 = 1 := by omega

/-- The first branch fills the buffer of the summed gradient … -/
theorem full_first5 (c : Dev nD) (t : Fin cfg0.N) (h : t.val % 2 = 0) (y : S1x256x1024.Idx) : ∃ pc ∈ (first m c t h).1, y ∈ pc.1.set :=
  View.cover_of_tiledL (first m c t h).1 S1x256x1024.size (by sl_kernel_rfl) y

/-- … and so does the second. -/
theorem full_last5 (c : Dev nD) (t : Fin cfg0.N) (h : t.val % 2 = 1) (y : S1x256x1024.Idx) : ∃ pc ∈ (last m c t h).1, y ∈ pc.1.set :=
  View.cover_of_tiledL (last m c t h).1 S1x256x1024.size (by sl_kernel_rfl) y

/-- What a point leaves in the buffer of the summed gradient. -/
def left5 (c : Dev nD) (t : Fin cfg0.N) : Vec F S1x256x1024 .f32 :=
  if h : t.val % 2 = 0 then View.canon (first m c t h).1 else View.canon (last m c t (odd_of h)).1

/-- At the first point … -/
theorem left5_first (c : Dev nD) (t : Fin cfg0.N) (h : t.val % 2 = 0) : left5 m c t = View.canon (first m c t h).1 := dif_pos h

/-- … and at the second. -/
theorem left5_last (c : Dev nD) (t : Fin cfg0.N) (h : t.val % 2 = 1) : left5 m c t = View.canon (last m c t h).1 :=
  dif_neg (by omega)

/-- The first branch fills the buffer of the weights' change … -/
theorem full_first6 (c : Dev nD) (t : Fin cfg0.N) (h : t.val % 2 = 0) (y : S1x256x1024.Idx) : ∃ pc ∈ (first m c t h).2.1, y ∈ pc.1.set :=
  View.cover_of_tiledL (first m c t h).2.1 S1x256x1024.size (by sl_kernel_rfl) y

/-- … and so does the second. -/
theorem full_last6 (c : Dev nD) (t : Fin cfg0.N) (h : t.val % 2 = 1) (y : S1x256x1024.Idx) : ∃ pc ∈ (last m c t h).2.1, y ∈ pc.1.set :=
  View.cover_of_tiledL (last m c t h).2.1 S1x256x1024.size (by sl_kernel_rfl) y

/-- What a point leaves in the buffer of the weights' change. -/
def left6 (c : Dev nD) (t : Fin cfg0.N) : Vec F S1x256x1024 .f32 :=
  if h : t.val % 2 = 0 then View.canon (first m c t h).2.1 else View.canon (last m c t (odd_of h)).2.1

/-- At the first point … -/
theorem left6_first (c : Dev nD) (t : Fin cfg0.N) (h : t.val % 2 = 0) : left6 m c t = View.canon (first m c t h).2.1 := dif_pos h

/-- … and at the second. -/
theorem left6_last (c : Dev nD) (t : Fin cfg0.N) (h : t.val % 2 = 1) : left6 m c t = View.canon (last m c t h).2.1 :=
  dif_neg (by omega)

/-- The first branch fills the buffer of the first moments … -/
theorem full_first7 (c : Dev nD) (t : Fin cfg0.N) (h : t.val % 2 = 0) (y : S1x256x1024.Idx) : ∃ pc ∈ (first m c t h).2.2.1, y ∈ pc.1.set :=
  View.cover_of_tiledL (first m c t h).2.2.1 S1x256x1024.size (by sl_kernel_rfl) y

/-- … and so does the second. -/
theorem full_last7 (c : Dev nD) (t : Fin cfg0.N) (h : t.val % 2 = 1) (y : S1x256x1024.Idx) : ∃ pc ∈ (last m c t h).2.2.1, y ∈ pc.1.set :=
  View.cover_of_tiledL (last m c t h).2.2.1 S1x256x1024.size (by sl_kernel_rfl) y

/-- What a point leaves in the buffer of the first moments. -/
def left7 (c : Dev nD) (t : Fin cfg0.N) : Vec F S1x256x1024 .f32 :=
  if h : t.val % 2 = 0 then View.canon (first m c t h).2.2.1 else View.canon (last m c t (odd_of h)).2.2.1

/-- At the first point … -/
theorem left7_first (c : Dev nD) (t : Fin cfg0.N) (h : t.val % 2 = 0) : left7 m c t = View.canon (first m c t h).2.2.1 := dif_pos h

/-- … and at the second. -/
theorem left7_last (c : Dev nD) (t : Fin cfg0.N) (h : t.val % 2 = 1) : left7 m c t = View.canon (last m c t h).2.2.1 :=
  dif_neg (by omega)

/-- The first branch fills the buffer of the second moments … -/
theorem full_first8 (c : Dev nD) (t : Fin cfg0.N) (h : t.val % 2 = 0) (y : S1x256x1024.Idx) : ∃ pc ∈ (first m c t h).2.2.2.1, y ∈ pc.1.set :=
  View.cover_of_tiledL (first m c t h).2.2.2.1 S1x256x1024.size (by sl_kernel_rfl) y

/-- … and so does the second. -/
theorem full_last8 (c : Dev nD) (t : Fin cfg0.N) (h : t.val % 2 = 1) (y : S1x256x1024.Idx) : ∃ pc ∈ (last m c t h).2.2.2.1, y ∈ pc.1.set :=
  View.cover_of_tiledL (last m c t h).2.2.2.1 S1x256x1024.size (by sl_kernel_rfl) y

/-- What a point leaves in the buffer of the second moments. -/
def left8 (c : Dev nD) (t : Fin cfg0.N) : Vec F S1x256x1024 .f32 :=
  if h : t.val % 2 = 0 then View.canon (first m c t h).2.2.2.1 else View.canon (last m c t (odd_of h)).2.2.2.1

/-- At the first point … -/
theorem left8_first (c : Dev nD) (t : Fin cfg0.N) (h : t.val % 2 = 0) : left8 m c t = View.canon (first m c t h).2.2.2.1 := dif_pos h

/-- … and at the second. -/
theorem left8_last (c : Dev nD) (t : Fin cfg0.N) (h : t.val % 2 = 1) : left8 m c t = View.canon (last m c t h).2.2.2.1 :=
  dif_neg (by omega)

/-- The run's data: an input's buffer keeps its block, a result's holds what the point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 m c t
    | ⟨6, _⟩ => left6 m c t
    | ⟨7, _⟩ => left7 m c t
    | ⟨8, _⟩ => left8 m c t
  Φ _ := Pipeline.ΦA spec0 c
  q _ := fullShare
  owed _ := 0

/-- The arrays it starts from. -/
theorem starts (c : Dev nD) (w : Fin cfg0.W) : (dats m 0 c).A w = V m c (Pipeline.arrRef spec0 w) := by
  dsimp only [dats]

/-- Window 0 after a point. -/
theorem after0 (c : Dev nD) (t : Fin cfg0.N) : (dats m 0 c).after 0 t = iblk m c 0 t := by dsimp only [dats]

/-- Window 1 after a point. -/
theorem after1 (c : Dev nD) (t : Fin cfg0.N) : (dats m 0 c).after 1 t = iblk m c 1 t := by dsimp only [dats]

/-- Window 2 after a point. -/
theorem after2 (c : Dev nD) (t : Fin cfg0.N) : (dats m 0 c).after 2 t = iblk m c 2 t := by dsimp only [dats]

/-- Window 3 after a point. -/
theorem after3 (c : Dev nD) (t : Fin cfg0.N) : (dats m 0 c).after 3 t = iblk m c 3 t := by dsimp only [dats]

/-- Window 4 after a point. -/
theorem after4 (c : Dev nD) (t : Fin cfg0.N) : (dats m 0 c).after 4 t = iblk m c 4 t := by dsimp only [dats]

/-- Window 5 after a point. -/
theorem after5 (c : Dev nD) (t : Fin cfg0.N) : (dats m 0 c).after 5 t = left5 m c t := by dsimp only [dats]

/-- Window 6 after a point. -/
theorem after6 (c : Dev nD) (t : Fin cfg0.N) : (dats m 0 c).after 6 t = left6 m c t := by dsimp only [dats]

/-- Window 7 after a point. -/
theorem after7 (c : Dev nD) (t : Fin cfg0.N) : (dats m 0 c).after 7 t = left7 m c t := by dsimp only [dats]

/-- Window 8 after a point. -/
theorem after8 (c : Dev nD) (t : Fin cfg0.N) : (dats m 0 c).after 8 t = left8 m c t := by dsimp only [dats]

/-- Window 0 before a point: its block. -/
theorem before0 (c : Dev nD) (t : Fin cfg0.N) (d) : (dats m 0 c).before 0 t d = iblk m c 0 t :=
  before0_0_of m (dats m 0 c) (starts m c 0) (after0 m c) t d

/-- Window 1 before a point: its block. -/
theorem before1 (c : Dev nD) (t : Fin cfg0.N) (d) : (dats m 0 c).before 1 t d = iblk m c 1 t :=
  before0_1_of m (dats m 0 c) (starts m c 1) (after1 m c) t d

/-- Window 2 before a point: its block. -/
theorem before2 (c : Dev nD) (t : Fin cfg0.N) (d) : (dats m 0 c).before 2 t d = iblk m c 2 t :=
  before0_2_of m (dats m 0 c) (starts m c 2) (after2 m c) t d

/-- Window 3 before a point: its block. -/
theorem before3 (c : Dev nD) (t : Fin cfg0.N) (d) : (dats m 0 c).before 3 t d = iblk m c 3 t :=
  before0_3_of m (dats m 0 c) (starts m c 3) (after3 m c) t d

/-- Window 4 before a point: its block. -/
theorem before4 (c : Dev nD) (t : Fin cfg0.N) (d) : (dats m 0 c).before 4 t d = iblk m c 4 t :=
  before0_4_of m (dats m 0 c) (starts m c 4) (after4 m c) t d

/-- What a point begins with … -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- … and what it ends with. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A point leaves the inputs' buffers as their blocks. -/
theorem leaves0 (c : Dev nD) (t : Fin cfg0.N) : (dats m 0 c).leavesExact 0 t = owns (c : Thread nD τ) (ms0_0 t) fullShare (iblk m c 0 t) := by
  unfold Dat.leavesExact; rw [liveAt0_0 t, after0]
theorem leaves1 (c : Dev nD) (t : Fin cfg0.N) : (dats m 0 c).leavesExact 1 t = owns (c : Thread nD τ) (ms0_1 t) fullShare (iblk m c 1 t) := by
  unfold Dat.leavesExact; rw [liveAt0_1 t, after1]
theorem leaves2 (c : Dev nD) (t : Fin cfg0.N) : (dats m 0 c).leavesExact 2 t = owns (c : Thread nD τ) (ms0_2 t) fullShare (iblk m c 2 t) := by
  unfold Dat.leavesExact; rw [liveAt0_2 t, after2]
theorem leaves3 (c : Dev nD) (t : Fin cfg0.N) : (dats m 0 c).leavesExact 3 t = owns (c : Thread nD τ) (ms0_3 t) fullShare (iblk m c 3 t) := by
  unfold Dat.leavesExact; rw [liveAt0_3 t, after3]
theorem leaves4 (c : Dev nD) (t : Fin cfg0.N) : (dats m 0 c).leavesExact 4 t = owns (c : Thread nD τ) (ms0_4 t) fullShare (iblk m c 4 t) := by
  unfold Dat.leavesExact; rw [liveAt0_4 t, after4]

/-- The body at the first point. -/
theorem body_first (c : Dev nD) (t : Fin cfg0.N) (h : t.val % 2 = 0) :
    pre m c t ⊢ wp frame (wpE (defs₀ (F := F)) Variants.none c none) Set.univ (bodyAt0 t) (fun _ => post m c t) := by
  unfold pre post bodyAt0
  simp only [before0, before1, before2, before3, before4]
  rw [show (dats m 0 c).Φ t.succ = (dats m 0 c).Φ t.castSucc from rfl,
    show (dats m 0 c).owesAt () t.succ = (dats m 0 c).owesAt () t.castSucc from rfl]
  rw [leaves0, leaves1, leaves2, leaves3, leaves4]
  rw [show (dats m 0 c).leavesExact 5 t = owns (c : Thread nD τ) (ms0_5 t) fullShare ((dats m 0 c).after 5 t) from by
    unfold Dat.leavesExact; rw [liveAt0_5_A t ((hcond0_0 t).mpr h) (fun h' => by have := (hcond0_1 t).mp h'; omega)], after5]
  rw [show (dats m 0 c).leavesExact 6 t = owns (c : Thread nD τ) (ms0_6 t) fullShare ((dats m 0 c).after 6 t) from by
    unfold Dat.leavesExact; rw [liveAt0_6_A t ((hcond0_0 t).mpr h) (fun h' => by have := (hcond0_1 t).mp h'; omega)], after6]
  rw [show (dats m 0 c).leavesExact 7 t = owns (c : Thread nD τ) (ms0_7 t) fullShare ((dats m 0 c).after 7 t) from by
    unfold Dat.leavesExact; rw [liveAt0_7_A t ((hcond0_0 t).mpr h) (fun h' => by have := (hcond0_1 t).mp h'; omega)], after7]
  rw [show (dats m 0 c).leavesExact 8 t = owns (c : Thread nD τ) (ms0_8 t) fullShare ((dats m 0 c).after 8 t) from by
    unfold Dat.leavesExact; rw [liveAt0_8_A t ((hcond0_0 t).mpr h) (fun h' => by have := (hcond0_1 t).mp h'; omega)], after8]
  rw [left5_first m c t h, left6_first m c t h, left7_first m c t h, left8_first m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (((first m c t h)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (full_first5 m c t h)
  isplitl [H6]
  · unfold owns; iexists _; isplitr
    swap; · iexact H6
    ipureintro; exact View.read_writes_eq_canon _ _ _ (full_first6 m c t h)
  isplitl [H7]
  · unfold owns; iexists _; isplitr
    swap; · iexact H7
    ipureintro; exact View.read_writes_eq_canon _ _ _ (full_first7 m c t h)
  unfold owns; iexists _; isplitr
  swap; · iexact H8
  ipureintro; exact View.read_writes_eq_canon _ _ _ (full_first8 m c t h)

/-- The body at the last point. -/
theorem body_last (c : Dev nD) (t : Fin cfg0.N) (h : t.val % 2 = 1) :
    pre m c t ⊢ wp frame (wpE (defs₀ (F := F)) Variants.none c none) Set.univ (bodyAt0 t) (fun _ => post m c t) := by
  unfold pre post bodyAt0
  simp only [before0, before1, before2, before3, before4]
  rw [show (dats m 0 c).Φ t.succ = (dats m 0 c).Φ t.castSucc from rfl,
    show (dats m 0 c).owesAt () t.succ = (dats m 0 c).owesAt () t.castSucc from rfl]
  rw [leaves0, leaves1, leaves2, leaves3, leaves4]
  rw [show (dats m 0 c).leavesExact 5 t = owns (c : Thread nD τ) (ms0_5 t) fullShare ((dats m 0 c).after 5 t) from by
    unfold Dat.leavesExact; rw [liveAt0_5_B t (fun h' => by have := (hcond0_0 t).mp h'; omega) ((hcond0_1 t).mpr h)], after5]
  rw [show (dats m 0 c).leavesExact 6 t = owns (c : Thread nD τ) (ms0_6 t) fullShare ((dats m 0 c).after 6 t) from by
    unfold Dat.leavesExact; rw [liveAt0_6_B t (fun h' => by have := (hcond0_0 t).mp h'; omega) ((hcond0_1 t).mpr h)], after6]
  rw [show (dats m 0 c).leavesExact 7 t = owns (c : Thread nD τ) (ms0_7 t) fullShare ((dats m 0 c).after 7 t) from by
    unfold Dat.leavesExact; rw [liveAt0_7_B t (fun h' => by have := (hcond0_0 t).mp h'; omega) ((hcond0_1 t).mpr h)], after7]
  rw [show (dats m 0 c).leavesExact 8 t = owns (c : Thread nD τ) (ms0_8 t) fullShare ((dats m 0 c).after 8 t) from by
    unfold Dat.leavesExact; rw [liveAt0_8_B t (fun h' => by have := (hcond0_0 t).mp h'; omega) ((hcond0_1 t).mpr h)], after8]
  rw [left5_last m c t h, left6_last m c t h, left7_last m c t h, left8_last m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (((last m c t h)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (full_last5 m c t h)
  isplitl [H6]
  · unfold owns; iexists _; isplitr
    swap; · iexact H6
    ipureintro; exact View.read_writes_eq_canon _ _ _ (full_last6 m c t h)
  isplitl [H7]
  · unfold owns; iexists _; isplitr
    swap; · iexact H7
    ipureintro; exact View.read_writes_eq_canon _ _ _ (full_last7 m c t h)
  unfold owns; iexists _; isplitr
  swap; · iexact H8
  ipureintro; exact View.read_writes_eq_canon _ _ _ (full_last8 m c t h)

/-- The body's row of the table is the body. -/
theorem row_eq (t : Fin cfg0.N) : defs₀ (F := F) .tc cfg0.body (cfg0.bodyArgs t (cfg0.slots t)) = bodyAt0 t := by
  unfold defs₀; rw [Defs.onTc_tc]

/-- What the launch asks of the body. -/
theorem obligation (c : Dev nD) : BodyObligation (dats (F := F) m 0 c) (defs₀ (F := F)) Variants.none () Set.univ := fun t => by
  rw [bigSep_W0, bigSep_W0, row_eq]
  by_cases h : t.val % 2 = 0
  · exact triple_restated (body_first m c t h) rfl .rfl fun _ => .rfl
  · exact triple_restated (body_last m c t (odd_of h)) rfl .rfl fun _ => .rfl

set_option backward.isDefEq.respectTransparency.types false in
/-- Every execution ends with the arrays as the data says and every counter at zero. -/
theorem launch : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := starts m) (hΦ := fun _ _ => rfl)

/-- Every execution ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (starts m) ((θ_run defs _ _).mono (fun _ h => h.1) (launch m ρ)))
    ((θ_run defs _ _).mono (fun _ h => h.2) (launch m ρ))

end Cert.OutStep

end
-- ==== Proof.OutRow.lean ====
/-
  The optimiser's call for the output projection's weights: the vectors one point computes, an element at a time.
-/
module

public import Idealize.ShloMosaic.Lib.WholeRead
public import proofs.«01_k».proof.Proof.OptimizerRow
public import proofs.«01_k».proof.Proof.OutStep

@[expose] public section

set_option maxRecDepth 16384

noncomputable section

open Idealize.ShloMosaic.Tactic
open Idealize.ShloMosaic Idealize.ShloMosaic.TcCoe Idealize.SL.Sem

namespace Cert.OutRow

open Cert.Kernel7Ideal Cert.Kernel7Ideal.Gen Cert.OutStep Cert.Optimizer

/-- The eight parts of a gradient, added. -/
def total {n : ℕ} (p : Vec Ideal ⟨3, ![8, n, 1024]⟩ .bf16) (k : Fin n) (j : Fin 1024) : EReal :=
  p (ix3 0 k j) + p (ix3 1 k j) + p (ix3 2 k j) + p (ix3 3 k j) + p (ix3 4 k j) + p (ix3 5 k j) + p (ix3 6 k j) + p (ix3 7 k j)

/-- Eight slices, added at a place. -/
def slices (a0 a1 a2 a3 a4 a5 a6 a7 : Vec Ideal S1x256x1024 .bf16) (k : Fin 256) (j : Fin 1024) : EReal :=
  a0 (ix3 0 k j) + a1 (ix3 0 k j) + a2 (ix3 0 k j) + a3 (ix3 0 k j) + a4 (ix3 0 k j) + a5 (ix3 0 k j) + a6 (ix3 0 k j) + a7 (ix3 0 k j)

variable (a0 a1 a2 a3 a4 a5 a6 a7 : Vec Ideal S1x256x1024 .bf16) (w u v : Vec Ideal S1x256x1024 .f32)

/-- An element of the gradient the first branch sums … -/
theorem gradient_first (k : Fin 256) (j : Fin 1024) :
    (k0_pay6 (k0_pay5 a0 a1 a2 a3 a4 a5 a6 a7) (ix3 0 k j) : EReal) = slices a0 a1 a2 a3 a4 a5 a6 a7 k j := by
  pointwise [k0_pay6, k0_pay5]
  rfl

/-- … and of the second's. -/
theorem gradient_last (k : Fin 256) (j : Fin 1024) :
    (k0_pay11 (k0_pay10 a0 a1 a2 a3 a4 a5 a6 a7) (ix3 0 k j) : EReal) = slices a0 a1 a2 a3 a4 a5 a6 a7 k j := by
  pointwise [k0_pay11, k0_pay10]
  rfl

/-- An element of the first branch's new first moment … -/
theorem moment_first (k : Fin 256) (j : Fin 1024) :
    (k0_pay1 (k0_pay7 (k0_pay5 a0 a1 a2 a3 a4 a5 a6 a7) u) (ix3 0 k j) : EReal)
      = moment (slices a0 a1 a2 a3 a4 a5 a6 a7 k j) (u (ix3 0 k j)) := by
  pointwise [k0_pay1, k0_pay7, k0_pay5]
  rfl

/-- … and of the second's. -/
theorem moment_last (k : Fin 256) (j : Fin 1024) :
    (k0_pay3 (k0_pay12 (k0_pay10 a0 a1 a2 a3 a4 a5 a6 a7) u) (ix3 0 k j) : EReal)
      = moment (slices a0 a1 a2 a3 a4 a5 a6 a7 k j) (u (ix3 0 k j)) := by
  pointwise [k0_pay3, k0_pay12, k0_pay10]
  rfl

/-- An element of the first branch's new second moment … -/
theorem second_first (k : Fin 256) (j : Fin 1024) :
    (k0_pay2 (k0_pay8 (k0_pay5 a0 a1 a2 a3 a4 a5 a6 a7) v) (ix3 0 k j) : EReal)
      = second (slices a0 a1 a2 a3 a4 a5 a6 a7 k j) (v (ix3 0 k j)) := by
  pointwise [k0_pay2, k0_pay8, k0_pay5]
  rfl

/-- … and of the second's. -/
theorem second_last (k : Fin 256) (j : Fin 1024) :
    (k0_pay4 (k0_pay13 (k0_pay10 a0 a1 a2 a3 a4 a5 a6 a7) v) (ix3 0 k j) : EReal)
      = second (slices a0 a1 a2 a3 a4 a5 a6 a7 k j) (v (ix3 0 k j)) := by
  pointwise [k0_pay4, k0_pay13, k0_pay10]
  rfl

/-- An element of the first branch's change of the weight … -/
theorem change_first (k : Fin 256) (j : Fin 1024) :
    (k0_pay9 (k0_pay5 a0 a1 a2 a3 a4 a5 a6 a7) w u v (ix3 0 k j) : EReal)
      = change (w (ix3 0 k j)) (moment (slices a0 a1 a2 a3 a4 a5 a6 a7 k j) (u (ix3 0 k j)))
          (second (slices a0 a1 a2 a3 a4 a5 a6 a7 k j) (v (ix3 0 k j))) := by
  pointwise [k0_pay9, k0_pay7, k0_pay8, k0_pay5]
  rfl

/-- … and of the second's. -/
theorem change_last (k : Fin 256) (j : Fin 1024) :
    (k0_pay14 (k0_pay10 a0 a1 a2 a3 a4 a5 a6 a7) w u v (ix3 0 k j) : EReal)
      = change (w (ix3 0 k j)) (moment (slices a0 a1 a2 a3 a4 a5 a6 a7 k j) (u (ix3 0 k j)))
          (second (slices a0 a1 a2 a3 a4 a5 a6 a7 k j) (v (ix3 0 k j))) := by
  pointwise [k0_pay14, k0_pay12, k0_pay13, k0_pay10]
  rfl

/-- Where a slice of the parts is read. -/
theorem part_place (i : Fin 8) (inb : ∀ a, (![i.val, 0, 0] : Fin 3 → ℕ) a + (![1, 256, 1024] : Fin 3 → ℕ) a ≤ S8x256x1024.size a)
    (k : Fin 256) (j : Fin 1024) :
    (Rect.unit (s := S8x256x1024) ![i.val, 0, 0] ![1, 256, 1024] inb).toLoadRect.idx (ix3 0 k j) = ix3 i k j := by
  funext a; fin_cases a
  · exact Fin.ext (by show i.val + 1 * 0 = i.val; omega)
  · exact Fin.ext (by show 0 + 1 * k.val = k.val; omega)
  · exact Fin.ext (by show 0 + 1 * j.val = j.val; omega)

/-- Where a whole block is read. -/
theorem whole_place (y : S1x256x1024.Idx) :
    (Rect.unit (s := S1x256x1024) ![0, 0, 0] ![1, 256, 1024] inb_S1x256x1024_S1x256x1024_0_0_0).toLoadRect.idx y = y := by
  funext a; fin_cases a
  · exact Fin.ext (by show 0 + 1 * (y 0).val = (y 0).val; omega)
  · exact Fin.ext (by show 0 + 1 * (y 1).val = (y 1).val; omega)
  · exact Fin.ext (by show 0 + 1 * (y 2).val = (y 2).val; omega)

/-- Where a whole block is stored. -/
theorem store_place (y : S1x256x1024.Idx) :
    (Rect.unit (s := S1x256x1024) ![0, 0, 0] ![1, 256, 1024] inb_S1x256x1024_S1x256x1024_0_0_0).emb y = y := whole_place y

/-- An index of a block. -/
theorem piece_index (z : S1x256x1024.Idx) : ∃ (k : Fin 256) (j : Fin 1024), z = ix3 0 k j :=
  ⟨z 1, z 2, by
    funext a; fin_cases a
    · exact Subsingleton.elim (α := Fin 1) _ _
    · rfl
    · rfl⟩

/-- A block read whole. -/
theorem whole_read {e : EltTy} {r : Memref sig .tc .vmem S1x256x1024 e} (h : r.IsWhole) (X : S1x256x1024.Idx → Elt Ideal e) :
    View.readAt (Elt Ideal) r.view (Rect.unit ![0, 0, 0] ![1, 256, 1024] inb_S1x256x1024_S1x256x1024_0_0_0).toLoadRect (h.unread X) = X :=
  funext fun y => (h.readAt_unread X _ y).trans (congrArg X (whole_place y))

/-- A slice of the parts, read at a place. -/
theorem part_read {e : EltTy} {r : Memref sig .tc .vmem S8x256x1024 e} (h : r.IsWhole) (X : S8x256x1024.Idx → Elt Ideal e) (i : Fin 8)
    (inb : ∀ a, (![i.val, 0, 0] : Fin 3 → ℕ) a + (![1, 256, 1024] : Fin 3 → ℕ) a ≤ S8x256x1024.size a) (k : Fin 256) (j : Fin 1024) :
    View.readAt (Elt Ideal) r.view (Rect.unit (s := S8x256x1024) ![i.val, 0, 0] ![1, 256, 1024] inb).toLoadRect (h.unread X) (ix3 0 k j) = X (ix3 i k j) :=
  (h.readAt_unread X (Rect.unit (s := S8x256x1024) ![i.val, 0, 0] ![1, 256, 1024] inb).toLoadRect (ix3 0 k j)).trans
    (congrArg X (part_place i inb k j))

/-- One of the eight parts lies within the block. -/
abbrev inside (n : ℕ) : Prop := ∀ a, (![n, 0, 0] : Fin 3 → ℕ) a + (![1, 256, 1024] : Fin 3 → ℕ) a ≤ S8x256x1024.size a

/-- A part, as read from the block. -/
abbrev part {r : Memref sig .tc .vmem S8x256x1024 .bf16} (h : r.IsWhole) (X : Vec Ideal S8x256x1024 .bf16) (n : ℕ) (i : inside n) :
    Vec Ideal S1x256x1024 .bf16 :=
  View.readAt (Elt Ideal) r.view (Rect.unit (s := S8x256x1024) ![n, 0, 0] ![1, 256, 1024] i).toLoadRect (h.unread X)

/-- The eight slices read from the parts, added at a place, are the parts' sum there. -/
theorem slices_read {r : Memref sig .tc .vmem S8x256x1024 .bf16} (h : r.IsWhole) (X : Vec Ideal S8x256x1024 .bf16)
    (i0 : inside 0) (i1 : inside 1) (i2 : inside 2) (i3 : inside 3) (i4 : inside 4) (i5 : inside 5) (i6 : inside 6) (i7 : inside 7)
    (k : Fin 256) (j : Fin 1024) : slices (part h X 0 i0) (part h X 1 i1) (part h X 2 i2) (part h X 3 i3) (part h X 4 i4) (part h X 5 i5) (part h X 6 i6) (part h X 7 i7) k j
      = total X k j := by
  have e0 : part h X 0 i0 (ix3 0 k j) = X (ix3 0 k j) := part_read h X 0 i0 k j
  have e1 : part h X 1 i1 (ix3 0 k j) = X (ix3 1 k j) := part_read h X 1 i1 k j
  have e2 : part h X 2 i2 (ix3 0 k j) = X (ix3 2 k j) := part_read h X 2 i2 k j
  have e3 : part h X 3 i3 (ix3 0 k j) = X (ix3 3 k j) := part_read h X 3 i3 k j
  have e4 : part h X 4 i4 (ix3 0 k j) = X (ix3 4 k j) := part_read h X 4 i4 k j
  have e5 : part h X 5 i5 (ix3 0 k j) = X (ix3 5 k j) := part_read h X 5 i5 k j
  have e6 : part h X 6 i6 (ix3 0 k j) = X (ix3 6 k j) := part_read h X 6 i6 k j
  have e7 : part h X 7 i7 (ix3 0 k j) = X (ix3 7 k j) := part_read h X 7 i7 k j
  unfold slices total
  rw [e0, e1, e2, e3, e4, e5, e6, e7]

/-- A buffer filled by one store of a whole block holds that block. -/
theorem canon_whole (f : Vec Ideal S1x256x1024 .f32) (y : S1x256x1024.Idx) :
    (View.canon (Val := Elt Ideal) (e := .f32) [⟨Rect.unit (s := S1x256x1024) ![0, 0, 0] ![1, 256, 1024] inb_S1x256x1024_S1x256x1024_0_0_0, f⟩] y) = f y := by
  refine View.canon_apply_of_pieces (Val := Elt Ideal) f _ ?_ y (View.cover_of_tiledL _ S1x256x1024.size (by sl_kernel_rfl) y)
  intro pc hpc
  rcases List.mem_cons.mp hpc with rfl | hpc
  · exact fun z => congrArg f (store_place z).symm
  nomatch hpc

variable (m : (ℓ : Loc nD τ Cert.Kernel7Ideal.sig) → Buf (Elt Ideal) ℓ)

/-- What point `t` reads of the two layers' parts, the weights and the moments. -/
abbrev B0 (c : Dev nD) (t : Fin cfg0.N) : Vec Ideal S8x256x1024 .bf16 := iblk m c 0 t
abbrev B1 (c : Dev nD) (t : Fin cfg0.N) : Vec Ideal S8x256x1024 .bf16 := iblk m c 1 t
abbrev B2 (c : Dev nD) (t : Fin cfg0.N) : Vec Ideal S1x256x1024 .f32 := iblk m c 2 t
abbrev B3 (c : Dev nD) (t : Fin cfg0.N) : Vec Ideal S1x256x1024 .f32 := iblk m c 3 t
abbrev B4 (c : Dev nD) (t : Fin cfg0.N) : Vec Ideal S1x256x1024 .f32 := iblk m c 4 t

/-- A point reads its blocks of the weights and the moments whole. -/
theorem loaded2 (c : Dev nD) (t : Fin cfg0.N) : View.readAt (Elt Ideal) (ms0_2 t).view
    (Rect.unit ![0, 0, 0] ![1, 256, 1024] inb_S1x256x1024_S1x256x1024_0_0_0).toLoadRect ((hs0_2 t).unread (iblk m c 2 t)) = B2 m c t :=
  whole_read (hs0_2 t) (iblk m c 2 t)
theorem loaded3 (c : Dev nD) (t : Fin cfg0.N) : View.readAt (Elt Ideal) (ms0_3 t).view
    (Rect.unit ![0, 0, 0] ![1, 256, 1024] inb_S1x256x1024_S1x256x1024_0_0_0).toLoadRect ((hs0_3 t).unread (iblk m c 3 t)) = B3 m c t :=
  whole_read (hs0_3 t) (iblk m c 3 t)
theorem loaded4 (c : Dev nD) (t : Fin cfg0.N) : View.readAt (Elt Ideal) (ms0_4 t).view
    (Rect.unit ![0, 0, 0] ![1, 256, 1024] inb_S1x256x1024_S1x256x1024_0_0_0).toLoadRect ((hs0_4 t).unread (iblk m c 4 t)) = B4 m c t :=
  whole_read (hs0_4 t) (iblk m c 4 t)

/-- The summed gradient the first point leaves, at each place of its block. -/
theorem gradient_left_first (c : Dev nD) (t : Fin cfg0.N) (h : t.val % 2 = 0) (y : S1x256x1024.Idx) :
    (left5 m c t y : EReal) = total (B0 m c t) (y 1) (y 2) := by
  rw [left5_first m c t h]
  dsimp only [first, kernelRun0_A]
  unfold kernelRun0_A.sl.r
  refine (canon_whole _ y).trans ?_
  obtain ⟨k, j, rfl⟩ := piece_index y
  refine (gradient_first _ _ _ _ _ _ _ _ k j).trans ?_
  rw [slices_read (hs0_0 t) (iblk m c 0 t)]
  rfl

/-- The summed gradient the last point leaves, at each place of its block. -/
theorem gradient_left_last (c : Dev nD) (t : Fin cfg0.N) (h : t.val % 2 = 1) (y : S1x256x1024.Idx) :
    (left5 m c t y : EReal) = total (B1 m c t) (y 1) (y 2) := by
  rw [left5_last m c t h]
  dsimp only [last, kernelRun0_B]
  unfold kernelRun0_B.sl.r
  refine (canon_whole _ y).trans ?_
  obtain ⟨k, j, rfl⟩ := piece_index y
  refine (gradient_last _ _ _ _ _ _ _ _ k j).trans ?_
  rw [slices_read (hs0_1 t) (iblk m c 1 t)]
  rfl

/-- The new first moment the first point leaves, at each place of its block. -/
theorem moment_left_first (c : Dev nD) (t : Fin cfg0.N) (h : t.val % 2 = 0) (y : S1x256x1024.Idx) :
    (left7 m c t y : EReal) = moment (total (B0 m c t) (y 1) (y 2)) (B3 m c t y) := by
  rw [left7_first m c t h]
  dsimp only [first, kernelRun0_A]
  unfold kernelRun0_A.sl.r_1 kernelRun0_A.sl.r
  rw [loaded3 m c t]
  refine (canon_whole _ y).trans ?_
  obtain ⟨k, j, rfl⟩ := piece_index y
  refine (moment_first _ _ _ _ _ _ _ _ (B3 m c t) k j).trans ?_
  rw [slices_read (hs0_0 t) (iblk m c 0 t)]
  rfl

/-- The new first moment the last point leaves, at each place of its block. -/
theorem moment_left_last (c : Dev nD) (t : Fin cfg0.N) (h : t.val % 2 = 1) (y : S1x256x1024.Idx) :
    (left7 m c t y : EReal) = moment (total (B1 m c t) (y 1) (y 2)) (B3 m c t y) := by
  rw [left7_last m c t h]
  dsimp only [last, kernelRun0_B]
  unfold kernelRun0_B.sl.r_1 kernelRun0_B.sl.r
  rw [loaded3 m c t]
  refine (canon_whole _ y).trans ?_
  obtain ⟨k, j, rfl⟩ := piece_index y
  refine (moment_last _ _ _ _ _ _ _ _ (B3 m c t) k j).trans ?_
  rw [slices_read (hs0_1 t) (iblk m c 1 t)]
  rfl

/-- The new second moment the first point leaves, at each place of its block. -/
theorem second_left_first (c : Dev nD) (t : Fin cfg0.N) (h : t.val % 2 = 0) (y : S1x256x1024.Idx) :
    (left8 m c t y : EReal) = second (total (B0 m c t) (y 1) (y 2)) (B4 m c t y) := by
  rw [left8_first m c t h]
  dsimp only [first, kernelRun0_A]
  unfold kernelRun0_A.sl.r_2 kernelRun0_A.sl.r
  rw [loaded4 m c t]
  refine (canon_whole _ y).trans ?_
  obtain ⟨k, j, rfl⟩ := piece_index y
  refine (second_first _ _ _ _ _ _ _ _ (B4 m c t) k j).trans ?_
  rw [slices_read (hs0_0 t) (iblk m c 0 t)]
  rfl

/-- The new second moment the last point leaves, at each place of its block. -/
theorem second_left_last (c : Dev nD) (t : Fin cfg0.N) (h : t.val % 2 = 1) (y : S1x256x1024.Idx) :
    (left8 m c t y : EReal) = second (total (B1 m c t) (y 1) (y 2)) (B4 m c t y) := by
  rw [left8_last m c t h]
  dsimp only [last, kernelRun0_B]
  unfold kernelRun0_B.sl.r_2 kernelRun0_B.sl.r
  rw [loaded4 m c t]
  refine (canon_whole _ y).trans ?_
  obtain ⟨k, j, rfl⟩ := piece_index y
  refine (second_last _ _ _ _ _ _ _ _ (B4 m c t) k j).trans ?_
  rw [slices_read (hs0_1 t) (iblk m c 1 t)]
  rfl

/-- The change of the weights the first point leaves, at each place of its block. -/
theorem change_left_first (c : Dev nD) (t : Fin cfg0.N) (h : t.val % 2 = 0) (y : S1x256x1024.Idx) :
    (left6 m c t y : EReal) = change (B2 m c t y) (moment (total (B0 m c t) (y 1) (y 2)) (B3 m c t y)) (second (total (B0 m c t) (y 1) (y 2)) (B4 m c t y)) := by
  rw [left6_first m c t h]
  dsimp only [first, kernelRun0_A]
  unfold kernelRun0_A.sl.r
  rw [loaded2 m c t, loaded3 m c t, loaded4 m c t]
  refine (canon_whole _ y).trans ?_
  obtain ⟨k, j, rfl⟩ := piece_index y
  refine (change_first _ _ _ _ _ _ _ _ (B2 m c t) (B3 m c t) (B4 m c t) k j).trans ?_
  rw [slices_read (hs0_0 t) (iblk m c 0 t)]
  rfl

/-- The change of the weights the last point leaves, at each place of its block. -/
theorem change_left_last (c : Dev nD) (t : Fin cfg0.N) (h : t.val % 2 = 1) (y : S1x256x1024.Idx) :
    (left6 m c t y : EReal) = change (B2 m c t y) (moment (total (B1 m c t) (y 1) (y 2)) (B3 m c t y)) (second (total (B1 m c t) (y 1) (y 2)) (B4 m c t y)) := by
  rw [left6_last m c t h]
  dsimp only [last, kernelRun0_B]
  unfold kernelRun0_B.sl.r
  rw [loaded2 m c t, loaded3 m c t, loaded4 m c t]
  refine (canon_whole _ y).trans ?_
  obtain ⟨k, j, rfl⟩ := piece_index y
  refine (change_last _ _ _ _ _ _ _ _ (B2 m c t) (B3 m c t) (B4 m c t) k j).trans ?_
  rw [slices_read (hs0_1 t) (iblk m c 1 t)]
  rfl

end Cert.OutRow

end
-- ==== Proof.OutValue.lean ====
/-
  The optimiser's call for the output projection's weights: its four arrays after the run, and the run.
-/
module

public import proofs.«01_k».proof.Proof.OutRow

@[expose] public section

set_option maxRecDepth 16384

noncomputable section

open Idealize.ShloMosaic Idealize.ShloMosaic.TcCoe Idealize.SL.Sem

namespace Cert.OutValue

open Cert.Kernel7Ideal Cert.Kernel7Ideal.Gen Cert.OutStep Cert.OutRow Cert.Optimizer

/-- An element of the gradient's sum over its eight parts, of either layer. -/
def summed (p q : Vec Ideal S8x256x1024 .bf16) (l : Fin 2) (r : Fin 256) (j : Fin 1024) : EReal :=
  layer l (total p r j) (total q r j)

variable (m : (ℓ : Loc nD τ Cert.Kernel7Ideal.sig) → Buf (Elt Ideal) ℓ)

/-- The parts of the two layers' gradients, the weights and the two moments, as arrays. -/
abbrev A0 (c : Dev nD) : Vec Ideal S8x256x1024 .bf16 := m ((c : Thread nD τ).loc main_arg0)
abbrev A1 (c : Dev nD) : Vec Ideal S8x256x1024 .bf16 := m ((c : Thread nD τ).loc main_arg1)
abbrev A2 (c : Dev nD) : Vec Ideal S2x256x1024 .f32 := m ((c : Thread nD τ).loc main_arg2)
abbrev A3 (c : Dev nD) : Vec Ideal S2x256x1024 .f32 := m ((c : Thread nD τ).loc main_arg3)
abbrev A4 (c : Dev nD) : Vec Ideal S2x256x1024 .f32 := m ((c : Thread nD τ).loc main_arg4)

/-- A point reads all the parts, and works on its layer's weights and moments. -/
theorem index0 : ∀ t : Fin cfg0.N, win0_0.index t = ![0, 0, 0] :=
  (by decide +kernel : ∀ t : Fin grid0.N, win0_0.index t = ![0, 0, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![t.val, 0, 0] :=
  (by decide +kernel : ∀ t : Fin grid0.N, win0_2.index t = ![t.val, 0, 0])
theorem index3 : ∀ t : Fin cfg0.N, win0_3.index t = ![t.val, 0, 0] :=
  (by decide +kernel : ∀ t : Fin grid0.N, win0_3.index t = ![t.val, 0, 0])
theorem index4 : ∀ t : Fin cfg0.N, win0_4.index t = ![t.val, 0, 0] :=
  (by decide +kernel : ∀ t : Fin grid0.N, win0_4.index t = ![t.val, 0, 0])
theorem index5 : ∀ t : Fin cfg0.N, win0_5.index t = ![t.val, 0, 0] :=
  (by decide +kernel : ∀ t : Fin grid0.N, win0_5.index t = ![t.val, 0, 0])
theorem index6 : ∀ t : Fin cfg0.N, win0_6.index t = ![t.val, 0, 0] :=
  (by decide +kernel : ∀ t : Fin grid0.N, win0_6.index t = ![t.val, 0, 0])
theorem index7 : ∀ t : Fin cfg0.N, win0_7.index t = ![t.val, 0, 0] :=
  (by decide +kernel : ∀ t : Fin grid0.N, win0_7.index t = ![t.val, 0, 0])
theorem index8 : ∀ t : Fin cfg0.N, win0_8.index t = ![t.val, 0, 0] :=
  (by decide +kernel : ∀ t : Fin grid0.N, win0_8.index t = ![t.val, 0, 0])

/-- The parts a point finds of layer 0's gradient: all of them. -/
theorem read0 (c : Dev nD) (t : Fin cfg0.N) : B0 m c t = A0 m c := by
  funext y
  refine congrArg (A0 m c) (?_ : (win0_0.rect t).emb y = y)
  refine funext fun a => Fin.ext ?_
  rw [Pipeline.Window.rect_emb_val win0_0 t _ a rfl, index0]
  fin_cases a
  · show 0 * 8 + (y 0).val = (y 0).val
    omega
  · show 0 * 256 + (y 1).val = (y 1).val
    omega
  · show 0 * 1024 + (y 2).val = (y 2).val
    omega

/-- The parts a point finds of layer 1's gradient: all of them. -/
theorem read1 (c : Dev nD) (t : Fin cfg0.N) : B1 m c t = A1 m c := by
  funext y
  refine congrArg (A1 m c) (?_ : (win0_1.rect t).emb y = y)
  refine funext fun a => Fin.ext ?_
  rw [Pipeline.Window.rect_emb_val win0_1 t _ a rfl, index1]
  fin_cases a
  · show 0 * 8 + (y 0).val = (y 0).val
    omega
  · show 0 * 256 + (y 1).val = (y 1).val
    omega
  · show 0 * 1024 + (y 2).val = (y 2).val
    omega

/-- The weights a point reads: its layer's. -/
theorem read2 (c : Dev nD) (t : Fin cfg0.N) (l : Fin 2) (hl : l.val = t.val) (y : S1x256x1024.Idx) :
    B2 m c t y = A2 m c (ix3 l (y 1) (y 2)) := by
  refine congrArg (A2 m c) (?_ : (win0_2.rect t).emb y = ix3 l (y 1) (y 2))
  have h0 : (y 0).val = 0 := by have h : (y 0).val < 1 := (y 0).isLt; omega
  refine funext fun a => Fin.ext ?_
  rw [Pipeline.Window.rect_emb_val win0_2 t _ a rfl, index2]
  fin_cases a
  · show t.val * 1 + (y 0).val = l.val
    omega
  · show 0 * 256 + (y 1).val = (y 1).val
    omega
  · show 0 * 1024 + (y 2).val = (y 2).val
    omega

/-- The first moments a point reads: its layer's. -/
theorem read3 (c : Dev nD) (t : Fin cfg0.N) (l : Fin 2) (hl : l.val = t.val) (y : S1x256x1024.Idx) :
    B3 m c t y = A3 m c (ix3 l (y 1) (y 2)) := by
  refine congrArg (A3 m c) (?_ : (win0_3.rect t).emb y = ix3 l (y 1) (y 2))
  have h0 : (y 0).val = 0 := by have h : (y 0).val < 1 := (y 0).isLt; omega
  refine funext fun a => Fin.ext ?_
  rw [Pipeline.Window.rect_emb_val win0_3 t _ a rfl, index3]
  fin_cases a
  · show t.val * 1 + (y 0).val = l.val
    omega
  · show 0 * 256 + (y 1).val = (y 1).val
    omega
  · show 0 * 1024 + (y 2).val = (y 2).val
    omega

/-- The second moments a point reads: its layer's. -/
theorem read4 (c : Dev nD) (t : Fin cfg0.N) (l : Fin 2) (hl : l.val = t.val) (y : S1x256x1024.Idx) :
    B4 m c t y = A4 m c (ix3 l (y 1) (y 2)) := by
  refine congrArg (A4 m c) (?_ : (win0_4.rect t).emb y = ix3 l (y 1) (y 2))
  have h0 : (y 0).val = 0 := by have h : (y 0).val < 1 := (y 0).isLt; omega
  refine funext fun a => Fin.ext ?_
  rw [Pipeline.Window.rect_emb_val win0_4 t _ a rfl, index4]
  fin_cases a
  · show t.val * 1 + (y 0).val = l.val
    omega
  · show 0 * 256 + (y 1).val = (y 1).val
    omega
  · show 0 * 1024 + (y 2).val = (y 2).val
    omega

/-- The new moments and the change at an element, from the arrays. -/
def momentAt (c : Dev nD) (l : Fin 2) (r : Fin 256) (j : Fin 1024) : EReal :=
  moment (summed (A0 m c) (A1 m c) l r j) (A3 m c (ix3 l r j))
def secondAt (c : Dev nD) (l : Fin 2) (r : Fin 256) (j : Fin 1024) : EReal :=
  second (summed (A0 m c) (A1 m c) l r j) (A4 m c (ix3 l r j))
def changeAt (c : Dev nD) (l : Fin 2) (r : Fin 256) (j : Fin 1024) : EReal :=
  change (A2 m c (ix3 l r j)) (momentAt m c l r j) (secondAt m c l r j)

/-- The summed gradient of a block's element. -/
theorem gradient_block (c : Dev nD) (t : Fin cfg0.N) (l : Fin 2) (hl : l.val = t.val) (y : S1x256x1024.Idx) :
    (left5 m c t y : EReal) = summed (A0 m c) (A1 m c) l (y 1) (y 2) := by
  by_cases h : t.val % 2 = 0
  · rw [gradient_left_first m c t h y, read0 m c t]
    obtain rfl : l = 0 := Fin.ext (by have := l.isLt; show l.val = 0; omega)
    rfl
  · rw [gradient_left_last m c t (odd_of h) y, read1 m c t]
    obtain rfl : l = 1 := Fin.ext (by have := l.isLt; show l.val = 1; omega)
    rfl

/-- The summed gradient after the run. -/
theorem gradients (c : Dev nD) : (OutStep.dats m 0 c).arrAt 5 cfg0.N = fun y => summed (A0 m c) (A1 m c) (y 0) (y 1) (y 2) := by
  refine (OutStep.dats m 0 c).arrAt_eq_of_covers 5 _ (by decide +kernel) fun t hf y => ?_
  blk_simp
  rw [OutStep.after5]
  have h0 : (y 0).val = 0 := by have h : (y 0).val < 1 := (y 0).isLt; omega
  have e0 : ((((View.whole main_v0_0).slice (win0_5.rect t)).emb y 0 : Fin 2) : ℕ) = t.val := by
    show (((win0_5.rect t).emb y 0 : Fin 2) : ℕ) = _
    rw [Pipeline.Window.rect_emb_val win0_5 t _ 0 rfl, index5]
    show t.val * 1 + (y 0).val = t.val
    omega
  have e1 : ((View.whole main_v0_0).slice (win0_5.rect t)).emb y 1 = (y 1 : Fin 256) := by
    refine Fin.ext ?_
    show (((win0_5.rect t).emb y 1 : Fin 256) : ℕ) = _
    rw [Pipeline.Window.rect_emb_val win0_5 t _ 1 rfl, index5]
    show 0 * 256 + (y 1).val = (y 1).val
    omega
  have e2 : ((View.whole main_v0_0).slice (win0_5.rect t)).emb y 2 = (y 2 : Fin 1024) := by
    refine Fin.ext ?_
    show (((win0_5.rect t).emb y 2 : Fin 1024) : ℕ) = _
    rw [Pipeline.Window.rect_emb_val win0_5 t _ 2 rfl, index5]
    show 0 * 1024 + (y 2).val = (y 2).val
    omega
  rw [e1, e2]
  exact gradient_block m c t _ e0 y

/-- The change of a block's element. -/
theorem change_block (c : Dev nD) (t : Fin cfg0.N) (l : Fin 2) (hl : l.val = t.val) (y : S1x256x1024.Idx) :
    (left6 m c t y : EReal) = changeAt m c l (y 1) (y 2) := by
  by_cases h : t.val % 2 = 0
  · rw [change_left_first m c t h y, read0 m c t, read2 m c t l hl, read3 m c t l hl, read4 m c t l hl]
    obtain rfl : l = 0 := Fin.ext (by have := l.isLt; show l.val = 0; omega)
    rfl
  · rw [change_left_last m c t (odd_of h) y, read1 m c t, read2 m c t l hl, read3 m c t l hl, read4 m c t l hl]
    obtain rfl : l = 1 := Fin.ext (by have := l.isLt; show l.val = 1; omega)
    rfl

/-- The change after the run. -/
theorem changes (c : Dev nD) : (OutStep.dats m 0 c).arrAt 6 cfg0.N = fun y => changeAt m c (y 0) (y 1) (y 2) := by
  refine (OutStep.dats m 0 c).arrAt_eq_of_covers 6 _ (by decide +kernel) fun t hf y => ?_
  blk_simp
  rw [OutStep.after6]
  have h0 : (y 0).val = 0 := by have h : (y 0).val < 1 := (y 0).isLt; omega
  have e0 : ((((View.whole main_v0_1).slice (win0_6.rect t)).emb y 0 : Fin 2) : ℕ) = t.val := by
    show (((win0_6.rect t).emb y 0 : Fin 2) : ℕ) = _
    rw [Pipeline.Window.rect_emb_val win0_6 t _ 0 rfl, index6]
    show t.val * 1 + (y 0).val = t.val
    omega
  have e1 : ((View.whole main_v0_1).slice (win0_6.rect t)).emb y 1 = (y 1 : Fin 256) := by
    refine Fin.ext ?_
    show (((win0_6.rect t).emb y 1 : Fin 256) : ℕ) = _
    rw [Pipeline.Window.rect_emb_val win0_6 t _ 1 rfl, index6]
    show 0 * 256 + (y 1).val = (y 1).val
    omega
  have e2 : ((View.whole main_v0_1).slice (win0_6.rect t)).emb y 2 = (y 2 : Fin 1024) := by
    refine Fin.ext ?_
    show (((win0_6.rect t).emb y 2 : Fin 1024) : ℕ) = _
    rw [Pipeline.Window.rect_emb_val win0_6 t _ 2 rfl, index6]
    show 0 * 1024 + (y 2).val = (y 2).val
    omega
  rw [e1, e2]
  exact change_block m c t _ e0 y

/-- The new first moment of a block's element. -/
theorem moment_block (c : Dev nD) (t : Fin cfg0.N) (l : Fin 2) (hl : l.val = t.val) (y : S1x256x1024.Idx) :
    (left7 m c t y : EReal) = momentAt m c l (y 1) (y 2) := by
  by_cases h : t.val % 2 = 0
  · rw [moment_left_first m c t h y, read0 m c t, read3 m c t l hl]
    obtain rfl : l = 0 := Fin.ext (by have := l.isLt; show l.val = 0; omega)
    rfl
  · rw [moment_left_last m c t (odd_of h) y, read1 m c t, read3 m c t l hl]
    obtain rfl : l = 1 := Fin.ext (by have := l.isLt; show l.val = 1; omega)
    rfl

/-- The new first moment after the run. -/
theorem moments (c : Dev nD) : (OutStep.dats m 0 c).arrAt 7 cfg0.N = fun y => momentAt m c (y 0) (y 1) (y 2) := by
  refine (OutStep.dats m 0 c).arrAt_eq_of_covers 7 _ (by decide +kernel) fun t hf y => ?_
  blk_simp
  rw [OutStep.after7]
  have h0 : (y 0).val = 0 := by have h : (y 0).val < 1 := (y 0).isLt; omega
  have e0 : ((((View.whole main_v0_2).slice (win0_7.rect t)).emb y 0 : Fin 2) : ℕ) = t.val := by
    show (((win0_7.rect t).emb y 0 : Fin 2) : ℕ) = _
    rw [Pipeline.Window.rect_emb_val win0_7 t _ 0 rfl, index7]
    show t.val * 1 + (y 0).val = t.val
    omega
  have e1 : ((View.whole main_v0_2).slice (win0_7.rect t)).emb y 1 = (y 1 : Fin 256) := by
    refine Fin.ext ?_
    show (((win0_7.rect t).emb y 1 : Fin 256) : ℕ) = _
    rw [Pipeline.Window.rect_emb_val win0_7 t _ 1 rfl, index7]
    show 0 * 256 + (y 1).val = (y 1).val
    omega
  have e2 : ((View.whole main_v0_2).slice (win0_7.rect t)).emb y 2 = (y 2 : Fin 1024) := by
    refine Fin.ext ?_
    show (((win0_7.rect t).emb y 2 : Fin 1024) : ℕ) = _
    rw [Pipeline.Window.rect_emb_val win0_7 t _ 2 rfl, index7]
    show 0 * 1024 + (y 2).val = (y 2).val
    omega
  rw [e1, e2]
  exact moment_block m c t _ e0 y

/-- The new second moment of a block's element. -/
theorem second_block (c : Dev nD) (t : Fin cfg0.N) (l : Fin 2) (hl : l.val = t.val) (y : S1x256x1024.Idx) :
    (left8 m c t y : EReal) = secondAt m c l (y 1) (y 2) := by
  by_cases h : t.val % 2 = 0
  · rw [second_left_first m c t h y, read0 m c t, read4 m c t l hl]
    obtain rfl : l = 0 := Fin.ext (by have := l.isLt; show l.val = 0; omega)
    rfl
  · rw [second_left_last m c t (odd_of h) y, read1 m c t, read4 m c t l hl]
    obtain rfl : l = 1 := Fin.ext (by have := l.isLt; show l.val = 1; omega)
    rfl

/-- The new second moment after the run. -/
theorem seconds (c : Dev nD) : (OutStep.dats m 0 c).arrAt 8 cfg0.N = fun y => secondAt m c (y 0) (y 1) (y 2) := by
  refine (OutStep.dats m 0 c).arrAt_eq_of_covers 8 _ (by decide +kernel) fun t hf y => ?_
  blk_simp
  rw [OutStep.after8]
  have h0 : (y 0).val = 0 := by have h : (y 0).val < 1 := (y 0).isLt; omega
  have e0 : ((((View.whole main_v0_3).slice (win0_8.rect t)).emb y 0 : Fin 2) : ℕ) = t.val := by
    show (((win0_8.rect t).emb y 0 : Fin 2) : ℕ) = _
    rw [Pipeline.Window.rect_emb_val win0_8 t _ 0 rfl, index8]
    show t.val * 1 + (y 0).val = t.val
    omega
  have e1 : ((View.whole main_v0_3).slice (win0_8.rect t)).emb y 1 = (y 1 : Fin 256) := by
    refine Fin.ext ?_
    show (((win0_8.rect t).emb y 1 : Fin 256) : ℕ) = _
    rw [Pipeline.Window.rect_emb_val win0_8 t _ 1 rfl, index8]
    show 0 * 256 + (y 1).val = (y 1).val
    omega
  have e2 : ((View.whole main_v0_3).slice (win0_8.rect t)).emb y 2 = (y 2 : Fin 1024) := by
    refine Fin.ext ?_
    show (((win0_8.rect t).emb y 2 : Fin 1024) : ℕ) = _
    rw [Pipeline.Window.rect_emb_val win0_8 t _ 2 rfl, index8]
    show 0 * 1024 + (y 2).val = (y 2).val
    omega
  rw [e1, e2]
  exact second_block m c t _ e0 y

/-- The run: the four arrays end as stated, and the arguments as they were. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v0_0) = (fun y : S2x256x1024.Idx => summed (A0 m c) (A1 m c) (y 0) (y 1) (y 2))
      ∧ r.2.mem ((c.tc : Thread nD τ).loc main_v0_1) = (fun y : S2x256x1024.Idx => changeAt m c (y 0) (y 1) (y 2))
      ∧ r.2.mem ((c.tc : Thread nD τ).loc main_v0_2) = (fun y : S2x256x1024.Idx => momentAt m c (y 0) (y 1) (y 2))
      ∧ r.2.mem ((c.tc : Thread nD τ).loc main_v0_3) = (fun y : S2x256x1024.Idx => secondAt m c (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => ⟨
      ((h.1 c).1 5).trans (gradients m c),
      ((h.1 c).1 6).trans (changes m c),
      ((h.1 c).1 7).trans (moments m c),
      ((h.1 c).1 8).trans (seconds m c),
      ((h.1 c).1 0).trans (((OutStep.dats m 0 c).arrAt_in 0 rfl _).trans (starts m c 0)),
      ((h.1 c).1 1).trans (((OutStep.dats m 0 c).arrAt_in 1 rfl _).trans (starts m c 1)),
      ((h.1 c).1 2).trans (((OutStep.dats m 0 c).arrAt_in 2 rfl _).trans (starts m c 2)),
      ((h.1 c).1 3).trans (((OutStep.dats m 0 c).arrAt_in 3 rfl _).trans (starts m c 3)),
      ((h.1 c).1 4).trans (((OutStep.dats m 0 c).arrAt_in 4 rfl _).trans (starts m c 4))⟩)
    (launch m g)

end Cert.OutValue

end
-- ==== Proof.RefOutStep.lean ====
/-
  The optimiser's reference, an element at a time: the step of the weights of the output projection.
-/
module

public import proofs.«01_k».proof.Proof.OutValue
public import proofs.«01_k».proof.Proof.Gen.Reference7Ideal.Read

@[expose] public section

set_option maxRecDepth 16384

noncomputable section

open Idealize.ShloMosaic Idealize.ShloMosaic.TcCoe Idealize.SL.Sem

namespace Cert.RefOutStep

open Cert.Reference7Ideal Cert.Reference7Ideal.Gen Cert.Reference7Ideal.Read Cert.Optimizer

variable (x0 x1 : Vec Ideal S8x256x1024 .bf16) (x2 x3 x4 : Vec Ideal S2x256x1024 .f32)

/-- Where a part of the first layer's sum is read. -/
theorem first_place (i : Fin 8) (r : Fin 256) (j : Fin 1024) : idx_main_v1 (idx_main_v4 (ix3 0 r j)) i = ix3 i r j := by
  funext a; fin_cases a <;> rfl

/-- The first layer's parts, added. -/
theorem first_apply (r : Fin 256) (j : Fin 1024) : (val_main_v4 (F := Ideal) x0 (ix3 0 r j) : EReal)
    = OutRow.total x0 r j := by
  rw [val_main_v4_apply, val_main_v1_apply, Fin.sum_univ_eight]
  simp only [val_main_v0_apply, val_main_cst_apply, first_place]
  refine (congrArg (· + _) (Ideal.ofBits_zero_f32 : (FloatOps.ofBits (F := Ideal) .f32 0x00000000#32 : EReal) = 0)).trans ?_
  rw [zero_add]
  rfl

/-- Where a part of the second layer's sum is read. -/
theorem last_place (i : Fin 8) (r : Fin 256) (j : Fin 1024) : idx_main_v3 (idx_main_v5 (ix3 0 r j)) i = ix3 i r j := by
  funext a; fin_cases a <;> rfl

/-- The second layer's parts, added. -/
theorem last_apply (r : Fin 256) (j : Fin 1024) : (val_main_v5 (F := Ideal) x1 (ix3 0 r j) : EReal)
    = OutRow.total x1 r j := by
  rw [val_main_v5_apply, val_main_v3_apply, Fin.sum_univ_eight]
  simp only [val_main_v2_apply, val_main_cst_0_apply, last_place]
  refine (congrArg (· + _) (Ideal.ofBits_zero_f32 : (FloatOps.ofBits (F := Ideal) .f32 0x00000000#32 : EReal) = 0)).trans ?_
  rw [zero_add]
  rfl

/-- The two layers' summed gradients. -/
theorem gradient_apply (l : Fin 2) (r : Fin 256) (j : Fin 1024) :
    (val_main_v6 (F := Ideal) x0 x1 (ix3 l r j) : EReal) = OutValue.summed x0 x1 l r j := by
  unfold val_main_v6
  obtain rfl | rfl : l = 0 ∨ l = 1 := by omega
  · refine (concatenate_pair_apply_left (t := S2x256x1024) (s₁ := S1x256x1024) (s₂ := S1x256x1024) 0 _ _ _ (ix3 0 r j) rfl (ix3 0 r j) fun b => ?_).trans (first_apply x0 r j)
    fin_cases b <;> rfl
  · refine (concatenate_pair_apply_right (t := S2x256x1024) (s₁ := S1x256x1024) (s₂ := S1x256x1024) 0 _ _ _ (ix3 1 r j) rfl rfl (ix3 0 r j) (fun b hb => ?_) rfl).trans (last_apply x1 r j)
    fin_cases b
    · exact absurd rfl hb
    · rfl
    · rfl

/-- The new first moment. -/
theorem moment_apply (l : Fin 2) (r : Fin 256) (j : Fin 1024) :
    (val_main_v11 (F := Ideal) x0 x1 x3 (ix3 l r j) : EReal) = moment (OutValue.summed x0 x1 l r j) (x3 (ix3 l r j)) := by
  simp only [val_main_v11_apply, val_main_v10_apply, val_main_v9_apply, val_main_v8_apply, val_main_v7_apply, val_main_cst_1_apply,
    val_main_cst_2_apply, gradient_apply]
  rfl

/-- The new second moment. -/
theorem second_apply (l : Fin 2) (r : Fin 256) (j : Fin 1024) :
    (val_main_v17 (F := Ideal) x0 x1 x4 (ix3 l r j) : EReal) = second (OutValue.summed x0 x1 l r j) (x4 (ix3 l r j)) := by
  simp only [val_main_v17_apply, val_main_v16_apply, val_main_v15_apply, val_main_v14_apply, val_main_v13_apply, val_main_v12_apply,
    val_main_cst_3_apply, val_main_cst_4_apply, gradient_apply]
  rfl

/-- What is added to the weights. -/
theorem change_apply (l : Fin 2) (r : Fin 256) (j : Fin 1024) :
    (val_main_v30 (F := Ideal) x0 x1 x2 x3 x4 (ix3 l r j) : EReal)
      = change (x2 (ix3 l r j)) (moment (OutValue.summed x0 x1 l r j) (x3 (ix3 l r j))) (second (OutValue.summed x0 x1 l r j) (x4 (ix3 l r j))) := by
  simp only [val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_v18_apply, val_main_cst_5_apply, val_main_cst_6_apply, val_main_cst_7_apply, val_main_cst_8_apply, val_main_cst_9_apply,
    moment_apply, second_apply]
  rfl

end Cert.RefOutStep

end
-- ==== Proof.ClaimOutStep.lean ====
/-
  The optimiser's step for the weights of the output projection: the kernel and the reference leave the same four arrays.
-/
module

public import proofs.«01_k».proof.Defs
public import proofs.«01_k».proof.Proof.RefOutStep
public import proofs.«01_k».proof.Proof.Gen.Kernel7
public import proofs.«01_k».proof.Proof.Gen.Reference7Ideal.Run

@[expose] public section

set_option maxRecDepth 16384

noncomputable section

open Idealize.ShloMosaic Idealize.ShloMosaic.TcCoe Idealize.SL.Sem

namespace Cert.ClaimOutStep

/-- The kernel over machine floats is the same program as over the real numbers, read at other values. -/
theorem same_frame : @Cert.quiescent_Kernel7 Cert.Kernel7.Gen.facts
    = ∀ (m : (ℓ : Loc Cert.Kernel7Ideal.nD Cert.Kernel7Ideal.τ Cert.Kernel7Ideal.sig) → Buf (Elt Bits) ℓ)
        (g : Dev Cert.Kernel7Ideal.nD → PrngReg), True → type_of% (Cert.OutStep.run_frame (F := Bits) m g) := by
  chain_rfl

/-- The frame of the kernel over machine floats. -/
theorem frame_kernel : @Cert.quiescent_Kernel7 Cert.Kernel7.Gen.facts :=
  same_frame.mpr fun m g _ => Cert.OutStep.run_frame (F := Bits) m g

/-- The frame of the kernel over the real numbers. -/
theorem frame_ideal : @Cert.quiescent_Kernel7Ideal Cert.Kernel7Ideal.Gen.facts := fun m g _ => Cert.OutStep.run_frame m g

/-- The frame of the reference. -/
theorem frame_reference : @Cert.quiescent_Reference7Ideal Cert.Reference7Ideal.Gen.facts := fun m g _ =>
  (θ_run (Cert.Reference7Ideal.defs (F := Ideal)) _ _).mono
    (fun r h => ⟨fun c => (h c).2.2.2.2, sem_eq_zero_of_no_sems rfl r.2⟩)
    (Cert.Reference7Ideal.Value.run (F := Ideal) m g)

/-- The kernel's summed gradient, change and moments are the reference's. -/
theorem value : @Cert.algebraic_Kernel7Ideal_Reference7Ideal Cert.Kernel7Ideal.Gen.facts Cert.Reference7Ideal.Gen.facts := by
  intro m g m' g' _ hargs
  refine ⟨fun c => (fun y : Cert.Kernel7Ideal.S2x256x1024.Idx => Cert.OutValue.summed (Cert.OutValue.A0 m c) (Cert.OutValue.A1 m c) (y 0) (y 1) (y 2)),
    fun c => (fun y : Cert.Kernel7Ideal.S2x256x1024.Idx => Cert.OutValue.changeAt m c (y 0) (y 1) (y 2)),
    fun c => (fun y : Cert.Kernel7Ideal.S2x256x1024.Idx => Cert.OutValue.momentAt m c (y 0) (y 1) (y 2)),
    fun c => (fun y : Cert.Kernel7Ideal.S2x256x1024.Idx => Cert.OutValue.secondAt m c (y 0) (y 1) (y 2)),
    Cert.OutValue.run m g,
    (θ_run (Cert.Reference7Ideal.defs (F := Ideal)) _ _).mono (fun r h c => ⟨?_, ?_, ?_, ?_, (h c).2.2.2.2⟩) (Cert.Reference7Ideal.Value.run (F := Ideal) m' g')⟩
  · refine ((h c).1).trans ((Cert.Reference7Ideal.Read.val_main_v6_eq (F := Ideal) _ _).trans ?_)
    rw [(hargs c).1, (hargs c).2.1]
    funext y
    conv_lhs => rw [ValueIdx.eq_ix3 y]
    exact Cert.RefOutStep.gradient_apply _ _ (y 0) (y 1) (y 2)
  · refine ((h c).2.1).trans ((Cert.Reference7Ideal.Read.val_main_v30_eq (F := Ideal) _ _ _ _ _).trans ?_)
    rw [(hargs c).1, (hargs c).2.1, (hargs c).2.2.1, (hargs c).2.2.2.1, (hargs c).2.2.2.2]
    funext y
    conv_lhs => rw [ValueIdx.eq_ix3 y]
    exact Cert.RefOutStep.change_apply _ _ _ _ _ (y 0) (y 1) (y 2)
  · refine ((h c).2.2.1).trans ((Cert.Reference7Ideal.Read.val_main_v11_eq (F := Ideal) _ _ _).trans ?_)
    rw [(hargs c).1, (hargs c).2.1, (hargs c).2.2.2.1]
    funext y
    conv_lhs => rw [ValueIdx.eq_ix3 y]
    exact Cert.RefOutStep.moment_apply _ _ _ (y 0) (y 1) (y 2)
  · refine ((h c).2.2.2.1).trans ((Cert.Reference7Ideal.Read.val_main_v17_eq (F := Ideal) _ _ _).trans ?_)
    rw [(hargs c).1, (hargs c).2.1, (hargs c).2.2.2.2]
    funext y
    conv_lhs => rw [ValueIdx.eq_ix3 y]
    exact Cert.RefOutStep.second_apply _ _ _ (y 0) (y 1) (y 2)

end Cert.ClaimOutStep

end
-- ==== Proof.lean ====
/- The proof of the certificate's claim. -/
module

public import proofs.«01_k».proof.Proof.Gen.KernelIdeal.Frame.Runs
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.On_attention_columns
public import proofs.«01_k».proof.Proof.Value
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Reference6Ideal
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Frame.RunB
public import proofs.«01_k».proof.Proof.Gen.Reference7Ideal.Run
public import proofs.«01_k».proof.Proof.Gen.Reference7Ideal.Read
public import proofs.«01_k».proof.Proof.ClaimOut
public import proofs.«01_k».proof.Proof.ClaimIn
public import proofs.«01_k».proof.Proof.ClaimForward
public import proofs.«01_k».proof.Proof.ClaimInputGrad
public import proofs.«01_k».proof.Proof.ClaimOptimizer
public import proofs.«01_k».proof.Proof.ClaimOutStep

@[expose] public section

noncomputable section

namespace Cert.Proof

open Idealize.ShloMosaic Idealize.SL.Sem Cert.Kernel

/-- Every claim: the mixer's, the four calls' around it, and the optimiser's two. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.On_attention_columns.Gen.facts,
  Cert.Attn.frame_kernel, Cert.Attn.frame_ideal, fun m g _ => Cert.Attn.frame_ideal m g trivial,
  Cert.Attn.frame_reference, fun m g _ => Cert.Attn.frame_reference m g trivial,
  Cert.ClaimOut.frame_kernel, Cert.ClaimOut.frame_ideal, Cert.ClaimOut.frame_reference,
  Cert.ClaimIn.frame_kernel, Cert.ClaimIn.frame_ideal, Cert.ClaimIn.frame_reference,
  Cert.ClaimForward.frame_kernel, Cert.ClaimForward.frame_ideal, Cert.ClaimForward.frame_reference,
  Cert.ClaimInputGrad.frame_kernel, Cert.ClaimInputGrad.frame_ideal, Cert.ClaimInputGrad.frame_reference,
  Cert.ClaimOptimizer.frame_kernel, Cert.ClaimOptimizer.frame_ideal, Cert.ClaimOptimizer.frame_reference,
  Cert.ClaimOutStep.frame_kernel, Cert.ClaimOutStep.frame_ideal, Cert.ClaimOutStep.frame_reference,
  trivial, Cert.Attn.value,
  trivial, Cert.ClaimOut.value,
  trivial, Cert.ClaimIn.value,
  trivial, Cert.ClaimForward.value,
  trivial, Cert.ClaimInputGrad.value,
  trivial, Cert.ClaimOptimizer.value,
  trivial, Cert.ClaimOutStep.value⟩

end Cert.Proof

end
